-- ==== Defs.lean ====
def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).2.1 = (fun _ => 1#1)
    ∧ (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2 = (fun _ => 1#1)

def Pre_StickKernel (m : (ℓ : Loc Cert.StickKernel.nD Cert.StickKernel.τ Cert.StickKernel.sig) → Buf (Elt Bits) ℓ) : Prop :=
  True

def Pre_StickKernelIdeal (m : (ℓ : Loc Cert.StickKernelIdeal.nD Cert.StickKernelIdeal.τ Cert.StickKernelIdeal.sig) → Buf (Elt Ideal) ℓ) : Prop :=
  True

def Pre_StickKernelIdeal_stick_finite [hPre_stick_finite : Cert.Pre_stick_finite.Facts] (m : (ℓ : Loc Cert.StickKernelIdeal.nD Cert.StickKernelIdeal.τ Cert.StickKernelIdeal.sig) → Buf (Elt Ideal) ℓ) : Prop :=
  ∀ c : Dev Cert.StickKernelIdeal.nD,
    (Cert.Pre_stick_finite.fn (F := Ideal) (m ((c.tc : Thread Cert.StickKernelIdeal.nD Cert.StickKernelIdeal.τ).loc Cert.StickKernelIdeal.main_arg0)) (m ((c.tc : Thread Cert.StickKernelIdeal.nD Cert.StickKernelIdeal.τ).loc Cert.StickKernelIdeal.main_arg1))).1 = (fun _ => 1#1)
    ∧ (Cert.Pre_stick_finite.fn (F := Ideal) (m ((c.tc : Thread Cert.StickKernelIdeal.nD Cert.StickKernelIdeal.τ).loc Cert.StickKernelIdeal.main_arg0)) (m ((c.tc : Thread Cert.StickKernelIdeal.nD Cert.StickKernelIdeal.τ).loc Cert.StickKernelIdeal.main_arg1))).2 = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))).1 = (fun _ => 1#1)
    ∧ (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))).2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluKernelIdeal_glu_finite [hPre_glu_finite : Cert.Pre_glu_finite.Facts] (m : (ℓ : Loc Cert.GluKernelIdeal.nD Cert.GluKernelIdeal.τ Cert.GluKernelIdeal.sig) → Buf (Elt Ideal) ℓ) : Prop :=
  ∀ c : Dev Cert.GluKernelIdeal.nD,
    (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).1 = (fun _ => 1#1)
    ∧ (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).2.1 = (fun _ => 1#1)
    ∧ (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).2.2.1 = (fun _ => 1#1)
    ∧ (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).2.2.2.1 = (fun _ => 1#1)
    ∧ (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).2.2.2.2.1 = (fun _ => 1#1)
    ∧ (Cert.Pre_glu_finite.fn (F := Ideal) (m ((c.tc : Thread Cert.GluKernelIdeal.nD Cert.GluKernelIdeal.τ).loc Cert.GluKernelIdeal.main_arg0)) (m ((c.tc : Thread Cert.GluKernelIdeal.nD Cert.GluKernelIdeal.τ).loc Cert.GluKernelIdeal.main_arg1)) (m ((c.tc : Thread Cert.GluKernelIdeal.nD Cert.GluKernelIdeal.τ).loc Cert.GluKernelIdeal.main_arg2)) (m ((c.tc : Thread Cert.GluKernelIdeal.nD Cert.GluKernelIdeal.τ).loc Cert.GluKernelIdeal.main_arg3)) (m ((c.tc : Thread Cert.GluKernelIdeal.nD Cert.GluKernelIdeal.τ).loc Cert.GluKernelIdeal.main_arg4)) (m ((c.tc : Thread Cert.GluKernelIdeal.nD Cert.GluKernelIdeal.τ).loc Cert.GluKernelIdeal.main_arg5))).2.2.2.2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).2.2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).2.2.2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).2.2.2.2.1 = (fun _ => 1#1)
    ∧ (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3)) (m ((c.tc : Thread Cert.GluRefIdeal.nD Cert.GluRefIdeal.τ).loc Cert.GluRefIdeal.main_arg4)) (m ((c.tc : Thread Cert.GluRefIdeal.nD Cert.GluRefIdeal.τ).loc Cert.GluRefIdeal.main_arg5))).2.2.2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_SquareKernel (m : (ℓ : Loc Cert.SquareKernel.nD Cert.SquareKernel.τ Cert.SquareKernel.sig) → Buf (Elt Bits) ℓ) : Prop :=
  True

def Pre_SquareKernelIdeal (m : (ℓ : Loc Cert.SquareKernelIdeal.nD Cert.SquareKernelIdeal.τ Cert.SquareKernelIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpKernelIdeal_gmlp_finite [hPre_gmlp_finite : Cert.Pre_gmlp_finite.Facts] (m : (ℓ : Loc Cert.GmlpKernelIdeal.nD Cert.GmlpKernelIdeal.τ Cert.GmlpKernelIdeal.sig) → Buf (Elt Ideal) ℓ) : Prop :=
  ∀ c : Dev Cert.GmlpKernelIdeal.nD,
    (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4))).1 = (fun _ => 1#1)
    ∧ (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4))).2.1 = (fun _ => 1#1)
    ∧ (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4))).2.2.1 = (fun _ => 1#1)
    ∧ (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4))).2.2.2.1 = (fun _ => 1#1)
    ∧ (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4))).2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.1 = (fun _ => 1#1)
    ∧ (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))).2.2.2.2 = (fun _ => 1#1)

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_GluFwdKernel (m : (ℓ : Loc Cert.GluFwdKernel.nD Cert.GluFwdKernel.τ Cert.GluFwdKernel.sig) → Buf (Elt Bits) ℓ) : Prop :=
  True

def Pre_GluFwdKernelIdeal (m : (ℓ : Loc Cert.GluFwdKernelIdeal.nD Cert.GluFwdKernelIdeal.τ Cert.GluFwdKernelIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_NormFwdKernel (m : (ℓ : Loc Cert.NormFwdKernel.nD Cert.NormFwdKernel.τ Cert.NormFwdKernel.sig) → Buf (Elt Bits) ℓ) : Prop :=
  True

def Pre_NormFwdKernelIdeal (m : (ℓ : Loc Cert.NormFwdKernelIdeal.nD Cert.NormFwdKernelIdeal.τ Cert.NormFwdKernelIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GmlpFwdKernel (m : (ℓ : Loc Cert.GmlpFwdKernel.nD Cert.GmlpFwdKernel.τ Cert.GmlpFwdKernel.sig) → Buf (Elt Bits) ℓ) : Prop :=
  True

def Pre_GmlpFwdKernelIdeal (m : (ℓ : Loc Cert.GmlpFwdKernelIdeal.nD Cert.GmlpFwdKernelIdeal.τ Cert.GmlpFwdKernelIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_StickFwdKernel (m : (ℓ : Loc Cert.StickFwdKernel.nD Cert.StickFwdKernel.τ Cert.StickFwdKernel.sig) → Buf (Elt Bits) ℓ) : Prop :=
  True

def Pre_StickFwdKernelIdeal (m : (ℓ : Loc Cert.StickFwdKernelIdeal.nD Cert.StickFwdKernelIdeal.τ Cert.StickFwdKernelIdeal.sig) → Buf (Elt Ideal) ℓ) : Prop :=
  True

def Pre_StickFwdRefIdeal (m : (ℓ : Loc Cert.StickFwdRefIdeal.nD Cert.StickFwdRefIdeal.τ Cert.StickFwdRefIdeal.sig) → Buf (Elt Ideal) ℓ) : Prop :=
  True

def Pre_ActFwdKernel (m : (ℓ : Loc Cert.ActFwdKernel.nD Cert.ActFwdKernel.τ Cert.ActFwdKernel.sig) → Buf (Elt Bits) ℓ) : Prop :=
  True

def Pre_ActFwdKernelIdeal (m : (ℓ : Loc Cert.ActFwdKernelIdeal.nD Cert.ActFwdKernelIdeal.τ Cert.ActFwdKernelIdeal.sig) → Buf (Elt Ideal) ℓ) : Prop :=
  True

def Pre_ActFwdRefIdeal (m : (ℓ : Loc Cert.ActFwdRefIdeal.nD Cert.ActFwdRefIdeal.τ Cert.ActFwdRefIdeal.sig) → Buf (Elt Ideal) ℓ) : Prop :=
  True

def Pre_MlpFwdKernel (m : (ℓ : Loc Cert.MlpFwdKernel.nD Cert.MlpFwdKernel.τ Cert.MlpFwdKernel.sig) → Buf (Elt Bits) ℓ) : Prop :=
  True

def Pre_MlpFwdKernelIdeal (m : (ℓ : Loc Cert.MlpFwdKernelIdeal.nD Cert.MlpFwdKernelIdeal.τ Cert.MlpFwdKernelIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_StickKernel [hStickKernel : Cert.StickKernel.Facts] : Prop :=
  ∀ (m : (ℓ : Loc Cert.StickKernel.nD Cert.StickKernel.τ Cert.StickKernel.sig) → Buf (Elt Bits) ℓ) (g : Dev Cert.StickKernel.nD → PrngReg), Pre_StickKernel m →
    θ_run (Cert.StickKernel.defs (F := Bits)) (onTc (τ := Cert.StickKernel.τ) (Cert.StickKernel.main (F := Bits))) ⟨m, fun _ => 0, g⟩ (fun r => (∀ c : Dev Cert.StickKernel.nD,
      r.2.mem ((c.tc : Thread Cert.StickKernel.nD Cert.StickKernel.τ).loc Cert.StickKernel.main_arg0) = m ((c.tc : Thread Cert.StickKernel.nD Cert.StickKernel.τ).loc Cert.StickKernel.main_arg0)
      ∧ r.2.mem ((c.tc : Thread Cert.StickKernel.nD Cert.StickKernel.τ).loc Cert.StickKernel.main_arg1) = m ((c.tc : Thread Cert.StickKernel.nD Cert.StickKernel.τ).loc Cert.StickKernel.main_arg1))
      ∧ r.2.sem = fun _ => 0)

def quiescent_StickKernelIdeal [hStickKernelIdeal : Cert.StickKernelIdeal.Facts] : Prop :=
  ∀ (m : (ℓ : Loc Cert.StickKernelIdeal.nD Cert.StickKernelIdeal.τ Cert.StickKernelIdeal.sig) → Buf (Elt Ideal) ℓ) (g : Dev Cert.StickKernelIdeal.nD → PrngReg), Pre_StickKernelIdeal m →
    θ_run (Cert.StickKernelIdeal.defs (F := Ideal)) (onTc (τ := Cert.StickKernelIdeal.τ) (Cert.StickKernelIdeal.main (F := Ideal))) ⟨m, fun _ => 0, g⟩ (fun r => (∀ c : Dev Cert.StickKernelIdeal.nD,
      r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
      ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1))
      ∧ r.2.sem = fun _ => 0)

def quiescent_StickKernelIdeal_pre_stick_finite [hStickKernelIdeal : Cert.StickKernelIdeal.Facts] [hPre_stick_finite : Cert.Pre_stick_finite.Facts] : Prop :=
  ∀ (m : (ℓ : Loc Cert.StickKernelIdeal.nD Cert.StickKernelIdeal.τ Cert.StickKernelIdeal.sig) → Buf (Elt Ideal) ℓ) (g : Dev Cert.StickKernelIdeal.nD → PrngReg), Pre_StickKernelIdeal_stick_finite m →
    θ_run (Cert.StickKernelIdeal.defs (F := Ideal)) (onTc (τ := Cert.StickKernelIdeal.τ) (Cert.StickKernelIdeal.main (F := Ideal))) ⟨m, fun _ => 0, g⟩ (fun r => (∀ c : Dev Cert.StickKernelIdeal.nD,
      r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
      ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4)
      ∧ r.2.mem ((c.tc : Thread Cert.GluKernel.nD Cert.GluKernel.τ).loc Cert.GluKernel.main_arg5) = m ((c.tc : Thread Cert.GluKernel.nD Cert.GluKernel.τ).loc Cert.GluKernel.main_arg5))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluKernelIdeal_pre_glu_finite [hGluKernelIdeal : Cert.GluKernelIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal_glu_finite m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_SquareKernel [hSquareKernel : Cert.SquareKernel.Facts] : Prop :=
  ∀ (m : (ℓ : Loc Cert.SquareKernel.nD Cert.SquareKernel.τ Cert.SquareKernel.sig) → Buf (Elt Bits) ℓ) (g : Dev Cert.SquareKernel.nD → PrngReg), Pre_SquareKernel m →
    θ_run (Cert.SquareKernel.defs (F := Bits)) (onTc (τ := Cert.SquareKernel.τ) (Cert.SquareKernel.main (F := Bits))) ⟨m, fun _ => 0, g⟩ (fun r => (∀ c : Dev Cert.SquareKernel.nD,
      r.2.mem ((c.tc : Thread Cert.SquareKernel.nD Cert.SquareKernel.τ).loc Cert.SquareKernel.main_arg0) = m ((c.tc : Thread Cert.SquareKernel.nD Cert.SquareKernel.τ).loc Cert.SquareKernel.main_arg0)
      ∧ r.2.mem ((c.tc : Thread Cert.SquareKernel.nD Cert.SquareKernel.τ).loc Cert.SquareKernel.main_arg1) = m ((c.tc : Thread Cert.SquareKernel.nD Cert.SquareKernel.τ).loc Cert.SquareKernel.main_arg1)
      ∧ r.2.mem ((c.tc : Thread Cert.SquareKernel.nD Cert.SquareKernel.τ).loc Cert.SquareKernel.main_arg2) = m ((c.tc : Thread Cert.SquareKernel.nD Cert.SquareKernel.τ).loc Cert.SquareKernel.main_arg2)
      ∧ r.2.mem ((c.tc : Thread Cert.SquareKernel.nD Cert.SquareKernel.τ).loc Cert.SquareKernel.main_arg3) = m ((c.tc : Thread Cert.SquareKernel.nD Cert.SquareKernel.τ).loc Cert.SquareKernel.main_arg3))
      ∧ r.2.sem = fun _ => 0)

def quiescent_SquareKernelIdeal [hSquareKernelIdeal : Cert.SquareKernelIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg), Pre_SquareKernelIdeal m →
    θ_run (Cert.SquareKernelIdeal.defs (F := Ideal)) (onTc (τ := Cert.SquareKernelIdeal.τ) (Cert.SquareKernelIdeal.main (F := Ideal))) ⟨m, fun _ => 0, g⟩ (fun r => (∀ c : Dev Cert.SquareKernelIdeal.nD,
      r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
      ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1)
      ∧ r.2.mem ((c.tc : Thread Cert.SquareKernelIdeal.nD Cert.SquareKernelIdeal.τ).loc Cert.SquareKernelIdeal.main_arg2) = m ((c.tc : Thread Cert.SquareKernelIdeal.nD Cert.SquareKernelIdeal.τ).loc Cert.SquareKernelIdeal.main_arg2)
      ∧ r.2.mem ((c.tc : Thread Cert.SquareKernelIdeal.nD Cert.SquareKernelIdeal.τ).loc Cert.SquareKernelIdeal.main_arg3) = m ((c.tc : Thread Cert.SquareKernelIdeal.nD Cert.SquareKernelIdeal.τ).loc Cert.SquareKernelIdeal.main_arg3))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1)
      ∧ r.2.mem ((c.tc : Thread Cert.SquareRefIdeal.nD Cert.SquareRefIdeal.τ).loc Cert.SquareRefIdeal.main_arg2) = m ((c.tc : Thread Cert.SquareRefIdeal.nD Cert.SquareRefIdeal.τ).loc Cert.SquareRefIdeal.main_arg2)
      ∧ r.2.mem ((c.tc : Thread Cert.SquareRefIdeal.nD Cert.SquareRefIdeal.τ).loc Cert.SquareRefIdeal.main_arg3) = m ((c.tc : Thread Cert.SquareRefIdeal.nD Cert.SquareRefIdeal.τ).loc Cert.SquareRefIdeal.main_arg3))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ r.2.sem = fun _ => 0)

def quiescent_GmlpKernelIdeal_pre_gmlp_finite [hGmlpKernelIdeal : Cert.GmlpKernelIdeal.Facts] [hPre_gmlp_finite : Cert.Pre_gmlp_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal_gmlp_finite m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_GluFwdKernel [hGluFwdKernel : Cert.GluFwdKernel.Facts] : Prop :=
  ∀ (m : (ℓ : Loc Cert.GluFwdKernel.nD Cert.GluFwdKernel.τ Cert.GluFwdKernel.sig) → Buf (Elt Bits) ℓ) (g : Dev Cert.GluFwdKernel.nD → PrngReg), Pre_GluFwdKernel m →
    θ_run (Cert.GluFwdKernel.defs (F := Bits)) (onTc (τ := Cert.GluFwdKernel.τ) (Cert.GluFwdKernel.main (F := Bits))) ⟨m, fun _ => 0, g⟩ (fun r => (∀ c : Dev Cert.GluFwdKernel.nD,
      r.2.mem ((c.tc : Thread Cert.GluFwdKernel.nD Cert.GluFwdKernel.τ).loc Cert.GluFwdKernel.main_arg0) = m ((c.tc : Thread Cert.GluFwdKernel.nD Cert.GluFwdKernel.τ).loc Cert.GluFwdKernel.main_arg0)
      ∧ r.2.mem ((c.tc : Thread Cert.GluFwdKernel.nD Cert.GluFwdKernel.τ).loc Cert.GluFwdKernel.main_arg1) = m ((c.tc : Thread Cert.GluFwdKernel.nD Cert.GluFwdKernel.τ).loc Cert.GluFwdKernel.main_arg1)
      ∧ r.2.mem ((c.tc : Thread Cert.GluFwdKernel.nD Cert.GluFwdKernel.τ).loc Cert.GluFwdKernel.main_arg2) = m ((c.tc : Thread Cert.GluFwdKernel.nD Cert.GluFwdKernel.τ).loc Cert.GluFwdKernel.main_arg2)
      ∧ r.2.mem ((c.tc : Thread Cert.GluFwdKernel.nD Cert.GluFwdKernel.τ).loc Cert.GluFwdKernel.main_arg3) = m ((c.tc : Thread Cert.GluFwdKernel.nD Cert.GluFwdKernel.τ).loc Cert.GluFwdKernel.main_arg3)
      ∧ r.2.mem ((c.tc : Thread Cert.GluFwdKernel.nD Cert.GluFwdKernel.τ).loc Cert.GluFwdKernel.main_arg4) = m ((c.tc : Thread Cert.GluFwdKernel.nD Cert.GluFwdKernel.τ).loc Cert.GluFwdKernel.main_arg4))
      ∧ r.2.sem = fun _ => 0)

def quiescent_GluFwdKernelIdeal [hGluFwdKernelIdeal : Cert.GluFwdKernelIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg), Pre_GluFwdKernelIdeal m →
    θ_run (Cert.GluFwdKernelIdeal.defs (F := Ideal)) (onTc (τ := Cert.GluFwdKernelIdeal.τ) (Cert.GluFwdKernelIdeal.main (F := Ideal))) ⟨m, fun _ => 0, g⟩ (fun r => (∀ c : Dev Cert.GluFwdKernelIdeal.nD,
      r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0)
      ∧ r.2.mem ((c.tc : Thread Cert.GluFwdKernelIdeal.nD Cert.GluFwdKernelIdeal.τ).loc Cert.GluFwdKernelIdeal.main_arg1) = m ((c.tc : Thread Cert.GluFwdKernelIdeal.nD Cert.GluFwdKernelIdeal.τ).loc Cert.GluFwdKernelIdeal.main_arg1)
      ∧ r.2.mem ((c.tc : Thread Cert.GluFwdKernelIdeal.nD Cert.GluFwdKernelIdeal.τ).loc Cert.GluFwdKernelIdeal.main_arg2) = m ((c.tc : Thread Cert.GluFwdKernelIdeal.nD Cert.GluFwdKernelIdeal.τ).loc Cert.GluFwdKernelIdeal.main_arg2)
      ∧ r.2.mem ((c.tc : Thread Cert.GluFwdKernelIdeal.nD Cert.GluFwdKernelIdeal.τ).loc Cert.GluFwdKernelIdeal.main_arg3) = m ((c.tc : Thread Cert.GluFwdKernelIdeal.nD Cert.GluFwdKernelIdeal.τ).loc Cert.GluFwdKernelIdeal.main_arg3)
      ∧ r.2.mem ((c.tc : Thread Cert.GluFwdKernelIdeal.nD Cert.GluFwdKernelIdeal.τ).loc Cert.GluFwdKernelIdeal.main_arg4) = m ((c.tc : Thread Cert.GluFwdKernelIdeal.nD Cert.GluFwdKernelIdeal.τ).loc Cert.GluFwdKernelIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_NormFwdKernel [hNormFwdKernel : Cert.NormFwdKernel.Facts] : Prop :=
  ∀ (m : (ℓ : Loc Cert.NormFwdKernel.nD Cert.NormFwdKernel.τ Cert.NormFwdKernel.sig) → Buf (Elt Bits) ℓ) (g : Dev Cert.NormFwdKernel.nD → PrngReg), Pre_NormFwdKernel m →
    θ_run (Cert.NormFwdKernel.defs (F := Bits)) (onTc (τ := Cert.NormFwdKernel.τ) (Cert.NormFwdKernel.main (F := Bits))) ⟨m, fun _ => 0, g⟩ (fun r => (∀ c : Dev Cert.NormFwdKernel.nD,
      r.2.mem ((c.tc : Thread Cert.NormFwdKernel.nD Cert.NormFwdKernel.τ).loc Cert.NormFwdKernel.main_arg0) = m ((c.tc : Thread Cert.NormFwdKernel.nD Cert.NormFwdKernel.τ).loc Cert.NormFwdKernel.main_arg0)
      ∧ r.2.mem ((c.tc : Thread Cert.NormFwdKernel.nD Cert.NormFwdKernel.τ).loc Cert.NormFwdKernel.main_arg1) = m ((c.tc : Thread Cert.NormFwdKernel.nD Cert.NormFwdKernel.τ).loc Cert.NormFwdKernel.main_arg1))
      ∧ r.2.sem = fun _ => 0)

def quiescent_NormFwdKernelIdeal [hNormFwdKernelIdeal : Cert.NormFwdKernelIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg), Pre_NormFwdKernelIdeal m →
    θ_run (Cert.NormFwdKernelIdeal.defs (F := Ideal)) (onTc (τ := Cert.NormFwdKernelIdeal.τ) (Cert.NormFwdKernelIdeal.main (F := Ideal))) ⟨m, fun _ => 0, g⟩ (fun r => (∀ c : Dev Cert.NormFwdKernelIdeal.nD,
      r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
      ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GmlpFwdKernel [hGmlpFwdKernel : Cert.GmlpFwdKernel.Facts] : Prop :=
  ∀ (m : (ℓ : Loc Cert.GmlpFwdKernel.nD Cert.GmlpFwdKernel.τ Cert.GmlpFwdKernel.sig) → Buf (Elt Bits) ℓ) (g : Dev Cert.GmlpFwdKernel.nD → PrngReg), Pre_GmlpFwdKernel m →
    θ_run (Cert.GmlpFwdKernel.defs (F := Bits)) (onTc (τ := Cert.GmlpFwdKernel.τ) (Cert.GmlpFwdKernel.main (F := Bits))) ⟨m, fun _ => 0, g⟩ (fun r => (∀ c : Dev Cert.GmlpFwdKernel.nD,
      r.2.mem ((c.tc : Thread Cert.GmlpFwdKernel.nD Cert.GmlpFwdKernel.τ).loc Cert.GmlpFwdKernel.main_arg0) = m ((c.tc : Thread Cert.GmlpFwdKernel.nD Cert.GmlpFwdKernel.τ).loc Cert.GmlpFwdKernel.main_arg0)
      ∧ r.2.mem ((c.tc : Thread Cert.GmlpFwdKernel.nD Cert.GmlpFwdKernel.τ).loc Cert.GmlpFwdKernel.main_arg1) = m ((c.tc : Thread Cert.GmlpFwdKernel.nD Cert.GmlpFwdKernel.τ).loc Cert.GmlpFwdKernel.main_arg1)
      ∧ r.2.mem ((c.tc : Thread Cert.GmlpFwdKernel.nD Cert.GmlpFwdKernel.τ).loc Cert.GmlpFwdKernel.main_arg2) = m ((c.tc : Thread Cert.GmlpFwdKernel.nD Cert.GmlpFwdKernel.τ).loc Cert.GmlpFwdKernel.main_arg2)
      ∧ r.2.mem ((c.tc : Thread Cert.GmlpFwdKernel.nD Cert.GmlpFwdKernel.τ).loc Cert.GmlpFwdKernel.main_arg3) = m ((c.tc : Thread Cert.GmlpFwdKernel.nD Cert.GmlpFwdKernel.τ).loc Cert.GmlpFwdKernel.main_arg3))
      ∧ r.2.sem = fun _ => 0)

def quiescent_GmlpFwdKernelIdeal [hGmlpFwdKernelIdeal : Cert.GmlpFwdKernelIdeal.Facts] : Prop :=
  ∀ (m : (ℓ : Loc Cert.GmlpFwdKernelIdeal.nD Cert.GmlpFwdKernelIdeal.τ Cert.GmlpFwdKernelIdeal.sig) → Buf (Elt Ideal) ℓ) (g : Dev Cert.GmlpFwdKernelIdeal.nD → PrngReg), Pre_GmlpFwdKernelIdeal m →
    θ_run (Cert.GmlpFwdKernelIdeal.defs (F := Ideal)) (onTc (τ := Cert.GmlpFwdKernelIdeal.τ) (Cert.GmlpFwdKernelIdeal.main (F := Ideal))) ⟨m, fun _ => 0, g⟩ (fun r => (∀ c : Dev Cert.GmlpFwdKernelIdeal.nD,
      r.2.mem ((c.tc : Thread Cert.GmlpFwdKernelIdeal.nD Cert.GmlpFwdKernelIdeal.τ).loc Cert.GmlpFwdKernelIdeal.main_arg0) = m ((c.tc : Thread Cert.GmlpFwdKernelIdeal.nD Cert.GmlpFwdKernelIdeal.τ).loc Cert.GmlpFwdKernelIdeal.main_arg0)
      ∧ r.2.mem ((c.tc : Thread Cert.GmlpFwdKernelIdeal.nD Cert.GmlpFwdKernelIdeal.τ).loc Cert.GmlpFwdKernelIdeal.main_arg1) = m ((c.tc : Thread Cert.GmlpFwdKernelIdeal.nD Cert.GmlpFwdKernelIdeal.τ).loc Cert.GmlpFwdKernelIdeal.main_arg1)
      ∧ r.2.mem ((c.tc : Thread Cert.GmlpFwdKernelIdeal.nD Cert.GmlpFwdKernelIdeal.τ).loc Cert.GmlpFwdKernelIdeal.main_arg2) = m ((c.tc : Thread Cert.GmlpFwdKernelIdeal.nD Cert.GmlpFwdKernelIdeal.τ).loc Cert.GmlpFwdKernelIdeal.main_arg2)
      ∧ r.2.mem ((c.tc : Thread Cert.GmlpFwdKernelIdeal.nD Cert.GmlpFwdKernelIdeal.τ).loc Cert.GmlpFwdKernelIdeal.main_arg3) = m ((c.tc : Thread Cert.GmlpFwdKernelIdeal.nD Cert.GmlpFwdKernelIdeal.τ).loc Cert.GmlpFwdKernelIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_StickFwdKernel [hStickFwdKernel : Cert.StickFwdKernel.Facts] : Prop :=
  ∀ (m : (ℓ : Loc Cert.StickFwdKernel.nD Cert.StickFwdKernel.τ Cert.StickFwdKernel.sig) → Buf (Elt Bits) ℓ) (g : Dev Cert.StickFwdKernel.nD → PrngReg), Pre_StickFwdKernel m →
    θ_run (Cert.StickFwdKernel.defs (F := Bits)) (onTc (τ := Cert.StickFwdKernel.τ) (Cert.StickFwdKernel.main (F := Bits))) ⟨m, fun _ => 0, g⟩ (fun r => (∀ c : Dev Cert.StickFwdKernel.nD,
      r.2.mem ((c.tc : Thread Cert.StickFwdKernel.nD Cert.StickFwdKernel.τ).loc Cert.StickFwdKernel.main_arg0) = m ((c.tc : Thread Cert.StickFwdKernel.nD Cert.StickFwdKernel.τ).loc Cert.StickFwdKernel.main_arg0))
      ∧ r.2.sem = fun _ => 0)

def quiescent_StickFwdKernelIdeal [hStickFwdKernelIdeal : Cert.StickFwdKernelIdeal.Facts] : Prop :=
  ∀ (m : (ℓ : Loc Cert.StickFwdKernelIdeal.nD Cert.StickFwdKernelIdeal.τ Cert.StickFwdKernelIdeal.sig) → Buf (Elt Ideal) ℓ) (g : Dev Cert.StickFwdKernelIdeal.nD → PrngReg), Pre_StickFwdKernelIdeal m →
    θ_run (Cert.StickFwdKernelIdeal.defs (F := Ideal)) (onTc (τ := Cert.StickFwdKernelIdeal.τ) (Cert.StickFwdKernelIdeal.main (F := Ideal))) ⟨m, fun _ => 0, g⟩ (fun r => (∀ c : Dev Cert.StickFwdKernelIdeal.nD,
      r.2.mem ((c.tc : Thread Cert.StickFwdKernelIdeal.nD Cert.StickFwdKernelIdeal.τ).loc Cert.StickFwdKernelIdeal.main_arg0) = m ((c.tc : Thread Cert.StickFwdKernelIdeal.nD Cert.StickFwdKernelIdeal.τ).loc Cert.StickFwdKernelIdeal.main_arg0))
      ∧ r.2.sem = fun _ => 0)

def quiescent_StickFwdRefIdeal [hStickFwdRefIdeal : Cert.StickFwdRefIdeal.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0))
      ∧ r.2.sem = fun _ => 0)

def quiescent_ActFwdKernel [hActFwdKernel : Cert.ActFwdKernel.Facts] : Prop :=
  ∀ (m : (ℓ : Loc Cert.ActFwdKernel.nD Cert.ActFwdKernel.τ Cert.ActFwdKernel.sig) → Buf (Elt Bits) ℓ) (g : Dev Cert.ActFwdKernel.nD → PrngReg), Pre_ActFwdKernel m →
    θ_run (Cert.ActFwdKernel.defs (F := Bits)) (onTc (τ := Cert.ActFwdKernel.τ) (Cert.ActFwdKernel.main (F := Bits))) ⟨m, fun _ => 0, g⟩ (fun r => (∀ c : Dev Cert.ActFwdKernel.nD,
      r.2.mem ((c.tc : Thread Cert.ActFwdKernel.nD Cert.ActFwdKernel.τ).loc Cert.ActFwdKernel.main_arg0) = m ((c.tc : Thread Cert.ActFwdKernel.nD Cert.ActFwdKernel.τ).loc Cert.ActFwdKernel.main_arg0)
      ∧ r.2.mem ((c.tc : Thread Cert.ActFwdKernel.nD Cert.ActFwdKernel.τ).loc Cert.ActFwdKernel.main_arg1) = m ((c.tc : Thread Cert.ActFwdKernel.nD Cert.ActFwdKernel.τ).loc Cert.ActFwdKernel.main_arg1))
      ∧ r.2.sem = fun _ => 0)

def quiescent_ActFwdKernelIdeal [hActFwdKernelIdeal : Cert.ActFwdKernelIdeal.Facts] : Prop :=
  ∀ (m : (ℓ : Loc Cert.ActFwdKernelIdeal.nD Cert.ActFwdKernelIdeal.τ Cert.ActFwdKernelIdeal.sig) → Buf (Elt Ideal) ℓ) (g : Dev Cert.ActFwdKernelIdeal.nD → PrngReg), Pre_ActFwdKernelIdeal m →
    θ_run (Cert.ActFwdKernelIdeal.defs (F := Ideal)) (onTc (τ := Cert.ActFwdKernelIdeal.τ) (Cert.ActFwdKernelIdeal.main (F := Ideal))) ⟨m, fun _ => 0, g⟩ (fun r => (∀ c : Dev Cert.ActFwdKernelIdeal.nD,
      r.2.mem ((c.tc : Thread Cert.ActFwdKernelIdeal.nD Cert.ActFwdKernelIdeal.τ).loc Cert.ActFwdKernelIdeal.main_arg0) = m ((c.tc : Thread Cert.ActFwdKernelIdeal.nD Cert.ActFwdKernelIdeal.τ).loc Cert.ActFwdKernelIdeal.main_arg0)
      ∧ r.2.mem ((c.tc : Thread Cert.ActFwdKernelIdeal.nD Cert.ActFwdKernelIdeal.τ).loc Cert.ActFwdKernelIdeal.main_arg1) = m ((c.tc : Thread Cert.ActFwdKernelIdeal.nD Cert.ActFwdKernelIdeal.τ).loc Cert.ActFwdKernelIdeal.main_arg1))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1))
      ∧ r.2.sem = fun _ => 0)

def quiescent_MlpFwdKernel [hMlpFwdKernel : Cert.MlpFwdKernel.Facts] : Prop :=
  ∀ (m : (ℓ : Loc Cert.MlpFwdKernel.nD Cert.MlpFwdKernel.τ Cert.MlpFwdKernel.sig) → Buf (Elt Bits) ℓ) (g : Dev Cert.MlpFwdKernel.nD → PrngReg), Pre_MlpFwdKernel m →
    θ_run (Cert.MlpFwdKernel.defs (F := Bits)) (onTc (τ := Cert.MlpFwdKernel.τ) (Cert.MlpFwdKernel.main (F := Bits))) ⟨m, fun _ => 0, g⟩ (fun r => (∀ c : Dev Cert.MlpFwdKernel.nD,
      r.2.mem ((c.tc : Thread Cert.MlpFwdKernel.nD Cert.MlpFwdKernel.τ).loc Cert.MlpFwdKernel.main_arg0) = m ((c.tc : Thread Cert.MlpFwdKernel.nD Cert.MlpFwdKernel.τ).loc Cert.MlpFwdKernel.main_arg0)
      ∧ r.2.mem ((c.tc : Thread Cert.MlpFwdKernel.nD Cert.MlpFwdKernel.τ).loc Cert.MlpFwdKernel.main_arg1) = m ((c.tc : Thread Cert.MlpFwdKernel.nD Cert.MlpFwdKernel.τ).loc Cert.MlpFwdKernel.main_arg1)
      ∧ r.2.mem ((c.tc : Thread Cert.MlpFwdKernel.nD Cert.MlpFwdKernel.τ).loc Cert.MlpFwdKernel.main_arg2) = m ((c.tc : Thread Cert.MlpFwdKernel.nD Cert.MlpFwdKernel.τ).loc Cert.MlpFwdKernel.main_arg2)
      ∧ r.2.mem ((c.tc : Thread Cert.MlpFwdKernel.nD Cert.MlpFwdKernel.τ).loc Cert.MlpFwdKernel.main_arg3) = m ((c.tc : Thread Cert.MlpFwdKernel.nD Cert.MlpFwdKernel.τ).loc Cert.MlpFwdKernel.main_arg3))
      ∧ r.2.sem = fun _ => 0)

def quiescent_MlpFwdKernelIdeal [hMlpFwdKernelIdeal : Cert.MlpFwdKernelIdeal.Facts] : Prop :=
  ∀ (m : (ℓ : Loc Cert.MlpFwdKernelIdeal.nD Cert.MlpFwdKernelIdeal.τ Cert.MlpFwdKernelIdeal.sig) → Buf (Elt Ideal) ℓ) (g : Dev Cert.MlpFwdKernelIdeal.nD → PrngReg), Pre_MlpFwdKernelIdeal m →
    θ_run (Cert.MlpFwdKernelIdeal.defs (F := Ideal)) (onTc (τ := Cert.MlpFwdKernelIdeal.τ) (Cert.MlpFwdKernelIdeal.main (F := Ideal))) ⟨m, fun _ => 0, g⟩ (fun r => (∀ c : Dev Cert.MlpFwdKernelIdeal.nD,
      r.2.mem ((c.tc : Thread Cert.MlpFwdKernelIdeal.nD Cert.MlpFwdKernelIdeal.τ).loc Cert.MlpFwdKernelIdeal.main_arg0) = m ((c.tc : Thread Cert.MlpFwdKernelIdeal.nD Cert.MlpFwdKernelIdeal.τ).loc Cert.MlpFwdKernelIdeal.main_arg0)
      ∧ r.2.mem ((c.tc : Thread Cert.MlpFwdKernelIdeal.nD Cert.MlpFwdKernelIdeal.τ).loc Cert.MlpFwdKernelIdeal.main_arg1) = m ((c.tc : Thread Cert.MlpFwdKernelIdeal.nD Cert.MlpFwdKernelIdeal.τ).loc Cert.MlpFwdKernelIdeal.main_arg1)
      ∧ r.2.mem ((c.tc : Thread Cert.MlpFwdKernelIdeal.nD Cert.MlpFwdKernelIdeal.τ).loc Cert.MlpFwdKernelIdeal.main_arg2) = m ((c.tc : Thread Cert.MlpFwdKernelIdeal.nD Cert.MlpFwdKernelIdeal.τ).loc Cert.MlpFwdKernelIdeal.main_arg2)
      ∧ r.2.mem ((c.tc : Thread Cert.MlpFwdKernelIdeal.nD Cert.MlpFwdKernelIdeal.τ).loc Cert.MlpFwdKernelIdeal.main_arg3) = m ((c.tc : Thread Cert.MlpFwdKernelIdeal.nD Cert.MlpFwdKernelIdeal.τ).loc Cert.MlpFwdKernelIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def preserves_NormKernel_NormKernelIdeal : Prop :=
  True

def algebraic_NormKernelIdeal_NormRefIdeal_pre_norm_finite [hNormKernelIdeal : Cert.NormKernelIdeal.Facts] [hNormRefIdeal : Cert.NormRefIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormKernelIdeal_norm_finite m →
    (∀ c : Dev Cert.NormKernelIdeal.nD,
      m' ((c.tc : Thread Cert.NormRefIdeal.nD Cert.NormRefIdeal.τ).loc Cert.NormRefIdeal.main_arg0) = m ((c.tc : Thread Cert.NormKernelIdeal.nD Cert.NormKernelIdeal.τ).loc Cert.NormKernelIdeal.main_arg0)
      ∧ m' ((c.tc : Thread Cert.NormRefIdeal.nD Cert.NormRefIdeal.τ).loc Cert.NormRefIdeal.main_arg1) = m ((c.tc : Thread Cert.NormKernelIdeal.nD Cert.NormKernelIdeal.τ).loc Cert.NormKernelIdeal.main_arg1)
      ∧ m' ((c.tc : Thread Cert.NormRefIdeal.nD Cert.NormRefIdeal.τ).loc Cert.NormRefIdeal.main_arg2) = m ((c.tc : Thread Cert.NormKernelIdeal.nD Cert.NormKernelIdeal.τ).loc Cert.NormKernelIdeal.main_arg2)
      ∧ m' ((c.tc : Thread Cert.NormRefIdeal.nD Cert.NormRefIdeal.τ).loc Cert.NormRefIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)) (v2 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_v1_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_StickKernel_StickKernelIdeal : Prop :=
  IdealRules.named_const.Statement Cert.StickKernelIdeal.κ "scale_log2e" .f32 0x3E0293EE#32 (((11863283 / 134217728) * (Real.log 2)⁻¹ : ℝ) : EReal)
  ∧ IdealRules.named_const.Statement Cert.StickKernelIdeal.κ "log2e" .f32 0x3FB8AA3B#32 (((Real.log 2)⁻¹ : ℝ) : EReal)

def algebraic_StickKernelIdeal_StickRefIdeal_pre_stick_finite [hStickKernelIdeal : Cert.StickKernelIdeal.Facts] [hStickRefIdeal : Cert.StickRefIdeal.Facts] [hPre_stick_finite : Cert.Pre_stick_finite.Facts] : Prop :=
  ∀ (m : (ℓ : Loc Cert.StickKernelIdeal.nD Cert.StickKernelIdeal.τ Cert.StickKernelIdeal.sig) → Buf (Elt Ideal) ℓ) (g : Dev Cert.StickKernelIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickKernelIdeal_stick_finite m →
    (∀ c : Dev Cert.StickKernelIdeal.nD,
      m' ((c.tc : Thread Cert.StickRefIdeal.nD Cert.StickRefIdeal.τ).loc Cert.StickRefIdeal.main_arg0) = m ((c.tc : Thread Cert.StickKernelIdeal.nD Cert.StickKernelIdeal.τ).loc Cert.StickKernelIdeal.main_arg0)
      ∧ m' ((c.tc : Thread Cert.StickRefIdeal.nD Cert.StickRefIdeal.τ).loc Cert.StickRefIdeal.main_arg1) = m ((c.tc : Thread Cert.StickKernelIdeal.nD Cert.StickKernelIdeal.τ).loc Cert.StickKernelIdeal.main_arg1)) →
    ∃ (v0 : (c : Dev Cert.StickKernelIdeal.nD) → Buf (Elt Ideal) ((c.tc : Thread Cert.StickKernelIdeal.nD Cert.StickKernelIdeal.τ).loc Cert.StickKernelIdeal.main_v38_0)) (v1 : (c : Dev Cert.StickKernelIdeal.nD) → Buf (Elt Ideal) ((c.tc : Thread Cert.StickKernelIdeal.nD Cert.StickKernelIdeal.τ).loc Cert.StickKernelIdeal.main_v38_1)) (v2 : (c : Dev Cert.StickKernelIdeal.nD) → Buf (Elt Ideal) ((c.tc : Thread Cert.StickKernelIdeal.nD Cert.StickKernelIdeal.τ).loc Cert.StickKernelIdeal.main_v38_2)),
      θ_run (Cert.StickKernelIdeal.defs (F := Ideal)) (onTc (τ := Cert.StickKernelIdeal.τ) (Cert.StickKernelIdeal.main (F := Ideal))) ⟨m, fun _ => 0, g⟩ (fun r => ∀ c : Dev Cert.StickKernelIdeal.nD,
          r.2.mem ((c.tc : Thread Cert.StickKernelIdeal.nD Cert.StickKernelIdeal.τ).loc Cert.StickKernelIdeal.main_v38_0) = v0 c
          ∧ r.2.mem ((c.tc : Thread Cert.StickKernelIdeal.nD Cert.StickKernelIdeal.τ).loc Cert.StickKernelIdeal.main_v38_1) = v1 c
          ∧ r.2.mem ((c.tc : Thread Cert.StickKernelIdeal.nD Cert.StickKernelIdeal.τ).loc Cert.StickKernelIdeal.main_v38_2) = v2 c
          ∧ r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
          ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v52) = v0 c
          ∧ r.2.mem ((c.tc : Thread Cert.StickRefIdeal.nD Cert.StickRefIdeal.τ).loc Cert.StickRefIdeal.main_v54) = v1 c
          ∧ r.2.mem ((c.tc : Thread Cert.StickRefIdeal.nD Cert.StickRefIdeal.τ).loc Cert.StickRefIdeal.main_v56) = v2 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def preserves_LossKernel_LossKernelIdeal : Prop :=
  True

def algebraic_LossKernelIdeal_LossRefIdeal_pre_loss_finite [hLossKernelIdeal : Cert.LossKernelIdeal.Facts] [hLossRefIdeal : Cert.LossRefIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal_loss_finite m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_GluKernel_GluKernelIdeal : Prop :=
  IdealRules.named_const.Statement Cert.GluKernelIdeal.κ "gelu_k" .f32 0x3D372713#32 ((8943 / 200000 : ℝ) : EReal)
  ∧ IdealRules.named_const.Statement Cert.GluKernelIdeal.κ "gelu_3k" .f32 0x3E095D4F#32 ((26829 / 200000 : ℝ) : EReal)

def algebraic_GluKernelIdeal_GluRefIdeal_pre_glu_finite [hGluKernelIdeal : Cert.GluKernelIdeal.Facts] [hGluRefIdeal : Cert.GluRefIdeal.Facts] [hPre_glu_finite : Cert.Pre_glu_finite.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluKernelIdeal_glu_finite m →
    (∀ c : Dev Cert.GluKernelIdeal.nD,
      m' ((c.tc : Thread Cert.GluRefIdeal.nD Cert.GluRefIdeal.τ).loc Cert.GluRefIdeal.main_arg0) = m ((c.tc : Thread Cert.GluKernelIdeal.nD Cert.GluKernelIdeal.τ).loc Cert.GluKernelIdeal.main_arg0)
      ∧ m' ((c.tc : Thread Cert.GluRefIdeal.nD Cert.GluRefIdeal.τ).loc Cert.GluRefIdeal.main_arg1) = m ((c.tc : Thread Cert.GluKernelIdeal.nD Cert.GluKernelIdeal.τ).loc Cert.GluKernelIdeal.main_arg1)
      ∧ m' ((c.tc : Thread Cert.GluRefIdeal.nD Cert.GluRefIdeal.τ).loc Cert.GluRefIdeal.main_arg2) = m ((c.tc : Thread Cert.GluKernelIdeal.nD Cert.GluKernelIdeal.τ).loc Cert.GluKernelIdeal.main_arg2)
      ∧ m' ((c.tc : Thread Cert.GluRefIdeal.nD Cert.GluRefIdeal.τ).loc Cert.GluRefIdeal.main_arg3) = m ((c.tc : Thread Cert.GluKernelIdeal.nD Cert.GluKernelIdeal.τ).loc Cert.GluKernelIdeal.main_arg3)
      ∧ m' ((c.tc : Thread Cert.GluRefIdeal.nD Cert.GluRefIdeal.τ).loc Cert.GluRefIdeal.main_arg4) = m ((c.tc : Thread Cert.GluKernelIdeal.nD Cert.GluKernelIdeal.τ).loc Cert.GluKernelIdeal.main_arg4)
      ∧ m' ((c.tc : Thread Cert.GluRefIdeal.nD Cert.GluRefIdeal.τ).loc Cert.GluRefIdeal.main_arg5) = m ((c.tc : Thread Cert.GluKernelIdeal.nD Cert.GluKernelIdeal.τ).loc Cert.GluKernelIdeal.main_arg5)) →
    ∃ (v0 : (c : Dev Cert.GluKernelIdeal.nD) → Buf (Elt Ideal) ((c.tc : Thread Cert.GluKernelIdeal.nD Cert.GluKernelIdeal.τ).loc Cert.GluKernelIdeal.main_v3_0)) (v1 : (c : Dev Cert.GluKernelIdeal.nD) → Buf (Elt Ideal) ((c.tc : Thread Cert.GluKernelIdeal.nD Cert.GluKernelIdeal.τ).loc Cert.GluKernelIdeal.main_v3_1)) (v2 : (c : Dev Cert.GluKernelIdeal.nD) → Buf (Elt Ideal) ((c.tc : Thread Cert.GluKernelIdeal.nD Cert.GluKernelIdeal.τ).loc Cert.GluKernelIdeal.main_v3_2)) (v3 : (c : Dev Cert.GluKernelIdeal.nD) → Buf (Elt Ideal) ((c.tc : Thread Cert.GluKernelIdeal.nD Cert.GluKernelIdeal.τ).loc Cert.GluKernelIdeal.main_v3_3)) (v4 : (c : Dev Cert.GluKernelIdeal.nD) → Buf (Elt Ideal) ((c.tc : Thread Cert.GluKernelIdeal.nD Cert.GluKernelIdeal.τ).loc Cert.GluKernelIdeal.main_v3_4)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v3_0) = v0 c
          ∧ r.2.mem ((c.tc : Thread Cert.GluKernelIdeal.nD Cert.GluKernelIdeal.τ).loc Cert.GluKernelIdeal.main_v3_1) = v1 c
          ∧ r.2.mem ((c.tc : Thread Cert.GluKernelIdeal.nD Cert.GluKernelIdeal.τ).loc Cert.GluKernelIdeal.main_v3_2) = v2 c
          ∧ r.2.mem ((c.tc : Thread Cert.GluKernelIdeal.nD Cert.GluKernelIdeal.τ).loc Cert.GluKernelIdeal.main_v3_3) = v3 c
          ∧ r.2.mem ((c.tc : Thread Cert.GluKernelIdeal.nD Cert.GluKernelIdeal.τ).loc Cert.GluKernelIdeal.main_v3_4) = v4 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
          ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v77) = v0 c
          ∧ r.2.mem ((c.tc : Thread Cert.GluRefIdeal.nD Cert.GluRefIdeal.τ).loc Cert.GluRefIdeal.main_v79) = v1 c
          ∧ r.2.mem ((c.tc : Thread Cert.GluRefIdeal.nD Cert.GluRefIdeal.τ).loc Cert.GluRefIdeal.main_v54) = v2 c
          ∧ r.2.mem ((c.tc : Thread Cert.GluRefIdeal.nD Cert.GluRefIdeal.τ).loc Cert.GluRefIdeal.main_v80) = v3 c
          ∧ r.2.mem ((c.tc : Thread Cert.GluRefIdeal.nD Cert.GluRefIdeal.τ).loc Cert.GluRefIdeal.main_v81) = v4 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)
      ∧ m' ((c.tc : Thread Cert.MergeRefIdeal.nD Cert.MergeRefIdeal.τ).loc Cert.MergeRefIdeal.main_arg5) = m ((c.tc : Thread Cert.MergeKernelIdeal.nD Cert.MergeKernelIdeal.τ).loc Cert.MergeKernelIdeal.main_arg5)
      ∧ m' ((c.tc : Thread Cert.MergeRefIdeal.nD Cert.MergeRefIdeal.τ).loc Cert.MergeRefIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v6_0)) (v1 : (c : Dev Cert.MergeKernelIdeal.nD) → Buf (Elt Ideal) ((c.tc : Thread Cert.MergeKernelIdeal.nD Cert.MergeKernelIdeal.τ).loc Cert.MergeKernelIdeal.main_v6_1)) (v2 : (c : Dev Cert.MergeKernelIdeal.nD) → Buf (Elt Ideal) ((c.tc : Thread Cert.MergeKernelIdeal.nD Cert.MergeKernelIdeal.τ).loc Cert.MergeKernelIdeal.main_v6_2)) (v3 : (c : Dev Cert.MergeKernelIdeal.nD) → Buf (Elt Ideal) ((c.tc : Thread Cert.MergeKernelIdeal.nD Cert.MergeKernelIdeal.τ).loc Cert.MergeKernelIdeal.main_v6_3)) (v4 : (c : Dev Cert.MergeKernelIdeal.nD) → Buf (Elt Ideal) ((c.tc : Thread Cert.MergeKernelIdeal.nD Cert.MergeKernelIdeal.τ).loc Cert.MergeKernelIdeal.main_v6_4)) (v5 : (c : Dev Cert.MergeKernelIdeal.nD) → Buf (Elt Ideal) ((c.tc : Thread Cert.MergeKernelIdeal.nD Cert.MergeKernelIdeal.τ).loc Cert.MergeKernelIdeal.main_v6_5)) (v6 : (c : Dev Cert.MergeKernelIdeal.nD) → Buf (Elt Ideal) ((c.tc : Thread Cert.MergeKernelIdeal.nD Cert.MergeKernelIdeal.τ).loc Cert.MergeKernelIdeal.main_v6_6)) (v7 : (c : Dev Cert.MergeKernelIdeal.nD) → Buf (Elt Ideal) ((c.tc : Thread Cert.MergeKernelIdeal.nD Cert.MergeKernelIdeal.τ).loc Cert.MergeKernelIdeal.main_v6_7)) (v8 : (c : Dev Cert.MergeKernelIdeal.nD) → Buf (Elt Ideal) ((c.tc : Thread Cert.MergeKernelIdeal.nD Cert.MergeKernelIdeal.τ).loc Cert.MergeKernelIdeal.main_v6_8)) (v9 : (c : Dev Cert.MergeKernelIdeal.nD) → Buf (Elt Ideal) ((c.tc : Thread Cert.MergeKernelIdeal.nD Cert.MergeKernelIdeal.τ).loc Cert.MergeKernelIdeal.main_v6_9)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v6_0) = v0 c
          ∧ r.2.mem ((c.tc : Thread Cert.MergeKernelIdeal.nD Cert.MergeKernelIdeal.τ).loc Cert.MergeKernelIdeal.main_v6_1) = v1 c
          ∧ r.2.mem ((c.tc : Thread Cert.MergeKernelIdeal.nD Cert.MergeKernelIdeal.τ).loc Cert.MergeKernelIdeal.main_v6_2) = v2 c
          ∧ r.2.mem ((c.tc : Thread Cert.MergeKernelIdeal.nD Cert.MergeKernelIdeal.τ).loc Cert.MergeKernelIdeal.main_v6_3) = v3 c
          ∧ r.2.mem ((c.tc : Thread Cert.MergeKernelIdeal.nD Cert.MergeKernelIdeal.τ).loc Cert.MergeKernelIdeal.main_v6_4) = v4 c
          ∧ r.2.mem ((c.tc : Thread Cert.MergeKernelIdeal.nD Cert.MergeKernelIdeal.τ).loc Cert.MergeKernelIdeal.main_v6_5) = v5 c
          ∧ r.2.mem ((c.tc : Thread Cert.MergeKernelIdeal.nD Cert.MergeKernelIdeal.τ).loc Cert.MergeKernelIdeal.main_v6_6) = v6 c
          ∧ r.2.mem ((c.tc : Thread Cert.MergeKernelIdeal.nD Cert.MergeKernelIdeal.τ).loc Cert.MergeKernelIdeal.main_v6_7) = v7 c
          ∧ r.2.mem ((c.tc : Thread Cert.MergeKernelIdeal.nD Cert.MergeKernelIdeal.τ).loc Cert.MergeKernelIdeal.main_v6_8) = v8 c
          ∧ r.2.mem ((c.tc : Thread Cert.MergeKernelIdeal.nD Cert.MergeKernelIdeal.τ).loc Cert.MergeKernelIdeal.main_v6_9) = v9 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_v61) = v1 c
          ∧ r.2.mem ((c.tc : Thread Cert.MergeRefIdeal.nD Cert.MergeRefIdeal.τ).loc Cert.MergeRefIdeal.main_v64) = v2 c
          ∧ r.2.mem ((c.tc : Thread Cert.MergeRefIdeal.nD Cert.MergeRefIdeal.τ).loc Cert.MergeRefIdeal.main_v67) = v3 c
          ∧ r.2.mem ((c.tc : Thread Cert.MergeRefIdeal.nD Cert.MergeRefIdeal.τ).loc Cert.MergeRefIdeal.main_v70) = v4 c
          ∧ r.2.mem ((c.tc : Thread Cert.MergeRefIdeal.nD Cert.MergeRefIdeal.τ).loc Cert.MergeRefIdeal.main_v73) = v5 c
          ∧ r.2.mem ((c.tc : Thread Cert.MergeRefIdeal.nD Cert.MergeRefIdeal.τ).loc Cert.MergeRefIdeal.main_v51) = v6 c
          ∧ r.2.mem ((c.tc : Thread Cert.MergeRefIdeal.nD Cert.MergeRefIdeal.τ).loc Cert.MergeRefIdeal.main_v53) = v7 c
          ∧ r.2.mem ((c.tc : Thread Cert.MergeRefIdeal.nD Cert.MergeRefIdeal.τ).loc Cert.MergeRefIdeal.main_v55) = v8 c
          ∧ r.2.mem ((c.tc : Thread Cert.MergeRefIdeal.nD Cert.MergeRefIdeal.τ).loc Cert.MergeRefIdeal.main_v75) = v9 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_ActKernel_ActKernelIdeal : Prop :=
  True

def algebraic_ActKernelIdeal_ActRefIdeal [hActKernelIdeal : Cert.ActKernelIdeal.Facts] [hActRefIdeal : Cert.ActRefIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActKernelIdeal m →
    (∀ c : Dev Cert.ActKernelIdeal.nD,
      m' ((c.tc : Thread Cert.ActRefIdeal.nD Cert.ActRefIdeal.τ).loc Cert.ActRefIdeal.main_arg0) = m ((c.tc : Thread Cert.ActKernelIdeal.nD Cert.ActKernelIdeal.τ).loc Cert.ActKernelIdeal.main_arg0)
      ∧ m' ((c.tc : Thread Cert.ActRefIdeal.nD Cert.ActRefIdeal.τ).loc Cert.ActRefIdeal.main_arg1) = m ((c.tc : Thread Cert.ActKernelIdeal.nD Cert.ActKernelIdeal.τ).loc Cert.ActKernelIdeal.main_arg1)
      ∧ m' ((c.tc : Thread Cert.ActRefIdeal.nD Cert.ActRefIdeal.τ).loc Cert.ActRefIdeal.main_arg2) = m ((c.tc : Thread Cert.ActKernelIdeal.nD Cert.ActKernelIdeal.τ).loc Cert.ActKernelIdeal.main_arg2)
      ∧ m' ((c.tc : Thread Cert.ActRefIdeal.nD Cert.ActRefIdeal.τ).loc Cert.ActRefIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v6)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v6) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v17) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_SquareKernel_SquareKernelIdeal : Prop :=
  True

def algebraic_SquareKernelIdeal_SquareRefIdeal [hSquareKernelIdeal : Cert.SquareKernelIdeal.Facts] [hSquareRefIdeal : Cert.SquareRefIdeal.Facts] : Prop :=
  ∀ (m : (ℓ : Loc Cert.SquareKernelIdeal.nD Cert.SquareKernelIdeal.τ Cert.SquareKernelIdeal.sig) → Buf (Elt Ideal) ℓ) (g : Dev Cert.SquareKernelIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareKernelIdeal m →
    (∀ c : Dev Cert.SquareKernelIdeal.nD,
      m' ((c.tc : Thread Cert.SquareRefIdeal.nD Cert.SquareRefIdeal.τ).loc Cert.SquareRefIdeal.main_arg0) = m ((c.tc : Thread Cert.SquareKernelIdeal.nD Cert.SquareKernelIdeal.τ).loc Cert.SquareKernelIdeal.main_arg0)
      ∧ m' ((c.tc : Thread Cert.SquareRefIdeal.nD Cert.SquareRefIdeal.τ).loc Cert.SquareRefIdeal.main_arg1) = m ((c.tc : Thread Cert.SquareKernelIdeal.nD Cert.SquareKernelIdeal.τ).loc Cert.SquareKernelIdeal.main_arg1)
      ∧ m' ((c.tc : Thread Cert.SquareRefIdeal.nD Cert.SquareRefIdeal.τ).loc Cert.SquareRefIdeal.main_arg2) = m ((c.tc : Thread Cert.SquareKernelIdeal.nD Cert.SquareKernelIdeal.τ).loc Cert.SquareKernelIdeal.main_arg2)
      ∧ m' ((c.tc : Thread Cert.SquareRefIdeal.nD Cert.SquareRefIdeal.τ).loc Cert.SquareRefIdeal.main_arg3) = m ((c.tc : Thread Cert.SquareKernelIdeal.nD Cert.SquareKernelIdeal.τ).loc Cert.SquareKernelIdeal.main_arg3)) →
    ∃ (v0 : (c : Dev Cert.SquareKernelIdeal.nD) → Buf (Elt Ideal) ((c.tc : Thread Cert.SquareKernelIdeal.nD Cert.SquareKernelIdeal.τ).loc Cert.SquareKernelIdeal.main_v6)),
      θ_run (Cert.SquareKernelIdeal.defs (F := Ideal)) (onTc (τ := Cert.SquareKernelIdeal.τ) (Cert.SquareKernelIdeal.main (F := Ideal))) ⟨m, fun _ => 0, g⟩ (fun r => ∀ c : Dev Cert.SquareKernelIdeal.nD,
          r.2.mem ((c.tc : Thread Cert.SquareKernelIdeal.nD Cert.SquareKernelIdeal.τ).loc Cert.SquareKernelIdeal.main_v6) = v0 c
          ∧ r.2.mem ((c.tc : Thread Cert.SquareKernelIdeal.nD Cert.SquareKernelIdeal.τ).loc Cert.SquareKernelIdeal.main_arg0) = m ((c.tc : Thread Cert.SquareKernelIdeal.nD Cert.SquareKernelIdeal.τ).loc Cert.SquareKernelIdeal.main_arg0)
          ∧ r.2.mem ((c.tc : Thread Cert.SquareKernelIdeal.nD Cert.SquareKernelIdeal.τ).loc Cert.SquareKernelIdeal.main_arg1) = m ((c.tc : Thread Cert.SquareKernelIdeal.nD Cert.SquareKernelIdeal.τ).loc Cert.SquareKernelIdeal.main_arg1)
          ∧ r.2.mem ((c.tc : Thread Cert.SquareKernelIdeal.nD Cert.SquareKernelIdeal.τ).loc Cert.SquareKernelIdeal.main_arg2) = m ((c.tc : Thread Cert.SquareKernelIdeal.nD Cert.SquareKernelIdeal.τ).loc Cert.SquareKernelIdeal.main_arg2)
          ∧ r.2.mem ((c.tc : Thread Cert.SquareKernelIdeal.nD Cert.SquareKernelIdeal.τ).loc Cert.SquareKernelIdeal.main_arg3) = m ((c.tc : Thread Cert.SquareKernelIdeal.nD Cert.SquareKernelIdeal.τ).loc Cert.SquareKernelIdeal.main_arg3))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v10) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1)
          ∧ r.2.mem ((c.tc : Thread Cert.SquareRefIdeal.nD Cert.SquareRefIdeal.τ).loc Cert.SquareRefIdeal.main_arg2) = m' ((c.tc : Thread Cert.SquareRefIdeal.nD Cert.SquareRefIdeal.τ).loc Cert.SquareRefIdeal.main_arg2)
          ∧ r.2.mem ((c.tc : Thread Cert.SquareRefIdeal.nD Cert.SquareRefIdeal.τ).loc Cert.SquareRefIdeal.main_arg3) = m' ((c.tc : Thread Cert.SquareRefIdeal.nD Cert.SquareRefIdeal.τ).loc Cert.SquareRefIdeal.main_arg3))

def preserves_GmlpKernel_GmlpKernelIdeal : Prop :=
  IdealRules.named_const.Statement Cert.GmlpKernelIdeal.κ "gelu_k" .f32 0x3D372713#32 ((8943 / 200000 : ℝ) : EReal)
  ∧ IdealRules.named_const.Statement Cert.GmlpKernelIdeal.κ "gelu_3k" .f32 0x3E095D4F#32 ((26829 / 200000 : ℝ) : EReal)

def algebraic_GmlpKernelIdeal_GmlpRefIdeal_pre_gmlp_finite [hGmlpKernelIdeal : Cert.GmlpKernelIdeal.Facts] [hGmlpRefIdeal : Cert.GmlpRefIdeal.Facts] [hPre_gmlp_finite : Cert.Pre_gmlp_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpKernelIdeal_gmlp_finite m →
    (∀ c : Dev Cert.GmlpKernelIdeal.nD,
      m' ((c.tc : Thread Cert.GmlpRefIdeal.nD Cert.GmlpRefIdeal.τ).loc Cert.GmlpRefIdeal.main_arg0) = m ((c.tc : Thread Cert.GmlpKernelIdeal.nD Cert.GmlpKernelIdeal.τ).loc Cert.GmlpKernelIdeal.main_arg0)
      ∧ m' ((c.tc : Thread Cert.GmlpRefIdeal.nD Cert.GmlpRefIdeal.τ).loc Cert.GmlpRefIdeal.main_arg1) = m ((c.tc : Thread Cert.GmlpKernelIdeal.nD Cert.GmlpKernelIdeal.τ).loc Cert.GmlpKernelIdeal.main_arg1)
      ∧ m' ((c.tc : Thread Cert.GmlpRefIdeal.nD Cert.GmlpRefIdeal.τ).loc Cert.GmlpRefIdeal.main_arg2) = m ((c.tc : Thread Cert.GmlpKernelIdeal.nD Cert.GmlpKernelIdeal.τ).loc Cert.GmlpKernelIdeal.main_arg2)
      ∧ m' ((c.tc : Thread Cert.GmlpRefIdeal.nD Cert.GmlpRefIdeal.τ).loc Cert.GmlpRefIdeal.main_arg3) = m ((c.tc : Thread Cert.GmlpKernelIdeal.nD Cert.GmlpKernelIdeal.τ).loc Cert.GmlpKernelIdeal.main_arg3)
      ∧ m' ((c.tc : Thread Cert.GmlpRefIdeal.nD Cert.GmlpRefIdeal.τ).loc Cert.GmlpRefIdeal.main_arg4) = m ((c.tc : Thread Cert.GmlpKernelIdeal.nD Cert.GmlpKernelIdeal.τ).loc Cert.GmlpKernelIdeal.main_arg4)) →
    ∃ (v0 : (c : Dev Cert.GmlpKernelIdeal.nD) → Buf (Elt Ideal) ((c.tc : Thread Cert.GmlpKernelIdeal.nD Cert.GmlpKernelIdeal.τ).loc Cert.GmlpKernelIdeal.main_v3_0)) (v1 : (c : Dev Cert.GmlpKernelIdeal.nD) → Buf (Elt Ideal) ((c.tc : Thread Cert.GmlpKernelIdeal.nD Cert.GmlpKernelIdeal.τ).loc Cert.GmlpKernelIdeal.main_v3_1)) (v2 : (c : Dev Cert.GmlpKernelIdeal.nD) → Buf (Elt Ideal) ((c.tc : Thread Cert.GmlpKernelIdeal.nD Cert.GmlpKernelIdeal.τ).loc Cert.GmlpKernelIdeal.main_v3_2)) (v3 : (c : Dev Cert.GmlpKernelIdeal.nD) → Buf (Elt Ideal) ((c.tc : Thread Cert.GmlpKernelIdeal.nD Cert.GmlpKernelIdeal.τ).loc Cert.GmlpKernelIdeal.main_v3_3)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v3_0) = v0 c
          ∧ r.2.mem ((c.tc : Thread Cert.GmlpKernelIdeal.nD Cert.GmlpKernelIdeal.τ).loc Cert.GmlpKernelIdeal.main_v3_1) = v1 c
          ∧ r.2.mem ((c.tc : Thread Cert.GmlpKernelIdeal.nD Cert.GmlpKernelIdeal.τ).loc Cert.GmlpKernelIdeal.main_v3_2) = v2 c
          ∧ r.2.mem ((c.tc : Thread Cert.GmlpKernelIdeal.nD Cert.GmlpKernelIdeal.τ).loc Cert.GmlpKernelIdeal.main_v3_3) = v3 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v106) = v0 c
          ∧ r.2.mem ((c.tc : Thread Cert.GmlpRefIdeal.nD Cert.GmlpRefIdeal.τ).loc Cert.GmlpRefIdeal.main_v107) = v1 c
          ∧ r.2.mem ((c.tc : Thread Cert.GmlpRefIdeal.nD Cert.GmlpRefIdeal.τ).loc Cert.GmlpRefIdeal.main_v67) = v2 c
          ∧ r.2.mem ((c.tc : Thread Cert.GmlpRefIdeal.nD Cert.GmlpRefIdeal.τ).loc Cert.GmlpRefIdeal.main_v108) = v3 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_MergeFwdKernel_MergeFwdKernelIdeal : Prop :=
  True

def algebraic_MergeFwdKernelIdeal_MergeFwdRefIdeal [hMergeFwdKernelIdeal : Cert.MergeFwdKernelIdeal.Facts] [hMergeFwdRefIdeal : Cert.MergeFwdRefIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdKernelIdeal m →
    (∀ c : Dev Cert.MergeFwdKernelIdeal.nD,
      m' ((c.tc : Thread Cert.MergeFwdRefIdeal.nD Cert.MergeFwdRefIdeal.τ).loc Cert.MergeFwdRefIdeal.main_arg0) = m ((c.tc : Thread Cert.MergeFwdKernelIdeal.nD Cert.MergeFwdKernelIdeal.τ).loc Cert.MergeFwdKernelIdeal.main_arg0)
      ∧ m' ((c.tc : Thread Cert.MergeFwdRefIdeal.nD Cert.MergeFwdRefIdeal.τ).loc Cert.MergeFwdRefIdeal.main_arg1) = m ((c.tc : Thread Cert.MergeFwdKernelIdeal.nD Cert.MergeFwdKernelIdeal.τ).loc Cert.MergeFwdKernelIdeal.main_arg1)
      ∧ m' ((c.tc : Thread Cert.MergeFwdRefIdeal.nD Cert.MergeFwdRefIdeal.τ).loc Cert.MergeFwdRefIdeal.main_arg2) = m ((c.tc : Thread Cert.MergeFwdKernelIdeal.nD Cert.MergeFwdKernelIdeal.τ).loc Cert.MergeFwdKernelIdeal.main_arg2)
      ∧ m' ((c.tc : Thread Cert.MergeFwdRefIdeal.nD Cert.MergeFwdRefIdeal.τ).loc Cert.MergeFwdRefIdeal.main_arg3) = m ((c.tc : Thread Cert.MergeFwdKernelIdeal.nD Cert.MergeFwdKernelIdeal.τ).loc Cert.MergeFwdKernelIdeal.main_arg3)
      ∧ m' ((c.tc : Thread Cert.MergeFwdRefIdeal.nD Cert.MergeFwdRefIdeal.τ).loc Cert.MergeFwdRefIdeal.main_arg4) = m ((c.tc : Thread Cert.MergeFwdKernelIdeal.nD Cert.MergeFwdKernelIdeal.τ).loc Cert.MergeFwdKernelIdeal.main_arg4)
      ∧ m' ((c.tc : Thread Cert.MergeFwdRefIdeal.nD Cert.MergeFwdRefIdeal.τ).loc Cert.MergeFwdRefIdeal.main_arg5) = m ((c.tc : Thread Cert.MergeFwdKernelIdeal.nD Cert.MergeFwdKernelIdeal.τ).loc Cert.MergeFwdKernelIdeal.main_arg5)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v6_0)) (v1 : (c : Dev Cert.MergeFwdKernelIdeal.nD) → Buf (Elt Ideal) ((c.tc : Thread Cert.MergeFwdKernelIdeal.nD Cert.MergeFwdKernelIdeal.τ).loc Cert.MergeFwdKernelIdeal.main_v6_1)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v6_0) = v0 c
          ∧ r.2.mem ((c.tc : Thread Cert.MergeFwdKernelIdeal.nD Cert.MergeFwdKernelIdeal.τ).loc Cert.MergeFwdKernelIdeal.main_v6_1) = v1 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v29) = v0 c
          ∧ r.2.mem ((c.tc : Thread Cert.MergeFwdRefIdeal.nD Cert.MergeFwdRefIdeal.τ).loc Cert.MergeFwdRefIdeal.main_v30) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_GluFwdKernel_GluFwdKernelIdeal : Prop :=
  True

def algebraic_GluFwdKernelIdeal_GluFwdRefIdeal [hGluFwdKernelIdeal : Cert.GluFwdKernelIdeal.Facts] [hGluFwdRefIdeal : Cert.GluFwdRefIdeal.Facts] : Prop :=
  ∀ (m : (ℓ : Loc Cert.GluFwdKernelIdeal.nD Cert.GluFwdKernelIdeal.τ Cert.GluFwdKernelIdeal.sig) → Buf (Elt Ideal) ℓ) (g : Dev Cert.GluFwdKernelIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdKernelIdeal m →
    (∀ c : Dev Cert.GluFwdKernelIdeal.nD,
      m' ((c.tc : Thread Cert.GluFwdRefIdeal.nD Cert.GluFwdRefIdeal.τ).loc Cert.GluFwdRefIdeal.main_arg0) = m ((c.tc : Thread Cert.GluFwdKernelIdeal.nD Cert.GluFwdKernelIdeal.τ).loc Cert.GluFwdKernelIdeal.main_arg0)
      ∧ m' ((c.tc : Thread Cert.GluFwdRefIdeal.nD Cert.GluFwdRefIdeal.τ).loc Cert.GluFwdRefIdeal.main_arg1) = m ((c.tc : Thread Cert.GluFwdKernelIdeal.nD Cert.GluFwdKernelIdeal.τ).loc Cert.GluFwdKernelIdeal.main_arg1)
      ∧ m' ((c.tc : Thread Cert.GluFwdRefIdeal.nD Cert.GluFwdRefIdeal.τ).loc Cert.GluFwdRefIdeal.main_arg2) = m ((c.tc : Thread Cert.GluFwdKernelIdeal.nD Cert.GluFwdKernelIdeal.τ).loc Cert.GluFwdKernelIdeal.main_arg2)
      ∧ m' ((c.tc : Thread Cert.GluFwdRefIdeal.nD Cert.GluFwdRefIdeal.τ).loc Cert.GluFwdRefIdeal.main_arg3) = m ((c.tc : Thread Cert.GluFwdKernelIdeal.nD Cert.GluFwdKernelIdeal.τ).loc Cert.GluFwdKernelIdeal.main_arg3)
      ∧ m' ((c.tc : Thread Cert.GluFwdRefIdeal.nD Cert.GluFwdRefIdeal.τ).loc Cert.GluFwdRefIdeal.main_arg4) = m ((c.tc : Thread Cert.GluFwdKernelIdeal.nD Cert.GluFwdKernelIdeal.τ).loc Cert.GluFwdKernelIdeal.main_arg4)) →
    ∃ (v0 : (c : Dev Cert.GluFwdKernelIdeal.nD) → Buf (Elt Ideal) ((c.tc : Thread Cert.GluFwdKernelIdeal.nD Cert.GluFwdKernelIdeal.τ).loc Cert.GluFwdKernelIdeal.main_v3)),
      θ_run (Cert.GluFwdKernelIdeal.defs (F := Ideal)) (onTc (τ := Cert.GluFwdKernelIdeal.τ) (Cert.GluFwdKernelIdeal.main (F := Ideal))) ⟨m, fun _ => 0, g⟩ (fun r => ∀ c : Dev Cert.GluFwdKernelIdeal.nD,
          r.2.mem ((c.tc : Thread Cert.GluFwdKernelIdeal.nD Cert.GluFwdKernelIdeal.τ).loc Cert.GluFwdKernelIdeal.main_v3) = v0 c
          ∧ r.2.mem ((c.tc : Thread Cert.GluFwdKernelIdeal.nD Cert.GluFwdKernelIdeal.τ).loc Cert.GluFwdKernelIdeal.main_arg0) = m ((c.tc : Thread Cert.GluFwdKernelIdeal.nD Cert.GluFwdKernelIdeal.τ).loc Cert.GluFwdKernelIdeal.main_arg0)
          ∧ r.2.mem ((c.tc : Thread Cert.GluFwdKernelIdeal.nD Cert.GluFwdKernelIdeal.τ).loc Cert.GluFwdKernelIdeal.main_arg1) = m ((c.tc : Thread Cert.GluFwdKernelIdeal.nD Cert.GluFwdKernelIdeal.τ).loc Cert.GluFwdKernelIdeal.main_arg1)
          ∧ r.2.mem ((c.tc : Thread Cert.GluFwdKernelIdeal.nD Cert.GluFwdKernelIdeal.τ).loc Cert.GluFwdKernelIdeal.main_arg2) = m ((c.tc : Thread Cert.GluFwdKernelIdeal.nD Cert.GluFwdKernelIdeal.τ).loc Cert.GluFwdKernelIdeal.main_arg2)
          ∧ r.2.mem ((c.tc : Thread Cert.GluFwdKernelIdeal.nD Cert.GluFwdKernelIdeal.τ).loc Cert.GluFwdKernelIdeal.main_arg3) = m ((c.tc : Thread Cert.GluFwdKernelIdeal.nD Cert.GluFwdKernelIdeal.τ).loc Cert.GluFwdKernelIdeal.main_arg3)
          ∧ r.2.mem ((c.tc : Thread Cert.GluFwdKernelIdeal.nD Cert.GluFwdKernelIdeal.τ).loc Cert.GluFwdKernelIdeal.main_arg4) = m ((c.tc : Thread Cert.GluFwdKernelIdeal.nD Cert.GluFwdKernelIdeal.τ).loc Cert.GluFwdKernelIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v34) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_NormFwdKernel_NormFwdKernelIdeal : Prop :=
  True

def algebraic_NormFwdKernelIdeal_NormFwdRefIdeal [hNormFwdKernelIdeal : Cert.NormFwdKernelIdeal.Facts] [hNormFwdRefIdeal : Cert.NormFwdRefIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdKernelIdeal m →
    (∀ c : Dev Cert.NormFwdKernelIdeal.nD,
      m' ((c.tc : Thread Cert.NormFwdRefIdeal.nD Cert.NormFwdRefIdeal.τ).loc Cert.NormFwdRefIdeal.main_arg0) = m ((c.tc : Thread Cert.NormFwdKernelIdeal.nD Cert.NormFwdKernelIdeal.τ).loc Cert.NormFwdKernelIdeal.main_arg0)
      ∧ m' ((c.tc : Thread Cert.NormFwdRefIdeal.nD Cert.NormFwdRefIdeal.τ).loc Cert.NormFwdRefIdeal.main_arg1) = m ((c.tc : Thread Cert.NormFwdKernelIdeal.nD Cert.NormFwdKernelIdeal.τ).loc Cert.NormFwdKernelIdeal.main_arg1)) →
    ∃ (v0 : (c : Dev Cert.NormFwdKernelIdeal.nD) → Buf (Elt Ideal) ((c.tc : Thread Cert.NormFwdKernelIdeal.nD Cert.NormFwdKernelIdeal.τ).loc Cert.NormFwdKernelIdeal.main_v1_0)) (v1 : (c : Dev Cert.NormFwdKernelIdeal.nD) → Buf (Elt Ideal) ((c.tc : Thread Cert.NormFwdKernelIdeal.nD Cert.NormFwdKernelIdeal.τ).loc Cert.NormFwdKernelIdeal.main_v1_1)),
      θ_run (Cert.NormFwdKernelIdeal.defs (F := Ideal)) (onTc (τ := Cert.NormFwdKernelIdeal.τ) (Cert.NormFwdKernelIdeal.main (F := Ideal))) ⟨m, fun _ => 0, g⟩ (fun r => ∀ c : Dev Cert.NormFwdKernelIdeal.nD,
          r.2.mem ((c.tc : Thread Cert.NormFwdKernelIdeal.nD Cert.NormFwdKernelIdeal.τ).loc Cert.NormFwdKernelIdeal.main_v1_0) = v0 c
          ∧ r.2.mem ((c.tc : Thread Cert.NormFwdKernelIdeal.nD Cert.NormFwdKernelIdeal.τ).loc Cert.NormFwdKernelIdeal.main_v1_1) = v1 c
          ∧ r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
          ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_v14) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GmlpFwdKernel_GmlpFwdKernelIdeal : Prop :=
  True

def algebraic_GmlpFwdKernelIdeal_GmlpFwdRefIdeal [hGmlpFwdKernelIdeal : Cert.GmlpFwdKernelIdeal.Facts] [hGmlpFwdRefIdeal : Cert.GmlpFwdRefIdeal.Facts] : Prop :=
  ∀ (m : (ℓ : Loc Cert.GmlpFwdKernelIdeal.nD Cert.GmlpFwdKernelIdeal.τ Cert.GmlpFwdKernelIdeal.sig) → Buf (Elt Ideal) ℓ) (g : Dev Cert.GmlpFwdKernelIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdKernelIdeal m →
    (∀ c : Dev Cert.GmlpFwdKernelIdeal.nD,
      m' ((c.tc : Thread Cert.GmlpFwdRefIdeal.nD Cert.GmlpFwdRefIdeal.τ).loc Cert.GmlpFwdRefIdeal.main_arg0) = m ((c.tc : Thread Cert.GmlpFwdKernelIdeal.nD Cert.GmlpFwdKernelIdeal.τ).loc Cert.GmlpFwdKernelIdeal.main_arg0)
      ∧ m' ((c.tc : Thread Cert.GmlpFwdRefIdeal.nD Cert.GmlpFwdRefIdeal.τ).loc Cert.GmlpFwdRefIdeal.main_arg1) = m ((c.tc : Thread Cert.GmlpFwdKernelIdeal.nD Cert.GmlpFwdKernelIdeal.τ).loc Cert.GmlpFwdKernelIdeal.main_arg1)
      ∧ m' ((c.tc : Thread Cert.GmlpFwdRefIdeal.nD Cert.GmlpFwdRefIdeal.τ).loc Cert.GmlpFwdRefIdeal.main_arg2) = m ((c.tc : Thread Cert.GmlpFwdKernelIdeal.nD Cert.GmlpFwdKernelIdeal.τ).loc Cert.GmlpFwdKernelIdeal.main_arg2)
      ∧ m' ((c.tc : Thread Cert.GmlpFwdRefIdeal.nD Cert.GmlpFwdRefIdeal.τ).loc Cert.GmlpFwdRefIdeal.main_arg3) = m ((c.tc : Thread Cert.GmlpFwdKernelIdeal.nD Cert.GmlpFwdKernelIdeal.τ).loc Cert.GmlpFwdKernelIdeal.main_arg3)) →
    ∃ (v0 : (c : Dev Cert.GmlpFwdKernelIdeal.nD) → Buf (Elt Ideal) ((c.tc : Thread Cert.GmlpFwdKernelIdeal.nD Cert.GmlpFwdKernelIdeal.τ).loc Cert.GmlpFwdKernelIdeal.main_v2)),
      θ_run (Cert.GmlpFwdKernelIdeal.defs (F := Ideal)) (onTc (τ := Cert.GmlpFwdKernelIdeal.τ) (Cert.GmlpFwdKernelIdeal.main (F := Ideal))) ⟨m, fun _ => 0, g⟩ (fun r => ∀ c : Dev Cert.GmlpFwdKernelIdeal.nD,
          r.2.mem ((c.tc : Thread Cert.GmlpFwdKernelIdeal.nD Cert.GmlpFwdKernelIdeal.τ).loc Cert.GmlpFwdKernelIdeal.main_v2) = v0 c
          ∧ r.2.mem ((c.tc : Thread Cert.GmlpFwdKernelIdeal.nD Cert.GmlpFwdKernelIdeal.τ).loc Cert.GmlpFwdKernelIdeal.main_arg0) = m ((c.tc : Thread Cert.GmlpFwdKernelIdeal.nD Cert.GmlpFwdKernelIdeal.τ).loc Cert.GmlpFwdKernelIdeal.main_arg0)
          ∧ r.2.mem ((c.tc : Thread Cert.GmlpFwdKernelIdeal.nD Cert.GmlpFwdKernelIdeal.τ).loc Cert.GmlpFwdKernelIdeal.main_arg1) = m ((c.tc : Thread Cert.GmlpFwdKernelIdeal.nD Cert.GmlpFwdKernelIdeal.τ).loc Cert.GmlpFwdKernelIdeal.main_arg1)
          ∧ r.2.mem ((c.tc : Thread Cert.GmlpFwdKernelIdeal.nD Cert.GmlpFwdKernelIdeal.τ).loc Cert.GmlpFwdKernelIdeal.main_arg2) = m ((c.tc : Thread Cert.GmlpFwdKernelIdeal.nD Cert.GmlpFwdKernelIdeal.τ).loc Cert.GmlpFwdKernelIdeal.main_arg2)
          ∧ r.2.mem ((c.tc : Thread Cert.GmlpFwdKernelIdeal.nD Cert.GmlpFwdKernelIdeal.τ).loc Cert.GmlpFwdKernelIdeal.main_arg3) = m ((c.tc : Thread Cert.GmlpFwdKernelIdeal.nD Cert.GmlpFwdKernelIdeal.τ).loc Cert.GmlpFwdKernelIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v42) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_StickFwdKernel_StickFwdKernelIdeal : Prop :=
  IdealRules.named_const.Statement Cert.StickFwdKernelIdeal.κ "scale_log2e" .f32 0x3E0293EE#32 (((11863283 / 134217728) * (Real.log 2)⁻¹ : ℝ) : EReal)
  ∧ IdealRules.named_const.Statement Cert.StickFwdKernelIdeal.κ "log2e" .f32 0x3FB8AA3B#32 (((Real.log 2)⁻¹ : ℝ) : EReal)

def algebraic_StickFwdKernelIdeal_StickFwdRefIdeal [hStickFwdKernelIdeal : Cert.StickFwdKernelIdeal.Facts] [hStickFwdRefIdeal : Cert.StickFwdRefIdeal.Facts] : Prop :=
  ∀ (m : (ℓ : Loc Cert.StickFwdKernelIdeal.nD Cert.StickFwdKernelIdeal.τ Cert.StickFwdKernelIdeal.sig) → Buf (Elt Ideal) ℓ) (g : Dev Cert.StickFwdKernelIdeal.nD → PrngReg)
    (m' : (ℓ : Loc Cert.StickFwdRefIdeal.nD Cert.StickFwdRefIdeal.τ Cert.StickFwdRefIdeal.sig) → Buf (Elt Ideal) ℓ) (g' : Dev Cert.StickFwdRefIdeal.nD → PrngReg), Pre_StickFwdKernelIdeal m →
    (∀ c : Dev Cert.StickFwdKernelIdeal.nD,
      m' ((c.tc : Thread Cert.StickFwdRefIdeal.nD Cert.StickFwdRefIdeal.τ).loc Cert.StickFwdRefIdeal.main_arg0) = m ((c.tc : Thread Cert.StickFwdKernelIdeal.nD Cert.StickFwdKernelIdeal.τ).loc Cert.StickFwdKernelIdeal.main_arg0)) →
    ∃ (v0 : (c : Dev Cert.StickFwdKernelIdeal.nD) → Buf (Elt Ideal) ((c.tc : Thread Cert.StickFwdKernelIdeal.nD Cert.StickFwdKernelIdeal.τ).loc Cert.StickFwdKernelIdeal.main_v5_0)) (v1 : (c : Dev Cert.StickFwdKernelIdeal.nD) → Buf (Elt Ideal) ((c.tc : Thread Cert.StickFwdKernelIdeal.nD Cert.StickFwdKernelIdeal.τ).loc Cert.StickFwdKernelIdeal.main_v5_1)),
      θ_run (Cert.StickFwdKernelIdeal.defs (F := Ideal)) (onTc (τ := Cert.StickFwdKernelIdeal.τ) (Cert.StickFwdKernelIdeal.main (F := Ideal))) ⟨m, fun _ => 0, g⟩ (fun r => ∀ c : Dev Cert.StickFwdKernelIdeal.nD,
          r.2.mem ((c.tc : Thread Cert.StickFwdKernelIdeal.nD Cert.StickFwdKernelIdeal.τ).loc Cert.StickFwdKernelIdeal.main_v5_0) = v0 c
          ∧ r.2.mem ((c.tc : Thread Cert.StickFwdKernelIdeal.nD Cert.StickFwdKernelIdeal.τ).loc Cert.StickFwdKernelIdeal.main_v5_1) = v1 c
          ∧ r.2.mem ((c.tc : Thread Cert.StickFwdKernelIdeal.nD Cert.StickFwdKernelIdeal.τ).loc Cert.StickFwdKernelIdeal.main_arg0) = m ((c.tc : Thread Cert.StickFwdKernelIdeal.nD Cert.StickFwdKernelIdeal.τ).loc Cert.StickFwdKernelIdeal.main_arg0))
      ∧ θ_run (Cert.StickFwdRefIdeal.defs (F := Ideal)) (onTc (τ := Cert.StickFwdRefIdeal.τ) (Cert.StickFwdRefIdeal.main (F := Ideal))) ⟨m', fun _ => 0, g'⟩ (fun r => ∀ c : Dev Cert.StickFwdRefIdeal.nD,
          r.2.mem ((c.tc : Thread Cert.StickFwdRefIdeal.nD Cert.StickFwdRefIdeal.τ).loc Cert.StickFwdRefIdeal.main_v33) = v0 c
          ∧ r.2.mem ((c.tc : Thread Cert.StickFwdRefIdeal.nD Cert.StickFwdRefIdeal.τ).loc Cert.StickFwdRefIdeal.main_v32) = v1 c
          ∧ r.2.mem ((c.tc : Thread Cert.StickFwdRefIdeal.nD Cert.StickFwdRefIdeal.τ).loc Cert.StickFwdRefIdeal.main_arg0) = m' ((c.tc : Thread Cert.StickFwdRefIdeal.nD Cert.StickFwdRefIdeal.τ).loc Cert.StickFwdRefIdeal.main_arg0))

def preserves_ActFwdKernel_ActFwdKernelIdeal : Prop :=
  True

def algebraic_ActFwdKernelIdeal_ActFwdRefIdeal [hActFwdKernelIdeal : Cert.ActFwdKernelIdeal.Facts] [hActFwdRefIdeal : Cert.ActFwdRefIdeal.Facts] : Prop :=
  ∀ (m : (ℓ : Loc Cert.ActFwdKernelIdeal.nD Cert.ActFwdKernelIdeal.τ Cert.ActFwdKernelIdeal.sig) → Buf (Elt Ideal) ℓ) (g : Dev Cert.ActFwdKernelIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdKernelIdeal m →
    (∀ c : Dev Cert.ActFwdKernelIdeal.nD,
      m' ((c.tc : Thread Cert.ActFwdRefIdeal.nD Cert.ActFwdRefIdeal.τ).loc Cert.ActFwdRefIdeal.main_arg0) = m ((c.tc : Thread Cert.ActFwdKernelIdeal.nD Cert.ActFwdKernelIdeal.τ).loc Cert.ActFwdKernelIdeal.main_arg0)
      ∧ m' ((c.tc : Thread Cert.ActFwdRefIdeal.nD Cert.ActFwdRefIdeal.τ).loc Cert.ActFwdRefIdeal.main_arg1) = m ((c.tc : Thread Cert.ActFwdKernelIdeal.nD Cert.ActFwdKernelIdeal.τ).loc Cert.ActFwdKernelIdeal.main_arg1)) →
    ∃ (v0 : (c : Dev Cert.ActFwdKernelIdeal.nD) → Buf (Elt Ideal) ((c.tc : Thread Cert.ActFwdKernelIdeal.nD Cert.ActFwdKernelIdeal.τ).loc Cert.ActFwdKernelIdeal.main_v3_0)) (v1 : (c : Dev Cert.ActFwdKernelIdeal.nD) → Buf (Elt Ideal) ((c.tc : Thread Cert.ActFwdKernelIdeal.nD Cert.ActFwdKernelIdeal.τ).loc Cert.ActFwdKernelIdeal.main_v3_1)),
      θ_run (Cert.ActFwdKernelIdeal.defs (F := Ideal)) (onTc (τ := Cert.ActFwdKernelIdeal.τ) (Cert.ActFwdKernelIdeal.main (F := Ideal))) ⟨m, fun _ => 0, g⟩ (fun r => ∀ c : Dev Cert.ActFwdKernelIdeal.nD,
          r.2.mem ((c.tc : Thread Cert.ActFwdKernelIdeal.nD Cert.ActFwdKernelIdeal.τ).loc Cert.ActFwdKernelIdeal.main_v3_0) = v0 c
          ∧ r.2.mem ((c.tc : Thread Cert.ActFwdKernelIdeal.nD Cert.ActFwdKernelIdeal.τ).loc Cert.ActFwdKernelIdeal.main_v3_1) = v1 c
          ∧ r.2.mem ((c.tc : Thread Cert.ActFwdKernelIdeal.nD Cert.ActFwdKernelIdeal.τ).loc Cert.ActFwdKernelIdeal.main_arg0) = m ((c.tc : Thread Cert.ActFwdKernelIdeal.nD Cert.ActFwdKernelIdeal.τ).loc Cert.ActFwdKernelIdeal.main_arg0)
          ∧ r.2.mem ((c.tc : Thread Cert.ActFwdKernelIdeal.nD Cert.ActFwdKernelIdeal.τ).loc Cert.ActFwdKernelIdeal.main_arg1) = m ((c.tc : Thread Cert.ActFwdKernelIdeal.nD Cert.ActFwdKernelIdeal.τ).loc Cert.ActFwdKernelIdeal.main_arg1))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v4) = v0 c
          ∧ r.2.mem ((c.tc : Thread Cert.ActFwdRefIdeal.nD Cert.ActFwdRefIdeal.τ).loc Cert.ActFwdRefIdeal.main_v5) = v1 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1))

def preserves_MlpFwdKernel_MlpFwdKernelIdeal : Prop :=
  True

def algebraic_MlpFwdKernelIdeal_MlpFwdRefIdeal [hMlpFwdKernelIdeal : Cert.MlpFwdKernelIdeal.Facts] [hMlpFwdRefIdeal : Cert.MlpFwdRefIdeal.Facts] : Prop :=
  ∀ (m : (ℓ : Loc Cert.MlpFwdKernelIdeal.nD Cert.MlpFwdKernelIdeal.τ Cert.MlpFwdKernelIdeal.sig) → Buf (Elt Ideal) ℓ) (g : Dev Cert.MlpFwdKernelIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdKernelIdeal m →
    (∀ c : Dev Cert.MlpFwdKernelIdeal.nD,
      m' ((c.tc : Thread Cert.MlpFwdRefIdeal.nD Cert.MlpFwdRefIdeal.τ).loc Cert.MlpFwdRefIdeal.main_arg0) = m ((c.tc : Thread Cert.MlpFwdKernelIdeal.nD Cert.MlpFwdKernelIdeal.τ).loc Cert.MlpFwdKernelIdeal.main_arg0)
      ∧ m' ((c.tc : Thread Cert.MlpFwdRefIdeal.nD Cert.MlpFwdRefIdeal.τ).loc Cert.MlpFwdRefIdeal.main_arg1) = m ((c.tc : Thread Cert.MlpFwdKernelIdeal.nD Cert.MlpFwdKernelIdeal.τ).loc Cert.MlpFwdKernelIdeal.main_arg1)
      ∧ m' ((c.tc : Thread Cert.MlpFwdRefIdeal.nD Cert.MlpFwdRefIdeal.τ).loc Cert.MlpFwdRefIdeal.main_arg2) = m ((c.tc : Thread Cert.MlpFwdKernelIdeal.nD Cert.MlpFwdKernelIdeal.τ).loc Cert.MlpFwdKernelIdeal.main_arg2)
      ∧ m' ((c.tc : Thread Cert.MlpFwdRefIdeal.nD Cert.MlpFwdRefIdeal.τ).loc Cert.MlpFwdRefIdeal.main_arg3) = m ((c.tc : Thread Cert.MlpFwdKernelIdeal.nD Cert.MlpFwdKernelIdeal.τ).loc Cert.MlpFwdKernelIdeal.main_arg3)) →
    ∃ (v0 : (c : Dev Cert.MlpFwdKernelIdeal.nD) → Buf (Elt Ideal) ((c.tc : Thread Cert.MlpFwdKernelIdeal.nD Cert.MlpFwdKernelIdeal.τ).loc Cert.MlpFwdKernelIdeal.main_v6)),
      θ_run (Cert.MlpFwdKernelIdeal.defs (F := Ideal)) (onTc (τ := Cert.MlpFwdKernelIdeal.τ) (Cert.MlpFwdKernelIdeal.main (F := Ideal))) ⟨m, fun _ => 0, g⟩ (fun r => ∀ c : Dev Cert.MlpFwdKernelIdeal.nD,
          r.2.mem ((c.tc : Thread Cert.MlpFwdKernelIdeal.nD Cert.MlpFwdKernelIdeal.τ).loc Cert.MlpFwdKernelIdeal.main_v6) = v0 c
          ∧ r.2.mem ((c.tc : Thread Cert.MlpFwdKernelIdeal.nD Cert.MlpFwdKernelIdeal.τ).loc Cert.MlpFwdKernelIdeal.main_arg0) = m ((c.tc : Thread Cert.MlpFwdKernelIdeal.nD Cert.MlpFwdKernelIdeal.τ).loc Cert.MlpFwdKernelIdeal.main_arg0)
          ∧ r.2.mem ((c.tc : Thread Cert.MlpFwdKernelIdeal.nD Cert.MlpFwdKernelIdeal.τ).loc Cert.MlpFwdKernelIdeal.main_arg1) = m ((c.tc : Thread Cert.MlpFwdKernelIdeal.nD Cert.MlpFwdKernelIdeal.τ).loc Cert.MlpFwdKernelIdeal.main_arg1)
          ∧ r.2.mem ((c.tc : Thread Cert.MlpFwdKernelIdeal.nD Cert.MlpFwdKernelIdeal.τ).loc Cert.MlpFwdKernelIdeal.main_arg2) = m ((c.tc : Thread Cert.MlpFwdKernelIdeal.nD Cert.MlpFwdKernelIdeal.τ).loc Cert.MlpFwdKernelIdeal.main_arg2)
          ∧ r.2.mem ((c.tc : Thread Cert.MlpFwdKernelIdeal.nD Cert.MlpFwdKernelIdeal.τ).loc Cert.MlpFwdKernelIdeal.main_arg3) = m ((c.tc : Thread Cert.MlpFwdKernelIdeal.nD Cert.MlpFwdKernelIdeal.τ).loc Cert.MlpFwdKernelIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v7) = v0 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_WinKernel_WinKernelIdeal : Prop :=
  True

def algebraic_WinKernelIdeal_WinRefIdeal [hWinKernelIdeal : Cert.WinKernelIdeal.Facts] [hWinRefIdeal : Cert.WinRefIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinKernelIdeal m →
    (∀ c : Dev Cert.WinKernelIdeal.nD,
      m' ((c.tc : Thread Cert.WinRefIdeal.nD Cert.WinRefIdeal.τ).loc Cert.WinRefIdeal.main_arg0) = m ((c.tc : Thread Cert.WinKernelIdeal.nD Cert.WinKernelIdeal.τ).loc Cert.WinKernelIdeal.main_arg0)
      ∧ m' ((c.tc : Thread Cert.WinRefIdeal.nD Cert.WinRefIdeal.τ).loc Cert.WinRefIdeal.main_arg1) = m ((c.tc : Thread Cert.WinKernelIdeal.nD Cert.WinKernelIdeal.τ).loc Cert.WinKernelIdeal.main_arg1)
      ∧ m' ((c.tc : Thread Cert.WinRefIdeal.nD Cert.WinRefIdeal.τ).loc Cert.WinRefIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v1)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v1) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v8) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def Claim : Prop :=
  ∃ (hNormKernel : Cert.NormKernel.Facts) (hNormKernelIdeal : Cert.NormKernelIdeal.Facts) (hNormRefIdeal : Cert.NormRefIdeal.Facts) (hStickKernel : Cert.StickKernel.Facts) (hStickKernelIdeal : Cert.StickKernelIdeal.Facts) (hStickRefIdeal : Cert.StickRefIdeal.Facts) (hLossKernel : Cert.LossKernel.Facts) (hLossKernelIdeal : Cert.LossKernelIdeal.Facts) (hLossRefIdeal : Cert.LossRefIdeal.Facts) (hGluKernel : Cert.GluKernel.Facts) (hGluKernelIdeal : Cert.GluKernelIdeal.Facts) (hGluRefIdeal : Cert.GluRefIdeal.Facts) (hMergeKernel : Cert.MergeKernel.Facts) (hMergeKernelIdeal : Cert.MergeKernelIdeal.Facts) (hMergeRefIdeal : Cert.MergeRefIdeal.Facts) (hActKernel : Cert.ActKernel.Facts) (hActKernelIdeal : Cert.ActKernelIdeal.Facts) (hActRefIdeal : Cert.ActRefIdeal.Facts) (hSquareKernel : Cert.SquareKernel.Facts) (hSquareKernelIdeal : Cert.SquareKernelIdeal.Facts) (hSquareRefIdeal : Cert.SquareRefIdeal.Facts) (hGmlpKernel : Cert.GmlpKernel.Facts) (hGmlpKernelIdeal : Cert.GmlpKernelIdeal.Facts) (hGmlpRefIdeal : Cert.GmlpRefIdeal.Facts) (hMergeFwdKernel : Cert.MergeFwdKernel.Facts) (hMergeFwdKernelIdeal : Cert.MergeFwdKernelIdeal.Facts) (hMergeFwdRefIdeal : Cert.MergeFwdRefIdeal.Facts) (hGluFwdKernel : Cert.GluFwdKernel.Facts) (hGluFwdKernelIdeal : Cert.GluFwdKernelIdeal.Facts) (hGluFwdRefIdeal : Cert.GluFwdRefIdeal.Facts) (hNormFwdKernel : Cert.NormFwdKernel.Facts) (hNormFwdKernelIdeal : Cert.NormFwdKernelIdeal.Facts) (hNormFwdRefIdeal : Cert.NormFwdRefIdeal.Facts) (hGmlpFwdKernel : Cert.GmlpFwdKernel.Facts) (hGmlpFwdKernelIdeal : Cert.GmlpFwdKernelIdeal.Facts) (hGmlpFwdRefIdeal : Cert.GmlpFwdRefIdeal.Facts) (hStickFwdKernel : Cert.StickFwdKernel.Facts) (hStickFwdKernelIdeal : Cert.StickFwdKernelIdeal.Facts) (hStickFwdRefIdeal : Cert.StickFwdRefIdeal.Facts) (hActFwdKernel : Cert.ActFwdKernel.Facts) (hActFwdKernelIdeal : Cert.ActFwdKernelIdeal.Facts) (hActFwdRefIdeal : Cert.ActFwdRefIdeal.Facts) (hMlpFwdKernel : Cert.MlpFwdKernel.Facts) (hMlpFwdKernelIdeal : Cert.MlpFwdKernelIdeal.Facts) (hMlpFwdRefIdeal : Cert.MlpFwdRefIdeal.Facts) (hWinKernel : Cert.WinKernel.Facts) (hWinKernelIdeal : Cert.WinKernelIdeal.Facts) (hWinRefIdeal : Cert.WinRefIdeal.Facts) (hPre_norm_finite : Cert.Pre_norm_finite.Facts) (hPre_stick_finite : Cert.Pre_stick_finite.Facts) (hPre_loss_finite : Cert.Pre_loss_finite.Facts) (hPre_glu_finite : Cert.Pre_glu_finite.Facts) (hPre_gmlp_finite : Cert.Pre_gmlp_finite.Facts),
    quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_StickKernel (hStickKernel := hStickKernel)
    ∧ quiescent_StickKernelIdeal (hStickKernelIdeal := hStickKernelIdeal)
    ∧ quiescent_StickKernelIdeal_pre_stick_finite (hStickKernelIdeal := hStickKernelIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_GluKernel (hGluKernel := hGluKernel)
    ∧ quiescent_GluKernelIdeal (hGluKernelIdeal := hGluKernelIdeal)
    ∧ quiescent_GluKernelIdeal_pre_glu_finite (hGluKernelIdeal := hGluKernelIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_ActKernel (hActKernel := hActKernel)
    ∧ quiescent_ActKernelIdeal (hActKernelIdeal := hActKernelIdeal)
    ∧ quiescent_ActRefIdeal (hActRefIdeal := hActRefIdeal)
    ∧ quiescent_SquareKernel (hSquareKernel := hSquareKernel)
    ∧ quiescent_SquareKernelIdeal (hSquareKernelIdeal := hSquareKernelIdeal)
    ∧ quiescent_SquareRefIdeal (hSquareRefIdeal := hSquareRefIdeal)
    ∧ quiescent_GmlpKernel (hGmlpKernel := hGmlpKernel)
    ∧ quiescent_GmlpKernelIdeal (hGmlpKernelIdeal := hGmlpKernelIdeal)
    ∧ quiescent_GmlpKernelIdeal_pre_gmlp_finite (hGmlpKernelIdeal := hGmlpKernelIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_MergeFwdKernel (hMergeFwdKernel := hMergeFwdKernel)
    ∧ quiescent_MergeFwdKernelIdeal (hMergeFwdKernelIdeal := hMergeFwdKernelIdeal)
    ∧ quiescent_MergeFwdRefIdeal (hMergeFwdRefIdeal := hMergeFwdRefIdeal)
    ∧ quiescent_GluFwdKernel (hGluFwdKernel := hGluFwdKernel)
    ∧ quiescent_GluFwdKernelIdeal (hGluFwdKernelIdeal := hGluFwdKernelIdeal)
    ∧ quiescent_GluFwdRefIdeal (hGluFwdRefIdeal := hGluFwdRefIdeal)
    ∧ quiescent_NormFwdKernel (hNormFwdKernel := hNormFwdKernel)
    ∧ quiescent_NormFwdKernelIdeal (hNormFwdKernelIdeal := hNormFwdKernelIdeal)
    ∧ quiescent_NormFwdRefIdeal (hNormFwdRefIdeal := hNormFwdRefIdeal)
    ∧ quiescent_GmlpFwdKernel (hGmlpFwdKernel := hGmlpFwdKernel)
    ∧ quiescent_GmlpFwdKernelIdeal (hGmlpFwdKernelIdeal := hGmlpFwdKernelIdeal)
    ∧ quiescent_GmlpFwdRefIdeal (hGmlpFwdRefIdeal := hGmlpFwdRefIdeal)
    ∧ quiescent_StickFwdKernel (hStickFwdKernel := hStickFwdKernel)
    ∧ quiescent_StickFwdKernelIdeal (hStickFwdKernelIdeal := hStickFwdKernelIdeal)
    ∧ quiescent_StickFwdRefIdeal (hStickFwdRefIdeal := hStickFwdRefIdeal)
    ∧ quiescent_ActFwdKernel (hActFwdKernel := hActFwdKernel)
    ∧ quiescent_ActFwdKernelIdeal (hActFwdKernelIdeal := hActFwdKernelIdeal)
    ∧ quiescent_ActFwdRefIdeal (hActFwdRefIdeal := hActFwdRefIdeal)
    ∧ quiescent_MlpFwdKernel (hMlpFwdKernel := hMlpFwdKernel)
    ∧ quiescent_MlpFwdKernelIdeal (hMlpFwdKernelIdeal := hMlpFwdKernelIdeal)
    ∧ quiescent_MlpFwdRefIdeal (hMlpFwdRefIdeal := hMlpFwdRefIdeal)
    ∧ quiescent_WinKernel (hWinKernel := hWinKernel)
    ∧ quiescent_WinKernelIdeal (hWinKernelIdeal := hWinKernelIdeal)
    ∧ quiescent_WinRefIdeal (hWinRefIdeal := hWinRefIdeal)
    ∧ preserves_NormKernel_NormKernelIdeal
    ∧ algebraic_NormKernelIdeal_NormRefIdeal_pre_norm_finite (hNormKernelIdeal := hNormKernelIdeal) (hNormRefIdeal := hNormRefIdeal) (hPre_norm_finite := hPre_norm_finite)
    ∧ preserves_StickKernel_StickKernelIdeal
    ∧ algebraic_StickKernelIdeal_StickRefIdeal_pre_stick_finite (hStickKernelIdeal := hStickKernelIdeal) (hStickRefIdeal := hStickRefIdeal) (hPre_stick_finite := hPre_stick_finite)
    ∧ preserves_LossKernel_LossKernelIdeal
    ∧ algebraic_LossKernelIdeal_LossRefIdeal_pre_loss_finite (hLossKernelIdeal := hLossKernelIdeal) (hLossRefIdeal := hLossRefIdeal) (hPre_loss_finite := hPre_loss_finite)
    ∧ preserves_GluKernel_GluKernelIdeal
    ∧ algebraic_GluKernelIdeal_GluRefIdeal_pre_glu_finite (hGluKernelIdeal := hGluKernelIdeal) (hGluRefIdeal := hGluRefIdeal) (hPre_glu_finite := hPre_glu_finite)
    ∧ preserves_MergeKernel_MergeKernelIdeal
    ∧ algebraic_MergeKernelIdeal_MergeRefIdeal (hMergeKernelIdeal := hMergeKernelIdeal) (hMergeRefIdeal := hMergeRefIdeal)
    ∧ preserves_ActKernel_ActKernelIdeal
    ∧ algebraic_ActKernelIdeal_ActRefIdeal (hActKernelIdeal := hActKernelIdeal) (hActRefIdeal := hActRefIdeal)
    ∧ preserves_SquareKernel_SquareKernelIdeal
    ∧ algebraic_SquareKernelIdeal_SquareRefIdeal (hSquareKernelIdeal := hSquareKernelIdeal) (hSquareRefIdeal := hSquareRefIdeal)
    ∧ preserves_GmlpKernel_GmlpKernelIdeal
    ∧ algebraic_GmlpKernelIdeal_GmlpRefIdeal_pre_gmlp_finite (hGmlpKernelIdeal := hGmlpKernelIdeal) (hGmlpRefIdeal := hGmlpRefIdeal) (hPre_gmlp_finite := hPre_gmlp_finite)
    ∧ preserves_MergeFwdKernel_MergeFwdKernelIdeal
    ∧ algebraic_MergeFwdKernelIdeal_MergeFwdRefIdeal (hMergeFwdKernelIdeal := hMergeFwdKernelIdeal) (hMergeFwdRefIdeal := hMergeFwdRefIdeal)
    ∧ preserves_GluFwdKernel_GluFwdKernelIdeal
    ∧ algebraic_GluFwdKernelIdeal_GluFwdRefIdeal (hGluFwdKernelIdeal := hGluFwdKernelIdeal) (hGluFwdRefIdeal := hGluFwdRefIdeal)
    ∧ preserves_NormFwdKernel_NormFwdKernelIdeal
    ∧ algebraic_NormFwdKernelIdeal_NormFwdRefIdeal (hNormFwdKernelIdeal := hNormFwdKernelIdeal) (hNormFwdRefIdeal := hNormFwdRefIdeal)
    ∧ preserves_GmlpFwdKernel_GmlpFwdKernelIdeal
    ∧ algebraic_GmlpFwdKernelIdeal_GmlpFwdRefIdeal (hGmlpFwdKernelIdeal := hGmlpFwdKernelIdeal) (hGmlpFwdRefIdeal := hGmlpFwdRefIdeal)
    ∧ preserves_StickFwdKernel_StickFwdKernelIdeal
    ∧ algebraic_StickFwdKernelIdeal_StickFwdRefIdeal (hStickFwdKernelIdeal := hStickFwdKernelIdeal) (hStickFwdRefIdeal := hStickFwdRefIdeal)
    ∧ preserves_ActFwdKernel_ActFwdKernelIdeal
    ∧ algebraic_ActFwdKernelIdeal_ActFwdRefIdeal (hActFwdKernelIdeal := hActFwdKernelIdeal) (hActFwdRefIdeal := hActFwdRefIdeal)
    ∧ preserves_MlpFwdKernel_MlpFwdKernelIdeal
    ∧ algebraic_MlpFwdKernelIdeal_MlpFwdRefIdeal (hMlpFwdKernelIdeal := hMlpFwdKernelIdeal) (hMlpFwdRefIdeal := hMlpFwdRefIdeal)
    ∧ preserves_WinKernel_WinKernelIdeal
    ∧ algebraic_WinKernelIdeal_WinRefIdeal (hWinKernelIdeal := hWinKernelIdeal) (hWinRefIdeal := hWinRefIdeal)
-- ==== Pre_glu_finite.lean ====
abbrev S4096x1024 : Shape := ⟨2, ![4096, 1024]⟩
abbrev S4096x12288 : Shape := ⟨2, ![4096, 12288]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  slices_S4096x12288_S4096x1024_0_2048 : S4096x12288.Slices ![0, 2048] S4096x1024
  bcast_S_S1024 : S_.BroadcastsInDim S1024 (![] : Fin 0 → Fin S1024.rank)
  bcast_S_S1024x1024 : S_.BroadcastsInDim S1024x1024 (![] : Fin 0 → Fin S1024x1024.rank)

variable [Facts]

def fn_part1 {F : FTy → Type} [FloatOps F] (main_v2 : IVec S4096x1024 1) (main_v6 : IVec S4096x1024 1) (main_v9 : IVec S1024 1) (main_v12 : IVec S1024x1024 1) (main_v15 : IVec S1024 1) (main_v16 : FVec F S4096x1024 .bf16) (main_v17 : FVec F S4096x1024 .bf16) : IVec S4096x1024 1 × IVec S4096x1024 1 × IVec S1024 1 × IVec S1024x1024 1 × IVec S1024 1 × IVec S4096x1024 1 :=
  let main_v18 : IVec S4096x1024 1 := cmpf .olt main_v16 main_v17
  (main_v2, main_v6, main_v9, main_v12, main_v15, main_v18)

def fn {F : FTy → Type} [FloatOps F] (main_arg0 : FVec F S4096x1024 .f32) (main_arg1 : FVec F S4096x12288 .bf16) (main_arg2 : FVec F S1024 .f32) (main_arg3 : FVec F S1024x1024 .bf16) (main_arg4 : FVec F S1024 .f32) (main_arg5 : FVec F S4096x1024 .bf16) : IVec S4096x1024 1 × IVec S4096x1024 1 × IVec S1024 1 × IVec S1024x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .bf16 := (extractStridedSlice S4096x1024 ![0, 2048] · slices_S4096x12288_S4096x1024_0_2048) main_arg1
  let main_v4 : FVec F S4096x1024 .bf16 := Host.absf main_v3
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : FVec F S1024x1024 .bf16 := Host.absf main_arg3
  let main_cst_2 : FVec F S_ .bf16 := constant S_ .bf16 0x7F80#16
  let main_v11 : FVec F S1024x1024 .bf16 := broadcastInDim S1024x1024 ![] bcast_S_S1024x1024 main_cst_2
  let main_v12 : IVec S1024x1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S4096x1024 .bf16 := Host.absf main_arg5
  let main_cst_4 : FVec F S_ .bf16 := constant S_ .bf16 0x7F80#16
  let main_v17 : FVec F S4096x1024 .bf16 := broadcastInDim S4096x1024 ![] bcast_S_S4096x1024 main_cst_4
  fn_part1 (F := F) main_v2 main_v6 main_v9 main_v12 main_v15 main_v16 main_v17
-- ==== Pre_gmlp_finite.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S4096x2048 : Shape := ⟨2, ![4096, 2048]⟩
abbrev S_ : Shape := ⟨0, ![]⟩

class Facts : Prop where
  slices_S4096x12288_S4096x2048_0_0 : S4096x12288.Slices ![0, 0] S4096x2048
  bcast_S_S4096x2048 : S_.BroadcastsInDim S4096x2048 (![] : Fin 0 → Fin S4096x2048.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S4096x1024 : S_.BroadcastsInDim S4096x1024 (![] : Fin 0 → Fin S4096x1024.rank)

variable [Facts]

def fn {F : FTy → Type} [FloatOps F] (main_arg0 : FVec F S4096x12288 .bf16) (main_arg1 : FVec F S1024 .f32) (main_arg2 : FVec F S8x128x128 .f32) (main_arg3 : FVec F S8x128 .f32) (main_arg4 : FVec F S4096x1024 .bf16) : IVec S4096x2048 1 × IVec S1024 1 × IVec S8x128x128 1 × IVec S8x128 1 × IVec S4096x1024 1 :=
  let main_v0 : FVec F S4096x2048 .bf16 := (extractStridedSlice S4096x2048 ![0, 0] · slices_S4096x12288_S4096x2048_0_0) main_arg0
  let main_v1 : FVec F S4096x2048 .bf16 := Host.absf main_v0
  let main_cst : FVec F S_ .bf16 := constant S_ .bf16 0x7F80#16
  let main_v2 : FVec F S4096x2048 .bf16 := broadcastInDim S4096x2048 ![] bcast_S_S4096x2048 main_cst
  let main_v3 : IVec S4096x2048 1 := cmpf .olt main_v1 main_v2
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S8x128x128 .f32 := Host.absf main_arg2
  let main_cst_1 : FVec F S_ .f32 := constant S_ .f32 0x7F800000#32
  let main_v8 : FVec F S8x128x128 .f32 := broadcastInDim S8x128x128 ![] bcast_S_S8x128x128 main_cst_1
  let main_v9 : IVec S8x128x128 1 := cmpf .olt main_v7 main_v8
  let main_v10 : FVec F S8x128 .f32 := Host.absf main_arg3
  let main_cst_2 : FVec F S_ .f32 := constant S_ .f32 0x7F800000#32
  let main_v11 : FVec F S8x128 .f32 := broadcastInDim S8x128 ![] bcast_S_S8x128 main_cst_2
  let main_v12 : IVec S8x128 1 := cmpf .olt main_v10 main_v11
  let main_v13 : FVec F S4096x1024 .bf16 := Host.absf main_arg4
  let main_cst_3 : FVec F S_ .bf16 := constant S_ .bf16 0x7F80#16
  let main_v14 : FVec F S4096x1024 .bf16 := broadcastInDim S4096x1024 ![] bcast_S_S4096x1024 main_cst_3
  let main_v15 : IVec S4096x1024 1 := cmpf .olt main_v13 main_v14
  (main_v3, main_v6, main_v9, main_v12, main_v15)
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S4096x2048 .f32) (main_arg2 : FVec F S2048 .f32) (main_arg3 : FVec F S4096x2048 .f32) : IVec S4096x2048 1 × IVec S4096x2048 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_stick_finite.lean ====
abbrev S4096x12288 : Shape := ⟨2, ![4096, 12288]⟩
abbrev S4096x1024 : Shape := ⟨2, ![4096, 1024]⟩
abbrev S4096x3072 : Shape := ⟨2, ![4096, 3072]⟩
abbrev S_ : Shape := ⟨0, ![]⟩

class Facts : Prop where
  slices_S4096x12288_S4096x3072_0_3072 : S4096x12288.Slices ![0, 3072] S4096x3072
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x12288 .bf16) (main_arg1 : FVec F S4096x1024 .bf16) : IVec S4096x3072 1 × IVec S4096x1024 1 :=
  let main_v0 : FVec F S4096x3072 .bf16 := (extractStridedSlice S4096x3072 ![0, 3072] · slices_S4096x12288_S4096x3072_0_3072) main_arg0
  let main_v1 : FVec F S4096x3072 .bf16 := Host.absf main_v0
  let main_cst : FVec F S_ .bf16 := constant S_ .bf16 0x7F80#16
  let main_v2 : FVec F S4096x3072 .bf16 := broadcastInDim S4096x3072 ![] bcast_S_S4096x3072 main_cst
  let main_v3 : IVec S4096x3072 1 := cmpf .olt main_v1 main_v2
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  (main_v3, main_v6)
-- ==== NormKernel.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== StickKernel.lean ====
abbrev S4096x12288 : Shape := ⟨2, ![4096, 12288]⟩
abbrev S4096x1024 : Shape := ⟨2, ![4096, 1024]⟩
abbrev S36 : Shape := ⟨1, ![36]⟩
abbrev S4096x3072 : Shape := ⟨2, ![4096, 3072]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S128x128 : Shape := ⟨2, ![128, 128]⟩
abbrev S512x128 : Shape := ⟨2, ![512, 128]⟩
abbrev S1 : Shape := ⟨1, ![1]⟩
abbrev S4096x128 : Shape := ⟨2, ![4096, 128]⟩
abbrev S512x1 : Shape := ⟨2, ![512, 1]⟩
abbrev S512x512 : Shape := ⟨2, ![512, 512]⟩
abbrev S512 : Shape := ⟨1, ![512]⟩

abbrev nBuf : Space → Nat
  | .hbm => 88
  | .vmem => 21
  | .smem => 2
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S4096x3072, .bf16⟩
  | .hbm, ⟨3, _⟩ => ⟨S4096x3072, .f32⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .f32⟩
  | .hbm, ⟨8, _⟩ => ⟨S4096x8x128, .f32⟩
  | .hbm, ⟨9, _⟩ => ⟨S8x4096x128, .f32⟩
  | .hbm, ⟨10, _⟩ => ⟨S4096x1024, .f32⟩
  | .hbm, ⟨11, _⟩ => ⟨S4096x8x128, .f32⟩
  | .hbm, ⟨12, _⟩ => ⟨S8x4096x128, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .i1⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .i1⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S_, .f32⟩
  | .hbm, ⟨70, _⟩ => ⟨S8x4096x4096, .i1⟩
  | .hbm, ⟨71, _⟩ => ⟨S8x4096x4096, .f32⟩
  | .hbm, ⟨72, _⟩ => ⟨S8x4096x4096, .f32⟩
  | .hbm, ⟨73, _⟩ => ⟨S8x4096x128, .f32⟩
  | .hbm, ⟨74, _⟩ => ⟨S4096x8x128, .f32⟩
  | .hbm, ⟨75, _⟩ => ⟨S4096x1024, .f32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .f32⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S128x128, .bf16⟩
  | .hbm, ⟨85, _⟩ => ⟨S4096x1024, .f32⟩
  | .hbm, ⟨86, _⟩ => ⟨S4096x1024, .f32⟩
  | .hbm, ⟨87, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S512x128, .f32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .smem, ⟨0, _⟩ => ⟨S36, .i32⟩
  | .local _ .smem, ⟨1, _⟩ => ⟨S36, .i32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_call2_cst : Ref sig .tc := ⟨.hbm, 46, rfl⟩
abbrev main_call2_v0 : Ref sig .tc := ⟨.hbm, 47, rfl⟩
abbrev main_v24 : Ref sig .tc := ⟨.hbm, 48, rfl⟩
abbrev main_v25 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_2 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_3 : Ref sig .tc := ⟨.hbm, 79, rfl⟩
abbrev main_cst_4 : Ref sig .tc := ⟨.hbm, 80, rfl⟩
abbrev main_call5_v0 : Ref sig .tc := ⟨.hbm, 81, rfl⟩
abbrev main_call5_v1 : Ref sig .tc := ⟨.hbm, 82, rfl⟩
abbrev main_v36 : Ref sig .tc := ⟨.hbm, 83, rfl⟩
abbrev main_v37 : Ref sig .tc := ⟨.hbm, 84, rfl⟩
abbrev main_v38_0 : Ref sig .tc := ⟨.hbm, 85, rfl⟩
abbrev main_v38_1 : Ref sig .tc := ⟨.hbm, 86, rfl⟩
abbrev main_v38_2 : Ref sig .tc := ⟨.hbm, 87, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v165 : BitVec 32 := Scalar.muli v3 c512_i32
  v165
def k0_cond2 (v1 : BitVec 32) (v3 : BitVec 32) : BitVec 1 :=
  let v7 : BitVec 1 := Scalar.cmpi .eq v3 v1
  let v8 : BitVec 32 := Scalar.extui v7
  let c0_i32_1 : BitVec 32 := 0#32
  let v9 : BitVec 1 := Scalar.cmpi .ne v8 c0_i32_1
  v9

def k0_off2 (v3 : BitVec 32) : Fin 2 → Nat :=
  let c512_i32 : BitVec 32 := 512#32
  let v165 : BitVec 32 := Scalar.muli v3 c512_i32
  let v166 : BitVec 32 := v165
  let v167 : Index := Scalar.indexCast v166
  let c0_50 : Index := 0#32
  ![v167.toNat, 0]
def k0_mult2 (v3 : BitVec 32) : BitVec 32 :=
  let c512_i32 : BitVec 32 := 512#32
  let v154 : BitVec 32 := Scalar.muli v3 c512_i32
  v154
def k0_cond3 (v1 : BitVec 32) (v3 : BitVec 32) : BitVec 1 :=
  let v10 : BitVec 1 := Scalar.cmpi .ne v3 v1
  let v11 : BitVec 32 := Scalar.extui v10
  let c0_i32_2 : BitVec 32 := 0#32
  let v12 : BitVec 1 := Scalar.cmpi .ne v11 c0_i32_2
  v12

def k0_off3 (v3 : BitVec 32) : Fin 2 → Nat :=
  let c512_i32 : BitVec 32 := 512#32
  let v154 : BitVec 32 := Scalar.muli v3 c512_i32
  let v155 : BitVec 32 := v154
  let v156 : Index := Scalar.indexCast v155
  let c0_48 : Index := 0#32
  ![v156.toNat, 0]

def k0_chk1 (v1 : BitVec 32) (v3 : BitVec 32) : Prop :=
  (∀ (k0_h2 : k0_cond2 v1 v3 = 1#1), 512 ∣ (k0_mult1 v3).toNat) ∧
  (∀ (k0_h2 : k0_cond2 v1 v3 = 1#1), ∀ a, (k0_off2 v3) a + S512x128.size a ≤ S4096x128.size a) ∧
  (∀ (k0_h3 : k0_cond3 v1 v3 = 1#1), 512 ∣ (k0_mult2 v3).toNat) ∧
  (∀ (k0_h3 : k0_cond3 v1 v3 = 1#1), ∀ a, (k0_off3 v3) a + S512x128.size a ≤ S4096x128.size a)
theorem k0_mult1_dvd : ∀ (v1 : BitVec 32) (v3 : BitVec 32) (k0_hw1 : k0_chk1 v1 v3), ∀ (k0_h2 : k0_cond2 v1 v3 = 1#1), 512 ∣ (k0_mult1 v3).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v3) a + S512x128.size a ≤ S4096x128.size a := fun v1 v3 k0_hw1 k0_h2 => k0_hw1.2.1 k0_h2
theorem k0_mult2_dvd : ∀ (v1 : BitVec 32) (v3 : BitVec 32) (k0_hw1 : k0_chk1 v1 v3), ∀ (k0_h3 : k0_cond3 v1 v3 = 1#1), 512 ∣ (k0_mult2 v3).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v3) a + S512x128.size a ≤ S4096x128.size a := fun v1 v3 k0_hw1 k0_h3 => k0_hw1.2.2.2 k0_h3

def k0_cond4 (v3 : BitVec 32) : BitVec 1 :=
  let c0_i32_3 : BitVec 32 := 0#32
  let v13 : BitVec 1 := Scalar.cmpi .eq v3 c0_i32_3
  let v14 : BitVec 32 := Scalar.extui v13
  let c0_i32_4 : BitVec 32 := 0#32
  let v15 : BitVec 1 := Scalar.cmpi .ne v14 c0_i32_4
  v15

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c24_i32 : BitVec 32 := 24#32
  let v2 : BitVec 32 := Scalar.addi c24_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c40_i32 : BitVec 32 := 40#32
  let v2 : BitVec 32 := Scalar.addi c40_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== StickKernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== StickRefIdeal.lean ====
abbrev S4096x12288 : Shape := ⟨2, ![4096, 12288]⟩
abbrev S4096x1024 : Shape := ⟨2, ![4096, 1024]⟩
abbrev S4096x3072 : Shape := ⟨2, ![4096, 3072]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 179
  | .vmem => 0
  | .smem => 0
  | _ => 0

abbrev hbmTy0_0 (i : Nat) : BufTy := match i % 128 with
  | 0 => ⟨S4096x12288, .bf16⟩
  | 1 => ⟨S4096x1024, .bf16⟩
  | 2 => ⟨S4096x3072, .bf16⟩
  | 3 => ⟨S4096x3072, .f32⟩
  | 4 => ⟨S4096x1024, .f32⟩
  | 5 => ⟨S4096x8x128, .f32⟩
  | 6 => ⟨S8x4096x128, .f32⟩
  | 7 => ⟨S4096x1024, .f32⟩
  | 8 => ⟨S4096x8x128, .f32⟩
  | 9 => ⟨S8x4096x128, .f32⟩
  | 10 => ⟨S4096x1024, .f32⟩
  | 11 => ⟨S4096x8x128, .f32⟩
  | 12 => ⟨S8x4096x128, .f32⟩
  | 13 => ⟨S8x4096x4096, .f32⟩
  | 14 => ⟨S_, .f32⟩
  | 15 => ⟨S8x4096x4096, .f32⟩
  | 16 => ⟨S8x4096x4096, .f32⟩
  | 17 => ⟨S4096, .i32⟩
  | 18 => ⟨S1x4096, .i32⟩
  | 19 => ⟨S4096, .i32⟩
  | 20 => ⟨S4096x1, .i32⟩
  | 21 => ⟨S4096x4096, .i32⟩
  | 22 => ⟨S4096x4096, .i32⟩
  | 23 => ⟨S4096x4096, .i1⟩
  | 24 => ⟨S8x4096x4096, .f32⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .i1⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S_, .f32⟩
  | 47 => ⟨S8x4096x4096, .f32⟩
  | 48 => ⟨S8x4096x4096, .i1⟩
  | 49 => ⟨S_, .f32⟩
  | 50 => ⟨S8x4096x4096, .f32⟩
  | 51 => ⟨S8x4096x4096, .f32⟩
  | 52 => ⟨S8x4096x4096, .f32⟩
  | 53 => ⟨S8x4096x4096, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x4096x4096, .f32⟩
  | 62 => ⟨S8x4096x4096, .i1⟩
  | 63 => ⟨S_, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S_, .f32⟩
  | 70 => ⟨S8x4096x4096, .f32⟩
  | 71 => ⟨S8x4096x4096, .f32⟩
  | 72 => ⟨S8x4096x4096, .f32⟩
  | 73 => ⟨S_, .f32⟩
  | 74 => ⟨S_, .f32⟩
  | 75 => ⟨S8x4096x4096, .i1⟩
  | 76 => ⟨S8x4096x4096, .f32⟩
  | 77 => ⟨S8x4096x4096, .f32⟩
  | 78 => ⟨S_, .f32⟩
  | 79 => ⟨S8x4096x4096, .f32⟩
  | 80 => ⟨S_, .f32⟩
  | 81 => ⟨S_, .f32⟩
  | 82 => ⟨S8x4096x4096, .f32⟩
  | 83 => ⟨S8x4096x4096, .f32⟩
  | 84 => ⟨S8x4096x4096, .f32⟩
  | 85 => ⟨S_, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .i1⟩
  | 91 => ⟨S8x4096x4096, .f32⟩
  | 92 => ⟨S8x4096x4096, .f32⟩
  | 93 => ⟨S8x4096x4096, .f32⟩
  | 94 => ⟨S8x4096x4096, .f32⟩
  | 95 => ⟨S8x4096x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S_, .f32⟩
  | 106 => ⟨S8x4096x4096, .f32⟩
  | 107 => ⟨S8x4096x4096, .i1⟩
  | 108 => ⟨S_, .f32⟩
  | 109 => ⟨S8x4096x4096, .f32⟩
  | 110 => ⟨S8x4096x4096, .f32⟩
  | 111 => ⟨S8x4096x4096, .f32⟩
  | 112 => ⟨S8x4096x4096, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S8x4096x4096, .f32⟩
  | 121 => ⟨S8x4096x4096, .i1⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x12288, .bf16⟩

abbrev hbmTy0_1 (i : Nat) : BufTy := match i % 128 with
  | 0 => ⟨S_, .f32⟩
  | 1 => ⟨S8x4096x4096, .f32⟩
  | 2 => ⟨S8x4096x4096, .f32⟩
  | 3 => ⟨S8x4096x4096, .f32⟩
  | 4 => ⟨S8x4096x4096, .f32⟩
  | 5 => ⟨S8x4096x4096, .f32⟩
  | 6 => ⟨S_, .f32⟩
  | 7 => ⟨S_, .f32⟩
  | 8 => ⟨S8x4096x4096, .i1⟩
  | 9 => ⟨S8x4096x4096, .f32⟩
  | 10 => ⟨S8x4096x4096, .f32⟩
  | 11 => ⟨S_, .f32⟩
  | 12 => ⟨S8x4096x4096, .f32⟩
  | 13 => ⟨S8x4096x128, .f32⟩
  | 14 => ⟨S4096x1024, .f32⟩
  | 15 => ⟨S4096x8x128, .f32⟩
  | 16 => ⟨S8x4096x128, .f32⟩
  | 17 => ⟨S8x128x4096, .f32⟩
  | 18 => ⟨S8x4096x128, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S_, .f32⟩
  | 29 => ⟨S_, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .f32⟩
  | 43 => ⟨S8x4096x128, .f32⟩
  | 44 => ⟨S8x4096x128, .f32⟩
  | 45 => ⟨S4096x8x128, .f32⟩
  | 46 => ⟨S4096x1024, .f32⟩
  | 47 => ⟨S4096x8x128, .f32⟩
  | 48 => ⟨S4096x1024, .f32⟩
  | 49 => ⟨S4096x8x128, .f32⟩
  | 50 => ⟨S4096x1024, .f32⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_cst_0 : Ref sig .tc := ⟨.hbm, 73, rfl⟩
abbrev main_call1_v0 : Ref sig .tc := ⟨.hbm, 74, rfl⟩
abbrev main_v23_1 : Ref sig .tc := ⟨.hbm, 75, rfl⟩
abbrev main_call1_v2 : Ref sig .tc := ⟨.hbm, 76, rfl⟩
abbrev main_v23_0 : Ref sig .tc := ⟨.hbm, 77, rfl⟩
abbrev main_call1_cst : Ref sig .tc := ⟨.hbm, 78, rfl⟩
abbrev main_v23_2 : Ref sig .tc := ⟨.hbm, 79, rfl⟩
abbrev main_call2_cst : Ref sig .tc := ⟨.hbm, 80, rfl⟩
abbrev main_call2_v0 : Ref sig .tc := ⟨.hbm, 81, rfl⟩
abbrev main_v24 : Ref sig .tc := ⟨.hbm, 82, rfl⟩
abbrev main_v25 : Ref sig .tc := ⟨.hbm, 83, rfl⟩
abbrev main_call3_v0 : Ref sig .tc := ⟨.hbm, 84, rfl⟩
abbrev main_call3_call0_cst : Ref sig .tc := ⟨.hbm, 85, rfl⟩
abbrev main_call3_call0_v0 : Ref sig .tc := ⟨.hbm, 86, rfl⟩
abbrev main_call3_call0_v1 : Ref sig .tc := ⟨.hbm, 87, rfl⟩
abbrev main_call3_call0_v2 : Ref sig .tc := ⟨.hbm, 88, rfl⟩
abbrev main_call3_call0_v3 : Ref sig .tc := ⟨.hbm, 89, rfl⟩
abbrev main_call3_call0_v4 : Ref sig .tc := ⟨.hbm, 90, rfl⟩
abbrev main_call3_call0_v5 : Ref sig .tc := ⟨.hbm, 91, rfl⟩
abbrev main_call3_call0_v6 : Ref sig .tc := ⟨.hbm, 92, rfl⟩
abbrev main_call3_call0_v7 : Ref sig .tc := ⟨.hbm, 93, rfl⟩
abbrev main_call3_call0_v8 : Ref sig .tc := ⟨.hbm, 94, rfl⟩
abbrev main_call3_call0_v9 : Ref sig .tc := ⟨.hbm, 95, rfl⟩
abbrev main_call3_call0_v10 : Ref sig .tc := ⟨.hbm, 96, rfl⟩
abbrev main_call3_call0_v11 : Ref sig .tc := ⟨.hbm, 97, rfl⟩
abbrev main_call3_v1_0 : Ref sig .tc := ⟨.hbm, 98, rfl⟩
abbrev main_call3_call0_cst_0 : Ref sig .tc := ⟨.hbm, 99, rfl⟩
abbrev main_call3_call0_v13 : Ref sig .tc := ⟨.hbm, 100, rfl⟩
abbrev main_call3_call0_v14 : Ref sig .tc := ⟨.hbm, 101, rfl⟩
abbrev main_call3_call0_cst_1 : Ref sig .tc := ⟨.hbm, 102, rfl⟩
abbrev main_call3_call0_v15 : Ref sig .tc := ⟨.hbm, 103, rfl⟩
abbrev main_call3_call0_v16 : Ref sig .tc := ⟨.hbm, 104, rfl⟩
abbrev main_call3_call0_cst_2 : Ref sig .tc := ⟨.hbm, 105, rfl⟩
abbrev main_call3_call0_v17 : Ref sig .tc := ⟨.hbm, 106, rfl⟩
abbrev main_call3_call0_v18 : Ref sig .tc := ⟨.hbm, 107, rfl⟩
abbrev main_call3_call0_cst_3 : Ref sig .tc := ⟨.hbm, 108, rfl⟩
abbrev main_call3_call0_v19 : Ref sig .tc := ⟨.hbm, 109, rfl⟩
abbrev main_call3_call0_v20 : Ref sig .tc := ⟨.hbm, 110, rfl⟩
abbrev main_call3_call0_v21 : Ref sig .tc := ⟨.hbm, 111, rfl⟩
abbrev main_v26_1 : Ref sig .tc := ⟨.hbm, 112, rfl⟩
abbrev main_call3_call0_cst_4 : Ref sig .tc := ⟨.hbm, 113, rfl⟩
abbrev main_call3_call0_cst_5 : Ref sig .tc := ⟨.hbm, 114, rfl⟩
abbrev main_call3_call0_v23 : Ref sig .tc := ⟨.hbm, 115, rfl⟩
abbrev main_call3_call0_cst_6 : Ref sig .tc := ⟨.hbm, 116, rfl⟩
abbrev main_call3_call0_cst_7 : Ref sig .tc := ⟨.hbm, 117, rfl⟩
abbrev main_call3_call0_v24 : Ref sig .tc := ⟨.hbm, 118, rfl⟩
abbrev main_call3_call0_cst_8 : Ref sig .tc := ⟨.hbm, 119, rfl⟩
abbrev main_call3_call0_v25 : Ref sig .tc := ⟨.hbm, 120, rfl⟩
abbrev main_call3_call0_v26 : Ref sig .tc := ⟨.hbm, 121, rfl⟩
abbrev main_call3_call0_cst_9 : Ref sig .tc := ⟨.hbm, 122, rfl⟩
abbrev main_call3_call0_v27 : Ref sig .tc := ⟨.hbm, 123, rfl⟩
abbrev main_call3_call0_v28 : Ref sig .tc := ⟨.hbm, 124, rfl⟩
abbrev main_call3_call0_v29 : Ref sig .tc := ⟨.hbm, 125, rfl⟩
abbrev main_call3_call0_v30 : Ref sig .tc := ⟨.hbm, 126, rfl⟩
abbrev main_call3_call0_v31 : Ref sig .tc := ⟨.hbm, 127, rfl⟩
abbrev main_call3_call0_cst_10 : Ref sig .tc := ⟨.hbm, 128, rfl⟩
abbrev main_call3_call0_v32 : Ref sig .tc := ⟨.hbm, 129, rfl⟩
abbrev main_v26_2 : Ref sig .tc := ⟨.hbm, 130, rfl⟩
abbrev main_v26_0 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== LossKernel.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S8x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== GluKernel.lean ====
abbrev S4096x1024 : Shape := ⟨2, ![4096, 1024]⟩
abbrev S4096x12288 : Shape := ⟨2, ![4096, 12288]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1024, .f32⟩
  | .hbm, ⟨3, _⟩ => ⟨S1024x1024, .bf16⟩
  | .hbm, ⟨4, _⟩ => ⟨S1024, .f32⟩
  | .hbm, ⟨5, _⟩ => ⟨S4096x1024, .bf16⟩
  | .hbm, ⟨6, _⟩ => ⟨S1x1024, .f32⟩
  | .hbm, ⟨7, _⟩ => ⟨S1x1024x1024, .bf16⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S1024x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GluKernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== GluRefIdeal.lean ====
abbrev S4096x1024 : Shape := ⟨2, ![4096, 1024]⟩
abbrev S4096x12288 : Shape := ⟨2, ![4096, 12288]⟩
abbrev S1024 : Shape := ⟨1, ![1024]⟩
abbrev S1024x1024 : Shape := ⟨2, ![1024, 1024]⟩
abbrev S1x4096x1024 : Shape := ⟨3, ![1, 4096, 1024]⟩
abbrev S1x1x1024 : Shape := ⟨3, ![1, 1, 1024]⟩
abbrev S_ : Shape := ⟨0, ![]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1024, .f32⟩
  | .hbm, ⟨3, _⟩ => ⟨S1024x1024, .bf16⟩
  | .hbm, ⟨4, _⟩ => ⟨S1024, .f32⟩
  | .hbm, ⟨5, _⟩ => ⟨S4096x1024, .bf16⟩
  | .hbm, ⟨6, _⟩ => ⟨S4096x1024, .bf16⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S1x1x1024, .f32⟩
  | .hbm, ⟨11, _⟩ => ⟨S1024x1024, .f32⟩
  | .hbm, ⟨12, _⟩ => ⟨S1x1x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S_, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x4096x1024, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S_, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x4096x1024, .f32⟩
  | .hbm, ⟨57, _⟩ => ⟨S1x4096x1024, .f32⟩
  | .hbm, ⟨58, _⟩ => ⟨S_, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S_, .f32⟩
  | .hbm, ⟨69, _⟩ => ⟨S1x1024, .f32⟩
  | .hbm, ⟨70, _⟩ => ⟨S1x1x1024, .f32⟩
  | .hbm, ⟨71, _⟩ => ⟨S1024x1024, .f32⟩
  | .hbm, ⟨72, _⟩ => ⟨S1024x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S_, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S_, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S_, .f32⟩
  | .hbm, ⟨86, _⟩ => ⟨S1x4096x1024, .f32⟩
  | .hbm, ⟨87, _⟩ => ⟨S1x4096x1024, .f32⟩
  | .hbm, ⟨88, _⟩ => ⟨S_, .f32⟩
  | .hbm, ⟨89, _⟩ => ⟨S1x4096x1024, .f32⟩
  | .hbm, ⟨90, _⟩ => ⟨S1x4096x1024, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S_, .f32⟩
  | .hbm, ⟨97, _⟩ => ⟨S1x1024, .f32⟩
  | .hbm, ⟨98, _⟩ => ⟨S1x1x1024, .f32⟩
  | .hbm, ⟨99, _⟩ => ⟨S1x4096x1024, .bf16⟩
  | .hbm, ⟨100, _⟩ => ⟨S4096x1024, .bf16⟩
  | .hbm, ⟨101, _⟩ => ⟨S1x4096x1024, .bf16⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_15 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== MergeKernel.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S4096x2048 : Shape := ⟨2, ![4096, 2048]⟩
abbrev S3x1024x8x256 : Shape := ⟨4, ![3, 1024, 8, 256]⟩
abbrev S8x3x1024x256 : Shape := ⟨4, ![8, 3, 1024, 256]⟩
abbrev S1x8x3x1024x256 : Shape := ⟨5, ![1, 8, 3, 1024, 256]⟩
abbrev S3x8x256 : Shape := ⟨3, ![3, 8, 256]⟩
abbrev S8x3x256 : Shape := ⟨3, ![8, 3, 256]⟩
abbrev S1x8x3x256 : Shape := ⟨4, ![1, 8, 3, 256]⟩
abbrev S512x1024 : Shape := ⟨2, ![512, 1024]⟩
abbrev S1x1x3x1024x256 : Shape := ⟨5, ![1, 1, 3, 1024, 256]⟩
abbrev S512x256 : Shape := ⟨2, ![512, 256]⟩
abbrev S1x1x3x256 : Shape := ⟨4, ![1, 1, 3, 256]⟩
abbrev S3x512x1024 : Shape := ⟨3, ![3, 512, 1024]⟩
abbrev S1x1x1x256 : Shape := ⟨4, ![1, 1, 1, 256]⟩
abbrev S1x256 : Shape := ⟨2, ![1, 256]⟩
abbrev S1x1x1x1024x256 : Shape := ⟨5, ![1, 1, 1, 1024, 256]⟩
abbrev S1024x256 : Shape := ⟨2, ![1024, 256]⟩
abbrev S1x1x256 : Shape := ⟨3, ![1, 1, 256]⟩
abbrev S256 : Shape := ⟨1, ![256]⟩
abbrev S1x512x1024 : Shape := ⟨3, ![1, 512, 1024]⟩

abbrev nBuf : Space → Nat
  | .hbm => 23
  | .vmem => 38
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .bf16⟩
  | .hbm, ⟨4, _⟩ => ⟨S4096x12288, .bf16⟩
  | .hbm, ⟨5, _⟩ => ⟨S3x2048, .f32⟩
  | .hbm, ⟨6, _⟩ => ⟨S4096x2048, .bf16⟩
  | .hbm, ⟨7, _⟩ => ⟨S3x1024x8x256, .bf16⟩
  | .hbm, ⟨8, _⟩ => ⟨S8x3x1024x256, .bf16⟩
  | .hbm, ⟨9, _⟩ => ⟨S1x8x3x1024x256, .bf16⟩
  | .hbm, ⟨10, _⟩ => ⟨S3x8x256, .f32⟩
  | .hbm, ⟨11, _⟩ => ⟨S8x3x256, .f32⟩
  | .hbm, ⟨12, _⟩ => ⟨S1x8x3x256, .f32⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .hbm, ⟨18, _⟩ => ⟨S4096x2048, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S8x3x256, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1x3x1024x256, .bf16⟩
  | .local _ .vmem, ⟨7, _⟩ => ⟨S1x1x3x1024x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x1x3x256, .f32⟩
  | .local _ .vmem, ⟨15, _⟩ => ⟨S1x1x3x256, .f32⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S8x3x256, .f32⟩
  | .local _ .vmem, ⟨37, _⟩ => ⟨S3x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev main_v6_8 : Ref sig .tc := ⟨.hbm, 21, rfl⟩
abbrev main_v6_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v38 : Index := Scalar.indexCast arg1
  let c0_25 : Index := 0#32
  let c0_26 : Index := 0#32
  ![v38.toNat, 0, 0]
def k0_off2 (i : grid0.Coords) : Fin 3 → Nat :=
  let arg1 : BitVec 32 := BitVec.ofNat 32 (i 1).val
  let v88 : Index := Scalar.indexCast arg1
  let c1_64 : Index := 1#32
  let c0_65 : Index := 0#32
  ![v88.toNat, 1, 0]
def k0_off3 (i : grid0.Coords) : Fin 3 → Nat :=
  let arg1 : BitVec 32 := BitVec.ofNat 32 (i 1).val
  let v138 : Index := Scalar.indexCast arg1
  let c2_103 : Index := 2#32
  let c0_104 : Index := 0#32
  ![v138.toNat, 2, 0]
def k0_cond3 (i : grid0.Coords) : BitVec 1 :=
  let arg1 : BitVec 32 := BitVec.ofNat 32 (i 1).val
  let c7_i32 : BitVec 32 := 7#32
  let v160 : BitVec 1 := Scalar.cmpi .eq arg1 c7_i32
  let v161 : BitVec 32 := Scalar.extui v160
  let c0_i32_122 : BitVec 32 := 0#32
  let v162 : BitVec 1 := Scalar.cmpi .ne v161 c0_i32_122
  v162

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S8x3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== MergeRefIdeal.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S4096x2048 : Shape := ⟨2, ![4096, 2048]⟩
abbrev S4096x6144 : Shape := ⟨2, ![4096, 6144]⟩
abbrev S1x4096x6144 : Shape := ⟨3, ![1, 4096, 6144]⟩
abbrev S1x4096x1024 : Shape := ⟨3, ![1, 4096, 1024]⟩
abbrev S1x4096x1x1024 : Shape := ⟨4, ![1, 4096, 1, 1024]⟩
abbrev S1x4096x3x1024 : Shape := ⟨4, ![1, 4096, 3, 1024]⟩
abbrev S3x2048x1x4096 : Shape := ⟨4, ![3, 2048, 1, 4096]⟩
abbrev S1x4096x3x2048 : Shape := ⟨4, ![1, 4096, 3, 2048]⟩
abbrev S1x1x3x2048 : Shape := ⟨4, ![1, 1, 3, 2048]⟩
abbrev S_ : Shape := ⟨0, ![]⟩
abbrev S1x4096x2048 : Shape := ⟨3, ![1, 4096, 2048]⟩
abbrev S1x3x2048 : Shape := ⟨3, ![1, 3, 2048]⟩
abbrev S3x1x4096x1024 : Shape := ⟨4, ![3, 1, 4096, 1024]⟩
abbrev S1x4096x1x2048 : Shape := ⟨4, ![1, 4096, 1, 2048]⟩
abbrev S3x8x256 : Shape := ⟨3, ![3, 8, 256]⟩
abbrev S8x3x256 : Shape := ⟨3, ![8, 3, 256]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .bf16⟩
  | .hbm, ⟨4, _⟩ => ⟨S4096x12288, .bf16⟩
  | .hbm, ⟨5, _⟩ => ⟨S3x2048, .f32⟩
  | .hbm, ⟨6, _⟩ => ⟨S4096x2048, .bf16⟩
  | .hbm, ⟨7, _⟩ => ⟨S4096x6144, .bf16⟩
  | .hbm, ⟨8, _⟩ => ⟨S4096x6144, .f32⟩
  | .hbm, ⟨9, _⟩ => ⟨S1x4096x6144, .f32⟩
  | .hbm, ⟨10, _⟩ => ⟨S4096x1024, .f32⟩
  | .hbm, ⟨11, _⟩ => ⟨S1x4096x1024, .f32⟩
  | .hbm, ⟨12, _⟩ => ⟨S4096x1024, .f32⟩
  | .hbm, ⟨13, _⟩ => ⟨S1x4096x1024, .f32⟩
  | .hbm, ⟨14, _⟩ => ⟨S4096x1024, .f32⟩
  | .hbm, ⟨15, _⟩ => ⟨S1x4096x1024, .f32⟩
  | .hbm, ⟨16, _⟩ => ⟨S3x1024x2048, .f32⟩
  | .hbm, ⟨17, _⟩ => ⟨S1x4096x1x1024, .f32⟩
  | .hbm, ⟨18, _⟩ => ⟨S1x4096x1x1024, .f32⟩
  | .hbm, ⟨19, _⟩ => ⟨S1x4096x1x1024, .f32⟩
  | .hbm, ⟨20, _⟩ => ⟨S1x4096x3x1024, .f32⟩
  | .hbm, ⟨21, _⟩ => ⟨S3x2048x1x4096, .f32⟩
  | .hbm, ⟨22, _⟩ => ⟨S1x4096x3x2048, .f32⟩
  | .hbm, ⟨23, _⟩ => ⟨S1x4096x3x2048, .f32⟩
  | .hbm, ⟨24, _⟩ => ⟨S1x1x3x2048, .f32⟩
  | .hbm, ⟨25, _⟩ => ⟨S1x4096x3x2048, .f32⟩
  | .hbm, ⟨26, _⟩ => ⟨S1x4096x3x2048, .f32⟩
  | .hbm, ⟨27, _⟩ => ⟨S1x4096x3x2048, .f32⟩
  | .hbm, ⟨28, _⟩ => ⟨S1x4096x3x2048, .f32⟩
  | .hbm, ⟨29, _⟩ => ⟨S_, .f32⟩
  | .hbm, ⟨30, _⟩ => ⟨S1x4096x3x2048, .f32⟩
  | .hbm, ⟨31, _⟩ => ⟨S1x4096x3x2048, .f32⟩
  | .hbm, ⟨32, _⟩ => ⟨S_, .f32⟩
  | .hbm, ⟨33, _⟩ => ⟨S1x4096x3x2048, .f32⟩
  | .hbm, ⟨34, _⟩ => ⟨S1x4096x3x2048, .f32⟩
  | .hbm, ⟨35, _⟩ => ⟨S_, .f32⟩
  | .hbm, ⟨36, _⟩ => ⟨S1x4096x3x2048, .f32⟩
  | .hbm, ⟨37, _⟩ => ⟨S1x4096x3x2048, .f32⟩
  | .hbm, ⟨38, _⟩ => ⟨S1x4096x3x2048, .f32⟩
  | .hbm, ⟨39, _⟩ => ⟨S1x4096x3x2048, .f32⟩
  | .hbm, ⟨40, _⟩ => ⟨S_, .f32⟩
  | .hbm, ⟨41, _⟩ => ⟨S1x4096x2048, .f32⟩
  | .hbm, ⟨42, _⟩ => ⟨S4096x2048, .f32⟩
  | .hbm, ⟨43, _⟩ => ⟨S1x4096x2048, .f32⟩
  | .hbm, ⟨44, _⟩ => ⟨S1x4096x3x2048, .f32⟩
  | .hbm, ⟨45, _⟩ => ⟨S1x4096x3x2048, .f32⟩
  | .hbm, ⟨46, _⟩ => ⟨S1x4096x3x2048, .f32⟩
  | .hbm, ⟨47, _⟩ => ⟨S1x4096x3x2048, .f32⟩
  | .hbm, ⟨48, _⟩ => ⟨S_, .f32⟩
  | .hbm, ⟨49, _⟩ => ⟨S1x3x2048, .f32⟩
  | .hbm, ⟨50, _⟩ => ⟨S1x1x3x2048, .f32⟩
  | .hbm, ⟨51, _⟩ => ⟨S_, .f32⟩
  | .hbm, ⟨52, _⟩ => ⟨S3x2048, .f32⟩
  | .hbm, ⟨53, _⟩ => ⟨S1x4096x6144, .f32⟩
  | .hbm, ⟨54, _⟩ => ⟨S3x2048x1x4096, .f32⟩
  | .hbm, ⟨55, _⟩ => ⟨S3x1x4096x1024, .f32⟩
  | .hbm, ⟨56, _⟩ => ⟨S1x4096x3x1024, .f32⟩
  | .hbm, ⟨57, _⟩ => ⟨S1x4096x1x1024, .f32⟩
  | .hbm, ⟨58, _⟩ => ⟨S1x4096x1024, .f32⟩
  | .hbm, ⟨59, _⟩ => ⟨S1x4096x1x1024, .f32⟩
  | .hbm, ⟨60, _⟩ => ⟨S1x4096x1024, .f32⟩
  | .hbm, ⟨61, _⟩ => ⟨S1x4096x1x1024, .f32⟩
  | .hbm, ⟨62, _⟩ => ⟨S1x4096x1024, .f32⟩
  | .hbm, ⟨63, _⟩ => ⟨S4096x1024, .f32⟩
  | .hbm, ⟨64, _⟩ => ⟨S4096x1024, .bf16⟩
  | .hbm, ⟨65, _⟩ => ⟨S4096x1024, .f32⟩
  | .hbm, ⟨66, _⟩ => ⟨S4096x1024, .bf16⟩
  | .hbm, ⟨67, _⟩ => ⟨S4096x1024, .f32⟩
  | .hbm, ⟨68, _⟩ => ⟨S4096x1024, .bf16⟩
  | .hbm, ⟨69, _⟩ => ⟨S1x4096x2048, .f32⟩
  | .hbm, ⟨70, _⟩ => ⟨S4096x2048, .f32⟩
  | .hbm, ⟨71, _⟩ => ⟨S4096x2048, .bf16⟩
  | .hbm, ⟨72, _⟩ => ⟨S1x4096x2048, .f32⟩
  | .hbm, ⟨73, _⟩ => ⟨S4096x2048, .f32⟩
  | .hbm, ⟨74, _⟩ => ⟨S4096x2048, .bf16⟩
  | .hbm, ⟨75, _⟩ => ⟨S1x4096x2048, .f32⟩
  | .hbm, ⟨76, _⟩ => ⟨S4096x2048, .f32⟩
  | .hbm, ⟨77, _⟩ => ⟨S4096x2048, .bf16⟩
  | .hbm, ⟨78, _⟩ => ⟨S1x4096x1x2048, .f32⟩
  | .hbm, ⟨79, _⟩ => ⟨S4096x2048, .f32⟩
  | .hbm, ⟨80, _⟩ => ⟨S4096x2048, .bf16⟩
  | .hbm, ⟨81, _⟩ => ⟨S1x4096x1x2048, .f32⟩
  | .hbm, ⟨82, _⟩ => ⟨S4096x2048, .f32⟩
  | .hbm, ⟨83, _⟩ => ⟨S4096x2048, .bf16⟩
  | .hbm, ⟨84, _⟩ => ⟨S1x4096x1x2048, .f32⟩
  | .hbm, ⟨85, _⟩ => ⟨S4096x2048, .f32⟩
  | .hbm, ⟨86, _⟩ => ⟨S4096x2048, .bf16⟩
  | .hbm, ⟨87, _⟩ => ⟨S3x8x256, .f32⟩
  | .hbm, ⟨88, _⟩ => ⟨S8x3x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩

abbrev nD : Nat := 1
abbrev τ : Topo := Topo.v7x

variable {F : FTy → Type} [FloatOps F]
-- ==== ActKernel.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S1x8192x2048, .bf16⟩
  | .hbm, ⟨12, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .i1⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x2048, .f32⟩
  | .hbm, ⟨21, _⟩ => ⟨S4096x2048, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== SquareKernel.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S8192x4096 : Shape := ⟨2, ![8192, 4096]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S8192x4096, .bf16⟩
  | .hbm, ⟨12, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S4096x2048, .f32⟩
  | .hbm, ⟨14, _⟩ => ⟨S2048x8192, .f32⟩
  | .hbm, ⟨15, _⟩ => ⟨S8192x2048, .f32⟩
  | .hbm, ⟨16, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== GmlpKernel.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S1x1024 : Shape := ⟨2, ![1, 1024]⟩
abbrev S8x128x1 : Shape := ⟨3, ![8, 128, 1]⟩
abbrev S4096x2048 : Shape := ⟨2, ![4096, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 12
  | .vmem => 15
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S4096x1024, .bf16⟩
  | .hbm, ⟨5, _⟩ => ⟨S1x1024, .f32⟩
  | .hbm, ⟨6, _⟩ => ⟨S8x128x128, .f32⟩
  | .hbm, ⟨7, _⟩ => ⟨S8x128x1, .f32⟩
  | .hbm, ⟨8, _⟩ => ⟨S4096x2048, .bf16⟩
  | .hbm, ⟨9, _⟩ => ⟨S1x1024, .f32⟩
  | .hbm, ⟨10, _⟩ => ⟨S8x128x128, .f32⟩
  | .hbm, ⟨11, _⟩ => ⟨S8x128x1, .f32⟩
  | .local _ .vmem, ⟨0, _⟩ => ⟨S256x2048, .bf16⟩
  | .local _ .vmem, ⟨1, _⟩ => ⟨S256x2048, .bf16⟩
  | .local _ .vmem, ⟨2, _⟩ => ⟨S1x1024, .f32⟩
  | .local _ .vmem, ⟨3, _⟩ => ⟨S8x128x128, .f32⟩
  | .local _ .vmem, ⟨4, _⟩ => ⟨S8x128x128, .f32⟩
  | .local _ .vmem, ⟨5, _⟩ => ⟨S8x128x1, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S8x128x128, .f32⟩
  | .local _ .vmem, ⟨12, _⟩ => ⟨S8x128x1, .f32⟩
  | .local _ .vmem, ⟨13, _⟩ => ⟨S256x1024, .f32⟩
  | .local _ .vmem, ⟨14, _⟩ => ⟨S256x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GmlpKernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== GmlpRefIdeal.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S4096x2048 : Shape := ⟨2, ![4096, 2048]⟩
abbrev S1x4096x2048 : Shape := ⟨3, ![1, 4096, 2048]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S4096 : Shape := ⟨1, ![4096]⟩
abbrev S8x128x1 : Shape := ⟨3, ![8, 128, 1]⟩

abbrev nBuf : Space → Nat
  | .hbm => 150
  | .vmem => 0
  | .smem => 0
  | _ => 0

abbrev hbmTy0_0 (i : Nat) : BufTy := match i % 128 with
  | 0 => ⟨S4096x12288, .bf16⟩
  | 1 => ⟨S1024, .f32⟩
  | 2 => ⟨S8x128x128, .f32⟩
  | 3 => ⟨S8x128, .f32⟩
  | 4 => ⟨S4096x1024, .bf16⟩
  | 5 => ⟨S4096x2048, .bf16⟩
  | 6 => ⟨S4096x2048, .f32⟩
  | 7 => ⟨S1x4096x2048, .f32⟩
  | 8 => ⟨S1x4096x2048, .f32⟩
  | 9 => ⟨S1x4096x2048, .f32⟩
  | 10 => ⟨S1x4096x2048, .f32⟩
  | 11 => ⟨S_, .f32⟩
  | 12 => ⟨S1x4096x2048, .f32⟩
  | 13 => ⟨S1x4096x2048, .f32⟩
  | 14 => ⟨S_, .f32⟩
  | 15 => ⟨S1x4096x2048, .f32⟩
  | 16 => ⟨S1x4096x2048, .f32⟩
  | 17 => ⟨S_, .f32⟩
  | 18 => ⟨S1x4096x2048, .f32⟩
  | 19 => ⟨S1x4096x2048, .f32⟩
  | 20 => ⟨S1x4096x2048, .f32⟩
  | 21 => ⟨S_, .f32⟩
  | 22 => ⟨S1x4096x2048, .f32⟩
  | 23 => ⟨S1x4096x2048, .f32⟩
  | 24 => ⟨S1x4096x2048, .f32⟩
  | 25 => ⟨S_, .f32⟩
  | 26 => ⟨S1x4096x2048, .f32⟩
  | 27 => ⟨S1x4096x2048, .f32⟩
  | 28 => ⟨S_, .f32⟩
  | 29 => ⟨S1x4096x2048, .f32⟩
  | 30 => ⟨S1x4096x2048, .f32⟩
  | 31 => ⟨S1x4096x2048, .f32⟩
  | 32 => ⟨S_, .f32⟩
  | 33 => ⟨S1x4096x2048, .f32⟩
  | 34 => ⟨S1x4096x2048, .f32⟩
  | 35 => ⟨S_, .f32⟩
  | 36 => ⟨S1x4096x2048, .f32⟩
  | 37 => ⟨S1x4096x2048, .f32⟩
  | 38 => ⟨S1x4096x2048, .f32⟩
  | 39 => ⟨S1x4096x1024, .f32⟩
  | 40 => ⟨S1x4096x1024, .f32⟩
  | 41 => ⟨S1x4096x1024, .f32⟩
  | 42 => ⟨S_, .f32⟩
  | 43 => ⟨S1x4096, .f32⟩
  | 44 => ⟨S1x4096x1, .f32⟩
  | 45 => ⟨S_, .f32⟩
  | 46 => ⟨S1x4096x1, .f32⟩
  | 47 => ⟨S1x4096x1, .f32⟩
  | 48 => ⟨S_, .f32⟩
  | 49 => ⟨S1x4096x1, .f32⟩
  | 50 => ⟨S1x4096x1, .f32⟩
  | 51 => ⟨S1x4096x1, .f32⟩
  | 52 => ⟨S1x4096x1, .f32⟩
  | 53 => ⟨S_, .f32⟩
  | 54 => ⟨S1x4096x1, .f32⟩
  | 55 => ⟨S1x4096x1, .f32⟩
  | 56 => ⟨S1x4096x1024, .f32⟩
  | 57 => ⟨S1x4096x1024, .f32⟩
  | 58 => ⟨S1x1x1024, .f32⟩
  | 59 => ⟨S1x4096x1024, .f32⟩
  | 60 => ⟨S1x4096x1024, .f32⟩
  | 61 => ⟨S1x32x128x8x128, .f32⟩
  | 62 => ⟨S128x128, .i32⟩
  | 63 => ⟨S_, .i32⟩
  | 64 => ⟨S128x128, .i32⟩
  | 65 => ⟨S128x128, .i32⟩
  | 66 => ⟨S128x128, .i32⟩
  | 67 => ⟨S128x128, .i1⟩
  | 68 => ⟨S8x128x128, .i1⟩
  | 69 => ⟨S_, .f32⟩
  | 70 => ⟨S8x128x128, .f32⟩
  | 71 => ⟨S8x128x128, .f32⟩
  | 72 => ⟨S_, .f32⟩
  | 73 => ⟨S8x128x128, .f32⟩
  | 74 => ⟨S8x1x32x128x128, .f32⟩
  | 75 => ⟨S1x32x128x8x128, .f32⟩
  | 76 => ⟨S128x8, .f32⟩
  | 77 => ⟨S1x1x128x8x1, .f32⟩
  | 78 => ⟨S1x32x128x8x128, .f32⟩
  | 79 => ⟨S1x32x128x8x128, .f32⟩
  | 80 => ⟨S1x4096x1024, .f32⟩
  | 81 => ⟨S1x4096x1024, .f32⟩
  | 82 => ⟨S4096x1024, .f32⟩
  | 83 => ⟨S1x4096x1024, .f32⟩
  | 84 => ⟨S1x4096x1024, .f32⟩
  | 85 => ⟨S1x4096x1024, .f32⟩
  | 86 => ⟨S1x32x128x8x128, .f32⟩
  | 87 => ⟨S_, .f32⟩
  | 88 => ⟨S1x128x8, .f32⟩
  | 89 => ⟨S1x1x128x8x1, .f32⟩
  | 90 => ⟨S_, .f32⟩
  | 91 => ⟨S128x8, .f32⟩
  | 92 => ⟨S8x128, .f32⟩
  | 93 => ⟨S8x1x32x128x128, .f32⟩
  | 94 => ⟨S8x128x128, .f32⟩
  | 95 => ⟨S8x1x32x128x128, .f32⟩
  | 96 => ⟨S1x32x128x8x128, .f32⟩
  | 97 => ⟨S_, .f32⟩
  | 98 => ⟨S8x128x128, .f32⟩
  | 99 => ⟨S8x128x128, .f32⟩
  | 100 => ⟨S1x4096x1024, .f32⟩
  | 101 => ⟨S1x4096x1024, .f32⟩
  | 102 => ⟨S_, .f32⟩
  | 103 => ⟨S1x1024, .f32⟩
  | 104 => ⟨S1x1x1024, .f32⟩
  | 105 => ⟨S1x4096x1024, .f32⟩
  | 106 => ⟨S1x4096x1024, .f32⟩
  | 107 => ⟨S_, .f32⟩
  | 108 => ⟨S1024, .f32⟩
  | 109 => ⟨S1x4096x1024, .f32⟩
  | 110 => ⟨S_, .f32⟩
  | 111 => ⟨S1x4096, .f32⟩
  | 112 => ⟨S1x4096x1, .f32⟩
  | 113 => ⟨S1x4096x1024, .f32⟩
  | 114 => ⟨S1x4096x1024, .f32⟩
  | 115 => ⟨S1x4096x1, .f32⟩
  | 116 => ⟨S_, .f32⟩
  | 117 => ⟨S1x4096x1, .f32⟩
  | 118 => ⟨S1x4096x1, .f32⟩
  | 119 => ⟨S_, .f32⟩
  | 120 => ⟨S4096, .f32⟩
  | 121 => ⟨S1x4096, .f32⟩
  | 122 => ⟨S1x4096x1024, .f32⟩
  | 123 => ⟨S1x4096x1024, .f32⟩
  | 124 => ⟨S1x4096x1024, .f32⟩
  | 125 => ⟨S1x4096x1024, .f32⟩
  | 126 => ⟨S1x4096x1024, .f32⟩
  | 127 => ⟨S1x4096x2048, .f32⟩
  | _ => ⟨S4096x12288, .bf16⟩

abbrev hbmTy0_1 (i : Nat) : BufTy := match i % 128 with
  | 0 => ⟨S1x4096x2048, .f32⟩
  | 1 => ⟨S1x4096x2048, .f32⟩
  | 2 => ⟨S_, .f32⟩
  | 3 => ⟨S1x4096x2048, .f32⟩
  | 4 => ⟨S1x4096x2048, .f32⟩
  | 5 => ⟨S1x4096x2048, .f32⟩
  | 6 => ⟨S_, .f32⟩
  | 7 => ⟨S1x4096x2048, .f32⟩
  | 8 => ⟨S1x4096x2048, .f32⟩
  | 9 => ⟨S1x4096x2048, .f32⟩
  | 10 => ⟨S_, .f32⟩
  | 11 => ⟨S1x4096x2048, .f32⟩
  | 12 => ⟨S1x4096x2048, .f32⟩
  | 13 => ⟨S_, .f32⟩
  | 14 => ⟨S1x4096x2048, .f32⟩
  | 15 => ⟨S1x4096x2048, .f32⟩
  | 16 => ⟨S1x4096x2048, .f32⟩
  | 17 => ⟨S1x4096x2048, .f32⟩
  | 18 => ⟨S4096x2048, .f32⟩
  | 19 => ⟨S4096x2048, .bf16⟩
  | 20 => ⟨S1x1024, .f32⟩
  | 21 => ⟨S8x128x1, .f32⟩
  | _ => ⟨S4096x12288, .bf16⟩

abbrev hbmTy (i : Nat) : BufTy := match i / 128 with
  | 0 => hbmTy0_0 i
  | 1 => hbmTy0_1 i
  | _ => ⟨S4096x12288, .bf16⟩

abbrev bufTy : (tb : Table) → Fin (tcTables nBuf tb) → BufTy
  | .hbm, ⟨i, _⟩ => hbmTy i
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v45_1 : Ref sig .tc := ⟨.hbm, 68, rfl⟩
abbrev main_call0_cst : Ref sig .tc := ⟨.hbm, 69, rfl⟩
abbrev main_call0_v6 : Ref sig .tc := ⟨.hbm, 70, rfl⟩
abbrev main_v45_0 : Ref sig .tc := ⟨.hbm, 71, rfl⟩
abbrev main_call0_cst_0 : Ref sig .tc := ⟨.hbm, 72, rfl⟩
abbrev main_v45_2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call1_cst : Ref sig .tc := ⟨.hbm, 97, rfl⟩
abbrev main_call1_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_20 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩

abbrev nD : Nat := 1
abbrev τ : Topo := Topo.v7x

variable {F : FTy → Type} [FloatOps F]
-- ==== MergeFwdKernel.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S3x1024x8x256 : Shape := ⟨4, ![3, 1024, 8, 256]⟩
abbrev S8x3x1024x256 : Shape := ⟨4, ![8, 3, 1024, 256]⟩
abbrev S1x8x3x1024x256 : Shape := ⟨5, ![1, 8, 3, 1024, 256]⟩
abbrev S3x8x256 : Shape := ⟨3, ![3, 8, 256]⟩
abbrev S8x3x256 : Shape := ⟨3, ![8, 3, 256]⟩
abbrev S1x8x3x256 : Shape := ⟨4, ![1, 8, 3, 256]⟩
abbrev S4096x2048 : Shape := ⟨2, ![4096, 2048]⟩
abbrev S2048x4096 : Shape := ⟨2, ![2048, 4096]⟩
abbrev S512x1024 : Shape := ⟨2, ![512, 1024]⟩
abbrev S1x1x3x1024x256 : Shape := ⟨5, ![1, 1, 3, 1024, 256]⟩
abbrev S512x256 : Shape := ⟨2, ![512, 256]⟩
abbrev S1x1x3x256 : Shape := ⟨4, ![1, 1, 3, 256]⟩
abbrev S256x512 : Shape := ⟨2, ![256, 512]⟩
abbrev S1x1x1x256 : Shape := ⟨4, ![1, 1, 1, 256]⟩
abbrev S1x256 : Shape := ⟨2, ![1, 256]⟩
abbrev S1x1x1x1024x256 : Shape := ⟨5, ![1, 1, 1, 1024, 256]⟩
abbrev S1024x256 : Shape := ⟨2, ![1024, 256]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .bf16⟩
  | .hbm, ⟨4, _⟩ => ⟨S4096x12288, .bf16⟩
  | .hbm, ⟨5, _⟩ => ⟨S3x2048, .f32⟩
  | .hbm, ⟨6, _⟩ => ⟨S3x1024x8x256, .bf16⟩
  | .hbm, ⟨7, _⟩ => ⟨S8x3x1024x256, .bf16⟩
  | .hbm, ⟨8, _⟩ => ⟨S1x8x3x1024x256, .bf16⟩
  | .hbm, ⟨9, _⟩ => ⟨S3x8x256, .f32⟩
  | .hbm, ⟨10, _⟩ => ⟨S8x3x256, .f32⟩
  | .hbm, ⟨11, _⟩ => ⟨S1x8x3x256, .f32⟩
  | .hbm, ⟨12, _⟩ => ⟨S4096x2048, .bf16⟩
  | .hbm, ⟨13, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1x3x1024x256, .bf16⟩
  | .local _ .vmem, ⟨7, _⟩ => ⟨S1x1x3x1024x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x1x3x256, .f32⟩
  | .local _ .vmem, ⟨15, _⟩ => ⟨S1x1x3x256, .f32⟩
  | .local _ .vmem, ⟨16, _⟩ => ⟨S512x256, .bf16⟩
  | .local _ .vmem, ⟨17, _⟩ => ⟨S512x256, .bf16⟩
  | .local _ .vmem, ⟨18, _⟩ => ⟨S256x512, .bf16⟩
  | .local _ .vmem, ⟨19, _⟩ => ⟨S256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x3x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeFwdRefIdeal.lean ====
abbrev S4096x1024 : Shape := ⟨2, ![4096, 1024]⟩
abbrev S3x1024x2048 : Shape := ⟨3, ![3, 1024, 2048]⟩
abbrev S4096x12288 : Shape := ⟨2, ![4096, 12288]⟩
abbrev S3x2048 : Shape := ⟨2, ![3, 2048]⟩
abbrev S4096x6144 : Shape := ⟨2, ![4096, 6144]⟩
abbrev S1x4096x6144 : Shape := ⟨3, ![1, 4096, 6144]⟩
abbrev S1x4096x1024 : Shape := ⟨3, ![1, 4096, 1024]⟩
abbrev S1x4096x1x1024 : Shape := ⟨4, ![1, 4096, 1, 1024]⟩
abbrev S1x4096x3x1024 : Shape := ⟨4, ![1, 4096, 3, 1024]⟩
abbrev S3x2048x1x4096 : Shape := ⟨4, ![3, 2048, 1, 4096]⟩
abbrev S1x4096x3x2048 : Shape := ⟨4, ![1, 4096, 3, 2048]⟩
abbrev S1x1x3x2048 : Shape := ⟨4, ![1, 1, 3, 2048]⟩
abbrev S_ : Shape := ⟨0, ![]⟩
abbrev S1x4096x2048 : Shape := ⟨3, ![1, 4096, 2048]⟩
abbrev S4096x2048 : Shape := ⟨2, ![4096, 2048]⟩
abbrev S2048x4096 : Shape := ⟨2, ![2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S3x1024x2048, .bf16⟩
  | .hbm, ⟨4, _⟩ => ⟨S4096x12288, .bf16⟩
  | .hbm, ⟨5, _⟩ => ⟨S3x2048, .f32⟩
  | .hbm, ⟨6, _⟩ => ⟨S4096x6144, .bf16⟩
  | .hbm, ⟨7, _⟩ => ⟨S4096x6144, .f32⟩
  | .hbm, ⟨8, _⟩ => ⟨S1x4096x6144, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S3x1024x2048, .f32⟩
  | .hbm, ⟨16, _⟩ => ⟨S1x4096x1x1024, .f32⟩
  | .hbm, ⟨17, _⟩ => ⟨S1x4096x1x1024, .f32⟩
  | .hbm, ⟨18, _⟩ => ⟨S1x4096x1x1024, .f32⟩
  | .hbm, ⟨19, _⟩ => ⟨S1x4096x3x1024, .f32⟩
  | .hbm, ⟨20, _⟩ => ⟨S3x2048x1x4096, .f32⟩
  | .hbm, ⟨21, _⟩ => ⟨S1x4096x3x2048, .f32⟩
  | .hbm, ⟨22, _⟩ => ⟨S1x4096x3x2048, .f32⟩
  | .hbm, ⟨23, _⟩ => ⟨S1x1x3x2048, .f32⟩
  | .hbm, ⟨24, _⟩ => ⟨S1x4096x3x2048, .f32⟩
  | .hbm, ⟨25, _⟩ => ⟨S1x4096x3x2048, .f32⟩
  | .hbm, ⟨26, _⟩ => ⟨S1x4096x3x2048, .f32⟩
  | .hbm, ⟨27, _⟩ => ⟨S1x4096x3x2048, .f32⟩
  | .hbm, ⟨28, _⟩ => ⟨S_, .f32⟩
  | .hbm, ⟨29, _⟩ => ⟨S1x4096x3x2048, .f32⟩
  | .hbm, ⟨30, _⟩ => ⟨S1x4096x3x2048, .f32⟩
  | .hbm, ⟨31, _⟩ => ⟨S_, .f32⟩
  | .hbm, ⟨32, _⟩ => ⟨S1x4096x3x2048, .f32⟩
  | .hbm, ⟨33, _⟩ => ⟨S1x4096x3x2048, .f32⟩
  | .hbm, ⟨34, _⟩ => ⟨S1x4096x3x2048, .f32⟩
  | .hbm, ⟨35, _⟩ => ⟨S_, .f32⟩
  | .hbm, ⟨36, _⟩ => ⟨S1x4096x2048, .f32⟩
  | .hbm, ⟨37, _⟩ => ⟨S1x4096x2048, .bf16⟩
  | .hbm, ⟨38, _⟩ => ⟨S4096x2048, .bf16⟩
  | .hbm, ⟨39, _⟩ => ⟨S2048x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== GluFwdKernel.lean ====
abbrev S4096x1024 : Shape := ⟨2, ![4096, 1024]⟩
abbrev S4096x12288 : Shape := ⟨2, ![4096, 12288]⟩
abbrev S1024 : Shape := ⟨1, ![1024]⟩
abbrev S1024x1024 : Shape := ⟨2, ![1024, 1024]⟩
abbrev S1x1024 : Shape := ⟨2, ![1, 1024]⟩
abbrev S1x1024x1024 : Shape := ⟨3, ![1, 1024, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1024, .f32⟩
  | .hbm, ⟨3, _⟩ => ⟨S1024x1024, .bf16⟩
  | .hbm, ⟨4, _⟩ => ⟨S1024, .f32⟩
  | .hbm, ⟨5, _⟩ => ⟨S1x1024, .f32⟩
  | .hbm, ⟨6, _⟩ => ⟨S1x1024x1024, .bf16⟩
  | .hbm, ⟨7, _⟩ => ⟨S1x1024, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdRefIdeal.lean ====
abbrev S4096x1024 : Shape := ⟨2, ![4096, 1024]⟩
abbrev S4096x12288 : Shape := ⟨2, ![4096, 12288]⟩
abbrev S1024 : Shape := ⟨1, ![1024]⟩
abbrev S1024x1024 : Shape := ⟨2, ![1024, 1024]⟩
abbrev S1x4096x1024 : Shape := ⟨3, ![1, 4096, 1024]⟩
abbrev S1x1x1024 : Shape := ⟨3, ![1, 1, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x12288, .bf16⟩
  | .hbm, ⟨2, _⟩ => ⟨S1024, .f32⟩
  | .hbm, ⟨3, _⟩ => ⟨S1024x1024, .bf16⟩
  | .hbm, ⟨4, _⟩ => ⟨S1024, .f32⟩
  | .hbm, ⟨5, _⟩ => ⟨S4096x1024, .bf16⟩
  | .hbm, ⟨6, _⟩ => ⟨S4096x1024, .f32⟩
  | .hbm, ⟨7, _⟩ => ⟨S1x4096x1024, .f32⟩
  | .hbm, ⟨8, _⟩ => ⟨S1x4096x1024, .f32⟩
  | .hbm, ⟨9, _⟩ => ⟨S1x1x1024, .f32⟩
  | .hbm, ⟨10, _⟩ => ⟨S1x4096x1024, .f32⟩
  | .hbm, ⟨11, _⟩ => ⟨S1x4096x1024, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S_, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S_, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1024x1024, .f32⟩
  | .hbm, ⟨31, _⟩ => ⟨S1x4096x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1x4096x1024, .f32⟩
  | .hbm, ⟨39, _⟩ => ⟨S1x4096x1024, .f32⟩
  | .hbm, ⟨40, _⟩ => ⟨S_, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1024, .bf16⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== NormFwdKernel.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .hbm, ⟨4, _⟩ => ⟨S2048x4096, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GmlpFwdKernel.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S8x128x1 : Shape := ⟨3, ![8, 128, 1]⟩
abbrev S4096x1024 : Shape := ⟨2, ![4096, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1x1024, .f32⟩
  | .hbm, ⟨5, _⟩ => ⟨S8x128x1, .f32⟩
  | .hbm, ⟨6, _⟩ => ⟨S4096x1024, .bf16⟩
  | .local _ .vmem, ⟨0, _⟩ => ⟨S256x2048, .bf16⟩
  | .local _ .vmem, ⟨1, _⟩ => ⟨S256x2048, .bf16⟩
  | .local _ .vmem, ⟨2, _⟩ => ⟨S1x1024, .f32⟩
  | .local _ .vmem, ⟨3, _⟩ => ⟨S8x128x128, .f32⟩
  | .local _ .vmem, ⟨4, _⟩ => ⟨S8x128x1, .f32⟩
  | .local _ .vmem, ⟨5, _⟩ => ⟨S256x1024, .bf16⟩
  | .local _ .vmem, ⟨6, _⟩ => ⟨S256x1024, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GmlpFwdRefIdeal.lean ====
abbrev S4096x12288 : Shape := ⟨2, ![4096, 12288]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S1x4096x2048 : Shape := ⟨3, ![1, 4096, 2048]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4096x1024 : Shape := ⟨2, ![4096, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S4096x2048, .bf16⟩
  | .hbm, ⟨5, _⟩ => ⟨S4096x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S_, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S_, .f32⟩
  | .hbm, ⟨14, _⟩ => ⟨S1x4096x2048, .f32⟩
  | .hbm, ⟨15, _⟩ => ⟨S1x4096x2048, .f32⟩
  | .hbm, ⟨16, _⟩ => ⟨S1x4096x2048, .f32⟩
  | .hbm, ⟨17, _⟩ => ⟨S_, .f32⟩
  | .hbm, ⟨18, _⟩ => ⟨S1x4096x2048, .f32⟩
  | .hbm, ⟨19, _⟩ => ⟨S1x4096x2048, .f32⟩
  | .hbm, ⟨20, _⟩ => ⟨S_, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S_, .f32⟩
  | .hbm, ⟨28, _⟩ => ⟨S1x4096, .f32⟩
  | .hbm, ⟨29, _⟩ => ⟨S1x4096x1, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S1x4096x1024, .f32⟩
  | .hbm, ⟨41, _⟩ => ⟨S1x4096x1024, .f32⟩
  | .hbm, ⟨42, _⟩ => ⟨S1x32x128x8x128, .f32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S8x128x128, .i1⟩
  | .hbm, ⟨50, _⟩ => ⟨S_, .f32⟩
  | .hbm, ⟨51, _⟩ => ⟨S8x128x128, .f32⟩
  | .hbm, ⟨52, _⟩ => ⟨S8x128x128, .f32⟩
  | .hbm, ⟨53, _⟩ => ⟨S8x1x32x128x128, .f32⟩
  | .hbm, ⟨54, _⟩ => ⟨S1x32x128x8x128, .f32⟩
  | .hbm, ⟨55, _⟩ => ⟨S128x8, .f32⟩
  | .hbm, ⟨56, _⟩ => ⟨S1x1x128x8x1, .f32⟩
  | .hbm, ⟨57, _⟩ => ⟨S1x32x128x8x128, .f32⟩
  | .hbm, ⟨58, _⟩ => ⟨S1x32x128x8x128, .f32⟩
  | .hbm, ⟨59, _⟩ => ⟨S1x4096x1024, .f32⟩
  | .hbm, ⟨60, _⟩ => ⟨S1x4096x1024, .f32⟩
  | .hbm, ⟨61, _⟩ => ⟨S1x4096x1024, .bf16⟩
  | .hbm, ⟨62, _⟩ => ⟨S4096x1024, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_cst : Ref sig .tc := ⟨.hbm, 50, rfl⟩
abbrev main_call0_v6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== StickFwdKernel.lean ====
abbrev S4096x12288 : Shape := ⟨2, ![4096, 12288]⟩
abbrev S36 : Shape := ⟨1, ![36]⟩
abbrev S128x128 : Shape := ⟨2, ![128, 128]⟩
abbrev S_ : Shape := ⟨0, ![]⟩
abbrev S4096x1024 : Shape := ⟨2, ![4096, 1024]⟩
abbrev S512x128 : Shape := ⟨2, ![512, 128]⟩
abbrev S1 : Shape := ⟨1, ![1]⟩
abbrev S512x1 : Shape := ⟨2, ![512, 1]⟩
abbrev S512x512 : Shape := ⟨2, ![512, 512]⟩

abbrev nBuf : Space → Nat
  | .hbm => 12
  | .vmem => 13
  | .smem => 2
  | _ => 0

abbrev bufTy : (tb : Table) → Fin (tcTables nBuf tb) → BufTy
  | .hbm, ⟨0, _⟩ => ⟨S4096x12288, .bf16⟩
  | .hbm, ⟨1, _⟩ => ⟨S128x128, .i32⟩
  | .hbm, ⟨2, _⟩ => ⟨S128x128, .i32⟩
  | .hbm, ⟨3, _⟩ => ⟨S128x128, .i1⟩
  | .hbm, ⟨4, _⟩ => ⟨S_, .f32⟩
  | .hbm, ⟨5, _⟩ => ⟨S_, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .bf16⟩
  | .hbm, ⟨10, _⟩ => ⟨S4096x1024, .bf16⟩
  | .hbm, ⟨11, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S512x128, .bf16⟩
  | .local _ .vmem, ⟨8, _⟩ => ⟨S512x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1, .f32⟩
  | .local _ .smem, ⟨0, _⟩ => ⟨S36, .i32⟩
  | .local _ .smem, ⟨1, _⟩ => ⟨S36, .i32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v3 : BitVec 32) : BitVec 1 :=
  let c0_i32_1 : BitVec 32 := 0#32
  let v10 : BitVec 1 := Scalar.cmpi .eq v3 c0_i32_1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c24_i32 : BitVec 32 := 24#32
  let v2 : BitVec 32 := Scalar.addi c24_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c40_i32 : BitVec 32 := 40#32
  let v2 : BitVec 32 := Scalar.addi c40_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== StickFwdKernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== StickFwdRefIdeal.lean ====
abbrev S4096x12288 : Shape := ⟨2, ![4096, 12288]⟩
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x3072, .bf16⟩
  | .hbm, ⟨2, _⟩ => ⟨S4096x3072, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x1024, .f32⟩
  | .hbm, ⟨7, _⟩ => ⟨S4096x8x128, .f32⟩
  | .hbm, ⟨8, _⟩ => ⟨S8x4096x128, .f32⟩
  | .hbm, ⟨9, _⟩ => ⟨S4096x1024, .f32⟩
  | .hbm, ⟨10, _⟩ => ⟨S4096x8x128, .f32⟩
  | .hbm, ⟨11, _⟩ => ⟨S8x4096x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S8x4096x4096, .f32⟩
  | .hbm, ⟨24, _⟩ => ⟨S8x4096x4096, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .i1⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S_, .f32⟩
  | .hbm, ⟨69, _⟩ => ⟨S8x4096x4096, .i1⟩
  | .hbm, ⟨70, _⟩ => ⟨S8x4096x4096, .f32⟩
  | .hbm, ⟨71, _⟩ => ⟨S8x4096x4096, .f32⟩
  | .hbm, ⟨72, _⟩ => ⟨S8x4096x128, .f32⟩
  | .hbm, ⟨73, _⟩ => ⟨S4096x8x128, .f32⟩
  | .hbm, ⟨74, _⟩ => ⟨S4096x1024, .f32⟩
  | .hbm, ⟨75, _⟩ => ⟨S4096x1024, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v22 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_v25 : Ref sig .tc := ⟨.hbm, 48, rfl⟩
abbrev main_call3_v0 : Ref sig .tc := ⟨.hbm, 49, rfl⟩
abbrev main_call3_call0_cst : Ref sig .tc := ⟨.hbm, 50, rfl⟩
abbrev main_call3_call0_v0 : Ref sig .tc := ⟨.hbm, 51, rfl⟩
abbrev main_call3_call0_v1 : Ref sig .tc := ⟨.hbm, 52, rfl⟩
abbrev main_call3_call0_v2 : Ref sig .tc := ⟨.hbm, 53, rfl⟩
abbrev main_call3_call0_v3 : Ref sig .tc := ⟨.hbm, 54, rfl⟩
abbrev main_call3_call0_v4 : Ref sig .tc := ⟨.hbm, 55, rfl⟩
abbrev main_call3_call0_v5 : Ref sig .tc := ⟨.hbm, 56, rfl⟩
abbrev main_call3_call0_v6 : Ref sig .tc := ⟨.hbm, 57, rfl⟩
abbrev main_call3_call0_v7 : Ref sig .tc := ⟨.hbm, 58, rfl⟩
abbrev main_call3_call0_v8 : Ref sig .tc := ⟨.hbm, 59, rfl⟩
abbrev main_call3_call0_v9 : Ref sig .tc := ⟨.hbm, 60, rfl⟩
abbrev main_call3_call0_v10 : Ref sig .tc := ⟨.hbm, 61, rfl⟩
abbrev main_call3_call0_v11 : Ref sig .tc := ⟨.hbm, 62, rfl⟩
abbrev main_call3_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== ActFwdKernel.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1x8x2048x1024 : Shape := ⟨4, ![1, 8, 2048, 1024]⟩
abbrev S4096x8192 : Shape := ⟨2, ![4096, 8192]⟩
abbrev S8192x4096 : Shape := ⟨2, ![8192, 4096]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S1x8x2048x1024, .bf16⟩
  | .hbm, ⟨5, _⟩ => ⟨S4096x8192, .bf16⟩
  | .hbm, ⟨6, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActFwdRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpFwdKernel.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 13
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S1x8192x2048, .bf16⟩
  | .hbm, ⟨12, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpFwdRefIdeal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S8192x2048, .bf16⟩
  | .hbm, ⟨3, _⟩ => ⟨S4096x2048, .f32⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S8192x2048, .f32⟩
  | .hbm, ⟨12, _⟩ => ⟨S4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== WinKernel.lean ====
abbrev S4096x2048 : Shape := ⟨2, ![4096, 2048]⟩
abbrev S2048x12288 : Shape := ⟨2, ![2048, 12288]⟩
abbrev S4096x12288 : Shape := ⟨2, ![4096, 12288]⟩
abbrev S2048x4096 : Shape := ⟨2, ![2048, 4096]⟩
abbrev S8x2048x1536 : Shape := ⟨3, ![8, 2048, 1536]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .bf16⟩
  | .hbm, ⟨3, _⟩ => ⟨S2048x4096, .bf16⟩
  | .hbm, ⟨4, _⟩ => ⟨S8x2048x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S4096x2048 : Shape := ⟨2, ![4096, 2048]⟩
abbrev S2048x12288 : Shape := ⟨2, ![2048, 12288]⟩
abbrev S4096x12288 : Shape := ⟨2, ![4096, 12288]⟩
abbrev S12288x2048 : Shape := ⟨2, ![12288, 2048]⟩
abbrev S2048x8x1536 : Shape := ⟨3, ![2048, 8, 1536]⟩
abbrev S8x2048x1536 : Shape := ⟨3, ![8, 2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .bf16⟩
  | .hbm, ⟨3, _⟩ => ⟨S2048x12288, .f32⟩
  | .hbm, ⟨4, _⟩ => ⟨S4096x2048, .f32⟩
  | .hbm, ⟨5, _⟩ => ⟨S4096x12288, .f32⟩
  | .hbm, ⟨6, _⟩ => ⟨S4096x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | .hbm, ⟨10, _⟩ => ⟨S2048x8x1536, .bf16⟩
  | .hbm, ⟨11, _⟩ => ⟨S8x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Reals.lean ====
/-
  Extended reals that are real numbers: the constants of the programs as reals, sums and quotients of finite values, and
  what the stated preconditions say of one element.
-/
module

public import Idealize.ShloMosaic.PureOps.Ideal
public import Idealize.ShloMosaic.PureOps.Ideal.Laws
public import Idealize.ShloMosaic.Lib.IdealHost

@[expose] public section

noncomputable section

open Idealize.ShloMosaic

namespace Cert.Reals

/-- A finite sum of real numbers, taken among the extended reals, is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Below infinity in absolute value: a real number. -/
theorem real_of_abs_lt {x : EReal} (h : max x (-x) < ⊤) : ∃ r : ℝ, x = (r : EReal) := by
  induction x with
  | bot => simp at h
  | top => simp at h
  | coe r => exact ⟨r, rfl⟩

theorem real_of_cmp {x : EReal} (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  refine real_of_abs_lt ?_
  by_contra hc
  simp [Ideal.cmp, hc] at h

/-- The same for the narrow float. -/
theorem real_of_cmp16 {x : EReal} (h : Ideal.cmp .olt (max x (-x)) (Ideal.ofBits .bf16 0x7F80#16) = 1#1) : ∃ r : ℝ, x = (r : EReal) := by
  have e : Ideal.ofBits .bf16 0x7F80#16 = ⊤ := by simp [Ideal.ofBits, Ideal.ieee]
  rw [e] at h
  refine real_of_abs_lt ?_
  by_contra hc
  simp [Ideal.cmp, hc] at h

theorem div_real {y : ℝ} (hy : y ≠ 0) (x : ℝ) : Ideal.div (x : EReal) (y : EReal) = ((x / y : ℝ) : EReal) := by
  rw [Ideal.div_coe hy, ← EReal.coe_mul]; congr 1; ring

theorem rsqrt_real {x : ℝ} (hx : 0 < x) : Ideal.rsqrt (x : EReal) = (((Real.sqrt x)⁻¹ : ℝ) : EReal) := by
  rw [Ideal.rsqrt_coe, if_neg hx.not_gt, if_neg hx.ne']

/-- The norms' epsilon, the float nearest to a millionth. -/
def eps : ℝ := 8796093 / 2 ^ 43

theorem eps_pos : 0 < eps := by unfold eps; positivity

theorem bits_eps : Ideal.ofBits .f32 0x358637BD#32 = (eps : EReal) := by
  simp [Ideal.ofBits, Ideal.ieee, eps]; norm_num [zpow_neg]; rw [← EReal.coe_mul]; norm_num

theorem bits_2048 : Ideal.ofBits .f32 0x45000000#32 = ((2048 : ℝ) : EReal) := by
  simp [Ideal.ofBits, Ideal.ieee]; norm_num [← EReal.coe_mul]

theorem bits_neg_half : Ideal.ofBits .f32 0xBF000000#32 = ((-(1 / 2) : ℝ) : EReal) := by
  simp [Ideal.ofBits, Ideal.ieee]; norm_num [zpow_neg, ← EReal.coe_mul]

/-- The inverse root of a sum of squares over the row length is a real number. -/
theorem meansq_pos {ι : Type*} (s : Finset ι) (x : ι → ℝ) {n : ℝ} (hn : 0 < n) : 0 < (∑ k ∈ s, x k * x k) / n + eps :=
  add_pos_of_nonneg_of_pos (div_nonneg (Finset.sum_nonneg fun k _ => mul_self_nonneg _) hn.le) eps_pos

/-- The gradient of a root-mean-square norm at one element, the two ways to write it: with the normalised rows' mean
    taken off, and as the derivative of the mean square carried back through the inverse root. -/
theorem norm_grad {ι : Type*} (s : Finset ι) (x a : ι → ℝ) (q n xj aj : ℝ) (hq : 0 < q) (hn : n ≠ 0) :
    (√q)⁻¹ * (aj - xj * (√q)⁻¹ * ((∑ k ∈ s, a k * (x k * (√q)⁻¹)) / n))
      = aj * (√q)⁻¹ + xj * ((∑ k ∈ s, x k * a k) * (-(1 / 2) * ((√q)⁻¹ / q)) / n)
        + (∑ k ∈ s, x k * a k) * (-(1 / 2) * ((√q)⁻¹ / q)) / n * xj := by
  have e : (∑ k ∈ s, a k * (x k * (√q)⁻¹)) = (∑ k ∈ s, x k * a k) * (√q)⁻¹ := by
    rw [Finset.sum_mul]; exact Finset.sum_congr rfl fun k _ => by ring
  have h : (√q)⁻¹ / q = (√q)⁻¹ * ((√q)⁻¹ * (√q)⁻¹) := by
    rw [← mul_inv, Real.mul_self_sqrt hq.le, div_eq_mul_inv]
  rw [e, h]
  field_simp
  ring

/-! ## What stays real -/

theorem real_add {a b : EReal} (ha : ∃ r : ℝ, a = r) (hb : ∃ r : ℝ, b = r) : ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = r) (hb : ∃ r : ℝ, b = r) : ∃ r : ℝ, a * b = (r : EReal) := by
  obtain ⟨x, rfl⟩ := ha; obtain ⟨y, rfl⟩ := hb; exact ⟨x * y, (EReal.coe_mul x y).symm⟩

theorem real_sub {a b : EReal} (ha : ∃ r : ℝ, a = r) (hb : ∃ r : ℝ, b = r) : ∃ r : ℝ, a - b = (r : EReal) := by
  obtain ⟨x, rfl⟩ := ha; obtain ⟨y, rfl⟩ := hb; exact ⟨x - y, (EReal.coe_sub x y).symm⟩

theorem real_sum {n : ℕ} {f : Fin n → EReal} (h : ∀ k, ∃ r : ℝ, f k = r) : ∃ r : ℝ, (∑ k, f k) = (r : EReal) := by
  choose g hg using h
  exact ⟨∑ k, g k, by rw [← sum_coe]; exact Finset.sum_congr rfl fun k _ => hg k⟩

end Cert.Reals

end
-- ==== Proof.NormValue.lean ====
/-
  The gradient of a root-mean-square norm: what the blocked kernel leaves in its three result arrays.
-/
module

public import proofs.«01_k».proof.Proof.Reals
public import proofs.«01_k».proof.Proof.Gen.NormKernelIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormKernelIdeal.Value

open Cert.NormKernelIdeal Cert.NormKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The inverse root of row `r`'s mean square. -/
def rstd (x : Vec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- The gradient of the rows as the kernel computes it. -/
def DX (d x : Vec Ideal S4096x2048 .f32) (g : Vec Ideal S2048 .f32) (e : Vec Ideal S4096x2048 .f32) : Vec Ideal S4096x2048 .f32 := fun j =>
  e j + rstd x (j 0) * (d j * g (ix1 (j 1)) - x j * rstd x (j 0) *
    Ideal.div (∑ k : Fin 2048, d (ix2 (j 0) k) * g (ix1 k) * (x (ix2 (j 0) k) * rstd x (j 0))) (Ideal.ofBits .f32 0x45000000#32))

/-- The gain's gradient, one row. -/
def DG (d x : Vec Ideal S4096x2048 .f32) : Vec Ideal S1x2048 .f32 := fun j =>
  ∑ r : Fin 4096, d (ix2 r (j 1)) * (x (ix2 r (j 1)) * rstd x r)

theorem point4 (c : Dev nD) (t : Fin cfg0.N) (y : S256x2048.Idx) (j : S4096x2048.Idx) (h0 : (j 0 : ℕ) = t.val * 256 + y 0) (h1 : (j 1 : ℕ) = y 1) :
    k0_pay1 (F := Ideal) (iblk m c 3 t) (k0_pay7 (F := Ideal) (iblk m c 1 t) (iblk m c 0 t) (iblk m c 2 t)) y
      = DX (m ((c : Thread nD τ).loc main_arg0)) (m ((c : Thread nD τ).loc main_arg1)) (m ((c : Thread nD τ).loc main_arg2)) (m ((c : Thread nD τ).loc main_arg3)) j := by
  pointwise [k0_pay1, k0_pay7, k0_pay5, k0_pay4, DX, rstd]
  blk_point [iblk, V, idx t]

theorem final4 (c : Dev nD) : (dats m 0 c).arrAt 4 cfg0.N = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 16 = 0
  · rw [outsAt0_A m c t h]
    dsimp only
    frame_out
    refine point4 m c t y _ ?_ ?_ <;> blk_simp [idx t]
  · rw [outsAt0_B m c t h]
    frame_out
    refine point4 m c t y _ ?_ ?_ <;> blk_simp [idx t]

theorem final5 (c : Dev nD) : (dats m 0 c).arrAt 5 cfg0.N = (DX (m ((c : Thread nD τ).loc main_arg0)) (m ((c : Thread nD τ).loc main_arg1)) (m ((c : Thread nD τ).loc main_arg2)) (m ((c : Thread nD τ).loc main_arg3)) : S4096x2048.Idx → EReal) := by
  refine (dats m 0 c).arrAt_eq_of_covers 5 _ (by decide +kernel) fun t hf y => ?_
  blk_simp
  rw [after0_5]
  by_cases h : t.val % 16 = 0
  · rw [outsAt0_A m c t h]
    dsimp only
    frame_out
    refine Eq.trans ?_ (point4 m c t y _ ?_ ?_)
    · rfl
    all_goals blk_simp [idx t]
  · rw [outsAt0_B m c t h]
    frame_out
    refine Eq.trans ?_ (point4 m c t y _ ?_ ?_)
    · rfl
    all_goals blk_simp [idx t]

theorem zero6 (j : S1x2048.Idx) : k0_pay3 (F := Ideal) j = 0 := by
  pointwise [k0_pay3]

theorem pay6 (x d : Vec Ideal S256x2048 .f32) (a : Vec Ideal S1x2048 .f32) (j : S1x2048.Idx) : k0_pay6 (F := Ideal) x d a j
    = a j + ∑ r : Fin 256, d (ix2 r (j 1)) * (x (ix2 r (j 1)) * Ideal.rsqrt (Ideal.div (∑ k : Fin 2048, x (ix2 r k) * x (ix2 r k)) (Ideal.ofBits .f32 0x45000000#32) + Ideal.ofBits .f32 0x358637BD#32)) := by
  pointwise [k0_pay6, k0_pay5, k0_pay4]

theorem final6 (c : Dev nD) : (dats m 0 c).arrAt 6 cfg0.N = DG (m ((c : Thread nD τ).loc main_arg0)) (m ((c : Thread nD τ).loc main_arg1)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by rw [outsAt0_A m c t h]; dsimp only; frame_out; rw [pay6, zero6])
    (fun t h j => by rw [outsAt0_B m c t h]; frame_out; rw [pay6])
    (le_of_eq N_0) t0_15 rfl j, zero_add]
  unfold DG rstd
  refine Fin.sum_mul_add_congr fun t k hl => ?_
  blk_point [iblk, V, idx t]

end Cert.NormKernelIdeal.Value

end
-- ==== Proof.NormPair.lean ====
/-
  The gradient of a root-mean-square norm: the reference's derivative is what the blocked kernel leaves.
-/
module

public import proofs.«01_k».proof.Defs
public import proofs.«01_k».proof.Proof.NormValue
public import Idealize.ShloMosaic.Lib.Claim

@[expose] public section

set_option maxRecDepth 16384

noncomputable section

open Idealize.ShloMosaic Idealize.ShloMosaic.TcCoe Idealize.SL.Sem

namespace Cert.NormRefIdeal.Value

open Cert.NormRefIdeal Cert.NormRefIdeal.Gen Cert.NormRefIdeal.Read

open Cert.NormKernelIdeal.Value (rstd DX DG)

/-- The reference's gain gradient is the sum over all rows: no finiteness is asked for. -/
theorem ref38 (x0 x1 : Vec Ideal S4096x2048 .f32) (j : S1x2048.Idx) : val_main_v38 (F := Ideal) x0 x1 j = DG x0 x1 j := by
  pointwise [val_main_v38, val_main_v21, val_main_v18, val_main_v17, val_main_v16, val_main_v12, val_main_v11, val_main_v7, val_main_v6, val_main_v5,
    val_main_v4, val_main_v3, val_main_v2, val_main_v1, val_main_v0, val_main_cst, val_main_cst_0, val_main_cst_1, val_main_cst_3, val_main_cst_4, DG, rstd]
  simp only [Ideal.ofBits_zero_f32, zero_add, Finset.sum_const, Finset.card_univ, Fintype.card_fin, one_smul]
  exact Finset.sum_congr rfl fun _ _ => mul_comm _ _

theorem ref36 (d x : S4096x2048.Idx → ℝ) (g : S2048.Idx → ℝ) (x3 : Vec Ideal S4096x2048 .f32) (j : S4096x2048.Idx) :
    val_main_v36 (F := Ideal) (fun i => (d i : EReal)) (fun i => (x i : EReal)) (fun i => (g i : EReal)) x3 j
      = DX (fun i => (d i : EReal)) (fun i => (x i : EReal)) (fun i => (g i : EReal)) x3 j := by
  pointwise [val_main_v36, val_main_v35, val_main_v34, val_main_v33, val_main_v32, val_main_v31, val_main_v30, val_main_v29, val_main_v28, val_main_v27,
    val_main_v26, val_main_v25, val_main_v24, val_main_v23, val_main_v22, val_main_v20, val_main_v19, val_main_v15, val_main_v14, val_main_v13, val_main_v10,
    val_main_v9, val_main_v8, val_main_v7, val_main_v6, val_main_v5, val_main_v4, val_main_v3, val_main_v2, val_main_v1, val_main_v0, val_main_cst,
    val_main_cst_0, val_main_cst_1, val_main_cst_2, val_main_cst_5, val_main_cst_6, val_main_cst_7, DX, rstd]
  have h := Reals.meansq_pos Finset.univ (fun k : Fin 2048 => x (ix2 (j 0) k)) (n := 2048) (by norm_num)
  simp only [Ideal.ofBits_zero_f32, zero_add, Finset.sum_const, Finset.card_univ, Fintype.card_fin, one_smul, Reals.bits_2048, Reals.bits_eps,
    Reals.bits_neg_half, ← EReal.coe_mul, Reals.sum_coe, Reals.div_real (by norm_num : (2048 : ℝ) ≠ 0), ← EReal.coe_add, Reals.rsqrt_real h,
    Reals.div_real h.ne', ← EReal.coe_sub]
  rw [Reals.norm_grad Finset.univ _ (fun k : Fin 2048 => d (ix2 (j 0) k) * g (ix1 k)) _ _ _ _ h (by norm_num), EReal.coe_add, EReal.coe_add]
  simp only [add_assoc]

end Cert.NormRefIdeal.Value

namespace Cert.Proof.Norm

/-- A finite array is an array of real numbers. -/
theorem lift {s : Shape} {x : Vec Ideal s .f32} (h : ∀ i, ∃ r : ℝ, x i = (r : EReal)) : ∃ f : s.Idx → ℝ, x = fun i => (f i : EReal) :=
  ⟨fun i => (h i).choose, funext fun i => (h i).choose_spec⟩

/-- The stated side conditions of the precondition hold. -/
instance pre_facts : Cert.Pre_norm_finite.Facts where
  bcast_S_S4096x2048 := by decide
  bcast_S_S2048 := by decide

theorem pre_real {d x : Vec Ideal Cert.NormRefIdeal.S4096x2048 .f32} {g : Vec Ideal Cert.NormRefIdeal.S2048 .f32} {e : Vec Ideal Cert.NormRefIdeal.S4096x2048 .f32}
    (h : (Cert.Pre_norm_finite.fn (F := Ideal) d x g e).1 = (fun _ => 1#1) ∧ (Cert.Pre_norm_finite.fn (F := Ideal) d x g e).2.1 = (fun _ => 1#1)
      ∧ (Cert.Pre_norm_finite.fn (F := Ideal) d x g e).2.2 = (fun _ => 1#1)) :
    (∃ f : _ → ℝ, d = fun i => (f i : EReal)) ∧ (∃ f : _ → ℝ, x = fun i => (f i : EReal)) ∧ (∃ f : _ → ℝ, g = fun i => (f i : EReal)) := by
  obtain ⟨h0, h1, h2⟩ := h
  exact ⟨lift fun i => Reals.real_of_cmp (congrFun h0 i), lift fun i => Reals.real_of_cmp (congrFun h1 i), lift fun i => Reals.real_of_cmp (congrFun h2 i)⟩

open Cert.NormKernelIdeal Cert.NormKernelIdeal.Value in
theorem rows (m : (ℓ : Loc nD τ sig) → Buf (Elt Ideal) ℓ) (hpre : Cert.Pre_NormKernelIdeal_norm_finite m) (c : Dev nD) :
    Cert.NormRefIdeal.Read.val_main_v36 (F := Ideal) (m ((c.tc : Thread nD τ).loc main_arg0)) (m ((c.tc : Thread nD τ).loc main_arg1))
      (m ((c.tc : Thread nD τ).loc main_arg2)) (m ((c.tc : Thread nD τ).loc main_arg3))
      = DX (m ((c : Thread nD τ).loc main_arg0)) (m ((c : Thread nD τ).loc main_arg1)) (m ((c : Thread nD τ).loc main_arg2)) (m ((c : Thread nD τ).loc main_arg3)) := by
  obtain ⟨⟨d, hd⟩, ⟨x, hx⟩, ⟨g, hg⟩⟩ := pre_real (hpre c)
  rw [hd, hx, hg]
  exact funext fun j => Cert.NormRefIdeal.Value.ref36 d x g _ j

theorem algebraic : Cert.algebraic_NormKernelIdeal_NormRefIdeal_pre_norm_finite := by
  pair_intro
  · run_from Cert.NormKernelIdeal.Value.run_blocks m g
  · run_from Cert.NormRefIdeal.Value.run m' g'
    · rw [Cert.NormKernelIdeal.Value.final4 m c]
      exact (Cert.NormRefIdeal.Read.val_main_v36_eq _ _ _ _).trans (rows m hpre c)
    · rw [Cert.NormKernelIdeal.Value.final5 m c]
      exact (Cert.NormRefIdeal.Read.val_main_v37_eq _ _ _ _).trans (rows m hpre c)
    · rw [Cert.NormKernelIdeal.Value.final6 m c]
      exact (Cert.NormRefIdeal.Read.val_main_v38_eq _ _).trans (funext fun j => Cert.NormRefIdeal.Value.ref38 _ _ j)

theorem frame_ref : Cert.quiescent_NormRefIdeal := fun m g _ =>
  (θ_run Cert.NormRefIdeal.defs _ _).mono (fun r h => ⟨fun c => (h c).2.2.2, sem_eq_zero_of_no_sems (by decide) r.2⟩)
    (Cert.NormRefIdeal.Value.run (F := Ideal) m g)

end Cert.Proof.Norm

end
-- ==== Proof.StickRun.lean ====
/- The stick-breaking backward call, one grid point: what the body leaves in the row blocks of the key and value
   gradients, in the query gradient's accumulator and in the carried row sums, in closed terms of what it read — a
   diagonal block of keys and an earlier block of keys apart — and that the body, run at a point, leaves exactly that. -/
module

public import proofs.«01_k».proof.Proof.Gen.StickKernelIdeal.Skeleton
public import proofs.«01_k».proof.Proof.Gen.StickKernelIdeal.Launch
public import Idealize.ShloMosaic.Lib.Pipeline.Kit
public import Idealize.ShloMosaic.Lib.Pipeline.FrameBody
public import Idealize.ShloMosaic.Lib.VecWindow
public import Idealize.ShloMosaic.Lib.Writes
public import Idealize.ShloMosaic.Lib.Exec
public import Idealize.ShloMosaic.Lib.Tactic

@[expose] public section

set_option maxRecDepth 16384
set_option Elab.async false

noncomputable section

namespace Cert.Proof.Stick

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What a point reads: the query, key and value blocks, the cotangent's block, the matrix of ones above the diagonal,
    the forward result's block. -/
structure Ins (F : FTy → Type) where
  q : Vec F S512x128 .bf16
  k : Vec F S512x128 .bf16
  v : Vec F S512x128 .bf16
  g : Vec F S512x128 .bf16
  M : Vec F S128x128 .bf16
  o : Vec F S512x128 .f32

/-- What a point carries to the next: the query gradient so far, the two row sums over later keys, and the row sum of
    cotangent times forward result. -/
structure Car (F : FTy → Type) where
  acc : Vec F S512x128 .f32
  ra : Vec F S512x1 .f32
  rp : Vec F S512x1 .f32
  dl : Vec F S512x1 .f32

/-! ## A diagonal block -/

section Diag
variable (x : Ins F)

def dRa : FVec F S512x1 .f32 := k0_pay19 (k0_pay10 x.q x.k) (k0_pay11 x.M) (k0_pay12 x.q x.k) (k0_pay13 x.q x.k) (k0_pay15 x.q x.k x.M)
/-- the weights, rounded -/
def dW : FVec F S512x512 .bf16 := k0_pay22 (k0_pay6 x.q x.k) (k0_pay8 x.q x.k) k0_pay9 (k0_pay10 x.q x.k) (k0_pay11 x.M) (k0_pay12 x.q x.k) (k0_pay13 x.q x.k) (k0_pay14 x.q x.k x.M) (k0_pay15 x.q x.k x.M)
/-- the weights -/
def dWf : FVec F S512x512 .f32 := k0_pay23 (k0_pay6 x.q x.k) (k0_pay8 x.q x.k) k0_pay9 (k0_pay10 x.q x.k) (k0_pay11 x.M) (k0_pay12 x.q x.k) (k0_pay13 x.q x.k) (k0_pay14 x.q x.k x.M) (k0_pay15 x.q x.k x.M)
/-- the row block of the key gradient, from what stood there -/
def dDk (X : Vec F S512x128 .f32) : FVec F S512x128 .f32 :=
  k0_pay36 x.q (k0_pay6 x.q x.k) (k0_pay7 x.q x.k) k0_pay9 (k0_pay20 x.g x.o) (k0_pay24 x.v x.g (dWf x)) (k0_pay33 x.v x.g (dWf x) x.M) (k0_pay34 (F := F)) X
/-- the row block of the value gradient, from what stood there -/
def dDv (X : Vec F S512x128 .f32) : FVec F S512x128 .f32 := k0_pay37 x.g (dW x) X
def dCar : Car F where
  acc := k0_pay38 x.k (k0_pay6 x.q x.k) (k0_pay7 x.q x.k) k0_pay9 (k0_pay20 x.g x.o) (k0_pay24 x.v x.g (dWf x)) (k0_pay33 x.v x.g (dWf x) x.M) (k0_pay34 (F := F))
  ra := k0_pay3 (dRa x)
  rp := k0_pay4 (k0_pay32 x.v x.g (dWf x) x.M)
  dl := k0_pay21 x.g x.o

end Diag

/-! ## A block of earlier keys -/

section Off
variable (x : Ins F) (c : Car F)

def oRa : FVec F S512x1 .f32 := k0_pay53 (k0_pay42 x.q x.k) (k0_pay43 x.M) (k0_pay44 x.q x.k) (k0_pay45 x.q x.k) (k0_pay47 x.q x.k x.M) (k0_pay48 x.q x.k x.M) (k0_pay49 x.q x.k x.M)
/-- the weights, rounded -/
def oW : FVec F S512x512 .bf16 := k0_pay54 (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra
/-- weight times the cotangent's product with the values -/
def oPm : FVec F S512x512 .f32 := k0_pay55 x.v x.g (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra
def o57 : FVec F S512x512 .bf16 := k0_pay57 x.v x.g (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra
def o58 : FVec F S512x512 .bf16 := k0_pay58 x.v x.g (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra
def o59 : FVec F S512x128 .f32 := k0_pay59 x.v x.g (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra x.M
def o60 : FVec F S512x128 .bf16 := k0_pay60 x.v x.g (k0_pay39 x.q x.k) (k0_pay41 x.q x.k) (k0_pay42 x.q x.k) (k0_pay43 x.M) (k0_pay44 x.q x.k) (k0_pay45 x.q x.k) (k0_pay46 x.q x.k x.M) (k0_pay47 x.q x.k x.M) (k0_pay48 x.q x.k x.M) (k0_pay49 x.q x.k x.M) c.ra
def oRp : FVec F S512x1 .f32 := k0_pay65 (oPm x c) (k0_pay56 x.M) (o57 x c) (o58 x c) (o59 x c) (o60 x c) (constant S512x128 .f32 0x00000000#32)
/-- what the gradient of a weight's logarithm is taken away from, row by row and key by key -/
def oS : FVec F S512x512 .f32 := k0_pay67 c.dl (oPm x c) (k0_pay56 x.M) (o57 x c) (o58 x c) (o59 x c) (o60 x c) (constant S512x128 .f32 0x00000000#32) c.rp
/-- the row block of the key gradient, from what stood there -/
def oDk (X : Vec F S512x128 .f32) : FVec F S512x128 .f32 := k0_pay69 x.q (oPm x c) (k0_pay66 (k0_pay39 x.q x.k) (k0_pay40 x.q x.k)) (oS x c) X
/-- the row block of the value gradient, from what stood there -/
def oDv (X : Vec F S512x128 .f32) : FVec F S512x128 .f32 := k0_pay70 x.g (oW x c) X
def oCar : Car F where
  acc := k0_pay71 x.k (oPm x c) (k0_pay66 (k0_pay39 x.q x.k) (k0_pay40 x.q x.k)) (oS x c) c.acc
  ra := k0_pay72 (oRa x) c.ra
  rp := k0_pay5 (k0_pay73 (oRp x c) c.rp)
  dl := c.dl

end Off

/-! ## The runs -/

/-- Rows `off` of `X` replaced by a function of what they held. -/
def rows (off : Fin 2 → ℕ) (inb : ∀ a, off a + S512x128.size a ≤ S4096x128.size a) (f : Vec F S512x128 .f32 → FVec F S512x128 .f32)
    (X : S4096x128.Idx → Elt F .f32) : S4096x128.Idx → Elt F .f32 :=
  VecWindow.put X off S512x128.size (f (VecWindow.window X off S512x128.size inb))

/-- The word the body reads of a table at a point. -/
abbrev word (arg : Memref sig .tc .smem S36 .i32) (i : grid0.Coords) {c : Dev nD} (T : Buf (Elt F) (arg.view.loc (c : Thread nD τ))) : BitVec 32 :=
  View.readAt (Elt F) arg.view (Rect.unit (s := S36) (k0_off1 i) S1.size (k0_off1_inb i)).toLoadRect T (Shape.Idx.first (numel1_S1.symm ▸ Nat.one_pos))

theorem readAt_512x128 {e : EltTy} {sp : Space} (v : View sig .tc sp S512x128 e) (f : v.ty.Contents (Elt F)) (inb : ∀ a, ![0, 0] a + ![512, 128] a ≤ S512x128.size a) :
    v.readAt (Elt F) (Rect.unit ![0, 0] ![512, 128] inb).toLoadRect f = v.read (Elt F) f := View.readAt_full v f inb
theorem readAt_128x128 {e : EltTy} {sp : Space} (v : View sig .tc sp S128x128 e) (f : v.ty.Contents (Elt F)) (inb : ∀ a, ![0, 0] a + ![128, 128] a ≤ S128x128.size a) :
    v.readAt (Elt F) (Rect.unit ![0, 0] ![128, 128] inb).toLoadRect f = v.read (Elt F) f := View.readAt_full v f inb
theorem readAt_512x1 {e : EltTy} {sp : Space} (v : View sig .tc sp S512x1 e) (f : v.ty.Contents (Elt F)) (inb : ∀ a, ![0, 0] a + ![512, 1] a ≤ S512x1.size a) :
    v.readAt (Elt F) (Rect.unit ![0, 0] ![512, 1] inb).toLoadRect f = v.read (Elt F) f := View.readAt_full v f inb

section Run
variable (c : Dev nD) (i : grid0.Coords)
  (arg2 : Memref sig .tc .smem S36 .i32) (harg2 : arg2.IsWhole) (arg3 : Memref sig .tc .smem S36 .i32) (harg3 : arg3.IsWhole)
  (arg4 : Memref sig .tc .vmem S512x128 .bf16) (harg4 : arg4.IsWhole) (arg5 : Memref sig .tc .vmem S512x128 .bf16) (harg5 : arg5.IsWhole)
  (arg6 : Memref sig .tc .vmem S512x128 .bf16) (harg6 : arg6.IsWhole) (arg7 : Memref sig .tc .vmem S128x128 .bf16) (harg7 : arg7.IsWhole)
  (arg8 : Memref sig .tc .vmem S512x128 .f32) (harg8 : arg8.IsWhole) (arg9 : Memref sig .tc .vmem S512x128 .bf16) (harg9 : arg9.IsWhole)
  (arg10 : Memref sig .tc .vmem S512x128 .f32) (harg10 : arg10.IsWhole) (arg11 : Memref sig .tc .vmem S4096x128 .f32) (harg11 : arg11.IsWhole)
  (arg12 : Memref sig .tc .vmem S4096x128 .f32) (harg12 : arg12.IsWhole) (arg13 : Memref sig .tc .vmem S512x128 .f32) (harg13 : arg13.IsWhole)
  (arg14 : Memref sig .tc .vmem S512x1 .f32) (harg14 : arg14.IsWhole) (arg15 : Memref sig .tc .vmem S512x1 .f32) (harg15 : arg15.IsWhole)
  (arg16 : Memref sig .tc .vmem S512x1 .f32) (harg16 : arg16.IsWhole)
  (T0 : Buf (Elt F) (arg2.view.loc (c : Thread nD τ))) (T1 : Buf (Elt F) (arg3.view.loc (c : Thread nD τ)))

/-- The buffers a point holds. -/
def held (x : Ins F) (dq : Vec F S512x128 .f32) (dk dv : Vec F S4096x128 .f32) (a : Car F) : sProp 𝕄 :=
  iprop((arg2.view.loc (c : Thread nD τ) ↦{fullShare.right} T0) ∗ (arg3.view.loc (c : Thread nD τ) ↦{fullShare.right} T1)
    ∗ owns (c : Thread nD τ) arg4 fullShare x.q ∗ owns (c : Thread nD τ) arg5 fullShare x.k ∗ owns (c : Thread nD τ) arg6 fullShare x.v
    ∗ owns (c : Thread nD τ) arg7 fullShare x.M ∗ owns (c : Thread nD τ) arg8 fullShare x.o ∗ owns (c : Thread nD τ) arg9 fullShare x.g
    ∗ owns (c : Thread nD τ) arg10 fullShare dq ∗ owns (c : Thread nD τ) arg11 fullShare dk ∗ owns (c : Thread nD τ) arg12 fullShare dv
    ∗ owns (c : Thread nD τ) arg13 fullShare a.acc ∗ owns (c : Thread nD τ) arg14 fullShare a.ra ∗ owns (c : Thread nD τ) arg15 fullShare a.rp
    ∗ owns (c : Thread nD τ) arg16 fullShare a.dl)

set_option maxHeartbeats 4000000 in
/-- An earlier block of keys, not the first. -/
theorem run_off (h0 : k0_chk1 (word arg2 i T0) (word arg3 i T1)) (h1 : ¬ k0_cond1 i = 1#1) (h2 : ¬ k0_cond2 (word arg2 i T0) (word arg3 i T1) = 1#1)
    (h3 : k0_cond3 (word arg2 i T0) (word arg3 i T1) = 1#1) (h4 : ¬ k0_cond4 (word arg3 i T1) = 1#1)
    (x : Ins F) (dq : Vec F S512x128 .f32) (dk dv : Vec F S4096x128 .f32) (a : Car F) (K : PUnit → sProp 𝕄) :
    iprop(held c arg2 arg3 arg4 arg5 arg6 arg7 arg8 arg9 arg10 arg11 arg12 arg13 arg14 arg15 arg16 T0 T1 x dq dk dv a
        ∗ (held c arg2 arg3 arg4 arg5 arg6 arg7 arg8 arg9 arg10 arg11 arg12 arg13 arg14 arg15 arg16 T0 T1 x (dq)
            (rows (k0_off3 (word arg3 i T1)) (k0_off3_inb _ _ h0 h3) (oDk x a) (dk)) (rows (k0_off3 (word arg3 i T1)) (k0_off3_inb _ _ h0 h3) (oDv x a) (dv)) (oCar x a) -∗ K ⟨⟩))
      ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held owns
  rw [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  sl_exec! (disch := first | exact h0 | exact h1 | exact h2 | exact h3 | exact h4)
  sl_step
  iapply Hk
  isplitl [HT0]; · iexact HT0
  isplitl [HT1]; · iexact HT1
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      refine (View.read_writes_cons_put _ _ _ _ [] rfl).trans ?_
      rw [View.writes_nil, hf11, View.readAt_unit _ _ _ rfl (k0_off3_inb _ _ h0 h3), hf11]
      sl_unfold_run_names
      simp only [View.readAt_full, readAt_512x128, readAt_128x128, readAt_512x1, View.readCov_full, hf4, hf5, hf6, hf7, hf8, hf9, hf13, hf14, hf15, hf16]
      rfl
  isplitl [H12]
  · iexists _; isplitr [H12]; swap
    · iexact H12
    · ipureintro
      refine (View.read_writes_cons_put _ _ _ _ [] rfl).trans ?_
      rw [View.writes_nil, hf12, View.readAt_unit _ _ _ rfl (k0_off3_inb _ _ h0 h3), hf12]
      sl_unfold_run_names
      simp only [View.readAt_full, readAt_512x128, readAt_128x128, readAt_512x1, View.readCov_full, hf4, hf5, hf6, hf7, hf8, hf9, hf13, hf14, hf15, hf16]
      rfl
  isplitl [H13]
  · iexists _; isplitr [H13]; swap
    · iexact H13
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H14]
  · iexists _; isplitr [H14]; swap
    · iexact H14
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H15]
  · iexists _; isplitr [H15]; swap
    · iexact H15
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  · iexists _; isplitr [H16]; swap
    · iexact H16
    · ipureintro
      exact hf16

set_option maxHeartbeats 4000000 in
/-- The first block of keys, below the diagonal. -/
theorem run_last (h0 : k0_chk1 (word arg2 i T0) (word arg3 i T1)) (h1 : ¬ k0_cond1 i = 1#1) (h2 : ¬ k0_cond2 (word arg2 i T0) (word arg3 i T1) = 1#1)
    (h3 : k0_cond3 (word arg2 i T0) (word arg3 i T1) = 1#1) (h4 : k0_cond4 (word arg3 i T1) = 1#1)
    (x : Ins F) (dq : Vec F S512x128 .f32) (dk dv : Vec F S4096x128 .f32) (a : Car F) (K : PUnit → sProp 𝕄) :
    iprop(held c arg2 arg3 arg4 arg5 arg6 arg7 arg8 arg9 arg10 arg11 arg12 arg13 arg14 arg15 arg16 T0 T1 x dq dk dv a
        ∗ (held c arg2 arg3 arg4 arg5 arg6 arg7 arg8 arg9 arg10 arg11 arg12 arg13 arg14 arg15 arg16 T0 T1 x ((oCar x a).acc)
            (rows (k0_off3 (word arg3 i T1)) (k0_off3_inb _ _ h0 h3) (oDk x a) (dk)) (rows (k0_off3 (word arg3 i T1)) (k0_off3_inb _ _ h0 h3) (oDv x a) (dv)) (oCar x a) -∗ K ⟨⟩))
      ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held owns
  rw [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  sl_exec! (disch := first | exact h0 | exact h1 | exact h2 | exact h3 | exact h4)
  sl_step
  iapply Hk
  isplitl [HT0]; · iexact HT0
  isplitl [HT1]; · iexact HT1
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      exact View.readCov_full (Val := Elt F) arg13.view _ _ _ _
  isplitl [H11]
  · iexists _; isplitr [H11]; swap
    · iexact H11
    · ipureintro
      refine (View.read_writes_cons_put _ _ _ _ [] rfl).trans ?_
      rw [View.writes_nil, hf11, View.readAt_unit _ _ _ rfl (k0_off3_inb _ _ h0 h3), hf11]
      sl_unfold_run_names
      simp only [View.readAt_full, readAt_512x128, readAt_128x128, readAt_512x1, View.readCov_full, hf4, hf5, hf6, hf7, hf8, hf9, hf13, hf14, hf15, hf16]
      rfl
  isplitl [H12]
  · iexists _; isplitr [H12]; swap
    · iexact H12
    · ipureintro
      refine (View.read_writes_cons_put _ _ _ _ [] rfl).trans ?_
      rw [View.writes_nil, hf12, View.readAt_unit _ _ _ rfl (k0_off3_inb _ _ h0 h3), hf12]
      sl_unfold_run_names
      simp only [View.readAt_full, readAt_512x128, readAt_128x128, readAt_512x1, View.readCov_full, hf4, hf5, hf6, hf7, hf8, hf9, hf13, hf14, hf15, hf16]
      rfl
  isplitl [H13]
  · iexists _; isplitr [H13]; swap
    · iexact H13
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H14]
  · iexists _; isplitr [H14]; swap
    · iexact H14
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H15]
  · iexists _; isplitr [H15]; swap
    · iexact H15
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  · iexists _; isplitr [H16]; swap
    · iexact H16
    · ipureintro
      exact hf16

set_option maxHeartbeats 4000000 in
/-- A diagonal block that is not the first of its head. -/
theorem run_diag (h0 : k0_chk1 (word arg2 i T0) (word arg3 i T1)) (h1 : ¬ k0_cond1 i = 1#1) (h2 : k0_cond2 (word arg2 i T0) (word arg3 i T1) = 1#1)
    (h3 : ¬ k0_cond3 (word arg2 i T0) (word arg3 i T1) = 1#1) (h4 : ¬ k0_cond4 (word arg3 i T1) = 1#1)
    (x : Ins F) (dq : Vec F S512x128 .f32) (dk dv : Vec F S4096x128 .f32) (a : Car F) (K : PUnit → sProp 𝕄) :
    iprop(held c arg2 arg3 arg4 arg5 arg6 arg7 arg8 arg9 arg10 arg11 arg12 arg13 arg14 arg15 arg16 T0 T1 x dq dk dv a
        ∗ (held c arg2 arg3 arg4 arg5 arg6 arg7 arg8 arg9 arg10 arg11 arg12 arg13 arg14 arg15 arg16 T0 T1 x (dq)
            (rows (k0_off2 (word arg3 i T1)) (k0_off2_inb _ _ h0 h2) (dDk x) (dk)) (rows (k0_off2 (word arg3 i T1)) (k0_off2_inb _ _ h0 h2) (dDv x) (dv)) (dCar x) -∗ K ⟨⟩))
      ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held owns
  rw [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  sl_exec! (disch := first | exact h0 | exact h1 | exact h2 | exact h3 | exact h4)
  sl_step
  iapply Hk
  isplitl [HT0]; · iexact HT0
  isplitl [HT1]; · iexact HT1
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      refine (View.read_writes_cons_put _ _ _ _ [] rfl).trans ?_
      rw [View.writes_nil, hf11, View.readAt_unit _ _ _ rfl (k0_off2_inb _ _ h0 h2), hf11]
      sl_unfold_run_names
      simp only [View.readAt_full, readAt_512x128, readAt_128x128, readAt_512x1, View.readCov_full, hf4, hf5, hf6, hf7, hf8, hf9, hf13, hf14, hf15, hf16]
      rfl
  isplitl [H12]
  · iexists _; isplitr [H12]; swap
    · iexact H12
    · ipureintro
      refine (View.read_writes_cons_put _ _ _ _ [] rfl).trans ?_
      rw [View.writes_nil, hf12, View.readAt_unit _ _ _ rfl (k0_off2_inb _ _ h0 h2), hf12]
      sl_unfold_run_names
      simp only [View.readAt_full, readAt_512x128, readAt_128x128, readAt_512x1, View.readCov_full, hf4, hf5, hf6, hf7, hf8, hf9, hf13, hf14, hf15, hf16]
      rfl
  isplitl [H13]
  · iexists _; isplitr [H13]; swap
    · iexact H13
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H14]
  · iexists _; isplitr [H14]; swap
    · iexact H14
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H15]
  · iexists _; isplitr [H15]; swap
    · iexact H15
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  · iexists _; isplitr [H16]; swap
    · iexact H16
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl

set_option maxHeartbeats 4000000 in
/-- The first block of a head. -/
theorem run_first (h0 : k0_chk1 (word arg2 i T0) (word arg3 i T1)) (h1 : k0_cond1 i = 1#1) (h2 : k0_cond2 (word arg2 i T0) (word arg3 i T1) = 1#1)
    (h3 : ¬ k0_cond3 (word arg2 i T0) (word arg3 i T1) = 1#1) (h4 : k0_cond4 (word arg3 i T1) = 1#1)
    (x : Ins F) (dq : Vec F S512x128 .f32) (dk dv : Vec F S4096x128 .f32) (a : Car F) (K : PUnit → sProp 𝕄) :
    iprop(held c arg2 arg3 arg4 arg5 arg6 arg7 arg8 arg9 arg10 arg11 arg12 arg13 arg14 arg15 arg16 T0 T1 x dq dk dv a
        ∗ (held c arg2 arg3 arg4 arg5 arg6 arg7 arg8 arg9 arg10 arg11 arg12 arg13 arg14 arg15 arg16 T0 T1 x ((dCar x).acc)
            (rows (k0_off2 (word arg3 i T1)) (k0_off2_inb _ _ h0 h2) (dDk x) (k0_pay1 (F := F))) (rows (k0_off2 (word arg3 i T1)) (k0_off2_inb _ _ h0 h2) (dDv x) (k0_pay2 (F := F))) (dCar x) -∗ K ⟨⟩))
      ⊢ wp frame (wpE (defs₀ (F := F)) Variants.none c none) Set.univ (cc0_sb_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold held owns
  rw [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  iintro ⟨⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  sl_exec! (disch := first | exact h0 | exact h1 | exact h2 | exact h3 | exact h4)
  sl_step
  iapply Hk
  isplitl [HT0]; · iexact HT0
  isplitl [HT1]; · iexact HT1
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      exact View.readCov_full (Val := Elt F) arg13.view _ _ _ _
  isplitl [H11]
  · iexists _; isplitr [H11]; swap
    · iexact H11
    · ipureintro
      refine (View.read_writes_cons_put _ _ _ _ _ rfl).trans ?_
      have e : arg11.view.read (Elt F) (arg11.view.writes (Elt F) arg11.view.junk run_first.sl.H11_1) = k0_pay1 (F := F) := by
        unfold run_first.sl.H11_1; exact View.read_writes_full _ _ _ _ _
      rw [View.readAt_unit _ _ _ rfl (k0_off2_inb _ _ h0 h2), e]
      sl_unfold_run_names
      simp only [View.readAt_full, readAt_512x128, readAt_128x128, readAt_512x1, View.readCov_full, hf4, hf5, hf6, hf7, hf8, hf9, hf13, hf14, hf15, hf16]
      rfl
  isplitl [H12]
  · iexists _; isplitr [H12]; swap
    · iexact H12
    · ipureintro
      refine (View.read_writes_cons_put _ _ _ _ _ rfl).trans ?_
      have e : arg12.view.read (Elt F) (arg12.view.writes (Elt F) arg12.view.junk run_first.sl.H12_1) = k0_pay2 (F := F) := by
        unfold run_first.sl.H12_1; exact View.read_writes_full _ _ _ _ _
      rw [View.readAt_unit _ _ _ rfl (k0_off2_inb _ _ h0 h2), e]
      sl_unfold_run_names
      simp only [View.readAt_full, readAt_512x128, readAt_128x128, readAt_512x1, View.readCov_full, hf4, hf5, hf6, hf7, hf8, hf9, hf13, hf14, hf15, hf16]
      rfl
  isplitl [H13]
  · iexists _; isplitr [H13]; swap
    · iexact H13
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H14]
  · iexists _; isplitr [H14]; swap
    · iexact H14
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  isplitl [H15]
  · iexists _; isplitr [H15]; swap
    · iexact H15
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl
  · iexists _; isplitr [H16]; swap
    · iexact H16
    · ipureintro
      sl_unfold_run_names
      refine (View.read_writes_full _ _ _ _ _).trans ?_
      simp only [View.readAt_full, readAt_512x128, readAt_128x128, readAt_512x1, View.readCov_full, hf4, hf5, hf6, hf7, hf8, hf9, hf13, hf14, hf15, hf16]
      rfl

end Run

end Cert.Proof.Stick
end
-- ==== Proof.StickTables.lean ====
/- The stick-breaking backward call's tables: the pairs of a query block and a key block the grid walks, and what the
   pipeline does at each point because of them. -/
module

public import proofs.«01_k».proof.Proof.StickRun
public import Idealize.ShloMosaic.Lib.Pipeline.TableIdle
public import Idealize.ShloMosaic.Lib.Affine

@[expose] public section

set_option maxRecDepth 16384
set_option Elab.async false

noncomputable section

namespace Cert.Proof.Stick

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables -/

/-- The query block of each pair, the key block of each pair, in the order the grid walks them. -/
def tab0 : S36.Idx → BitVec 32 := fun i => lit0 (S36.rowMajor i)
def tab1 : S36.Idx → BitVec 32 := fun i => lit1 (S36.rowMajor i)

def tabs : pre0.Contents (Elt F) := fun | ⟨0, _⟩ => tab0 | ⟨1, _⟩ => tab1 | ⟨_ + 2, h⟩ => absurd h (Nat.not_lt.2 (Nat.le_add_left _ _))

theorem inb_0 : ∀ i : grid0.Coords, ∀ a, (cc0_transform_0 k0_off1_inb numel1_S1 (tabs (F := Ideal)) i a + 1) * S512x128.size a ≤ S4096x12288.size a := by decide +kernel
theorem inb_1 : ∀ i : grid0.Coords, ∀ a, (cc0_transform_1 k0_off1_inb numel1_S1 (tabs (F := Ideal)) i a + 1) * S512x128.size a ≤ S4096x12288.size a := by decide +kernel
theorem inb_2 : ∀ i : grid0.Coords, ∀ a, (cc0_transform_2 k0_off1_inb numel1_S1 (tabs (F := Ideal)) i a + 1) * S512x128.size a ≤ S4096x12288.size a := by decide +kernel
theorem inb_4 : ∀ i : grid0.Coords, ∀ a, (cc0_transform_4 k0_off1_inb numel1_S1 (tabs (F := Ideal)) i a + 1) * S512x128.size a ≤ S4096x1024.size a := by decide +kernel
theorem inb_5 : ∀ i : grid0.Coords, ∀ a, (cc0_transform_5 k0_off1_inb numel1_S1 (tabs (F := Ideal)) i a + 1) * S512x128.size a ≤ S4096x1024.size a := by decide +kernel
theorem inb_6 : ∀ i : grid0.Coords, ∀ a, (cc0_transform_6 k0_off1_inb numel1_S1 (tabs (F := Ideal)) i a + 1) * S512x128.size a ≤ S4096x1024.size a := by decide +kernel

theorem ok_tabs : ok0 (tabs (F := F)) :=
  ⟨fun i => ⟨inb_0 i, .inr (Affine.block_words_dvd (s := S4096x12288) (p := EltTy.packing .bf16) (by decide) (by decide))⟩,
   fun i => ⟨inb_1 i, .inr (Affine.block_words_dvd (s := S4096x12288) (p := EltTy.packing .bf16) (by decide) (by decide))⟩,
   fun i => ⟨inb_2 i, .inr (Affine.block_words_dvd (s := S4096x12288) (p := EltTy.packing .bf16) (by decide) (by decide))⟩,
   fun i => ⟨inb_4 i, .inl rfl⟩,
   fun i => ⟨inb_5 i, .inr (Affine.block_words_dvd (s := S4096x1024) (p := EltTy.packing .bf16) (by decide) (by decide))⟩,
   fun i => ⟨inb_6 i, .inl rfl⟩⟩

def adm : (pcfg0 (F := F)).Adm := ⟨tabs, ok_tabs⟩
/-- The pipeline at the tables. -/
abbrev cfgA : Pipeline.Cfg sig Λ₀ := cfg0 (F := F) adm

abbrev crd (t : Fin grid0.N) : grid0.Coords := grid0.coords t

/-- The pair's key block and query block at a point. -/
def kw (t : Fin grid0.N) : BitVec 32 := lit1 ⟨t.val % 36, Nat.mod_lt _ (by decide)⟩
def qw (t : Fin grid0.N) : BitVec 32 := lit0 ⟨t.val % 36, Nat.mod_lt _ (by decide)⟩
def kN (t : Fin grid0.N) : ℕ := (kw t).toNat
def qN (t : Fin grid0.N) : ℕ := (qw t).toNat

theorem kN_inb : ∀ t : Fin grid0.N, ∀ a : Fin 2, (![kN t * 512, 0] : Fin 2 → ℕ) a + S512x128.size a ≤ S4096x128.size a := by decide +kernel

abbrev W0 (F : FTy → Type) (t : Fin grid0.N) : BitVec 32 := word (F := F) (Memref.whole main_c) (crd t) (c := (0 : Dev nD)) tab0
abbrev W1 (F : FTy → Type) (t : Fin grid0.N) : BitVec 32 := word (F := F) (Memref.whole main_c_0) (crd t) (c := (0 : Dev nD)) tab1

/-- What a point's words say of it. -/
abbrev Facts1 (t : Fin grid0.N) : Prop :=
  W0 Ideal t = qw t ∧ W1 Ideal t = kw t ∧ k0_chk1 (qw t) (kw t)
  ∧ (k0_cond3 (qw t) (kw t) = 1#1 ↔ ¬ k0_cond2 (qw t) (kw t) = 1#1)
  ∧ (k0_cond1 (crd t) = 1#1 → k0_cond2 (qw t) (kw t) = 1#1 ∧ k0_cond4 (kw t) = 1#1)
  ∧ (k0_cond2 (qw t) (kw t) = 1#1 → ¬ k0_cond1 (crd t) = 1#1 → ¬ k0_cond4 (kw t) = 1#1)
  ∧ k0_off2 (kw t) = ![kN t * 512, 0] ∧ k0_off3 (kw t) = ![kN t * 512, 0]
  ∧ ((cfgA (F := Ideal)).idle (6 : Fin 9) (crd t) = !(k0_cond4 (kw t) == 1#1))
  ∧ (((cfgA (F := Ideal)).win (6 : Fin 9)).flush t = (k0_cond4 (kw t) == 1#1))
  ∧ (k0_cond1 (crd t) = 1#1 → t.val = 0 ∨ ∃ h : t.val - 1 < grid0.N, t.val ≠ 0 ∧ ((cfgA (F := Ideal)).win (7 : Fin 9)).flush ⟨t.val - 1, h⟩ = true ∧ ((cfgA (F := Ideal)).win (8 : Fin 9)).flush ⟨t.val - 1, h⟩ = true)
  ∧ (¬ k0_cond1 (crd t) = 1#1 → t.val ≠ 0 ∧ ∃ h : t.val - 1 < grid0.N, ((cfgA (F := Ideal)).win (7 : Fin 9)).flush ⟨t.val - 1, h⟩ = false ∧ ((cfgA (F := Ideal)).win (8 : Fin 9)).flush ⟨t.val - 1, h⟩ = false)

theorem facts1 : ∀ t : Fin grid0.N, Facts1 t := by decide +kernel

theorem idle7 : ∀ i, (cfgA (F := Ideal)).idle (7 : Fin 9) i = false := (by decide +kernel : ∀ i : grid0.Coords, (cfgA (F := Ideal)).idle (7 : Fin 9) i = false)
theorem idle8 : ∀ i, (cfgA (F := Ideal)).idle (8 : Fin 9) i = false := (by decide +kernel : ∀ i : grid0.Coords, (cfgA (F := Ideal)).idle (8 : Fin 9) i = false)

/-- The pipeline reads only the tables, so it is the same pipeline over any element values. -/
theorem cfg_eq : cfgA (F := F) = cfgA (F := Ideal) := rfl
theorem W0_eq (t : Fin grid0.N) : W0 F t = qw t := (facts1 t).1
theorem W1_eq (t : Fin grid0.N) : W1 F t = kw t := (facts1 t).2.1

end Cert.Proof.Stick
end
-- ==== Proof.StickPoint.lean ====
/- The stick-breaking backward call: the points. Their contents as one recursion over the grid, the body
   at every point. -/
module

public import proofs.«01_k».proof.Proof.StickTables
public import Idealize.ShloMosaic.Lib.Pipeline.Quiescent
public import Idealize.ShloMosaic.Lib.Claim

@[expose] public section

set_option maxRecDepth 16384
set_option Elab.async false

noncomputable section

namespace Cert.Proof.Stick

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the region -/

abbrev opss : List (List (HloOp τ sig (Elt F))) :=
  [hostOps0, hostOps0_1, hostOps0_2, hostOps0_3, hostOps0_4, hostOps0_5, hostOps0_6, hostOps0_7, hostOps0_8, hostOps0_9, hostOps0_10, hostOps0_11]

/-- The buffers when the region is entered. -/
abbrev V (c : Dev nD) (b : Ref sig .tc) : Buf (Elt F) ((c : Thread nD τ).loc b) := StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩

theorem opss_fresh : (opss (F := F)).Forall fun ops => ops.Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss opss_sub opss_fresh main_chain

/-- A buffer no host operation writes is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 800000 in
/-- The first two operations write the tables, and no later one writes them again. -/
theorem V_tab0 (c : Dev nD) : V m c main_c = tab0 := by
  show StableHlo.after (opss (F := F)).flatten (fun b => m (c, b)) (Proc.devRef .tc main_c) = tab0
  simp only [opss, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  rw [StableHlo.after_cons, StableHlo.after_of_forall_not_mem (b := Proc.devRef .tc main_c) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))), StableHlo.nullary_result]
  rfl
set_option maxHeartbeats 800000 in
theorem V_tab1 (c : Dev nD) : V m c main_c_0 = tab1 := by
  show StableHlo.after (opss (F := F)).flatten (fun b => m (c, b)) (Proc.devRef .tc main_c_0) = tab1
  simp only [opss, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  rw [StableHlo.after_cons, StableHlo.after_cons, StableHlo.after_of_forall_not_mem (b := Proc.devRef .tc main_c_0) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))), StableHlo.nullary_result]
  rfl

theorem V_pre (c : Dev nD) (j : Fin 2) : V m c (pre0.ref j) = (adm (F := F)).1 j := by
  fin_cases j
  · exact V_tab0 m c
  · exact V_tab1 m c

/-! ## The points -/

abbrev ms0 (t : Fin (cfgA (F := F)).N) : Memref sig .tc .vmem S512x128 .bf16 := spec0_0.stage ((cfgA (F := F)).slots t (0 : Fin 9))
abbrev hs0 (t : Fin (cfgA (F := F)).N) : (ms0 t).IsWhole := hstage0_0 (((cfgA (F := F)).slots t (0 : Fin 9)).cast nbuf0_0)
abbrev ms1 (t : Fin (cfgA (F := F)).N) : Memref sig .tc .vmem S512x128 .bf16 := spec0_1.stage ((cfgA (F := F)).slots t (1 : Fin 9))
abbrev hs1 (t : Fin (cfgA (F := F)).N) : (ms1 t).IsWhole := hstage0_1 (((cfgA (F := F)).slots t (1 : Fin 9)).cast nbuf0_1)
abbrev ms2 (t : Fin (cfgA (F := F)).N) : Memref sig .tc .vmem S512x128 .bf16 := spec0_2.stage ((cfgA (F := F)).slots t (2 : Fin 9))
abbrev hs2 (t : Fin (cfgA (F := F)).N) : (ms2 t).IsWhole := hstage0_2 (((cfgA (F := F)).slots t (2 : Fin 9)).cast nbuf0_2)
abbrev ms3 (t : Fin (cfgA (F := F)).N) : Memref sig .tc .vmem S128x128 .bf16 := spec0_3.stage ((cfgA (F := F)).slots t (3 : Fin 9))
abbrev hs3 (t : Fin (cfgA (F := F)).N) : (ms3 t).IsWhole := hstage0_3 (((cfgA (F := F)).slots t (3 : Fin 9)).cast nbuf0_3)
abbrev ms4 (t : Fin (cfgA (F := F)).N) : Memref sig .tc .vmem S512x128 .f32 := spec0_4.stage ((cfgA (F := F)).slots t (4 : Fin 9))
abbrev hs4 (t : Fin (cfgA (F := F)).N) : (ms4 t).IsWhole := hstage0_4 (((cfgA (F := F)).slots t (4 : Fin 9)).cast nbuf0_4)
abbrev ms5 (t : Fin (cfgA (F := F)).N) : Memref sig .tc .vmem S512x128 .bf16 := spec0_5.stage ((cfgA (F := F)).slots t (5 : Fin 9))
abbrev hs5 (t : Fin (cfgA (F := F)).N) : (ms5 t).IsWhole := hstage0_5 (((cfgA (F := F)).slots t (5 : Fin 9)).cast nbuf0_5)
abbrev ms6 (t : Fin (cfgA (F := F)).N) : Memref sig .tc .vmem S512x128 .f32 := spec0_6.stage ((cfgA (F := F)).slots t (6 : Fin 9))
abbrev hs6 (t : Fin (cfgA (F := F)).N) : (ms6 t).IsWhole := hstage0_6 (((cfgA (F := F)).slots t (6 : Fin 9)).cast nbuf0_6)
abbrev ms7 (t : Fin (cfgA (F := F)).N) : Memref sig .tc .vmem S4096x128 .f32 := spec0_7.stage ((cfgA (F := F)).slots t (7 : Fin 9))
abbrev hs7 (t : Fin (cfgA (F := F)).N) : (ms7 t).IsWhole := hstage0_7 (((cfgA (F := F)).slots t (7 : Fin 9)).cast nbuf0_7)
abbrev ms8 (t : Fin (cfgA (F := F)).N) : Memref sig .tc .vmem S4096x128 .f32 := spec0_8.stage ((cfgA (F := F)).slots t (8 : Fin 9))
abbrev hs8 (t : Fin (cfgA (F := F)).N) : (ms8 t).IsWhole := hstage0_8 (((cfgA (F := F)).slots t (8 : Fin 9)).cast nbuf0_8)

/-- Window `w`'s block at point `t`. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V m c (Pipeline.arrRef spec0 w))

/-- What point `t` reads. -/
def ins (c : Dev nD) (t : Fin (cfgA (F := F)).N) : Ins F where
  q := iblk m c (0 : Fin 9) t
  k := iblk m c (1 : Fin 9) t
  v := iblk m c (2 : Fin 9) t
  g := iblk m c (5 : Fin 9) t
  M := iblk m c (3 : Fin 9) t
  o := iblk m c (4 : Fin 9) t

/-- What is carried from point to point: the key and value gradients of the head, and `Car`. -/
structure St (F : FTy → Type) where
  dk : Vec F S4096x128 .f32
  dv : Vec F S4096x128 .f32
  car : Car F

/-- One point, of its two decisions, its rows and what it reads. -/
def stepOf (b1 b2 : BitVec 1) (off : Fin 2 → ℕ) (inb : ∀ a, off a + S512x128.size a ≤ S4096x128.size a) (x : Ins F) (s : St F) : St F :=
  if b1 = 1#1 then ⟨rows off inb (dDk x) (k0_pay1 (F := F)), rows off inb (dDv x) (k0_pay2 (F := F)), dCar x⟩
  else if b2 = 1#1 then ⟨rows off inb (dDk x) s.dk, rows off inb (dDv x) s.dv, dCar x⟩
  else ⟨rows off inb (oDk x s.car) s.dk, rows off inb (oDv x s.car) s.dv, oCar x s.car⟩

/-- Point `t`. -/
def step (c : Dev nD) (t : Fin (cfgA (F := F)).N) (s : St F) : St F :=
  stepOf (k0_cond1 (crd t)) (k0_cond2 (qw t) (kw t)) ![kN t * 512, 0] (kN_inb t) (ins m c t) s

/-- What the points up to `n` leave. -/
def traj (c : Dev nD) : (n : ℕ) → n < (cfgA (F := F)).N → St F
  | 0, h => step m c ⟨0, h⟩ ⟨k0_pay1 (F := F), k0_pay2 (F := F), dCar (ins m c ⟨0, h⟩)⟩
  | n + 1, h => step m c ⟨n + 1, h⟩ (traj c n (by omega))

theorem traj_pos (c : Dev nD) (t : Fin (cfgA (F := F)).N) (ht : t.val ≠ 0) :
    traj m c t.val t.isLt = step m c t (traj m c (t.val - 1) (by omega)) := by
  obtain ⟨n, h⟩ := t
  cases n with
  | zero => exact absurd rfl ht
  | succ n => rfl

/-- The first point of a head forgets what came before. -/
theorem step_first (c : Dev nD) (t : Fin (cfgA (F := F)).N) (h : k0_cond1 (crd t) = 1#1) (s s' : St F) : step m c t s = step m c t s' := by
  unfold step stepOf; rw [if_pos h, if_pos h]

theorem traj_first (c : Dev nD) (t : Fin (cfgA (F := F)).N) (h : k0_cond1 (crd t) = 1#1) (s : St F) : traj m c t.val t.isLt = step m c t s := by
  by_cases ht : t.val = 0
  · obtain ⟨n, hn⟩ := t
    obtain rfl : n = 0 := ht
    exact step_first m c _ h _ _
  · rw [traj_pos m c t ht]; exact step_first m c _ h _ _

/-! ## The proof data -/

/-- Before point `t`: the scratch buffers, at what the points before left of them; the tables; the generator. -/
def Phi (c : Dev nD) (t : Fin ((cfgA (F := F)).N + 1)) : sProp 𝕄 :=
  iprop((∃ a : Car F, ⌜∀ (h : t.val ≠ 0), a = (traj m c (t.val - 1) (by omega)).car⌝
      ∗ owns (c : Thread nD τ) (Memref.whole cc0_scratch0) fullShare a.acc ∗ owns (c : Thread nD τ) (Memref.whole cc0_scratch1) fullShare a.ra
      ∗ owns (c : Thread nD τ) (Memref.whole cc0_scratch2) fullShare a.rp ∗ owns (c : Thread nD τ) (Memref.whole cc0_scratch3) fullShare a.dl)
    ∗ ((Memref.whole main_c).view.loc (c : Thread nD τ) ↦{fullShare.right} tab0) ∗ ((Memref.whole main_c_0).view.loc (c : Thread nD τ) ↦{fullShare.right} tab1)
    ∗ ∃ r, prngReg c r)

def dats (_ : Fin 1) (c : Dev nD) : Dat τ (Elt F) Unit ℕ (UR sig nD τ) ℕ (cfgA (F := F)) c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => (traj m c t.val t.isLt).car.acc
    | ⟨7, _⟩ => (traj m c t.val t.isLt).dk
    | ⟨8, _⟩ => (traj m c t.val t.isLt).dv
  Φ t := Phi m c t
  q w := Pipeline.shareOf spec0 w
  owed _ := 0

theorem after_0 (c : Dev nD) (t : Fin (cfgA (F := F)).N) : (dats m 0 c).after (0 : Fin 9) t = iblk m c (0 : Fin 9) t := rfl
theorem before_0 (c : Dev nD) (t : Fin (cfgA (F := F)).N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)
theorem after_1 (c : Dev nD) (t : Fin (cfgA (F := F)).N) : (dats m 0 c).after (1 : Fin 9) t = iblk m c (1 : Fin 9) t := rfl
theorem before_1 (c : Dev nD) (t : Fin (cfgA (F := F)).N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)
theorem after_2 (c : Dev nD) (t : Fin (cfgA (F := F)).N) : (dats m 0 c).after (2 : Fin 9) t = iblk m c (2 : Fin 9) t := rfl
theorem before_2 (c : Dev nD) (t : Fin (cfgA (F := F)).N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)
theorem after_3 (c : Dev nD) (t : Fin (cfgA (F := F)).N) : (dats m 0 c).after (3 : Fin 9) t = iblk m c (3 : Fin 9) t := rfl
theorem before_3 (c : Dev nD) (t : Fin (cfgA (F := F)).N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)
theorem after_4 (c : Dev nD) (t : Fin (cfgA (F := F)).N) : (dats m 0 c).after (4 : Fin 9) t = iblk m c (4 : Fin 9) t := rfl
theorem before_4 (c : Dev nD) (t : Fin (cfgA (F := F)).N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)
theorem after_5 (c : Dev nD) (t : Fin (cfgA (F := F)).N) : (dats m 0 c).after (5 : Fin 9) t = iblk m c (5 : Fin 9) t := rfl
theorem before_5 (c : Dev nD) (t : Fin (cfgA (F := F)).N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)

theorem after_6 (c : Dev nD) (t : Fin (cfgA (F := F)).N) : (dats m 0 c).after (6 : Fin 9) t = (traj m c t.val t.isLt).car.acc := rfl
theorem after_7 (c : Dev nD) (t : Fin (cfgA (F := F)).N) : (dats m 0 c).after (7 : Fin 9) t = (traj m c t.val t.isLt).dk := rfl
theorem after_8 (c : Dev nD) (t : Fin (cfgA (F := F)).N) : (dats m 0 c).after (8 : Fin 9) t = (traj m c t.val t.isLt).dv := rfl

theorem before_7_kept (c : Dev nD) (t : Fin (cfgA (F := F)).N) (h : ¬ k0_cond1 (crd t) = 1#1) (d) :
    (dats m 0 c).before (7 : Fin 9) t d = (traj m c (t.val - 1) (by omega)).dk := by
  obtain ⟨ht, hlt, f7, f8⟩ := (facts1 t).2.2.2.2.2.2.2.2.2.2.2 h
  exact (dats m 0 c).before_out_kept (7 : Fin 9) rfl t ht f7 idle7 (fun _ _ => rfl) d
theorem before_8_kept (c : Dev nD) (t : Fin (cfgA (F := F)).N) (h : ¬ k0_cond1 (crd t) = 1#1) (d) :
    (dats m 0 c).before (8 : Fin 9) t d = (traj m c (t.val - 1) (by omega)).dv := by
  obtain ⟨ht, hlt, f7, f8⟩ := (facts1 t).2.2.2.2.2.2.2.2.2.2.2 h
  exact (dats m 0 c).before_out_kept (8 : Fin 9) rfl t ht f8 idle8 (fun _ _ => rfl) d

/-! ## The body at a point -/

abbrev bodyAt (t : Fin (cfgA (F := F)).N) : Prog (TpuEff nD τ sig (Elt F) Λ₀ .tc) PUnit :=
  cc0_sb_bwd (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _)

/-- The buffers of point `t`. -/
abbrev heldAt (c : Dev nD) (t : Fin (cfgA (F := F)).N) (dq : Vec F S512x128 .f32) (dk dv : Vec F S4096x128 .f32) (a : Car F) : sProp 𝕄 :=
  held c (Memref.whole main_c) (Memref.whole main_c_0) (ms0 t) (ms1 t) (ms2 t) (ms3 t) (ms4 t) (ms5 t) (ms6 t) (ms7 t) (ms8 t) (Memref.whole cc0_scratch0) (Memref.whole cc0_scratch1) (Memref.whole cc0_scratch2) (Memref.whole cc0_scratch3) tab0 tab1 (ins m c t) dq dk dv a

/-- The runs as one, at tables' words and row offset given by equations: what a point leaves. The query gradient's block is
    stored where its last key block is. -/
theorem run_of (c : Dev nD) (t : Fin (cfgA (F := F)).N) {wq wk : BitVec 32} (w0 : word (F := F) (c := c) (Memref.whole main_c) (crd t) tab0 = wq)
    (w1 : word (F := F) (c := c) (Memref.whole main_c_0) (crd t) tab1 = wk) {off : Fin 2 → ℕ} (inb : ∀ a, off a + S512x128.size a ≤ S4096x128.size a)
    (hchk : k0_chk1 wq wk) (h23 : k0_cond3 wq wk = 1#1 ↔ ¬ k0_cond2 wq wk = 1#1) (h1 : k0_cond1 (crd t) = 1#1 → k0_cond2 wq wk = 1#1 ∧ k0_cond4 wk = 1#1)
    (h2 : k0_cond2 wq wk = 1#1 → ¬ k0_cond1 (crd t) = 1#1 → ¬ k0_cond4 wk = 1#1)
    (o2 : k0_off2 wk = off) (o3 : k0_off3 wk = off) (x : Ins F)
    (dq : Vec F S512x128 .f32) (s : St F) (K : PUnit → sProp 𝕄) :
    iprop(held c (Memref.whole main_c) (Memref.whole main_c_0) (ms0 t) (ms1 t) (ms2 t) (ms3 t) (ms4 t) (ms5 t) (ms6 t) (ms7 t) (ms8 t) (Memref.whole cc0_scratch0) (Memref.whole cc0_scratch1) (Memref.whole cc0_scratch2) (Memref.whole cc0_scratch3) tab0 tab1 x dq s.dk s.dv s.car
        ∗ (held c (Memref.whole main_c) (Memref.whole main_c_0) (ms0 t) (ms1 t) (ms2 t) (ms3 t) (ms4 t) (ms5 t) (ms6 t) (ms7 t) (ms8 t) (Memref.whole cc0_scratch0) (Memref.whole cc0_scratch1) (Memref.whole cc0_scratch2) (Memref.whole cc0_scratch3) tab0 tab1 x (if k0_cond4 wk = 1#1 then (stepOf (k0_cond1 (crd t)) (k0_cond2 wq wk) off inb x s).car.acc else dq)
            (stepOf (k0_cond1 (crd t)) (k0_cond2 wq wk) off inb x s).dk (stepOf (k0_cond1 (crd t)) (k0_cond2 wq wk) off inb x s).dv
            (stepOf (k0_cond1 (crd t)) (k0_cond2 wq wk) off inb x s).car -∗ K ⟨⟩))
      ⊢ wp frame (wpE (defs₀ (F := F)) Variants.none c none) Set.univ (bodyAt t) K := by
  subst w0 w1
  unfold stepOf
  by_cases c1 : k0_cond1 (crd t) = 1#1
  · obtain ⟨c2, c4⟩ := h1 c1
    have c3 := fun h => h23.1 h c2
    rw [if_pos c1, if_pos c4]
    subst o2
    exact run_first c (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) tab0 tab1 hchk c1 c2 c3 c4 x dq s.dk s.dv s.car K
  · rw [if_neg c1]
    by_cases c2 : k0_cond2 (word (F := F) (c := c) (Memref.whole main_c) (crd t) tab0) (word (F := F) (c := c) (Memref.whole main_c_0) (crd t) tab1) = 1#1
    · have c3 := fun h => h23.1 h c2
      have c4 := h2 c2 c1
      rw [if_pos c2, if_neg c4]
      subst o2
      exact run_diag c (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) tab0 tab1 hchk c1 c2 c3 c4 x dq s.dk s.dv s.car K
    · have c3 := h23.2 c2
      rw [if_neg c2]
      subst o3
      by_cases c4 : k0_cond4 (word (F := F) (c := c) (Memref.whole main_c_0) (crd t) tab1) = 1#1
      · rw [if_pos c4]
        exact run_last c (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) tab0 tab1 hchk c1 c2 c3 c4 x dq s.dk s.dv s.car K
      · rw [if_neg c4]
        exact run_off c (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) tab0 tab1 hchk c1 c2 c3 c4 x dq s.dk s.dv s.car K

theorem run (c : Dev nD) (t : Fin (cfgA (F := F)).N) (dq : Vec F S512x128 .f32) (s : St F) (K : PUnit → sProp 𝕄) :
    iprop(heldAt m c t dq s.dk s.dv s.car
        ∗ (heldAt m c t (if k0_cond4 (kw t) = 1#1 then (step m c t s).car.acc else dq) (step m c t s).dk (step m c t s).dv (step m c t s).car -∗ K ⟨⟩))
      ⊢ wp frame (wpE (defs₀ (F := F)) Variants.none c none) Set.univ (bodyAt t) K := by
  obtain ⟨-, -, hchk, h23, h1, h2, o2, o3, -⟩ := facts1 t
  exact run_of c t (W0_eq t) (W1_eq t) (kN_inb t) hchk h23 h1 h2 o2 o3 (ins m c t) dq s K

/-- The point's state is the step of what the buffers hold before it, whichever point it is. -/
theorem traj_of (c : Dev nD) (t : Fin (cfgA (F := F)).N) (d7 d8) (a : Car F) (ha : ∀ h : t.val ≠ 0, a = (traj m c (t.val - 1) (by omega)).car) :
    step m c t ⟨(dats m 0 c).before (7 : Fin 9) t d7, (dats m 0 c).before (8 : Fin 9) t d8, a⟩ = traj m c t.val t.isLt := by
  by_cases h : k0_cond1 (crd t) = 1#1
  · exact (traj_first m c t h _).symm
  · have ht : t.val ≠ 0 := ((facts1 t).2.2.2.2.2.2.2.2.2.2.2 h).1
    rw [before_7_kept m c t h, before_8_kept m c t h, ha ht, traj_pos m c t ht]

attribute [irreducible] traj

end Cert.Proof.Stick
end
-- ==== Proof.StickFrame.lean ====
/- The stick-breaking backward call: the frame. The body's
   obligation at every point, the launch. -/
module

public import proofs.«01_k».proof.Proof.StickPoint
public import Idealize.ShloMosaic.Lib.Pipeline.Quiescent
public import Idealize.ShloMosaic.Lib.Claim

@[expose] public section

set_option maxRecDepth 16384
set_option Elab.async false

noncomputable section

namespace Cert.Proof.Stick

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem run_to (c : Dev nD) (t : Fin (cfgA (F := F)).N) (dq : Vec F S512x128 .f32) (s s' : St F) (e : step m c t s = s') (K : PUnit → sProp 𝕄) :
    iprop(heldAt m c t dq s.dk s.dv s.car ∗ (heldAt m c t (if k0_cond4 (kw t) = 1#1 then s'.car.acc else dq) s'.dk s'.dv s'.car -∗ K ⟨⟩))
      ⊢ wp frame (wpE (defs₀ (F := F)) Variants.none c none) Set.univ (bodyAt t) K := by
  subst e; exact run m c t dq s K

/-- What the buffers hold after point `t`. -/
def PostOf (c : Dev nD) (t : Fin (cfgA (F := F)).N) : sProp 𝕄 :=
  iprop(Phi m c t.succ ∗ (dats m 0 c).owesAt () t.castSucc
        ∗ owns (c : Thread nD τ) (ms0 t) fullShare (iblk m c (0 : Fin 9) t)
        ∗ owns (c : Thread nD τ) (ms1 t) fullShare (iblk m c (1 : Fin 9) t)
        ∗ owns (c : Thread nD τ) (ms2 t) fullShare (iblk m c (2 : Fin 9) t)
        ∗ owns (c : Thread nD τ) (ms3 t) fullShare (iblk m c (3 : Fin 9) t)
        ∗ owns (c : Thread nD τ) (ms4 t) fullShare (iblk m c (4 : Fin 9) t)
        ∗ owns (c : Thread nD τ) (ms5 t) fullShare (iblk m c (5 : Fin 9) t)
        ∗ (if k0_cond4 (kw t) = 1#1 then owns (c : Thread nD τ) (ms6 t) fullShare (traj m c t.val t.isLt).car.acc
            else iprop(∃ d, owns (c : Thread nD τ) (ms6 t) fullShare ((dats m 0 c).before (6 : Fin 9) t d)))
        ∗ owns (c : Thread nD τ) (ms7 t) fullShare (traj m c t.val t.isLt).dk ∗ owns (c : Thread nD τ) (ms8 t) fullShare (traj m c t.val t.isLt).dv)

set_option maxHeartbeats 2000000 in
theorem sound_list (c : Dev nD) (t : Fin (cfgA (F := F)).N) (K : PUnit → sProp 𝕄) (hK : PostOf m c t ⊢ K ⟨⟩) :
    iprop(Phi m c t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) K := by
  simp only [before_0, before_1, before_2, before_3, before_4, before_5]
  unfold Phi
  iintro ⟨⟨⟨%a, %ha, S0, S1, S2, S3⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  simp only [Fin.val_castSucc] at ha
  have R := run_to m c t ((dats m 0 c).before (6 : Fin 9) t d6) ⟨(dats m 0 c).before (7 : Fin 9) t d7, (dats m 0 c).before (8 : Fin 9) t d8, a⟩ _ (traj_of m c t d7 d8 a ha) K
  iapply R
  unfold heldAt held ins
  dsimp only
  isplitl [S0 S1 S2 S3 HT0 HT1 H0 H1 H2 H3 H4 H5 H6 H7 H8]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  iintro ⟨HT0, HT1, H0, H1, H2, H3, H4, H5, H6, H7, H8, S0, S1, S2, S3⟩
  iapply hK
  unfold PostOf Phi
  isplitl [S0 S1 S2 S3 HT0 HT1 HP]
  · isplitl [S0 S1 S2 S3]
    · iexists (traj m c t.val t.isLt).car
      isplitr; · ipureintro; intro _; simp only [Fin.val_succ, Nat.add_sub_cancel]
      isplitl [S0]; · iexact S0
      isplitl [S1]; · iexact S1
      isplitl [S2]; · iexact S2
      iexact S3
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases c4 : k0_cond4 (kw t) = 1#1
    · rewrite [if_pos c4, if_pos c4]
      iexact H6
    · rewrite [if_neg c4, if_neg c4]
      iexists d6; iexact H6
  isplitl [H7]; · iexact H7
  iexact H8

set_option maxHeartbeats 4000000 in
theorem sound_body (c : Dev nD) (t : Fin (cfgA (F := F)).N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  have i6 : (cfgA (F := F)).idle (6 : Fin 9) ((cfgA (F := F)).grid.coords t) = !(k0_cond4 (kw t) == 1#1) := (facts1 t).2.2.2.2.2.2.2.2.1
  have f6 : ((cfgA (F := F)).win (6 : Fin 9)).flush t = (k0_cond4 (kw t) == 1#1) := (facts1 t).2.2.2.2.2.2.2.2.2.1
  have i7 : (cfgA (F := F)).idle (7 : Fin 9) ((cfgA (F := F)).grid.coords t) = false := idle7 _
  have i8 : (cfgA (F := F)).idle (8 : Fin 9) ((cfgA (F := F)).grid.coords t) = false := idle8 _
  rewrite [i6, f6, i7]
  try rewrite [i8]
  simp only [after_0, after_1, after_2, after_3, after_4, after_5, after_6, after_7, after_8]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  refine sound_list m c t _ ?_
  unfold PostOf
  by_cases c4 : k0_cond4 (kw t) = 1#1
  · rewrite [show (k0_cond4 (kw t) == 1#1) = true from beq_iff_eq.2 c4, if_pos c4]
    exact .rfl
  · rewrite [show (k0_cond4 (kw t) == 1#1) = false from beq_eq_false_iff_ne.2 c4, if_neg c4]
    exact .rfl

theorem body_obligation (c : Dev nD) : BodyObligation (dats m 0 c) (defs₀ (F := F)) Variants.none () Set.univ := fun t => by
  rw [bigSep_W0]
  exact sound_body m c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

theorem phi_in (c : Dev nD) : iprop(Pipeline.ΦA spec0 c ∗ Pipeline.ΦT pre0 (adm (F := F)).1 c) ⊢ (dats m 0 c).Φ 0 := by
  unfold Pipeline.ΦA Pipeline.ΦT
  rw [prefHeld_eq, scopedRest0_eq, show (dats m 0 c).Φ 0 = Phi m c 0 from rfl]
  unfold Phi
  simp only [owns_whole]
  iintro ⟨⟨⟨⟨%a0, S0⟩, ⟨%a1, S1⟩, ⟨%a2, S2⟩, ⟨%a3, S3⟩⟩, HP⟩, HT0, HT1⟩
  isplitl [S0 S1 S2 S3]
  · iexists (⟨a0, a1, a2, a3⟩ : Car F)
    isplitr; · ipureintro; intro h; exact absurd rfl h
    isplitl [S0]; · iexact S0
    isplitl [S1]; · iexact S1
    isplitl [S2]; · iexact S2
    iexact S3
  isplitl [HT0]; · iexact HT0
  isplitl [HT1]; · iexact HT1
  iexact HP

theorem phi_out (c : Dev nD) : (dats m 0 c).Φ (Fin.last (cfgA (F := F)).N) ⊢ Pipeline.ΦA spec0 c := by
  unfold Pipeline.ΦA
  rw [scopedRest0_eq, show (dats m 0 c).Φ (Fin.last (cfgA (F := F)).N) = Phi m c (Fin.last _) from rfl]
  unfold Phi
  simp only [owns_whole]
  iintro ⟨⟨%a, -, S0, S1, S2, S3⟩, -, -, HP⟩
  isplitl [S0 S1 S2 S3]
  · isplitl [S0]; · iexists _; iexact S0
    isplitl [S1]; · iexists _; iexact S1
    isplitl [S2]; · iexists _; iexact S2
    iexists _; iexact S3
  iexact HP

set_option backward.isDefEq.respectTransparency.types false in
set_option maxHeartbeats 4000000 in
/-- Every execution ends, with the arrays at what the recursion computes and the counters at zero. -/
theorem run_main : θ_run (defs (F := F)) (onTc (τ := τ) (main (F := F))) (s₀ m ρ)
    (fun r => Pipeline.FramePost (Pipeline.pin (pcfgs (F := F)) fun _ => adm) (dats m) 0 (V m) r ∧ r.2.sem = fun _ => 0) :=
  Pipeline.θ_run_frameP_track_shared pcfgs (fun _ => adm) (dats m) 0 launch₀0 defs₀ Variants.none m ρ main
    (hbody := fun c => (body_obligation m c).loose) (hq := fun _ _ _ => rfl) (howed := fun _ _ => rfl) (V := V m) (hmain := hmain m)
    (hA := fun _ _ => rfl) (hpf := V_pre m) (hin := phi_in m) (hout := phi_out m) (Q' := fun r => Pipeline.FramePost (Pipeline.pin (pcfgs (F := F)) fun _ => adm) (dats m) 0 (V m) r ∧ r.2.sem = fun _ => 0) (hQ' := fun _ h => h)

end Cert.Proof.Stick
end
-- ==== Proof.StickPair.lean ====
/- The stick-breaking backward call: the claims that are not about values. -/
module

public import proofs.«01_k».proof.Proof.StickFrame
public import proofs.«01_k».proof.Proof.Gen.StickKernel
public import proofs.«01_k».proof.Defs

@[expose] public section

set_option maxRecDepth 16384
set_option Elab.async false

noncomputable section

namespace Cert.Proof.Stick

open Cert.StickKernelIdeal Cert.StickKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The frame, over any scalars: what is read stays, the counters end at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).1 (0 : Fin 9)).trans (((dats m 0 c).arrAt_in (0 : Fin 9) rfl _).trans (V_main_arg0 m c)),
    ((h.1 c).1 (5 : Fin 9)).trans (((dats m 0 c).arrAt_in (5 : Fin 9) rfl _).trans (V_main_arg1 m c))⟩, h.2⟩) (run_main m ρ)

set_option maxHeartbeats 4000000 in
/-- The three gradients after the run, over any scalars. -/
theorem run_blocks (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v38_0) = (dats m 0 c).arrAt (6 : Fin 9) (cfgA (F := F)).N
      ∧ r.2.mem ((c.tc : Thread nD τ).loc main_v38_1) = (dats m 0 c).arrAt (7 : Fin 9) (cfgA (F := F)).N
      ∧ r.2.mem ((c.tc : Thread nD τ).loc main_v38_2) = (dats m 0 c).arrAt (8 : Fin 9) (cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h => fun c => ⟨(h.1 c).1 (6 : Fin 9), (h.1 c).1 (7 : Fin 9), (h.1 c).1 (8 : Fin 9),
    ((h.1 c).1 (0 : Fin 9)).trans (((dats m 0 c).arrAt_in (0 : Fin 9) rfl _).trans (V_main_arg0 m c)),
    ((h.1 c).1 (5 : Fin 9)).trans (((dats m 0 c).arrAt_in (5 : Fin 9) rfl _).trans (V_main_arg1 m c))⟩) (run_main m ρ)

/-- At the machine's scalars a named constant is its word. -/
@[reducible] def namedBits : Named Bits := ⟨fun _ _ φ bits => FloatOps.ofBits φ bits⟩

theorem frame_bits : Cert.quiescent_StickKernel := fun m g _ =>
  cast (by sl_kernel_rfl) (@frame_any Bits _ namedBits m g)

theorem frame_ideal : Cert.quiescent_StickKernelIdeal := fun m g _ => frame_any m g

theorem preserves : Cert.preserves_StickKernel_StickKernelIdeal :=
  ⟨IdealRules.named_const.statement _ _ _ _ _ rfl, IdealRules.named_const.statement _ _ _ _ _ rfl⟩

end Cert.Proof.Stick
end
-- ==== Proof.StickReal.lean ====
/-
  Stick-breaking attention and its gradient over the reals, one head: the scores, the weights, and the gradients with
  respect to queries, keys and values, as sums over row and key numbers; and the identities between the ways to write
  them.
-/
module

public import proofs.«01_k».proof.Proof.Reals

@[expose] public section

noncomputable section

namespace Cert.Proof.Stick

open Finset

/-- One head: queries, keys, values and the cotangent, by row and lane. -/
structure Head where
  Q : ℕ → ℕ → ℝ
  K : ℕ → ℕ → ℝ
  V : ℕ → ℕ → ℝ
  G : ℕ → ℕ → ℝ

/-- The scores' factor, the float nearest to the inverse root of 128. -/
def sc : ℝ := 11863283 / 134217728

namespace Head

variable (a : Head)

/-- the score of row `T` and key `S` -/
def z (T S : ℕ) : ℝ := (∑ d ∈ range 128, a.Q T d * a.K S d) * sc
/-- its softplus -/
def sp (T S : ℕ) : ℝ := Real.log (1 + Real.exp (a.z T S))
/-- the logarithm of what key `S` leaves of the stick -/
def gm (T S : ℕ) : ℝ := if S < T then -a.sp T S else 0
/-- the weight -/
def w (T S : ℕ) : ℝ := if S < T then Real.exp (a.z T S - a.sp T S + ∑ X ∈ Ico (S + 1) 4096, a.gm T X) else 0
/-- the cotangent's product with the values -/
def P (T S : ℕ) : ℝ := ∑ d ∈ range 128, a.G T d * a.V S d
def pm (T S : ℕ) : ℝ := a.w T S * a.P T S
/-- the forward result -/
def o (T d : ℕ) : ℝ := ∑ S ∈ range 4096, a.w T S * a.V S d
def dl (T : ℕ) : ℝ := ∑ S ∈ range 4096, a.pm T S
/-- the part of the stick a key takes -/
def be (T S : ℕ) : ℝ := Real.exp (a.z T S) / (1 + Real.exp (a.z T S))
/-- the score's gradient -/
def dz (T S : ℕ) : ℝ := if S < T then a.pm T S - a.be T S * (a.dl T - ∑ X ∈ Ico (S + 1) 4096, a.pm T X) else 0
def dq (T d : ℕ) : ℝ := (∑ S ∈ range 4096, a.dz T S * a.K S d) * sc
def dk (S d : ℕ) : ℝ := (∑ T ∈ range 4096, a.dz T S * a.Q T d) * sc
def dv (S d : ℕ) : ℝ := ∑ T ∈ range 4096, a.w T S * a.G T d

theorem pm_zero {T S : ℕ} (h : T ≤ S) : a.pm T S = 0 := by unfold pm w; rw [if_neg (by omega), zero_mul]
theorem w_zero {T S : ℕ} (h : T ≤ S) : a.w T S = 0 := by unfold w; rw [if_neg (by omega)]
theorem dz_zero {T S : ℕ} (h : T ≤ S) : a.dz T S = 0 := by unfold dz; rw [if_neg (by omega)]
theorem gm_zero {T S : ℕ} (h : T ≤ S) : a.gm T S = 0 := by unfold gm; rw [if_neg (by omega)]

/-- Cotangent times forward result, summed along a row. -/
theorem dl_eq (T : ℕ) : ∑ d ∈ range 128, a.G T d * a.o T d = a.dl T := by
  unfold dl pm o P
  simp only [mul_sum]
  rw [sum_comm]
  exact sum_congr rfl fun S _ => sum_congr rfl fun d _ => by ring

/-- The score's gradient as the derivative carried through: the weight's own logarithm, and the sticks of the keys
    before it. -/
theorem dz_eq {T S : ℕ} (h : S < T) (hT : T < 4096) :
    a.dz T S = a.pm T S * (1 - a.be T S) - a.be T S * ∑ X ∈ range S, a.pm T X := by
  unfold dz
  rw [if_pos h]
  have e : a.dl T = (∑ X ∈ range S, a.pm T X) + a.pm T S + ∑ X ∈ Ico (S + 1) 4096, a.pm T X := by
    unfold dl
    rw [← sum_range_succ, ← sum_range_add_sum_Ico _ (by omega : S + 1 ≤ 4096)]
  rw [e]; ring

end Head

theorem softplus_split (z : ℝ) : max z 0 + Real.log (1 + Real.exp (-|z|)) = Real.log (1 + Real.exp z) := by
  rcases le_total 0 z with h | h
  · rw [max_eq_left h, abs_of_nonneg h]
    have : 1 + Real.exp z = Real.exp z * (1 + Real.exp (-z)) := by rw [mul_add, ← Real.exp_add]; simp; ring
    rw [this, Real.log_mul (Real.exp_ne_zero _) (by positivity), Real.log_exp]
  · rw [max_eq_right h, abs_of_nonpos h, neg_neg, zero_add]

theorem rpow_two (x : ℝ) : Real.rpow 2 (x * (Real.log 2)⁻¹) = Real.exp x := by
  rw [Real.rpow_eq_pow, Real.rpow_def_of_pos (by norm_num)]
  congr 1
  have : Real.log 2 ≠ 0 := (Real.log_pos (by norm_num)).ne'
  field_simp

theorem log_two_inv_pos : 0 < (Real.log 2)⁻¹ := inv_pos.2 (Real.log_pos (by norm_num))

theorem share_split (z : ℝ) : (if 0 ≤ z then 1 / (1 + Real.exp (-|z|)) else Real.exp (-|z|) * (1 / (1 + Real.exp (-|z|))))
    = Real.exp z / (1 + Real.exp z) := by
  have hz := Real.exp_pos z
  split_ifs with h
  · rw [abs_of_nonneg h, Real.exp_neg]; field_simp; ring
  · rw [abs_of_nonpos (le_of_not_ge h), neg_neg]; ring

end Cert.Proof.Stick

end
-- ==== Proof.StickVec.lean ====
/-
  The stick-breaking backward call, one grid point over the reals, first part: the blocks of real numbers, and the
  sums over later keys of a block, which the kernel takes with a matrix of ones above the diagonal, 128 keys at a time.
-/
module

public import proofs.«01_k».proof.Proof.Reals
public import proofs.«01_k».proof.Proof.StickReal
public import proofs.«01_k».proof.Proof.StickRun
public import Idealize.ShloMosaic.Lib.Pipeline.ValueKit
public import Idealize.ShloMosaic.Lib.Pointwise

@[expose] public section

set_option maxRecDepth 16384

noncomputable section

namespace Cert.Proof.Stick

open Cert.StickKernelIdeal Cert.StickKernelIdeal.Gen
open Idealize.ShloMosaic Idealize.ShloMosaic.TcCoe Idealize.SL.Sem
open Finset (range Ico sum_congr)

/-- Real numbers by row and column, as a block. -/
def uS {φ : FTy} (X : ℕ → ℕ → ℝ) : FVec Ideal S512x512 φ := fun i => ((X (i 0) (i 1) : ℝ) : EReal)
def uD {φ : FTy} (X : ℕ → ℕ → ℝ) : FVec Ideal S512x128 φ := fun i => ((X (i 0) (i 1) : ℝ) : EReal)
def uC (X : ℕ → ℝ) : FVec Ideal S512x1 .f32 := fun i => ((X (i 0) : ℝ) : EReal)
/-- Ones where the row comes after the column. -/
def uM : FVec Ideal S128x128 .bf16 := fun i => (((if (i 1 : ℕ) < (i 0 : ℕ) then 1 else 0 : ℝ)) : EReal)

theorem uS_congr {φ : FTy} {X Y : ℕ → ℕ → ℝ} (h : ∀ r l, r < 512 → l < 512 → X r l = Y r l) : (uS (φ := φ) X) = uS Y :=
  funext fun i => by unfold uS; rw [h _ _ (i 0).isLt (i 1).isLt]
theorem uD_congr {φ : FTy} {X Y : ℕ → ℕ → ℝ} (h : ∀ r l, r < 512 → l < 128 → X r l = Y r l) : (uD (φ := φ) X) = uD Y :=
  funext fun i => by unfold uD; rw [h _ _ (i 0).isLt (i 1).isLt]
theorem uC_congr {X Y : ℕ → ℝ} (h : ∀ r, r < 512 → X r = Y r) : uC X = uC Y :=
  funext fun i => by unfold uC; rw [h _ (i 0).isLt]

/-- A sum over numbers below `n` written over their type, among the extended reals. -/
theorem sum_fin (n : ℕ) (f : ℕ → ℝ) : (∑ k : Fin n, ((f k : ℝ) : EReal)) = ((∑ k ∈ range n, f k : ℝ) : EReal) := by
  rw [Cert.Reals.sum_coe, Fin.sum_univ_eq_sum_range]

/-! ## Sums over later keys -/

theorem ones_sum (X : ℕ → ℝ) (off l : ℕ) (hl : l < 128) :
    ∑ k ∈ range 128, X (off + k) * (if l < k then 1 else 0) = ∑ k ∈ Ico (off + l + 1) (off + 128), X k := by
  have e : ∑ k ∈ Ico (off + l + 1) (off + 128), X k = ∑ k ∈ Ico (l + 1) 128, X (off + k) := by
    rw [Finset.sum_Ico_add X (l + 1) 128 off]; congr 2 <;> omega
  rw [e]
  rw [← Finset.sum_subset (s₁ := Ico (l + 1) 128) (fun k hk => by simp at hk ⊢; omega)
    (fun k hk hk' => by simp at hk hk'; rw [if_neg (by omega), mul_zero])]
  refine sum_congr rfl fun k hk => ?_
  simp at hk
  rw [if_pos (by omega), mul_one]

theorem mm_ones (off : ℕ) (X : ℕ → ℕ → ℝ) (h : S512x512.Slices ![0, off] S512x128) :
    matmul dot_S512x128_S128x128_S512x128_1_0_0_1_n_n none (extractStridedSlice S512x128 ![0, off] (uS (φ := .bf16) X) h) uM (constant S512x128 .f32 0x00000000#32)
      = uD (φ := .f32) fun r l => ∑ k ∈ Ico (off + l + 1) (off + 128), X r k := by
  funext i
  pointwise [uS, uM, uD]
  simp only [← EReal.coe_mul]
  refine (sum_fin 128 fun k => X (i 0) (off + k) * (if (i 1 : ℕ) < k then 1 else 0)).trans ?_
  rw [ones_sum _ _ _ (i 1).isLt]

theorem mm_zero (off : ℕ) (h : S512x512.Slices ![0, off] S512x128) :
    matmul dot_S512x128_S128x128_S512x128_1_0_0_1_n_n none (extractStridedSlice S512x128 ![0, off] (uS (φ := .bf16) fun _ _ => 0) h) uM (constant S512x128 .f32 0x00000000#32)
      = uD (φ := .f32) fun r l => 0 := by
  funext i
  pointwise [uS, uM, uD]
  simp

theorem addD (X Y : ℕ → ℕ → ℝ) : addf (uD (φ := .f32) X) (uD Y) = uD fun r l => X r l + Y r l := by
  funext i; simp [uD, addf, Scalar.addf]

theorem carry (off : ℕ) (X Y : ℕ → ℕ → ℝ) (h : S512x512.Slices ![0, off] S512x1) (h' : S512x128.Slices ![0, 0] S512x1) :
    addf (extractStridedSlice S512x1 ![0, 0] (uD (φ := .f32) Y) h') (extractStridedSlice S512x1 ![0, off] (uS (φ := .f32) X) h)
      = uC fun r => Y r 0 + X r off := by
  funext i
  pointwise [uS, uD, uC]
  rw [EReal.coe_add]

theorem addDC (X : ℕ → ℕ → ℝ) (Y : ℕ → ℝ) (h : S512x1.Broadcasts S512x128) :
    addf (uD (φ := .f32) X) (broadcastTo S512x128 (uC Y) h) = uD fun r l => X r l + Y r := by
  funext i
  pointwise [uS, uD, uC]
  rw [EReal.coe_add]

/-- The sums over the later keys of the block, the key's own left out. -/
def later (X : ℕ → ℕ → ℝ) (r l : ℕ) : ℝ := ∑ k ∈ Ico (l + 1) 512, X r k
/-- The sums from a key on. -/
def from_ (X : ℕ → ℕ → ℝ) (r l : ℕ) : ℝ := ∑ k ∈ Ico l 512, X r k

theorem seg_last (X : ℕ → ℕ → ℝ) (h h' : S512x512.Slices ![0, 384] S512x128) :
    addf (matmul dot_S512x128_S128x128_S512x128_1_0_0_1_n_n none (extractStridedSlice S512x128 ![0, 384] (uS (φ := .bf16) X) h) uM (constant S512x128 .f32 0x00000000#32))
        (matmul dot_S512x128_S128x128_S512x128_1_0_0_1_n_n none (extractStridedSlice S512x128 ![0, 384] (uS (φ := .bf16) fun _ _ => 0) h') uM (constant S512x128 .f32 0x00000000#32))
      = uD (φ := .f32) fun r l => later X r (384 + l) := by
  rw [mm_ones, mm_zero, addD]
  refine uD_congr fun r l hr hl => ?_
  simp only [later, add_zero]

theorem seg (off : ℕ) (ho : off ≤ 384) (X : ℕ → ℕ → ℝ) (h h' : S512x512.Slices ![0, off] S512x128) (hb : S512x1.Broadcasts S512x128) :
    addf (addf (matmul dot_S512x128_S128x128_S512x128_1_0_0_1_n_n none (extractStridedSlice S512x128 ![0, off] (uS (φ := .bf16) X) h) uM (constant S512x128 .f32 0x00000000#32))
        (matmul dot_S512x128_S128x128_S512x128_1_0_0_1_n_n none (extractStridedSlice S512x128 ![0, off] (uS (φ := .bf16) fun _ _ => 0) h') uM (constant S512x128 .f32 0x00000000#32)))
        (broadcastTo S512x128 (uC fun r => from_ X r (off + 128)) hb)
      = uD (φ := .f32) fun r l => later X r (off + l) := by
  rw [mm_ones, mm_zero, addD, addDC]
  refine uD_congr fun r l hr hl => ?_
  simp only [later, from_, add_zero]
  exact Finset.sum_Ico_consecutive _ (by omega) (by omega)

theorem seg_carry (off : ℕ) (ho : off < 512) (X : ℕ → ℕ → ℝ) (h : S512x512.Slices ![0, off] S512x1) (h' : S512x128.Slices ![0, 0] S512x1) :
    addf (extractStridedSlice S512x1 ![0, 0] (uD (φ := .f32) fun r l => later X r (off + l)) h') (extractStridedSlice S512x1 ![0, off] (uS (φ := .f32) X) h)
      = uC fun r => from_ X r off := by
  rw [carry]
  refine uC_congr fun r hr => ?_
  simp only [later, from_, add_zero]
  rw [add_comm, ← Finset.sum_eq_sum_Ico_succ_bot ho]

theorem concat (X : ℕ → ℕ → ℝ) (h) :
    concatenate S512x512 1 [⟨S512x128, uD (φ := .f32) fun r l => X r (0 + l)⟩, ⟨S512x128, uD (φ := .f32) fun r l => X r (128 + l)⟩,
      ⟨S512x128, uD (φ := .f32) fun r l => X r (256 + l)⟩, ⟨S512x128, uD (φ := .f32) fun r l => X r (384 + l)⟩] h = uS (φ := .f32) X := by
  funext i
  pointwise [uS, uD]
  have hi := (i 1).isLt
  split_ifs
  all_goals first | rfl | (congr 2; done) | (congr 2; omega) | (congr 2; dsimp at hi ⊢; omega)

theorem low (X : ℕ → ℕ → ℝ) (h h') : truncf .bf16 (subf (uS (φ := .f32) X) (extf .f32 (uS (φ := .bf16) X) h)) h' = uS fun _ _ => 0 := by
  funext i
  pointwise [uS]
  rw [← EReal.coe_sub, sub_self]

theorem high (X : ℕ → ℕ → ℝ) (h) : truncf .bf16 (uS (φ := .f32) X) h = uS X := rfl

theorem castM (h) : shapeCast S128x128 uM h = uM := by
  funext i; pointwise [uM]

theorem castC (X : ℕ → ℝ) (h) : shapeCast S512x1 (uC X) h = uC X := by
  funext i; pointwise [uC]

theorem castD {φ : FTy} (X : ℕ → ℕ → ℝ) (h) : shapeCast S512x128 (uD (φ := φ) X) h = uD X := by
  funext i; pointwise [uD]

/-! ## The block's sums as the kernel's values: over the logarithms, a diagonal block -/

section Diag
variable {q k v g : Vec Ideal S512x128 .bf16} {W : FVec Ideal S512x512 .f32} {X : ℕ → ℕ → ℝ}

theorem pay11 : k0_pay11 uM = uM := castM _
theorem pay12 (h : k0_pay10 q k = uS X) : k0_pay12 q k = uS X := by unfold k0_pay12; rw [h]; rfl
theorem pay13 (h : k0_pay10 q k = uS X) : k0_pay13 q k = uS fun _ _ => 0 := by unfold k0_pay13; rw [pay12 h, h]; exact low _ _ _
theorem pay14 (h : k0_pay10 q k = uS X) : k0_pay14 q k uM = uD fun r l => later X r (384 + l) := by
  unfold k0_pay14; rw [pay12 h, pay13 h, pay11]; exact seg_last _ _ _
theorem pay15 (h : k0_pay10 q k = uS X) : k0_pay15 q k uM = uC fun r => from_ X r 384 := by
  unfold k0_pay15; rw [pay14 h, h]; exact seg_carry 384 (by norm_num) _ _ _
theorem pay16 : k0_pay16 uM (uS X) (uS fun _ _ => 0) (uC fun r => from_ X r 384) = uD fun r l => later X r (256 + l) :=
  seg 256 (by norm_num) _ _ _ _
theorem pay17 : k0_pay17 (uS X) uM (uS X) (uS fun _ _ => 0) (uC fun r => from_ X r 384) = uD fun r l => later X r (128 + l) := by
  unfold k0_pay17; rw [pay16]; dsimp only; rw [seg_carry 256 (by norm_num)]; exact seg 128 (by norm_num) _ _ _ _
theorem pay18 : k0_pay18 (uS X) uM (uS X) (uS fun _ _ => 0) (uC fun r => from_ X r 384) = uD fun r l => later X r (0 + l) := by
  unfold k0_pay18; rw [pay17]; dsimp only; rw [seg_carry 128 (by norm_num)]; exact seg 0 (by norm_num) _ _ _ _
theorem pay19 : k0_pay19 (uS X) uM (uS X) (uS fun _ _ => 0) (uC fun r => from_ X r 384) = uC fun r => from_ X r 0 := by
  unfold k0_pay19; rw [pay18]; exact seg_carry 0 (by norm_num) _ _ _

theorem pay25 : k0_pay25 uM = uM := castM _
theorem pay26 (h : k0_pay24 v g W = uS X) : k0_pay26 v g W = uS X := by unfold k0_pay26; rw [h]; rfl
theorem pay27 (h : k0_pay24 v g W = uS X) : k0_pay27 v g W = uS fun _ _ => 0 := by unfold k0_pay27; rw [pay26 h, h]; exact low _ _ _
theorem pay28 (h : k0_pay24 v g W = uS X) : k0_pay28 v g W uM = uD fun r l => later X r (384 + l) := by
  unfold k0_pay28; rw [pay26 h, pay27 h, pay25]; exact seg_last _ _ _
theorem pay29 (h : k0_pay24 v g W = uS X) : k0_pay29 v g W uM = uD fun r l => later X r (256 + l) := by
  unfold k0_pay29; rw [pay28 h, pay26 h, pay27 h, pay25, h]; dsimp only; rw [seg_carry 384 (by norm_num)]; exact seg 256 (by norm_num) _ _ _ _
theorem pay30 (h : k0_pay24 v g W = uS X) : k0_pay30 v g W uM = uD fun r l => later X r (128 + l) := by
  unfold k0_pay30; rw [pay29 h, pay26 h, pay27 h, pay25, h]; dsimp only; rw [seg_carry 256 (by norm_num)]; exact seg 128 (by norm_num) _ _ _ _
theorem pay31 (h : k0_pay24 v g W = uS X) : k0_pay31 v g W uM = uD fun r l => later X r (0 + l) := by
  unfold k0_pay31; rw [pay30 h, pay26 h, pay27 h, pay25, h]; dsimp only; rw [seg_carry 128 (by norm_num)]; exact seg 0 (by norm_num) _ _ _ _
theorem pay32 (h : k0_pay24 v g W = uS X) : k0_pay32 v g W uM = uC fun r => from_ X r 0 := by
  unfold k0_pay32; rw [pay31 h, h]; exact seg_carry 0 (by norm_num) _ _ _
theorem pay33 (h : k0_pay24 v g W = uS X) : k0_pay33 v g W uM = uS (later X) := by
  unfold k0_pay33; rw [pay31 h, pay30 h, pay29 h, pay28 h]; exact concat _ _

end Diag

/-! ## The same of an earlier block -/

section Off
variable {q k : Vec Ideal S512x128 .bf16} {X : ℕ → ℕ → ℝ}

theorem pay43 : k0_pay43 uM = uM := castM _
theorem pay44 (h : k0_pay42 q k = uS X) : k0_pay44 q k = uS X := by unfold k0_pay44; rw [h]; rfl
theorem pay45 (h : k0_pay42 q k = uS X) : k0_pay45 q k = uS fun _ _ => 0 := by unfold k0_pay45; rw [pay44 h, h]; exact low _ _ _
theorem pay46 (h : k0_pay42 q k = uS X) : k0_pay46 q k uM = uD fun r l => later X r (384 + l) := by
  unfold k0_pay46; rw [pay44 h, pay45 h, pay43]; exact seg_last _ _ _
theorem pay47 (h : k0_pay42 q k = uS X) : k0_pay47 q k uM = uC fun r => from_ X r 384 := by
  unfold k0_pay47; rw [pay46 h, h]; exact seg_carry 384 (by norm_num) _ _ _
theorem pay50 (h : k0_pay42 q k = uS X) : k0_pay50 (uC fun r => from_ X r 384) (k0_pay48 q k uM) (k0_pay49 q k uM) = uD fun r l => later X r (256 + l) := by
  unfold k0_pay50 k0_pay48 k0_pay49; rw [pay44 h, pay45 h, pay43]; exact seg 256 (by norm_num) _ _ _ _
theorem pay51 (h : k0_pay42 q k = uS X) : k0_pay51 (uS X) uM (uS X) (uS fun _ _ => 0) (uC fun r => from_ X r 384) (k0_pay48 q k uM) (k0_pay49 q k uM) = uD fun r l => later X r (128 + l) := by
  unfold k0_pay51; rw [pay50 h]; dsimp only; rw [seg_carry 256 (by norm_num)]; exact seg 128 (by norm_num) _ _ _ _
theorem pay52 (h : k0_pay42 q k = uS X) : k0_pay52 (uS X) uM (uS X) (uS fun _ _ => 0) (uC fun r => from_ X r 384) (k0_pay48 q k uM) (k0_pay49 q k uM) = uD fun r l => later X r (0 + l) := by
  unfold k0_pay52; rw [pay51 h]; dsimp only; rw [seg_carry 128 (by norm_num)]; exact seg 0 (by norm_num) _ _ _ _
theorem pay53 (h : k0_pay42 q k = uS X) : k0_pay53 (uS X) uM (uS X) (uS fun _ _ => 0) (uC fun r => from_ X r 384) (k0_pay48 q k uM) (k0_pay49 q k uM) = uC fun r => from_ X r 0 := by
  unfold k0_pay53; rw [pay52 h]; exact seg_carry 0 (by norm_num) _ _ _

/-- the last 128 keys' products with the ones, the upper and the lower halves -/
def hi3 (X : ℕ → ℕ → ℝ) : FVec Ideal S512x128 .f32 := matmul dot_S512x128_S128x128_S512x128_1_0_0_1_n_n none (extractStridedSlice S512x128 ![0, 384] (uS (φ := .bf16) X) slices_S512x512_o0_384_S512x128) uM (constant S512x128 .f32 0x00000000#32)
def lo3 : FVec Ideal S512x128 .bf16 := extractStridedSlice S512x128 ![0, 384] (uS (φ := .bf16) fun _ _ => 0) slices_S512x512_o0_384_S512x128

theorem pay56 : k0_pay56 uM = uM := castM _
theorem pay61 : k0_pay61 uM (hi3 X) lo3 (constant S512x128 .f32 0x00000000#32) = uD fun r l => later X r (384 + l) := seg_last _ _ _
theorem pay62 : k0_pay62 (uS X) uM (uS X) (uS fun _ _ => 0) (hi3 X) lo3 (constant S512x128 .f32 0x00000000#32) = uD fun r l => later X r (256 + l) := by
  unfold k0_pay62; rw [pay61]; dsimp only; rw [seg_carry 384 (by norm_num)]; exact seg 256 (by norm_num) _ _ _ _
theorem pay63 : k0_pay63 (uS X) uM (uS X) (uS fun _ _ => 0) (hi3 X) lo3 (constant S512x128 .f32 0x00000000#32) = uD fun r l => later X r (128 + l) := by
  unfold k0_pay63; rw [pay62]; dsimp only; rw [seg_carry 256 (by norm_num)]; exact seg 128 (by norm_num) _ _ _ _
theorem pay64 : k0_pay64 (uS X) uM (uS X) (uS fun _ _ => 0) (hi3 X) lo3 (constant S512x128 .f32 0x00000000#32) = uD fun r l => later X r (0 + l) := by
  unfold k0_pay64; rw [pay63]; dsimp only; rw [seg_carry 128 (by norm_num)]; exact seg 0 (by norm_num) _ _ _ _
theorem pay65 : k0_pay65 (uS X) uM (uS X) (uS fun _ _ => 0) (hi3 X) lo3 (constant S512x128 .f32 0x00000000#32) = uC fun r => from_ X r 0 := by
  unfold k0_pay65; rw [pay64]; exact seg_carry 0 (by norm_num) _ _ _

end Off

end Cert.Proof.Stick

end
-- ==== Proof.StickBlock.lean ====
/-
  The stick-breaking backward call, one grid point over the reals, second part: the scores, the weights and their
  gradients of one block of rows and keys.
-/
module

public import proofs.«01_k».proof.Proof.StickVec
public import Idealize.ShloMosaic.Lib.WordCmp

@[expose] public section

set_option maxRecDepth 16384

noncomputable section

namespace Cert.Proof.Stick

open Cert.StickKernelIdeal Cert.StickKernelIdeal.Gen
open Idealize.ShloMosaic Idealize.ShloMosaic.TcCoe Idealize.SL.Sem
open Finset (range Ico sum_congr)

/-! ## Constants -/

/-- the logarithm's base -/
def il : ℝ := (Real.log 2)⁻¹

theorem bits_one : Ideal.ofBits .f32 0x3F800000#32 = ((1 : ℝ) : EReal) := by
  simp [Ideal.ofBits, Ideal.ieee]; norm_num [← EReal.coe_mul]
theorem bits_sc : Ideal.ofBits .f32 0x3DB504F3#32 = (sc : EReal) := by
  simp [Ideal.ofBits, Ideal.ieee, sc]; norm_num [zpow_neg]; rw [← EReal.coe_mul]; norm_num
theorem named_scale : (Named.named κ "scale_log2e" (0x3E0293EE#32 : BitVec (FTy.bits .f32)) : Ideal .f32) = ((sc * il : ℝ) : EReal) := by
  rfl
theorem named_log2e : (Named.named κ "log2e" (0x3FB8AA3B#32 : BitVec (FTy.bits .f32)) : Ideal .f32) = ((il : ℝ) : EReal) := by
  rfl

/-! ## Elements -/

theorem exp2_real (x : ℝ) : (FloatOps.exp2 (F := Ideal) (φ := .f32) ((x * il : ℝ) : EReal) : EReal) = ((Real.exp x : ℝ) : EReal) := by
  show Ideal.exp2 _ = _
  rw [Ideal.exp2_coe, ← rpow_two]; rfl

theorem abs_real (x : ℝ) : (FloatOps.absf (F := Ideal) (φ := .f32) (x : EReal) : EReal) = ((|x| : ℝ) : EReal) := by
  show max (x : EReal) (-x) = _
  rw [← EReal.coe_neg, abs_eq_max_neg]
  exact (EReal.coe_strictMono.monotone.map_max (a := x) (b := -x)).symm

theorem log_real {x : ℝ} (h : 0 < x) : Ideal.log (x : EReal) = ((Real.log x : ℝ) : EReal) := by
  rw [Ideal.log_coe, if_neg h.not_ge]

theorem mask {a b : ℕ} (ha : a < 4096) (hb : b < 4096) (x y : EReal) :
    Scalar.select (IntOp.cmpi .slt (BitVec.ofNat 32 a) (BitVec.ofNat 32 b)) x y = if a < b then x else y := by
  rw [WordCmp.cmpi_slt_ofNat (by norm_num; omega) (by norm_num; omega)]
  by_cases h : a < b <;> simp [h, Scalar.select]

theorem max_real (x y : ℝ) : max (x : EReal) (y : EReal) = ((max x y : ℝ) : EReal) :=
  (EReal.coe_strictMono.monotone.map_max (a := x) (b := y)).symm

theorem il_pos : 0 < il := log_two_inv_pos

/-! ## Scores -/

section
variable {q k v g : Vec Ideal S512x128 .bf16} {Z : ℕ → ℕ → ℝ}

theorem pay6 (Q K : ℕ → ℕ → ℝ) : k0_pay6 (F := Ideal) (uD (φ := .bf16) Q) (uD (φ := .bf16) K) = uS (φ := .f32) fun r l => ((∑ d ∈ range 128, Q r d * K l d) * sc) * il := by
  unfold k0_pay6
  rw [named_scale]
  funext i
  pointwise [uS, uD]
  simp only [← EReal.coe_mul]
  rw [sum_fin 128 fun d => Q (i 0) d * K (i 1) d, ← EReal.coe_mul, mul_assoc]

theorem pay7 (h : k0_pay6 (F := Ideal) q k = uS fun r l => Z r l * il) : k0_pay7 q k = uS fun r l => Real.exp (-|Z r l|) := by
  unfold k0_pay7; rw [h]
  funext i
  pointwise [uS]
  rw [abs_real, zero_sub, ← EReal.coe_neg, abs_mul, abs_of_pos il_pos, ← neg_mul, exp2_real]

theorem pay8 (h : k0_pay6 (F := Ideal) q k = uS fun r l => Z r l * il) : k0_pay8 q k = uS fun r l => Real.log (1 + Real.exp (Z r l)) * il := by
  unfold k0_pay8; rw [h, pay7 h, named_log2e]
  funext i
  pointwise [uS]
  have e : max (Z (i 0) (i 1) * il) 0 = max (Z (i 0) (i 1)) 0 * il := by
    rw [max_mul_of_nonneg _ _ il_pos.le, zero_mul]
  rw [← EReal.coe_one, ← EReal.coe_add, log_real (by positivity), ← EReal.coe_mul, ← EReal.coe_zero, max_real, ← EReal.coe_add, e,
    ← add_mul, softplus_split]

theorem pay10 (h : k0_pay6 (F := Ideal) q k = uS fun r l => Z r l * il) :
    k0_pay10 q k = uS fun r l => (if l < r then -Real.log (1 + Real.exp (Z r l)) else 0) * il := by
  unfold k0_pay10; rw [pay8 h]
  funext i
  pointwise [uS, k0_pay9]
  rw [mask ((i 1).isLt.trans (by decide)) ((i 0).isLt.trans (by decide))]
  split_ifs
  · rw [zero_sub, ← EReal.coe_neg, neg_mul]
  · rw [zero_mul]; rfl

theorem pay42 (h : k0_pay39 (F := Ideal) q k = uS fun r l => Z r l * il) :
    k0_pay42 q k = uS fun r l => (-Real.log (1 + Real.exp (Z r l))) * il := by
  have e : k0_pay41 (F := Ideal) q k = k0_pay8 q k := rfl
  unfold k0_pay42; rw [e, pay8 h]
  funext i
  pointwise [uS, k0_pay9]
  rw [zero_sub, ← EReal.coe_neg, neg_mul]

theorem later_il (X : ℕ → ℕ → ℝ) (r l : ℕ) : later (fun r l => X r l * il) r l = later X r l * il := by
  unfold later; rw [Finset.sum_mul]
theorem from_il (X : ℕ → ℕ → ℝ) (r l : ℕ) : from_ (fun r l => X r l * il) r l = from_ X r l * il := by
  unfold from_; rw [Finset.sum_mul]

/-! ## Products -/

theorem pay24 (V G W : ℕ → ℕ → ℝ) : k0_pay24 (F := Ideal) (uD (φ := .bf16) V) (uD (φ := .bf16) G) (uS W) = uS fun r l => W r l * ∑ d ∈ range 128, G r d * V l d := by
  unfold k0_pay24
  funext i
  pointwise [uS, uD]
  simp only [← EReal.coe_mul]
  rw [sum_fin 128 fun d => G (i 0) d * V (i 1) d, ← EReal.coe_mul]

theorem pay20 (G O : ℕ → ℕ → ℝ) : k0_pay20 (F := Ideal) (uD (φ := .bf16) G) (uD (φ := .f32) O) = uC fun r => ∑ d ∈ range 128, G r d * O r d := by
  unfold k0_pay20
  funext i
  pointwise [uC, uD]
  simp only [← EReal.coe_mul]
  exact sum_fin 128 fun d => G (i 0) d * O (i 0) d

theorem pay36 (Q D Y : ℕ → ℕ → ℝ) (z2 e2 : FVec Ideal S512x512 .f32) (mk dl pm sf o2) (h : k0_pay35 (F := Ideal) z2 e2 mk dl pm sf o2 = uS D) :
    k0_pay36 (F := Ideal) (uD (φ := .bf16) Q) z2 e2 mk dl pm sf o2 (uD (φ := .f32) Y) = uD fun l d => Y l d + (∑ r ∈ range 512, D r l * Q r d) * sc := by
  unfold k0_pay36; rw [h]
  funext i
  pointwise [uS, uD]
  simp only [← EReal.coe_mul]
  rw [sum_fin 512 fun r => D r (i 0) * Q r (i 1), bits_sc, ← EReal.coe_mul, ← EReal.coe_add]

theorem pay37 (G W Y : ℕ → ℕ → ℝ) :
    k0_pay37 (F := Ideal) (uD (φ := .bf16) G) (uS W) (uD (φ := .f32) Y) = uD fun l d => Y l d + ∑ r ∈ range 512, W r l * G r d := by
  unfold k0_pay37
  funext i
  pointwise [uS, uD]
  simp only [← EReal.coe_mul]
  rw [sum_fin 512 fun r => W r (i 0) * G r (i 1), ← EReal.coe_add]

theorem pay38 (K D : ℕ → ℕ → ℝ) (z2 e2 : FVec Ideal S512x512 .f32) (mk dl pm sf o2) (h : k0_pay35 (F := Ideal) z2 e2 mk dl pm sf o2 = uS D) :
    k0_pay38 (F := Ideal) (uD (φ := .bf16) K) z2 e2 mk dl pm sf o2 = uD fun r d => (∑ l ∈ range 512, D r l * K l d) * sc := by
  unfold k0_pay38; rw [h]
  funext i
  pointwise [uS, uD]
  simp only [← EReal.coe_mul]
  rw [sum_fin 512 fun l => D (i 0) l * K l (i 1), bits_sc, ← EReal.coe_mul]

/-! ## Weights and the scores' gradients -/

theorem share (x : ℝ) : (if (0 : EReal) ≤ ((x * il : ℝ) : EReal) then Ideal.div 1 (1 + ((Real.exp (-|x|) : ℝ) : EReal))
    else ((Real.exp (-|x|) : ℝ) : EReal) * Ideal.div 1 (1 + ((Real.exp (-|x|) : ℝ) : EReal))) = ((Real.exp x / (1 + Real.exp x) : ℝ) : EReal) := by
  have h1 : (1 + Real.exp (-|x|)) ≠ 0 := by positivity
  rw [← EReal.coe_one, ← EReal.coe_add, Cert.Reals.div_real h1, ← EReal.coe_mul, ← share_split x]
  have e : (0 ≤ x * il) ↔ 0 ≤ x := ⟨fun h => nonneg_of_mul_nonneg_left h il_pos, fun h => mul_nonneg h il_pos.le⟩
  have e' : (0 : EReal) ≤ ((x * il : ℝ) : EReal) ↔ 0 ≤ x := by rw [← e]; exact EReal.coe_nonneg
  by_cases h : 0 ≤ x
  · rw [if_pos h, if_pos (e'.2 h)]
  · rw [if_neg h, if_neg (fun hc => h (e'.1 hc))]

theorem pay22 (Z X : ℕ → ℕ → ℝ) (L : ℕ → ℕ → ℝ) (a41 a43 a44 a47 a55) (h16 : k0_pay16 (F := Ideal) a43 a44 a47 a55 = uD fun r l => L r (256 + l) * il)
    (h17 : k0_pay17 (F := Ideal) a41 a43 a44 a47 a55 = uD fun r l => L r (128 + l) * il) (h18 : k0_pay18 (F := Ideal) a41 a43 a44 a47 a55 = uD fun r l => L r (0 + l) * il) :
    k0_pay22 (F := Ideal) (uS (φ := .f32) fun r l => Z r l * il) (uS (φ := .f32) fun r l => X r l * il) k0_pay9 a41 a43 a44 a47 (uD (φ := .f32) fun r l => L r (384 + l) * il) a55
      = uS (φ := .bf16) fun r l => if l < r then Real.exp (Z r l - X r l + L r l) else 0 := by
  unfold k0_pay22; rw [h16, h17, h18, concat fun r l => L r l * il]
  funext i
  pointwise [uS, k0_pay9]
  rw [mask ((i 1).isLt.trans (by decide)) ((i 0).isLt.trans (by decide)), ← EReal.coe_sub, ← EReal.coe_add, ← sub_mul, ← add_mul, exp2_real]
  split_ifs <;> rfl

theorem pay35 (Z P L : ℕ → ℕ → ℝ) (D : ℕ → ℝ) :
    k0_pay35 (F := Ideal) (uS (φ := .f32) fun r l => Z r l * il) (uS (φ := .f32) fun r l => Real.exp (-|Z r l|)) k0_pay9 (uC D) (uS (φ := .f32) P) (uS (φ := .f32) L) (k0_pay34 (F := Ideal))
      = uS (φ := .bf16) fun r l => if l < r then P r l - Real.exp (Z r l) / (1 + Real.exp (Z r l)) * (D r - L r l) else 0 := by
  unfold k0_pay35
  funext i
  pointwise [uS, uC, k0_pay9, k0_pay34]
  rw [mask ((i 1).isLt.trans (by decide)) ((i 0).isLt.trans (by decide)), share, ← EReal.coe_sub, ← EReal.coe_mul, ← EReal.coe_sub]
  split_ifs <;> rfl

theorem pay54 (Z X L : ℕ → ℕ → ℝ) (R : ℕ → ℝ) (a36 a38 a39 a42 a50 a52 a54) (h50 : k0_pay50 (F := Ideal) a50 a52 a54 = uD fun r l => L r (256 + l) * il)
    (h51 : k0_pay51 (F := Ideal) a36 a38 a39 a42 a50 a52 a54 = uD fun r l => L r (128 + l) * il) (h52 : k0_pay52 (F := Ideal) a36 a38 a39 a42 a50 a52 a54 = uD fun r l => L r (0 + l) * il) :
    k0_pay54 (F := Ideal) (uS (φ := .f32) fun r l => Z r l * il) (uS (φ := .f32) fun r l => X r l * il) a36 a38 a39 a42 (uD (φ := .f32) fun r l => L r (384 + l) * il) a50 a52 a54 (uC fun r => R r * il)
      = uS (φ := .bf16) fun r l => Real.exp (Z r l - X r l + (L r l + R r)) := by
  unfold k0_pay54; rw [h50, h51, h52, concat fun r l => L r l * il]
  funext i
  pointwise [uS, uC]
  rw [← EReal.coe_sub, ← EReal.coe_add, ← EReal.coe_add, ← sub_mul, ← add_mul, ← add_mul, exp2_real]

theorem pay66 (Z : ℕ → ℕ → ℝ) : k0_pay66 (F := Ideal) (uS (φ := .f32) fun r l => Z r l * il) (uS (φ := .f32) fun r l => Real.exp (-|Z r l|)) = uS (φ := .f32) fun r l => Real.exp (Z r l) / (1 + Real.exp (Z r l)) := by
  unfold k0_pay66
  funext i
  pointwise [uS]
  exact share _

theorem pay67 (P : ℕ → ℕ → ℝ) (D R : ℕ → ℝ) :
    k0_pay67 (F := Ideal) (uC D) (uS (φ := .f32) P) uM (uS (φ := .bf16) P) (uS (φ := .bf16) fun _ _ => 0) (hi3 P) lo3 (constant S512x128 .f32 0x00000000#32) (uC R)
      = uS (φ := .f32) fun r l => D r - (later P r l + R r) := by
  unfold k0_pay67; rw [pay61, pay62, pay63, pay64, concat (later P)]
  funext i
  pointwise [uS, uC]
  rw [← EReal.coe_add, ← EReal.coe_sub]

theorem pay68 (P B L : ℕ → ℕ → ℝ) : k0_pay68 (F := Ideal) (uS (φ := .f32) P) (uS (φ := .f32) B) (uS (φ := .f32) L) = uS (φ := .bf16) fun r l => P r l - B r l * L r l := by
  unfold k0_pay68
  funext i
  pointwise [uS]
  rw [← EReal.coe_mul, ← EReal.coe_sub]

theorem pay69 (Q P B L Y : ℕ → ℕ → ℝ) : k0_pay69 (F := Ideal) (uD (φ := .bf16) Q) (uS (φ := .f32) P) (uS (φ := .f32) B) (uS (φ := .f32) L) (uD (φ := .f32) Y)
    = uD fun l d => Y l d + (∑ r ∈ range 512, (P r l - B r l * L r l) * Q r d) * sc := by
  unfold k0_pay69; rw [pay68]
  funext i
  pointwise [uS, uD]
  simp only [← EReal.coe_mul]
  rw [sum_fin 512 fun r => (P r (i 0) - B r (i 0) * L r (i 0)) * Q r (i 1), bits_sc, ← EReal.coe_mul, ← EReal.coe_add]

theorem pay70 (G W Y : ℕ → ℕ → ℝ) : k0_pay70 (F := Ideal) (uD (φ := .bf16) G) (uS (φ := .bf16) W) (uD (φ := .f32) Y) = uD fun l d => Y l d + ∑ r ∈ range 512, W r l * G r d :=
  pay37 G W Y

theorem pay71 (K P B L Y : ℕ → ℕ → ℝ) : k0_pay71 (F := Ideal) (uD (φ := .bf16) K) (uS (φ := .f32) P) (uS (φ := .f32) B) (uS (φ := .f32) L) (uD (φ := .f32) Y)
    = uD fun r d => Y r d + (∑ l ∈ range 512, (P r l - B r l * L r l) * K l d) * sc := by
  unfold k0_pay71; rw [pay68]
  funext i
  pointwise [uS, uD]
  simp only [← EReal.coe_mul]
  rw [sum_fin 512 fun l => (P (i 0) l - B (i 0) l * L (i 0) l) * K l (i 1), bits_sc, ← EReal.coe_mul, ← EReal.coe_add]

theorem pay72 (A B : ℕ → ℝ) : k0_pay72 (F := Ideal) (uC A) (uC B) = uC fun r => B r + A r := by
  unfold k0_pay72
  funext i
  pointwise [uC]
  rw [← EReal.coe_add]

theorem pay73 (A B : ℕ → ℝ) : k0_pay5 (k0_pay73 (F := Ideal) (uC A) (uC B)) = uC fun r => B r + A r := pay72 A B

end

end Cert.Proof.Stick

end
-- ==== Proof.StickStep.lean ====
/-
  The stick-breaking backward call, one grid point over the reals, third part: what a point leaves, in the sums over all
  later keys, from what the point before carried.
-/
module

public import proofs.«01_k».proof.Proof.StickBlock

@[expose] public section

set_option maxRecDepth 16384

noncomputable section

namespace Cert.Proof.Stick

open Cert.StickKernelIdeal Cert.StickKernelIdeal.Gen
open Idealize.ShloMosaic Idealize.ShloMosaic.TcCoe Idealize.SL.Sem
open Finset (range Ico sum_congr)

/-- What a point reads: row block `qi`, key block `ki` of a head. -/
structure At (a : Head) (qi ki : ℕ) (x : Ins Ideal) : Prop where
  q : x.q = uD (φ := .bf16) fun r d => a.Q (512 * qi + r) d
  k : x.k = uD (φ := .bf16) fun r d => a.K (512 * ki + r) d
  v : x.v = uD (φ := .bf16) fun r d => a.V (512 * ki + r) d
  g : x.g = uD (φ := .bf16) fun r d => a.G (512 * qi + r) d
  M : x.M = uM
  o : x.o = uD (φ := .f32) fun r d => a.o (512 * qi + r) d

/-- What is carried once the keys from block `ki` on are done. -/
def car (a : Head) (qi ki : ℕ) : Car Ideal where
  acc := uD (φ := .f32) fun r d => (∑ S ∈ Ico (512 * ki) 4096, a.dz (512 * qi + r) S * a.K S d) * sc
  ra := uC fun r => (∑ S ∈ Ico (512 * ki) 4096, a.gm (512 * qi + r) S) * il
  rp := uC fun r => ∑ S ∈ Ico (512 * ki) 4096, a.pm (512 * qi + r) S
  dl := uC fun r => a.dl (512 * qi + r)

theorem car_acc (a : Head) (qi ki : ℕ) : (car a qi ki).acc = uD (φ := .f32) fun r d => (∑ S ∈ Ico (512 * ki) 4096, a.dz (512 * qi + r) S * a.K S d) * sc := rfl
theorem car_ra (a : Head) (qi ki : ℕ) : (car a qi ki).ra = uC fun r => (∑ S ∈ Ico (512 * ki) 4096, a.gm (512 * qi + r) S) * il := rfl
theorem car_rp (a : Head) (qi ki : ℕ) : (car a qi ki).rp = uC fun r => ∑ S ∈ Ico (512 * ki) 4096, a.pm (512 * qi + r) S := rfl
theorem car_dl (a : Head) (qi ki : ℕ) : (car a qi ki).dl = uC fun r => a.dl (512 * qi + r) := rfl

theorem Car.same {u v : Car Ideal} (h1 : u.acc = v.acc) (h2 : u.ra = v.ra) (h3 : u.rp = v.rp) (h4 : u.dl = v.dl) : u = v := by
  cases u; cases v; cases h1; cases h2; cases h3; cases h4; rfl

/-! ## Sums of a block in the sums of the row -/

theorem later_shift {α : Type} [AddCommMonoid α] (f : ℕ → α) (b l : ℕ) : ∑ k ∈ Ico (l + 1) 512, f (b + k) = ∑ k ∈ Ico (b + l + 1) (b + 512), f k := by
  rw [Finset.sum_Ico_add f (l + 1) 512 b]; congr 2 <;> omega

theorem range_shift {α : Type} [AddCommMonoid α] (f : ℕ → α) (b : ℕ) : ∑ k ∈ range 512, f (b + k) = ∑ k ∈ Ico b (b + 512), f k := by
  rw [Finset.range_eq_Ico, Finset.sum_Ico_add f 0 512 b]; congr 2 <;> omega

theorem from_shift {α : Type} [AddCommMonoid α] (f : ℕ → α) (b : ℕ) : ∑ k ∈ Ico 0 512, f (b + k) = ∑ k ∈ Ico b (b + 512), f k := by
  rw [← Finset.range_eq_Ico, range_shift]

theorem tail_join {α : Type} [AddCommMonoid α] (f : ℕ → α) (ki l : ℕ) (hk : ki < 8) (hl : l ≤ 512) :
    ∑ k ∈ Ico (512 * ki + l) (512 * ki + 512), f k + ∑ k ∈ Ico (512 * (ki + 1)) 4096, f k = ∑ k ∈ Ico (512 * ki + l) 4096, f k := by
  rw [show 512 * (ki + 1) = 512 * ki + 512 by ring]
  exact Finset.sum_Ico_consecutive _ (by omega) (by omega)

theorem tail_zero {α : Type} [AddCommMonoid α] (f : ℕ → α) (b l : ℕ) (hb : b + 512 ≤ 4096) (hl : l ≤ 512) (h : ∀ k, b + 512 ≤ k → f k = 0) :
    ∑ k ∈ Ico (b + l) (b + 512), f k = ∑ k ∈ Ico (b + l) 4096, f k := by
  rw [← Finset.sum_Ico_consecutive f (show b + l ≤ b + 512 by omega) (show b + 512 ≤ 4096 by omega)]
  rw [Finset.sum_eq_zero (s := Ico (b + 512) 4096) fun k hk => h k (Finset.mem_Ico.1 hk).1, add_zero]

/-! ## A diagonal block -/

section Diag
variable {a : Head} {qi : ℕ} {x : Ins Ideal}

theorem d6 (h : At a qi qi x) : k0_pay6 x.q x.k = uS fun r l => a.z (512 * qi + r) (512 * qi + l) * il := by
  rw [h.q, h.k, pay6]; rfl

theorem d10 (h : At a qi qi x) : k0_pay10 x.q x.k = uS fun r l => a.gm (512 * qi + r) (512 * qi + l) * il := by
  rw [pay10 (d6 h)]
  refine uS_congr fun r l hr hl => ?_
  unfold Head.gm Head.sp
  simp only [Nat.add_lt_add_iff_left]

theorem d_later (a : Head) {qi r l : ℕ} (hq : qi < 8) (hr : r < 512) (hl : l < 512) :
    later (fun r l => a.gm (512 * qi + r) (512 * qi + l) * il) r l = (∑ X ∈ Ico (512 * qi + l + 1) 4096, a.gm (512 * qi + r) X) * il := by
  rw [later_il]; unfold later
  rw [later_shift (fun X => a.gm (512 * qi + r) X), add_assoc (512 * qi) l 1,
    tail_zero _ _ _ (by omega) (by omega) fun k hk => a.gm_zero (by omega)]

theorem d_from {α : Type} [AddCommMonoid α] (f : ℕ → α) (qi : ℕ) (hq : qi < 8) (h : ∀ k, 512 * qi + 512 ≤ k → f k = 0) :
    ∑ k ∈ Ico 0 512, f (512 * qi + k) = ∑ k ∈ Ico (512 * qi) 4096, f k := by
  rw [from_shift]; exact tail_zero f (512 * qi) 0 (by omega) (by omega) h

theorem dRa_eq (h : At a qi qi x) (hq : qi < 8) : dRa x = uC fun r => (∑ S ∈ Ico (512 * qi) 4096, a.gm (512 * qi + r) S) * il := by
  unfold dRa
  rw [h.M, d10 h, pay11, pay12 (d10 h), pay13 (d10 h), pay15 (d10 h), pay19]
  refine uC_congr fun r hr => ?_
  rw [from_il]; unfold from_
  rw [d_from (fun X => a.gm (512 * qi + r) X) qi hq fun k hk => a.gm_zero (by omega)]

theorem dW_eq (h : At a qi qi x) (hq : qi < 8) : dW x = uS fun r l => a.w (512 * qi + r) (512 * qi + l) := by
  unfold dW
  rw [h.M, d10 h, pay11, pay12 (d10 h), pay13 (d10 h), pay14 (d10 h), pay15 (d10 h), d6 h, pay8 (d6 h)]
  have e : ∀ off, off ≤ 384 → uD (φ := .f32) (fun r l => later (fun r l => a.gm (512 * qi + r) (512 * qi + l) * il) r (off + l))
      = uD fun r l => (∑ X ∈ Ico (512 * qi + (off + l) + 1) 4096, a.gm (512 * qi + r) X) * il := fun off ho =>
    uD_congr fun r l hr hl => d_later a hq hr (by omega)
  rw [e 384 le_rfl, pay22 (fun r l => a.z (512 * qi + r) (512 * qi + l)) (fun r l => Real.log (1 + Real.exp (a.z (512 * qi + r) (512 * qi + l))))
    (fun r l => ∑ X ∈ Ico (512 * qi + l + 1) 4096, a.gm (512 * qi + r) X) _ _ _ _ _ (pay16.trans (e 256 (by norm_num))) (pay17.trans (e 128 (by norm_num))) (pay18.trans (e 0 (by norm_num)))]
  refine uS_congr fun r l hr hl => ?_
  unfold Head.w Head.sp
  simp only [Nat.add_lt_add_iff_left]

theorem dWf_eq (h : At a qi qi x) (hq : qi < 8) : dWf x = uS fun r l => a.w (512 * qi + r) (512 * qi + l) := by
  have e : dWf x = extf .f32 (dW x) bitsLt_bf16_f32 := rfl
  rw [e, dW_eq h hq]; rfl

theorem d24 (h : At a qi qi x) (hq : qi < 8) : k0_pay24 x.v x.g (dWf x) = uS fun r l => a.pm (512 * qi + r) (512 * qi + l) := by
  rw [dWf_eq h hq, h.v, h.g, pay24]; rfl

theorem d20 (h : At a qi qi x) : k0_pay20 x.g x.o = uC fun r => a.dl (512 * qi + r) := by
  rw [h.g, h.o, pay20]
  exact uC_congr fun r hr => a.dl_eq _

theorem d35 (h : At a qi qi x) (hq : qi < 8) :
    k0_pay35 (k0_pay6 x.q x.k) (k0_pay7 x.q x.k) k0_pay9 (k0_pay20 x.g x.o) (k0_pay24 x.v x.g (dWf x)) (k0_pay33 x.v x.g (dWf x) x.M) (k0_pay34 (F := Ideal))
      = uS fun r l => a.dz (512 * qi + r) (512 * qi + l) := by
  rw [h.M, d6 h, pay7 (d6 h), d20 h, pay33 (d24 h hq), d24 h hq, pay35]
  refine uS_congr fun r l hr hl => ?_
  unfold Head.dz Head.be
  simp only [Nat.add_lt_add_iff_left]
  unfold later
  rw [later_shift (fun X => a.pm (512 * qi + r) X), add_assoc (512 * qi) l 1,
    tail_zero _ _ _ (by omega) (by omega) fun k hk => a.pm_zero (by omega)]

theorem dCar_eq (h : At a qi qi x) (hq : qi < 8) : dCar x = car a qi qi := by
  have e1 : k0_pay38 x.k (k0_pay6 x.q x.k) (k0_pay7 x.q x.k) k0_pay9 (k0_pay20 x.g x.o) (k0_pay24 x.v x.g (dWf x)) (k0_pay33 x.v x.g (dWf x) x.M) (k0_pay34 (F := Ideal))
      = (car a qi qi).acc := by
    have := d35 h hq
    conv_lhs => arg 1; rw [h.k]
    rw [pay38 _ _ _ _ _ _ _ _ _ this, car_acc]
    refine uD_congr fun r d hr hd => ?_
    rw [range_shift (fun S => a.dz (512 * qi + r) S * a.K S d)]
    rw [show Ico (512 * qi) (512 * qi + 512) = Ico (512 * qi + 0) (512 * qi + 512) by rfl,
      tail_zero _ _ _ (by omega) (by omega) fun k hk => by rw [a.dz_zero (by omega), zero_mul], Nat.add_zero]
  have e2 : k0_pay3 (dRa x) = (car a qi qi).ra := by
    rw [dRa_eq h hq]; exact castC _ _
  have e3 : k0_pay4 (k0_pay32 x.v x.g (dWf x) x.M) = (car a qi qi).rp := by
    rw [h.M, pay32 (d24 h hq), car_rp]
    refine (castC _ _).trans (uC_congr fun r hr => ?_)
    unfold from_
    rw [d_from (fun X => a.pm (512 * qi + r) X) qi hq fun k hk => a.pm_zero (by omega)]
  have e4 : k0_pay21 x.g x.o = (car a qi qi).dl := by
    unfold k0_pay21; rw [d20 h]; exact castC _ _
  exact Car.same e1 e2 e3 e4

theorem dDk_eq (h : At a qi qi x) (hq : qi < 8) (Y : ℕ → ℕ → ℝ) :
    dDk x (uD (φ := .f32) Y) = uD fun l d => Y l d + (∑ r ∈ range 512, a.dz (512 * qi + r) (512 * qi + l) * a.Q (512 * qi + r) d) * sc := by
  have := d35 h hq
  unfold dDk
  conv_lhs => arg 1; rw [h.q]
  rw [pay36 _ _ _ _ _ _ _ _ _ _ this]

theorem dDv_eq (h : At a qi qi x) (hq : qi < 8) (Y : ℕ → ℕ → ℝ) :
    dDv x (uD (φ := .f32) Y) = uD fun l d => Y l d + ∑ r ∈ range 512, a.w (512 * qi + r) (512 * qi + l) * a.G (512 * qi + r) d := by
  unfold dDv
  rw [dW_eq h hq, h.g, pay37]

end Diag

/-! ## A block of earlier keys -/

section Off
variable {a : Head} {qi ki : ℕ} {x : Ins Ideal}

theorem o39 (h : At a qi ki x) : k0_pay39 x.q x.k = uS fun r l => a.z (512 * qi + r) (512 * ki + l) * il := by
  rw [h.q, h.k]; exact pay6 _ _
theorem o40 (h : At a qi ki x) : k0_pay40 x.q x.k = uS fun r l => Real.exp (-|a.z (512 * qi + r) (512 * ki + l)|) := pay7 (o39 h)
theorem o41 (h : At a qi ki x) : k0_pay41 x.q x.k = uS fun r l => Real.log (1 + Real.exp (a.z (512 * qi + r) (512 * ki + l))) * il := pay8 (o39 h)

theorem o42 (h : At a qi ki x) (hk : ki < qi) : k0_pay42 x.q x.k = uS fun r l => a.gm (512 * qi + r) (512 * ki + l) * il := by
  rw [pay42 (o39 h)]
  refine uS_congr fun r l hr hl => ?_
  unfold Head.gm Head.sp
  rw [if_pos (by omega)]

theorem oRa_eq (h : At a qi ki x) (hk : ki < qi) : oRa x = uC fun r => (∑ S ∈ Ico (512 * ki) (512 * ki + 512), a.gm (512 * qi + r) S) * il := by
  unfold oRa
  rw [h.M, o42 h hk, pay43, pay44 (o42 h hk), pay45 (o42 h hk), pay47 (o42 h hk), pay53 (o42 h hk)]
  refine uC_congr fun r hr => ?_
  rw [from_il]; unfold from_
  rw [from_shift (fun X => a.gm (512 * qi + r) X)]

theorem oW_eq (h : At a qi ki x) (hk : ki < qi) (hq : qi < 8) : oW x (car a qi (ki + 1)) = uS fun r l => a.w (512 * qi + r) (512 * ki + l) := by
  unfold oW
  rw [h.M, o42 h hk, pay43, pay44 (o42 h hk), pay45 (o42 h hk), pay46 (o42 h hk), pay47 (o42 h hk), o39 h, o41 h]
  have e : ∀ off, off ≤ 384 → uD (φ := .f32) (fun r l => later (fun r l => a.gm (512 * qi + r) (512 * ki + l) * il) r (off + l))
      = uD fun r l => (∑ X ∈ Ico (512 * ki + (off + l) + 1) (512 * ki + 512), a.gm (512 * qi + r) X) * il := fun off ho =>
    uD_congr fun r l hr hl => by
      rw [later_il]; unfold later
      rw [later_shift (fun X => a.gm (512 * qi + r) X)]
  have hc : (car a qi (ki + 1)).ra = uC fun r => (∑ S ∈ Ico (512 * (ki + 1)) 4096, a.gm (512 * qi + r) S) * il := rfl
  rw [e 384 le_rfl, hc, pay54 (fun r l => a.z (512 * qi + r) (512 * ki + l)) (fun r l => Real.log (1 + Real.exp (a.z (512 * qi + r) (512 * ki + l))))
    (fun r l => ∑ X ∈ Ico (512 * ki + l + 1) (512 * ki + 512), a.gm (512 * qi + r) X) _ _ _ _ _ _ _ _ ((pay50 (o42 h hk)).trans (e 256 (by norm_num)))
    ((pay51 (o42 h hk)).trans (e 128 (by norm_num))) ((pay52 (o42 h hk)).trans (e 0 (by norm_num)))]
  refine uS_congr fun r l hr hl => ?_
  unfold Head.w Head.sp
  rw [if_pos (by omega), add_assoc (512 * ki) l 1, tail_join _ _ _ (by omega) (by omega)]

theorem oPm_eq (h : At a qi ki x) (hk : ki < qi) (hq : qi < 8) : oPm x (car a qi (ki + 1)) = uS fun r l => a.pm (512 * qi + r) (512 * ki + l) := by
  have e : oPm x (car a qi (ki + 1)) = k0_pay24 x.v x.g (extf .f32 (oW x (car a qi (ki + 1))) bitsLt_bf16_f32) := rfl
  rw [e, oW_eq h hk hq, h.v, h.g]
  exact pay24 _ _ fun r l => a.w (512 * qi + r) (512 * ki + l)

theorem o57_eq (h : At a qi ki x) (hk : ki < qi) (hq : qi < 8) : o57 x (car a qi (ki + 1)) = uS fun r l => a.pm (512 * qi + r) (512 * ki + l) := by
  have e : o57 x (car a qi (ki + 1)) = truncf .bf16 (oPm x (car a qi (ki + 1))) bitsLt_bf16_f32 := rfl
  rw [e, oPm_eq h hk hq]; rfl
theorem o58_eq (h : At a qi ki x) (hk : ki < qi) (hq : qi < 8) : o58 x (car a qi (ki + 1)) = uS fun _ _ => 0 := by
  have e : o58 x (car a qi (ki + 1)) = truncf .bf16 (subf (oPm x (car a qi (ki + 1))) (extf .f32 (o57 x (car a qi (ki + 1))) bitsLt_bf16_f32)) bitsLt_bf16_f32 := rfl
  rw [e, oPm_eq h hk hq, o57_eq h hk hq]; exact low _ _ _
theorem o59_eq (h : At a qi ki x) (hk : ki < qi) (hq : qi < 8) : o59 x (car a qi (ki + 1)) = hi3 fun r l => a.pm (512 * qi + r) (512 * ki + l) := by
  have e : o59 x (car a qi (ki + 1)) = matmul dot_S512x128_S128x128_S512x128_1_0_0_1_n_n none (extractStridedSlice S512x128 ![0, 384] (o57 x (car a qi (ki + 1))) slices_S512x512_o0_384_S512x128) (k0_pay56 x.M) (constant S512x128 .f32 0x00000000#32) := rfl
  rw [e, o57_eq h hk hq, h.M, pay56]; rfl
theorem o60_eq (h : At a qi ki x) (hk : ki < qi) (hq : qi < 8) : o60 x (car a qi (ki + 1)) = lo3 := by
  have e : o60 x (car a qi (ki + 1)) = extractStridedSlice S512x128 ![0, 384] (o58 x (car a qi (ki + 1))) slices_S512x512_o0_384_S512x128 := rfl
  rw [e, o58_eq h hk hq]; rfl

theorem oRp_eq (h : At a qi ki x) (hk : ki < qi) (hq : qi < 8) : oRp x (car a qi (ki + 1)) = uC fun r => ∑ S ∈ Ico (512 * ki) (512 * ki + 512), a.pm (512 * qi + r) S := by
  unfold oRp
  rw [oPm_eq h hk hq, o57_eq h hk hq, o58_eq h hk hq, o59_eq h hk hq, o60_eq h hk hq, h.M, pay56, pay65]
  refine uC_congr fun r hr => ?_
  unfold from_
  rw [from_shift (fun X => a.pm (512 * qi + r) X)]

theorem oS_eq (h : At a qi ki x) (hk : ki < qi) (hq : qi < 8) :
    oS x (car a qi (ki + 1)) = uS fun r l => a.dl (512 * qi + r) - ∑ X ∈ Ico (512 * ki + l + 1) 4096, a.pm (512 * qi + r) X := by
  unfold oS
  rw [oPm_eq h hk hq, o57_eq h hk hq, o58_eq h hk hq, o59_eq h hk hq, o60_eq h hk hq, h.M, pay56]
  refine (pay67 _ (fun r => a.dl (512 * qi + r)) fun r => ∑ S ∈ Ico (512 * (ki + 1)) 4096, a.pm (512 * qi + r) S).trans (uS_congr fun r l hr hl => ?_)
  unfold later
  rw [later_shift (fun X => a.pm (512 * qi + r) X), add_assoc (512 * ki) l 1, tail_join _ _ _ (by omega) (by omega)]

theorem o66 (h : At a qi ki x) : k0_pay66 (k0_pay39 x.q x.k) (k0_pay40 x.q x.k) = uS fun r l => a.be (512 * qi + r) (512 * ki + l) := by
  rw [o39 h, o40 h, pay66]; rfl

theorem off_dz (a : Head) {qi ki r l : ℕ} (hk : ki < qi) (hl : l < 512) :
    a.pm (512 * qi + r) (512 * ki + l) - a.be (512 * qi + r) (512 * ki + l) * (a.dl (512 * qi + r) - ∑ X ∈ Ico (512 * ki + l + 1) 4096, a.pm (512 * qi + r) X)
      = a.dz (512 * qi + r) (512 * ki + l) := by
  unfold Head.dz; rw [if_pos (by omega)]

theorem off_sum (a : Head) {qi ki : ℕ} (hk : ki < qi) (r : ℕ) (f : ℕ → ℝ) :
    ∑ l ∈ range 512, (a.pm (512 * qi + r) (512 * ki + l) - a.be (512 * qi + r) (512 * ki + l) * (a.dl (512 * qi + r) - ∑ X ∈ Ico (512 * ki + l + 1) 4096, a.pm (512 * qi + r) X)) * f l
      = ∑ l ∈ range 512, a.dz (512 * qi + r) (512 * ki + l) * f l :=
  sum_congr rfl fun l hl => by rw [off_dz a hk (Finset.mem_range.1 hl)]

theorem off_rows (a : Head) {qi ki : ℕ} (hk : ki < qi) {l : ℕ} (hl : l < 512) (f : ℕ → ℝ) :
    ∑ r ∈ range 512, (a.pm (512 * qi + r) (512 * ki + l) - a.be (512 * qi + r) (512 * ki + l) * (a.dl (512 * qi + r) - ∑ X ∈ Ico (512 * ki + l + 1) 4096, a.pm (512 * qi + r) X)) * f r
      = ∑ r ∈ range 512, a.dz (512 * qi + r) (512 * ki + l) * f r :=
  sum_congr rfl fun r _ => by rw [off_dz a hk hl]

theorem oAcc_eq (h : At a qi ki x) (hk : ki < qi) (hq : qi < 8) :
    k0_pay71 x.k (oPm x (car a qi (ki + 1))) (k0_pay66 (k0_pay39 x.q x.k) (k0_pay40 x.q x.k)) (oS x (car a qi (ki + 1))) (car a qi (ki + 1)).acc = (car a qi ki).acc := by
  rw [o66 h, oPm_eq h hk hq, oS_eq h hk hq, h.k, car_acc, car_acc]
  refine (pay71 _ _ _ _ _).trans (uD_congr fun r d hr hd => ?_)
  rw [off_sum a hk r fun l => a.K (512 * ki + l) d, range_shift (fun S => a.dz (512 * qi + r) S * a.K S d), ← add_mul, add_comm]
  exact congrArg (· * sc) (tail_join (fun S => a.dz (512 * qi + r) S * a.K S d) ki 0 (by omega) (by omega))

theorem oCar_eq (h : At a qi ki x) (hk : ki < qi) (hq : qi < 8) : oCar x (car a qi (ki + 1)) = car a qi ki := by
  have e2 : k0_pay72 (oRa x) (car a qi (ki + 1)).ra = (car a qi ki).ra := by
    rw [oRa_eq h hk, car_ra, car_ra]
    refine (pay72 _ _).trans (uC_congr fun r hr => ?_)
    rw [← add_mul, add_comm]
    exact congrArg (· * il) (tail_join (fun S => a.gm (512 * qi + r) S) ki 0 (by omega) (by omega))
  have e3 : k0_pay5 (k0_pay73 (oRp x (car a qi (ki + 1))) (car a qi (ki + 1)).rp) = (car a qi ki).rp := by
    rw [oRp_eq h hk hq, car_rp, car_rp]
    refine (pay73 _ _).trans (uC_congr fun r hr => ?_)
    rw [add_comm]
    exact tail_join (fun S => a.pm (512 * qi + r) S) ki 0 (by omega) (by omega)
  exact Car.same (oAcc_eq h hk hq) e2 e3 rfl

theorem oDk_eq (h : At a qi ki x) (hk : ki < qi) (hq : qi < 8) (Y : ℕ → ℕ → ℝ) :
    oDk x (car a qi (ki + 1)) (uD (φ := .f32) Y) = uD fun l d => Y l d + (∑ r ∈ range 512, a.dz (512 * qi + r) (512 * ki + l) * a.Q (512 * qi + r) d) * sc := by
  unfold oDk
  rw [o66 h, oPm_eq h hk hq, oS_eq h hk hq, h.q]
  refine (pay69 _ _ _ _ _).trans (uD_congr fun l d hl hd => ?_)
  rw [off_rows a hk hl fun r => a.Q (512 * qi + r) d]

theorem oDv_eq (h : At a qi ki x) (hk : ki < qi) (hq : qi < 8) (Y : ℕ → ℕ → ℝ) :
    oDv x (car a qi (ki + 1)) (uD (φ := .f32) Y) = uD fun l d => Y l d + ∑ r ∈ range 512, a.w (512 * qi + r) (512 * ki + l) * a.G (512 * qi + r) d := by
  unfold oDv
  rw [oW_eq h hk hq, h.g]
  exact pay70 _ _ _

end Off

end Cert.Proof.Stick

end
-- ==== Proof.StickTraj.lean ====
/-
  The stick-breaking backward call: what its pipeline has accumulated at each point, over the reals.
-/
module

public import proofs.«01_k».proof.Proof.StickStep
public import proofs.«01_k».proof.Proof.StickPoint

@[expose] public section

set_option maxRecDepth 16384
set_option Elab.async false

noncomputable section

namespace Cert.Proof.Stick

open Cert.StickKernelIdeal Cert.StickKernelIdeal.Gen
open Idealize.ShloMosaic Idealize.ShloMosaic.TcCoe Idealize.SL.Sem
open Finset (range Ico sum_congr)

/-- A head's gradient as an array. -/
def uT (X : ℕ → ℕ → ℝ) : FVec Ideal S4096x128 .f32 := fun i => ((X (i 0) (i 1) : ℝ) : EReal)

theorem uT_congr {X Y : ℕ → ℕ → ℝ} (h : ∀ r d, r < 4096 → d < 128 → X r d = Y r d) : uT X = uT Y :=
  funext fun i => by unfold uT; rw [h _ _ (i 0).isLt (i 1).isLt]

theorem zero1 : k0_pay1 (F := Ideal) = uT fun _ _ => 0 := by
  funext i; unfold uT; pointwise [k0_pay1]
  simp only [Ideal.ofBits_zero_f32, EReal.coe_zero]
theorem zero2 : k0_pay2 (F := Ideal) = uT fun _ _ => 0 := by
  funext i; unfold uT; pointwise [k0_pay2]
  simp only [Ideal.ofBits_zero_f32, EReal.coe_zero]

/-- Adding to a block of rows. -/
theorem rows_uT (k : ℕ) (inb : ∀ a, (![k * 512, 0] : Fin 2 → ℕ) a + S512x128.size a ≤ S4096x128.size a)
    (f : Vec Ideal S512x128 .f32 → FVec Ideal S512x128 .f32) (Y Z : ℕ → ℕ → ℝ)
    (hf : ∀ Y, f (uD (φ := .f32) Y) = uD fun l d => Y l d + Z l d) :
    rows (F := Ideal) ![k * 512, 0] inb f (uT Y) = uT fun S d => if S / 512 = k then Y S d + Z (S - k * 512) d else Y S d := by
  have e : VecWindow.window (uT Y) ![k * 512, 0] S512x128.size inb = uD (φ := .f32) fun l d => Y (k * 512 + l) d := by
    funext y
    unfold VecWindow.window uT uD
    have h0 : (((Rect.unit (s := S4096x128) ![k * 512, 0] S512x128.size inb).emb y) 0 : ℕ) = k * 512 + (y 0 : ℕ) := by
      simp [Rect.emb, Rect.unit]
    have h1 : (((Rect.unit (s := S4096x128) ![k * 512, 0] S512x128.size inb).emb y) 1 : ℕ) = (y 1 : ℕ) := by
      simp [Rect.emb, Rect.unit]
    rw [h0, h1]
  unfold rows
  rw [e, hf]
  funext i
  have hi0 : (i 0 : ℕ) < 4096 := (i 0).isLt
  have hi1 : (i 1 : ℕ) < 128 := (i 1).isLt
  unfold VecWindow.put uT
  by_cases hk : (i 0 : ℕ) / 512 = k
  · have hin : ∀ a, (![k * 512, 0] : Fin 2 → ℕ) a ≤ (i a : ℕ) ∧ (i a : ℕ) < (![k * 512, 0] : Fin 2 → ℕ) a + S512x128.size a := by
      intro a; fin_cases a
      · exact ⟨by show k * 512 ≤ (i 0 : ℕ); omega, by show (i 0 : ℕ) < k * 512 + 512; omega⟩
      · exact ⟨Nat.zero_le _, by show (i 1 : ℕ) < 0 + 128; omega⟩
    rw [dif_pos hin]
    dsimp only
    rw [if_pos hk]
    unfold uD
    have h0 : ((Rect.unitLocal i hin 0 : Fin _) : ℕ) = (i 0 : ℕ) - k * 512 := by rw [Rect.unitLocal_val]; rfl
    have h1 : ((Rect.unitLocal i hin 1 : Fin _) : ℕ) = (i 1 : ℕ) := by rw [Rect.unitLocal_val]; rfl
    show ((Y (k * 512 + (Rect.unitLocal i hin 0 : ℕ)) (Rect.unitLocal i hin 1 : ℕ) + Z (Rect.unitLocal i hin 0 : ℕ) (Rect.unitLocal i hin 1 : ℕ) : ℝ) : EReal) = _
    rw [h0, h1, show k * 512 + ((i 0 : ℕ) - k * 512) = (i 0 : ℕ) by omega]
  · have hout : ¬ ∀ a, (![k * 512, 0] : Fin 2 → ℕ) a ≤ (i a : ℕ) ∧ (i a : ℕ) < (![k * 512, 0] : Fin 2 → ℕ) a + S512x128.size a := by
      intro h
      have h0 : k * 512 ≤ (i 0 : ℕ) ∧ (i 0 : ℕ) < k * 512 + 512 := h 0
      omega
    rw [dif_neg hout]
    dsimp only
    rw [if_neg hk]

/-- How many row blocks have reached key `S` once row block `qi` has reached key block `ki`. -/
def done (qi ki S : ℕ) : ℕ := if ki ≤ S / 512 then qi + 1 else qi

def yk (a : Head) (qi ki S d : ℕ) : ℝ := (∑ T ∈ range (512 * done qi ki S), a.dz T S * a.Q T d) * sc
def yv (a : Head) (qi ki S d : ℕ) : ℝ := ∑ T ∈ range (512 * done qi ki S), a.w T S * a.G T d

theorem sum_next (f : ℕ → ℝ) (q : ℕ) : ∑ T ∈ range (512 * (q + 1)), f T = ∑ T ∈ range (512 * q), f T + ∑ r ∈ range 512, f (512 * q + r) := by
  rw [show 512 * (q + 1) = 512 * q + 512 by ring, Finset.sum_range_add]

/-- A step down the keys. -/
theorem sum_off (f : ℕ → ℕ → ℝ) (qi ki S : ℕ) :
    (if S / 512 = ki then ∑ T ∈ range (512 * done qi (ki + 1) S), f T S + ∑ r ∈ range 512, f (512 * qi + r) (512 * ki + (S - ki * 512))
      else ∑ T ∈ range (512 * done qi (ki + 1) S), f T S) = ∑ T ∈ range (512 * done qi ki S), f T S := by
  by_cases h : S / 512 = ki
  · rw [if_pos h, show 512 * ki + (S - ki * 512) = S by omega]
    unfold done
    rw [if_neg (by omega), if_pos (by omega), sum_next (fun T => f T S)]
  · rw [if_neg h]
    unfold done
    by_cases h' : ki ≤ S / 512
    · rw [if_pos (by omega), if_pos h']
    · rw [if_neg (by omega), if_neg h']

/-- A new row block, at its own keys: earlier rows see no key this late. -/
theorem sum_diag (f : ℕ → ℕ → ℝ) (hf : ∀ T S, T ≤ S → f T S = 0) (qi S : ℕ) :
    (if S / 512 = qi then ∑ T ∈ range (512 * qi), f T S + ∑ r ∈ range 512, f (512 * qi + r) (512 * qi + (S - qi * 512))
      else ∑ T ∈ range (512 * qi), f T S) = ∑ T ∈ range (512 * done qi qi S), f T S := by
  by_cases h : S / 512 = qi
  · rw [if_pos h, show 512 * qi + (S - qi * 512) = S by omega]
    unfold done
    rw [if_pos (by omega), sum_next (fun T => f T S)]
  · rw [if_neg h]
    unfold done
    by_cases h' : qi ≤ S / 512
    · rw [if_pos h', sum_next (fun T => f T S)]
      have : ∑ r ∈ range 512, f (512 * qi + r) S = 0 := Finset.sum_eq_zero fun r hr => hf _ _ (by have := Finset.mem_range.1 hr; omega)
      rw [this, add_zero]
    · rw [if_neg h']

/-- What the points up to one leave. -/
def stOf (a : Head) (qi ki : ℕ) : St Ideal where
  dk := uT (yk a qi ki)
  dv := uT (yv a qi ki)
  car := car a qi ki

theorem St.same {u v : St Ideal} (h1 : u.dk = v.dk) (h2 : u.dv = v.dv) (h3 : u.car = v.car) : u = v := by
  cases u; cases v; cases h1; cases h2; cases h3; rfl

theorem ite_mul' (p : Prop) [Decidable p] (u v s : ℝ) : (if p then u * s + v * s else u * s) = (if p then u + v else u) * s := by
  split <;> ring

theorem stOf_off {a : Head} {qi ki : ℕ} {x : Ins Ideal} (h : At a qi ki x) (hk : ki < qi) (hq : qi < 8)
    (inb : ∀ a, (![ki * 512, 0] : Fin 2 → ℕ) a + S512x128.size a ≤ S4096x128.size a) :
    (⟨rows ![ki * 512, 0] inb (oDk x (car a qi (ki + 1))) (uT (yk a qi (ki + 1))), rows ![ki * 512, 0] inb (oDv x (car a qi (ki + 1))) (uT (yv a qi (ki + 1))), oCar x (car a qi (ki + 1))⟩ : St Ideal)
      = stOf a qi ki := by
  refine St.same ?_ ?_ (oCar_eq h hk hq)
  · refine (rows_uT ki inb _ _ _ (oDk_eq h hk hq)).trans (uT_congr fun S d hS hd => ?_)
    unfold yk
    rw [ite_mul', sum_off (fun T S => a.dz T S * a.Q T d)]
  · refine (rows_uT ki inb _ _ _ (oDv_eq h hk hq)).trans (uT_congr fun S d hS hd => ?_)
    unfold yv
    exact sum_off (fun T S => a.w T S * a.G T d) qi ki S

theorem w_zero' (a : Head) {T S : ℕ} (h : T ≤ S) : a.w T S = 0 := by unfold Head.w; rw [if_neg (by omega)]

theorem stOf_diag {a : Head} {qi ki : ℕ} {x : Ins Ideal} (h : At a qi ki x) (hk : ki = qi) (hq : qi < 8) (yk' yv' : ℕ → ℕ → ℝ)
    (ek : ∀ S d, yk' S d = (∑ T ∈ range (512 * qi), a.dz T S * a.Q T d) * sc) (ev : ∀ S d, yv' S d = ∑ T ∈ range (512 * qi), a.w T S * a.G T d)
    (inb : ∀ a, (![ki * 512, 0] : Fin 2 → ℕ) a + S512x128.size a ≤ S4096x128.size a) :
    (⟨rows ![ki * 512, 0] inb (dDk x) (uT yk'), rows ![ki * 512, 0] inb (dDv x) (uT yv'), dCar x⟩ : St Ideal)
      = stOf a qi ki := by
  subst hk
  refine St.same ?_ ?_ (dCar_eq h hq)
  · refine (rows_uT _ inb _ _ _ (dDk_eq h hq)).trans (uT_congr fun S d hS hd => ?_)
    unfold yk
    rw [ek, ite_mul', sum_diag (fun T S => a.dz T S * a.Q T d) (fun T S hT => by rw [a.dz_zero hT, zero_mul])]
  · refine (rows_uT _ inb _ _ _ (dDv_eq h hq)).trans (uT_congr fun S d hS hd => ?_)
    unfold yv
    rw [ev]
    exact sum_diag (fun T S => a.w T S * a.G T d) (fun T S hT => by rw [w_zero' a hT, zero_mul]) _ S

/-- What a point's place in the tables says. -/
abbrev Sched (t : Fin grid0.N) : Prop :=
  qN t < 8
  ∧ (k0_cond1 (crd t) = 1#1 → qN t = 0 ∧ kN t = 0)
  ∧ (¬ k0_cond1 (crd t) = 1#1 → k0_cond2 (qw t) (kw t) = 1#1 → kN t = qN t ∧ ∃ h : t.val - 1 < grid0.N, (t.val - 1) / 36 = t.val / 36 ∧ qN ⟨t.val - 1, h⟩ + 1 = qN t ∧ kN ⟨t.val - 1, h⟩ = 0)
  ∧ (¬ k0_cond1 (crd t) = 1#1 → ¬ k0_cond2 (qw t) (kw t) = 1#1 → kN t < qN t ∧ ∃ h : t.val - 1 < grid0.N, (t.val - 1) / 36 = t.val / 36 ∧ qN ⟨t.val - 1, h⟩ = qN t ∧ kN ⟨t.val - 1, h⟩ = kN t + 1)

theorem sched : ∀ t : Fin grid0.N, Sched t := by decide +kernel

/-- The first point of a head. -/
theorem traj_head (m : (ℓ : Loc nD τ sig) → Buf (Elt Ideal) ℓ) (c : Dev nD) (a : ℕ → Head) (t : Fin grid0.N)
    (hA : At (a (t.val / 36)) (qN t) (kN t) (ins m c t)) (h1 : k0_cond1 (crd t) = 1#1) :
    traj m c t.val t.isLt = stOf (a (t.val / 36)) (qN t) (kN t) := by
  have e := (sched t).2.1 h1
  refine (traj_first m c t h1 ⟨k0_pay1 (F := Ideal), k0_pay2 (F := Ideal), dCar (ins m c t)⟩).trans ?_
  unfold step stepOf
  rw [if_pos h1, zero1, zero2]
  exact stOf_diag hA (e.2.trans e.1.symm) (sched t).1 _ _ (fun S d => by rw [e.1]; simp) (fun S d => by rw [e.1]; simp) _

/-- What the pipeline holds at a point, given what each point reads. -/
theorem traj_eq (m : (ℓ : Loc nD τ sig) → Buf (Elt Ideal) ℓ) (c : Dev nD) (a : ℕ → Head)
    (hA : ∀ t : Fin grid0.N, At (a (t.val / 36)) (qN t) (kN t) (ins m c t)) :
    ∀ (n : ℕ) (h : n < grid0.N), traj m c n h = stOf (a (n / 36)) (qN ⟨n, h⟩) (kN ⟨n, h⟩) := by
  intro n
  induction n with
  | zero =>
    intro h
    exact traj_head m c a ⟨0, h⟩ (hA _) ((by decide +kernel : ∀ t : Fin grid0.N, t.val = 0 → k0_cond1 (crd t) = 1#1) ⟨0, h⟩ rfl)
  | succ n ih =>
    intro h
    have hs := sched ⟨n + 1, h⟩
    by_cases h1 : k0_cond1 (crd ⟨n + 1, h⟩) = 1#1
    · exact traj_head m c a ⟨n + 1, h⟩ (hA _) h1
    · have hn : n < grid0.N := Nat.lt_of_succ_lt h
      refine (traj_pos m c ⟨n + 1, h⟩ (Nat.succ_ne_zero n)).trans ?_
      rw [show traj m c ((⟨n + 1, h⟩ : Fin grid0.N).val - 1) _ = stOf (a (n / 36)) (qN ⟨n, hn⟩) (kN ⟨n, hn⟩) from ih hn]
      unfold step stepOf
      rw [if_neg h1]
      by_cases h2 : k0_cond2 (qw ⟨n + 1, h⟩) (kw ⟨n + 1, h⟩) = 1#1
      · rw [if_pos h2]
        obtain ⟨e, hp, ep, eq, ek⟩ := hs.2.2.1 h1 h2
        have ep' : n / 36 = (n + 1) / 36 := ep
        have eq' : qN ⟨n, hn⟩ + 1 = qN ⟨n + 1, h⟩ := eq
        have ek' : kN ⟨n, hn⟩ = 0 := ek
        rw [ep', ek']
        refine stOf_diag (hA ⟨n + 1, h⟩) e hs.1 _ _ (fun S d => ?_) (fun S d => ?_) _
        · unfold yk done; rw [if_pos (Nat.zero_le _), eq']
        · unfold yv done; rw [if_pos (Nat.zero_le _), eq']
      · rw [if_neg h2]
        obtain ⟨e, hp, ep, eq, ek⟩ := hs.2.2.2 h1 h2
        have ep' : n / 36 = (n + 1) / 36 := ep
        have eq' : qN ⟨n, hn⟩ = qN ⟨n + 1, h⟩ := eq
        have ek' : kN ⟨n, hn⟩ = kN ⟨n + 1, h⟩ + 1 := ek
        rw [ep', ek', eq']
        exact stOf_off (hA ⟨n + 1, h⟩) e hs.1 _

end Cert.Proof.Stick
end
-- ==== Proof.StickCum.lean ====
/-
  Running sums along the last axis as the host writes them, over the reals.
-/
module

public import proofs.«01_k».proof.Proof.StickBlock

@[expose] public section

set_option maxRecDepth 16384
set_option Elab.async false

noncomputable section

namespace Cert.Proof.Stick

open Idealize.ShloMosaic Idealize.ShloMosaic.TcCoe Idealize.SL.Sem
open Finset (range Ico sum_congr)

theorem foldl_sum {N : ℕ} (f : Fin N → EReal) (v : EReal) : (List.finRange N).foldl (fun r n => r + f n) v = v + ∑ n : Fin N, f n := by
  have : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [this, ← List.ofFn_eq_map, List.sum_ofFn]

abbrev A3 : Shape := ⟨3, ![8, 4096, 4096]⟩

theorem sum_ico_if (f : ℕ → EReal) (b : ℕ) (hb : b < 4096) : ∑ c ∈ range 4096, (if b + c < 4096 then f (b + c) else 0) = ∑ S ∈ Ico b 4096, f S := by
  rw [← Finset.sum_filter, Finset.sum_Ico_eq_sum_range]
  refine Finset.sum_congr (Finset.ext fun c => ?_) fun c _ => rfl
  simp only [Finset.mem_filter, Finset.mem_range]
  omega

theorem sum_range_if (f : ℕ → ℝ) (b : ℕ) (hb : b < 4096) : ∑ c ∈ range 4096, (if 4095 ≤ b + c then f (b + c - 4095) else 0) = ∑ S ∈ range (b + 1), f S := by
  rw [← Finset.sum_filter]
  refine Finset.sum_nbij' (fun c => b + c - 4095) (fun S => S + 4095 - b) ?_ ?_ ?_ ?_ ?_
  all_goals
    intro c hc
    simp only [Finset.mem_filter, Finset.mem_range] at hc ⊢
  · omega
  · omega
  · omega
  · omega

/-- Real numbers by head, row and key. -/
def uH (Y : ℕ → ℕ → ℕ → ℝ) : A3.Idx → EReal := fun i => ((Y (i 0) (i 1) (i 2) : ℝ) : EReal)
theorem uH_congr {Y Z : ℕ → ℕ → ℕ → ℝ} (h : ∀ h T S, h < 8 → T < 4096 → S < 4096 → Y h T S = Z h T S) : uH Y = uH Z :=
  funext fun i => by unfold uH; rw [h _ _ _ (i 0).isLt (i 1).isLt (i 2).isLt]
/-- Keys before the row. -/
def mk : (⟨2, ![4096, 4096]⟩ : Shape).Idx → BitVec 1 := fun i => if (i 1 : ℕ) < (i 0 : ℕ) then 1#1 else 0#1

/-- The window of an entry: from it to the end of the row. -/
theorem cum_later (y : ℕ → ℕ → ℕ → EReal) (x : A3.Idx → EReal) (hx : x = fun i => y (i 0) (i 1) (i 2))
    (h : A3.ReduceWindows ![1, 1, 4096] ![1, 1, 1] ![0, 0, 0] ![0, 0, 4095] A3) (i : A3.Idx) :
    Ideal.hostReduceWindowAdd ![1, 1, 4096] ![1, 1, 1] ![0, 0, 0] ![0, 0, 4095] h x 0 i = ∑ S ∈ Ico (i 2 : ℕ) 4096, y (i 0) (i 1) S := by
  subst hx
  unfold Ideal.hostReduceWindowAdd Host.reduceWindow
  dsimp only
  rw [foldl_sum, zero_add, ← Equiv.sum_comp (Shape.rowMajor _)]
  simp only [Equiv.symm_apply_apply]
  rw [sum_idx3, Fin.sum_univ_one, Fin.sum_univ_one]
  have i0 : (i 0 : ℕ) < 8 := (i 0).isLt
  have i1 : (i 1 : ℕ) < 4096 := (i 1).isLt
  have i2 : (i 2 : ℕ) < 4096 := (i 2).isLt
  rw [← sum_ico_if (fun S => y (i 0) (i 1) S) (i 2) i2]
  refine (sum_congr rfl fun c _ => ?_).trans (Fin.sum_univ_eq_sum_range (fun c => if (i 2 : ℕ) + c < 4096 then y (i 0) (i 1) (i 2 + c) else 0) 4096)
  by_cases hc : (i 2 : ℕ) + (c : ℕ) < 4096
  · rw [if_pos hc, dif_pos]
    · show y ((i 0 : ℕ) * 1 + 0 - 0) ((i 1 : ℕ) * 1 + 0 - 0) ((i 2 : ℕ) * 1 + (c : ℕ) - 0) = _
      simp only [Nat.mul_one, Nat.add_zero, Nat.sub_zero]
    · intro a; fin_cases a
      · exact ⟨Nat.zero_le _, by show (i 0 : ℕ) * 1 + 0 - 0 < 8; omega⟩
      · exact ⟨Nat.zero_le _, by show (i 1 : ℕ) * 1 + 0 - 0 < 4096; omega⟩
      · exact ⟨Nat.zero_le _, by show (i 2 : ℕ) * 1 + (c : ℕ) - 0 < 4096; omega⟩
  · rw [if_neg hc, dif_neg]
    intro hh
    have h2 : (i 2 : ℕ) * 1 + (c : ℕ) - 0 < 4096 := (hh 2).2
    omega

/-- The window of an entry: from the start of the row to it. -/
theorem cum_earlier (y : ℕ → ℕ → ℕ → ℝ) (x : A3.Idx → EReal) (hx : x = fun i => ((y (i 0) (i 1) (i 2) : ℝ) : EReal))
    (h : A3.ReduceWindows ![1, 1, 4096] ![1, 1, 1] ![0, 0, 4095] ![0, 0, 0] A3) (i : A3.Idx) :
    Ideal.hostReduceWindowAdd ![1, 1, 4096] ![1, 1, 1] ![0, 0, 4095] ![0, 0, 0] h x 0 i = ((∑ S ∈ range ((i 2 : ℕ) + 1), y (i 0) (i 1) S : ℝ) : EReal) := by
  subst hx
  unfold Ideal.hostReduceWindowAdd Host.reduceWindow
  dsimp only
  rw [foldl_sum, zero_add, ← Equiv.sum_comp (Shape.rowMajor _)]
  simp only [Equiv.symm_apply_apply]
  rw [sum_idx3, Fin.sum_univ_one, Fin.sum_univ_one]
  have i0 : (i 0 : ℕ) < 8 := (i 0).isLt
  have i1 : (i 1 : ℕ) < 4096 := (i 1).isLt
  have i2 : (i 2 : ℕ) < 4096 := (i 2).isLt
  rw [← sum_range_if (fun S => y (i 0) (i 1) S) (i 2) i2]
  refine (sum_congr rfl fun c _ => ?_).trans (sum_fin 4096 fun c => if 4095 ≤ (i 2 : ℕ) + c then y (i 0) (i 1) (i 2 + c - 4095) else 0)
  have c2 : (c : ℕ) < 4096 := c.isLt
  by_cases hc : 4095 ≤ (i 2 : ℕ) + (c : ℕ)
  · rw [if_pos hc, dif_pos]
    · show ((y ((i 0 : ℕ) * 1 + 0 - 0) ((i 1 : ℕ) * 1 + 0 - 0) ((i 2 : ℕ) * 1 + (c : ℕ) - 4095) : ℝ) : EReal) = _
      simp only [Nat.mul_one, Nat.add_zero, Nat.sub_zero]
    · intro a; fin_cases a
      · exact ⟨Nat.zero_le _, by show (i 0 : ℕ) * 1 + 0 - 0 < 8; omega⟩
      · exact ⟨Nat.zero_le _, by show (i 1 : ℕ) * 1 + 0 - 0 < 4096; omega⟩
      · exact ⟨by show 4095 ≤ (i 2 : ℕ) * 1 + (c : ℕ); omega, by show (i 2 : ℕ) * 1 + (c : ℕ) - 4095 < 4096; omega⟩
  · rw [if_neg hc, dif_neg, EReal.coe_zero]
    intro hh
    have h2 : 4095 ≤ (i 2 : ℕ) * 1 + (c : ℕ) := (hh 2).1
    omega

theorem window_ideal {s t u : Shape} (window strides lo hi : Fin s.rank → ℕ) (x : s.Idx → EReal) (o : u.Idx → EReal) (h : s.ReduceWindows window strides lo hi t) (hu : 0 < u.numel) :
    Host.reduceWindowAdd (F := Ideal) (φ := .f32) window strides lo hi x o h hu = Ideal.hostReduceWindowAdd window strides lo hi h x (o (Shape.Idx.first hu)) := rfl

theorem later_host {u : Shape} (Y : ℕ → ℕ → ℕ → ℝ) (o : u.Idx → EReal) (ho : o = fun _ => 0)
    (h : A3.ReduceWindows ![1, 1, 4096] ![1, 1, 1] ![0, 0, 0] ![0, 0, 4095] A3) (hu : 0 < u.numel) :
    Host.reduceWindowAdd (F := Ideal) (φ := .f32) (s := A3) (t := A3) (u := u) ![1, 1, 4096] ![1, 1, 1] ![0, 0, 0] ![0, 0, 4095] (uH Y) o h hu = uH fun h T S => ∑ U ∈ Ico S 4096, Y h T U := by
  subst ho
  funext i
  rw [window_ideal, cum_later (fun h T S => ((Y h T S : ℝ) : EReal)) (uH Y) rfl h i]
  exact Cert.Reals.sum_coe _ _

theorem earlier_host {u : Shape} (Y : ℕ → ℕ → ℕ → ℝ) (o : u.Idx → EReal) (ho : o = fun _ => 0)
    (h : A3.ReduceWindows ![1, 1, 4096] ![1, 1, 1] ![0, 0, 4095] ![0, 0, 0] A3) (hu : 0 < u.numel) :
    Host.reduceWindowAdd (F := Ideal) (φ := .f32) (s := A3) (t := A3) (u := u) ![1, 1, 4096] ![1, 1, 1] ![0, 0, 4095] ![0, 0, 0] (uH Y) o h hu = uH fun h T S => ∑ U ∈ range (S + 1), Y h T U := by
  subst ho
  funext i
  rw [window_ideal, cum_earlier Y (uH Y) rfl h i]
  rfl

/-! ## The logistic functions as the host writes them -/

theorem log1p_real {x : ℝ} (h : 0 < 1 + x) : Ideal.log1p (x : EReal) = ((Real.log (1 + x) : ℝ) : EReal) := by
  show Ideal.log (1 + (x : EReal)) = _
  rw [← EReal.coe_one, ← EReal.coe_add, log_real h]

/-- `log (eʸ + 1)`, from the larger of `y` and zero; `o` holds zeros. -/
def hostSp (o y : FVec Ideal A3 .f32) : FVec Ideal A3 .f32 :=
  select (cmpf .une (subf y o) (subf y o)) (addf y o) (addf (maximumf y o) (Host.log1p (Host.exp (Host.negf (Host.absf (subf y o))))))

theorem hostSp_eq (o : FVec Ideal A3 .f32) (ho : o = fun _ => (0 : EReal)) (y : A3.Idx → ℝ) :
    hostSp o (fun i => ((y i : ℝ) : EReal)) = fun i => ((Real.log (1 + Real.exp (y i)) : ℝ) : EReal) := by
  subst ho
  unfold hostSp
  funext i
  pointwise
  rw [if_neg (by simp), abs_real, ← EReal.coe_neg, Ideal.exp_coe, log1p_real (by positivity), ← EReal.coe_zero, max_real, ← EReal.coe_add, softplus_split]

end Cert.Proof.Stick
end
-- ==== Proof.StickHost.lean ====
/-
  The stick-breaking backward call: the forward lines on the host, over the reals.
-/
module

public import proofs.«01_k».proof.Proof.StickStep
public import proofs.«01_k».proof.Proof.StickCum
public import proofs.«01_k».proof.Proof.StickPoint
public import Idealize.ShloMosaic.Lib.StableHlo.RunRead

@[expose] public section

set_option maxRecDepth 16384
set_option Elab.async false

noncomputable section

namespace Cert.Proof.Stick

open Cert.StickKernelIdeal Cert.StickKernelIdeal.Gen
open Idealize.ShloMosaic Idealize.ShloMosaic.TcCoe Idealize.SL.Sem
open Finset (range Ico sum_congr)

/-- The projection's heads and the cotangent's. -/
def hd (p g : ℕ → ℕ → ℝ) (h : ℕ) : Head where
  Q T d := p T (3072 + 128 * h + d)
  K T d := p T (4096 + 128 * h + d)
  V T d := p T (5120 + 128 * h + d)
  G T d := g T (128 * h + d)

abbrev Vals := Idealize.ShloMosaic.Valuation τ sig (Elt Ideal)

/-- The projection as launched: the heads' columns hold reals, the others anything. -/
def uX (p : ℕ → ℕ → ℝ) (x : FVec Ideal S4096x12288 .bf16) : FVec Ideal S4096x12288 .bf16 :=
  fun i => if 3072 ≤ (i 1 : ℕ) ∧ (i 1 : ℕ) < 6144 then ((p (i 0) (i 1) : ℝ) : EReal) else x i
def uV (p : ℕ → ℕ → ℝ) : FVec Ideal S8x4096x128 .f32 := fun i => ((p (i 1) (5120 + 128 * (i 0) + (i 2)) : ℝ) : EReal)
abbrev zero : FVec Ideal S_ .f32 := constant S_ .f32 0x00000000#32

section Lists
variable (X : Vals) (p g : ℕ → ℕ → ℝ) (x : FVec Ideal S4096x12288 .bf16) (Y Z : ℕ → ℕ → ℕ → ℝ)

theorem l0_13 (hX : X main_arg0 = uX p x) : StableHlo.after (hostOps0 (F := Ideal)) X (Proc.devRef .tc main_v13) = uH fun h T S => (hd p g h).z T S := by
  after_reads_simp
  rw [hX]
  funext i
  unfold uX uH
  pointwise
  rw [bits_sc]
  unfold Head.z hd
  rw [EReal.coe_mul, ← sum_fin]
  congr 1
  refine sum_congr rfl fun k _ => ?_
  have i0 : (i 0 : ℕ) < 8 := (i 0).isLt
  have kk : (k : ℕ) < 128 := k.isLt
  rw [if_pos (by omega), if_pos (by omega), ← EReal.coe_mul]
  dsimp only
  rw [show 3072 + ((i 0 : ℕ) * 128 + (k : ℕ)) = 3072 + 128 * (i 0 : ℕ) + k by ring, show 3072 + (1024 + ((i 0 : ℕ) * 128 + (k : ℕ))) = 4096 + 128 * (i 0 : ℕ) + k by ring]

theorem l0_21 (hX : X main_arg0 = uX p x) : StableHlo.after (hostOps0 (F := Ideal)) X (Proc.devRef .tc main_v21) = uH fun h T S => -(hd p g h).z T S := by
  have e : StableHlo.after (hostOps0 (F := Ideal)) X (Proc.devRef .tc main_v21) = Host.negf (F := Ideal) (φ := .f32) (StableHlo.after (hostOps0 (F := Ideal)) X (Proc.devRef .tc main_v13)) := by
    after_reads_simp
  rw [e, l0_13 X p g x hX]
  funext i
  unfold uH
  pointwise
  rw [EReal.coe_neg]

theorem l0_10 (hX : X main_arg0 = uX p x) : StableHlo.after (hostOps0 (F := Ideal)) X (Proc.devRef .tc main_v10) = uV p := by
  after_reads_simp
  rw [hX]
  funext i
  unfold uX uV
  pointwise
  have i0 : (i 0 : ℕ) < 8 := (i 0).isLt
  have i2 : (i 2 : ℕ) < 128 := (i 2).isLt
  rw [if_pos (by omega), show 3072 + (2048 + ((i 0 : ℕ) * 128 + (i 2 : ℕ))) = 5120 + 128 * (i 0 : ℕ) + (i 2 : ℕ) by ring]

theorem l0_20 : StableHlo.after (hostOps0 (F := Ideal)) X (Proc.devRef .tc main_v20) = mk := by
  after_reads_simp
  funext i
  unfold mk
  have i0 : (i 0 : ℕ) < 4096 := (i 0).isLt
  have i1 : (i 1 : ℕ) < 4096 := (i 1).isLt
  pointwise
  rw [WordCmp.cmpi_slt_ofNat (by norm_num; omega) (by norm_num; omega)]
  by_cases h : (i 1 : ℕ) < i 0 <;> simp [h]

/-- The host's logarithm of the logistic function. -/
theorem lsig (o : FVec Ideal A3 .f32) (ho : o = fun _ => (0 : EReal)) : Host.negf (hostSp o (Host.negf (F := Ideal) (φ := .f32) (uH Y))) = uH fun h T S => -Real.log (1 + Real.exp (-Y h T S)) := by
  have e : (Host.negf (F := Ideal) (φ := .f32) (uH Y)) = fun i => ((-Y (i 0) (i 1) (i 2) : ℝ) : EReal) := by
    funext i; unfold uH; pointwise; rw [EReal.coe_neg]
  rw [e, hostSp_eq o ho]
  funext i
  unfold uH
  pointwise
  rw [EReal.coe_neg]

theorem zeros : (broadcastInDim S8x4096x4096 ![] bcast_S_S8x4096x4096 zero : FVec Ideal A3 .f32) = fun _ => (0 : EReal) := by
  funext i
  pointwise

theorem l1_22 (hX : X main_v21 = uH Y) :
    StableHlo.after (hostOps0_1 (F := Ideal)) X (Proc.devRef .tc main_v22) = uH fun h T S => -Real.log (1 + Real.exp (-Y h T S)) := by
  have e : StableHlo.after (hostOps0_1 (F := Ideal)) X (Proc.devRef .tc main_v22)
      = Host.negf (hostSp (broadcastInDim S8x4096x4096 ![] bcast_S_S8x4096x4096 zero) (Host.negf (X main_v21))) := by
    after_reads_simp; rfl
  rw [e, hX, lsig _ _ zeros]

/-- Entries where the key comes before the row. -/
theorem masked : (select (broadcastInDim S8x4096x4096 ![1, 2] bcast_S4096x4096_S8x4096x4096_1_2 mk) (uH Y) (broadcastInDim S8x4096x4096 ![] bcast_S_S8x4096x4096 zero) : FVec Ideal A3 .f32)
    = uH fun h T S => if S < T then Y h T S else 0 := by
  funext i
  unfold uH mk
  pointwise
  by_cases h : (i 2 : ℕ) < i 1 <;> simp [h, Scalar.select]

theorem l3_23 (h20 : X main_v20 = mk) (h1 : X main_cst_1 = zero) (h22 : X main_v22 = uH Y) :
    StableHlo.after (hostOps0_3 (F := Ideal)) X (Proc.devRef .tc main_v23) = uH fun h T S => if S < T then Y h T S else 0 := by
  have e : StableHlo.after (hostOps0_3 (F := Ideal)) X (Proc.devRef .tc main_v23)
      = (select (broadcastInDim S8x4096x4096 ![1, 2] bcast_S4096x4096_S8x4096x4096_1_2 (X main_v20)) (X main_v22) (broadcastInDim S8x4096x4096 ![] bcast_S_S8x4096x4096 (X main_cst_1)) : FVec Ideal S8x4096x4096 .f32) := by
    after_reads_simp; rfl
  rw [e, h20, h1, h22, masked]

theorem zero0 : (broadcastInDim S_ ![] bcast_S_S_ zero : S_.Idx → EReal) = fun _ => (0 : EReal) := by
  funext i
  pointwise

theorem l4_24 (hX : X main_v23 = uH Y) :
    StableHlo.after (hostOps0_4 (F := Ideal)) X (Proc.devRef .tc main_v24) = uH fun h T S => ∑ U ∈ Ico S 4096, Y h T U := by
  have e : StableHlo.after (hostOps0_4 (F := Ideal)) X (Proc.devRef .tc main_v24)
      = (Host.reduceWindowAdd (F := Ideal) (φ := .f32) (s := A3) (t := A3) (u := S_) ![1, 1, 4096] ![1, 1, 1] ![0, 0, 0] ![0, 0, 4095] (X main_v23) (broadcastInDim S_ ![] bcast_S_S_ zero)
          reduceWindows_S8x4096x4096_S8x4096x4096_w1s1p0_0_w1s1p0_0_w4096s1p0_4095 h_S_ : FVec Ideal A3 .f32) := by
    after_reads_simp; rfl
  rw [e, hX]
  exact later_host Y _ zero0 _ _

theorem l5_25 (h24 : X main_v24 = uH Y) (h23 : X main_v23 = uH Z) :
    StableHlo.after (hostOps0_5 (F := Ideal)) X (Proc.devRef .tc main_v25) = uH fun h T S => Y h T S - Z h T S := by
  after_reads_simp
  rw [h24, h23]
  funext i
  unfold uH
  pointwise
  rw [EReal.coe_sub]

theorem l6_26 (hX : X main_v13 = uH Y) :
    StableHlo.after (hostOps0_6 (F := Ideal)) X (Proc.devRef .tc main_v26) = uH fun h T S => -Real.log (1 + Real.exp (-Y h T S)) := by
  have e : StableHlo.after (hostOps0_6 (F := Ideal)) X (Proc.devRef .tc main_v26)
      = Host.negf (hostSp (broadcastInDim S8x4096x4096 ![] bcast_S_S8x4096x4096 zero) (Host.negf (X main_v13))) := by
    after_reads_simp; rfl
  rw [e, hX, lsig _ _ zeros]

theorem l7_28 (h26 : X main_v26 = uH Y) (h25 : X main_v25 = uH Z) :
    StableHlo.after (hostOps0_7 (F := Ideal)) X (Proc.devRef .tc main_v28) = uH fun h T S => Real.exp (Y h T S + Z h T S) := by
  after_reads_simp
  rw [h26, h25]
  funext i
  unfold uH
  pointwise
  rw [← EReal.coe_add, Ideal.exp_coe]

theorem l8_29 (h20 : X main_v20 = mk) (h1 : X main_cst_2 = zero) (h22 : X main_v28 = uH Y) :
    StableHlo.after (hostOps0_8 (F := Ideal)) X (Proc.devRef .tc main_v29) = uH fun h T S => if S < T then Y h T S else 0 := by
  have e : StableHlo.after (hostOps0_8 (F := Ideal)) X (Proc.devRef .tc main_v29)
      = (select (broadcastInDim S8x4096x4096 ![1, 2] bcast_S4096x4096_S8x4096x4096_1_2 (X main_v20)) (X main_v28) (broadcastInDim S8x4096x4096 ![] bcast_S_S8x4096x4096 (X main_cst_2)) : FVec Ideal S8x4096x4096 .f32) := by
    after_reads_simp; rfl
  rw [e, h20, h1, h22, masked]

theorem l9_32 (h29 : X main_v29 = uH Y) (h10 : X main_v10 = uV p) :
    StableHlo.after (hostOps0_9 (F := Ideal)) X (Proc.devRef .tc main_v32)
      = fun i : S4096x1024.Idx => ((∑ S ∈ range 4096, Y ((i 1 : ℕ) / 128) (i 0) S * p S (5120 + (i 1)) : ℝ) : EReal) := by
  after_reads_simp
  rw [h29, h10]
  funext i
  unfold uH uV
  pointwise
  show (∑ x : Fin 4096, ((Y ((i 1 : ℕ) / 128) (i 0) x : ℝ) : EReal) * ((p x (5120 + 128 * ((i 1 : ℕ) / 128) + (i 1 : ℕ) % 128) : ℝ) : EReal)) = _
  refine Eq.trans (sum_congr rfl fun k _ => ?_) (sum_fin 4096 fun S => Y ((i 1 : ℕ) / 128) (i 0) S * p S (5120 + (i 1)))
  rw [← EReal.coe_mul, show 5120 + 128 * ((i 1 : ℕ) / 128) + (i 1 : ℕ) % 128 = 5120 + (i 1 : ℕ) by omega]

theorem l9_35 : StableHlo.after (hostOps0_9 (F := Ideal)) X (Proc.devRef .tc main_v35) = fun i : S128x128.Idx => (if (i 1 : ℕ) < (i 0 : ℕ) then 1#1 else 0#1) := by
  after_reads_simp
  funext i
  have i0 : (i 0 : ℕ) < 128 := (i 0).isLt
  have i1 : (i 1 : ℕ) < 128 := (i 1).isLt
  pointwise
  rw [WordCmp.cmpi_sgt_ofNat (by norm_num; omega) (by norm_num; omega)]
  by_cases h : (i 1 : ℕ) < i 0 <;> simp [h]

theorem l10_37 (h35 : X main_v35 = fun i : S128x128.Idx => (if (i 1 : ℕ) < (i 0 : ℕ) then 1#1 else 0#1)) (h3 : X main_cst_3 = constant (F := Ideal) S_ .f32 0x3F800000#32) (h4 : X main_cst_4 = zero) :
    StableHlo.after (hostOps0_11 (F := Ideal)) (StableHlo.after (hostOps0_10 (F := Ideal)) X) (Proc.devRef .tc main_v37) = uM := by
  have e : StableHlo.after (hostOps0_11 (F := Ideal)) (StableHlo.after (hostOps0_10 (F := Ideal)) X) (Proc.devRef .tc main_v37)
      = truncf (F := Ideal) .bf16 (select (X main_v35) (broadcastInDim S128x128 ![] bcast_S_S128x128 (X main_cst_3)) (broadcastInDim S128x128 ![] bcast_S_S128x128 (X main_cst_4)) : FVec Ideal S128x128 .f32) bitsLt_bf16_f32 := by
    after_reads_simp; rfl
  rw [e, h35, h3, h4]
  funext i
  unfold uM
  pointwise
  by_cases h : (i 1 : ℕ) < i 0 <;> simp [h, Scalar.select]

end Lists

/-! ## The lists in order -/

section Chain
variable (m : (ℓ : Loc nD τ sig) → Buf (Elt Ideal) ℓ) (c : Dev nD)

abbrev X0 : Vals := fun b => m (c, b)
def X1 : Vals := StableHlo.after (hostOps0 (F := Ideal)) (X0 m c)
def X2 : Vals := StableHlo.after (hostOps0_1 (F := Ideal)) (X1 m c)
def X3 : Vals := StableHlo.after (hostOps0_2 (F := Ideal)) (X2 m c)
def X4 : Vals := StableHlo.after (hostOps0_3 (F := Ideal)) (X3 m c)
def X5 : Vals := StableHlo.after (hostOps0_4 (F := Ideal)) (X4 m c)
def X6 : Vals := StableHlo.after (hostOps0_5 (F := Ideal)) (X5 m c)
def X7 : Vals := StableHlo.after (hostOps0_6 (F := Ideal)) (X6 m c)
def X8 : Vals := StableHlo.after (hostOps0_7 (F := Ideal)) (X7 m c)
def X9 : Vals := StableHlo.after (hostOps0_8 (F := Ideal)) (X8 m c)
def X10 : Vals := StableHlo.after (hostOps0_9 (F := Ideal)) (X9 m c)
def X11 : Vals := StableHlo.after (hostOps0_10 (F := Ideal)) (X10 m c)
def X12 : Vals := StableHlo.after (hostOps0_11 (F := Ideal)) (X11 m c)

theorem X_all : StableHlo.after (opss (F := Ideal)).flatten (X0 m c) = X12 m c := by
  simp only [opss, List.flatten_cons, List.flatten_nil, List.append_nil, StableHlo.after_append]
  rfl

variable (p g : ℕ → ℕ → ℝ) (x : FVec Ideal S4096x12288 .bf16) (hp : m ((c : Thread nD τ).loc main_arg0) = uX p x)
include hp

theorem x1_13 : X1 m c main_v13 = uH fun h T S => (hd p g h).z T S := l0_13 _ p g x hp
theorem x1_10 : X1 m c main_v10 = uV p := l0_10 _ p x hp
omit hp in
theorem x1_20 : X1 m c main_v20 = mk := l0_20 _
theorem x2_22 : X2 m c main_v22 = uH fun h T S => -(hd p g h).sp T S := by
  refine (l1_22 _ _ (l0_21 _ p g x hp)).trans (uH_congr fun h T S _ _ _ => ?_)
  rw [neg_neg]; rfl
omit hp in
theorem x3_20 : X3 m c main_v20 = mk := by
  unfold X3 X2; after_reads_simp; exact x1_20 m c
theorem x4_23 : X4 m c main_v23 = uH fun h T S => (hd p g h).gm T S := by
  refine (l3_23 _ (fun h T S => -(hd p g h).sp T S) (x3_20 m c) ?_ ?_).trans rfl
  · unfold X3; after_reads_simp
  · unfold X3; after_reads_simp; exact x2_22 m c p g x hp
theorem x5_24 : X5 m c main_v24 = uH fun h T S => ∑ U ∈ Ico S 4096, (hd p g h).gm T U := l4_24 _ _ (x4_23 m c p g x hp)
theorem x6_25 : X6 m c main_v25 = uH fun h T S => ∑ U ∈ Ico S 4096, (hd p g h).gm T U - (hd p g h).gm T S := by
  refine l5_25 _ _ _ (x5_24 m c p g x hp) ?_
  unfold X5; after_reads_simp; exact x4_23 m c p g x hp
theorem x7_26 : X7 m c main_v26 = uH fun h T S => -Real.log (1 + Real.exp (-(hd p g h).z T S)) := by
  refine l6_26 _ (fun h T S => (hd p g h).z T S) ?_
  unfold X6 X5 X4 X3 X2; after_reads_simp; exact x1_13 m c p g x hp
theorem x8_28 : X8 m c main_v28 = uH fun h T S => Real.exp (-Real.log (1 + Real.exp (-(hd p g h).z T S)) + (∑ U ∈ Ico S 4096, (hd p g h).gm T U - (hd p g h).gm T S)) := by
  refine l7_28 _ _ _ (x7_26 m c p g x hp) ?_
  unfold X7; after_reads_simp; exact x6_25 m c p g x hp

omit hp m c in
/-- The weight as the host writes it. -/
theorem w_host (a : Head) {T S : ℕ} (hS : S < 4096) :
    (if S < T then Real.exp (-Real.log (1 + Real.exp (-a.z T S)) + (∑ U ∈ Ico S 4096, a.gm T U - a.gm T S)) else 0) = a.w T S := by
  unfold Head.w
  by_cases h : S < T
  · rw [if_pos h, if_pos h, Finset.sum_eq_sum_Ico_succ_bot hS]
    have e : Real.log (1 + Real.exp (-a.z T S)) = a.sp T S - a.z T S := by
      unfold Head.sp
      have e : 1 + Real.exp (a.z T S) = Real.exp (a.z T S) * (1 + Real.exp (-a.z T S)) := by
        rw [mul_add, mul_one, ← Real.exp_add, add_neg_cancel, Real.exp_zero, add_comm]
      rw [e, Real.log_mul (Real.exp_pos _).ne' (by positivity), Real.log_exp]; ring
    rw [e]; congr 1; ring
  · rw [if_neg h, if_neg h]

theorem x9_29 : X9 m c main_v29 = uH fun h T S => (hd p g h).w T S := by
  refine (l8_29 _ _ ?_ ?_ (x8_28 m c p g x hp)).trans (uH_congr fun h T S _ _ hS => w_host (hd p g h) hS)
  · unfold X8 X7 X6 X5 X4; after_reads_simp; exact x3_20 m c
  · unfold X8; after_reads_simp
theorem x10_32 : X10 m c main_v32 = fun i : S4096x1024.Idx => (((hd p g ((i 1 : ℕ) / 128)).o (i 0) ((i 1 : ℕ) % 128) : ℝ) : EReal) := by
  refine (l9_32 _ p _ (x9_29 m c p g x hp) ?_).trans (funext fun i => ?_)
  · unfold X9 X8 X7 X6 X5 X4 X3 X2; after_reads_simp; exact x1_10 m c p x hp
  · unfold Head.o
    congr 1
    refine sum_congr rfl fun S _ => ?_
    unfold hd
    dsimp only
    rw [show 5120 + 128 * ((i 1 : ℕ) / 128) + (i 1 : ℕ) % 128 = 5120 + (i 1 : ℕ) by omega]

/-- The forward result the region reads. -/
theorem V_o : V m c main_v32 = fun i : S4096x1024.Idx => (((hd p g ((i 1 : ℕ) / 128)).o (i 0) ((i 1 : ℕ) % 128) : ℝ) : EReal) := by
  show StableHlo.after (opss (F := Ideal)).flatten (X0 m c) _ = _
  rw [X_all]
  unfold X12 X11; after_reads_simp; exact x10_32 m c p g x hp

omit hp in
/-- The matrix of ones the region reads. -/
theorem V_M : V m c main_v37 = uM := by
  show StableHlo.after (opss (F := Ideal)).flatten (X0 m c) _ = _
  rw [X_all]
  refine l10_37 _ (l9_35 _) ?_ ?_
  · unfold X10; after_reads_simp
  · unfold X10; after_reads_simp

end Chain

end Cert.Proof.Stick
end
-- ==== Proof.StickBlocks.lean ====
/-
  The stick-breaking backward call: what each point reads, and the three gradients the region leaves.
-/
module

public import proofs.«01_k».proof.Proof.StickTraj
public import proofs.«01_k».proof.Proof.StickHost
public import proofs.«01_k».proof.Proof.StickFrame

@[expose] public section

set_option maxRecDepth 16384
set_option Elab.async false

noncomputable section

namespace Cert.Proof.Stick

open Cert.StickKernelIdeal Cert.StickKernelIdeal.Gen
open Idealize.ShloMosaic Idealize.ShloMosaic.TcCoe Idealize.SL.Sem
open Finset (range Ico sum_congr)

abbrev winA (w : Fin 9) := (cfgA (F := Ideal)).win w

/-- Where each window's block is at a point. -/
abbrev Idx (t : Fin grid0.N) : Prop :=
  (winA 0).index t = ![qN t, 24 + t.val / 36] ∧ (winA 1).index t = ![kN t, 32 + t.val / 36] ∧ (winA 2).index t = ![kN t, 40 + t.val / 36]
  ∧ (winA 3).index t = ![0, 0] ∧ (winA 4).index t = ![qN t, t.val / 36] ∧ (winA 5).index t = ![qN t, t.val / 36] ∧ (winA 6).index t = ![qN t, t.val / 36]
  ∧ (winA 7).index t = ![0, t.val / 36] ∧ (winA 8).index t = ![0, t.val / 36]

theorem idx : ∀ t : Fin grid0.N, Idx t := by decide +kernel

section Ins
variable (m : (ℓ : Loc nD τ sig) → Buf (Elt Ideal) ℓ) (c : Dev nD) (p g : ℕ → ℕ → ℝ)
  (x : FVec Ideal S4096x12288 .bf16) (hp : m ((c : Thread nD τ).loc main_arg0) = uX p x)
  (hg : m ((c : Thread nD τ).loc main_arg1) = fun i : S4096x1024.Idx => ((g (i 0) (i 1) : ℝ) : EReal))
include hp

theorem ins_q (t : Fin grid0.N) : (ins m c t).q = uD (φ := .bf16) fun r d => (hd p g (t.val / 36)).Q (512 * qN t + r) d := by
  funext y
  show (((cfgA (F := Ideal)).win (0 : Fin 9)).blk t).view.read (Elt Ideal) (V m c main_arg0) y = _
  rw [V_main_arg0, hp]
  unfold uX uD
  blk_simp [idx t]
  have y1 : (y 1 : ℕ) < 128 := (y 1).isLt
  have tt : t.val < 288 := t.isLt
  rw [if_pos (by omega)]
  unfold hd
  dsimp only
  rw [show qN t * 512 + (y 0 : ℕ) = 512 * qN t + (y 0 : ℕ) by ring, show (24 + t.val / 36) * 128 + (y 1 : ℕ) = 3072 + 128 * (t.val / 36) + (y 1 : ℕ) by ring]

theorem ins_k (t : Fin grid0.N) : (ins m c t).k = uD (φ := .bf16) fun r d => (hd p g (t.val / 36)).K (512 * kN t + r) d := by
  funext y
  show (((cfgA (F := Ideal)).win (1 : Fin 9)).blk t).view.read (Elt Ideal) (V m c main_arg0) y = _
  rw [V_main_arg0, hp]
  unfold uX uD
  blk_simp [idx t]
  have y1 : (y 1 : ℕ) < 128 := (y 1).isLt
  have tt : t.val < 288 := t.isLt
  rw [if_pos (by omega)]
  unfold hd
  dsimp only
  rw [show kN t * 512 + (y 0 : ℕ) = 512 * kN t + (y 0 : ℕ) by ring, show (32 + t.val / 36) * 128 + (y 1 : ℕ) = 4096 + 128 * (t.val / 36) + (y 1 : ℕ) by ring]

theorem ins_v (t : Fin grid0.N) : (ins m c t).v = uD (φ := .bf16) fun r d => (hd p g (t.val / 36)).V (512 * kN t + r) d := by
  funext y
  show (((cfgA (F := Ideal)).win (2 : Fin 9)).blk t).view.read (Elt Ideal) (V m c main_arg0) y = _
  rw [V_main_arg0, hp]
  unfold uX uD
  blk_simp [idx t]
  have y1 : (y 1 : ℕ) < 128 := (y 1).isLt
  have tt : t.val < 288 := t.isLt
  rw [if_pos (by omega)]
  unfold hd
  dsimp only
  rw [show kN t * 512 + (y 0 : ℕ) = 512 * kN t + (y 0 : ℕ) by ring, show (40 + t.val / 36) * 128 + (y 1 : ℕ) = 5120 + 128 * (t.val / 36) + (y 1 : ℕ) by ring]

theorem ins_o (t : Fin grid0.N) : (ins m c t).o = uD (φ := .f32) fun r d => (hd p g (t.val / 36)).o (512 * qN t + r) d := by
  funext y
  show (((cfgA (F := Ideal)).win (4 : Fin 9)).blk t).view.read (Elt Ideal) (V m c main_v32) y = _
  rw [V_o m c p g x hp]
  unfold uD
  blk_simp [idx t]
  have y1 : (y 1 : ℕ) < 128 := (y 1).isLt
  rw [show qN t * 512 + (y 0 : ℕ) = 512 * qN t + (y 0 : ℕ) by ring, show (t.val / 36 * 128 + (y 1 : ℕ)) / 128 = t.val / 36 by omega, show (t.val / 36 * 128 + (y 1 : ℕ)) % 128 = y 1 by omega]

omit hp in
include hg in
theorem ins_g (t : Fin grid0.N) : (ins m c t).g = uD (φ := .bf16) fun r d => (hd p g (t.val / 36)).G (512 * qN t + r) d := by
  funext y
  show (((cfgA (F := Ideal)).win (5 : Fin 9)).blk t).view.read (Elt Ideal) (V m c main_arg1) y = _
  rw [V_main_arg1, hg]
  unfold uD
  blk_simp [idx t]
  unfold hd
  dsimp only
  rw [show qN t * 512 + (y 0 : ℕ) = 512 * qN t + (y 0 : ℕ) by ring, show t.val / 36 * 128 + (y 1 : ℕ) = 128 * (t.val / 36) + (y 1 : ℕ) by ring]

omit hp in
theorem ins_M (t : Fin grid0.N) : (ins m c t).M = uM := by
  funext y
  show (((cfgA (F := Ideal)).win (3 : Fin 9)).blk t).view.read (Elt Ideal) (V m c main_v37) y = _
  rw [V_M]
  unfold uM
  blk_simp [idx t]

include hg in
/-- What each point reads. -/
theorem at_point (t : Fin grid0.N) : At (hd p g (t.val / 36)) (qN t) (kN t) (ins m c t) :=
  ⟨ins_q m c p g x hp t, ins_k m c p g x hp t, ins_v m c p g x hp t, ins_g m c p g hg t, ins_M m c t, ins_o m c p g x hp t⟩

end Ins

/-! ## The gradients the region leaves -/

theorem flush6 : ∀ t : Fin grid0.N, (winA 6).flush t = true → kN t = 0 := by decide +kernel
theorem flush78 : ∀ t : Fin grid0.N, ((winA 7).flush t = true → qN t = 7 ∧ kN t = 0) ∧ ((winA 8).flush t = true → qN t = 7 ∧ kN t = 0) := by decide +kernel

/-- A gradient's array, head by head. -/
def uG (f : Head → ℕ → ℕ → ℝ) (p g : ℕ → ℕ → ℝ) : S4096x1024.Idx → EReal := fun i => ((f (hd p g ((i 1 : ℕ) / 128)) (i 0) ((i 1 : ℕ) % 128) : ℝ) : EReal)

section Final
variable (m : (ℓ : Loc nD τ sig) → Buf (Elt Ideal) ℓ) (c : Dev nD) (p g : ℕ → ℕ → ℝ) (hA : ∀ t : Fin grid0.N, At (hd p g (t.val / 36)) (qN t) (kN t) (ins m c t))
include hA

theorem traj_at (t : Fin grid0.N) : traj m c t.val t.isLt = stOf (hd p g (t.val / 36)) (qN t) (kN t) := traj_eq m c (hd p g) hA t.val t.isLt

theorem final_6 : (dats m 0 c).arrAt (6 : Fin 9) (cfgA (F := Ideal)).N = uG Head.dq p g := by
  refine (dats m 0 c).arrAt_eq_of_covers (6 : Fin 9) _ (by decide +kernel) fun t hf y => ?_
  have hk := flush6 t hf
  unfold uG
  blk_simp
  rw [after_6]
  have e := traj_at m c p g hA t
  have hi := (idx t).2.2.2.2.2.2.1
  have y1 : (y 1 : ℕ) < 128 := (y 1).isLt
  rw [show ((cfgA (F := Ideal)).win 6).index t = ![qN t, t.val / 36] from hi]
  refine Eq.trans (congrFun (congrArg (fun s => s.car.acc) e) y) ?_
  rw [hk]
  show (((∑ S ∈ Ico (512 * 0) 4096, (hd p g (t.val / 36)).dz (512 * qN t + (y 0 : ℕ)) S * (hd p g (t.val / 36)).K S (y 1 : ℕ)) * sc : ℝ) : EReal)
    = (((hd p g ((t.val / 36 * 128 + (y 1 : ℕ)) / 128)).dq (qN t * 512 + (y 0 : ℕ)) ((t.val / 36 * 128 + (y 1 : ℕ)) % 128) : ℝ) : EReal)
  rw [show (t.val / 36 * 128 + (y 1 : ℕ)) / 128 = t.val / 36 by omega, show (t.val / 36 * 128 + (y 1 : ℕ)) % 128 = y 1 by omega,
    show qN t * 512 + (y 0 : ℕ) = 512 * qN t + (y 0 : ℕ) by ring, Nat.mul_zero, ← Finset.range_eq_Ico]
  rfl

theorem final_7 : (dats m 0 c).arrAt (7 : Fin 9) (cfgA (F := Ideal)).N = uG Head.dk p g := by
  refine (dats m 0 c).arrAt_eq_of_covers (7 : Fin 9) _ (by decide +kernel) fun t hf y => ?_
  have hk := (flush78 t).1 hf
  unfold uG
  blk_simp
  rw [after_7]
  have e := traj_at m c p g hA t
  have hi := (idx t).2.2.2.2.2.2.2.1
  have y1 : (y 1 : ℕ) < 128 := (y 1).isLt
  rw [show ((cfgA (F := Ideal)).win 7).index t = ![0, t.val / 36] from hi]
  refine Eq.trans (congrFun (congrArg (fun s => s.dk) e) y) ?_
  rw [hk.1, hk.2]
  show ((((∑ T ∈ range (512 * done 7 0 (y 0)), (hd p g (t.val / 36)).dz T (y 0) * (hd p g (t.val / 36)).Q T (y 1)) * sc : ℝ)) : EReal)
    = (((hd p g ((t.val / 36 * 128 + (y 1 : ℕ)) / 128)).dk (0 * 4096 + (y 0 : ℕ)) ((t.val / 36 * 128 + (y 1 : ℕ)) % 128) : ℝ) : EReal)
  rw [show (t.val / 36 * 128 + (y 1 : ℕ)) / 128 = t.val / 36 by omega, show (t.val / 36 * 128 + (y 1 : ℕ)) % 128 = y 1 by omega,
    Nat.zero_mul, Nat.zero_add, show done 7 0 (y 0) = 8 from if_pos (Nat.zero_le _)]
  rfl

theorem final_8 : (dats m 0 c).arrAt (8 : Fin 9) (cfgA (F := Ideal)).N = uG Head.dv p g := by
  refine (dats m 0 c).arrAt_eq_of_covers (8 : Fin 9) _ (by decide +kernel) fun t hf y => ?_
  have hk := (flush78 t).2 hf
  unfold uG
  blk_simp
  rw [after_8]
  have e := traj_at m c p g hA t
  have hi := (idx t).2.2.2.2.2.2.2.2
  have y1 : (y 1 : ℕ) < 128 := (y 1).isLt
  rw [show ((cfgA (F := Ideal)).win 8).index t = ![0, t.val / 36] from hi]
  refine Eq.trans (congrFun (congrArg (fun s => s.dv) e) y) ?_
  rw [hk.1, hk.2]
  show (((∑ T ∈ range (512 * done 7 0 (y 0)), (hd p g (t.val / 36)).w T (y 0) * (hd p g (t.val / 36)).G T (y 1) : ℝ)) : EReal)
    = (((hd p g ((t.val / 36 * 128 + (y 1 : ℕ)) / 128)).dv (0 * 4096 + (y 0 : ℕ)) ((t.val / 36 * 128 + (y 1 : ℕ)) % 128) : ℝ) : EReal)
  rw [show (t.val / 36 * 128 + (y 1 : ℕ)) / 128 = t.val / 36 by omega, show (t.val / 36 * 128 + (y 1 : ℕ)) % 128 = y 1 by omega,
    Nat.zero_mul, Nat.zero_add, show done 7 0 (y 0) = 8 from if_pos (Nat.zero_le _)]
  rfl

end Final

end Cert.Proof.Stick
end
-- ==== Proof.StickRefValue.lean ====
/-
  The stick-breaking backward call: the reference, stage by stage, over the reals.
-/
module

public import proofs.«01_k».proof.Proof.StickCum
public import proofs.«01_k».proof.Proof.StickBlocks
public import proofs.«01_k».proof.Proof.Gen.StickRefIdeal.Read

@[expose] public section

set_option maxRecDepth 16384
set_option Elab.async false

noncomputable section

namespace Cert.Proof.Stick

open Cert.StickRefIdeal Cert.StickRefIdeal.Gen Cert.StickRefIdeal.Read
open Idealize.ShloMosaic Idealize.ShloMosaic.TcCoe Idealize.SL.Sem
open Finset (range Ico sum_congr)

/-! ## Stages over arrays of scores -/

/-- One number per head, row and lane. -/
def uL (Y : ℕ → ℕ → ℕ → ℝ) : S8x4096x128.Idx → EReal := fun i => ((Y (i 0) (i 1) (i 2) : ℝ) : EReal)

theorem uH_neg (Y : ℕ → ℕ → ℕ → ℝ) : Host.negf (F := Ideal) (φ := .f32) (uH Y) = uH fun h T S => -Y h T S := by
  funext i; unfold uH; pointwise; rw [EReal.coe_neg]
theorem uH_add (Y Z : ℕ → ℕ → ℕ → ℝ) : addf (F := Ideal) (φ := .f32) (uH Y) (uH Z) = uH fun h T S => Y h T S + Z h T S := by
  funext i; unfold uH; pointwise; rw [EReal.coe_add]
theorem uH_sub (Y Z : ℕ → ℕ → ℕ → ℝ) : subf (F := Ideal) (φ := .f32) (uH Y) (uH Z) = uH fun h T S => Y h T S - Z h T S := by
  funext i; unfold uH; pointwise; rw [EReal.coe_sub]
theorem uH_mul (Y Z : ℕ → ℕ → ℕ → ℝ) : mulf (F := Ideal) (φ := .f32) (uH Y) (uH Z) = uH fun h T S => Y h T S * Z h T S := by
  funext i; unfold uH; pointwise; rw [EReal.coe_mul]
theorem uH_exp (Y : ℕ → ℕ → ℕ → ℝ) : Host.exp (F := Ideal) (φ := .f32) (uH Y) = uH fun h T S => Real.exp (Y h T S) := by
  funext i; unfold uH; pointwise; rw [Ideal.exp_coe]
theorem uH_scale (Y : ℕ → ℕ → ℕ → ℝ) :
    mulf (F := Ideal) (φ := .f32) (uH Y) (broadcastInDim S8x4096x4096 ![] bcast_S_S8x4096x4096 (constant S_ .f32 0x3DB504F3#32)) = uH fun h T S => Y h T S * sc := by
  funext i; unfold uH; pointwise; rw [bits_sc, EReal.coe_mul]
theorem uH_sp (o : FVec Ideal A3 .f32) (ho : o = fun _ => (0 : EReal)) (Y : ℕ → ℕ → ℕ → ℝ) :
    hostSp o (uH Y) = uH fun h T S => Real.log (1 + Real.exp (Y h T S)) := hostSp_eq o ho _
theorem zeros3 : (broadcastInDim S8x4096x4096 ![] bcast_S_S8x4096x4096 (constant S_ .f32 0x00000000#32) : FVec Ideal A3 .f32) = fun _ => (0 : EReal) := by
  funext i
  pointwise

theorem bits_inf : Ideal.ofBits .f32 0x7F800000#32 = ⊤ := by
  simp [Ideal.ofBits, Ideal.ieee]

/-- No score is infinite. -/
theorem uH_inf (Y : ℕ → ℕ → ℕ → ℝ) (o : FVec Ideal A3 .f32) :
    (select (cmpf .oeq (F := Ideal) (φ := .f32) (uH Y) (broadcastInDim S8x4096x4096 ![] bcast_S_S8x4096x4096 (constant S_ .f32 0x7F800000#32))) o (uH Y) : FVec Ideal A3 .f32) = uH Y := by
  funext i
  unfold uH
  pointwise
  rw [bits_inf]
  exact if_neg (EReal.coe_ne_top _)

section Ref
variable (p g : ℕ → ℕ → ℝ) (x : FVec Ideal S4096x12288 .bf16)

/-- The cotangent as launched. -/
def uG0 : FVec Ideal S4096x1024 .bf16 := fun i => ((g (i 0) (i 1) : ℝ) : EReal)

theorem r4 : val_main_v4 (F := Ideal) (uX p x) = uL fun h => (hd p g h).Q := by
  funext i
  unfold uL hd
  dsimp only
  have i0 : (i 0 : ℕ) < 8 := (i 0).isLt
  have i2 : (i 2 : ℕ) < 128 := (i 2).isLt
  pointwise [val_main_v4, val_main_v3, val_main_v2, val_main_v1, val_main_v0, uX]
  rw [if_pos (by omega), show 3072 + ((i 0 : ℕ) * 128 + (i 2 : ℕ)) = 3072 + 128 * (i 0 : ℕ) + (i 2 : ℕ) by ring]
theorem r7 : val_main_v7 (F := Ideal) (uX p x) = uL fun h => (hd p g h).K := by
  funext i
  unfold uL hd
  dsimp only
  have i0 : (i 0 : ℕ) < 8 := (i 0).isLt
  have i2 : (i 2 : ℕ) < 128 := (i 2).isLt
  pointwise [val_main_v7, val_main_v6, val_main_v5, val_main_v1, val_main_v0, uX]
  rw [if_pos (by omega), show 3072 + (1024 + ((i 0 : ℕ) * 128 + (i 2 : ℕ))) = 4096 + 128 * (i 0 : ℕ) + (i 2 : ℕ) by ring]
theorem r10 : val_main_v10 (F := Ideal) (uX p x) = uL fun h => (hd p g h).V := by
  funext i
  unfold uL hd
  dsimp only
  have i0 : (i 0 : ℕ) < 8 := (i 0).isLt
  have i2 : (i 2 : ℕ) < 128 := (i 2).isLt
  pointwise [val_main_v10, val_main_v9, val_main_v8, val_main_v1, val_main_v0, uX]
  rw [if_pos (by omega), show 3072 + (2048 + ((i 0 : ℕ) * 128 + (i 2 : ℕ))) = 5120 + 128 * (i 0 : ℕ) + (i 2 : ℕ) by ring]
theorem r33 : val_main_v33 (F := Ideal) (uG0 g) = uL fun h => (hd p g h).G := by
  funext i
  unfold uL hd
  dsimp only
  pointwise [val_main_v33, val_main_v32, val_main_v31, uG0]
  rw [show (i 0 : ℕ) * 128 + (i 2 : ℕ) = 128 * (i 0 : ℕ) + (i 2 : ℕ) by ring]

/-- A product of rows over lanes, per head. -/
theorem dot_rows (Y Z : ℕ → ℕ → ℕ → ℝ) :
    (Host.dotGeneral (F := Ideal) (φ₁ := .f32) (φ₂ := .f32) dot_S8x4096x128_S8x4096x128_S8x4096x4096_2_2_1_1_0_0 none (uL Y : FVec Ideal S8x4096x128 .f32) (uL Z : FVec Ideal S8x4096x128 .f32) : FVec Ideal A3 .f32)
      = uH fun h T S => ∑ d ∈ range 128, Y h T d * Z h S d := by
  funext i
  unfold uH uL
  pointwise
  refine Eq.trans (sum_congr rfl fun k _ => ?_) (sum_fin 128 fun d => Y (i 0) (i 1) d * Z (i 0) (i 2) d)
  rw [← EReal.coe_mul]
/-- A product over keys. -/
theorem dot_keys (Y Z : ℕ → ℕ → ℕ → ℝ) :
    (Host.dotGeneral (F := Ideal) (φ₁ := .f32) (φ₂ := .f32) dot_S8x4096x4096_S8x4096x128_S8x4096x128_2_1_1_2_0_0 none (uH Y : FVec Ideal A3 .f32) (uL Z : FVec Ideal S8x4096x128 .f32) : FVec Ideal S8x4096x128 .f32)
      = uL fun h T d => ∑ S ∈ range 4096, Y h T S * Z h S d := by
  funext i
  unfold uH uL
  pointwise
  refine Eq.trans (sum_congr rfl fun k _ => ?_) (sum_fin 4096 fun S => Y (i 0) (i 1) S * Z (i 0) S (i 2))
  rw [← EReal.coe_mul]
/-- A product over rows. -/
theorem dot_over (Y Z : ℕ → ℕ → ℕ → ℝ) :
    (Host.dotGeneral (F := Ideal) (φ₁ := .f32) (φ₂ := .f32) dot_S8x4096x4096_S8x4096x128_S8x4096x128_1_1_2_2_0_0 none (uH Y : FVec Ideal A3 .f32) (uL Z : FVec Ideal S8x4096x128 .f32) : FVec Ideal S8x4096x128 .f32)
      = uL fun h S d => ∑ T ∈ range 4096, Y h T S * Z h T d := by
  funext i
  unfold uH uL
  pointwise
  refine Eq.trans (sum_congr rfl fun k _ => ?_) (sum_fin 4096 fun T => Y (i 0) T (i 1) * Z (i 0) T (i 2))
  rw [← EReal.coe_mul]
/-- The weights' product with the cotangent, over rows. -/
theorem dot_back (Y Z : ℕ → ℕ → ℕ → ℝ) :
    transpose S8x4096x128 [0, 2, 1] (Host.dotGeneral (F := Ideal) (φ₁ := .f32) (φ₂ := .f32) dot_S8x4096x128_S8x4096x4096_S8x128x4096_1_1_2_2_0_0 none (uL Z : FVec Ideal S8x4096x128 .f32) (uH Y : FVec Ideal A3 .f32) : FVec Ideal S8x128x4096 .f32) transposes_S8x128x4096_S8x4096x128_0_2_1
      = uL fun h S d => ∑ T ∈ range 4096, Y h T S * Z h T d := by
  funext i
  unfold uH uL
  pointwise
  refine Eq.trans (sum_congr rfl fun k _ => ?_) (sum_fin 4096 fun T => Y (i 0) T (i 1) * Z (i 0) T (i 2))
  rw [← EReal.coe_mul, mul_comm]

theorem r13 : val_main_v13 (F := Ideal) (uX p x) = uH fun h => (hd p g h).z := by
  unfold val_main_v13 val_main_v11
  rw [r4 p g, r7 p g, dot_rows]
  exact uH_scale _
theorem r20 : val_main_v20 (F := Ideal) = mk := by
  funext i
  unfold mk
  have i0 : (i 0 : ℕ) < 4096 := (i 0).isLt
  have i1 : (i 1 : ℕ) < 4096 := (i 1).isLt
  pointwise [val_main_v20, val_main_v19, val_main_v18, val_main_v17, val_main_v16, val_main_v15, val_main_v14]
  rw [WordCmp.cmpi_slt_ofNat (by norm_num; omega) (by norm_num; omega)]
  by_cases h : (i 1 : ℕ) < i 0 <;> simp [h]

theorem r21 : val_main_call0_v0 (F := Ideal) (uX p x) = uH fun h => (hd p g h).z := by
  unfold val_main_call0_v0 val_main_v21
  rw [r13 p g, uH_neg, uH_neg]
  exact uH_congr fun h T S _ _ _ => neg_neg _
theorem rsp : val_main_call0_v1_0 (F := Ideal) (uX p x) = uH fun h => (hd p g h).sp := by
  show hostSp _ (val_main_call0_v0 (F := Ideal) (uX p x)) = _
  rw [r21 p g, uH_sp _ (by exact zeros3)]
  rfl

theorem exp_be (a : Head) (T S : ℕ) : Real.exp (a.z T S - a.sp T S) = a.be T S := by
  unfold Head.be Head.sp
  rw [Real.exp_sub, Real.exp_log (by positivity)]

theorem sp_neg (a : Head) (T S : ℕ) : Real.log (1 + Real.exp (-a.z T S)) = a.sp T S - a.z T S := by
  unfold Head.sp
  have e : 1 + Real.exp (a.z T S) = Real.exp (a.z T S) * (1 + Real.exp (-a.z T S)) := by
    rw [mul_add, mul_one, ← Real.exp_add, add_neg_cancel, Real.exp_zero, add_comm]
  rw [e, Real.log_mul (Real.exp_pos _).ne' (by positivity), Real.log_exp]; ring

theorem exp_rest (a : Head) (T S : ℕ) : Real.exp (-a.z T S - Real.log (1 + Real.exp (-a.z T S))) = 1 - a.be T S := by
  rw [sp_neg, show -a.z T S - (a.sp T S - a.z T S) = -a.sp T S by ring]
  unfold Head.sp Head.be
  have : (0 : ℝ) < 1 + Real.exp (a.z T S) := by positivity
  rw [Real.exp_neg, Real.exp_log this]
  field_simp
  ring

theorem r22 : val_main_v22_1 (F := Ideal) (uX p x) = uH fun h => (hd p g h).be := by
  have e : val_main_call0_call0_v21 (F := Ideal) (uX p x) = uH fun h T S => (hd p g h).z T S - (hd p g h).sp T S := by
    unfold val_main_call0_call0_v21 val_main_call0_call0_v16 val_main_call0_call0_v14 val_main_call0_call0_v20 val_main_call0_call0_v18
    rw [rsp p g, r21 p g]
    refine Eq.trans (congrArg₂ (subf (F := Ideal) (φ := .f32)) (uH_inf _ _) (uH_inf _ _)) (uH_sub _ _)
  unfold val_main_v22_1
  rw [e, uH_exp]
  exact uH_congr fun h T S _ _ _ => exp_be _ _ _
theorem rgm : val_main_v23_0 (F := Ideal) (uX p x) = uH fun h => (hd p g h).gm := by
  unfold val_main_v23_0 val_main_v22_0 val_main_v23_1
  rw [rsp p g, uH_neg, r20]
  exact masked _
theorem r25 : val_main_v25 (F := Ideal) (uX p x) = uH fun h T S => ∑ U ∈ Ico S 4096, (hd p g h).gm T U - (hd p g h).gm T S := by
  unfold val_main_v25 val_main_v24
  rw [rgm p g, later_host _ _ (by exact zero0), uH_sub]
theorem rneg : val_main_call3_v0 (F := Ideal) (uX p x) = uH fun h T S => -(hd p g h).z T S := by
  unfold val_main_call3_v0
  rw [r13 p g, uH_neg]
theorem rspn : val_main_call3_v1_0 (F := Ideal) (uX p x) = uH fun h T S => Real.log (1 + Real.exp (-(hd p g h).z T S)) := by
  show hostSp _ (val_main_call3_v0 (F := Ideal) (uX p x)) = _
  rw [rneg p g, uH_sp _ (by exact zeros3)]
theorem r26 : val_main_v26_1 (F := Ideal) (uX p x) = uH fun h T S => 1 - (hd p g h).be T S := by
  have e : val_main_call3_call0_v21 (F := Ideal) (uX p x) = uH fun h T S => -(hd p g h).z T S - Real.log (1 + Real.exp (-(hd p g h).z T S)) := by
    unfold val_main_call3_call0_v21 val_main_call3_call0_v16 val_main_call3_call0_v14 val_main_call3_call0_v20 val_main_call3_call0_v18
    rw [rspn p g, rneg p g]
    refine Eq.trans (congrArg₂ (subf (F := Ideal) (φ := .f32)) (uH_inf _ _) (uH_inf _ _)) (uH_sub _ _)
  unfold val_main_v26_1
  rw [e, uH_exp]
  exact uH_congr fun h T S _ _ _ => exp_rest _ _ _
theorem r28 : val_main_v28 (F := Ideal) (uX p x) = uH fun h T S => Real.exp (-Real.log (1 + Real.exp (-(hd p g h).z T S)) + (∑ U ∈ Ico S 4096, (hd p g h).gm T U - (hd p g h).gm T S)) := by
  unfold val_main_v28 val_main_v27 val_main_v26_0
  rw [rspn p g, r25 p g, uH_neg, uH_add, uH_exp]
theorem r29 : val_main_v29_0 (F := Ideal) (uX p x) = uH fun h => (hd p g h).w := by
  unfold val_main_v29_0 val_main_v29_1
  rw [r28 p g, r20]
  exact (masked _).trans (uH_congr fun h T S _ _ hS => w_host (hd p g h) hS)
theorem r35 : val_main_v35 (F := Ideal) (uX p x) (uG0 g) = uL fun h => (hd p g h).dv := by
  unfold val_main_v35 val_main_v34
  rw [r29 p g, r33 p g]
  exact dot_back _ _
theorem r38 : val_main_v38 (F := Ideal) (uX p x) (uG0 g) = uH fun h => (hd p g h).pm := by
  unfold val_main_v38 val_main_v37 val_main_v36 val_main_v29_1
  rw [r28 p g, r10 p g, r33 p g, r20, dot_rows]
  refine (congrArg₂ (mulf (F := Ideal) (φ := .f32)) (masked _) rfl).trans ((uH_mul _ _).trans (uH_congr fun h T S _ _ hS => ?_))
  unfold Head.pm
  rw [← w_host (hd p g h) hS]
  by_cases hh : S < T
  · rw [if_pos hh, if_pos hh]; exact mul_comm _ _
  · rw [if_neg hh, if_neg hh, zero_mul, zero_mul]
theorem r43 : val_main_v43 (F := Ideal) (uX p x) (uG0 g) = uH fun h T S => if S < T then -(hd p g h).pm T S + ∑ U ∈ range (S + 1), (hd p g h).pm T U else 0 := by
  unfold val_main_v43 val_main_v42 val_main_v41 val_main_v40 val_main_v23_1
  rw [r38 p g, earlier_host _ _ (by exact zero0), uH_neg, uH_add, r20]
  exact masked _
theorem r48 : val_main_v48 (F := Ideal) (uX p x) (uG0 g) = uH fun h T S => (hd p g h).dz T S * sc := by
  unfold val_main_v48 val_main_v46 val_main_v45 val_main_v44 val_main_v39 val_main_call9_v1 val_main_call6_v1 val_main_call9_v0 val_main_call6_v0
  rw [r38 p g, r43 p g, r26 p g, r22 p g]
  simp only [uH_neg, uH_mul, uH_add]
  refine (uH_scale _).trans (uH_congr fun h T S _ hT hS => ?_)
  congr 1
  by_cases hh : S < T
  · rw [Head.dz_eq _ hh hT, if_pos hh, Finset.sum_range_succ]; ring
  · rw [Head.dz_zero _ (by omega), if_neg hh, Head.pm_zero _ (by omega)]; ring
theorem r49 : val_main_v49 (F := Ideal) (uX p x) (uG0 g) = uL fun h => (hd p g h).dk := by
  unfold val_main_v49
  rw [r48 p g, r4 p g]
  refine (dot_over _ _).trans (congrArg uL (funext fun h => funext fun S => funext fun d => ?_))
  unfold Head.dk
  rw [Finset.sum_mul]
  exact sum_congr rfl fun T _ => by ring
theorem r50 : val_main_v50 (F := Ideal) (uX p x) (uG0 g) = uL fun h => (hd p g h).dq := by
  unfold val_main_v50
  rw [r48 p g, r7 p g]
  refine (dot_keys _ _).trans (congrArg uL (funext fun h => funext fun S => funext fun d => ?_))
  unfold Head.dq
  rw [Finset.sum_mul]
  exact sum_congr rfl fun T _ => by ring

/-! ## The three results -/

theorem ref_dq : val_main_v52 (F := Ideal) (uX p x) (uG0 g) = uG Head.dq p g := by
  unfold val_main_v52 val_main_v51
  rw [r50 p g]
  funext i
  unfold uG uL
  pointwise
theorem ref_dk : val_main_v54 (F := Ideal) (uX p x) (uG0 g) = uG Head.dk p g := by
  unfold val_main_v54 val_main_v53
  rw [r49 p g]
  funext i
  unfold uG uL
  pointwise
theorem ref_dv : val_main_v56 (F := Ideal) (uX p x) (uG0 g) = uG Head.dv p g := by
  unfold val_main_v56 val_main_v55
  rw [r35 p g]
  funext i
  unfold uG uL
  pointwise

end Ref

end Cert.Proof.Stick
end
-- ==== Proof.StickValue.lean ====
/-
  The stick-breaking backward call: the derivative of the plain attention is what the kernel leaves.
-/
module

public import proofs.«01_k».proof.Proof.StickPair
public import proofs.«01_k».proof.Proof.StickBlocks
public import proofs.«01_k».proof.Proof.StickRefValue
public import Idealize.ShloMosaic.Lib.Claim

@[expose] public section

set_option maxRecDepth 16384
set_option Elab.async false

noncomputable section

namespace Cert.Proof.Stick

open Idealize.ShloMosaic Idealize.ShloMosaic.TcCoe Idealize.SL.Sem

/-- The stated side conditions of the precondition hold. -/
instance pre_facts : Cert.Pre_stick_finite.Facts where
  slices_S4096x12288_S4096x3072_0_3072 := by decide
  bcast_S_S4096x3072 := by decide
  bcast_S_S4096x1024 := by decide

theorem real_of_cmp16 {x : EReal} (h : Ideal.cmp .olt (max x (-x)) (Ideal.ofBits .bf16 0x7F80#16) = 1#1) : ∃ r : ℝ, x = (r : EReal) := by
  have e : Ideal.ofBits .bf16 0x7F80#16 = ⊤ := by simp [Ideal.ofBits, Ideal.ieee]
  rw [e] at h
  refine Reals.real_of_abs_lt ?_
  by_contra hc
  simp [Ideal.cmp, hc] at h

open Cert.StickKernelIdeal in
theorem pre_real {x : FVec Ideal S4096x12288 .bf16} {d : FVec Ideal S4096x1024 .bf16}
    (h : (Cert.Pre_stick_finite.fn (F := Ideal) x d).1 = (fun _ => 1#1) ∧ (Cert.Pre_stick_finite.fn (F := Ideal) x d).2 = (fun _ => 1#1)) :
    (∃ p, x = uX p x) ∧ ∃ g, d = uG0 g := by
  obtain ⟨h0, h1⟩ := h
  refine ⟨⟨fun r k => if hh : r < 4096 ∧ k < 12288 then EReal.toReal (x (ix2 ⟨r, hh.1⟩ ⟨k, hh.2⟩)) else 0, funext fun i => ?_⟩,
    ⟨fun r k => if hh : r < 4096 ∧ k < 1024 then EReal.toReal (d (ix2 ⟨r, hh.1⟩ ⟨k, hh.2⟩)) else 0, funext fun i => ?_⟩⟩
  · unfold uX
    by_cases hi : 3072 ≤ (i 1 : ℕ) ∧ (i 1 : ℕ) < 6144
    · rw [if_pos hi]
      dsimp only
      rw [dif_pos (⟨(i 0).isLt, (i 1).isLt⟩ : (i 0 : ℕ) < 4096 ∧ (i 1 : ℕ) < 12288)]
      obtain ⟨r, hr⟩ : ∃ r : ℝ, (extractStridedSlice Cert.Pre_stick_finite.S4096x3072 ![0, 3072] x pre_facts.slices_S4096x12288_S4096x3072_0_3072) (ix2 (i 0) ⟨(i 1 : ℕ) - 3072, by omega⟩) = (r : EReal) :=
        real_of_cmp16 (congrFun h0 _)
      have e : (extractStridedSlice Cert.Pre_stick_finite.S4096x3072 ![0, 3072] x pre_facts.slices_S4096x12288_S4096x3072_0_3072) (ix2 (i 0) ⟨(i 1 : ℕ) - 3072, by omega⟩) = x i := by
        refine congrArg x (funext fun a => Fin.ext ?_)
        match a with
        | ⟨0, _⟩ => exact Nat.zero_add _
        | ⟨1, _⟩ => show 3072 + ((i 1 : ℕ) - 3072) = (i 1 : ℕ); omega
      rw [e] at hr
      have e2 : ix2 (⟨i 0, (i 0).isLt⟩ : Fin 4096) (⟨i 1, (i 1).isLt⟩ : Fin 12288) = i := funext fun a => match a with
        | ⟨0, _⟩ => rfl
        | ⟨1, _⟩ => rfl
      rw [e2, hr, EReal.toReal_coe]
    · rw [if_neg hi]
  · unfold uG0
    obtain ⟨r, hr⟩ : ∃ r : ℝ, d i = (r : EReal) := real_of_cmp16 (congrFun h1 i)
    have e2 : ix2 (⟨i 0, (i 0).isLt⟩ : Fin 4096) (⟨i 1, (i 1).isLt⟩ : Fin 1024) = i := funext fun a => match a with
      | ⟨0, _⟩ => rfl
      | ⟨1, _⟩ => rfl
    dsimp only
    rw [dif_pos (⟨(i 0).isLt, (i 1).isLt⟩ : (i 0 : ℕ) < 4096 ∧ (i 1 : ℕ) < 1024), e2, hr, EReal.toReal_coe]

open Cert.StickKernelIdeal Cert.StickKernelIdeal.Gen Cert.StickRefIdeal.Read in
/-- The reference's three gradients at the kernel's arguments. -/
theorem grads (m : (ℓ : Loc nD τ sig) → Buf (Elt Ideal) ℓ) (hpre : Cert.Pre_StickKernelIdeal_stick_finite m) (c : Dev nD) :
    val_main_v52 (F := Ideal) (m ((c.tc : Thread nD τ).loc main_arg0)) (m ((c.tc : Thread nD τ).loc main_arg1)) = (dats m 0 c).arrAt (6 : Fin 9) (cfgA (F := Ideal)).N
    ∧ val_main_v54 (F := Ideal) (m ((c.tc : Thread nD τ).loc main_arg0)) (m ((c.tc : Thread nD τ).loc main_arg1)) = (dats m 0 c).arrAt (7 : Fin 9) (cfgA (F := Ideal)).N
    ∧ val_main_v56 (F := Ideal) (m ((c.tc : Thread nD τ).loc main_arg0)) (m ((c.tc : Thread nD τ).loc main_arg1)) = (dats m 0 c).arrAt (8 : Fin 9) (cfgA (F := Ideal)).N := by
  obtain ⟨⟨p, hp⟩, ⟨g, hg⟩⟩ := pre_real (hpre c)
  have hA := at_point m c p g _ hp hg
  rw [final_6 m c p g hA, final_7 m c p g hA, final_8 m c p g hA, hg, hp]
  exact ⟨ref_dq p g _, ref_dk p g _, ref_dv p g _⟩

theorem algebraic : Cert.algebraic_StickKernelIdeal_StickRefIdeal_pre_stick_finite := by
  pair_intro
  · run_from run_blocks m g
  · run_from Cert.StickRefIdeal.Value.run m' g'
    · rw [Cert.StickRefIdeal.Read.val_main_v52_eq m' c, (hagree c).1, (hagree c).2]
      exact (grads m hpre c).1
    · rw [Cert.StickRefIdeal.Read.val_main_v54_eq m' c, (hagree c).1, (hagree c).2]
      exact (grads m hpre c).2.1
    · rw [Cert.StickRefIdeal.Read.val_main_v56_eq m' c, (hagree c).1, (hagree c).2]
      exact (grads m hpre c).2.2

theorem frame_ref : Cert.quiescent_StickRefIdeal := fun m g _ =>
  (θ_run Cert.StickRefIdeal.defs _ _).mono (fun r h => ⟨fun c => (h c).2.2.2, sem_eq_zero_of_no_sems (by decide) r.2⟩)
    (Cert.StickRefIdeal.Value.run (F := Ideal) m g)

end Cert.Proof.Stick

end
-- ==== Proof.LossValue.lean ====
/-
  The loss head: what the blocked kernel leaves in its four result arrays.
-/
module

public import proofs.«01_k».proof.Proof.Reals
public import proofs.«01_k».proof.Proof.Gen.LossKernelIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The inverse root of row `r`'s mean square. -/
def rstd (x : Vec Ideal S4096x2048 .f32) (r : Fin 4096) : EReal :=
  Ideal.rsqrt (Ideal.div (∑ k : Fin 2048, x (ix2 r k) * x (ix2 r k)) (Ideal.ofBits .f32 0x45000000#32) + Ideal.ofBits .f32 0x358637BD#32)

/-- The error of the normed row against the target. -/
def ERR (x : Vec Ideal S4096x2048 .f32) (g : Vec Ideal S2048 .f32) (e : Vec Ideal S4096x2048 .f32) (r : Fin 4096) (k : Fin 2048) : EReal :=
  x (ix2 r k) * rstd x r * g (ix1 k) - e (ix2 r k)

/-- The gradient of the rows as the kernel computes it. -/
def DX (x : Vec Ideal S4096x2048 .f32) (g : Vec Ideal S2048 .f32) (e : Vec Ideal S4096x2048 .f32) : Vec Ideal S4096x2048 .f32 := fun j =>
  rstd x (j 0) * (ERR x g e (j 0) (j 1) * Ideal.ofBits .f32 0x3A000000#32 * g (ix1 (j 1)) - x j * rstd x (j 0) *
    Ideal.div (∑ k : Fin 2048, ERR x g e (j 0) k * Ideal.ofBits .f32 0x3A000000#32 * g (ix1 k) * (x (ix2 (j 0) k) * rstd x (j 0))) (Ideal.ofBits .f32 0x45000000#32))

/-- The gain's gradient, one row. -/
def DG (x : Vec Ideal S4096x2048 .f32) (g : Vec Ideal S2048 .f32) (e : Vec Ideal S4096x2048 .f32) : Vec Ideal S1x2048 .f32 := fun j =>
  ∑ r : Fin 4096, ERR x g e r (j 1) * Ideal.ofBits .f32 0x3A000000#32 * (x (ix2 r (j 1)) * rstd x r)

/-- The loss: the sixteen blocks' squared errors, each block's sum scaled by itself. -/
def LOSS (x : Vec Ideal S4096x2048 .f32) (g : Vec Ideal S2048 .f32) (e : Vec Ideal S4096x2048 .f32) : EReal :=
  ∑ t : Fin 16, (∑ r : Fin 256, ∑ k : Fin 2048, ERR x g e ⟨t.val * 256 + r.val, by omega⟩ k * ERR x g e ⟨t.val * 256 + r.val, by omega⟩ k) * Ideal.ofBits .f32 0x39800000#32

theorem point4 (c : Dev nD) (t : Fin cfg0.N) (y : S256x2048.Idx) (j : S4096x2048.Idx) (h0 : (j 0 : ℕ) = t.val * 256 + y 0) (h1 : (j 1 : ℕ) = y 1) :
    k0_pay2 (F := Ideal) (k0_pay6 (F := Ideal) (iblk m c 1 t)) (k0_pay7 (F := Ideal) (iblk m c 0 t)) (k0_pay8 (F := Ideal) (iblk m c 0 t))
        (k0_pay11 (F := Ideal) (iblk m c 0 t) (iblk m c 1 t) (iblk m c 2 t)) y
      = DX (m ((c : Thread nD τ).loc main_arg0)) (m ((c : Thread nD τ).loc main_arg1)) (m ((c : Thread nD τ).loc main_arg2)) j := by
  pointwise [k0_pay2, k0_pay6, k0_pay7, k0_pay8, k0_pay9, k0_pay11, DX, ERR, rstd]
  blk_point [iblk, V, idx t]

theorem final4 (c : Dev nD) : (dats m 0 c).arrAt 4 cfg0.N = DX (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  by_cases h : t.val % 16 = 0
  · rw [outsAt0_A m c t h]
    dsimp only
    frame_out
    refine point4 m c t y _ ?_ ?_ <;> blk_simp [idx t]
  · rw [outsAt0_B m c t h]
    frame_out
    refine point4 m c t y _ ?_ ?_ <;> blk_simp [idx t]

theorem final5 (c : Dev nD) : (dats m 0 c).arrAt 5 cfg0.N = (DX (m ((c : Thread nD τ).loc main_arg0)) (m ((c : Thread nD τ).loc main_arg1)) (m ((c : Thread nD τ).loc main_arg2)) : S4096x2048.Idx → EReal) := by
  refine (dats m 0 c).arrAt_eq_of_covers 5 _ (by decide +kernel) fun t hf y => ?_
  blk_simp
  rw [after0_5]
  by_cases h : t.val % 16 = 0
  · rw [outsAt0_A m c t h]
    dsimp only
    frame_out
    refine Eq.trans ?_ (point4 m c t y _ ?_ ?_)
    · rfl
    all_goals blk_simp [idx t]
  · rw [outsAt0_B m c t h]
    frame_out
    refine Eq.trans ?_ (point4 m c t y _ ?_ ?_)
    · rfl
    all_goals blk_simp [idx t]

theorem zero6 (j : S1x2048.Idx) : k0_pay4 (F := Ideal) j = 0 := by
  pointwise [k0_pay4]

theorem zero3 (j : S8x128.Idx) : k0_pay5 (F := Ideal) j = 0 := by
  pointwise [k0_pay5]

/-- The error inside a block. -/
def err (x : Vec Ideal S256x2048 .f32) (g : Vec Ideal S1x2048 .f32) (e : Vec Ideal S256x2048 .f32) (r : Fin 256) (k : Fin 2048) : EReal :=
  x (ix2 r k) * Ideal.rsqrt (Ideal.div (∑ k : Fin 2048, x (ix2 r k) * x (ix2 r k)) (Ideal.ofBits .f32 0x45000000#32) + Ideal.ofBits .f32 0x358637BD#32)
    * g (ix2 0 k) - e (ix2 r k)

theorem pay6 (x e : Vec Ideal S256x2048 .f32) (g a : Vec Ideal S1x2048 .f32) (j : S1x2048.Idx) :
    k0_pay1 (F := Ideal) (k0_pay8 (F := Ideal) x) (k0_pay11 (F := Ideal) x g e) a j
    = a j + ∑ r : Fin 256, err x g e r (j 1) * Ideal.ofBits .f32 0x3A000000#32
        * (x (ix2 r (j 1)) * Ideal.rsqrt (Ideal.div (∑ k : Fin 2048, x (ix2 r k) * x (ix2 r k)) (Ideal.ofBits .f32 0x45000000#32) + Ideal.ofBits .f32 0x358637BD#32)) := by
  pointwise [k0_pay1, k0_pay8, k0_pay11, k0_pay9, k0_pay7, k0_pay6, err]

theorem pay3 (x e : Vec Ideal S256x2048 .f32) (g : Vec Ideal S1x2048 .f32) (a : Vec Ideal S8x128 .f32) (j : S8x128.Idx) :
    k0_pay10 (F := Ideal) x g e a j = a j + (∑ r : Fin 256, ∑ k : Fin 2048, err x g e r k * err x g e r k) * Ideal.ofBits .f32 0x39800000#32 := by
  pointwise [k0_pay10, k0_pay9, k0_pay8, k0_pay7, k0_pay6, err]

theorem final6 (c : Dev nD) : (dats m 0 c).arrAt 6 cfg0.N = DG (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0) _
    (fun t h j => by rw [outsAt0_A m c t h]; dsimp only; frame_out; rw [pay6, zero6])
    (fun t h j => by rw [outsAt0_B m c t h]; frame_out; rw [pay6])
    (le_of_eq N_0) t0_15 rfl j, zero_add]
  unfold DG ERR rstd err
  refine Fin.sum_mul_add_congr fun t k hl => ?_
  blk_point [iblk, V, idx t]

theorem final3 (c : Dev nD) : (dats m 0 c).arrAt 3 cfg0.N = fun _ => LOSS (m ((c : Thread nD τ).loc main_arg0)) (m ((c : Thread nD τ).loc main_arg1)) (m ((c : Thread nD τ).loc main_arg2)) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) _
    (fun t h j => by rw [outsAt0_A m c t h]; dsimp only; frame_out; rw [pay3, zero3])
    (fun t h j => by rw [outsAt0_B m c t h]; frame_out; rw [pay3])
    (le_of_eq N_0) t0_15 rfl j, zero_add]
  unfold LOSS ERR rstd err
  refine congrArg (Finset.sum (M := EReal) Finset.univ) (funext fun t => ?_)
  blk_point [iblk, V, idx t]

end Cert.LossKernelIdeal.Value

end
-- ==== Proof.LossPair.lean ====
/-
  The loss head: the reference's loss and its derivative are what the blocked kernel leaves.
-/
module

public import proofs.«01_k».proof.Defs
public import proofs.«01_k».proof.Proof.LossValue
public import Idealize.ShloMosaic.Lib.Claim

@[expose] public section

set_option maxRecDepth 16384

noncomputable section

open Idealize.ShloMosaic Idealize.ShloMosaic.TcCoe Idealize.SL.Sem

namespace Cert.LossRefIdeal.Value

open Cert.LossRefIdeal Cert.LossRefIdeal.Gen Cert.LossRefIdeal.Read

open Cert.LossKernelIdeal.Value (rstd ERR DX DG LOSS)

theorem bits_half : Ideal.ofBits .f32 0x3F000000#32 = ((1 / 2 : ℝ) : EReal) := by
  simp [Ideal.ofBits, Ideal.ieee]; norm_num [zpow_neg, ← EReal.coe_mul]

theorem bits_two : Ideal.ofBits .f32 0x40000000#32 = ((2 : ℝ) : EReal) := by
  simp [Ideal.ofBits, Ideal.ieee]; norm_num [zpow_neg, ← EReal.coe_mul]

theorem bits_inv2048 : Ideal.ofBits .f32 0x3A000000#32 = ((1 / 2048 : ℝ) : EReal) := by
  simp [Ideal.ofBits, Ideal.ieee]; norm_num [zpow_neg, ← EReal.coe_mul]

theorem bits_inv4096 : Ideal.ofBits .f32 0x39800000#32 = ((1 / 4096 : ℝ) : EReal) := by
  simp [Ideal.ofBits, Ideal.ieee]; norm_num [zpow_neg, ← EReal.coe_mul]

theorem bits_one : Ideal.ofBits .f32 0x3F800000#32 = ((1 : ℝ) : EReal) := by
  simp [Ideal.ofBits, Ideal.ieee]; norm_num [zpow_neg, ← EReal.coe_mul]

/-- The derivative of half a square over the row length. -/
theorem half_two (v : ℝ) : 1 / 2 / 2048 * (2 * v) = v * (1 / 2048) := by ring

theorem ref51 (x t : S4096x2048.Idx → ℝ) (g : S2048.Idx → ℝ) (j : S8x128.Idx) :
    val_main_v51 (F := Ideal) (fun i => (x i : EReal)) (fun i => (g i : EReal)) (fun i => (t i : EReal)) j
      = LOSS (fun i => (x i : EReal)) (fun i => (g i : EReal)) (fun i => (t i : EReal)) := by
  pointwise [val_main_v51, val_main_v24, val_main_cst_7, val_main_v23, val_main_cst_6, val_main_v22, val_main_v20, val_main_cst_4, val_main_v17, val_main_v16, val_main_v15, val_main_v12, val_main_v11, val_main_v7, val_main_v6, val_main_v4, val_main_v2, val_main_v1, val_main_cst, val_main_v0, val_main_v3, val_main_cst_0, val_main_v5, val_main_cst_1, val_main_v14, val_main_v13, val_main_v21, val_main_cst_5, LOSS, ERR, rstd]
  have h := fun r : Fin 4096 => Reals.meansq_pos Finset.univ (fun k : Fin 2048 => x (ix2 r k)) (n := 2048) (by norm_num)
  simp only [Ideal.ofBits_zero_f32, zero_add, Finset.sum_const, Finset.card_univ, Fintype.card_fin, one_smul, Reals.bits_2048, Reals.bits_eps,
    Reals.bits_neg_half, bits_half, bits_two, bits_one, bits_inv2048, bits_inv4096, ← EReal.coe_mul, Reals.sum_coe,
    Reals.div_real (by norm_num : (2048 : ℝ) ≠ 0), ← EReal.coe_add, Reals.rsqrt_real (h _), Reals.div_real (h _).ne', ← EReal.coe_sub, half_two]
  refine congrArg _ ?_
  rw [← Fin.sum_mul_add_fin 16 256 _ rfl, Finset.mul_sum]
  refine Finset.sum_congr rfl fun t _ => ?_
  rw [← Finset.sum_div]
  ring

theorem ref53 (x t : S4096x2048.Idx → ℝ) (g : S2048.Idx → ℝ) (j : S1x2048.Idx) :
    val_main_v53 (F := Ideal) (fun i => (x i : EReal)) (fun i => (g i : EReal)) (fun i => (t i : EReal)) j
      = DG (fun i => (x i : EReal)) (fun i => (g i : EReal)) (fun i => (t i : EReal)) j := by
  pointwise [val_main_v53, val_main_v36, val_main_cst_12, val_main_v33, val_main_v32, val_main_cst_11, val_main_v31, val_main_v12, val_main_v11, val_main_v7, val_main_v6, val_main_v4, val_main_v2, val_main_v1, val_main_cst, val_main_v0, val_main_v3, val_main_cst_0, val_main_v5, val_main_cst_1, val_main_v30, val_main_v19, val_main_v16, val_main_v15, val_main_v14, val_main_v13, val_main_v18, val_main_cst_3, val_main_v29, val_main_v28, val_main_v26, val_main_v25, val_main_cst_8, val_main_cst_9, val_main_v27, val_main_cst_10, DG, ERR, rstd]
  have h := fun r : Fin 4096 => Reals.meansq_pos Finset.univ (fun k : Fin 2048 => x (ix2 r k)) (n := 2048) (by norm_num)
  simp only [Ideal.ofBits_zero_f32, zero_add, Finset.sum_const, Finset.card_univ, Fintype.card_fin, one_smul, Reals.bits_2048, Reals.bits_eps,
    Reals.bits_neg_half, bits_half, bits_two, bits_one, bits_inv2048, bits_inv4096, ← EReal.coe_mul, Reals.sum_coe,
    Reals.div_real (by norm_num : (2048 : ℝ) ≠ 0), ← EReal.coe_add, Reals.rsqrt_real (h _), Reals.div_real (h _).ne', ← EReal.coe_sub, half_two]
  exact congrArg _ (Finset.sum_congr rfl fun r _ => by ring)

theorem ref50 (x t : S4096x2048.Idx → ℝ) (g : S2048.Idx → ℝ) (j : S4096x2048.Idx) :
    val_main_v50 (F := Ideal) (fun i => (x i : EReal)) (fun i => (g i : EReal)) (fun i => (t i : EReal)) j
      = DX (fun i => (x i : EReal)) (fun i => (g i : EReal)) (fun i => (t i : EReal)) j := by
  pointwise [val_main_v50, val_main_v48, val_main_v41, val_main_v35, val_main_v30, val_main_v19, val_main_v16, val_main_v15, val_main_v12, val_main_v11, val_main_v7, val_main_v6, val_main_v4, val_main_v2, val_main_v1, val_main_cst, val_main_v0, val_main_v3, val_main_cst_0, val_main_v5, val_main_cst_1, val_main_v14, val_main_v13, val_main_v18, val_main_cst_3, val_main_v29, val_main_v28, val_main_v26, val_main_v25, val_main_cst_8, val_main_cst_9, val_main_v27, val_main_cst_10, val_main_v34, val_main_v40, val_main_v47, val_main_v46, val_main_v45, val_main_cst_15, val_main_v44, val_main_v42, val_main_v10, val_main_v8, val_main_v9, val_main_cst_2, val_main_v39, val_main_v38, val_main_cst_13, val_main_v37, val_main_v43, val_main_cst_14, val_main_v49, DX, ERR, rstd]
  have h := Reals.meansq_pos Finset.univ (fun k : Fin 2048 => x (ix2 (j 0) k)) (n := 2048) (by norm_num)
  simp only [Ideal.ofBits_zero_f32, zero_add, Finset.sum_const, Finset.card_univ, Fintype.card_fin, one_smul, Reals.bits_2048, Reals.bits_eps,
    Reals.bits_neg_half, bits_half, bits_two, bits_one, bits_inv2048, bits_inv4096, ← EReal.coe_mul, Reals.sum_coe,
    Reals.div_real (by norm_num : (2048 : ℝ) ≠ 0), ← EReal.coe_add, Reals.rsqrt_real h, Reals.div_real h.ne', ← EReal.coe_sub, half_two]
  rw [Reals.norm_grad Finset.univ _ (fun k : Fin 2048 => (x (ix2 (j 0) k) * (√((∑ k : Fin 2048, x (ix2 (j 0) k) * x (ix2 (j 0) k)) / 2048 + Reals.eps))⁻¹ * g (ix1 k)
    - t (ix2 (j 0) k)) * (1 / 2048) * g (ix1 k)) _ _ _ _ h (by norm_num)]

end Cert.LossRefIdeal.Value

namespace Cert.Proof.Loss

/-- A finite array is an array of real numbers. -/
theorem lift {s : Shape} {x : Vec Ideal s .f32} (h : ∀ i, ∃ r : ℝ, x i = (r : EReal)) : ∃ f : s.Idx → ℝ, x = fun i => (f i : EReal) :=
  ⟨fun i => (h i).choose, funext fun i => (h i).choose_spec⟩

/-- The stated side conditions of the precondition hold. -/
instance pre_facts : Cert.Pre_loss_finite.Facts where
  bcast_S_S4096x2048 := by decide
  bcast_S_S2048 := by decide

open Cert.LossKernelIdeal Cert.LossKernelIdeal.Value in
theorem pre_real (m : (ℓ : Loc nD τ sig) → Buf (Elt Ideal) ℓ) (hpre : Cert.Pre_LossKernelIdeal_loss_finite m) (c : Dev nD) :
    (∃ f : _ → ℝ, m ((c.tc : Thread nD τ).loc main_arg0) = fun i => (f i : EReal)) ∧ (∃ f : _ → ℝ, m ((c.tc : Thread nD τ).loc main_arg1) = fun i => (f i : EReal))
      ∧ (∃ f : _ → ℝ, m ((c.tc : Thread nD τ).loc main_arg2) = fun i => (f i : EReal)) := by
  obtain ⟨h0, h1, h2⟩ := hpre c
  exact ⟨lift fun i => Reals.real_of_cmp (congrFun h0 i), lift fun i => Reals.real_of_cmp (congrFun h1 i), lift fun i => Reals.real_of_cmp (congrFun h2 i)⟩

open Cert.LossKernelIdeal Cert.LossKernelIdeal.Value in
theorem values (m : (ℓ : Loc nD τ sig) → Buf (Elt Ideal) ℓ) (hpre : Cert.Pre_LossKernelIdeal_loss_finite m) (c : Dev nD) :
    (Cert.LossRefIdeal.Read.val_main_v51 (F := Ideal) (m ((c.tc : Thread nD τ).loc main_arg0)) (m ((c.tc : Thread nD τ).loc main_arg1)) (m ((c.tc : Thread nD τ).loc main_arg2))
      = fun _ => LOSS (m ((c : Thread nD τ).loc main_arg0)) (m ((c : Thread nD τ).loc main_arg1)) (m ((c : Thread nD τ).loc main_arg2)))
    ∧ Cert.LossRefIdeal.Read.val_main_v50 (F := Ideal) (m ((c.tc : Thread nD τ).loc main_arg0)) (m ((c.tc : Thread nD τ).loc main_arg1)) (m ((c.tc : Thread nD τ).loc main_arg2))
      = DX (m ((c : Thread nD τ).loc main_arg0)) (m ((c : Thread nD τ).loc main_arg1)) (m ((c : Thread nD τ).loc main_arg2))
    ∧ Cert.LossRefIdeal.Read.val_main_v53 (F := Ideal) (m ((c.tc : Thread nD τ).loc main_arg0)) (m ((c.tc : Thread nD τ).loc main_arg1)) (m ((c.tc : Thread nD τ).loc main_arg2))
      = DG (m ((c : Thread nD τ).loc main_arg0)) (m ((c : Thread nD τ).loc main_arg1)) (m ((c : Thread nD τ).loc main_arg2)) := by
  obtain ⟨⟨x, hx⟩, ⟨g, hg⟩, ⟨t, ht⟩⟩ := pre_real m hpre c
  rw [hx, hg, ht]
  exact ⟨funext fun j => Cert.LossRefIdeal.Value.ref51 x t g j, funext fun j => Cert.LossRefIdeal.Value.ref50 x t g j,
    funext fun j => Cert.LossRefIdeal.Value.ref53 x t g j⟩

theorem algebraic : Cert.algebraic_LossKernelIdeal_LossRefIdeal_pre_loss_finite := by
  pair_intro
  · run_from Cert.LossKernelIdeal.Value.run_blocks m g
  · run_from Cert.LossRefIdeal.Value.run m' g'
    · rw [Cert.LossKernelIdeal.Value.final3 m c]
      exact (Cert.LossRefIdeal.Read.val_main_v51_eq _ _ _).trans (values m hpre c).1
    · rw [Cert.LossKernelIdeal.Value.final4 m c, Cert.LossRefIdeal.Read.val_main_v50_eq m' c, (hagree c).1, (hagree c).2.1, (hagree c).2.2]
      exact (values m hpre c).2.1
    · rw [Cert.LossKernelIdeal.Value.final5 m c, Cert.LossRefIdeal.Read.val_main_v52_eq m' c, (hagree c).1, (hagree c).2.1, (hagree c).2.2]
      exact (values m hpre c).2.1
    · rw [Cert.LossKernelIdeal.Value.final6 m c]
      exact (Cert.LossRefIdeal.Read.val_main_v53_eq _ _ _).trans (values m hpre c).2.2

theorem frame_ref : Cert.quiescent_LossRefIdeal := fun m g _ =>
  (θ_run Cert.LossRefIdeal.defs _ _).mono (fun r h => ⟨fun c => (h c).2.2.2.2, sem_eq_zero_of_no_sems (by decide) r.2⟩)
    (Cert.LossRefIdeal.Value.run (F := Ideal) m g)

end Cert.Proof.Loss

end
-- ==== Proof.GluReal.lean ====
/-
  The rounded halves of the gated branch's derivative: gelu's value, its slope and the gate, as the kernel writes them and as
  the plain derivative writes them, at real numbers.
-/
module

public import proofs.«01_k».proof.Proof.Reals

@[expose] public section

noncomputable section

open Idealize.ShloMosaic

namespace Cert.Gelu

/-- The word both programs have for the root of two over pi. -/
def cw : ℝ := 13386282 / 2 ^ 24

theorem bits_cw : Ideal.ofBits .f32 0x3F4C422A#32 = (cw : EReal) := by
  simp [Ideal.ofBits, Ideal.ieee, cw]; norm_num [zpow_neg]; rw [← EReal.coe_mul]; norm_num

theorem bits_half : Ideal.ofBits .f32 0x3F000000#32 = ((1 / 2 : ℝ) : EReal) := by
  simp [Ideal.ofBits, Ideal.ieee]; norm_num [zpow_neg, ← EReal.coe_mul]

theorem bits_one : Ideal.ofBits .f32 0x3F800000#32 = ((1 : ℝ) : EReal) := by
  simp [Ideal.ofBits, Ideal.ieee]; norm_num [zpow_neg, ← EReal.coe_mul]

theorem bits_three : Ideal.ofBits .f32 0x40400000#32 = ((3 : ℝ) : EReal) := by
  simp [Ideal.ofBits, Ideal.ieee]; norm_num [zpow_neg, ← EReal.coe_mul]

theorem bits_k : Ideal.ofBits .f32 0x472EAB00#32 = ((44715 : ℝ) : EReal) := by
  simp [Ideal.ofBits, Ideal.ieee]; norm_num [zpow_neg, ← EReal.coe_mul]

theorem bits_m : Ideal.ofBits .f32 0x49742400#32 = ((1000000 : ℝ) : EReal) := by
  simp [Ideal.ofBits, Ideal.ieee]; norm_num [zpow_neg, ← EReal.coe_mul]

/-- The hyperbolic tangent inside gelu. -/
def th (y : EReal) : EReal :=
  Ideal.tanh (Ideal.ofBits .f32 0x3F4C422A#32 * (y + ((8943 / 200000 : ℝ) : EReal) * (y * y * y)))

/-- gelu as the kernel writes it. -/
def gelu (y : EReal) : EReal := Ideal.ofBits .f32 0x3F000000#32 * y * (Ideal.ofBits .f32 0x3F800000#32 + th y)

/-- gelu's slope as the kernel writes it. -/
def grad (y : EReal) : EReal :=
  Ideal.ofBits .f32 0x3F000000#32 * (Ideal.ofBits .f32 0x3F800000#32 + th y)
    + Ideal.ofBits .f32 0x3F000000#32 * y * (Ideal.ofBits .f32 0x3F800000#32 - th y * th y)
      * (Ideal.ofBits .f32 0x3F4C422A#32 * (Ideal.ofBits .f32 0x3F800000#32 + ((26829 / 200000 : ℝ) : EReal) * (y * y)))

/-- The gate as the kernel writes it: the exponential of a number that is never positive. -/
def gate (z : EReal) : EReal :=
  Ideal.div (if Ideal.ofBits .f32 0x00000000#32 ≤ z then Ideal.ofBits .f32 0x3F800000#32 else Ideal.exp (Ideal.ofBits .f32 0x00000000#32 - max z (-z)))
    (Ideal.ofBits .f32 0x3F800000#32 + Ideal.exp (Ideal.ofBits .f32 0x00000000#32 - max z (-z)))

/-- The host's hyperbolic tangent inside gelu. -/
def hth (y : EReal) : EReal :=
  Ideal.tanh (Ideal.ofBits .f32 0x3F4C422A#32 * (y + Ideal.div (Ideal.ofBits .f32 0x472EAB00#32 * (y * y * y)) (Ideal.ofBits .f32 0x49742400#32)))

theorem th_real (y : ℝ) : th (y : EReal) = ((Real.tanh (cw * (y + 8943 / 200000 * (y * y * y))) : ℝ) : EReal) := by
  simp only [th, bits_cw, ← EReal.coe_mul, ← EReal.coe_add, Ideal.tanh_coe]

theorem hth_eq (y : ℝ) : hth (y : EReal) = th (y : EReal) := by
  rw [th_real]
  simp only [hth, bits_cw, bits_k, bits_m, ← EReal.coe_mul, Reals.div_real (by norm_num : (1000000 : ℝ) ≠ 0), ← EReal.coe_add, Ideal.tanh_coe]
  congr 3; ring

theorem gelu_real (y : ℝ) : ∃ r : ℝ, gelu (y : EReal) = (r : EReal) := by
  refine ⟨1 / 2 * y * (1 + Real.tanh (cw * (y + 8943 / 200000 * (y * y * y)))), ?_⟩
  simp only [gelu, th_real, bits_half, bits_one, ← EReal.coe_mul, ← EReal.coe_add]

theorem grad_real (y : ℝ) : ∃ r : ℝ, grad (y : EReal) = (r : EReal) := by
  simp only [grad, th_real, bits_half, bits_one, bits_cw, ← EReal.coe_mul, ← EReal.coe_add, ← EReal.coe_sub]
  exact ⟨_, rfl⟩

/-- gelu: the host's product is the kernel's. -/
theorem gelu_eq (y : ℝ) :
    (y : EReal) * (Ideal.ofBits .f32 0x3F000000#32 * (Ideal.ofBits .f32 0x3F800000#32 + hth y)) = gelu (y : EReal) := by
  rw [hth_eq]
  simp only [gelu, th_real, bits_half, bits_one, ← EReal.coe_mul, ← EReal.coe_add]
  congr 1; ring

/-- What the plain derivative of gelu sends back for a cotangent. -/
def back (y e : EReal) : EReal :=
  e * (Ideal.ofBits .f32 0x3F000000#32 * (Ideal.ofBits .f32 0x3F800000#32 + hth y))
    + Ideal.ofBits .f32 0x3F4C422A#32 * (Ideal.ofBits .f32 0x3F000000#32 * (y * e)
        * ((Ideal.ofBits .f32 0x3F800000#32 + hth y) * (Ideal.ofBits .f32 0x3F800000#32 - hth y)))
    + Ideal.ofBits .f32 0x472EAB00#32 * Ideal.div (Ideal.ofBits .f32 0x3F4C422A#32 * (Ideal.ofBits .f32 0x3F000000#32 * (y * e)
        * ((Ideal.ofBits .f32 0x3F800000#32 + hth y) * (Ideal.ofBits .f32 0x3F800000#32 - hth y)))) (Ideal.ofBits .f32 0x49742400#32)
      * (Ideal.ofBits .f32 0x40400000#32 * (y * y))

theorem back_eq (y e : ℝ) : back (y : EReal) (e : EReal) = (e : EReal) * grad (y : EReal) := by
  simp only [back, grad, hth_eq, th_real, bits_half, bits_one, bits_cw, bits_k, bits_m, bits_three, ← EReal.coe_mul, ← EReal.coe_add,
    ← EReal.coe_sub, Reals.div_real (by norm_num : (1000000 : ℝ) ≠ 0)]
  congr 1; ring

/-- The host's gate. -/
def hgate (z : EReal) : EReal := Ideal.div (Ideal.ofBits .f32 0x3F800000#32) (Ideal.ofBits .f32 0x3F800000#32 + Ideal.exp (-z))

theorem hgate_real (z : ℝ) : hgate (z : EReal) = ((1 / (1 + Real.exp (-z)) : ℝ) : EReal) := by
  simp only [hgate, bits_one, ← EReal.coe_neg, Ideal.exp_coe, ← EReal.coe_add]
  exact Reals.div_real (by positivity) _

theorem gate_eq (z : ℝ) : gate (z : EReal) = hgate (z : EReal) := by
  rw [hgate_real]
  have ea : max (z : EReal) (-(z : EReal)) = ((|z| : ℝ) : EReal) := by
    rw [← EReal.coe_neg]; exact (EReal.coe_strictMono.monotone.map_max (a := z) (b := -z)).symm
  unfold gate
  rw [ea]
  simp only [bits_one, Ideal.ofBits_zero_f32, zero_sub, ← EReal.coe_neg, Ideal.exp_coe, ← EReal.coe_add]
  have hp : (1 + Real.exp (-|z|)) ≠ 0 := by positivity
  by_cases h : (0 : EReal) ≤ (z : EReal)
  · rw [if_pos h, Reals.div_real hp, abs_of_nonneg (by exact_mod_cast h)]
  · rw [if_neg h, Reals.div_real hp, abs_of_neg (by simpa using h), neg_neg]
    congr 1
    have e : Real.exp z * Real.exp (-z) = 1 := by rw [← Real.exp_add, add_neg_cancel, Real.exp_zero]
    have h1 : (1 + Real.exp (-z)) ≠ 0 := by positivity
    have h2 : (1 + Real.exp z) ≠ 0 := by positivity
    rw [div_eq_div_iff h2 h1]
    linarith

/-- The two ways to write the gate agree at the infinities too. -/
theorem gate_all (z : EReal) : gate z = hgate z := by
  induction z using EReal.rec with
  | coe z => exact gate_eq z
  | bot =>
    unfold gate hgate
    rw [if_neg (by simp [Ideal.ofBits_zero_f32])]
    simp only [bits_one, Ideal.ofBits_zero_f32, EReal.neg_bot, zero_sub, Ideal.exp_top, max_eq_right bot_le, EReal.neg_top, Ideal.exp_bot, add_zero]
    rw [EReal.coe_add_top]
    simp [Ideal.div]
  | top =>
    unfold gate hgate
    rw [if_pos le_top]
    simp only [bits_one, Ideal.ofBits_zero_f32, EReal.neg_top, zero_sub, max_eq_left bot_le, Ideal.exp_bot, add_zero]

end Cert.Gelu

end
-- ==== Proof.GluValue.lean ====
/-
  The gated branch's backward call: what the blocked kernel leaves in its five result arrays.
-/
module

public import proofs.«01_k».proof.Proof.GluReal
public import proofs.«01_k».proof.Proof.Gen.GluKernelIdeal.Value
public import proofs.«01_k».proof.Proof.Gen.GluRefIdeal.Run
public import proofs.«01_k».proof.Proof.Gen.GluRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GluKernelIdeal.Value

open Cert.GluKernelIdeal Cert.GluKernelIdeal.Gen
open Cert.Gelu (gelu grad gate th)

variable (m : (ℓ : Loc nD τ sig) → Buf (Elt Ideal) ℓ)

theorem idx : ∀ t : Fin cfg0.N, win0_0.index t = ![t.val, 0] ∧ win0_1.index t = ![t.val, 2] ∧ win0_2.index t = ![0, 0]
    ∧ win0_3.index t = ![0, 0, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-! ## One row of the branch -/

section Spec

variable (y : Fin 1024 → EReal) (W : Fin 1024 → Fin 1024 → EReal) (B d : Fin 1024 → EReal)

/-- The gate: gelu of the row through the gate's matrix. -/
def S (j : Fin 1024) : EReal := gate ((∑ k : Fin 1024, gelu (y k) * W k j) + B j)

/-- The gradient of the gate's argument. -/
def DZ (j : Fin 1024) : EReal := d j * gelu (y j) * S y W B j * (Ideal.ofBits .f32 0x3F800000#32 - S y W B j)

/-- The gradient of the branch's gelu. -/
def DG (j : Fin 1024) : EReal := d j * S y W B j + ∑ k : Fin 1024, DZ y W B d k * W j k

/-- The gradient of the branch's input. -/
def DY (j : Fin 1024) : EReal := DG y W B d j * grad (y j)

end Spec

/-- The branch's input: the scanned row plus the skip of the projection's third block. -/
def YA (y : Vec Ideal S4096x1024 .f32) (p : Vec Ideal S4096x12288 .bf16) (d : Vec Ideal S1024 .f32) (r : Fin 4096) (k : Fin 1024) : EReal :=
  y (ix2 r k) + d (ix1 k) * p (ix2 r ⟨2048 + k.val, by omega⟩)

/-! ## The kernel's stages at one element of a block -/

theorem named_k : (Named.named κ "gelu_k" (0x3D372713#32 : BitVec (FTy.bits .f32)) : Ideal .f32) = ((8943 / 200000 : ℝ) : EReal) := by
  rfl

theorem named_3k : (Named.named κ "gelu_3k" (0x3E095D4F#32 : BitVec (FTy.bits .f32)) : Ideal .f32) = ((26829 / 200000 : ℝ) : EReal) := by
  rfl

/-- The input's block. -/
def yb (x : Vec Ideal S512x1024 .bf16) (d : Vec Ideal S1x1024 .f32) (y : Vec Ideal S512x1024 .f32) (r : Fin 512) (k : Fin 1024) : EReal :=
  y (ix2 r k) + d (ix2 0 k) * x (ix2 r k)

theorem pay13 (x : Vec Ideal S512x1024 .bf16) (d : Vec Ideal S1x1024 .f32) (y : Vec Ideal S512x1024 .f32) :
    k0_pay13 (F := Ideal) x d y = fun j => gelu (yb x d y (j 0) (j 1)) := by
  funext j
  pointwise [k0_pay13, k0_pay12, k0_pay11, k0_pay10, k0_pay9, gelu, th, yb]
  rfl

theorem pay17 (x : Vec Ideal S512x1024 .bf16) (d : Vec Ideal S1x1024 .f32) (y : Vec Ideal S512x1024 .f32) :
    k0_pay17 (F := Ideal) (k0_pay14 (F := Ideal) x d y) (k0_pay15 (F := Ideal) x d y) (k0_pay16 (F := Ideal) x d y) (Scalar.ofBits .f32 0x3F4C422A#32)
      = fun j => grad (yb x d y (j 0) (j 1)) := by
  funext j
  pointwise [k0_pay17, k0_pay16, k0_pay15, k0_pay14, k0_pay12, k0_pay11, k0_pay10, k0_pay9, grad, th, yb]
  rfl

theorem pay22 (Y : Fin 512 → Fin 1024 → EReal) (w : Vec Ideal S1x1024x1024 .bf16) (b : Vec Ideal S1x1024 .f32) (d : Vec Ideal S512x1024 .bf16) :
    k0_pay22 (F := Ideal) (fun j => gelu (Y (j 0) (j 1))) w b d
      = fun j => DZ (Y (j 0)) (fun k l => w (ix3 0 k l)) (fun k => b (ix2 0 k)) (fun k => d (ix2 (j 0) k)) (j 1) := by
  funext j
  pointwise [k0_pay22, k0_pay21, k0_pay20, k0_pay19, k0_pay18, DZ, S, gate]
  rfl

theorem pay24 (Y : Fin 512 → Fin 1024 → EReal) (w : Vec Ideal S1x1024x1024 .bf16) (b : Vec Ideal S1x1024 .f32) (d : Vec Ideal S512x1024 .bf16) :
    k0_pay24 (F := Ideal) (fun j => gelu (Y (j 0) (j 1))) w b d
      = fun j => DG (Y (j 0)) (fun k l => w (ix3 0 k l)) (fun k => b (ix2 0 k)) (fun k => d (ix2 (j 0) k)) (j 1) := by
  funext j
  pointwise [k0_pay24, k0_pay23, k0_pay22, k0_pay21, k0_pay20, k0_pay19, k0_pay18, DG, DZ, S, gate]
  rfl

theorem pay25 (Y : Fin 512 → Fin 1024 → EReal) (w : Vec Ideal S1x1024x1024 .bf16) (b : Vec Ideal S1x1024 .f32) (d : Vec Ideal S512x1024 .bf16)
    (a : Vec Ideal S1024x1024 .f32) (j : S1024x1024.Idx) :
    k0_pay25 (F := Ideal) (fun j => gelu (Y (j 0) (j 1))) w b d a j
      = a j + ∑ r : Fin 512, gelu (Y r (j 0)) * DZ (Y r) (fun k l => w (ix3 0 k l)) (fun k => b (ix2 0 k)) (fun k => d (ix2 r k)) (j 1) := by
  unfold k0_pay25 k0_pay23
  rw [pay22]
  pointwise [k0_pay18]

theorem zero8 (j : S1024x1024.Idx) : k0_pay6 (F := Ideal) j = 0 := by
  pointwise [k0_pay6]

theorem zero9 (j : S1x1024.Idx) : k0_pay7 (F := Ideal) j = 0 := by
  pointwise [k0_pay7]

theorem zero10 (j : S1x1024.Idx) : k0_pay8 (F := Ideal) j = 0 := by
  pointwise [k0_pay8]

theorem pay1 (v : Vec Ideal S512x1024 .f32) (a : Vec Ideal S1x1024 .f32) (j : S1x1024.Idx) :
    k0_pay1 (F := Ideal) v a j = a j + ∑ r : Fin 512, v (ix2 r (j 1)) := by
  pointwise [k0_pay1]

theorem pay3 (x : Vec Ideal S512x1024 .bf16) (v w : Vec Ideal S512x1024 .f32) (a : Vec Ideal S1x1024 .f32) (j : S1x1024.Idx) :
    k0_pay3 (F := Ideal) (k0_pay9 (F := Ideal) x) v w a j = a j + ∑ r : Fin 512, w (ix2 r (j 1)) * v (ix2 r (j 1)) * x (ix2 r (j 1)) := by
  pointwise [k0_pay3, k0_pay2, k0_pay9]

theorem pay4 (v w : Vec Ideal S512x1024 .f32) (j : S512x1024.Idx) : k0_pay4 (F := Ideal) v w j = w j * v j := by
  pointwise [k0_pay4, k0_pay2]

theorem pay5 (d : Vec Ideal S1x1024 .f32) (v w : Vec Ideal S512x1024 .f32) (j : S512x1024.Idx) :
    k0_pay5 (F := Ideal) (k0_pay10 (F := Ideal) d) v w j = w j * v j * d (ix2 0 (j 1)) := by
  pointwise [k0_pay5, k0_pay2, k0_pay10]

/-! ## A row of a block is a row of the arrays -/

/-- Row `r` of the point's block. -/
def row (t : Fin cfg0.N) (r : Fin 512) : Fin 4096 := ⟨t.val * 512 + r.val, by have := r.isLt; have := t.isLt; have : cfg0.N = 8 := N_0; omega⟩

section Blocks

variable (c : Dev nD)

theorem row_y (t : Fin cfg0.N) (r : Fin 512) (R : Fin 4096) (h : R.val = t.val * 512 + r.val) :
    yb (iblk m c 1 t) (iblk m c 2 t) (iblk m c 0 t) r
      = YA (m ((c : Thread nD τ).loc main_arg0)) (m ((c : Thread nD τ).loc main_arg1)) (m ((c : Thread nD τ).loc main_arg2)) R := by
  funext k
  unfold yb YA
  blk_point [iblk, V, idx t]

theorem row_d (t : Fin cfg0.N) (r : Fin 512) (R : Fin 4096) (h : R.val = t.val * 512 + r.val) :
    (fun k : Fin 1024 => (iblk m c 5 t : Vec Ideal S512x1024 .bf16) (ix2 r k)) = fun k => m ((c : Thread nD τ).loc main_arg5) (ix2 R k) := by
  funext k
  blk_point [iblk, V, idx t]

theorem row_w (t : Fin cfg0.N) :
    (fun k l : Fin 1024 => (iblk m c 3 t : Vec Ideal S1x1024x1024 .bf16) (ix3 0 k l)) = fun k l => m ((c : Thread nD τ).loc main_arg3) (ix2 k l) := by
  funext k l
  blk_point [iblk, V, idx t]

theorem row_b (t : Fin cfg0.N) :
    (fun k : Fin 1024 => (iblk m c 4 t : Vec Ideal S1x1024 .f32) (ix2 0 k)) = fun k => m ((c : Thread nD τ).loc main_arg4) (ix1 k) := by
  funext k
  blk_point [iblk, V, idx t]

end Blocks

/-! ## The five results -/

section Results

variable (x0 : Vec Ideal S4096x1024 .f32) (x1 : Vec Ideal S4096x12288 .bf16) (x2 : Vec Ideal S1024 .f32) (x3 : Vec Ideal S1024x1024 .bf16) (x4 : Vec Ideal S1024 .f32) (x5 : Vec Ideal S4096x1024 .bf16)

/-- The gradient of the gate's argument, row `r`. -/
def AZ (r : Fin 4096) (k : Fin 1024) : EReal :=
  DZ (YA x0 x1 x2 r) (fun k l => x3 (ix2 k l)) (fun k => x4 (ix1 k)) (fun k => x5 (ix2 r k)) k

/-- The gradient of the branch's input, row `r`. -/
def AY (r : Fin 4096) (k : Fin 1024) : EReal :=
  DY (YA x0 x1 x2 r) (fun k l => x3 (ix2 k l)) (fun k => x4 (ix1 k)) (fun k => x5 (ix2 r k)) k

/-- The gradient of the scanned rows. -/
def OY : Vec Ideal S4096x1024 .bf16 := fun j => AY x0 x1 x2 x3 x4 x5 (j 0) (j 1)

/-- The gradient of the projection's block. -/
def OX : Vec Ideal S4096x1024 .bf16 := fun j => AY x0 x1 x2 x3 x4 x5 (j 0) (j 1) * x2 (ix1 (j 1))

/-- The gradient of the gate's matrix. -/
def OW : Vec Ideal S1024x1024 .f32 := fun j => ∑ r : Fin 4096, gelu (YA x0 x1 x2 r (j 0)) * AZ x0 x1 x2 x3 x4 x5 r (j 1)

/-- The gradient of the gate's bias, one row. -/
def OB : Vec Ideal S1x1024 .f32 := fun j => ∑ r : Fin 4096, AZ x0 x1 x2 x3 x4 x5 r (j 1)

/-- The gradient of the skip, one row. -/
def OD : Vec Ideal S1x1024 .f32 := fun j => ∑ r : Fin 4096, AY x0 x1 x2 x3 x4 x5 r (j 1) * x1 (ix2 r ⟨2048 + (j 1).val, by have : (j 1).val < 1024 := (j 1).isLt; omega⟩)

end Results

section Points

variable (c : Dev nD)

/-- The input's gradient inside a block. -/
theorem pointY (t : Fin cfg0.N) (j : S512x1024.Idx) :
    k0_pay24 (F := Ideal) (k0_pay13 (F := Ideal) (iblk m c 1 t) (iblk m c 2 t) (iblk m c 0 t)) (iblk m c 3 t) (iblk m c 4 t) (iblk m c 5 t) j
      * k0_pay17 (F := Ideal) (k0_pay14 (F := Ideal) (iblk m c 1 t) (iblk m c 2 t) (iblk m c 0 t)) (k0_pay15 (F := Ideal) (iblk m c 1 t) (iblk m c 2 t) (iblk m c 0 t))
          (k0_pay16 (F := Ideal) (iblk m c 1 t) (iblk m c 2 t) (iblk m c 0 t)) (Scalar.ofBits .f32 0x3F4C422A#32) j
      = AY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t (j 0)) (j 1) := by
  rw [pay13, pay17, pay24 (yb (iblk m c 1 t) (iblk m c 2 t) (iblk m c 0 t))]
  dsimp only
  rw [row_w, row_b, row_d m c t (j 0) (row t (j 0)) rfl, row_y m c t (j 0) (row t (j 0)) rfl]
  rfl

/-- The gate's gradient inside a block. -/
theorem pointZ (t : Fin cfg0.N) :
    k0_pay22 (F := Ideal) (k0_pay13 (F := Ideal) (iblk m c 1 t) (iblk m c 2 t) (iblk m c 0 t)) (iblk m c 3 t) (iblk m c 4 t) (iblk m c 5 t)
      = fun j => AZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t (j 0)) (j 1) := by
  rw [pay13, pay22 (yb (iblk m c 1 t) (iblk m c 2 t) (iblk m c 0 t))]
  funext j
  rw [row_w, row_b, row_d m c t (j 0) (row t (j 0)) rfl, row_y m c t (j 0) (row t (j 0)) rfl]
  rfl

theorem point6 (t : Fin cfg0.N) (y : S512x1024.Idx) (j : S4096x1024.Idx) (h0 : (j 0 : ℕ) = t.val * 512 + y 0) (h1 : (j 1 : ℕ) = y 1) :
    k0_pay4 (F := Ideal) (k0_pay17 (F := Ideal) (k0_pay14 (F := Ideal) (iblk m c 1 t) (iblk m c 2 t) (iblk m c 0 t)) (k0_pay15 (F := Ideal) (iblk m c 1 t) (iblk m c 2 t) (iblk m c 0 t))
          (k0_pay16 (F := Ideal) (iblk m c 1 t) (iblk m c 2 t) (iblk m c 0 t)) (Scalar.ofBits .f32 0x3F4C422A#32))
        (k0_pay24 (F := Ideal) (k0_pay13 (F := Ideal) (iblk m c 1 t) (iblk m c 2 t) (iblk m c 0 t)) (iblk m c 3 t) (iblk m c 4 t) (iblk m c 5 t)) y
      = OY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [pay4, pointY m c t y]
  unfold OY
  congr 1 <;> exact Fin.ext (by simp only [h0, h1, row])

theorem point7 (t : Fin cfg0.N) (y : S512x1024.Idx) (j : S4096x1024.Idx) (h0 : (j 0 : ℕ) = t.val * 512 + y 0) (h1 : (j 1 : ℕ) = y 1) :
    k0_pay5 (F := Ideal) (k0_pay10 (F := Ideal) (iblk m c 2 t)) (k0_pay17 (F := Ideal) (k0_pay14 (F := Ideal) (iblk m c 1 t) (iblk m c 2 t) (iblk m c 0 t)) (k0_pay15 (F := Ideal) (iblk m c 1 t) (iblk m c 2 t) (iblk m c 0 t))
          (k0_pay16 (F := Ideal) (iblk m c 1 t) (iblk m c 2 t) (iblk m c 0 t)) (Scalar.ofBits .f32 0x3F4C422A#32))
        (k0_pay24 (F := Ideal) (k0_pay13 (F := Ideal) (iblk m c 1 t) (iblk m c 2 t) (iblk m c 0 t)) (iblk m c 3 t) (iblk m c 4 t) (iblk m c 5 t)) y
      = OX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  rw [pay5, pointY m c t y]
  unfold OX
  have e1 : (j 1 : Fin 1024) = y 1 := Fin.ext h1
  have e0 : (j 0 : Fin 4096) = row t (y 0) := Fin.ext h0
  rw [e0, e1]
  refine congrArg _ ?_
  blk_point [iblk, V, idx t]

end Points

theorem final6 (c : Dev nD) : (dats m 0 c).arrAt 6 cfg0.N = OY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 8 = 0
  · rw [outsAt0_A m c t h]
    dsimp only
    frame_out
    refine Eq.trans ?_ (point6 m c t y _ ?_ ?_)
    · rfl
    all_goals blk_simp [idx t]
  · rw [outsAt0_B m c t h]
    frame_out
    refine Eq.trans ?_ (point6 m c t y _ ?_ ?_)
    · rfl
    all_goals blk_simp [idx t]

theorem final7 (c : Dev nD) : (dats m 0 c).arrAt 7 cfg0.N = OX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h : t.val % 8 = 0
  · rw [outsAt0_A m c t h]
    dsimp only
    frame_out
    refine Eq.trans ?_ (point7 m c t y _ ?_ ?_)
    · rfl
    all_goals blk_simp [idx t]
  · rw [outsAt0_B m c t h]
    frame_out
    refine Eq.trans ?_ (point7 m c t y _ ?_ ?_)
    · rfl
    all_goals blk_simp [idx t]

/-- The block's addition to the gate's matrix. -/
theorem step8 (c : Dev nD) (t : Fin cfg0.N) (a : Vec Ideal S1024x1024 .f32) (j : S1024x1024.Idx) :
    k0_pay25 (F := Ideal) (k0_pay13 (F := Ideal) (iblk m c 1 t) (iblk m c 2 t) (iblk m c 0 t)) (iblk m c 3 t) (iblk m c 4 t) (iblk m c 5 t) a j
      = a j + ∑ r : Fin 512, gelu (YA (m ((c : Thread nD τ).loc main_arg0)) (m ((c : Thread nD τ).loc main_arg1)) (m ((c : Thread nD τ).loc main_arg2))
          (row t r) (j 0))
          * AZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) (j 1) := by
  rw [pay13, pay25 (yb (iblk m c 1 t) (iblk m c 2 t) (iblk m c 0 t))]
  refine congrArg _ (congrArg (Finset.sum (M := EReal) Finset.univ) (funext fun r => ?_))
  rw [row_w, row_b, row_d m c t r (row t r) rfl, row_y m c t r (row t r) rfl]
  rfl

theorem final8 (c : Dev nD) : (dats m 0 c).arrAt 8 cfg0.N = OW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; dsimp only; frame_out; rw [step8, zero8])
    (fun t h j => by rw [outsAt0_B m c t h]; frame_out; rw [step8])
    (le_of_eq N_0) t0_7 rfl j, zero_add]
  unfold OW
  exact Fin.sum_mul_add_fin 8 512 (fun r : Fin 4096 => gelu (YA (m ((c : Thread nD τ).loc main_arg0)) (m ((c : Thread nD τ).loc main_arg1)) (m ((c : Thread nD τ).loc main_arg2)) r (j 0)) * AZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (j 1)) rfl

theorem final9 (c : Dev nD) : (dats m 0 c).arrAt 9 cfg0.N = OB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0) _
    (fun t h j => by rw [outsAt0_A m c t h]; dsimp only; frame_out; rw [pointZ, pay1, zero9])
    (fun t h j => by rw [outsAt0_B m c t h]; frame_out; rw [pointZ, pay1])
    (le_of_eq N_0) t0_7 rfl j, zero_add]
  unfold OB
  exact Fin.sum_mul_add_fin 8 512 (fun r : Fin 4096 => AZ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (j 1)) rfl

/-- The block's addition to the skip's gradient. -/
theorem step10 (c : Dev nD) (t : Fin cfg0.N) (a : Vec Ideal S1x1024 .f32) (j : S1x1024.Idx) :
    k0_pay3 (F := Ideal) (k0_pay9 (F := Ideal) (iblk m c 1 t)) (k0_pay17 (F := Ideal) (k0_pay14 (F := Ideal) (iblk m c 1 t) (iblk m c 2 t) (iblk m c 0 t)) (k0_pay15 (F := Ideal) (iblk m c 1 t) (iblk m c 2 t) (iblk m c 0 t))
          (k0_pay16 (F := Ideal) (iblk m c 1 t) (iblk m c 2 t) (iblk m c 0 t)) (Scalar.ofBits .f32 0x3F4C422A#32))
        (k0_pay24 (F := Ideal) (k0_pay13 (F := Ideal) (iblk m c 1 t) (iblk m c 2 t) (iblk m c 0 t)) (iblk m c 3 t) (iblk m c 4 t) (iblk m c 5 t)) a j
      = a j + ∑ r : Fin 512, AY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) (j 1)
          * m ((c : Thread nD τ).loc main_arg1) (ix2 (row t r) ⟨2048 + (j 1).val, by have : (j 1).val < 1024 := (j 1).isLt; omega⟩) := by
  rw [pay3]
  refine congrArg _ (congrArg (Finset.sum (M := EReal) Finset.univ) (funext fun r => ?_))
  rw [pointY m c t (ix2 r (j 1))]
  refine congrArg (AY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t r) (j 1) * ·) ?_
  unfold row
  blk_point [iblk, V, idx t]

theorem final10 (c : Dev nD) : (dats m 0 c).arrAt 10 cfg0.N = OD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0) _
    (fun t h j => by rw [outsAt0_A m c t h]; dsimp only; frame_out; rw [step10, zero10])
    (fun t h j => by rw [outsAt0_B m c t h]; frame_out; rw [step10])
    (le_of_eq N_0) t0_7 rfl j, zero_add]
  unfold OD
  exact Fin.sum_mul_add_fin 8 512 (fun r : Fin 4096 => AY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r (j 1) * m ((c : Thread nD τ).loc main_arg1) (ix2 r ⟨2048 + (j 1).val, by have : (j 1).val < 1024 := (j 1).isLt; omega⟩)) rfl

end Cert.GluKernelIdeal.Value

end
-- ==== Proof.GluPair.lean ====
/-
  The gated branch's backward call: the reference's derivative is what the blocked kernel leaves.
-/
module

public import proofs.«01_k».proof.Defs
public import proofs.«01_k».proof.Proof.GluValue
public import proofs.«01_k».proof.Proof.Gen.GluKernel
public import Idealize.ShloMosaic.Lib.Claim

@[expose] public section

set_option maxRecDepth 16384

noncomputable section

open Idealize.ShloMosaic Idealize.ShloMosaic.TcCoe Idealize.SL.Sem

namespace Cert.GluRefIdeal.Value

open Cert.GluRefIdeal Cert.GluRefIdeal.Gen Cert.GluRefIdeal.Read
open Cert.Gelu (gelu grad gate th hth hgate back)
open Cert.Reals (real_add real_mul real_sub real_sum)
open Cert.GluKernelIdeal.Value (S DZ DG DY YA AZ AY OY OX OW OB OD)

variable {x0 : Vec Ideal S4096x1024 .f32} {x1 : Vec Ideal S4096x12288 .bf16} {x2 : Vec Ideal S1024 .f32} {x3 : Vec Ideal S1024x1024 .bf16} {x4 : Vec Ideal S1024 .f32} {x5 : Vec Ideal S4096x1024 .bf16}

/-- The entries the call reads are real numbers. -/
structure Fine (x0 : Vec Ideal S4096x1024 .f32) (x1 : Vec Ideal S4096x12288 .bf16) (x2 : Vec Ideal S1024 .f32) (x3 : Vec Ideal S1024x1024 .bf16) (x4 : Vec Ideal S1024 .f32) (x5 : Vec Ideal S4096x1024 .bf16) : Prop where
  h0 : ∀ i, ∃ r : ℝ, x0 i = (r : EReal)
  h1 : ∀ (r : Fin 4096) (k : Fin 1024), ∃ a : ℝ, x1 (ix2 r ⟨2048 + k.val, by omega⟩) = (a : EReal)
  h2 : ∀ i, ∃ r : ℝ, x2 i = (r : EReal)
  h3 : ∀ i, ∃ r : ℝ, x3 i = (r : EReal)
  h4 : ∀ i, ∃ r : ℝ, x4 i = (r : EReal)
  h5 : ∀ i, ∃ r : ℝ, x5 i = (r : EReal)

/-! ## One row of the branch is real -/

theorem real_gelu {y : EReal} (h : ∃ r : ℝ, y = r) : ∃ r : ℝ, gelu y = (r : EReal) := by
  obtain ⟨y, rfl⟩ := h; exact Gelu.gelu_real y

theorem real_gate {z : EReal} (h : ∃ r : ℝ, z = r) : ∃ r : ℝ, gate z = (r : EReal) := by
  obtain ⟨z, rfl⟩ := h; exact ⟨_, (Gelu.gate_eq z).trans (Gelu.hgate_real z)⟩

section Row

variable {y : Fin 1024 → EReal} {W : Fin 1024 → Fin 1024 → EReal} {B d : Fin 1024 → EReal}

theorem real_S (hy : ∀ k, ∃ r : ℝ, y k = r) (hW : ∀ k l, ∃ r : ℝ, W k l = r) (hB : ∀ k, ∃ r : ℝ, B k = r) (j : Fin 1024) :
    ∃ r : ℝ, S y W B j = (r : EReal) :=
  real_gate (real_add (real_sum fun k => real_mul (real_gelu (hy k)) (hW k j)) (hB j))

theorem real_DZ (hy : ∀ k, ∃ r : ℝ, y k = r) (hW : ∀ k l, ∃ r : ℝ, W k l = r) (hB : ∀ k, ∃ r : ℝ, B k = r) (hd : ∀ k, ∃ r : ℝ, d k = r) (j : Fin 1024) :
    ∃ r : ℝ, DZ y W B d j = (r : EReal) :=
  real_mul (real_mul (real_mul (hd j) (real_gelu (hy j))) (real_S hy hW hB j)) (real_sub ⟨1, Gelu.bits_one⟩ (real_S hy hW hB j))

theorem real_DG (hy : ∀ k, ∃ r : ℝ, y k = r) (hW : ∀ k l, ∃ r : ℝ, W k l = r) (hB : ∀ k, ∃ r : ℝ, B k = r) (hd : ∀ k, ∃ r : ℝ, d k = r) (j : Fin 1024) :
    ∃ r : ℝ, DG y W B d j = (r : EReal) :=
  real_add (real_mul (hd j) (real_S hy hW hB j)) (real_sum fun k => real_mul (real_DZ hy hW hB hd k) (hW j k))

end Row

theorem Fine.y (h : Fine x0 x1 x2 x3 x4 x5) (r : Fin 4096) (k : Fin 1024) : ∃ a : ℝ, YA x0 x1 x2 r k = (a : EReal) :=
  real_add (h.h0 _) (real_mul (h.h2 _) (h.h1 r k))

/-! ## The reference's stages -/

theorem s9 (r : Fin 4096) (k : Fin 1024) : val_main_v9 (F := Ideal) x0 x1 x2 (ix3 0 r k) = YA x0 x1 x2 r k := by
  pointwise [val_main_v9, val_main_v8, val_main_v7, val_main_v4, val_main_v3, val_main_v2, val_main_v1, val_main_v0, YA]

theorem s22 (r : Fin 4096) (k : Fin 1024) : val_main_v22 (F := Ideal) x0 x1 x2 (ix3 0 r k) = hth (YA x0 x1 x2 r k) := by
  rw [← s9]
  pointwise [val_main_v22, val_main_v21, val_main_v20, val_main_v19, val_main_v18, val_main_v17, val_main_v16, val_main_v15, val_main_v11, val_main_v10, val_main_cst_0, val_main_cst_1, val_main_cst_2, hth]

theorem s32 (h : Fine x0 x1 x2 x3 x4 x5) (r : Fin 4096) (k : Fin 1024) : val_main_v32 (F := Ideal) x0 x1 x2 (ix3 0 r k) = gelu (YA x0 x1 x2 r k) := by
  obtain ⟨a, ha⟩ := h.y r k
  rw [ha, ← Gelu.gelu_eq, ← ha, ← s22, ← s9]
  pointwise [val_main_v32, val_main_v31, val_main_v30, val_main_v29, val_main_v28, val_main_cst_5, val_main_cst_6]

theorem s41 (h : Fine x0 x1 x2 x3 x4 x5) (r : Fin 4096) (k : Fin 1024) : val_main_v41 (F := Ideal) x0 x1 x2 x3 x4 (ix3 0 r k) = S (YA x0 x1 x2 r) (fun k l => x3 (ix2 k l)) (fun k => x4 (ix1 k)) k := by
  obtain ⟨a, ha⟩ := real_add (real_sum fun l => real_mul (real_gelu (h.y r l)) (h.h3 (ix2 l k))) (h.h4 (ix1 k))
  unfold S
  rw [ha, Gelu.gate_eq, ← ha]
  pointwise [val_main_v41, val_main_v40, val_main_v39, val_main_v38, val_main_v37, val_main_v36, val_main_v35, val_main_v34, val_main_v6, val_main_v33, val_main_v5, val_main_cst_7, val_main_cst_8, hgate]
  simp only [s32 h]

theorem s50 (h : Fine x0 x1 x2 x3 x4 x5) (r : Fin 4096) (k : Fin 1024) : val_main_v50 (F := Ideal) x0 x1 x2 x3 x4 x5 (ix3 0 r k) = AZ x0 x1 x2 x3 x4 x5 r k := by
  unfold AZ DZ
  rw [← s41 h, ← s32 h]
  pointwise [val_main_v50, val_main_v48, val_main_v47, val_main_v46, val_main_v44, val_main_v43, val_main_v42, val_main_cst_9]
  rw [← mul_assoc, mul_comm (val_main_v32 (F := Ideal) x0 x1 x2 _)]

theorem s56 (h : Fine x0 x1 x2 x3 x4 x5) (r : Fin 4096) (k : Fin 1024) : val_main_v56 (F := Ideal) x0 x1 x2 x3 x4 x5 (ix3 0 r k) = DG (YA x0 x1 x2 r) (fun k l => x3 (ix2 k l)) (fun k => x4 (ix1 k)) (fun k => x5 (ix2 r k)) k := by
  unfold DG
  rw [← s41 h]
  have e := fun l => s50 h r l
  unfold AZ at e
  simp only [← e]
  pointwise [val_main_v56, val_main_v55, val_main_v49, val_main_v47, val_main_v46, val_main_v5]

theorem s70 (h : Fine x0 x1 x2 x3 x4 x5) (r : Fin 4096) (k : Fin 1024) : val_main_v70 (F := Ideal) x0 x1 x2 x3 x4 x5 (ix3 0 r k) = AY x0 x1 x2 x3 x4 x5 r k := by
  obtain ⟨a, ha⟩ := h.y r k
  obtain ⟨b, hb⟩ := real_DG (fun k => h.y r k) (fun k l => h.h3 (ix2 k l)) (fun k => h.h4 (ix1 k)) (fun k => h.h5 (ix2 r k)) k
  unfold AY DY
  rw [ha, hb, ← Gelu.back_eq, ← ha, ← hb, ← s56 h, back, ← s22, ← s9]
  pointwise [val_main_v70, val_main_v69, val_main_v68, val_main_v67, val_main_v66, val_main_v65, val_main_v64, val_main_v63, val_main_v62, val_main_v61, val_main_v60, val_main_v59, val_main_v58, val_main_v57, val_main_v31, val_main_v30, val_main_v29, val_main_v28, val_main_v27, val_main_v26, val_main_v25, val_main_v24, val_main_v23, val_main_v14, val_main_v13, val_main_v12,
    val_main_cst, val_main_cst_3, val_main_cst_4, val_main_cst_5, val_main_cst_6, val_main_cst_11, val_main_cst_12, val_main_cst_13, val_main_cst_14]

theorem r77 (h : Fine x0 x1 x2 x3 x4 x5) : val_main_v77 (F := Ideal) x0 x1 x2 x3 x4 x5 = OY x0 x1 x2 x3 x4 x5 := by
  funext j
  refine Eq.trans ?_ (s70 h (j 0) (j 1))
  pointwise [val_main_v77, val_main_v76]

theorem r79 (h : Fine x0 x1 x2 x3 x4 x5) : val_main_v79 (F := Ideal) x0 x1 x2 x3 x4 x5 = OX x0 x1 x2 x3 x4 x5 := by
  funext j
  refine Eq.trans ?_ (congrArg (· * x2 (ix1 (j 1))) (s70 h (j 0) (j 1)))
  refine Eq.trans ?_ (EReal.mul_comm _ _)
  pointwise [val_main_v79, val_main_v78, val_main_v72, val_main_v71, val_main_v4]

theorem r54 (h : Fine x0 x1 x2 x3 x4 x5) : val_main_v54 (F := Ideal) x0 x1 x2 x3 x4 x5 = OW x0 x1 x2 x3 x4 x5 := by
  funext j
  unfold OW
  pointwise [val_main_v54, val_main_v53]
  refine (Fin.sum_univ_one (M := EReal) _).trans (congrArg (Finset.sum (M := EReal) (Finset.univ : Finset (Fin 4096))) (funext fun r : Fin 4096 => ?_))
  exact (EReal.mul_comm _ _).trans (congrArg₂ (· * ·) (s32 h r (j 0)) (s50 h r (j 1)))

theorem r80 (h : Fine x0 x1 x2 x3 x4 x5) : val_main_v80 (F := Ideal) x0 x1 x2 x3 x4 x5 = OB x0 x1 x2 x3 x4 x5 := by
  funext j
  unfold OB
  pointwise [val_main_v80, val_main_v52, val_main_v51, val_main_cst_10]
  exact congrArg (Finset.sum (M := EReal) (Finset.univ : Finset (Fin 4096))) (funext fun r : Fin 4096 => s50 h r (j 1))

theorem r81 (h : Fine x0 x1 x2 x3 x4 x5) : val_main_v81 (F := Ideal) x0 x1 x2 x3 x4 x5 = OD x0 x1 x2 x3 x4 x5 := by
  funext j
  unfold OD
  pointwise [val_main_v81, val_main_v75, val_main_v74, val_main_v73, val_main_v3, val_main_v1, val_main_v0, val_main_cst_15]
  exact congrArg (Finset.sum (M := EReal) (Finset.univ : Finset (Fin 4096))) (funext fun r : Fin 4096 => congrArg (· * _) (s70 h r (j 1)))

end Cert.GluRefIdeal.Value

namespace Cert.Proof.Glu

/-- The stated side conditions of the precondition hold. -/
instance pre_facts : Cert.Pre_glu_finite.Facts where
  bcast_S_S4096x1024 := by decide
  slices_S4096x12288_S4096x1024_0_2048 := by decide
  bcast_S_S1024 := by decide
  bcast_S_S1024x1024 := by decide

open Cert.GluKernelIdeal Cert.GluKernelIdeal.Value in
theorem slice_real {x1 : Vec Ideal S4096x12288 .bf16} {r : Fin 4096} {k : Fin 1024}
    (h : ∃ a : ℝ, extractStridedSlice S4096x1024 ![0, 2048] x1 Cert.Pre_glu_finite.Facts.slices_S4096x12288_S4096x1024_0_2048 (ix2 r k) = (a : EReal)) :
    ∃ a : ℝ, x1 (ix2 r ⟨2048 + k.val, by omega⟩) = (a : EReal) := by
  obtain ⟨a, ha⟩ := h
  refine ⟨a, Eq.trans (Eq.symm ?_) ha⟩
  pointwise

open Cert.GluKernelIdeal Cert.GluKernelIdeal.Value in
theorem fine (m : (ℓ : Loc nD τ sig) → Buf (Elt Ideal) ℓ) (hpre : Cert.Pre_GluKernelIdeal_glu_finite m) (c : Dev nD) :
    Cert.GluRefIdeal.Value.Fine (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h0, h1, h2, h3, h4, h5⟩ := hpre c
  exact ⟨fun i => Reals.real_of_cmp (congrFun h0 i), fun r k => slice_real (Reals.real_of_cmp16 (congrFun h1 (ix2 r k))), fun i => Reals.real_of_cmp (congrFun h2 i),
    fun i => Reals.real_of_cmp16 (congrFun h3 i), fun i => Reals.real_of_cmp (congrFun h4 i), fun i => Reals.real_of_cmp16 (congrFun h5 i)⟩

theorem algebraic : Cert.algebraic_GluKernelIdeal_GluRefIdeal_pre_glu_finite := by
  pair_intro
  · run_from Cert.GluKernelIdeal.Value.run_blocks m g
  · run_from Cert.GluRefIdeal.Value.run m' g'
    · rw [Cert.GluKernelIdeal.Value.final6 m c, Cert.GluRefIdeal.Read.val_main_v77_eq m' c, (hagree c).1, (hagree c).2.1, (hagree c).2.2.1, (hagree c).2.2.2.1, (hagree c).2.2.2.2.1, (hagree c).2.2.2.2.2]
      exact Cert.GluRefIdeal.Value.r77 (fine m hpre c)
    · rw [Cert.GluKernelIdeal.Value.final7 m c, Cert.GluRefIdeal.Read.val_main_v79_eq m' c, (hagree c).1, (hagree c).2.1, (hagree c).2.2.1, (hagree c).2.2.2.1, (hagree c).2.2.2.2.1, (hagree c).2.2.2.2.2]
      exact Cert.GluRefIdeal.Value.r79 (fine m hpre c)
    · rw [Cert.GluKernelIdeal.Value.final8 m c, Cert.GluRefIdeal.Read.val_main_v54_eq m' c, (hagree c).1, (hagree c).2.1, (hagree c).2.2.1, (hagree c).2.2.2.1, (hagree c).2.2.2.2.1, (hagree c).2.2.2.2.2]
      exact Cert.GluRefIdeal.Value.r54 (fine m hpre c)
    · rw [Cert.GluKernelIdeal.Value.final9 m c, Cert.GluRefIdeal.Read.val_main_v80_eq m' c, (hagree c).1, (hagree c).2.1, (hagree c).2.2.1, (hagree c).2.2.2.1, (hagree c).2.2.2.2.1, (hagree c).2.2.2.2.2]
      exact Cert.GluRefIdeal.Value.r80 (fine m hpre c)
    · rw [Cert.GluKernelIdeal.Value.final10 m c, Cert.GluRefIdeal.Read.val_main_v81_eq m' c, (hagree c).1, (hagree c).2.1, (hagree c).2.2.1, (hagree c).2.2.2.1, (hagree c).2.2.2.2.1, (hagree c).2.2.2.2.2]
      exact Cert.GluRefIdeal.Value.r81 (fine m hpre c)

theorem frame_ref : Cert.quiescent_GluRefIdeal := fun m g _ =>
  (θ_run Cert.GluRefIdeal.defs _ _).mono (fun r h => ⟨fun c => (h c).2.2.2.2.2, sem_eq_zero_of_no_sems (by decide) r.2⟩)
    (Cert.GluRefIdeal.Value.run (F := Ideal) m g)

/-- At the machine's scalars a named constant is its word. -/
@[reducible] def namedBits : Named Bits := ⟨fun _ _ φ bits => FloatOps.ofBits φ bits⟩

theorem frame_bits : Cert.quiescent_GluKernel := fun m g _ =>
  cast (by sl_kernel_rfl) (@Cert.GluKernelIdeal.Gen.frame Bits _ namedBits m g)

theorem frame_ideal : Cert.quiescent_GluKernelIdeal := fun m g _ => Cert.GluKernelIdeal.Gen.frame m g

theorem preserves : Cert.preserves_GluKernel_GluKernelIdeal :=
  ⟨IdealRules.named_const.statement _ _ _ _ _ rfl, IdealRules.named_const.statement _ _ _ _ _ rfl⟩

end Cert.Proof.Glu

end
-- ==== Proof.MergeRun.lean ====
/- The merge's backward call, one grid point: what the body leaves in the blocks of its results, in the biases' gradient and
   in the running sums of the branch inputs' gradients, in closed terms of what it read, and that the body, run at a
   point, leaves exactly that. -/
module

public import proofs.«01_k».proof.Proof.Gen.MergeKernelIdeal.Skeleton
public import proofs.«01_k».proof.Proof.Gen.MergeKernelIdeal.Launch
public import Idealize.ShloMosaic.Lib.Pipeline.Kit
public import Idealize.ShloMosaic.Lib.Pipeline.FrameBody
public import Idealize.ShloMosaic.Lib.VecWindow
public import Idealize.ShloMosaic.Lib.Writes
public import Idealize.ShloMosaic.Lib.Exec
public import Idealize.ShloMosaic.Lib.Tactic

@[expose] public section

set_option maxRecDepth 16384
set_option Elab.async false

noncomputable section

namespace Cert.Proof.Merge

open Cert.MergeKernelIdeal Cert.MergeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a point reads: a row block of each branch's input, the column block of the three branch weights, the gates'
    blocks, the column block of the gates' biases, the cotangent's block. -/
structure Ins (F : FTy → Type) where
  y0 : Vec F S512x1024 .bf16
  y1 : Vec F S512x1024 .bf16
  y2 : Vec F S512x1024 .bf16
  w : Vec F S1x1x3x1024x256 .bf16
  p0 : Vec F S512x256 .bf16
  p1 : Vec F S512x256 .bf16
  p2 : Vec F S512x256 .bf16
  b : Vec F S1x1x3x256 .f32
  dm : Vec F S512x256 .bf16

/-- The blocks of results a point may store: the gates' gradients, the branches' gradients, the branch inputs' gradients. -/
structure Outs (F : FTy → Type) where
  a0 : Vec F S512x256 .bf16
  a1 : Vec F S512x256 .bf16
  a2 : Vec F S512x256 .bf16
  c0 : Vec F S512x256 .bf16
  c1 : Vec F S512x256 .bf16
  c2 : Vec F S512x256 .bf16
  e0 : Vec F S512x1024 .bf16
  e1 : Vec F S512x1024 .bf16
  e2 : Vec F S512x1024 .bf16

/-- What is carried from point to point: the gradient of the biases, and the sums of the branch inputs' gradients. -/
structure St (F : FTy → Type) where
  g : Vec F S8x3x256 .f32
  acc : Vec F S3x512x1024 .f32

section Parts
variable (x : Ins F)

def w0 : Vec F S1x1x1x1024x256 .bf16 := VecWindow.window x.w ![0, 0, 0, 0, 0] S1x1x1x1024x256.size inb_S1x1x3x1024x256_S1x1x1x1024x256_0_0_0_0_0
def w1 : Vec F S1x1x1x1024x256 .bf16 := VecWindow.window x.w ![0, 0, 1, 0, 0] S1x1x1x1024x256.size inb_S1x1x3x1024x256_S1x1x1x1024x256_0_0_1_0_0
def w2 : Vec F S1x1x1x1024x256 .bf16 := VecWindow.window x.w ![0, 0, 2, 0, 0] S1x1x1x1024x256.size inb_S1x1x3x1024x256_S1x1x1x1024x256_0_0_2_0_0
def b0 : Vec F S1x1x1x256 .f32 := VecWindow.window x.b ![0, 0, 0, 0] S1x1x1x256.size inb_S1x1x3x256_S1x1x1x256_0_0_0_0
def b1 : Vec F S1x1x1x256 .f32 := VecWindow.window x.b ![0, 0, 1, 0] S1x1x1x256.size inb_S1x1x3x256_S1x1x1x256_0_0_1_0
def b2 : Vec F S1x1x1x256 .f32 := VecWindow.window x.b ![0, 0, 2, 0] S1x1x1x256.size inb_S1x1x3x256_S1x1x1x256_0_0_2_0

/-- a bias gradient's row, from what stood there -/
def f0 (X : Vec F S1x1x256 .f32) : FVec F S1x1x256 .f32 := k0_pay12 (k0_pay7 x.dm) (k0_pay8 x.p0 (b0 x)) (k0_pay9 x.y0 (w0 x)) X
def f1 (X : Vec F S1x1x256 .f32) : FVec F S1x1x256 .f32 := k0_pay19 (k0_pay7 x.dm) (k0_pay15 x.p1) (b1 x) x.y1 (w1 x) X
def f2 (X : Vec F S1x1x256 .f32) : FVec F S1x1x256 .f32 := k0_pay25 (k0_pay7 x.dm) (k0_pay22 x.p2 (b2 x)) x.y2 (w2 x) X

/-- the sum of a branch input's gradient, from the sums before -/
def u0 (A : Vec F S3x512x1024 .f32) : FVec F S1x512x1024 .f32 :=
  k0_pay14 (k0_pay7 x.dm) (k0_pay8 x.p0 (b0 x)) (VecWindow.window A ![0, 0, 0] S1x512x1024.size inb_S3x512x1024_S1x512x1024_0_0_0) (w0 x)
def u1 (A : Vec F S3x512x1024 .f32) : FVec F S1x512x1024 .f32 :=
  k0_pay21 (k0_pay7 x.dm) (k0_pay16 (k0_pay15 x.p1) (b1 x)) (VecWindow.window A ![1, 0, 0] S1x512x1024.size inb_S3x512x1024_S1x512x1024_1_0_0) (w1 x)
def u2 (A : Vec F S3x512x1024 .f32) : FVec F S1x512x1024 .f32 :=
  k0_pay1 (k0_pay27 (k0_pay7 x.dm) (k0_pay22 x.p2 (b2 x)) (VecWindow.window A ![2, 0, 0] S1x512x1024.size inb_S3x512x1024_S1x512x1024_2_0_0) (w2 x))

def accOf (A : Vec F S3x512x1024 .f32) : Vec F S3x512x1024 .f32 :=
  VecWindow.put (VecWindow.put (VecWindow.put A ![0, 0, 0] S1x512x1024.size (u0 x A)) ![1, 0, 0] S1x512x1024.size (u1 x A)) ![2, 0, 0] S1x512x1024.size (u2 x A)

/-- the biases' gradient: three rows added to -/
def gOf (i : grid0.Coords) (X : Vec F S8x3x256 .f32) : Vec F S8x3x256 .f32 :=
  VecWindow.put (VecWindow.put (VecWindow.put X (k0_off1 i) S1x1x256.size (f0 x (VecWindow.window X (k0_off1 i) S1x1x256.size (k0_off1_inb i))))
    (k0_off2 i) S1x1x256.size (f1 x (VecWindow.window X (k0_off2 i) S1x1x256.size (k0_off2_inb i))))
    (k0_off3 i) S1x1x256.size (f2 x (VecWindow.window X (k0_off3 i) S1x1x256.size (k0_off3_inb i)))

/-- A row of the biases' gradient replaced by a function of what it held. -/
def row (off : Fin 3 → ℕ) (inb : ∀ a, off a + S1x1x256.size a ≤ S8x3x256.size a) (f : Vec F S1x1x256 .f32 → FVec F S1x1x256 .f32)
    (X : Vec F S8x3x256 .f32) : Vec F S8x3x256 .f32 :=
  VecWindow.put X off S1x1x256.size (f (VecWindow.window X off S1x1x256.size inb))

/-- The three rows are apart: it does not matter that each is read after the others were written. -/
theorem gOf_rows (i : grid0.Coords) (X : Vec F S8x3x256 .f32) :
    row (k0_off3 i) (k0_off3_inb i) (f2 x) (row (k0_off2 i) (k0_off2_inb i) (f1 x) (row (k0_off1 i) (k0_off1_inb i) (f0 x) X)) = gOf x i X := by
  unfold row gOf
  rw [VecWindow.window_put_of_disjoint (s := S8x3x256) _ (k0_off1 i) S1x1x256.size (k0_off2 i) S1x1x256.size _ _ 1 (Or.inr (by show 0 + 1 ≤ 1; omega)),
    VecWindow.window_put_of_disjoint (s := S8x3x256) _ (k0_off2 i) S1x1x256.size (k0_off3 i) S1x1x256.size _ _ 1 (Or.inr (by show 1 + 1 ≤ 2; omega)),
    VecWindow.window_put_of_disjoint (s := S8x3x256) _ (k0_off1 i) S1x1x256.size (k0_off3 i) S1x1x256.size _ _ 1 (Or.inr (by show 0 + 1 ≤ 2; omega))]

/-- The same of the sums. -/
theorem accOf_rows (A : Vec F S3x512x1024 .f32) :
    VecWindow.put (VecWindow.put (VecWindow.put A ![0, 0, 0] S1x512x1024.size (u0 x A)) ![1, 0, 0] S1x512x1024.size (u1 x (VecWindow.put A ![0, 0, 0] S1x512x1024.size (u0 x A))))
      ![2, 0, 0] S1x512x1024.size (u2 x (VecWindow.put (VecWindow.put A ![0, 0, 0] S1x512x1024.size (u0 x A)) ![1, 0, 0] S1x512x1024.size (u1 x (VecWindow.put A ![0, 0, 0] S1x512x1024.size (u0 x A)))))
      = accOf x A := by
  unfold accOf u1 u2
  rw [VecWindow.window_put_of_disjoint (s := S3x512x1024) _ ![0, 0, 0] S1x512x1024.size ![1, 0, 0] S1x512x1024.size _ _ 0 (Or.inr (by show 0 + 1 ≤ 1; omega)),
    VecWindow.window_put_of_disjoint (s := S3x512x1024) _ ![1, 0, 0] S1x512x1024.size ![2, 0, 0] S1x512x1024.size _ _ 0 (Or.inr (by show 1 + 1 ≤ 2; omega)),
    VecWindow.window_put_of_disjoint (s := S3x512x1024) _ ![0, 0, 0] S1x512x1024.size ![2, 0, 0] S1x512x1024.size _ _ 0 (Or.inr (by show 0 + 1 ≤ 2; omega))]

/-- The blocks stored at every point; those of the branch inputs stay `o`'s. -/
def outs (o : Outs F) : Outs F where
  a0 := k0_pay11 (k0_pay7 x.dm) (k0_pay8 x.p0 (b0 x)) (k0_pay9 x.y0 (w0 x))
  a1 := k0_pay18 (k0_pay7 x.dm) (k0_pay15 x.p1) (b1 x) x.y1 (w1 x)
  a2 := k0_pay24 (k0_pay7 x.dm) (k0_pay22 x.p2 (b2 x)) x.y2 (w2 x)
  c0 := k0_pay13 (k0_pay7 x.dm) (k0_pay8 x.p0 (b0 x))
  c1 := k0_pay20 (k0_pay7 x.dm) (k0_pay16 (k0_pay15 x.p1) (b1 x))
  c2 := k0_pay26 (k0_pay7 x.dm) (k0_pay22 x.p2 (b2 x))
  e0 := o.e0
  e1 := o.e1
  e2 := o.e2

/-- The blocks stored at a row's last point. -/
def outsLast (A : Vec F S3x512x1024 .f32) (o : Outs F) : Outs F where
  a0 := (outs x o).a0
  a1 := (outs x o).a1
  a2 := (outs x o).a2
  c0 := (outs x o).c0
  c1 := (outs x o).c1
  c2 := (outs x o).c2
  e0 := k0_pay2 (u0 x A)
  e1 := k0_pay3 (u1 x A)
  e2 := k0_pay4 (u2 x A)

end Parts

/-- whether the point is the grid's first -/
abbrev cFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- whether the point is a row's first -/
abbrev cStart (i : grid0.Coords) : BitVec 1 :=
  Scalar.cmpi .ne (Scalar.extui (Scalar.cmpi .eq (BitVec.ofNat 32 (i 1).val) 0#32) : BitVec 32) 0#32

theorem readAt_512x256 {e : EltTy} {sp : Space} (v : View sig .tc sp S512x256 e) (f : v.ty.Contents (Elt F)) (inb : ∀ a, ![0, 0] a + ![512, 256] a ≤ S512x256.size a) :
    v.readAt (Elt F) (Rect.unit ![0, 0] ![512, 256] inb).toLoadRect f = v.read (Elt F) f := View.readAt_full v f inb
theorem readAt_512x1024 {e : EltTy} {sp : Space} (v : View sig .tc sp S512x1024 e) (f : v.ty.Contents (Elt F)) (inb : ∀ a, ![0, 0] a + ![512, 1024] a ≤ S512x1024.size a) :
    v.readAt (Elt F) (Rect.unit ![0, 0] ![512, 1024] inb).toLoadRect f = v.read (Elt F) f := View.readAt_full v f inb

/-- Three rows put cover everything: what was there before does not matter. -/
theorem put3 (X A : Vec F S3x512x1024 .f32) (v0 v1 v2 : Vec F S1x512x1024 .f32) :
    VecWindow.put (VecWindow.put (VecWindow.put X ![0, 0, 0] S1x512x1024.size v0) ![1, 0, 0] S1x512x1024.size v1) ![2, 0, 0] S1x512x1024.size v2
      = VecWindow.put (VecWindow.put (VecWindow.put A ![0, 0, 0] S1x512x1024.size v0) ![1, 0, 0] S1x512x1024.size v1) ![2, 0, 0] S1x512x1024.size v2 := by
  funext y
  have l0 : (y 0).val < 3 := (y 0).isLt
  have l1 : (y 1).val < 512 := (y 1).isLt
  have l2 : (y 2).val < 1024 := (y 2).isLt
  unfold VecWindow.put
  split_ifs with h2 h1 h0
  · rfl
  · rfl
  · rfl
  · exfalso
    have e : (y 0).val = 0 ∨ (y 0).val = 1 ∨ (y 0).val = 2 := by omega
    rcases e with e | e | e
    · exact h0 (Fin.forall_fin_succ.2 ⟨⟨Nat.zero_le _, by show (y 0).val < 0 + 1; omega⟩, Fin.forall_fin_two.2 ⟨⟨Nat.zero_le _, by show (y 1).val < 0 + 512; omega⟩, ⟨Nat.zero_le _, by show (y 2).val < 0 + 1024; omega⟩⟩⟩)
    · exact h1 (Fin.forall_fin_succ.2 ⟨⟨by show 1 ≤ (y 0).val; omega, by show (y 0).val < 1 + 1; omega⟩, Fin.forall_fin_two.2 ⟨⟨Nat.zero_le _, by show (y 1).val < 0 + 512; omega⟩, ⟨Nat.zero_le _, by show (y 2).val < 0 + 1024; omega⟩⟩⟩)
    · exact h2 (Fin.forall_fin_succ.2 ⟨⟨by show 2 ≤ (y 0).val; omega, by show (y 0).val < 2 + 1; omega⟩, Fin.forall_fin_two.2 ⟨⟨Nat.zero_le _, by show (y 1).val < 0 + 512; omega⟩, ⟨Nat.zero_le _, by show (y 2).val < 0 + 1024; omega⟩⟩⟩)

/- What the three rows hold afterwards. -/
theorem win0 (X : Vec F S3x512x1024 .f32) (v0 v1 v2 : Vec F S1x512x1024 .f32) :
    VecWindow.window (VecWindow.put (VecWindow.put (VecWindow.put X ![0, 0, 0] S1x512x1024.size v0) ![1, 0, 0] S1x512x1024.size v1) ![2, 0, 0] S1x512x1024.size v2)
      ![0, 0, 0] S1x512x1024.size inb_S3x512x1024_S1x512x1024_0_0_0 = v0 := by
  rw [VecWindow.window_put_of_disjoint (s := S3x512x1024) _ ![2, 0, 0] S1x512x1024.size ![0, 0, 0] S1x512x1024.size _ _ 0 (Or.inl (by show 0 + 1 ≤ 2; omega)), VecWindow.window_put_of_disjoint (s := S3x512x1024) _ ![1, 0, 0] S1x512x1024.size ![0, 0, 0] S1x512x1024.size _ _ 0 (Or.inl (by show 0 + 1 ≤ 1; omega))]
  exact VecWindow.window_put_same (s := S3x512x1024) _ ![0, 0, 0] S1x512x1024.size inb_S3x512x1024_S1x512x1024_0_0_0 v0

theorem win1 (X : Vec F S3x512x1024 .f32) (v0 v1 v2 : Vec F S1x512x1024 .f32) :
    VecWindow.window (VecWindow.put (VecWindow.put (VecWindow.put X ![0, 0, 0] S1x512x1024.size v0) ![1, 0, 0] S1x512x1024.size v1) ![2, 0, 0] S1x512x1024.size v2)
      ![1, 0, 0] S1x512x1024.size inb_S3x512x1024_S1x512x1024_1_0_0 = v1 := by
  rw [VecWindow.window_put_of_disjoint (s := S3x512x1024) _ ![2, 0, 0] S1x512x1024.size ![1, 0, 0] S1x512x1024.size _ _ 0 (Or.inl (by show 1 + 1 ≤ 2; omega))]
  exact VecWindow.window_put_same (s := S3x512x1024) _ ![1, 0, 0] S1x512x1024.size inb_S3x512x1024_S1x512x1024_1_0_0 v1

theorem win2 (X : Vec F S3x512x1024 .f32) (v0 v1 v2 : Vec F S1x512x1024 .f32) :
    VecWindow.window (VecWindow.put (VecWindow.put (VecWindow.put X ![0, 0, 0] S1x512x1024.size v0) ![1, 0, 0] S1x512x1024.size v1) ![2, 0, 0] S1x512x1024.size v2)
      ![2, 0, 0] S1x512x1024.size inb_S3x512x1024_S1x512x1024_2_0_0 = v2 := by
  exact VecWindow.window_put_same (s := S3x512x1024) _ ![2, 0, 0] S1x512x1024.size inb_S3x512x1024_S1x512x1024_2_0_0 v2

section Run
variable (c : Dev nD) (i : grid0.Coords)
  (arg2 : Memref sig .tc .vmem S512x1024 .bf16) (harg2 : arg2.IsWhole)
  (arg3 : Memref sig .tc .vmem S512x1024 .bf16) (harg3 : arg3.IsWhole)
  (arg4 : Memref sig .tc .vmem S512x1024 .bf16) (harg4 : arg4.IsWhole)
  (arg5 : Memref sig .tc .vmem S1x1x3x1024x256 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x256 .bf16) (harg8 : arg8.IsWhole)
  (arg9 : Memref sig .tc .vmem S1x1x3x256 .f32) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S512x256 .bf16) (harg12 : arg12.IsWhole)
  (arg13 : Memref sig .tc .vmem S512x256 .bf16) (harg13 : arg13.IsWhole)
  (arg14 : Memref sig .tc .vmem S512x256 .bf16) (harg14 : arg14.IsWhole)
  (arg15 : Memref sig .tc .vmem S512x256 .bf16) (harg15 : arg15.IsWhole)
  (arg16 : Memref sig .tc .vmem S512x256 .bf16) (harg16 : arg16.IsWhole)
  (arg17 : Memref sig .tc .vmem S512x1024 .bf16) (harg17 : arg17.IsWhole)
  (arg18 : Memref sig .tc .vmem S512x1024 .bf16) (harg18 : arg18.IsWhole)
  (arg19 : Memref sig .tc .vmem S512x1024 .bf16) (harg19 : arg19.IsWhole)
  (arg20 : Memref sig .tc .vmem S8x3x256 .f32) (harg20 : arg20.IsWhole)
  (arg21 : Memref sig .tc .vmem S3x512x1024 .f32) (harg21 : arg21.IsWhole)

/-- The buffers a point holds. -/
def held (x : Ins F) (o : Outs F) (s : St F) : sProp 𝕄 :=
  iprop(owns (c : Thread nD τ) arg2 fullShare x.y0
    ∗ owns (c : Thread nD τ) arg3 fullShare x.y1
    ∗ owns (c : Thread nD τ) arg4 fullShare x.y2
    ∗ owns (c : Thread nD τ) arg5 fullShare x.w
    ∗ owns (c : Thread nD τ) arg6 fullShare x.p0
    ∗ owns (c : Thread nD τ) arg7 fullShare x.p1
    ∗ owns (c : Thread nD τ) arg8 fullShare x.p2
    ∗ owns (c : Thread nD τ) arg9 fullShare x.b
    ∗ owns (c : Thread nD τ) arg10 fullShare x.dm
    ∗ owns (c : Thread nD τ) arg11 fullShare o.a0
    ∗ owns (c : Thread nD τ) arg12 fullShare o.a1
    ∗ owns (c : Thread nD τ) arg13 fullShare o.a2
    ∗ owns (c : Thread nD τ) arg14 fullShare o.c0
    ∗ owns (c : Thread nD τ) arg15 fullShare o.c1
    ∗ owns (c : Thread nD τ) arg16 fullShare o.c2
    ∗ owns (c : Thread nD τ) arg17 fullShare o.e0
    ∗ owns (c : Thread nD τ) arg18 fullShare o.e1
    ∗ owns (c : Thread nD τ) arg19 fullShare o.e2
    ∗ owns (c : Thread nD τ) arg20 fullShare s.g
    ∗ owns (c : Thread nD τ) arg21 fullShare s.acc)

set_option maxHeartbeats 8000000 in
/-- A point neither first nor last in its row. -/
theorem run_mid (h0 : ¬ cFirst i = 1#1) (h1 : ¬ cStart i = 1#1) (h2 : ¬ k0_cond3 i = 1#1) (x : Ins F) (o : Outs F) (s : St F) (K : PUnit → sProp 𝕄) :
    iprop(held c arg2 arg3 arg4 arg5 arg6 arg7 arg8 arg9 arg10 arg11 arg12 arg13 arg14 arg15 arg16 arg17 arg18 arg19 arg20 arg21 x o s ∗ (held c arg2 arg3 arg4 arg5 arg6 arg7 arg8 arg9 arg10 arg11 arg12 arg13 arg14 arg15 arg16 arg17 arg18 arg19 arg20 arg21 x (outs x o) ⟨gOf x i s.g, accOf x s.acc⟩ -∗ K ⟨⟩))
      ⊢ wp frame (wpE (defs₀ (F := F)) Variants.none c none) Set.univ (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold held owns
  rw [cc0_merge_bwd_eq_skeleton]; unfold cc0_merge_bwd_skel
  simp only [k0_part1_eq_skeleton, k0_part2_eq_skeleton, k0_part3_eq_skeleton, k0_part4_eq_skeleton, k0_part5_eq_skeleton]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩, Hk⟩
  sl_exec! (disch := first | exact h0 | exact h1 | exact h2)
  sl_step
  iapply Hk
  isplitl [H2]
  · iexists _; isplitr [H2]; swap
    · iexact H2
    · ipureintro
      exact hf2
  isplitl [H3]
  · iexists _; isplitr [H3]; swap
    · iexact H3
    · ipureintro
      exact hf3
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H12]
  · iexists _; isplitr [H12]; swap
    · iexact H12
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H13]
  · iexists _; isplitr [H13]; swap
    · iexact H13
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H14]
  · iexists _; isplitr [H14]; swap
    · iexact H14
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H15]
  · iexists _; isplitr [H15]; swap
    · iexact H15
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H16]
  · iexists _; isplitr [H16]; swap
    · iexact H16
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H17]
  · iexists _; isplitr [H17]; swap
    · iexact H17
    · ipureintro
      exact hf17
  isplitl [H18]
  · iexists _; isplitr [H18]; swap
    · iexact H18
    · ipureintro
      exact hf18
  isplitl [H19]
  · iexists _; isplitr [H19]; swap
    · iexact H19
    · ipureintro
      exact hf19
  isplitl [H20]
  · iexists _; isplitr [H20]; swap
    · iexact H20
    · ipureintro
      sl_unfold_run_names
      refine (View.read_writes_cons_put _ _ _ _ _ rfl).trans ?_
      rw [View.read_writes_cons_put _ _ _ _ _ rfl, View.read_writes_cons_put _ _ _ _ _ rfl]
      cases x; cases s; dsimp only at hf2 hf3 hf4 hf5 hf6 hf7 hf8 hf9 hf10 hf20 hf21; subst hf2 hf3 hf4 hf5 hf6 hf7 hf8 hf9 hf10 hf20 hf21
      simp only [View.writes_nil, View.readAt_full, readAt_512x256, readAt_512x1024, View.readCov_full]
      rfl
  iexists _; isplitr [H21]; swap
  · iexact H21
  · ipureintro
    sl_unfold_run_names
    refine (View.read_writes_cons_put _ _ _ _ _ rfl).trans ?_
    rw [View.read_writes_cons_put _ _ _ _ _ rfl, View.read_writes_cons_put _ _ _ _ _ rfl]
    cases x; cases s; dsimp only at hf2 hf3 hf4 hf5 hf6 hf7 hf8 hf9 hf10 hf20 hf21; subst hf2 hf3 hf4 hf5 hf6 hf7 hf8 hf9 hf10 hf20 hf21
    refine (put3 _ (View.read (Elt F) arg21.view f21) _ _ _).trans ?_
    simp only [View.writes_nil, View.readAt_full, readAt_512x256, readAt_512x1024, View.readCov_full]
    rfl

set_option maxHeartbeats 8000000 in
/-- A row's last point. -/
theorem run_last (h0 : ¬ cFirst i = 1#1) (h1 : ¬ cStart i = 1#1) (h2 : k0_cond3 i = 1#1) (x : Ins F) (o : Outs F) (s : St F) (K : PUnit → sProp 𝕄) :
    iprop(held c arg2 arg3 arg4 arg5 arg6 arg7 arg8 arg9 arg10 arg11 arg12 arg13 arg14 arg15 arg16 arg17 arg18 arg19 arg20 arg21 x o s ∗ (held c arg2 arg3 arg4 arg5 arg6 arg7 arg8 arg9 arg10 arg11 arg12 arg13 arg14 arg15 arg16 arg17 arg18 arg19 arg20 arg21 x (outsLast x s.acc o) ⟨gOf x i s.g, accOf x s.acc⟩ -∗ K ⟨⟩))
      ⊢ wp frame (wpE (defs₀ (F := F)) Variants.none c none) Set.univ (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold held owns
  rw [cc0_merge_bwd_eq_skeleton]; unfold cc0_merge_bwd_skel
  simp only [k0_part1_eq_skeleton, k0_part2_eq_skeleton, k0_part3_eq_skeleton, k0_part4_eq_skeleton, k0_part5_eq_skeleton]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩, Hk⟩
  sl_exec! (disch := first | exact h0 | exact h1 | exact h2)
  sl_step
  iapply Hk
  isplitl [H2]
  · iexists _; isplitr [H2]; swap
    · iexact H2
    · ipureintro
      exact hf2
  isplitl [H3]
  · iexists _; isplitr [H3]; swap
    · iexact H3
    · ipureintro
      exact hf3
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H12]
  · iexists _; isplitr [H12]; swap
    · iexact H12
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H13]
  · iexists _; isplitr [H13]; swap
    · iexact H13
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H14]
  · iexists _; isplitr [H14]; swap
    · iexact H14
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H15]
  · iexists _; isplitr [H15]; swap
    · iexact H15
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H16]
  · iexists _; isplitr [H16]; swap
    · iexact H16
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H17]
  · iexists _; isplitr [H17]; swap
    · iexact H17
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      dsimp only [View.readCov]
      refine congrArg k0_pay2 ?_
      rw [View.readAt_unit _ _ inb_S3x512x1024_S1x512x1024_0_0_0 rfl inb_S3x512x1024_S1x512x1024_0_0_0, View.read_writes_cons_put _ _ inb_S3x512x1024_S1x512x1024_2_0_0 _ _ rfl, View.read_writes_cons_put _ _ inb_S3x512x1024_S1x512x1024_1_0_0 _ _ rfl, View.read_writes_cons_put _ _ inb_S3x512x1024_S1x512x1024_0_0_0 _ _ rfl]
      refine (win0 _ _ _ _).trans ?_
      simp only [View.readAt_full, readAt_512x256, readAt_512x1024]
      rfl
  isplitl [H18]
  · iexists _; isplitr [H18]; swap
    · iexact H18
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      dsimp only [View.readCov]
      refine congrArg k0_pay3 ?_
      rw [View.readAt_unit _ _ inb_S3x512x1024_S1x512x1024_1_0_0 rfl inb_S3x512x1024_S1x512x1024_1_0_0, View.read_writes_cons_put _ _ inb_S3x512x1024_S1x512x1024_2_0_0 _ _ rfl, View.read_writes_cons_put _ _ inb_S3x512x1024_S1x512x1024_1_0_0 _ _ rfl, View.read_writes_cons_put _ _ inb_S3x512x1024_S1x512x1024_0_0_0 _ _ rfl]
      refine (win1 _ _ _ _).trans ?_
      simp only [View.readAt_full, readAt_512x256, readAt_512x1024]
      rfl
  isplitl [H19]
  · iexists _; isplitr [H19]; swap
    · iexact H19
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      dsimp only [View.readCov]
      refine congrArg k0_pay4 ?_
      rw [View.readAt_unit _ _ inb_S3x512x1024_S1x512x1024_2_0_0 rfl inb_S3x512x1024_S1x512x1024_2_0_0, View.read_writes_cons_put _ _ inb_S3x512x1024_S1x512x1024_2_0_0 _ _ rfl, View.read_writes_cons_put _ _ inb_S3x512x1024_S1x512x1024_1_0_0 _ _ rfl, View.read_writes_cons_put _ _ inb_S3x512x1024_S1x512x1024_0_0_0 _ _ rfl]
      refine (win2 _ _ _ _).trans ?_
      simp only [View.readAt_full, readAt_512x256, readAt_512x1024]
      rfl
  isplitl [H20]
  · iexists _; isplitr [H20]; swap
    · iexact H20
    · ipureintro
      sl_unfold_run_names
      refine (View.read_writes_cons_put _ _ _ _ _ rfl).trans ?_
      rw [View.read_writes_cons_put _ _ _ _ _ rfl, View.read_writes_cons_put _ _ _ _ _ rfl]
      cases x; cases s; dsimp only at hf2 hf3 hf4 hf5 hf6 hf7 hf8 hf9 hf10 hf20 hf21; subst hf2 hf3 hf4 hf5 hf6 hf7 hf8 hf9 hf10 hf20 hf21
      simp only [View.writes_nil, View.readAt_full, readAt_512x256, readAt_512x1024, View.readCov_full]
      rfl
  iexists _; isplitr [H21]; swap
  · iexact H21
  · ipureintro
    sl_unfold_run_names
    refine (View.read_writes_cons_put _ _ _ _ _ rfl).trans ?_
    rw [View.read_writes_cons_put _ _ _ _ _ rfl, View.read_writes_cons_put _ _ _ _ _ rfl]
    cases x; cases s; dsimp only at hf2 hf3 hf4 hf5 hf6 hf7 hf8 hf9 hf10 hf20 hf21; subst hf2 hf3 hf4 hf5 hf6 hf7 hf8 hf9 hf10 hf20 hf21
    refine (put3 _ (View.read (Elt F) arg21.view f21) _ _ _).trans ?_
    simp only [View.writes_nil, View.readAt_full, readAt_512x256, readAt_512x1024, View.readCov_full]
    rfl

set_option maxHeartbeats 8000000 in
/-- A row's first point, not the grid's. -/
theorem run_start (h0 : ¬ cFirst i = 1#1) (h1 : cStart i = 1#1) (h2 : ¬ k0_cond3 i = 1#1) (x : Ins F) (o : Outs F) (s : St F) (K : PUnit → sProp 𝕄) :
    iprop(held c arg2 arg3 arg4 arg5 arg6 arg7 arg8 arg9 arg10 arg11 arg12 arg13 arg14 arg15 arg16 arg17 arg18 arg19 arg20 arg21 x o s ∗ (held c arg2 arg3 arg4 arg5 arg6 arg7 arg8 arg9 arg10 arg11 arg12 arg13 arg14 arg15 arg16 arg17 arg18 arg19 arg20 arg21 x (outs x o) ⟨gOf x i s.g, accOf x (k0_pay6 (F := F))⟩ -∗ K ⟨⟩))
      ⊢ wp frame (wpE (defs₀ (F := F)) Variants.none c none) Set.univ (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold held owns
  rw [cc0_merge_bwd_eq_skeleton]; unfold cc0_merge_bwd_skel
  simp only [k0_part1_eq_skeleton, k0_part2_eq_skeleton, k0_part3_eq_skeleton, k0_part4_eq_skeleton, k0_part5_eq_skeleton]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩, Hk⟩
  sl_exec! (disch := first | exact h0 | exact h1 | exact h2)
  sl_step
  iapply Hk
  isplitl [H2]
  · iexists _; isplitr [H2]; swap
    · iexact H2
    · ipureintro
      exact hf2
  isplitl [H3]
  · iexists _; isplitr [H3]; swap
    · iexact H3
    · ipureintro
      exact hf3
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H12]
  · iexists _; isplitr [H12]; swap
    · iexact H12
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H13]
  · iexists _; isplitr [H13]; swap
    · iexact H13
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H14]
  · iexists _; isplitr [H14]; swap
    · iexact H14
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H15]
  · iexists _; isplitr [H15]; swap
    · iexact H15
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H16]
  · iexists _; isplitr [H16]; swap
    · iexact H16
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H17]
  · iexists _; isplitr [H17]; swap
    · iexact H17
    · ipureintro
      exact hf17
  isplitl [H18]
  · iexists _; isplitr [H18]; swap
    · iexact H18
    · ipureintro
      exact hf18
  isplitl [H19]
  · iexists _; isplitr [H19]; swap
    · iexact H19
    · ipureintro
      exact hf19
  isplitl [H20]
  · iexists _; isplitr [H20]; swap
    · iexact H20
    · ipureintro
      sl_unfold_run_names
      refine (View.read_writes_cons_put _ _ _ _ _ rfl).trans ?_
      rw [View.read_writes_cons_put _ _ _ _ _ rfl, View.read_writes_cons_put _ _ _ _ _ rfl]
      cases x; cases s; dsimp only at hf2 hf3 hf4 hf5 hf6 hf7 hf8 hf9 hf10 hf20 hf21; subst hf2 hf3 hf4 hf5 hf6 hf7 hf8 hf9 hf10 hf20 hf21
      simp only [View.writes_nil, View.readAt_full, readAt_512x256, readAt_512x1024, View.readCov_full]
      rfl
  iexists _; isplitr [H21]; swap
  · iexact H21
  · ipureintro
    refine Eq.trans ?_ (accOf_rows x (k0_pay6 (F := F)))
    sl_unfold_run_names
    refine (View.read_writes_cons_put _ _ _ _ _ rfl).trans ?_
    rw [View.read_writes_cons_put _ _ _ _ _ rfl, View.read_writes_cons_put _ _ _ _ _ rfl]
    cases x; cases s; dsimp only at hf2 hf3 hf4 hf5 hf6 hf7 hf8 hf9 hf10 hf20 hf21; subst hf2 hf3 hf4 hf5 hf6 hf7 hf8 hf9 hf10 hf20 hf21
    refine (put3 _ (k0_pay6 (F := F)) _ _ _).trans ?_
    have e1 (v : View sig .tc .vmem S3x512x1024 .f32) (g) (w : Vec F S1x512x1024 .f32) (L) := View.read_writes_cons_put (Val := Elt F) v g inb_S3x512x1024_S1x512x1024_0_0_0 w L rfl
    have e2 (v : View sig .tc .vmem S3x512x1024 .f32) (g) (w : Vec F S1x512x1024 .f32) (L) := View.read_writes_cons_put (Val := Elt F) v g inb_S3x512x1024_S1x512x1024_1_0_0 w L rfl
    have e0 (v : View sig .tc .vmem S3x512x1024 .f32) (g) (w : Vec F S3x512x1024 .f32) (L) := View.read_writes_full (Val := Elt F) v g inb_S3x512x1024_S3x512x1024_0_0_0 w L
    have r1 (v : View sig .tc .vmem S3x512x1024 .f32) (g : v.ty.Contents (Elt F)) := View.readAt_unit v g inb_S3x512x1024_S1x512x1024_0_0_0 rfl inb_S3x512x1024_S1x512x1024_0_0_0
    have r2 (v : View sig .tc .vmem S3x512x1024 .f32) (g : v.ty.Contents (Elt F)) := View.readAt_unit v g inb_S3x512x1024_S1x512x1024_1_0_0 rfl inb_S3x512x1024_S1x512x1024_1_0_0
    have r3 (v : View sig .tc .vmem S3x512x1024 .f32) (g : v.ty.Contents (Elt F)) := View.readAt_unit v g inb_S3x512x1024_S1x512x1024_2_0_0 rfl inb_S3x512x1024_S1x512x1024_2_0_0
    dsimp only [View.readCov] at *
    simp only [r1, r2, r3, e0, e1, e2, View.writes_nil, View.readAt_full, readAt_512x256, readAt_512x1024]
    rfl

set_option maxHeartbeats 8000000 in
/-- The grid's first point. -/
theorem run_first (h0 : cFirst i = 1#1) (h1 : cStart i = 1#1) (h2 : ¬ k0_cond3 i = 1#1) (x : Ins F) (o : Outs F) (s : St F) (K : PUnit → sProp 𝕄) :
    iprop(held c arg2 arg3 arg4 arg5 arg6 arg7 arg8 arg9 arg10 arg11 arg12 arg13 arg14 arg15 arg16 arg17 arg18 arg19 arg20 arg21 x o s ∗ (held c arg2 arg3 arg4 arg5 arg6 arg7 arg8 arg9 arg10 arg11 arg12 arg13 arg14 arg15 arg16 arg17 arg18 arg19 arg20 arg21 x (outs x o) ⟨gOf x i (k0_pay5 (F := F)), accOf x (k0_pay6 (F := F))⟩ -∗ K ⟨⟩))
      ⊢ wp frame (wpE (defs₀ (F := F)) Variants.none c none) Set.univ (cc0_merge_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold held owns
  rw [cc0_merge_bwd_eq_skeleton]; unfold cc0_merge_bwd_skel
  simp only [k0_part1_eq_skeleton, k0_part2_eq_skeleton, k0_part3_eq_skeleton, k0_part4_eq_skeleton, k0_part5_eq_skeleton]
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩, Hk⟩
  sl_exec! (disch := first | exact h0 | exact h1 | exact h2)
  sl_step
  iapply Hk
  isplitl [H2]
  · iexists _; isplitr [H2]; swap
    · iexact H2
    · ipureintro
      exact hf2
  isplitl [H3]
  · iexists _; isplitr [H3]; swap
    · iexact H3
    · ipureintro
      exact hf3
  isplitl [H4]
  · iexists _; isplitr [H4]; swap
    · iexact H4
    · ipureintro
      exact hf4
  isplitl [H5]
  · iexists _; isplitr [H5]; swap
    · iexact H5
    · ipureintro
      exact hf5
  isplitl [H6]
  · iexists _; isplitr [H6]; swap
    · iexact H6
    · ipureintro
      exact hf6
  isplitl [H7]
  · iexists _; isplitr [H7]; swap
    · iexact H7
    · ipureintro
      exact hf7
  isplitl [H8]
  · iexists _; isplitr [H8]; swap
    · iexact H8
    · ipureintro
      exact hf8
  isplitl [H9]
  · iexists _; isplitr [H9]; swap
    · iexact H9
    · ipureintro
      exact hf9
  isplitl [H10]
  · iexists _; isplitr [H10]; swap
    · iexact H10
    · ipureintro
      exact hf10
  isplitl [H11]
  · iexists _; isplitr [H11]; swap
    · iexact H11
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H12]
  · iexists _; isplitr [H12]; swap
    · iexact H12
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H13]
  · iexists _; isplitr [H13]; swap
    · iexact H13
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H14]
  · iexists _; isplitr [H14]; swap
    · iexact H14
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H15]
  · iexists _; isplitr [H15]; swap
    · iexact H15
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H16]
  · iexists _; isplitr [H16]; swap
    · iexact H16
    · ipureintro
      sl_unfold_run_names
      refine (View.read_writes_full _ _ _ _ _).trans ?_
      cases x; cases s; dsimp only at hf2 hf3 hf4 hf5 hf6 hf7 hf8 hf9 hf10 hf20 hf21; subst hf2 hf3 hf4 hf5 hf6 hf7 hf8 hf9 hf10 hf20 hf21
      simp only [View.readAt_full, readAt_512x256, readAt_512x1024, View.readCov_full]
      rfl
  isplitl [H17]
  · iexists _; isplitr [H17]; swap
    · iexact H17
    · ipureintro
      exact hf17
  isplitl [H18]
  · iexists _; isplitr [H18]; swap
    · iexact H18
    · ipureintro
      exact hf18
  isplitl [H19]
  · iexists _; isplitr [H19]; swap
    · iexact H19
    · ipureintro
      exact hf19
  isplitl [H20]
  · iexists _; isplitr [H20]; swap
    · iexact H20
    · ipureintro
      refine Eq.trans ?_ (gOf_rows x i (k0_pay5 (F := F)))
      sl_unfold_run_names
      refine (View.read_writes_cons_put _ _ _ _ _ rfl).trans ?_
      rw [View.read_writes_cons_put _ _ _ _ _ rfl, View.read_writes_cons_put _ _ _ _ _ rfl]
      cases x; cases s; dsimp only at hf2 hf3 hf4 hf5 hf6 hf7 hf8 hf9 hf10 hf20 hf21; subst hf2 hf3 hf4 hf5 hf6 hf7 hf8 hf9 hf10 hf20 hf21
      have e1 (v : View sig .tc .vmem S8x3x256 .f32) (g) (w : Vec F S1x1x256 .f32) (L) := View.read_writes_cons_put (Val := Elt F) v g (k0_off1_inb i) w L rfl
      have e2 (v : View sig .tc .vmem S8x3x256 .f32) (g) (w : Vec F S1x1x256 .f32) (L) := View.read_writes_cons_put (Val := Elt F) v g (k0_off2_inb i) w L rfl
      have e0 (v : View sig .tc .vmem S8x3x256 .f32) (g) (w : Vec F S8x3x256 .f32) (L) := View.read_writes_full (Val := Elt F) v g inb_S8x3x256_S8x3x256_0_0_0 w L
      have r1 (v : View sig .tc .vmem S8x3x256 .f32) (g : v.ty.Contents (Elt F)) := View.readAt_unit v g (k0_off1_inb i) rfl (k0_off1_inb i)
      have r2 (v : View sig .tc .vmem S8x3x256 .f32) (g : v.ty.Contents (Elt F)) := View.readAt_unit v g (k0_off2_inb i) rfl (k0_off2_inb i)
      have r3 (v : View sig .tc .vmem S8x3x256 .f32) (g : v.ty.Contents (Elt F)) := View.readAt_unit v g (k0_off3_inb i) rfl (k0_off3_inb i)
      dsimp only [View.readCov] at *
      simp only [r1, r2, r3, e0, e1, e2, View.writes_nil, View.readAt_full, readAt_512x256, readAt_512x1024]
      rfl
  iexists _; isplitr [H21]; swap
  · iexact H21
  · ipureintro
    refine Eq.trans ?_ (accOf_rows x (k0_pay6 (F := F)))
    sl_unfold_run_names
    refine (View.read_writes_cons_put _ _ _ _ _ rfl).trans ?_
    rw [View.read_writes_cons_put _ _ _ _ _ rfl, View.read_writes_cons_put _ _ _ _ _ rfl]
    cases x; cases s; dsimp only at hf2 hf3 hf4 hf5 hf6 hf7 hf8 hf9 hf10 hf20 hf21; subst hf2 hf3 hf4 hf5 hf6 hf7 hf8 hf9 hf10 hf20 hf21
    refine (put3 _ (k0_pay6 (F := F)) _ _ _).trans ?_
    have e1 (v : View sig .tc .vmem S3x512x1024 .f32) (g) (w : Vec F S1x512x1024 .f32) (L) := View.read_writes_cons_put (Val := Elt F) v g inb_S3x512x1024_S1x512x1024_0_0_0 w L rfl
    have e2 (v : View sig .tc .vmem S3x512x1024 .f32) (g) (w : Vec F S1x512x1024 .f32) (L) := View.read_writes_cons_put (Val := Elt F) v g inb_S3x512x1024_S1x512x1024_1_0_0 w L rfl
    have e0 (v : View sig .tc .vmem S3x512x1024 .f32) (g) (w : Vec F S3x512x1024 .f32) (L) := View.read_writes_full (Val := Elt F) v g inb_S3x512x1024_S3x512x1024_0_0_0 w L
    have r1 (v : View sig .tc .vmem S3x512x1024 .f32) (g : v.ty.Contents (Elt F)) := View.readAt_unit v g inb_S3x512x1024_S1x512x1024_0_0_0 rfl inb_S3x512x1024_S1x512x1024_0_0_0
    have r2 (v : View sig .tc .vmem S3x512x1024 .f32) (g : v.ty.Contents (Elt F)) := View.readAt_unit v g inb_S3x512x1024_S1x512x1024_1_0_0 rfl inb_S3x512x1024_S1x512x1024_1_0_0
    have r3 (v : View sig .tc .vmem S3x512x1024 .f32) (g : v.ty.Contents (Elt F)) := View.readAt_unit v g inb_S3x512x1024_S1x512x1024_2_0_0 rfl inb_S3x512x1024_S1x512x1024_2_0_0
    dsimp only [View.readCov] at *
    simp only [r1, r2, r3, e0, e1, e2, View.writes_nil, View.readAt_full, readAt_512x256, readAt_512x1024]
    rfl

end Run

end Cert.Proof.Merge
end
-- ==== Proof.MergeFrame.lean ====
/- The merge's backward call: the points as one recursion over the grid, the body's obligation at every point, the launch, and
   what the arrays of results hold after it. -/
module

public import proofs.«01_k».proof.Proof.MergeRun
public import proofs.«01_k».proof.Proof.Gen.MergeKernelIdeal.Frame
public import Idealize.ShloMosaic.Lib.Pipeline.Quiescent
public import Idealize.ShloMosaic.Lib.Claim

@[expose] public section

set_option maxRecDepth 16384
set_option Elab.async false

noncomputable section

namespace Cert.Proof.Merge

open Cert.MergeKernelIdeal Cert.MergeKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

abbrev crd (t : Fin cfg0.N) : grid0.Coords := grid0.coords t

theorem first_iff : ∀ t : Fin cfg0.N, cFirst (crd t) = 1#1 ↔ t.val = 0 := (by decide +kernel : ∀ t : Fin grid0.N, _)
theorem start_iff : ∀ t : Fin cfg0.N, cStart (crd t) = 1#1 ↔ t.val % 8 = 0 := (by decide +kernel : ∀ t : Fin grid0.N, _)
theorem last_iff : ∀ t : Fin cfg0.N, k0_cond3 (crd t) = 1#1 ↔ t.val % 8 = 7 := (by decide +kernel : ∀ t : Fin grid0.N, _)

theorem flush_last {w : Fin 19} {t : Fin cfg0.N} (h : (cfg0.win w).flush t = true ↔ t.val % 8 = 7) : (cfg0.win w).flush t = (k0_cond3 (crd t) == 1#1) := by
  rw [Bool.eq_iff_iff, h, beq_iff_eq, last_iff]

abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x3x1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x3x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x256 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S512x256 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x256 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1024 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1024 .bf16 := win0_16.stage (cfg0.slots t 16)
abbrev hs16 (t : Fin cfg0.N) : (ms16 t).IsWhole := hstage0_16 ((cfg0.slots t 16).cast nbuf0_16)
abbrev ms17 (t : Fin cfg0.N) : Memref sig .tc .vmem S512x1024 .bf16 := win0_17.stage (cfg0.slots t 17)
abbrev hs17 (t : Fin cfg0.N) : (ms17 t).IsWhole := hstage0_17 ((cfg0.slots t 17).cast nbuf0_17)
abbrev ms18 (t : Fin cfg0.N) : Memref sig .tc .vmem S8x3x256 .f32 := win0_18.stage (cfg0.slots t 18)
abbrev hs18 (t : Fin cfg0.N) : (ms18 t).IsWhole := hstage0_18 ((cfg0.slots t 18).cast nbuf0_18)

/-- What point `t` reads. -/
def ins (c : Dev nD) (t : Fin cfg0.N) : Ins F where
  y0 := iblk m c 0 t
  y1 := iblk m c 1 t
  y2 := iblk m c 2 t
  w := iblk m c 3 t
  p0 := iblk m c 4 t
  p1 := iblk m c 5 t
  p2 := iblk m c 6 t
  b := iblk m c 7 t
  dm := iblk m c 8 t

/-- What a point finds, its own clearing done: the biases' gradient cleared at the first point, the sums at a row's first. -/
def base (t : Fin cfg0.N) (s : St F) : St F where
  g := if t.val = 0 then k0_pay5 (F := F) else s.g
  acc := if t.val % 8 = 0 then k0_pay6 (F := F) else s.acc

/-- Point `t`. -/
def step (c : Dev nD) (t : Fin cfg0.N) (s : St F) : St F :=
  ⟨gOf (ins m c t) (crd t) (base t s).g, accOf (ins m c t) (base t s).acc⟩

/-- What the points before `n` leave. -/
def traj (c : Dev nD) : (n : ℕ) → n ≤ cfg0.N → St F
  | 0, _ => ⟨k0_pay5 (F := F), k0_pay6 (F := F)⟩
  | n + 1, h => step m c ⟨n, h⟩ (traj c n (Nat.le_of_succ_le h))

/-- What a point leaves does not depend on what it clears. -/
theorem base_zero (t : Fin cfg0.N) (h : t.val = 0) (s s' : St F) : base t s = base t s' := by
  unfold base; rw [if_pos h, if_pos h, if_pos (by omega), if_pos (by omega)]

abbrev bef (c : Dev nD) (t : Fin cfg0.N) : St F := base t (traj m c t.val (Nat.le_of_lt t.isLt))
abbrev aft (c : Dev nD) (t : Fin cfg0.N) : St F := traj m c (t.val + 1) t.isLt

theorem aft_eq (c : Dev nD) (t : Fin cfg0.N) : aft m c t = ⟨gOf (ins m c t) (crd t) (bef m c t).g, accOf (ins m c t) (bef m c t).acc⟩ := rfl

/-- The blocks a point stores or would store. -/
def outAt (c : Dev nD) (t : Fin cfg0.N) : Outs F := outsLast (ins m c t) (bef m c t).acc ⟨fun _ => FloatOps.ofBits .bf16 0#16, fun _ => FloatOps.ofBits .bf16 0#16, fun _ => FloatOps.ofBits .bf16 0#16, fun _ => FloatOps.ofBits .bf16 0#16, fun _ => FloatOps.ofBits .bf16 0#16, fun _ => FloatOps.ofBits .bf16 0#16, fun _ => FloatOps.ofBits .bf16 0#16, fun _ => FloatOps.ofBits .bf16 0#16, fun _ => FloatOps.ofBits .bf16 0#16⟩

/-! ## The proof data -/

/-- Before point `t`: the scratch buffer at the sums the points before left (anything before the first), the generator. -/
def Phi (c : Dev nD) (t : Fin (cfg0.N + 1)) : sProp 𝕄 :=
  iprop((∃ a : Vec F S3x512x1024 .f32, ⌜∀ (h : t.val ≠ 0), a = (traj m c t.val (Nat.le_of_lt_succ t.isLt)).acc⌝
      ∗ owns (c : Thread nD τ) (Memref.whole cc0_scratch0) fullShare a) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outAt m c t).a0
    | ⟨10, _⟩ => (outAt m c t).a1
    | ⟨11, _⟩ => (outAt m c t).a2
    | ⟨12, _⟩ => (outAt m c t).c0
    | ⟨13, _⟩ => (outAt m c t).c1
    | ⟨14, _⟩ => (outAt m c t).c2
    | ⟨15, _⟩ => (outAt m c t).e0
    | ⟨16, _⟩ => (outAt m c t).e1
    | ⟨17, _⟩ => (outAt m c t).e2
    | ⟨18, _⟩ => (aft m c t).g
    | ⟨n + 19, h⟩ => absurd h (Nat.not_lt.2 (Nat.le_add_left 19 n))
  Φ t := Phi m c t
  q w := Pipeline.shareOf spec0 w
  owed _ := 0

theorem after_0 (c : Dev nD) (t : Fin cfg0.N) : (dats m 0 c).after 0 t = iblk m c 0 t := rfl
theorem before_0 (c : Dev nD) (t : Fin cfg0.N) (d) : (dats m 0 c).before 0 t d = iblk m c 0 t := before0_0_of m (dats m 0 c) rfl (after_0 m c) t d
theorem after_1 (c : Dev nD) (t : Fin cfg0.N) : (dats m 0 c).after 1 t = iblk m c 1 t := rfl
theorem before_1 (c : Dev nD) (t : Fin cfg0.N) (d) : (dats m 0 c).before 1 t d = iblk m c 1 t := before0_1_of m (dats m 0 c) rfl (after_1 m c) t d
theorem after_2 (c : Dev nD) (t : Fin cfg0.N) : (dats m 0 c).after 2 t = iblk m c 2 t := rfl
theorem before_2 (c : Dev nD) (t : Fin cfg0.N) (d) : (dats m 0 c).before 2 t d = iblk m c 2 t := before0_2_of m (dats m 0 c) rfl (after_2 m c) t d
theorem after_3 (c : Dev nD) (t : Fin cfg0.N) : (dats m 0 c).after 3 t = iblk m c 3 t := rfl
theorem before_3 (c : Dev nD) (t : Fin cfg0.N) (d) : (dats m 0 c).before 3 t d = iblk m c 3 t := before0_3_of m (dats m 0 c) rfl (after_3 m c) t d
theorem after_4 (c : Dev nD) (t : Fin cfg0.N) : (dats m 0 c).after 4 t = iblk m c 4 t := rfl
theorem before_4 (c : Dev nD) (t : Fin cfg0.N) (d) : (dats m 0 c).before 4 t d = iblk m c 4 t := before0_4_of m (dats m 0 c) rfl (after_4 m c) t d
theorem after_5 (c : Dev nD) (t : Fin cfg0.N) : (dats m 0 c).after 5 t = iblk m c 5 t := rfl
theorem before_5 (c : Dev nD) (t : Fin cfg0.N) (d) : (dats m 0 c).before 5 t d = iblk m c 5 t := before0_5_of m (dats m 0 c) rfl (after_5 m c) t d
theorem after_6 (c : Dev nD) (t : Fin cfg0.N) : (dats m 0 c).after 6 t = iblk m c 6 t := rfl
theorem before_6 (c : Dev nD) (t : Fin cfg0.N) (d) : (dats m 0 c).before 6 t d = iblk m c 6 t := before0_6_of m (dats m 0 c) rfl (after_6 m c) t d
theorem after_7 (c : Dev nD) (t : Fin cfg0.N) : (dats m 0 c).after 7 t = iblk m c 7 t := rfl
theorem before_7 (c : Dev nD) (t : Fin cfg0.N) (d) : (dats m 0 c).before 7 t d = iblk m c 7 t := before0_7_of m (dats m 0 c) rfl (after_7 m c) t d
theorem after_8 (c : Dev nD) (t : Fin cfg0.N) : (dats m 0 c).after 8 t = iblk m c 8 t := rfl
theorem before_8 (c : Dev nD) (t : Fin cfg0.N) (d) : (dats m 0 c).before 8 t d = iblk m c 8 t := before0_8_of m (dats m 0 c) rfl (after_8 m c) t d
theorem after_9 (c : Dev nD) (t : Fin cfg0.N) : (dats m 0 c).after 9 t = (outAt m c t).a0 := rfl
theorem after_10 (c : Dev nD) (t : Fin cfg0.N) : (dats m 0 c).after 10 t = (outAt m c t).a1 := rfl
theorem after_11 (c : Dev nD) (t : Fin cfg0.N) : (dats m 0 c).after 11 t = (outAt m c t).a2 := rfl
theorem after_12 (c : Dev nD) (t : Fin cfg0.N) : (dats m 0 c).after 12 t = (outAt m c t).c0 := rfl
theorem after_13 (c : Dev nD) (t : Fin cfg0.N) : (dats m 0 c).after 13 t = (outAt m c t).c1 := rfl
theorem after_14 (c : Dev nD) (t : Fin cfg0.N) : (dats m 0 c).after 14 t = (outAt m c t).c2 := rfl
theorem after_15 (c : Dev nD) (t : Fin cfg0.N) : (dats m 0 c).after 15 t = (outAt m c t).e0 := rfl
theorem after_16 (c : Dev nD) (t : Fin cfg0.N) : (dats m 0 c).after 16 t = (outAt m c t).e1 := rfl
theorem after_17 (c : Dev nD) (t : Fin cfg0.N) : (dats m 0 c).after 17 t = (outAt m c t).e2 := rfl
theorem after_18 (c : Dev nD) (t : Fin cfg0.N) : (dats m 0 c).after 18 t = (aft m c t).g := rfl

theorem before_18 (c : Dev nD) (t : Fin cfg0.N) (h : t.val ≠ 0) (d) : (dats m 0 c).before 18 t d = (traj m c t.val (Nat.le_of_lt t.isLt)).g := by
  obtain ⟨n, hn⟩ := t
  cases n with
  | zero => exact absurd rfl h
  | succ n =>
    refine ((dats m 0 c).before_out_kept 18 rfl ⟨n + 1, hn⟩ h ?_ (fun _ => rfl) (fun _ _ => rfl) d).trans rfl
    have := flush0_18 ⟨n, Nat.lt_of_succ_lt hn⟩
    have hN : cfg0.N = 64 := N_0
    exact Bool.eq_false_iff.2 fun e => by have := this.1 e; dsimp only at this; omega

/-! ## The body at a point -/

/-- The runs as one. -/
theorem run (c : Dev nD) (t : Fin cfg0.N) (o : Outs F) (s : St F) (K : PUnit → sProp 𝕄) :
    iprop(held c (ms0 t) (ms1 t) (ms2 t) (ms3 t) (ms4 t) (ms5 t) (ms6 t) (ms7 t) (ms8 t) (ms9 t) (ms10 t) (ms11 t) (ms12 t) (ms13 t) (ms14 t) (ms15 t) (ms16 t) (ms17 t) (ms18 t) (Memref.whole cc0_scratch0) (ins m c t) o s
        ∗ (held c (ms0 t) (ms1 t) (ms2 t) (ms3 t) (ms4 t) (ms5 t) (ms6 t) (ms7 t) (ms8 t) (ms9 t) (ms10 t) (ms11 t) (ms12 t) (ms13 t) (ms14 t) (ms15 t) (ms16 t) (ms17 t) (ms18 t) (Memref.whole cc0_scratch0) (ins m c t) (if k0_cond3 (crd t) = 1#1 then outsLast (ins m c t) (base t s).acc o else outs (ins m c t) o) (step m c t s) -∗ K ⟨⟩))
      ⊢ wp frame (wpE (defs₀ (F := F)) Variants.none c none) Set.univ (bodyAt0 (F := F) t) K := by
  unfold step base
  by_cases c0 : t.val = 0
  · have c1 : t.val % 8 = 0 := by omega
    have c2 : ¬ k0_cond3 (crd t) = 1#1 := fun e => by have := (last_iff t).1 e; omega
    dsimp only
    rw [if_neg c2, if_pos c0, if_pos c1]
    exact run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (Memref.whole cc0_scratch0) (Memref.isWhole_whole _) ((first_iff t).2 c0) ((start_iff t).2 c1) c2 (ins m c t) o s K
  · have n0 : ¬ cFirst (crd t) = 1#1 := fun e => c0 ((first_iff t).1 e)
    by_cases c1 : t.val % 8 = 0
    · have c2 : ¬ k0_cond3 (crd t) = 1#1 := fun e => by have := (last_iff t).1 e; omega
      dsimp only
      rw [if_neg c2, if_neg c0, if_pos c1]
      exact run_start c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (Memref.whole cc0_scratch0) (Memref.isWhole_whole _) n0 ((start_iff t).2 c1) c2 (ins m c t) o s K
    · have n1 : ¬ cStart (crd t) = 1#1 := fun e => c1 ((start_iff t).1 e)
      dsimp only
      rw [if_neg c0, if_neg c1]
      by_cases c2 : k0_cond3 (crd t) = 1#1
      · rw [if_pos c2]
        exact run_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (Memref.whole cc0_scratch0) (Memref.isWhole_whole _) n0 n1 c2 (ins m c t) o s K
      · rw [if_neg c2]
        exact run_mid c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (Memref.whole cc0_scratch0) (Memref.isWhole_whole _) n0 n1 c2 (ins m c t) o s K

/-- The state a point finds gives the state the recursion names. -/
theorem base_of (c : Dev nD) (t : Fin cfg0.N) (d) (a : Vec F S3x512x1024 .f32) (ha : ∀ h : t.val ≠ 0, a = (traj m c t.val (Nat.le_of_lt t.isLt)).acc) :
    base t ⟨(dats m 0 c).before 18 t d, a⟩ = bef m c t := by
  by_cases h : t.val = 0
  · exact base_zero t h _ _
  · unfold bef; rw [ha h, before_18 m c t h]

theorem run_to (c : Dev nD) (t : Fin cfg0.N) (o : Outs F) (s : St F) (hs : base t s = bef m c t) (K : PUnit → sProp 𝕄) :
    iprop(held c (ms0 t) (ms1 t) (ms2 t) (ms3 t) (ms4 t) (ms5 t) (ms6 t) (ms7 t) (ms8 t) (ms9 t) (ms10 t) (ms11 t) (ms12 t) (ms13 t) (ms14 t) (ms15 t) (ms16 t) (ms17 t) (ms18 t) (Memref.whole cc0_scratch0) (ins m c t) o s
        ∗ (held c (ms0 t) (ms1 t) (ms2 t) (ms3 t) (ms4 t) (ms5 t) (ms6 t) (ms7 t) (ms8 t) (ms9 t) (ms10 t) (ms11 t) (ms12 t) (ms13 t) (ms14 t) (ms15 t) (ms16 t) (ms17 t) (ms18 t) (Memref.whole cc0_scratch0) (ins m c t) (if k0_cond3 (crd t) = 1#1 then outsLast (ins m c t) (bef m c t).acc o else outs (ins m c t) o) (aft m c t) -∗ K ⟨⟩))
      ⊢ wp frame (wpE (defs₀ (F := F)) Variants.none c none) Set.univ (bodyAt0 (F := F) t) K := by
  have R := run m c t o s K
  unfold step at R
  rw [hs] at R
  exact R

/-- What the buffers hold after point `t`. -/
def PostOf (c : Dev nD) (t : Fin cfg0.N) : sProp 𝕄 :=
  iprop(Phi m c t.succ ∗ (dats m 0 c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare (iblk m c 7 t)
        ∗ owns (c : Thread nD τ) (ms8 t) fullShare (iblk m c 8 t)
        ∗ owns (c : Thread nD τ) (ms9 t) fullShare (outAt m c t).a0
        ∗ owns (c : Thread nD τ) (ms10 t) fullShare (outAt m c t).a1
        ∗ owns (c : Thread nD τ) (ms11 t) fullShare (outAt m c t).a2
        ∗ owns (c : Thread nD τ) (ms12 t) fullShare (outAt m c t).c0
        ∗ owns (c : Thread nD τ) (ms13 t) fullShare (outAt m c t).c1
        ∗ owns (c : Thread nD τ) (ms14 t) fullShare (outAt m c t).c2
        ∗ (if k0_cond3 (crd t) = 1#1 then owns (c : Thread nD τ) (ms15 t) fullShare (outAt m c t).e0 else iprop(∃ d, owns (c : Thread nD τ) (ms15 t) fullShare ((dats m 0 c).before 15 t d)))
        ∗ (if k0_cond3 (crd t) = 1#1 then owns (c : Thread nD τ) (ms16 t) fullShare (outAt m c t).e1 else iprop(∃ d, owns (c : Thread nD τ) (ms16 t) fullShare ((dats m 0 c).before 16 t d)))
        ∗ (if k0_cond3 (crd t) = 1#1 then owns (c : Thread nD τ) (ms17 t) fullShare (outAt m c t).e2 else iprop(∃ d, owns (c : Thread nD τ) (ms17 t) fullShare ((dats m 0 c).before 17 t d)))
        ∗ owns (c : Thread nD τ) (ms18 t) fullShare (aft m c t).g)

set_option maxHeartbeats 4000000 in
theorem sound_list (c : Dev nD) (t : Fin cfg0.N) (K : PUnit → sProp 𝕄) (hK : PostOf m c t ⊢ K ⟨⟩) :
    iprop(Phi m c t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d))
        ∗ (∃ d, owns (c : Thread nD τ) (ms6 t) fullShare ((dats m 0 c).before 6 t d))
        ∗ (∃ d, owns (c : Thread nD τ) (ms7 t) fullShare ((dats m 0 c).before 7 t d))
        ∗ (∃ d, owns (c : Thread nD τ) (ms8 t) fullShare ((dats m 0 c).before 8 t d))
        ∗ (∃ d, owns (c : Thread nD τ) (ms9 t) fullShare ((dats m 0 c).before 9 t d))
        ∗ (∃ d, owns (c : Thread nD τ) (ms10 t) fullShare ((dats m 0 c).before 10 t d))
        ∗ (∃ d, owns (c : Thread nD τ) (ms11 t) fullShare ((dats m 0 c).before 11 t d))
        ∗ (∃ d, owns (c : Thread nD τ) (ms12 t) fullShare ((dats m 0 c).before 12 t d))
        ∗ (∃ d, owns (c : Thread nD τ) (ms13 t) fullShare ((dats m 0 c).before 13 t d))
        ∗ (∃ d, owns (c : Thread nD τ) (ms14 t) fullShare ((dats m 0 c).before 14 t d))
        ∗ (∃ d, owns (c : Thread nD τ) (ms15 t) fullShare ((dats m 0 c).before 15 t d))
        ∗ (∃ d, owns (c : Thread nD τ) (ms16 t) fullShare ((dats m 0 c).before 16 t d))
        ∗ (∃ d, owns (c : Thread nD τ) (ms17 t) fullShare ((dats m 0 c).before 17 t d))
        ∗ (∃ d, owns (c : Thread nD τ) (ms18 t) fullShare ((dats m 0 c).before 18 t d)))
      ⊢ wp frame (wpE (defs₀ (F := F)) Variants.none c none) Set.univ (bodyAt0 (F := F) t) K := by
  simp only [before_0, before_1, before_2, before_3, before_4, before_5, before_6, before_7, before_8]
  unfold Phi
  iintro ⟨⟨⟨%a, %ha, S0⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  simp only [Fin.val_castSucc] at ha
  have R := run_to m c t ⟨(dats m 0 c).before 9 t d9, (dats m 0 c).before 10 t d10, (dats m 0 c).before 11 t d11, (dats m 0 c).before 12 t d12, (dats m 0 c).before 13 t d13, (dats m 0 c).before 14 t d14, (dats m 0 c).before 15 t d15, (dats m 0 c).before 16 t d16, (dats m 0 c).before 17 t d17⟩ ⟨(dats m 0 c).before 18 t d18, a⟩ (base_of m c t d18 a ha) K
  iapply R
  unfold held ins
  dsimp only
  isplitl [S0 H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact S0
  iintro ⟨H0, H1, H2, H3, H4, H5, H6, H7, H8, H9, H10, H11, H12, H13, H14, H15, H16, H17, H18, S0⟩
  iapply hK
  unfold PostOf Phi
  isplitl [S0 HP]
  · isplitl [S0]
    · iexists (aft m c t).acc
      isplitr; · ipureintro; intro _; rfl
      iexact S0
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases c2 : k0_cond3 (crd t) = 1#1
  · rewrite [if_pos c2, if_pos c2, if_pos c2, if_pos c2]
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · rewrite [if_neg c2, if_neg c2, if_neg c2, if_neg c2]
    isplitl [H9]; · iexact H9
    isplitl [H10]; · iexact H10
    isplitl [H11]; · iexact H11
    isplitl [H12]; · iexact H12
    isplitl [H13]; · iexact H13
    isplitl [H14]; · iexact H14
    isplitl [H15]; · iexists d15; iexact H15
    isplitl [H16]; · iexists d16; iexact H16
    isplitl [H17]; · iexists d17; iexact H17
    iexact H18

set_option pp.maxSteps 150 in
set_option maxHeartbeats 8000000 in
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d))
        ∗ (∃ d, owns (c : Thread nD τ) (ms6 t) fullShare ((dats m 0 c).before 6 t d))
        ∗ (∃ d, owns (c : Thread nD τ) (ms7 t) fullShare ((dats m 0 c).before 7 t d))
        ∗ (∃ d, owns (c : Thread nD τ) (ms8 t) fullShare ((dats m 0 c).before 8 t d))
        ∗ (∃ d, owns (c : Thread nD τ) (ms9 t) fullShare ((dats m 0 c).before 9 t d))
        ∗ (∃ d, owns (c : Thread nD τ) (ms10 t) fullShare ((dats m 0 c).before 10 t d))
        ∗ (∃ d, owns (c : Thread nD τ) (ms11 t) fullShare ((dats m 0 c).before 11 t d))
        ∗ (∃ d, owns (c : Thread nD τ) (ms12 t) fullShare ((dats m 0 c).before 12 t d))
        ∗ (∃ d, owns (c : Thread nD τ) (ms13 t) fullShare ((dats m 0 c).before 13 t d))
        ∗ (∃ d, owns (c : Thread nD τ) (ms14 t) fullShare ((dats m 0 c).before 14 t d))
        ∗ (∃ d, owns (c : Thread nD τ) (ms15 t) fullShare ((dats m 0 c).before 15 t d))
        ∗ (∃ d, owns (c : Thread nD τ) (ms16 t) fullShare ((dats m 0 c).before 16 t d))
        ∗ (∃ d, owns (c : Thread nD τ) (ms17 t) fullShare ((dats m 0 c).before 17 t d))
        ∗ (∃ d, owns (c : Thread nD τ) (ms18 t) fullShare ((dats m 0 c).before 18 t d)))
      ⊢ wp frame (wpE (defs₀ (F := F)) Variants.none c none) Set.univ (bodyAt0 (F := F) t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  have i15 : cfg0.idle 15 (cfg0.grid.coords t) = !(k0_cond3 (crd t) == 1#1) := rfl
  have i16 : cfg0.idle 16 (cfg0.grid.coords t) = !(k0_cond3 (crd t) == 1#1) := rfl
  have i17 : cfg0.idle 17 (cfg0.grid.coords t) = !(k0_cond3 (crd t) == 1#1) := rfl
  have g15 : (cfg0.win 15).flush t = (k0_cond3 (crd t) == 1#1) := flush_last (w := 15) (flush0_15 t)
  have g16 : (cfg0.win 16).flush t = (k0_cond3 (crd t) == 1#1) := flush_last (w := 16) (flush0_16 t)
  have g17 : (cfg0.win 17).flush t = (k0_cond3 (crd t) == 1#1) := flush_last (w := 17) (flush0_17 t)
  rewrite [i15, g15, g16, g17]
  try rewrite [i16]
  try rewrite [i17]
  simp only [after_0, after_1, after_2, after_3, after_4, after_5, after_6, after_7, after_8, after_9, after_10, after_11, after_12, after_13, after_14, after_15, after_16, after_17, after_18]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  refine sound_list m c t _ ?_
  unfold PostOf
  by_cases c2 : k0_cond3 (crd t) = 1#1
  · rewrite [show (k0_cond3 (crd t) == 1#1) = true from beq_iff_eq.2 c2, if_pos c2, if_pos c2, if_pos c2]
    exact .rfl
  · rewrite [show (k0_cond3 (crd t) == 1#1) = false from beq_eq_false_iff_ne.2 c2, if_neg c2, if_neg c2, if_neg c2]
    exact .rfl

theorem body_obligation (c : Dev nD) : BodyObligation (dats m 0 c) (defs₀ (F := F)) Variants.none () Set.univ := fun t => by
  rw [bigSep_W0]
  exact sound_body m c t

/-! ## The launch -/

theorem phi_in (c : Dev nD) : (Pipeline.ΦA spec0 c : sProp 𝕄) ⊢ (dats m 0 c).Φ 0 := by
  unfold Pipeline.ΦA
  rw [scopedRest0_eq, show (dats m 0 c).Φ 0 = Phi m c 0 from rfl]
  unfold Phi
  simp only [owns_whole]
  iintro ⟨⟨%a0, S0⟩, HP⟩
  isplitl [S0]
  · iexists a0
    isplitr; · ipureintro; intro h; exact absurd rfl h
    iexact S0
  iexact HP

theorem phi_out (c : Dev nD) : (dats m 0 c).Φ (Fin.last cfg0.N) ⊢ (Pipeline.ΦA spec0 c : sProp 𝕄) := by
  unfold Pipeline.ΦA
  rw [scopedRest0_eq, show (dats m 0 c).Φ (Fin.last cfg0.N) = Phi m c (Fin.last _) from rfl]
  unfold Phi
  simp only [owns_whole]
  iintro ⟨⟨%a, -, S0⟩, HP⟩
  isplitl [S0]
  · iexists _; iexact S0
  iexact HP

set_option backward.isDefEq.respectTransparency.types false in
set_option maxHeartbeats 4000000 in
/-- Every execution ends, with the arrays at what the recursion computes and the counters at zero. -/
theorem run_main : θ_run (defs (F := F)) (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ Variants.none m ρ main
    (hbody := fun c => (body_obligation m c).loose) (hq := fun _ _ _ => rfl) (howed := fun _ _ => rfl) (V := V m) (hmain := hmain m Variants.none)
    (hA := fun _ _ => rfl) (hin := phi_in m) (hout := phi_out m) (Q' := fun r => Pipeline.FramePost cfgs (dats m) 0 (V m) r ∧ r.2.sem = fun _ => 0) (hQ' := fun _ h => h)

/-- The frame, over any scalars: what is read stays, the counters end at zero. -/
theorem frame_any : θ_run (defs (F := F)) (onTc (τ := τ) (main (F := F))) ⟨m, fun _ => 0, ρ⟩ (fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).2 main_arg3 (Pipeline.mem_restRefs_of main_arg3 (by decide) (by decide))).trans (V_main_arg3 m c),
      ((h.1 c).1 6).trans (((dats m 0 c).arrAt_in 6 rfl _).trans (V_main_arg4 m c)),
      ((h.1 c).2 main_arg5 (Pipeline.mem_restRefs_of main_arg5 (by decide) (by decide))).trans (V_main_arg5 m c),
      ((h.1 c).1 8).trans (((dats m 0 c).arrAt_in 8 rfl _).trans (V_main_arg6 m c))⟩, h.2⟩) (run_main m ρ)

set_option maxHeartbeats 4000000 in
/-- The results after the run, over any scalars. -/
theorem run_blocks : θ_run (defs (F := F)) (onTc (τ := τ) (main (F := F))) ⟨m, fun _ => 0, ρ⟩ (fun r => ∀ c : Dev nD,
      r.2.mem ((c.tc : Thread nD τ).loc main_v6_0) = (dats m 0 c).arrAt 9 cfg0.N
      ∧ r.2.mem ((c.tc : Thread nD τ).loc main_v6_1) = (dats m 0 c).arrAt 10 cfg0.N
      ∧ r.2.mem ((c.tc : Thread nD τ).loc main_v6_2) = (dats m 0 c).arrAt 11 cfg0.N
      ∧ r.2.mem ((c.tc : Thread nD τ).loc main_v6_3) = (dats m 0 c).arrAt 12 cfg0.N
      ∧ r.2.mem ((c.tc : Thread nD τ).loc main_v6_4) = (dats m 0 c).arrAt 13 cfg0.N
      ∧ r.2.mem ((c.tc : Thread nD τ).loc main_v6_5) = (dats m 0 c).arrAt 14 cfg0.N
      ∧ r.2.mem ((c.tc : Thread nD τ).loc main_v6_6) = (dats m 0 c).arrAt 15 cfg0.N
      ∧ r.2.mem ((c.tc : Thread nD τ).loc main_v6_7) = (dats m 0 c).arrAt 16 cfg0.N
      ∧ r.2.mem ((c.tc : Thread nD τ).loc main_v6_8) = (dats m 0 c).arrAt 17 cfg0.N
      ∧ r.2.mem ((c.tc : Thread nD τ).loc main_v6_9) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 9, (h.1 c).1 10, (h.1 c).1 11, (h.1 c).1 12, (h.1 c).1 13, (h.1 c).1 14, (h.1 c).1 15, (h.1 c).1 16, (h.1 c).1 17, (h.1 c).1 18,
      ((h.1 c).1 0).trans (((dats m 0 c).arrAt_in 0 rfl _).trans (V_main_arg0 m c)),
      ((h.1 c).1 1).trans (((dats m 0 c).arrAt_in 1 rfl _).trans (V_main_arg1 m c)),
      ((h.1 c).1 2).trans (((dats m 0 c).arrAt_in 2 rfl _).trans (V_main_arg2 m c)),
      ((h.1 c).2 main_arg3 (Pipeline.mem_restRefs_of main_arg3 (by decide) (by decide))).trans (V_main_arg3 m c),
      ((h.1 c).1 6).trans (((dats m 0 c).arrAt_in 6 rfl _).trans (V_main_arg4 m c)),
      ((h.1 c).2 main_arg5 (Pipeline.mem_restRefs_of main_arg5 (by decide) (by decide))).trans (V_main_arg5 m c),
      ((h.1 c).1 8).trans (((dats m 0 c).arrAt_in 8 rfl _).trans (V_main_arg6 m c))⟩) (run_main m ρ)

attribute [irreducible] traj

end Cert.Proof.Merge
end
-- ==== Proof.MergeBlock.lean ====
/- The merge's backward call: what a point computes, element by element. -/
module

public import proofs.«01_k».proof.Proof.MergeFrame
public import proofs.«01_k».proof.Proof.GluReal
public import Idealize.ShloMosaic.Lib.Pipeline.ValueKit
public import Idealize.ShloMosaic.Lib.Pointwise

@[expose] public section

set_option maxRecDepth 16384

noncomputable section

namespace Cert.Proof.Merge

open Cert.MergeKernelIdeal Cert.MergeKernelIdeal.Gen
open Idealize.ShloMosaic Idealize.ShloMosaic.TcCoe Idealize.SL.Sem
open Idealize.ShloMosaic.Pipeline (Dat)
open Cert.Gelu (gate)

/-! ## One element -/

/-- The gradient of a gate's argument `z`, from the branch's product `b` and the cotangent `d`. -/
def slope (d z b : EReal) : EReal := d * b * gate z * (Ideal.ofBits .f32 0x3F800000#32 - gate z)

/-- A gate's argument in a block. -/
def pz (p : Vec Ideal S512x256 .bf16) (b : Vec Ideal S1x1x1x256 .f32) (r : Fin 512) (q : Fin 256) : EReal := p (ix2 r q) + b (ix4 0 0 0 q)

/-- A branch's product in a block. -/
def pb (y : Vec Ideal S512x1024 .bf16) (w : Vec Ideal S1x1x1x1024x256 .bf16) (r : Fin 512) (q : Fin 256) : EReal :=
  ∑ k : Fin 1024, y (ix2 r k) * w (ix5 0 0 0 k q)

section Pay

variable (d p : Vec Ideal S512x256 .bf16) (b : Vec Ideal S1x1x1x256 .f32) (y : Vec Ideal S512x1024 .bf16) (w : Vec Ideal S1x1x1x1024x256 .bf16)

theorem pay8 : k0_pay8 (F := Ideal) p b = fun j => gate (pz p b (j 0) (j 1)) := by
  funext j; pointwise [k0_pay8, gate, pz]; rfl

theorem pay16 : k0_pay16 (F := Ideal) (k0_pay15 (F := Ideal) p) b = fun j => gate (pz p b (j 0) (j 1)) := by
  funext j; pointwise [k0_pay16, k0_pay15, gate, pz]; rfl

theorem pay22 : k0_pay22 (F := Ideal) p b = fun j => gate (pz p b (j 0) (j 1)) := by
  funext j; pointwise [k0_pay22, gate, pz]; rfl

theorem pay10 : k0_pay10 (F := Ideal) (k0_pay7 (F := Ideal) d) (k0_pay8 (F := Ideal) p b) (k0_pay9 (F := Ideal) y w)
    = fun j => slope (d (ix2 (j 0) (j 1))) (pz p b (j 0) (j 1)) (pb y w (j 0) (j 1)) := by
  rw [pay8]; funext j; pointwise [k0_pay10, k0_pay7, k0_pay9, slope, pb]

theorem pay17 : k0_pay17 (F := Ideal) (k0_pay7 (F := Ideal) d) (k0_pay15 (F := Ideal) p) b y w
    = fun j => slope (d (ix2 (j 0) (j 1))) (pz p b (j 0) (j 1)) (pb y w (j 0) (j 1)) := by
  unfold k0_pay17; rw [pay16]; funext j; pointwise [k0_pay7, slope, pb]

theorem pay23 : k0_pay23 (F := Ideal) (k0_pay7 (F := Ideal) d) (k0_pay22 (F := Ideal) p b) y w
    = fun j => slope (d (ix2 (j 0) (j 1))) (pz p b (j 0) (j 1)) (pb y w (j 0) (j 1)) := by
  rw [pay22]; funext j; pointwise [k0_pay23, k0_pay7, slope, pb]

theorem pay11 (r : Fin 512) (q : Fin 256) : k0_pay11 (F := Ideal) (k0_pay7 (F := Ideal) d) (k0_pay8 (F := Ideal) p b) (k0_pay9 (F := Ideal) y w) (ix2 r q)
    = slope (d (ix2 r q)) (pz p b r q) (pb y w r q) := by
  unfold k0_pay11; rw [pay10]; rfl

theorem pay18 (r : Fin 512) (q : Fin 256) : k0_pay18 (F := Ideal) (k0_pay7 (F := Ideal) d) (k0_pay15 (F := Ideal) p) b y w (ix2 r q)
    = slope (d (ix2 r q)) (pz p b r q) (pb y w r q) := by
  unfold k0_pay18; rw [pay17]; rfl

theorem pay24 (r : Fin 512) (q : Fin 256) : k0_pay24 (F := Ideal) (k0_pay7 (F := Ideal) d) (k0_pay22 (F := Ideal) p b) y w (ix2 r q)
    = slope (d (ix2 r q)) (pz p b r q) (pb y w r q) := by
  unfold k0_pay24; rw [pay23]; rfl

theorem pay13 : k0_pay13 (F := Ideal) (k0_pay7 (F := Ideal) d) (k0_pay8 (F := Ideal) p b) = fun j => d (ix2 (j 0) (j 1)) * gate (pz p b (j 0) (j 1)) := by
  rw [pay8]; funext j; pointwise [k0_pay13, k0_pay7]

theorem pay20 : k0_pay20 (F := Ideal) (k0_pay7 (F := Ideal) d) (k0_pay16 (F := Ideal) (k0_pay15 (F := Ideal) p) b)
    = fun j => d (ix2 (j 0) (j 1)) * gate (pz p b (j 0) (j 1)) := by
  rw [pay16]; funext j; pointwise [k0_pay20, k0_pay7]

theorem pay26 : k0_pay26 (F := Ideal) (k0_pay7 (F := Ideal) d) (k0_pay22 (F := Ideal) p b) = fun j => d (ix2 (j 0) (j 1)) * gate (pz p b (j 0) (j 1)) := by
  rw [pay22]; funext j; pointwise [k0_pay26, k0_pay7]

theorem pay12 (X : Vec Ideal S1x1x256 .f32) (q : Fin 256) :
    k0_pay12 (F := Ideal) (k0_pay7 (F := Ideal) d) (k0_pay8 (F := Ideal) p b) (k0_pay9 (F := Ideal) y w) X (ix3 0 0 q)
      = X (ix3 0 0 q) + ∑ r : Fin 512, slope (d (ix2 r q)) (pz p b r q) (pb y w r q) := by
  unfold k0_pay12; rw [pay10]; pointwise []

theorem pay19 (X : Vec Ideal S1x1x256 .f32) (q : Fin 256) :
    k0_pay19 (F := Ideal) (k0_pay7 (F := Ideal) d) (k0_pay15 (F := Ideal) p) b y w X (ix3 0 0 q)
      = X (ix3 0 0 q) + ∑ r : Fin 512, slope (d (ix2 r q)) (pz p b r q) (pb y w r q) := by
  unfold k0_pay19; rw [pay17]; pointwise []

theorem pay25 (X : Vec Ideal S1x1x256 .f32) (q : Fin 256) :
    k0_pay25 (F := Ideal) (k0_pay7 (F := Ideal) d) (k0_pay22 (F := Ideal) p b) y w X (ix3 0 0 q)
      = X (ix3 0 0 q) + ∑ r : Fin 512, slope (d (ix2 r q)) (pz p b r q) (pb y w r q) := by
  unfold k0_pay25; rw [pay23]; pointwise []

theorem pay14 (A : Vec Ideal S1x512x1024 .f32) (r : Fin 512) (k : Fin 1024) :
    k0_pay14 (F := Ideal) (k0_pay7 (F := Ideal) d) (k0_pay8 (F := Ideal) p b) A w (ix3 0 r k)
      = A (ix3 0 r k) + ∑ q : Fin 256, d (ix2 r q) * gate (pz p b r q) * w (ix5 0 0 0 k q) := by
  unfold k0_pay14; rw [pay13]; pointwise []

theorem pay21 (A : Vec Ideal S1x512x1024 .f32) (r : Fin 512) (k : Fin 1024) :
    k0_pay21 (F := Ideal) (k0_pay7 (F := Ideal) d) (k0_pay16 (F := Ideal) (k0_pay15 (F := Ideal) p) b) A w (ix3 0 r k)
      = A (ix3 0 r k) + ∑ q : Fin 256, d (ix2 r q) * gate (pz p b r q) * w (ix5 0 0 0 k q) := by
  unfold k0_pay21; rw [pay20]; pointwise []

theorem pay1 (A : Vec Ideal S1x512x1024 .f32) (r : Fin 512) (k : Fin 1024) :
    k0_pay1 (F := Ideal) (k0_pay27 (F := Ideal) (k0_pay7 (F := Ideal) d) (k0_pay22 (F := Ideal) p b) A w) (ix3 0 r k)
      = A (ix3 0 r k) + ∑ q : Fin 256, d (ix2 r q) * gate (pz p b r q) * w (ix5 0 0 0 k q) := by
  unfold k0_pay27; rw [pay26]; pointwise [k0_pay1]

theorem pay2 (A : Vec Ideal S1x512x1024 .f32) (r : Fin 512) (k : Fin 1024) : k0_pay2 (F := Ideal) A (ix2 r k) = A (ix3 0 r k) := by
  pointwise [k0_pay2]

theorem pay3 (A : Vec Ideal S1x512x1024 .f32) (r : Fin 512) (k : Fin 1024) : k0_pay3 (F := Ideal) A (ix2 r k) = A (ix3 0 r k) := by
  pointwise [k0_pay3]

theorem pay4 (A : Vec Ideal S1x512x1024 .f32) (r : Fin 512) (k : Fin 1024) : k0_pay4 (F := Ideal) A (ix2 r k) = A (ix3 0 r k) := by
  pointwise [k0_pay4]

theorem zero5 (j : S8x3x256.Idx) : k0_pay5 (F := Ideal) j = 0 := by
  pointwise [k0_pay5]

theorem zero6 (j : S3x512x1024.Idx) : k0_pay6 (F := Ideal) j = 0 := by
  pointwise [k0_pay6]

end Pay

/-! ## The windows -/

section Windows

variable (x : Ins Ideal)

/-- The branch weights and biases of a point, by branch. -/
def wn (n : Fin 3) : Vec Ideal S1x1x1x1024x256 .bf16 := match n with | 0 => w0 x | 1 => w1 x | 2 => w2 x
def bn (n : Fin 3) : Vec Ideal S1x1x1x256 .f32 := match n with | 0 => b0 x | 1 => b1 x | 2 => b2 x
def pn (n : Fin 3) : Vec Ideal S512x256 .bf16 := match n with | 0 => x.p0 | 1 => x.p1 | 2 => x.p2
def yn (n : Fin 3) : Vec Ideal S512x1024 .bf16 := match n with | 0 => x.y0 | 1 => x.y1 | 2 => x.y2

theorem wn_at (n : Fin 3) (k : Fin 1024) (q : Fin 256) : wn x n (ix5 0 0 0 k q) = x.w (ix5 0 0 n k q) := by
  match n with
  | 0 | 1 | 2 =>
    refine congrArg x.w (funext fun a => Fin.ext ?_)
    fin_cases a <;> first | rfl | exact (Nat.zero_add _).trans (Nat.one_mul _)

theorem bn_at (n : Fin 3) (q : Fin 256) : bn x n (ix4 0 0 0 q) = x.b (ix4 0 0 n q) := by
  match n with
  | 0 | 1 | 2 =>
    refine congrArg x.b (funext fun a => Fin.ext ?_)
    fin_cases a <;> first | rfl | exact (Nat.zero_add _).trans (Nat.one_mul _)

/-- What a point adds to a sum. -/
def addA (n : Fin 3) (r : Fin 512) (k : Fin 1024) : EReal :=
  ∑ q : Fin 256, x.dm (ix2 r q) * gate (pz (pn x n) (bn x n) r q) * wn x n (ix5 0 0 0 k q)

/-- What a point adds to a bias's gradient. -/
def addG (n : Fin 3) (q : Fin 256) : EReal :=
  ∑ r : Fin 512, slope (x.dm (ix2 r q)) (pz (pn x n) (bn x n) r q) (pb (yn x n) (wn x n) r q)

theorem win_acc (A : Vec Ideal S3x512x1024 .f32) (off : Fin 3 → ℕ) (inb) (n : Fin 3) (h : off = ![n.val, 0, 0]) (r : Fin 512) (k : Fin 1024) :
    VecWindow.window (s := S3x512x1024) A off S1x512x1024.size inb (ix3 0 r k) = A (ix3 n r k) := by
  subst h
  refine congrArg A (funext fun a => Fin.ext ?_)
  fin_cases a
  · rfl
  · exact (Nat.zero_add _).trans (Nat.one_mul _)
  · exact (Nat.zero_add _).trans (Nat.one_mul _)

theorem put_acc (A : Vec Ideal S3x512x1024 .f32) (off : Fin 3 → ℕ) (n : Fin 3) (h : off = ![n.val, 0, 0]) (w : Vec Ideal S1x512x1024 .f32) (l : Fin 3) (r : Fin 512) (k : Fin 1024) :
    VecWindow.put (s := S3x512x1024) A off S1x512x1024.size w (ix3 l r k) = if l = n then w (ix3 0 r k) else A (ix3 l r k) := by
  subst h
  unfold VecWindow.put
  by_cases e : l = n
  · subst e
    rw [if_pos rfl, dif_pos (fun a => by
      fin_cases a
      · show l.val ≤ l.val ∧ l.val < l.val + 1; omega
      · show 0 ≤ r.val ∧ r.val < 0 + 512; omega
      · show 0 ≤ k.val ∧ k.val < 0 + 1024; omega)]
    refine congrArg w (funext fun a => Fin.ext ?_)
    fin_cases a
    · show l.val - l.val = 0; omega
    · rfl
    · rfl
  · rw [if_neg e, dif_neg]
    intro h
    have h0 := h 0
    have : n.val ≤ l.val ∧ l.val < n.val + 1 := h0
    exact e (Fin.ext (by omega))

theorem win_g (X : Vec Ideal S8x3x256 .f32) (off : Fin 3 → ℕ) (inb) (j : Fin 8) (n : Fin 3) (h : off = ![j.val, n.val, 0]) (q : Fin 256) :
    VecWindow.window (s := S8x3x256) X off S1x1x256.size inb (ix3 0 0 q) = X (ix3 j n q) := by
  subst h
  refine congrArg X (funext fun a => Fin.ext ?_)
  fin_cases a
  · rfl
  · rfl
  · exact (Nat.zero_add _).trans (Nat.one_mul _)

theorem put_g (X : Vec Ideal S8x3x256 .f32) (off : Fin 3 → ℕ) (j : Fin 8) (n : Fin 3) (h : off = ![j.val, n.val, 0]) (w : Vec Ideal S1x1x256 .f32) (i : Fin 8) (l : Fin 3) (q : Fin 256) :
    VecWindow.put (s := S8x3x256) X off S1x1x256.size w (ix3 i l q) = if i = j ∧ l = n then w (ix3 0 0 q) else X (ix3 i l q) := by
  subst h
  unfold VecWindow.put
  by_cases e : i = j ∧ l = n
  · obtain ⟨rfl, rfl⟩ := e
    rw [if_pos ⟨rfl, rfl⟩, dif_pos (fun a => by
      fin_cases a
      · show i.val ≤ i.val ∧ i.val < i.val + 1; omega
      · show l.val ≤ l.val ∧ l.val < l.val + 1; omega
      · show 0 ≤ q.val ∧ q.val < 0 + 256; omega)]
    refine congrArg w (funext fun a => Fin.ext ?_)
    fin_cases a
    · show i.val - i.val = 0; omega
    · show l.val - l.val = 0; omega
    · rfl
  · rw [if_neg e, dif_neg]
    intro h
    have h0 : j.val ≤ i.val ∧ i.val < j.val + 1 := h 0
    have h1 : n.val ≤ l.val ∧ l.val < n.val + 1 := h 1
    exact e ⟨Fin.ext (by omega), Fin.ext (by omega)⟩

/-- The sums after a point. -/
theorem accOf_at (A : Vec Ideal S3x512x1024 .f32) (n : Fin 3) (r : Fin 512) (k : Fin 1024) :
    accOf x A (ix3 n r k) = A (ix3 n r k) + addA x n r k := by
  unfold accOf
  rw [put_acc _ ![2, 0, 0] 2 rfl, put_acc _ ![1, 0, 0] 1 rfl, put_acc _ ![0, 0, 0] 0 rfl]
  match n with
  | 0 => exact (pay14 _ _ _ _ _ r k).trans (congrArg (· + _) (win_acc A _ _ 0 rfl r k))
  | 1 => exact (pay21 _ _ _ _ _ r k).trans (congrArg (· + _) (win_acc A _ _ 1 rfl r k))
  | 2 => exact (pay1 _ _ _ _ _ r k).trans (congrArg (· + _) (win_acc A _ _ 2 rfl r k))

theorem u0_at (A : Vec Ideal S3x512x1024 .f32) (r : Fin 512) (k : Fin 1024) : k0_pay2 (F := Ideal) (u0 x A) (ix2 r k) = accOf x A (ix3 0 r k) := by
  rw [accOf_at, pay2]; exact (pay14 _ _ _ _ _ r k).trans (congrArg (· + _) (win_acc A _ _ 0 rfl r k))

theorem u1_at (A : Vec Ideal S3x512x1024 .f32) (r : Fin 512) (k : Fin 1024) : k0_pay3 (F := Ideal) (u1 x A) (ix2 r k) = accOf x A (ix3 1 r k) := by
  rw [accOf_at, pay3]; exact (pay21 _ _ _ _ _ r k).trans (congrArg (· + _) (win_acc A _ _ 1 rfl r k))

theorem u2_at (A : Vec Ideal S3x512x1024 .f32) (r : Fin 512) (k : Fin 1024) : k0_pay4 (F := Ideal) (u2 x A) (ix2 r k) = accOf x A (ix3 2 r k) := by
  rw [accOf_at, pay4]; exact (pay1 _ _ _ _ _ r k).trans (congrArg (· + _) (win_acc A _ _ 2 rfl r k))

/-- The biases' gradient after a point of column block `j`. -/
theorem gOf_at (i : grid0.Coords) (j : Fin 8) (e1 : k0_off1 i = ![j.val, 0, 0]) (e2 : k0_off2 i = ![j.val, 1, 0]) (e3 : k0_off3 i = ![j.val, 2, 0])
    (X : Vec Ideal S8x3x256 .f32) (l : Fin 8) (n : Fin 3) (q : Fin 256) :
    gOf x i X (ix3 l n q) = X (ix3 l n q) + if j = l then addG x n q else 0 := by
  unfold gOf
  rw [put_g _ (k0_off3 i) j 2 e3, put_g _ (k0_off2 i) j 1 e2, put_g _ (k0_off1 i) j 0 e1]
  by_cases h : j = l
  · subst h
    rw [if_pos rfl]
    match n with
    | 0 => simp only [Fin.isValue, true_and, Fin.reduceEq, if_false, if_true]; exact (pay12 _ _ _ _ _ _ q).trans (congrArg (· + _) (win_g X _ _ j 0 e1 q))
    | 1 => simp only [Fin.isValue, true_and, Fin.reduceEq, if_false, if_true]; exact (pay19 _ _ _ _ _ _ q).trans (congrArg (· + _) (win_g X _ _ j 1 e2 q))
    | 2 => simp only [Fin.isValue, true_and, Fin.reduceEq, if_false, if_true]; exact (pay25 _ _ _ _ _ _ q).trans (congrArg (· + _) (win_g X _ _ j 2 e3 q))
  · rw [if_neg h, if_neg (fun e => h e.1.symm), if_neg (fun e => h e.1.symm), if_neg (fun e => h e.1.symm), add_zero]

end Windows

end Cert.Proof.Merge
end
-- ==== Proof.MergeValue.lean ====
/- The merge's backward call: what the blocked kernel leaves in its ten result arrays. -/
module

public import proofs.«01_k».proof.Proof.MergeBlock

@[expose] public section

set_option maxRecDepth 16384

noncomputable section

namespace Cert.Proof.Merge

open Cert.MergeKernelIdeal Cert.MergeKernelIdeal.Gen
open Idealize.ShloMosaic Idealize.ShloMosaic.TcCoe Idealize.SL.Sem
open Idealize.ShloMosaic.Pipeline (Dat)
open Cert.Gelu (gate)

/-! ## The gradients -/

section Spec

variable (x0 x1 x2 : Vec Ideal S4096x1024 .bf16) (x3 : Vec Ideal S3x1024x2048 .bf16) (x4 : Vec Ideal S4096x12288 .bf16) (x5 : Vec Ideal S3x2048 .f32) (x6 : Vec Ideal S4096x2048 .bf16)

/-- The branches' inputs. -/
def Y (n : Fin 3) : Vec Ideal S4096x1024 .bf16 := match n with | 0 => x0 | 1 => x1 | 2 => x2

/-- The argument of branch `n`'s gate. -/
def Z (n : Fin 3) (r : Fin 4096) (k : Fin 2048) : EReal := x4 (ix2 r ⟨6144 + n.val * 2048 + k.val, by omega⟩) + x5 (ix2 n k)

/-- Branch `n`'s product. -/
def BR (n : Fin 3) (r : Fin 4096) (k : Fin 2048) : EReal := ∑ l : Fin 1024, Y x0 x1 x2 n (ix2 r l) * x3 (ix3 n l k)

/-- The gradient of a gate's argument. -/
def DP (n : Fin 3) (r : Fin 4096) (k : Fin 2048) : EReal := slope (x6 (ix2 r k)) (Z x4 x5 n r k) (BR x0 x1 x2 x3 n r k)

/-- The gradient of a branch's product. -/
def DB (n : Fin 3) (r : Fin 4096) (k : Fin 2048) : EReal := x6 (ix2 r k) * gate (Z x4 x5 n r k)

/-- The gradient of a branch's input. -/
def DY (n : Fin 3) (r : Fin 4096) (l : Fin 1024) : EReal := ∑ k : Fin 2048, DB x4 x5 x6 n r k * x3 (ix3 n l k)

def OP (n : Fin 3) : Vec Ideal S4096x2048 .bf16 := fun j => DP x0 x1 x2 x3 x4 x5 x6 n (j 0) (j 1)
def OB (n : Fin 3) : Vec Ideal S4096x2048 .bf16 := fun j => DB x4 x5 x6 n (j 0) (j 1)
def OY (n : Fin 3) : Vec Ideal S4096x1024 .bf16 := fun j => DY x3 x4 x5 x6 n (j 0) (j 1)

/-- The gradient of the gates' biases, by column block. -/
def OG : Vec Ideal S8x3x256 .f32 := fun j => ∑ r : Fin 4096, DP x0 x1 x2 x3 x4 x5 x6 (j 1) r ⟨(j 0).val * 256 + (j 2).val, by
  have : (j 0).val < 8 := (j 0).isLt; have : (j 2).val < 256 := (j 2).isLt; omega⟩

end Spec

variable (m : (ℓ : Loc nD τ sig) → Buf (Elt Ideal) ℓ)

theorem idx : ∀ t : Fin cfg0.N, win0_0.index t = ![t.val / 8, 0] ∧ win0_1.index t = ![t.val / 8, 0] ∧ win0_2.index t = ![t.val / 8, 0]
    ∧ win0_3.index t = ![0, t.val % 8, 0, 0, 0] ∧ win0_4.index t = ![t.val / 8, 24 + t.val % 8] ∧ win0_5.index t = ![t.val / 8, 32 + t.val % 8]
    ∧ win0_6.index t = ![t.val / 8, 40 + t.val % 8] ∧ win0_7.index t = ![0, t.val % 8, 0, 0] ∧ win0_8.index t = ![t.val / 8, t.val % 8]
    ∧ win0_9.index t = ![t.val / 8, t.val % 8] ∧ win0_10.index t = ![t.val / 8, t.val % 8] ∧ win0_11.index t = ![t.val / 8, t.val % 8]
    ∧ win0_12.index t = ![t.val / 8, t.val % 8] ∧ win0_13.index t = ![t.val / 8, t.val % 8] ∧ win0_14.index t = ![t.val / 8, t.val % 8]
    ∧ win0_15.index t = ![t.val / 8, 0] ∧ win0_16.index t = ![t.val / 8, 0] ∧ win0_17.index t = ![t.val / 8, 0] ∧ win0_18.index t = ![0, 0, 0] :=
  (by decide +kernel : ∀ t : Fin grid0.N, _)

theorem offs : ∀ t : Fin cfg0.N, k0_off1 (crd t) = ![t.val % 8, 0, 0] ∧ k0_off2 (crd t) = ![t.val % 8, 1, 0] ∧ k0_off3 (crd t) = ![t.val % 8, 2, 0] :=
  (by decide +kernel : ∀ t : Fin grid0.N, _)

/-- Row `r` of the point's block. -/
def rowOf (t : Fin cfg0.N) (r : Fin 512) : Fin 4096 := ⟨t.val / 8 * 512 + r.val, by have := r.isLt; have := t.isLt; have : cfg0.N = 64 := N_0; omega⟩

/-- Column `q` of the point's block. -/
def colOf (t : Fin cfg0.N) (q : Fin 256) : Fin 2048 := ⟨t.val % 8 * 256 + q.val, by have := q.isLt; omega⟩

section Blocks

variable (c : Dev nD)

theorem blk_y0 (t : Fin cfg0.N) (r : Fin 512) (l : Fin 1024) : (iblk m c 0 t : Vec Ideal S512x1024 .bf16) (ix2 r l) = m ((c : Thread nD τ).loc main_arg0) (ix2 (rowOf t r) l) := by
  unfold rowOf
  blk_point [iblk, V, idx t]

theorem blk_p0 (t : Fin cfg0.N) (r : Fin 512) (q : Fin 256) :
    (iblk m c 4 t : Vec Ideal S512x256 .bf16) (ix2 r q) = m ((c : Thread nD τ).loc main_arg4) (ix2 (rowOf t r) ⟨6144 + 0 * 2048 + (colOf t q).val, by omega⟩) := by
  unfold rowOf colOf
  blk_point [iblk, V, idx t]

theorem blk_y1 (t : Fin cfg0.N) (r : Fin 512) (l : Fin 1024) : (iblk m c 1 t : Vec Ideal S512x1024 .bf16) (ix2 r l) = m ((c : Thread nD τ).loc main_arg1) (ix2 (rowOf t r) l) := by
  unfold rowOf
  blk_point [iblk, V, idx t]

theorem blk_p1 (t : Fin cfg0.N) (r : Fin 512) (q : Fin 256) :
    (iblk m c 5 t : Vec Ideal S512x256 .bf16) (ix2 r q) = m ((c : Thread nD τ).loc main_arg4) (ix2 (rowOf t r) ⟨6144 + 1 * 2048 + (colOf t q).val, by omega⟩) := by
  unfold rowOf colOf
  blk_point [iblk, V, idx t]

theorem blk_y2 (t : Fin cfg0.N) (r : Fin 512) (l : Fin 1024) : (iblk m c 2 t : Vec Ideal S512x1024 .bf16) (ix2 r l) = m ((c : Thread nD τ).loc main_arg2) (ix2 (rowOf t r) l) := by
  unfold rowOf
  blk_point [iblk, V, idx t]

theorem blk_p2 (t : Fin cfg0.N) (r : Fin 512) (q : Fin 256) :
    (iblk m c 6 t : Vec Ideal S512x256 .bf16) (ix2 r q) = m ((c : Thread nD τ).loc main_arg4) (ix2 (rowOf t r) ⟨6144 + 2 * 2048 + (colOf t q).val, by omega⟩) := by
  unfold rowOf colOf
  blk_point [iblk, V, idx t]

theorem blk_w (t : Fin cfg0.N) (n : Fin 3) (l : Fin 1024) (q : Fin 256) :
    (iblk m c 3 t : Vec Ideal S1x1x3x1024x256 .bf16) (ix5 0 0 n l q) = m ((c : Thread nD τ).loc main_arg3) (ix3 n l (colOf t q)) := by
  unfold colOf
  blk_point [iblk, V, idx t]

theorem blk_b (t : Fin cfg0.N) (n : Fin 3) (q : Fin 256) :
    (iblk m c 7 t : Vec Ideal S1x1x3x256 .f32) (ix4 0 0 n q) = m ((c : Thread nD τ).loc main_arg5) (ix2 n (colOf t q)) := by
  unfold colOf
  blk_point [iblk, V, idx t]

theorem blk_d (t : Fin cfg0.N) (r : Fin 512) (q : Fin 256) :
    (iblk m c 8 t : Vec Ideal S512x256 .bf16) (ix2 r q) = m ((c : Thread nD τ).loc main_arg6) (ix2 (rowOf t r) (colOf t q)) := by
  unfold rowOf colOf
  blk_point [iblk, V, idx t]

theorem z_at (t : Fin cfg0.N) (n : Fin 3) (r : Fin 512) (q : Fin 256) :
    pz (pn (ins m c t) n) (bn (ins m c t) n) r q = Z (m ((c : Thread nD τ).loc main_arg4)) (m ((c : Thread nD τ).loc main_arg5)) n (rowOf t r) (colOf t q) := by
  unfold pz Z
  rw [bn_at]
  match n with
  | 0 => exact congrArg₂ (· + ·) (blk_p0 m c t r q) (blk_b m c t 0 q)
  | 1 => exact congrArg₂ (· + ·) (blk_p1 m c t r q) (blk_b m c t 1 q)
  | 2 => exact congrArg₂ (· + ·) (blk_p2 m c t r q) (blk_b m c t 2 q)

theorem w_at (t : Fin cfg0.N) (n : Fin 3) (l : Fin 1024) (q : Fin 256) :
    wn (ins m c t) n (ix5 0 0 0 l q) = (m ((c : Thread nD τ).loc main_arg3)) (ix3 n l (colOf t q)) := (wn_at _ n l q).trans (blk_w m c t n l q)

theorem y_at (t : Fin cfg0.N) (n : Fin 3) (r : Fin 512) (l : Fin 1024) :
    yn (ins m c t) n (ix2 r l) = Y (m ((c : Thread nD τ).loc main_arg0)) (m ((c : Thread nD τ).loc main_arg1)) (m ((c : Thread nD τ).loc main_arg2)) n (ix2 (rowOf t r) l) := by
  match n with
  | 0 => exact blk_y0 m c t r l
  | 1 => exact blk_y1 m c t r l
  | 2 => exact blk_y2 m c t r l

theorem br_at (t : Fin cfg0.N) (n : Fin 3) (r : Fin 512) (q : Fin 256) :
    pb (yn (ins m c t) n) (wn (ins m c t) n) r q = BR (m ((c : Thread nD τ).loc main_arg0)) (m ((c : Thread nD τ).loc main_arg1)) (m ((c : Thread nD τ).loc main_arg2)) (m ((c : Thread nD τ).loc main_arg3)) n (rowOf t r) (colOf t q) :=
  congrArg (Finset.sum (M := EReal) (Finset.univ : Finset (Fin 1024))) (funext fun l => congrArg₂ (· * ·) (y_at m c t n r l) (w_at m c t n l q))

theorem slope_at (t : Fin cfg0.N) (n : Fin 3) (r : Fin 512) (q : Fin 256) :
    slope ((ins m c t).dm (ix2 r q)) (pz (pn (ins m c t) n) (bn (ins m c t) n) r q) (pb (yn (ins m c t) n) (wn (ins m c t) n) r q)
      = DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n (rowOf t r) (colOf t q) := by
  rw [z_at, br_at]
  exact congrArg (fun d => slope d _ _) (blk_d m c t r q)

theorem gate_at (t : Fin cfg0.N) (n : Fin 3) (r : Fin 512) (q : Fin 256) :
    (ins m c t).dm (ix2 r q) * gate (pz (pn (ins m c t) n) (bn (ins m c t) n) r q) = DB (m ((c : Thread nD τ).loc main_arg4)) (m ((c : Thread nD τ).loc main_arg5)) (m ((c : Thread nD τ).loc main_arg6)) n (rowOf t r) (colOf t q) := by
  rw [z_at]
  exact congrArg (fun d => d * gate _) (blk_d m c t r q)

theorem addA_at (t : Fin cfg0.N) (n : Fin 3) (r : Fin 512) (l : Fin 1024) :
    addA (ins m c t) n r l = ∑ q : Fin 256, DB (m ((c : Thread nD τ).loc main_arg4)) (m ((c : Thread nD τ).loc main_arg5)) (m ((c : Thread nD τ).loc main_arg6)) n (rowOf t r) (colOf t q) * (m ((c : Thread nD τ).loc main_arg3)) (ix3 n l (colOf t q)) :=
  congrArg (Finset.sum (M := EReal) (Finset.univ : Finset (Fin 256))) (funext fun q => congrArg₂ (· * ·) (gate_at m c t n r q) (w_at m c t n l q))

theorem addG_at (t : Fin cfg0.N) (n : Fin 3) (q : Fin 256) :
    addG (ins m c t) n q = ∑ r : Fin 512, DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n (rowOf t r) (colOf t q) :=
  congrArg (Finset.sum (M := EReal) (Finset.univ : Finset (Fin 512))) (funext fun r => slope_at m c t n r q)

end Blocks

/-! ## The blocks stored at every point -/

theorem point9 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).a0 y = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0 j := by
  obtain ⟨r, q, rfl⟩ : ∃ (r : Fin 512) (q : Fin 256), y = ix2 r q := ⟨y 0, y 1, by funext a; fin_cases a <;> rfl⟩
  refine ((pay11 _ _ _ _ _ r q).trans (slope_at m c t 0 r q)).trans ?_
  have e0 : (j 0 : Fin 4096) = rowOf t r := Fin.ext h0
  have e1 : (j 1 : Fin 2048) = colOf t q := Fin.ext h1
  show _ = DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0 (j 0) (j 1)
  rw [e0, e1]

theorem final9 (c : Dev nD) : (dats m 0 c).arrAt 9 cfg0.N = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 0 := by
  refine (dats m 0 c).arrAt_eq_of_covers 9 _ (by decide +kernel) fun t hf y => ?_
  blk_simp
  rw [after_9]
  refine Eq.trans ?_ (point9 m c t y _ ?_ ?_)
  · rfl
  all_goals blk_simp [idx t]

theorem point10 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).a1 y = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 1 j := by
  obtain ⟨r, q, rfl⟩ : ∃ (r : Fin 512) (q : Fin 256), y = ix2 r q := ⟨y 0, y 1, by funext a; fin_cases a <;> rfl⟩
  refine ((pay18 _ _ _ _ _ r q).trans (slope_at m c t 1 r q)).trans ?_
  have e0 : (j 0 : Fin 4096) = rowOf t r := Fin.ext h0
  have e1 : (j 1 : Fin 2048) = colOf t q := Fin.ext h1
  show _ = DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 1 (j 0) (j 1)
  rw [e0, e1]

theorem final10 (c : Dev nD) : (dats m 0 c).arrAt 10 cfg0.N = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 1 := by
  refine (dats m 0 c).arrAt_eq_of_covers 10 _ (by decide +kernel) fun t hf y => ?_
  blk_simp
  rw [after_10]
  refine Eq.trans ?_ (point10 m c t y _ ?_ ?_)
  · rfl
  all_goals blk_simp [idx t]

theorem point11 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).a2 y = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 2 j := by
  obtain ⟨r, q, rfl⟩ : ∃ (r : Fin 512) (q : Fin 256), y = ix2 r q := ⟨y 0, y 1, by funext a; fin_cases a <;> rfl⟩
  refine ((pay24 _ _ _ _ _ r q).trans (slope_at m c t 2 r q)).trans ?_
  have e0 : (j 0 : Fin 4096) = rowOf t r := Fin.ext h0
  have e1 : (j 1 : Fin 2048) = colOf t q := Fin.ext h1
  show _ = DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 2 (j 0) (j 1)
  rw [e0, e1]

theorem final11 (c : Dev nD) : (dats m 0 c).arrAt 11 cfg0.N = OP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) 2 := by
  refine (dats m 0 c).arrAt_eq_of_covers 11 _ (by decide +kernel) fun t hf y => ?_
  blk_simp
  rw [after_11]
  refine Eq.trans ?_ (point11 m c t y _ ?_ ?_)
  · rfl
  all_goals blk_simp [idx t]

theorem point12 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).c0 y = OB (m ((c : Thread nD τ).loc main_arg4)) (m ((c : Thread nD τ).loc main_arg5)) (m ((c : Thread nD τ).loc main_arg6)) 0 j := by
  obtain ⟨r, q, rfl⟩ : ∃ (r : Fin 512) (q : Fin 256), y = ix2 r q := ⟨y 0, y 1, by funext a; fin_cases a <;> rfl⟩
  refine ((congrFun (pay13 _ _ _) (ix2 r q)).trans (gate_at m c t 0 r q)).trans ?_
  have e0 : (j 0 : Fin 4096) = rowOf t r := Fin.ext h0
  have e1 : (j 1 : Fin 2048) = colOf t q := Fin.ext h1
  show _ = DB (m ((c : Thread nD τ).loc main_arg4)) (m ((c : Thread nD τ).loc main_arg5)) (m ((c : Thread nD τ).loc main_arg6)) 0 (j 0) (j 1)
  rw [e0, e1]

theorem final12 (c : Dev nD) : (dats m 0 c).arrAt 12 cfg0.N = OB (m ((c : Thread nD τ).loc main_arg4)) (m ((c : Thread nD τ).loc main_arg5)) (m ((c : Thread nD τ).loc main_arg6)) 0 := by
  refine (dats m 0 c).arrAt_eq_of_covers 12 _ (by decide +kernel) fun t hf y => ?_
  blk_simp
  rw [after_12]
  refine Eq.trans ?_ (point12 m c t y _ ?_ ?_)
  · rfl
  all_goals blk_simp [idx t]

theorem point13 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).c1 y = OB (m ((c : Thread nD τ).loc main_arg4)) (m ((c : Thread nD τ).loc main_arg5)) (m ((c : Thread nD τ).loc main_arg6)) 1 j := by
  obtain ⟨r, q, rfl⟩ : ∃ (r : Fin 512) (q : Fin 256), y = ix2 r q := ⟨y 0, y 1, by funext a; fin_cases a <;> rfl⟩
  refine ((congrFun (pay20 _ _ _) (ix2 r q)).trans (gate_at m c t 1 r q)).trans ?_
  have e0 : (j 0 : Fin 4096) = rowOf t r := Fin.ext h0
  have e1 : (j 1 : Fin 2048) = colOf t q := Fin.ext h1
  show _ = DB (m ((c : Thread nD τ).loc main_arg4)) (m ((c : Thread nD τ).loc main_arg5)) (m ((c : Thread nD τ).loc main_arg6)) 1 (j 0) (j 1)
  rw [e0, e1]

theorem final13 (c : Dev nD) : (dats m 0 c).arrAt 13 cfg0.N = OB (m ((c : Thread nD τ).loc main_arg4)) (m ((c : Thread nD τ).loc main_arg5)) (m ((c : Thread nD τ).loc main_arg6)) 1 := by
  refine (dats m 0 c).arrAt_eq_of_covers 13 _ (by decide +kernel) fun t hf y => ?_
  blk_simp
  rw [after_13]
  refine Eq.trans ?_ (point13 m c t y _ ?_ ?_)
  · rfl
  all_goals blk_simp [idx t]

theorem point14 (c : Dev nD) (t : Fin cfg0.N) (y : S512x256.Idx) (j : S4096x2048.Idx) (h0 : (j 0 : ℕ) = t.val / 8 * 512 + y 0) (h1 : (j 1 : ℕ) = t.val % 8 * 256 + y 1) :
    (outAt m c t).c2 y = OB (m ((c : Thread nD τ).loc main_arg4)) (m ((c : Thread nD τ).loc main_arg5)) (m ((c : Thread nD τ).loc main_arg6)) 2 j := by
  obtain ⟨r, q, rfl⟩ : ∃ (r : Fin 512) (q : Fin 256), y = ix2 r q := ⟨y 0, y 1, by funext a; fin_cases a <;> rfl⟩
  refine ((congrFun (pay26 _ _ _) (ix2 r q)).trans (gate_at m c t 2 r q)).trans ?_
  have e0 : (j 0 : Fin 4096) = rowOf t r := Fin.ext h0
  have e1 : (j 1 : Fin 2048) = colOf t q := Fin.ext h1
  show _ = DB (m ((c : Thread nD τ).loc main_arg4)) (m ((c : Thread nD τ).loc main_arg5)) (m ((c : Thread nD τ).loc main_arg6)) 2 (j 0) (j 1)
  rw [e0, e1]

theorem final14 (c : Dev nD) : (dats m 0 c).arrAt 14 cfg0.N = OB (m ((c : Thread nD τ).loc main_arg4)) (m ((c : Thread nD τ).loc main_arg5)) (m ((c : Thread nD τ).loc main_arg6)) 2 := by
  refine (dats m 0 c).arrAt_eq_of_covers 14 _ (by decide +kernel) fun t hf y => ?_
  blk_simp
  rw [after_14]
  refine Eq.trans ?_ (point14 m c t y _ ?_ ?_)
  · rfl
  all_goals blk_simp [idx t]

/-! ## The sums -/

theorem traj_at (c : Dev nD) (a b : ℕ) (h : a = b) (ha : a ≤ cfg0.N) (hb : b ≤ cfg0.N) : traj m c a ha = traj m c b hb := by subst h; rfl

/-- Two points of one row of blocks. -/
theorem acc_at (c : Dev nD) (t : Fin cfg0.N) (n : Fin 3) (r : Fin 512) (l : Fin 1024) :
    (aft m c t).acc (ix3 n r l) = (bef m c t).acc (ix3 n r l) + ∑ q : Fin 256, DB (m ((c : Thread nD τ).loc main_arg4)) (m ((c : Thread nD τ).loc main_arg5)) (m ((c : Thread nD τ).loc main_arg6)) n (rowOf t r) (colOf t q) * (m ((c : Thread nD τ).loc main_arg3)) (ix3 n l (colOf t q)) := by
  rw [aft_eq]
  exact (accOf_at _ _ n r l).trans (congrArg _ (addA_at m c t n r l))

/-- The sum at a row's last point is the gradient. -/
theorem acc_last (c : Dev nD) (t : Fin cfg0.N) (h : t.val % 8 = 7) (n : Fin 3) (r : Fin 512) (l : Fin 1024) :
    (aft m c t).acc (ix3 n r l) = DY (m ((c : Thread nD τ).loc main_arg3)) (m ((c : Thread nD τ).loc main_arg4)) (m ((c : Thread nD τ).loc main_arg5)) (m ((c : Thread nD τ).loc main_arg6)) n (rowOf t r) l := by
  have R := Pipeline.eq_sum_fin_of_reset_step_apply_of_flush (N := cfg0.N) (M := EReal)
    (fun k hk => fun i : Fin 3 × Fin 512 × Fin 1024 => (traj m c (k + 1) hk).acc (ix3 i.1 i.2.1 i.2.2)) 8 (fun _ => 0)
    (fun t i => ∑ q : Fin 256, DB (m ((c : Thread nD τ).loc main_arg4)) (m ((c : Thread nD τ).loc main_arg5)) (m ((c : Thread nD τ).loc main_arg6)) i.1 (rowOf t i.2.1) (colOf t q) * (m ((c : Thread nD τ).loc main_arg3)) (ix3 i.1 i.2.2 (colOf t q)))
    (fun t h i => (acc_at m c t i.1 i.2.1 i.2.2).trans (congrArg (· + _) (by unfold bef base; rw [if_pos h]; exact zero6 (ix3 i.1 i.2.1 i.2.2))))
    (fun t h i => (acc_at m c t i.1 i.2.1 i.2.2).trans (congrArg (· + _) (by
      unfold bef base; rw [if_neg h]
      rw [traj_at m c t.val (t.val - 1 + 1) (by omega)])))
    t h (n, r, l)
  refine R.trans ((zero_add _).trans ?_)
  unfold DY
  refine Eq.trans ?_ (Fin.sum_mul_add_fin (M := EReal) 8 256 (fun k : Fin 2048 => DB (m ((c : Thread nD τ).loc main_arg4)) (m ((c : Thread nD τ).loc main_arg5)) (m ((c : Thread nD τ).loc main_arg6)) n (rowOf t r) k * (m ((c : Thread nD τ).loc main_arg3)) (ix3 n l k)) rfl)
  refine congrArg (Finset.sum (M := EReal) (Finset.univ : Finset (Fin 8))) (funext fun s : Fin 8 => ?_)
  refine congrArg (Finset.sum (M := EReal) (Finset.univ : Finset (Fin 256))) (funext fun q : Fin 256 => ?_)
  have e0 : ∀ p, rowOf (⟨8 * (t.val / 8) + s.val, p⟩ : Fin cfg0.N) r = rowOf t r := fun p => Fin.ext (by
    have : s.val < 8 := s.isLt
    show (8 * (t.val / 8) + s.val) / 8 * 512 + r.val = t.val / 8 * 512 + r.val; omega)
  have e1 : ∀ p p', colOf (⟨8 * (t.val / 8) + s.val, p⟩ : Fin cfg0.N) q = ⟨s.val * 256 + q.val, p'⟩ := fun p p' => Fin.ext (by
    have : s.val < 8 := s.isLt
    show (8 * (t.val / 8) + s.val) % 8 * 256 + q.val = s.val * 256 + q.val; omega)
  dsimp only
  rw [e0, e1]

theorem point15 (c : Dev nD) (t : Fin cfg0.N) (h7 : t.val % 8 = 7) (y : S512x1024.Idx) (j : S4096x1024.Idx) (h0 : (j 0 : ℕ) = t.val / 8 * 512 + y 0) (h1 : (j 1 : ℕ) = y 1) :
    (outAt m c t).e0 y = OY (m ((c : Thread nD τ).loc main_arg3)) (m ((c : Thread nD τ).loc main_arg4)) (m ((c : Thread nD τ).loc main_arg5)) (m ((c : Thread nD τ).loc main_arg6)) 0 j := by
  obtain ⟨r, l, rfl⟩ : ∃ (r : Fin 512) (l : Fin 1024), y = ix2 r l := ⟨y 0, y 1, by funext a; fin_cases a <;> rfl⟩
  have e0 : (j 0 : Fin 4096) = rowOf t r := Fin.ext h0
  have e1 : (j 1 : Fin 1024) = l := Fin.ext h1
  have e : (outAt m c t).e0 (ix2 r l) = (aft m c t).acc (ix3 0 r l) := by
    rw [aft_eq]
    exact u0_at (ins m c t) (bef m c t).acc r l
  rw [e, acc_last m c t h7]
  show _ = DY (m ((c : Thread nD τ).loc main_arg3)) (m ((c : Thread nD τ).loc main_arg4)) (m ((c : Thread nD τ).loc main_arg5)) (m ((c : Thread nD τ).loc main_arg6)) 0 (j 0) (j 1)
  rw [e0, e1]

theorem final15 (c : Dev nD) : (dats m 0 c).arrAt 15 cfg0.N = OY (m ((c : Thread nD τ).loc main_arg3)) (m ((c : Thread nD τ).loc main_arg4)) (m ((c : Thread nD τ).loc main_arg5)) (m ((c : Thread nD τ).loc main_arg6)) 0 := by
  refine (dats m 0 c).arrAt_eq_of_covers 15 _ (by decide +kernel) fun t hf y => ?_
  blk_simp
  rw [after_15]
  refine Eq.trans ?_ (point15 m c t ((flush0_15 t).1 hf) y _ ?_ ?_)
  · rfl
  all_goals blk_simp [idx t]

theorem point16 (c : Dev nD) (t : Fin cfg0.N) (h7 : t.val % 8 = 7) (y : S512x1024.Idx) (j : S4096x1024.Idx) (h0 : (j 0 : ℕ) = t.val / 8 * 512 + y 0) (h1 : (j 1 : ℕ) = y 1) :
    (outAt m c t).e1 y = OY (m ((c : Thread nD τ).loc main_arg3)) (m ((c : Thread nD τ).loc main_arg4)) (m ((c : Thread nD τ).loc main_arg5)) (m ((c : Thread nD τ).loc main_arg6)) 1 j := by
  obtain ⟨r, l, rfl⟩ : ∃ (r : Fin 512) (l : Fin 1024), y = ix2 r l := ⟨y 0, y 1, by funext a; fin_cases a <;> rfl⟩
  have e0 : (j 0 : Fin 4096) = rowOf t r := Fin.ext h0
  have e1 : (j 1 : Fin 1024) = l := Fin.ext h1
  have e : (outAt m c t).e1 (ix2 r l) = (aft m c t).acc (ix3 1 r l) := by
    rw [aft_eq]
    exact u1_at (ins m c t) (bef m c t).acc r l
  rw [e, acc_last m c t h7]
  show _ = DY (m ((c : Thread nD τ).loc main_arg3)) (m ((c : Thread nD τ).loc main_arg4)) (m ((c : Thread nD τ).loc main_arg5)) (m ((c : Thread nD τ).loc main_arg6)) 1 (j 0) (j 1)
  rw [e0, e1]

theorem final16 (c : Dev nD) : (dats m 0 c).arrAt 16 cfg0.N = OY (m ((c : Thread nD τ).loc main_arg3)) (m ((c : Thread nD τ).loc main_arg4)) (m ((c : Thread nD τ).loc main_arg5)) (m ((c : Thread nD τ).loc main_arg6)) 1 := by
  refine (dats m 0 c).arrAt_eq_of_covers 16 _ (by decide +kernel) fun t hf y => ?_
  blk_simp
  rw [after_16]
  refine Eq.trans ?_ (point16 m c t ((flush0_16 t).1 hf) y _ ?_ ?_)
  · rfl
  all_goals blk_simp [idx t]

theorem point17 (c : Dev nD) (t : Fin cfg0.N) (h7 : t.val % 8 = 7) (y : S512x1024.Idx) (j : S4096x1024.Idx) (h0 : (j 0 : ℕ) = t.val / 8 * 512 + y 0) (h1 : (j 1 : ℕ) = y 1) :
    (outAt m c t).e2 y = OY (m ((c : Thread nD τ).loc main_arg3)) (m ((c : Thread nD τ).loc main_arg4)) (m ((c : Thread nD τ).loc main_arg5)) (m ((c : Thread nD τ).loc main_arg6)) 2 j := by
  obtain ⟨r, l, rfl⟩ : ∃ (r : Fin 512) (l : Fin 1024), y = ix2 r l := ⟨y 0, y 1, by funext a; fin_cases a <;> rfl⟩
  have e0 : (j 0 : Fin 4096) = rowOf t r := Fin.ext h0
  have e1 : (j 1 : Fin 1024) = l := Fin.ext h1
  have e : (outAt m c t).e2 (ix2 r l) = (aft m c t).acc (ix3 2 r l) := by
    rw [aft_eq]
    exact u2_at (ins m c t) (bef m c t).acc r l
  rw [e, acc_last m c t h7]
  show _ = DY (m ((c : Thread nD τ).loc main_arg3)) (m ((c : Thread nD τ).loc main_arg4)) (m ((c : Thread nD τ).loc main_arg5)) (m ((c : Thread nD τ).loc main_arg6)) 2 (j 0) (j 1)
  rw [e0, e1]

theorem final17 (c : Dev nD) : (dats m 0 c).arrAt 17 cfg0.N = OY (m ((c : Thread nD τ).loc main_arg3)) (m ((c : Thread nD τ).loc main_arg4)) (m ((c : Thread nD τ).loc main_arg5)) (m ((c : Thread nD τ).loc main_arg6)) 2 := by
  refine (dats m 0 c).arrAt_eq_of_covers 17 _ (by decide +kernel) fun t hf y => ?_
  blk_simp
  rw [after_17]
  refine Eq.trans ?_ (point17 m c t ((flush0_17 t).1 hf) y _ ?_ ?_)
  · rfl
  all_goals blk_simp [idx t]

theorem g_at (c : Dev nD) (t : Fin cfg0.N) (l : Fin 8) (n : Fin 3) (q : Fin 256) :
    (aft m c t).g (ix3 l n q) = (bef m c t).g (ix3 l n q)
      + if (⟨t.val % 8, Nat.mod_lt _ (by decide)⟩ : Fin 8) = l then ∑ r : Fin 512, DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n (rowOf t r) (colOf t q) else 0 := by
  rw [aft_eq, ← addG_at]
  exact gOf_at _ _ ⟨t.val % 8, Nat.mod_lt _ (by decide)⟩ (offs t).1 (offs t).2.1 (offs t).2.2 _ l n q

/-- The last point. -/
def t0_63 : Fin cfg0.N := ⟨63, (by decide : 63 < 64).trans_eq N_0.symm⟩

theorem g_last (c : Dev nD) (l : Fin 8) (n : Fin 3) (q : Fin 256) :
    (aft m c t0_63).g (ix3 l n q) = OG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 l n q) := by
  have R := Pipeline.eq_sum_fin_of_reset_step_apply_last (N := cfg0.N) (M := EReal)
    (fun k hk => fun i : Fin 8 × Fin 3 × Fin 256 => (traj m c (k + 1) hk).g (ix3 i.1 i.2.1 i.2.2)) 64 (fun _ => 0)
    (fun t i => if (⟨t.val % 8, Nat.mod_lt _ (by decide)⟩ : Fin 8) = i.1 then ∑ r : Fin 512, DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i.2.1 (rowOf t r) (colOf t i.2.2) else 0)
    (fun t h i => (g_at m c t i.1 i.2.1 i.2.2).trans (congrArg (· + _) (by
      have hN : cfg0.N = 64 := N_0
      have := t.isLt
      unfold bef base; rw [if_pos (by omega)]; exact zero5 (ix3 i.1 i.2.1 i.2.2))))
    (fun t h i => (g_at m c t i.1 i.2.1 i.2.2).trans (congrArg (· + _) (by
      have h0 : t.val ≠ 0 := fun e => h (by rw [e])
      unfold bef base; rw [if_neg h0]
      rw [traj_at m c t.val (t.val - 1 + 1) (by omega)])))
    (le_of_eq N_0) t0_63 rfl (l, n, q)
  refine R.trans ((zero_add _).trans ?_)
  refine (Fin.sum_divmod_congr (M := EReal) (N := cfg0.N) (A := 8) (S := 8)
    (f := fun i s : Fin 8 => if s = l then ∑ r : Fin 512, DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n ⟨i.val * 512 + r.val, by omega⟩ ⟨l.val * 256 + q.val, by omega⟩ else 0)
    (fun t ha hs => ?_) N_0).trans ?_
  · dsimp only
    by_cases e : (⟨t.val % 8, hs⟩ : Fin 8) = l
    · rw [if_pos e, if_pos e]
      refine congrArg (Finset.sum (M := EReal) (Finset.univ : Finset (Fin 512))) (funext fun r : Fin 512 => ?_)
      have e1 : colOf t q = ⟨l.val * 256 + q.val, by omega⟩ := Fin.ext (by
        have : t.val % 8 = l.val := congrArg Fin.val e
        show t.val % 8 * 256 + q.val = l.val * 256 + q.val
        rw [this])
      rw [e1]; rfl
    · rw [if_neg e, if_neg e]
  · refine Eq.trans ?_ (Fin.sum_mul_add_fin (M := EReal) 8 512 (fun r : Fin 4096 => DP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n r ⟨l.val * 256 + q.val, by omega⟩) rfl)
    refine congrArg (Finset.sum (M := EReal) (Finset.univ : Finset (Fin 8))) (funext fun i : Fin 8 => ?_)
    exact (Finset.sum_ite_eq' _ _ _).trans (if_pos (Finset.mem_univ _))

theorem final18 (c : Dev nD) : (dats m 0 c).arrAt 18 cfg0.N = OG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 18 t0_63 (by decide +kernel) _ fun j => ?_
  obtain ⟨l, n, q, rfl⟩ : ∃ (l : Fin 8) (n : Fin 3) (q : Fin 256), j = ix3 l n q := ⟨j 0, j 1, j 2, by funext a; fin_cases a <;> rfl⟩
  blk_simp
  rw [after_18]
  refine Eq.trans ?_ (g_last m c l n q)
  rfl

end Cert.Proof.Merge
end
-- ==== Proof.MergePair.lean ====
/- The merge's backward call: the blocked kernel and the derivative of the gated sum, result by result. -/
module

public import proofs.«01_k».proof.Defs
public import proofs.«01_k».proof.Proof.MergeValue
public import proofs.«01_k».proof.Proof.Gen.MergeKernel
public import proofs.«01_k».proof.Proof.Gen.MergeRefIdeal.Run
public import proofs.«01_k».proof.Proof.Gen.MergeRefIdeal.Read
public import Idealize.ShloMosaic.Lib.Claim

@[expose] public section

set_option maxRecDepth 16384

noncomputable section

open Idealize.ShloMosaic Idealize.ShloMosaic.TcCoe Idealize.SL.Sem

namespace Cert.MergeRefIdeal.Value

open Cert.MergeRefIdeal Cert.MergeRefIdeal.Gen Cert.MergeRefIdeal.Read
open Cert.Gelu (gate hgate)
open Cert.Proof.Merge (slope Y Z BR DP DB DY OP OB OY OG)

variable (x0 x1 x2 : Vec Ideal S4096x1024 .bf16) (x3 : Vec Ideal S3x1024x2048 .bf16) (x4 : Vec Ideal S4096x12288 .bf16) (x5 : Vec Ideal S3x2048 .f32) (x6 : Vec Ideal S4096x2048 .bf16)

theorem s25 (n : Fin 3) (r : Fin 4096) (k : Fin 2048) : val_main_v25 (F := Ideal) x4 x5 (ix4 0 r n k) = gate (Z x4 x5 n r k) := by
  rw [Gelu.gate_all]
  pointwise [val_main_v25, val_main_v24, val_main_v23, val_main_v22, val_main_v21, val_main_v20, val_main_v19, val_main_v18, val_main_v17, val_main_v16, val_main_v2, val_main_v1, val_main_v0, val_main_cst, val_main_cst_0, hgate, Z]
  simp only [Nat.add_assoc]

theorem s13 (n : Fin 3) (r : Fin 4096) (l : Fin 1024) : val_main_v13 (F := Ideal) x0 x1 x2 (ix4 0 r n l) = Y x0 x1 x2 n (ix2 r l) := by
  match n with
  | 0 | 1 | 2 => pointwise [val_main_v13, val_main_v12, val_main_v11, val_main_v10, val_main_v8, val_main_v7, val_main_v6, val_main_v5, val_main_v4, val_main_v3, Y]

theorem s15 (n : Fin 3) (r : Fin 4096) (k : Fin 2048) : val_main_v15 (F := Ideal) x0 x1 x2 x3 (ix4 0 r n k) = BR x0 x1 x2 x3 n r k := by
  unfold BR
  pointwise [val_main_v15, val_main_v14, val_main_v9]
  exact congrArg (Finset.sum (M := EReal) (Finset.univ : Finset (Fin 1024))) (funext fun l : Fin 1024 => (EReal.mul_comm _ _).trans (congrArg (· * _) (s13 x0 x1 x2 n r l)))

theorem s34 (n : Fin 3) (r : Fin 4096) (k : Fin 2048) : val_main_v34 (F := Ideal) x4 x5 x6 (ix4 0 r n k) = DB x4 x5 x6 n r k := by
  unfold DB
  rw [← s25]
  refine Eq.trans ?_ (EReal.mul_comm _ _)
  pointwise [val_main_v34, val_main_v33, val_main_v32, val_main_v31]

theorem s36 (n : Fin 3) (r : Fin 4096) (k : Fin 2048) : val_main_v36 (F := Ideal) x0 x1 x2 x3 x4 x5 x6 (ix4 0 r n k) = DP x0 x1 x2 x3 x4 x5 x6 n r k := by
  unfold DP Cert.Proof.Merge.slope
  rw [← s25, ← s15, mul_assoc]
  pointwise [val_main_v36, val_main_v35, val_main_v33, val_main_v32, val_main_v31, val_main_v28, val_main_v27, val_main_v26, val_main_cst_1]

theorem s43 (n : Fin 3) (r : Fin 4096) (l : Fin 1024) : val_main_v43 (F := Ideal) x3 x4 x5 x6 (ix4 0 r n l) = DY x3 x4 x5 x6 n r l := by
  unfold DY
  pointwise [val_main_v43, val_main_v42, val_main_v41, val_main_v9]
  exact congrArg (Finset.sum (M := EReal) (Finset.univ : Finset (Fin 2048))) (funext fun k : Fin 2048 => congrArg (· * _) (s34 x4 x5 x6 n r k))

theorem r58 : val_main_v58 (F := Ideal) x0 x1 x2 x3 x4 x5 x6 = OP x0 x1 x2 x3 x4 x5 x6 0 := by
  funext j
  refine Eq.trans ?_ (s36 x0 x1 x2 x3 x4 x5 x6 0 (j 0) (j 1))
  pointwise [val_main_v58, val_main_v57, val_main_v56, val_main_v40]
  have h : (j 1).val < 2048 := (j 1).isLt
  have e : ∀ (a b : Fin 3) (u v : Fin 2048), a = b → u = v → val_main_v36 (F := Ideal) x0 x1 x2 x3 x4 x5 x6 (ix4 0 (j 0) a u) = val_main_v36 (F := Ideal) x0 x1 x2 x3 x4 x5 x6 (ix4 0 (j 0) b v) := by
    intro a b u v e1 e2; rw [e1, e2]
  exact e _ _ _ _ (Fin.ext (Nat.div_eq_of_lt h)) (Fin.ext (Nat.mod_eq_of_lt h))

theorem r61 : val_main_v61 (F := Ideal) x0 x1 x2 x3 x4 x5 x6 = OP x0 x1 x2 x3 x4 x5 x6 1 := by
  funext j
  refine Eq.trans ?_ (s36 x0 x1 x2 x3 x4 x5 x6 1 (j 0) (j 1))
  pointwise [val_main_v61, val_main_v60, val_main_v59, val_main_v40]
  have h : (j 1).val < 2048 := (j 1).isLt
  have e : ∀ (a b : Fin 3) (u v : Fin 2048), a = b → u = v → val_main_v36 (F := Ideal) x0 x1 x2 x3 x4 x5 x6 (ix4 0 (j 0) a u) = val_main_v36 (F := Ideal) x0 x1 x2 x3 x4 x5 x6 (ix4 0 (j 0) b v) := by
    intro a b u v e1 e2; rw [e1, e2]
  exact e _ _ _ _ (Fin.ext (show (2048 + (j 1).val) / 2048 = 1 by omega)) rfl

theorem r64 : val_main_v64 (F := Ideal) x0 x1 x2 x3 x4 x5 x6 = OP x0 x1 x2 x3 x4 x5 x6 2 := by
  funext j
  refine Eq.trans ?_ (s36 x0 x1 x2 x3 x4 x5 x6 2 (j 0) (j 1))
  pointwise [val_main_v64, val_main_v63, val_main_v62, val_main_v40]
  have h : (j 1).val < 2048 := (j 1).isLt
  have e : ∀ (a b : Fin 3) (u v : Fin 2048), a = b → u = v → val_main_v36 (F := Ideal) x0 x1 x2 x3 x4 x5 x6 (ix4 0 (j 0) a u) = val_main_v36 (F := Ideal) x0 x1 x2 x3 x4 x5 x6 (ix4 0 (j 0) b v) := by
    intro a b u v e1 e2; rw [e1, e2]
  exact e _ _ _ _ (Fin.ext (show (4096 + (j 1).val) / 2048 = 2 by omega)) rfl

theorem r67 : val_main_v67 (F := Ideal) x4 x5 x6 = OB x4 x5 x6 0 := by
  funext j
  refine Eq.trans ?_ (s34 x4 x5 x6 0 (j 0) (j 1))
  pointwise [val_main_v67, val_main_v66, val_main_v65]

theorem r70 : val_main_v70 (F := Ideal) x4 x5 x6 = OB x4 x5 x6 1 := by
  funext j
  refine Eq.trans ?_ (s34 x4 x5 x6 1 (j 0) (j 1))
  pointwise [val_main_v70, val_main_v69, val_main_v68]

theorem r73 : val_main_v73 (F := Ideal) x4 x5 x6 = OB x4 x5 x6 2 := by
  funext j
  refine Eq.trans ?_ (s34 x4 x5 x6 2 (j 0) (j 1))
  pointwise [val_main_v73, val_main_v72, val_main_v71]

theorem r51 : val_main_v51 (F := Ideal) x3 x4 x5 x6 = OY x3 x4 x5 x6 0 := by
  funext j
  refine Eq.trans ?_ (s43 x3 x4 x5 x6 0 (j 0) (j 1))
  pointwise [val_main_v51, val_main_v50, val_main_v45, val_main_v44]

theorem r53 : val_main_v53 (F := Ideal) x3 x4 x5 x6 = OY x3 x4 x5 x6 1 := by
  funext j
  refine Eq.trans ?_ (s43 x3 x4 x5 x6 1 (j 0) (j 1))
  pointwise [val_main_v53, val_main_v52, val_main_v47, val_main_v46]

theorem r55 : val_main_v55 (F := Ideal) x3 x4 x5 x6 = OY x3 x4 x5 x6 2 := by
  funext j
  refine Eq.trans ?_ (s43 x3 x4 x5 x6 2 (j 0) (j 1))
  pointwise [val_main_v55, val_main_v54, val_main_v49, val_main_v48]

/-- A sum over two axes of size one. -/
theorem unit_sum (v : S1x1x3x2048.Idx → EReal) (a : Fin 3) (b : Fin 2048) :
    Ideal.hostReduceAdd reducesTo_S1x1x3x2048_S3x2048_d0_1 v 0 (ix2 a b) = v (ix4 0 0 a b) := by
  have d : ∀ (p q : Fin 1) (a : Fin 3) (b : Fin 2048), reducesTo_S1x1x3x2048_S3x2048_d0_1.drop (ix4 p q a b) = ix2 a b := by
    intro p q a b; funext k; fin_cases k <;> rfl
  unfold Ideal.hostReduceAdd
  rw [zero_add, Finset.sum_eq_single (ix4 0 0 a b)]
  · intro i hi hne
    exfalso; apply hne
    obtain ⟨p, q, x, y, rfl⟩ : ∃ (p q : Fin 1) (x : Fin 3) (y : Fin 2048), i = ix4 p q x y := ⟨i 0, i 1, i 2, i 3, by funext k; fin_cases k <;> rfl⟩
    have e := (Finset.mem_filter.1 hi).2
    rw [d] at e
    have e0 : x = a := congrFun e 0
    have e1 : y = b := congrFun e 1
    rw [e0, e1, Subsingleton.elim p 0, Subsingleton.elim q 0]
  · intro h
    exfalso; refine h ?_; rw [Finset.mem_filter]; exact ⟨Finset.mem_univ _, d 0 0 a b⟩

theorem r75 : val_main_v75 (F := Ideal) x0 x1 x2 x3 x4 x5 x6 = OG x0 x1 x2 x3 x4 x5 x6 := by
  funext j
  unfold OG
  pointwise [val_main_v75, val_main_v74, val_main_v39, val_main_v38, val_main_v37, val_main_cst_3, val_main_cst_4]
  refine (unit_sum _ _ _).trans ?_
  pointwise []
  exact congrArg (Finset.sum (M := EReal) (Finset.univ : Finset (Fin 4096))) (funext fun r : Fin 4096 => s36 x0 x1 x2 x3 x4 x5 x6 (j 1) r _)

end Cert.MergeRefIdeal.Value

namespace Cert.Proof.Merge

set_option maxHeartbeats 4000000 in
theorem algebraic : Cert.algebraic_MergeKernelIdeal_MergeRefIdeal := by
  pair_intro
  · run_from Cert.Proof.Merge.run_blocks m g
  · run_from Cert.MergeRefIdeal.Value.run m' g'
    · rw [Cert.Proof.Merge.final9 m c]
      exact (Cert.MergeRefIdeal.Read.val_main_v58_eq _ _ _ _ _ _ _).trans (Cert.MergeRefIdeal.Value.r58 _ _ _ _ _ _ _)
    · rw [Cert.Proof.Merge.final10 m c]
      exact (Cert.MergeRefIdeal.Read.val_main_v61_eq _ _ _ _ _ _ _).trans (Cert.MergeRefIdeal.Value.r61 _ _ _ _ _ _ _)
    · rw [Cert.Proof.Merge.final11 m c]
      exact (Cert.MergeRefIdeal.Read.val_main_v64_eq _ _ _ _ _ _ _).trans (Cert.MergeRefIdeal.Value.r64 _ _ _ _ _ _ _)
    · rw [Cert.Proof.Merge.final12 m c]
      exact (Cert.MergeRefIdeal.Read.val_main_v67_eq _ _ _).trans (Cert.MergeRefIdeal.Value.r67 _ _ _)
    · rw [Cert.Proof.Merge.final13 m c]
      exact (Cert.MergeRefIdeal.Read.val_main_v70_eq _ _ _).trans (Cert.MergeRefIdeal.Value.r70 _ _ _)
    · rw [Cert.Proof.Merge.final14 m c]
      exact (Cert.MergeRefIdeal.Read.val_main_v73_eq _ _ _).trans (Cert.MergeRefIdeal.Value.r73 _ _ _)
    · rw [Cert.Proof.Merge.final15 m c]
      exact (Cert.MergeRefIdeal.Read.val_main_v51_eq _ _ _ _).trans (Cert.MergeRefIdeal.Value.r51 _ _ _ _)
    · rw [Cert.Proof.Merge.final16 m c]
      exact (Cert.MergeRefIdeal.Read.val_main_v53_eq _ _ _ _).trans (Cert.MergeRefIdeal.Value.r53 _ _ _ _)
    · rw [Cert.Proof.Merge.final17 m c]
      exact (Cert.MergeRefIdeal.Read.val_main_v55_eq _ _ _ _).trans (Cert.MergeRefIdeal.Value.r55 _ _ _ _)
    · rw [Cert.Proof.Merge.final18 m c]
      exact (Cert.MergeRefIdeal.Read.val_main_v75_eq _ _ _ _ _ _ _).trans (Cert.MergeRefIdeal.Value.r75 _ _ _ _ _ _ _)

theorem frame_ref : Cert.quiescent_MergeRefIdeal := fun m g _ =>
  (θ_run Cert.MergeRefIdeal.defs _ _).mono (fun r h => ⟨fun c => (h c).2.2.2.2.2.2.2.2.2.2, sem_eq_zero_of_no_sems (by decide) r.2⟩)
    (Cert.MergeRefIdeal.Value.run (F := Ideal) m g)

theorem frame_bits : Cert.quiescent_MergeKernel := fun m g _ =>
  cast (by sl_kernel_rfl) (frame_any (F := Bits) m g)

theorem frame_ideal : Cert.quiescent_MergeKernelIdeal := fun m g _ => frame_any m g

theorem preserves : Cert.preserves_MergeKernel_MergeKernelIdeal := trivial

end Cert.Proof.Merge

end
-- ==== Proof.ActPair.lean ====
/- The gradient through the squared relu, fused in the product with the transposed weights. -/
module

public import proofs.«01_k».proof.Defs
public import proofs.«01_k».proof.Proof.Gen.ActKernelIdeal.Value
public import proofs.«01_k».proof.Proof.Gen.ActRefIdeal.Run
public import proofs.«01_k».proof.Proof.Gen.ActRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActKernelIdeal.Value

open Cert.ActKernelIdeal Cert.ActKernelIdeal.Gen

variable (m : (ℓ : Loc nD τ sig) → Buf (Elt Ideal) ℓ)

theorem idx : ∀ t : Fin cfg0.N, win0_0.index t = ![t.val / 8, 0] ∧ win0_1.index t = ![0, t.val % 8, 0] ∧ win0_2.index t = ![t.val / 8, t.val % 8]
    ∧ win0_3.index t = ![t.val / 8, t.val % 8] :=
  (by decide +kernel : ∀ t : Fin grid0.N, _)

/-- The product in front of the relu. -/
def pre (x0 : Vec Ideal S4096x2048 .bf16) (x1 : Vec Ideal S2048x8192 .bf16) (r : Fin 4096) (k : Fin 8192) : EReal :=
  ∑ n : Fin 2048, x0 (ix2 r n) * x1 (ix2 n k)

/-- The cotangent carried back through the second product. -/
def back (x2 : Vec Ideal S8192x2048 .bf16) (x3 : Vec Ideal S4096x2048 .bf16) (r : Fin 4096) (k : Fin 8192) : EReal :=
  ∑ d : Fin 2048, x3 (ix2 r d) * x2 (ix2 k d)

/-- The gradient of the relu's argument as the kernel computes it. -/
def DA (x0 : Vec Ideal S4096x2048 .bf16) (x1 : Vec Ideal S2048x8192 .bf16) (x2 : Vec Ideal S8192x2048 .bf16) (x3 : Vec Ideal S4096x2048 .bf16) : Vec Ideal S4096x8192 .bf16 := fun j =>
  back x2 x3 (j 0) (j 1) * (Ideal.ofBits .f32 0x40000000#32 * max (pre x0 x1 (j 0) (j 1)) 0)

/-- The relu's rows, made on the host. -/
theorem rows (c : Dev nD) (r : Fin 4096) (k : Fin 8192) : (V m c main_v4 : Vec Ideal S4096x8192 .bf16) (ix2 r k) = max (pre (m ((c : Thread nD τ).loc main_arg0)) (m ((c : Thread nD τ).loc main_arg1)) r k) 0 := by
  have e : (V m c main_v4 : Vec Ideal S4096x8192 .bf16) = truncf (F := Ideal) .bf16 (Cert.ActRefIdeal.Read.val_main_v4 (F := Ideal) (m ((c : Thread nD τ).loc main_arg0)) (m ((c : Thread nD τ).loc main_arg1))) bitsLt_bf16_f32 := by
    unfold_abbrev_sides
    after_results
    rfl
  rw [e]
  pointwise [Cert.ActRefIdeal.Read.val_main_v4, Cert.ActRefIdeal.Read.val_main_v2, Cert.ActRefIdeal.Read.val_main_v0, Cert.ActRefIdeal.Read.val_main_v1, Cert.ActRefIdeal.Read.val_main_call0_v0, Cert.ActRefIdeal.Read.val_main_call0_cst, pre]

/-- The weights, given their unit axis on the host. -/
theorem weights (c : Dev nD) (k : Fin 8192) (d : Fin 2048) : (V m c main_v5 : Vec Ideal S1x8192x2048 .bf16) (ix3 0 k d) = (m ((c : Thread nD τ).loc main_arg2) : Vec Ideal S8192x2048 .bf16) (ix2 k d) := by
  have e : (V m c main_v5 : Vec Ideal S1x8192x2048 .bf16) = broadcastInDim S1x8192x2048 ![1, 2] bcast_S8192x2048_S1x8192x2048_1_2 (m ((c : Thread nD τ).loc main_arg2) : Vec Ideal S8192x2048 .bf16) := by
    unfold_abbrev_sides
    after_results
    rfl
  rw [e]
  pointwise

theorem point3 (c : Dev nD) (t : Fin cfg0.N) (y : S1024x1024.Idx) (j : S4096x8192.Idx) (h0 : (j 0 : ℕ) = t.val / 8 * 1024 + y 0) (h1 : (j 1 : ℕ) = t.val % 8 * 1024 + y 1) :
    k0_pay1 (F := Ideal) (iblk m c 0 t) (iblk m c 1 t) (iblk m c 2 t) y = DA (m ((c : Thread nD τ).loc main_arg0)) (m ((c : Thread nD τ).loc main_arg1)) (m ((c : Thread nD τ).loc main_arg2)) (m ((c : Thread nD τ).loc main_arg3)) j := by
  obtain ⟨r, k, rfl⟩ : ∃ (r : Fin 4096) (k : Fin 8192), j = ix2 r k := ⟨j 0, j 1, by funext a; fin_cases a <;> rfl⟩
  have g0 : (r : ℕ) = t.val / 8 * 1024 + (y 0).val := h0
  have g1 : (k : ℕ) = t.val % 8 * 1024 + (y 1).val := h1
  have e : (iblk m c 2 t : Vec Ideal S1024x1024 .bf16) y = max (pre (m ((c : Thread nD τ).loc main_arg0)) (m ((c : Thread nD τ).loc main_arg1)) r k) 0 := by
    refine Eq.trans ?_ (rows m c r k)
    blk_point [iblk, idx t]
  have w (d : Fin 2048) : (iblk m c 1 t : Vec Ideal S1x1024x2048 .bf16) (ix3 0 (y 1) d) = (m ((c : Thread nD τ).loc main_arg2) : Vec Ideal S8192x2048 .bf16) (ix2 k d) := by
    refine Eq.trans ?_ (weights m c k d)
    blk_point [iblk, idx t]
  show _ = back (m ((c : Thread nD τ).loc main_arg2)) (m ((c : Thread nD τ).loc main_arg3)) r k * (Ideal.ofBits .f32 0x40000000#32 * max (pre (m ((c : Thread nD τ).loc main_arg0)) (m ((c : Thread nD τ).loc main_arg1)) r k) 0)
  unfold back
  rw [← e]
  simp only [← w]
  pointwise [k0_pay1]
  blk_point [iblk, V, idx t]

theorem final3 (c : Dev nD) : (dats m 0 c).arrAt 3 cfg0.N = DA (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  frame_out
  refine point3 m c t y _ ?_ ?_ <;> blk_simp [idx t]

end Cert.ActKernelIdeal.Value

namespace Cert.ActRefIdeal.Value

open Cert.ActRefIdeal Cert.ActRefIdeal.Read
open Cert.ActKernelIdeal.Value (pre back DA)

variable (x0 : Vec Ideal S4096x2048 .bf16) (x1 : Vec Ideal S2048x8192 .bf16) (x2 : Vec Ideal S8192x2048 .bf16) (x3 : Vec Ideal S4096x2048 .bf16)

theorem s2 (r : Fin 4096) (k : Fin 8192) : val_main_v2 (F := Ideal) x0 x1 (ix2 r k) = pre x0 x1 r k := by
  pointwise [val_main_v2, val_main_v0, val_main_v1, pre]

/-- Both forms vanish where the relu does. -/
theorem relu_grad (z g w : EReal) : (if 0 < z then g * (w * max z 0) else 0) = g * (w * max z 0) := by
  split
  · rfl
  · next h => rw [max_eq_right (not_lt.1 h), mul_zero, mul_zero]

theorem r17 : val_main_v17 (F := Ideal) x0 x1 x2 x3 = DA x0 x1 x2 x3 := by
  funext j
  obtain ⟨r, k, rfl⟩ : ∃ (r : Fin 4096) (k : Fin 8192), j = ix2 r k := ⟨j 0, j 1, by funext a; fin_cases a <;> rfl⟩
  refine Eq.trans ?_ (relu_grad (pre x0 x1 r k) (back x2 x3 r k) (Ideal.ofBits .f32 0x40000000#32))
  rw [← s2]
  pointwise [val_main_v17, val_main_v16, val_main_v15, val_main_v14, val_main_v13, val_main_v12, val_main_v10, val_main_v9, val_main_v6, val_main_v5, val_main_v4, val_main_v3,
    val_main_call0_v0, val_main_call0_cst, val_main_cst, val_main_cst_1, val_main_cst_2, back]

end Cert.ActRefIdeal.Value

namespace Cert.Proof.Act

theorem algebraic : Cert.algebraic_ActKernelIdeal_ActRefIdeal := by
  pair_intro
  · run_from Cert.ActKernelIdeal.Value.run_blocks m g
  · run_from Cert.ActRefIdeal.Value.run m' g'
    · rw [Cert.ActKernelIdeal.Value.final3 m c]
      exact (Cert.ActRefIdeal.Read.val_main_v17_eq _ _ _ _).trans (Cert.ActRefIdeal.Value.r17 _ _ _ _)

theorem frame_ref : Cert.quiescent_ActRefIdeal := fun m g _ =>
  (θ_run Cert.ActRefIdeal.defs _ _).mono (fun r h => ⟨fun c => (h c).2, sem_eq_zero_of_no_sems (by decide) r.2⟩)
    (Cert.ActRefIdeal.Value.run (F := Ideal) m g)

end Cert.Proof.Act

end
-- ==== Proof.SquarePair.lean ====
/- The weights' gradient behind the squared relu, the square taken on the way into the product. -/
module

public import proofs.«01_k».proof.Defs
public import proofs.«01_k».proof.Proof.Gen.SquareKernelIdeal.Value
public import proofs.«01_k».proof.Proof.Gen.SquareRefIdeal.Run
public import proofs.«01_k».proof.Proof.Gen.SquareRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SquareKernelIdeal.Value

open Cert.SquareKernelIdeal Cert.SquareKernelIdeal.Gen

variable (m : (ℓ : Loc nD τ sig) → Buf (Elt Ideal) ℓ)

theorem idx : ∀ t : Fin cfg0.N, win0_0.index t = ![t.val / 8, t.val % 4] ∧ win0_1.index t = ![t.val % 4, t.val / 4 % 2] ∧ win0_2.index t = ![t.val / 8, t.val / 4 % 2] :=
  (by decide +kernel : ∀ t : Fin grid0.N, _)

/-- The product in front of the relu. -/
def pre (x0 : Vec Ideal S4096x2048 .bf16) (x1 : Vec Ideal S2048x8192 .bf16) (r : Fin 4096) (k : Fin 8192) : EReal :=
  ∑ n : Fin 2048, x0 (ix2 r n) * x1 (ix2 n k)

/-- The gradient of the weights. -/
def DW (x0 : Vec Ideal S4096x2048 .bf16) (x1 : Vec Ideal S2048x8192 .bf16) (x3 : Vec Ideal S4096x2048 .bf16) : Vec Ideal S8192x2048 .bf16 := fun j =>
  ∑ r : Fin 4096, max (pre x0 x1 r (j 0)) 0 * max (pre x0 x1 r (j 0)) 0 * x3 (ix2 r (j 1))

/-- The relu's rows, transposed, made on the host. -/
theorem rows (c : Dev nD) (r : Fin 4096) (k : Fin 8192) : (V m c main_v5 : Vec Ideal S8192x4096 .bf16) (ix2 k r) = max (pre (m ((c : Thread nD τ).loc main_arg0)) (m ((c : Thread nD τ).loc main_arg1)) r k) 0 := by
  have e : (V m c main_v5 : Vec Ideal S8192x4096 .bf16) = transpose S8192x4096 [1, 0] (truncf (F := Ideal) .bf16 (Cert.SquareRefIdeal.Read.val_main_v4 (F := Ideal) (m ((c : Thread nD τ).loc main_arg0)) (m ((c : Thread nD τ).loc main_arg1))) bitsLt_bf16_f32) transposes_S4096x8192_S8192x4096_1_0 := by
    unfold_abbrev_sides
    after_results
    rfl
  rw [e]
  pointwise [Cert.SquareRefIdeal.Read.val_main_v4, Cert.SquareRefIdeal.Read.val_main_v2, Cert.SquareRefIdeal.Read.val_main_v0, Cert.SquareRefIdeal.Read.val_main_v1, Cert.SquareRefIdeal.Read.val_main_call0_v0, Cert.SquareRefIdeal.Read.val_main_call0_cst, pre]

theorem zero (j : S1024x1024.Idx) : k0_pay1 (F := Ideal) j = 0 := by
  pointwise [k0_pay1]

theorem pay2 (a : Vec Ideal S1024x1024 .f32) (x y : Vec Ideal S1024x1024 .bf16) (j : S1024x1024.Idx) : k0_pay2 (F := Ideal) a x y j
    = a j + ∑ r : Fin 1024, x (ix2 (j 0) r) * x (ix2 (j 0) r) * y (ix2 r (j 1)) := by
  pointwise [k0_pay2]

/-- What a point adds to the sum it carries. -/
def term (c : Dev nD) (n : ℕ) (h : n < cfg0.N) (y : S1024x1024.Idx) : EReal :=
  have x : Vec Ideal S1024x1024 .bf16 := iblk m c 0 ⟨n, h⟩
  have z : Vec Ideal S1024x1024 .bf16 := iblk m c 1 ⟨n, h⟩
  ∑ r : Fin 1024, x (ix2 (y 0) r) * x (ix2 (y 0) r) * z (ix2 r (y 1))

theorem reset (c : Dev nD) (t : Fin cfg0.N) (h : t.val % 4 = 0) (y : S1024x1024.Idx) : (outsAt0 m c t.val t.isLt).2 y = 0 + term m c t.val t.isLt y := by
  rw [outsAt0_A m c t h (by omega)]; dsimp only; frame_out; rw [pay2, zero]; rfl

theorem step (c : Dev nD) (t : Fin cfg0.N) (h : ¬t.val % 4 = 0) (y : S1024x1024.Idx) :
    (outsAt0 m c t.val t.isLt).2 y = (outsAt0 m c (t.val - 1) (Nat.lt_of_le_of_lt (Nat.sub_le _ _) t.isLt)).2 y + term m c t.val t.isLt y := by
  by_cases h1 : t.val % 4 = 3
  · rw [outsAt0_C m c t h h1]; dsimp only; frame_out; rw [pay2, (Memref.isWhole_whole _).read_unread]; rfl
  · rw [outsAt0_B m c t h h1]; dsimp only; frame_out; rw [pay2, (Memref.isWhole_whole _).read_unread]; rfl

/-- The summand at row `R` for row `k` and column `d` of the weights. -/
def part (x0 : Vec Ideal S4096x2048 .bf16) (x1 : Vec Ideal S2048x8192 .bf16) (x3 : Vec Ideal S4096x2048 .bf16) (k : Fin 8192) (d : Fin 2048) (R : Fin 4096) : EReal :=
  max (pre x0 x1 R k) 0 * max (pre x0 x1 R k) 0 * x3 (ix2 R d)

theorem term_at (c : Dev nD) (t : Fin cfg0.N) (y : S1024x1024.Idx) (k : Fin 8192) (d : Fin 2048) (s : Fin 4) (hs : t.val % 4 = s.val)
    (hk : (k : ℕ) = t.val / 8 * 1024 + (y 0).val) (hd : (d : ℕ) = t.val / 4 % 2 * 1024 + (y 1).val) :
    term m c t.val t.isLt y = ∑ r : Fin 1024, part (m ((c : Thread nD τ).loc main_arg0)) (m ((c : Thread nD τ).loc main_arg1)) (m ((c : Thread nD τ).loc main_arg3)) k d ⟨s.val * 1024 + r.val, by omega⟩ := by
  unfold term part
  refine congrArg (Finset.sum (M := EReal) (Finset.univ : Finset (Fin 1024))) (funext fun r : Fin 1024 => ?_)
  have e : (iblk m c 0 t : Vec Ideal S1024x1024 .bf16) (ix2 (y 0) r) = max (pre (m ((c : Thread nD τ).loc main_arg0)) (m ((c : Thread nD τ).loc main_arg1)) ⟨s.val * 1024 + r.val, by omega⟩ k) 0 := by
    refine Eq.trans ?_ (rows m c ⟨s.val * 1024 + r.val, by omega⟩ k)
    blk_point [iblk, idx t]
  have w : (iblk m c 1 t : Vec Ideal S1024x1024 .bf16) (ix2 r (y 1)) = (m ((c : Thread nD τ).loc main_arg3) : Vec Ideal S4096x2048 .bf16) (ix2 ⟨s.val * 1024 + r.val, by omega⟩ d) := by
    blk_point [iblk, V, idx t]
  exact congrArg₂ (fun a b : EReal => a * a * b) e w

theorem out_eq (c : Dev nD) (t : Fin cfg0.N) (h : t.val % 4 = 3) (y : S1024x1024.Idx) : (outsAt0 m c t.val t.isLt).1 y = (outsAt0 m c t.val t.isLt).2 y := by
  rw [outsAt0_C m c t (by omega) h]; dsimp only; frame_out; rfl

theorem last (c : Dev nD) (t : Fin cfg0.N) (h : t.val % 4 = 3) (y : S1024x1024.Idx) (j : S8192x2048.Idx)
    (h0 : (j 0 : ℕ) = t.val / 8 * 1024 + y 0) (h1 : (j 1 : ℕ) = t.val / 4 % 2 * 1024 + y 1) :
    (outsAt0 m c t.val t.isLt).1 y = DW (m ((c : Thread nD τ).loc main_arg0)) (m ((c : Thread nD τ).loc main_arg1)) (m ((c : Thread nD τ).loc main_arg3)) j := by
  obtain ⟨k, d, rfl⟩ : ∃ (k : Fin 8192) (d : Fin 2048), j = ix2 k d := ⟨j 0, j 1, by funext a; fin_cases a <;> rfl⟩
  have R := Pipeline.eq_sum_fin_of_reset_step_apply_of_flush (N := cfg0.N) (M := EReal)
    (fun n hn => fun i : S1024x1024.Idx => (outsAt0 m c n hn).2 i) 4 (fun _ => 0) (fun t i => term m c t.val t.isLt i)
    (fun t h i => reset m c t h i) (fun t h i => step m c t h i) t h y
  refine (out_eq m c t h y).trans (R.trans ((zero_add _).trans ?_))
  refine Eq.trans ?_ (Fin.sum_mul_add_fin (M := EReal) 4 1024 (part (m ((c : Thread nD τ).loc main_arg0)) (m ((c : Thread nD τ).loc main_arg1)) (m ((c : Thread nD τ).loc main_arg3)) k d) rfl)
  refine congrArg (Finset.sum (M := EReal) (Finset.univ : Finset (Fin 4))) (funext fun s : Fin 4 => ?_)
  have hs : s.val < 4 := s.isLt
  have g0 : (k : ℕ) = t.val / 8 * 1024 + (y 0).val := h0
  have g1 : (d : ℕ) = t.val / 4 % 2 * 1024 + (y 1).val := h1
  exact term_at m c ⟨4 * (t.val / 4) + s.val, _⟩ y k d s (by show (4 * (t.val / 4) + s.val) % 4 = s.val; omega)
    (by show k.val = (4 * (t.val / 4) + s.val) / 8 * 1024 + (y 0).val; omega) (by show d.val = (4 * (t.val / 4) + s.val) / 4 % 2 * 1024 + (y 1).val; omega)

theorem final (c : Dev nD) : (dats m 0 c).arrAt 2 cfg0.N = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  blk_simp
  rw [after0_2]
  refine last m c t ((flush0_2 t).mp hf) y _ ?_ ?_ <;> blk_simp [idx t]

end Cert.SquareKernelIdeal.Value

namespace Cert.SquareRefIdeal.Value

open Cert.SquareRefIdeal Cert.SquareRefIdeal.Read
open Cert.SquareKernelIdeal.Value (pre DW)

variable (x0 : Vec Ideal S4096x2048 .bf16) (x1 : Vec Ideal S2048x8192 .bf16) (x2 : Vec Ideal S8192x2048 .bf16) (x3 : Vec Ideal S4096x2048 .bf16)

theorem s2 (r : Fin 4096) (k : Fin 8192) : val_main_v2 (F := Ideal) x0 x1 (ix2 r k) = pre x0 x1 r k := by
  pointwise [val_main_v2, val_main_v0, val_main_v1, pre]

theorem r10 : val_main_v10 (F := Ideal) x0 x1 x3 = DW x0 x1 x3 := by
  funext j
  obtain ⟨k, d, rfl⟩ : ∃ (k : Fin 8192) (d : Fin 2048), j = ix2 k d := ⟨j 0, j 1, by funext a; fin_cases a <;> rfl⟩
  refine Eq.trans ?_ (congrArg (Finset.sum (M := EReal) (Finset.univ : Finset (Fin 4096))) (funext fun r => (mul_comm (x3 (ix2 r d)) (max (pre x0 x1 r k) 0 * max (pre x0 x1 r k) 0))))
  simp only [← s2]
  pointwise [val_main_v10, val_main_v9, val_main_v8, val_main_v7, val_main_v5, val_main_v4, val_main_call0_v0, val_main_call0_cst]

end Cert.SquareRefIdeal.Value

namespace Cert.Proof.Square

theorem algebraic : Cert.algebraic_SquareKernelIdeal_SquareRefIdeal := by
  pair_intro
  · run_from Cert.SquareKernelIdeal.Value.run_blocks m g
  · run_from Cert.SquareRefIdeal.Value.run m' g'
    · rw [Cert.SquareKernelIdeal.Value.final m c]
      exact (Cert.SquareRefIdeal.Read.val_main_v10_eq _ _ _).trans (Cert.SquareRefIdeal.Value.r10 _ _ _)

theorem frame_ref : Cert.quiescent_SquareRefIdeal := fun m g _ =>
  (θ_run Cert.SquareRefIdeal.defs _ _).mono (fun r h => ⟨fun c => (h c).2, sem_eq_zero_of_no_sems (by decide) r.2⟩)
    (Cert.SquareRefIdeal.Value.run (F := Ideal) m g)

end Cert.Proof.Square

end
-- ==== Proof.GmlpSpec.lean ====
/-
  The spatially gated unit over one chunk of 128 rows: its gelu, its norm, its mixing along the rows and the gradients of all of
  them, at one element. A chunk needs no row outside itself.
-/
module

public import proofs.«01_k».proof.Proof.GluReal

@[expose] public section

noncomputable section

open Idealize.ShloMosaic

namespace Cert.Gmlp

open Cert.Gelu (gelu grad)

/-- The column of the first half. -/
def lo (j : Fin 1024) : Fin 2048 := ⟨j.val, by omega⟩

/-- The column of the second half. -/
def hi (j : Fin 1024) : Fin 2048 := ⟨1024 + j.val, by omega⟩

/-- The group of a column. -/
def grp (j : Fin 1024) : Fin 8 := ⟨j.val / 128, by omega⟩

/-- Column `l` of group `g`. -/
def col (g : Fin 8) (l : Fin 128) : Fin 1024 := ⟨g.val * 128 + l.val, by omega⟩

/-- An entry of a lower triangle. -/
def tri (a k : Fin 128) (x : EReal) : EReal := if (k : ℕ) ≤ a then x else 0

section Chunk

variable (P : Fin 128 → Fin 2048 → EReal) (G : Fin 1024 → EReal) (W : Fin 8 → Fin 128 → Fin 128 → EReal)
  (B : Fin 8 → Fin 128 → EReal) (D : Fin 128 → Fin 1024 → EReal)

/-- The gated half. -/
def u (a : Fin 128) (j : Fin 1024) : EReal := gelu (P a (lo j))

/-- The half that is normed and mixed. -/
def v (a : Fin 128) (j : Fin 1024) : EReal := gelu (P a (hi j))

/-- A row's mean square, shifted. -/
def ms (a : Fin 128) : EReal :=
  Ideal.div (∑ k : Fin 1024, v P a k * v P a k) (Ideal.ofBits .f32 0x44800000#32) + Ideal.ofBits .f32 0x358637BD#32

/-- Its inverse root. -/
def rs (a : Fin 128) : EReal := Ideal.rsqrt (ms P a)

/-- The normed row. -/
def vh (a : Fin 128) (j : Fin 1024) : EReal := v P a j * rs P a

/-- The normed row times the gain. -/
def vn (a : Fin 128) (j : Fin 1024) : EReal := vh P a j * G j

/-- The gradient of the mixed rows. -/
def dm (a : Fin 128) (j : Fin 1024) : EReal := D a j * u P a j

/-- The mixed rows. -/
def mixed (a : Fin 128) (j : Fin 1024) : EReal := (∑ k : Fin 128, tri a k (W (grp j) a k) * vn P G k j) + B (grp j) a

/-- The gradient of the gated half. -/
def du (a : Fin 128) (j : Fin 1024) : EReal := D a j * mixed P G W B a j

/-- The gradient of the normed rows times the gain. -/
def dvn (a : Fin 128) (j : Fin 1024) : EReal := ∑ k : Fin 128, tri k a (W (grp j) k a) * dm P D k j

/-- The gradient of the normed rows. -/
def dvh (a : Fin 128) (j : Fin 1024) : EReal := dvn P W D a j * G j

/-- The gradient of the rows before their norm. -/
def dv (a : Fin 128) (j : Fin 1024) : EReal :=
  rs P a * (dvh P G W D a j - vh P a j * Ideal.div (∑ l : Fin 1024, dvh P G W D a l * vh P a l) (Ideal.ofBits .f32 0x44800000#32))

/-- The chunk's part of the gain's gradient. -/
def dg (j : Fin 1024) : EReal := ∑ a : Fin 128, dvn P W D a j * vh P a j

/-- The chunk's part of the mixing weights' gradient. -/
def dw (g : Fin 8) (a b : Fin 128) : EReal := tri a b (∑ l : Fin 128, dm P D a (col g l) * vn P G b (col g l))

/-- The chunk's part of the mixing bias's gradient. -/
def db (g : Fin 8) (a : Fin 128) : EReal := ∑ l : Fin 128, dm P D a (col g l)

end Chunk

end Cert.Gmlp

end
-- ==== Proof.GmlpBlock.lean ====
/-
  The spatially gated unit's backward call: what one grid point adds to the three sums and stores in its rows, from its blocks.
-/
module

public import proofs.«01_k».proof.Proof.GmlpSpec
public import proofs.«01_k».proof.Proof.Gen.GmlpKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.Gelu (gelu grad th)
open Cert.Gmlp

variable (m : (ℓ : Loc nD τ sig) → Buf (Elt Ideal) ℓ)

/-! ## Reading a block that was stored group by group -/

/-- A group's store, read. -/
theorem canon_group {R C : ℕ} {e : EltTy} (k : ℕ) (inb : ∀ a, (![k, 0, 0] : Fin 3 → ℕ) a + (![1, R, C] : Fin 3 → ℕ) a ≤ (![8, R, C] : Fin 3 → ℕ) a)
    (w : (⟨3, ![1, R, C]⟩ : Shape).Idx → Elt Ideal e) (L : List (View.Piece (Elt Ideal) (⟨3, ![8, R, C]⟩ : Shape) e)) (g : Fin 8) (a : Fin R) (b : Fin C) :
    View.canon ((⟨Rect.unit (s := (⟨3, ![8, R, C]⟩ : Shape)) ![k, 0, 0] ![1, R, C] inb, w⟩ : View.Piece (Elt Ideal) (⟨3, ![8, R, C]⟩ : Shape) e) :: L) (ix3 g a b)
      = if (g : ℕ) = k then w (ix3 0 a b) else View.canon L (ix3 g a b) := by
  split
  · rename_i h
    have e : (ix3 g a b : (⟨3, ![8, R, C]⟩ : Shape).Idx) = (Rect.unit (s := (⟨3, ![8, R, C]⟩ : Shape)) ![k, 0, 0] ![1, R, C] inb).emb (ix3 0 a b) := by
      funext i; apply Fin.ext; rw [Rect.emb_apply]; fin_cases i <;> simp [Rect.unit, h]
    rw [e]; exact View.canon_cons_emb _ _ _ _
  · rename_i h
    refine View.canon_cons_of_not_mem _ _ fun hm => h ?_
    have h0 := (Rect.mem_set_unit (inb := inb)).mp hm 0
    simp at h0
    omega

/-- A group's load. -/
theorem ld_group {R C : ℕ} {e : EltTy} (k : ℕ) (inb : ∀ a, (![k, 0, 0] : Fin 3 → ℕ) a + (![1, R, C] : Fin 3 → ℕ) a ≤ (![8, R, C] : Fin 3 → ℕ) a)
    (X : (⟨3, ![8, R, C]⟩ : Shape).Idx → Elt Ideal e) (g : Fin 8) (h : (g : ℕ) = k) (z : Fin 1) (a : Fin R) (b : Fin C) :
    View.ld X (Rect.unit (s := (⟨3, ![8, R, C]⟩ : Shape)) ![k, 0, 0] ![1, R, C] inb) (ix3 z a b) = X (ix3 g a b) := by
  show X _ = X _
  congr 1
  funext i; apply Fin.ext; show ((Rect.unit (s := (⟨3, ![8, R, C]⟩ : Shape)) ![k, 0, 0] ![1, R, C] inb).emb (ix3 z a b) i : ℕ) = _
  rw [Rect.emb_apply]; fin_cases i <;> simp [Rect.unit, h]

/-- A group's load of what the stores so far left. -/
theorem readCov_group {sig : RefSig} {κ : Kind} {sp : Space} {R C : ℕ} {e : EltTy} (v : View sig κ sp (⟨3, ![8, R, C]⟩ : Shape) e) (k : ℕ)
    (inb : ∀ a, (![k, 0, 0] : Fin 3 → ℕ) a + (![1, R, C] : Fin 3 → ℕ) a ≤ (![8, R, C] : Fin 3 → ℕ) a)
    (L : List (View.Piece (Elt Ideal) (⟨3, ![8, R, C]⟩ : Shape) e)) (h : k < 8) (z : Fin 1) (a : Fin R) (b : Fin C) :
    v.readCov L (Rect.unit (s := (⟨3, ![8, R, C]⟩ : Shape)) ![k, 0, 0] ![1, R, C] inb).toLoadRect (ix3 z a b) = View.canon L (ix3 ⟨k, h⟩ a b) := by
  rw [View.readCov_eq_canon']
  exact ld_group k inb (View.canon L) ⟨k, h⟩ rfl z a b

/-- A whole block's load. -/
theorem ld_whole {e : EltTy} (inb : ∀ a, (![0, 0] : Fin 2 → ℕ) a + (![256, 1024] : Fin 2 → ℕ) a ≤ (![256, 1024] : Fin 2 → ℕ) a)
    (X : S256x1024.Idx → Elt Ideal e) (r : Fin 256) (j : Fin 1024) :
    (fun y => X ((Rect.unit (s := S256x1024) ![0, 0] ![256, 1024] inb).toLoadRect.idx y)) (ix2 r j) = X (ix2 r j) := by
  show X _ = X _
  congr 1
  funext i; apply Fin.ext; show ((Rect.unit (s := S256x1024) ![0, 0] ![256, 1024] inb).emb (ix2 r j) i : ℕ) = _
  rw [Rect.emb_apply]; fin_cases i <;> simp [Rect.unit]

/-- A tile's store, read. -/
theorem canon_tile {e : EltTy} (p q : ℕ) (inb : ∀ a, (![p, q] : Fin 2 → ℕ) a + (![128, 128] : Fin 2 → ℕ) a ≤ (![256, 1024] : Fin 2 → ℕ) a)
    (w : (⟨2, ![128, 128]⟩ : Shape).Idx → Elt Ideal e) (L : List (View.Piece (Elt Ideal) S256x1024 e)) (r : Fin 256) (j : Fin 1024)
    (r' : Fin 2) (g : Fin 8) (a b : Fin 128) (hr : (r : ℕ) = r' * 128 + a) (hj : (j : ℕ) = g * 128 + b) (hp : p = p / 128 * 128) (hq : q = q / 128 * 128) :
    View.canon ((⟨Rect.unit (s := S256x1024) ![p, q] ![128, 128] inb, w⟩ : View.Piece (Elt Ideal) S256x1024 e) :: L) (ix2 r j)
      = if (r' : ℕ) = p / 128 ∧ (g : ℕ) = q / 128 then w (ix2 a b) else View.canon L (ix2 r j) := by
  split
  · rename_i h
    have e : (ix2 r j : S256x1024.Idx) = (Rect.unit (s := S256x1024) ![p, q] ![128, 128] inb).emb (ix2 a b) := by
      funext i; apply Fin.ext; rw [Rect.emb_apply]; fin_cases i <;> simp [Rect.unit] <;> omega
    rw [e]; exact View.canon_cons_emb _ _ _ _
  · rename_i h
    refine View.canon_cons_of_not_mem _ _ fun hm => h ?_
    have h0 := (Rect.mem_set_unit (inb := inb)).mp hm 0
    have h1 := (Rect.mem_set_unit (inb := inb)).mp hm 1
    simp at h0 h1
    omega

/-! ## The chunks of a point's blocks -/

/-- Row `a` of chunk `q` of the point's rows. -/
def rowq (q : Fin 2) (a : Fin 128) : Fin 256 := ⟨q.val * 128 + a.val, by omega⟩

section Step

variable (x0 : Vec Ideal S256x2048 .bf16) (x1 : Vec Ideal S1x1024 .f32) (x2 x3 : Vec Ideal S8x128x128 .f32) (x4 : Vec Ideal S8x128x1 .f32)
  (x5 : Vec Ideal S256x1024 .bf16)

def Pq (q : Fin 2) (a : Fin 128) (j : Fin 2048) : EReal := x0 (ix2 (rowq q a) j)
def Gq (j : Fin 1024) : EReal := x1 (ix2 0 j)
def Wq (g : Fin 8) (a b : Fin 128) : EReal := x2 (ix3 g a b)
def Bq (g : Fin 8) (a : Fin 128) : EReal := x4 (ix3 g a 0)
def Dq (q : Fin 2) (a : Fin 128) (j : Fin 1024) : EReal := x5 (ix2 (rowq q a) j)

end Step

theorem named_k : (Named.named κ "gelu_k" (0x3D372713#32 : BitVec (FTy.bits .f32)) : Ideal .f32) = ((8943 / 200000 : ℝ) : EReal) := by
  rfl

theorem named_3k : (Named.named κ "gelu_3k" (0x3E095D4F#32 : BitVec (FTy.bits .f32)) : Ideal .f32) = ((26829 / 200000 : ℝ) : EReal) := by
  rfl

theorem pay7 (x : Vec Ideal S256x2048 .bf16) : k0_pay7 (F := Ideal) x = fun j => gelu (x j) := by
  funext j
  pointwise [k0_pay7, k0_pay6, k0_pay5, gelu, th]
  rfl

theorem pay8 (x : Vec Ideal S256x2048 .bf16) : k0_pay8 (F := Ideal) x = fun j => grad (x j) := by
  funext j
  pointwise [k0_pay8, k0_pay6, k0_pay5, grad, th]
  rfl

theorem pay9 (x : Vec Ideal S256x2048 .bf16) : k0_pay9 (F := Ideal) x = fun j => gelu (x (ix2 (j 0) (lo (j 1)))) := by
  funext j
  unfold k0_pay9; rw [pay7]
  pointwise [lo]

theorem pay10 (x : Vec Ideal S256x2048 .bf16) : k0_pay10 (F := Ideal) x = fun j => gelu (x (ix2 (j 0) (hi (j 1)))) := by
  funext j
  unfold k0_pay10; rw [pay7]
  pointwise [hi]

/-- A row's shifted mean square. -/
def rms (x : Vec Ideal S256x2048 .bf16) (r : Fin 256) : EReal :=
  Ideal.div (∑ k : Fin 1024, gelu (x (ix2 r (hi k))) * gelu (x (ix2 r (hi k)))) (Ideal.ofBits .f32 0x44800000#32) + Ideal.ofBits .f32 0x358637BD#32

theorem pay12 (x : Vec Ideal S256x2048 .bf16) :
    k0_pay12 (F := Ideal) (k0_pay11 (F := Ideal) x) = fun j => Ideal.rsqrt (rms x (j 0)) := by
  funext j
  unfold k0_pay11; rw [pay10]
  pointwise [k0_pay12, rms]

theorem pay13 (x : Vec Ideal S256x2048 .bf16) :
    k0_pay13 (F := Ideal) (k0_pay10 (F := Ideal) x) (k0_pay11 (F := Ideal) x) = fun j => gelu (x (ix2 (j 0) (hi (j 1)))) * Ideal.rsqrt (rms x (j 0)) := by
  funext j
  unfold k0_pay13; rw [pay12, pay10]
  pointwise []

theorem pay15 (x : Vec Ideal S256x2048 .bf16) (g : Vec Ideal S1x1024 .f32) :
    k0_pay15 (F := Ideal) (k0_pay10 (F := Ideal) x) (k0_pay11 (F := Ideal) x) g
      = fun j => gelu (x (ix2 (j 0) (hi (j 1)))) * Ideal.rsqrt (rms x (j 0)) * g (ix2 0 (j 1)) := by
  funext j
  unfold k0_pay15 k0_pay14; rw [pay13]
  pointwise []

theorem lowTri (a b : Fin 128) (x y : EReal) :
    Scalar.select (IntOp.cmpi .sge (BitVec.ofNat 32 a) (BitVec.ofNat 32 b)) x y = if (b : ℕ) ≤ a then x else y := by
  rw [WordCmp.cmpi_sge_ofNat (by norm_num; omega) (by norm_num; omega)]
  by_cases h : (b : ℕ) ≤ a <;> simp [h, Scalar.select]

theorem upTri (a b : Fin 128) (x y : EReal) :
    Scalar.select (IntOp.cmpi .sle (BitVec.ofNat 32 a) (BitVec.ofNat 32 b)) x y = if (a : ℕ) ≤ b then x else y := by
  rw [WordCmp.cmpi_sle_ofNat (by norm_num; omega) (by norm_num; omega)]
  by_cases h : (a : ℕ) ≤ b <;> simp [h, Scalar.select]

set_option maxHeartbeats 4000000 in
theorem db_B (c : Dev nD) (t : Fin cfg0.N) (h : ¬ t.val % 16 = 0) (g : Fin 8) (a : Fin 128) :
    (outsAt0 m c t.val t.isLt).2.2.2 (ix3 g a 0)
      = (outsAt0 m c (t.val - 1) (Nat.lt_of_le_of_lt (Nat.sub_le _ _) t.isLt)).2.2.2 (ix3 g a 0)
        + db (Pq (iblk m c 0 t) 0) (Dq (iblk m c 5 t) 0) g a + db (Pq (iblk m c 0 t) 1) (Dq (iblk m c 5 t) 1) g a := by
  rw [outsAt0_B m c t h]; dsimp only
  frame_out [View.readCov_cons_toLoadRect]
  simp only [pay9]
  fin_cases g
  all_goals
    repeat (refine (canon_group _ _ _ _ _ _ _).trans ?_; first | refine (if_neg (by decide)).trans ?_ | refine (if_pos (by decide)).trans ?_)
    pointwise [db, dm, u, Pq, Dq, rowq, col]

set_option maxHeartbeats 4000000 in
theorem dw_B (c : Dev nD) (t : Fin cfg0.N) (h : ¬ t.val % 16 = 0) (g : Fin 8) (a b : Fin 128) :
    (outsAt0 m c t.val t.isLt).2.2.1 (ix3 g a b)
      = (outsAt0 m c (t.val - 1) (Nat.lt_of_le_of_lt (Nat.sub_le _ _) t.isLt)).2.2.1 (ix3 g a b)
        + dw (Pq (iblk m c 0 t) 0) (Gq (iblk m c 1 t)) (Dq (iblk m c 5 t) 0) g a b + dw (Pq (iblk m c 0 t) 1) (Gq (iblk m c 1 t)) (Dq (iblk m c 5 t) 1) g a b := by
  rw [outsAt0_B m c t h]; dsimp only
  frame_out [View.readCov_cons_toLoadRect]
  simp only [pay9, pay10]
  unfold k0_pay11
  simp only [pay10]
  fin_cases g
  all_goals
    repeat (refine (canon_group _ _ _ _ _ _ _).trans ?_; first | refine (if_neg (by decide)).trans ?_ | refine (if_pos (by decide)).trans ?_)
    pointwise [dw, tri, dm, u, vn, vh, rs, ms, v, Pq, Gq, Dq, rowq, col]
    simp only [lowTri]

set_option maxHeartbeats 4000000 in
theorem db_A (c : Dev nD) (t : Fin cfg0.N) (h : t.val % 16 = 0) (g : Fin 8) (a : Fin 128) (z : EReal) (hz : z = 0) :
    (outsAt0 m c t.val t.isLt).2.2.2 (ix3 g a 0)
      = z + db (Pq (iblk m c 0 t) 0) (Dq (iblk m c 5 t) 0) g a + db (Pq (iblk m c 0 t) 1) (Dq (iblk m c 5 t) 1) g a := by
  rw [outsAt0_A m c t h]; dsimp only
  frame_out [View.readCov_cons_toLoadRect]
  simp only [pay9]
  have e0 : ∀ y, (k0_pay4 (F := Ideal)) y = z := fun y => by rw [hz]; pointwise [k0_pay4]
  fin_cases g
  all_goals
    repeat (refine (canon_group _ _ _ _ _ _ _).trans ?_; first | refine (if_neg (by decide)).trans ?_ | refine (if_pos (by decide)).trans ?_)
    generalize hR : View.readCov (Val := Elt Ideal) (ms0_9 t).view _ _ = R
    have eR : R (ix3 0 a 0) = z := by
      rw [← hR]
      refine (readCov_group _ _ _ _ (by decide) _ _ _).trans ?_
      repeat (refine (canon_group _ _ _ _ _ _ _).trans ?_; refine (if_neg (by decide)).trans ?_)
      rw [View.canon_cons_unit_lit' _ _ _ (by decide)]
      exact e0 _
    clear hR
    pointwise [db, dm, u, Pq, Dq, rowq, col, eR]

set_option maxHeartbeats 4000000 in
theorem dw_A (c : Dev nD) (t : Fin cfg0.N) (h : t.val % 16 = 0) (g : Fin 8) (a b : Fin 128) (z : EReal) (hz : z = 0) :
    (outsAt0 m c t.val t.isLt).2.2.1 (ix3 g a b)
      = z
        + dw (Pq (iblk m c 0 t) 0) (Gq (iblk m c 1 t)) (Dq (iblk m c 5 t) 0) g a b + dw (Pq (iblk m c 0 t) 1) (Gq (iblk m c 1 t)) (Dq (iblk m c 5 t) 1) g a b := by
  rw [outsAt0_A m c t h]; dsimp only
  frame_out [View.readCov_cons_toLoadRect]
  simp only [pay9, pay10]
  unfold k0_pay11
  simp only [pay10]
  have e0 : ∀ y, (k0_pay3 (F := Ideal)) y = z := fun y => by rw [hz]; pointwise [k0_pay3]
  fin_cases g
  all_goals
    repeat (refine (canon_group _ _ _ _ _ _ _).trans ?_; first | refine (if_neg (by decide)).trans ?_ | refine (if_pos (by decide)).trans ?_)
    generalize hR : View.readCov (Val := Elt Ideal) (ms0_8 t).view _ _ = R
    have eR : R (ix3 0 a b) = z := by
      rw [← hR]
      refine (readCov_group _ _ _ _ (by decide) _ _ _).trans ?_
      repeat (first | (rw [View.canon_cons_unit_lit' _ _ _ (by decide)]; exact e0 _) | (refine (canon_group _ _ _ _ _ _ _).trans ?_; refine (if_neg (by decide)).trans ?_))
    clear hR
    pointwise [dw, tri, dm, u, vn, vh, rs, ms, v, Pq, Gq, Dq, rowq, col, eR]
    simp only [lowTri]

/-- The block's rows, chunk by chunk. -/
theorem sum_rows (f : Fin 256 → EReal) : (∑ r : Fin 256, f r) = (∑ a : Fin 128, f (rowq 0 a)) + ∑ a : Fin 128, f (rowq 1 a) := by
  rw [← Fin.sum_mul_add_fin (M := EReal) 2 128 f rfl, Fin.sum_univ_two]
  rfl

/-- A half's store, read. -/
theorem canon_half {e : EltTy} (p : ℕ) (inb : ∀ a, (![0, p] : Fin 2 → ℕ) a + (![256, 1024] : Fin 2 → ℕ) a ≤ (![256, 2048] : Fin 2 → ℕ) a)
    (w : (⟨2, ![256, 1024]⟩ : Shape).Idx → Elt Ideal e) (L : List (View.Piece (Elt Ideal) S256x2048 e)) (r : Fin 256) (l : Fin 2048) (j : Fin 1024)
    (i : ℕ) (hl : (l : ℕ) = i * 1024 + j) (hp : p = p / 1024 * 1024) :
    View.canon ((⟨Rect.unit (s := S256x2048) ![0, p] ![256, 1024] inb, w⟩ : View.Piece (Elt Ideal) S256x2048 e) :: L) (ix2 r l)
      = if i = p / 1024 then w (ix2 r j) else View.canon L (ix2 r l) := by
  split
  · rename_i h
    have e : (ix2 r l : S256x2048.Idx) = (Rect.unit (s := S256x2048) ![0, p] ![256, 1024] inb).emb (ix2 r j) := by
      funext i; apply Fin.ext; rw [Rect.emb_apply]; fin_cases i <;> simp [Rect.unit] <;> omega
    rw [e]; exact View.canon_cons_emb _ _ _ _
  · rename_i h
    refine View.canon_cons_of_not_mem _ _ fun hm => h ?_
    have h1 := (Rect.mem_set_unit (inb := inb)).mp hm 1
    simp at h1
    omega

theorem col_grp (g : Fin 8) (b : Fin 128) : grp (col g b) = g := by
  apply Fin.ext; simp only [grp, col]; omega

theorem col_split (j : Fin 1024) : ∃ g b, j = col g b :=
  ⟨⟨j.val / 128, by omega⟩, ⟨j.val % 128, by omega⟩, by apply Fin.ext; simp only [col]; omega⟩

set_option maxHeartbeats 4000000 in
theorem duv_lo (c : Dev nD) (t : Fin cfg0.N) (q : Fin 2) (a : Fin 128) (j : Fin 1024) :
    (outsAt0 m c t.val t.isLt).1 (ix2 (rowq q a) (lo j))
      = du (Pq (iblk m c 0 t) q) (Gq (iblk m c 1 t)) (Wq (iblk m c 2 t)) (Bq (iblk m c 4 t)) (Dq (iblk m c 5 t) q) a j * grad (Pq (iblk m c 0 t) q a (lo j)) := by
  by_cases h : t.val % 16 = 0
  all_goals
    first | rw [outsAt0_A m c t h] | rw [outsAt0_B m c t h]
    dsimp only
    frame_out [View.readCov_cons_toLoadRect]
    refine (canon_half _ _ _ _ _ _ j 0 (by simp [lo]) (by decide)).trans ((if_neg (by decide)).trans ?_)
    refine (canon_half _ _ _ _ _ _ j 0 (by simp [lo]) (by decide)).trans ((if_pos (by decide)).trans ?_)
    generalize hS : View.readCov (Val := Elt Ideal) (View.whole cc0_scratch0) _ _ = S
    have eS : S (ix2 (rowq q a) j) = du (Pq (iblk m c 0 t) q) (Gq (iblk m c 1 t)) (Wq (iblk m c 2 t)) (Bq (iblk m c 4 t)) (Dq (iblk m c 5 t) q) a j := by
      obtain ⟨g, b, rfl⟩ := col_split j
      rw [← hS]; refine (congrFun (View.readCov_eq_canon' (Val := Elt Ideal) _ _ _) _).trans ?_
      refine (ld_whole _ _ _ _).trans ?_
      simp only [pay9, pay10]
      unfold k0_pay11
      simp only [pay10]
      fin_cases q <;> fin_cases g
      all_goals
        simp only [du, mixed, col_grp]
        repeat (refine (canon_tile _ _ _ _ _ _ _ _ _ a b rfl rfl (by decide) (by decide)).trans ?_; first | refine (if_neg (by decide)).trans ?_ | refine (if_pos (by decide)).trans ?_)
        pointwise [tri, vn, vh, rs, ms, v, Pq, Gq, Wq, Bq, Dq, rowq, col, ld_group]
        simp only [lowTri, ite_mul, zero_mul]
    clear hS
    rw [pay8]
    unfold k0_pay179
    pointwise [eS]
    rfl

set_option maxHeartbeats 4000000 in
theorem duv_hi (c : Dev nD) (t : Fin cfg0.N) (hw : ∀ g a b, iblk m c 3 t (ix3 g a b) = iblk m c 2 t (ix3 g b a)) (q : Fin 2) (a : Fin 128) (j : Fin 1024) :
    (outsAt0 m c t.val t.isLt).1 (ix2 (rowq q a) (hi j))
      = dv (Pq (iblk m c 0 t) q) (Gq (iblk m c 1 t)) (Wq (iblk m c 2 t)) (Dq (iblk m c 5 t) q) a j * grad (Pq (iblk m c 0 t) q a (hi j)) := by
  by_cases h : t.val % 16 = 0
  all_goals
    first | rw [outsAt0_A m c t h] | rw [outsAt0_B m c t h]
    dsimp only
    frame_out [View.readCov_cons_toLoadRect]
    refine (canon_half _ _ _ _ _ _ j 1 (by simp [hi]) (by decide)).trans ((if_pos (by decide)).trans ?_)
    generalize hS : View.readCov (Val := Elt Ideal) (View.whole cc0_scratch1) _ _ = S
    have eS : ∀ j, S (ix2 (rowq q a) j) = dvn (Pq (iblk m c 0 t) q) (Wq (iblk m c 2 t)) (Dq (iblk m c 5 t) q) a j := fun j => by
      obtain ⟨g, b, rfl⟩ := col_split j
      rw [← hS]; refine (congrFun (View.readCov_eq_canon' (Val := Elt Ideal) _ _ _) _).trans ?_
      refine (ld_whole _ _ _ _).trans ?_
      simp only [pay9, pay10]
      fin_cases q <;> fin_cases g
      all_goals
        simp only [dvn, col_grp]
        repeat (refine (canon_tile _ _ _ _ _ _ _ _ _ a b rfl rfl (by decide) (by decide)).trans ?_; first | refine (if_neg (by decide)).trans ?_ | refine (if_pos (by decide)).trans ?_)
        pointwise [tri, dm, u, Pq, Wq, Dq, rowq, col, ld_group, hw]
        simp only [upTri, ite_mul, zero_mul]
    clear hS
    rw [pay8]
    unfold k0_pay1 k0_pay178 k0_pay11
    rw [pay10]
    pointwise [eS, dv, dvh, vh, v, rs, ms, Pq, Gq]
    all_goals rfl

/-- The gain's gradient over the block: the sum over its rows, in two chunks. -/
theorem dg_pay (x : Vec Ideal S256x2048 .bf16) (S : Vec Ideal S256x1024 .f32) (V : Vec Ideal S1x1024 .f32) (j : Fin 1024) :
    k0_pay177 (F := Ideal) (k0_pay13 (F := Ideal) (k0_pay10 (F := Ideal) x) (k0_pay11 (F := Ideal) x)) S V (ix2 0 j)
      = V (ix2 0 j) + ((∑ a : Fin 128, S (ix2 (rowq 0 a) j) * vh (Pq x 0) a j) + ∑ a : Fin 128, S (ix2 (rowq 1 a) j) * vh (Pq x 1) a j) := by
  rw [pay13]
  refine Eq.trans ?_ (congrArg (fun s => V (ix2 0 j) + s) (sum_rows (fun r => S (ix2 r j) * (gelu (x (ix2 r (hi j))) * Ideal.rsqrt (rms x r)))))
  pointwise [k0_pay177]

set_option maxHeartbeats 4000000 in
theorem dg_B (c : Dev nD) (t : Fin cfg0.N) (h : ¬ t.val % 16 = 0) (hw : ∀ g a b, iblk m c 3 t (ix3 g a b) = iblk m c 2 t (ix3 g b a)) (j : Fin 1024) :
    (outsAt0 m c t.val t.isLt).2.1 (ix2 0 j)
      = (outsAt0 m c (t.val - 1) (Nat.lt_of_le_of_lt (Nat.sub_le _ _) t.isLt)).2.1 (ix2 0 j)
        + (dg (Pq (iblk m c 0 t) 0) (Wq (iblk m c 2 t)) (Dq (iblk m c 5 t) 0) j + dg (Pq (iblk m c 0 t) 1) (Wq (iblk m c 2 t)) (Dq (iblk m c 5 t) 1) j) := by
    rw [outsAt0_B m c t h]
    dsimp only
    frame_out [View.readCov_cons_toLoadRect]
    generalize hS : View.readCov (Val := Elt Ideal) (View.whole cc0_scratch1) _ _ = S
    have eS : ∀ q a j, S (ix2 (rowq q a) j) = dvn (Pq (iblk m c 0 t) q) (Wq (iblk m c 2 t)) (Dq (iblk m c 5 t) q) a j := fun q a j => by
      obtain ⟨g, b, rfl⟩ := col_split j
      rw [← hS]; refine (congrFun (View.readCov_eq_canon' (Val := Elt Ideal) _ _ _) _).trans ?_
      refine (ld_whole _ _ _ _).trans ?_
      simp only [pay9, pay10]
      fin_cases q <;> fin_cases g
      all_goals
        simp only [dvn, col_grp]
        repeat (refine (canon_tile _ _ _ _ _ _ _ _ _ a b rfl rfl (by decide) (by decide)).trans ?_; first | refine (if_neg (by decide)).trans ?_ | refine (if_pos (by decide)).trans ?_)
        pointwise [tri, dm, u, Pq, Wq, Dq, rowq, col, ld_group, hw]
        simp only [upTri, ite_mul, zero_mul]
    clear hS
    refine (dg_pay _ S _ j).trans ?_
    simp only [eS, dg]

set_option maxHeartbeats 4000000 in
theorem dg_A (c : Dev nD) (t : Fin cfg0.N) (h : t.val % 16 = 0) (hw : ∀ g a b, iblk m c 3 t (ix3 g a b) = iblk m c 2 t (ix3 g b a)) (j : Fin 1024) (z : EReal) (hz : z = 0) :
    (outsAt0 m c t.val t.isLt).2.1 (ix2 0 j)
      = z
        + (dg (Pq (iblk m c 0 t) 0) (Wq (iblk m c 2 t)) (Dq (iblk m c 5 t) 0) j + dg (Pq (iblk m c 0 t) 1) (Wq (iblk m c 2 t)) (Dq (iblk m c 5 t) 1) j) := by
    rw [outsAt0_A m c t h]
    dsimp only
    frame_out [View.readCov_cons_toLoadRect]
    have eV : (k0_pay2 (F := Ideal)) (ix2 0 j) = z := by rw [hz]; pointwise [k0_pay2]
    generalize hS : View.readCov (Val := Elt Ideal) (View.whole cc0_scratch1) _ _ = S
    have eS : ∀ q a j, S (ix2 (rowq q a) j) = dvn (Pq (iblk m c 0 t) q) (Wq (iblk m c 2 t)) (Dq (iblk m c 5 t) q) a j := fun q a j => by
      obtain ⟨g, b, rfl⟩ := col_split j
      rw [← hS]; refine (congrFun (View.readCov_eq_canon' (Val := Elt Ideal) _ _ _) _).trans ?_
      refine (ld_whole _ _ _ _).trans ?_
      simp only [pay9, pay10]
      fin_cases q <;> fin_cases g
      all_goals
        simp only [dvn, col_grp]
        repeat (refine (canon_tile _ _ _ _ _ _ _ _ _ a b rfl rfl (by decide) (by decide)).trans ?_; first | refine (if_neg (by decide)).trans ?_ | refine (if_pos (by decide)).trans ?_)
        pointwise [tri, dm, u, Pq, Wq, Dq, rowq, col, ld_group, hw]
        simp only [upTri, ite_mul, zero_mul]
    clear hS
    refine (dg_pay _ S _ j).trans ?_
    simp only [eS, dg]
    exact congrArg (· + _) eV

end Cert.GmlpKernelIdeal.Value

end
-- ==== Proof.GmlpValue.lean ====
/-
  The spatially gated unit's backward call: what the blocked kernel leaves in its four result arrays.
-/
module

public import proofs.«01_k».proof.Proof.GmlpBlock

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.Gelu (gelu grad th)
open Cert.Gmlp

variable (m : (ℓ : Loc nD τ sig) → Buf (Elt Ideal) ℓ)

/-! ## The arrays, chunk by chunk -/

/-- Row `a` of chunk `n`. -/
def row (n : Fin 32) (a : Fin 128) : Fin 4096 := ⟨n.val * 128 + a.val, by omega⟩

/-- The chunk of a row. -/
def chk (r : Fin 4096) : Fin 32 := ⟨r.val / 128, by omega⟩

/-- The row's place in its chunk. -/
def plc (r : Fin 4096) : Fin 128 := ⟨r.val % 128, by omega⟩

section Arrays

variable (x0 : Vec Ideal S4096x12288 .bf16) (x1 : Vec Ideal S1024 .f32) (x2 : Vec Ideal S8x128x128 .f32) (x3 : Vec Ideal S8x128 .f32) (x4 : Vec Ideal S4096x1024 .bf16)

/-- A chunk of the projection's first block. -/
def Pn (n : Fin 32) (a : Fin 128) (l : Fin 2048) : EReal := x0 (ix2 (row n a) ⟨l.val, by omega⟩)

/-- A chunk of the cotangent. -/
def Dn (n : Fin 32) (a : Fin 128) (j : Fin 1024) : EReal := x4 (ix2 (row n a) j)

/-- The gain. -/
def Gn (j : Fin 1024) : EReal := x1 (ix1 j)

/-- The mixing weights. -/
def Wn (g : Fin 8) (a b : Fin 128) : EReal := x2 (ix3 g a b)

/-- The mixing bias. -/
def Bn (g : Fin 8) (a : Fin 128) : EReal := x3 (ix2 g a)

/-- The gradient before the gelu, at a row's place in its chunk. -/
def Q6 (n : Fin 32) (a : Fin 128) (l : Fin 2048) : EReal :=
  (if h : l.val < 1024 then du (Pn x0 n) (Gn x1) (Wn x2) (Bn x3) (Dn x4 n) a ⟨l.val, h⟩ else dv (Pn x0 n) (Gn x1) (Wn x2) (Dn x4 n) a ⟨l.val - 1024, by omega⟩)
    * grad (Pn x0 n a l)

/-- The gradient of the projection's first block. -/
def O6 : Vec Ideal S4096x2048 .bf16 := fun i => Q6 x0 x1 x2 x3 x4 (chk (i 0)) (plc (i 0)) (i 1)

/-- The gradient of the gain. -/
def O7 : Vec Ideal S1x1024 .f32 := fun i => ∑ n : Fin 32, dg (Pn x0 n) (Wn x2) (Dn x4 n) (i 1)

/-- The gradient of the mixing weights. -/
def O8 : Vec Ideal S8x128x128 .f32 := fun i => ∑ n : Fin 32, dw (Pn x0 n) (Gn x1) (Dn x4 n) (i 0) (i 1) (i 2)

/-- The gradient of the mixing bias. -/
def O9 : Vec Ideal S8x128x1 .f32 := fun i => ∑ n : Fin 32, db (Pn x0 n) (Dn x4 n) (i 0) (i 1)

end Arrays

/-! ## The blocks -/

theorem idx : ∀ t : Fin cfg0.N, win0_0.index t = ![t.val, 0] ∧ win0_1.index t = ![0, 0] ∧ win0_2.index t = ![0, 0, 0] ∧ win0_3.index t = ![0, 0, 0]
    ∧ win0_4.index t = ![0, 0, 0] ∧ win0_5.index t = ![t.val, 0] ∧ win0_6.index t = ![t.val, 0] ∧ win0_7.index t = ![0, 0]
    ∧ win0_8.index t = ![0, 0, 0] ∧ win0_9.index t = ![0, 0, 0] :=
  (by decide +kernel : ∀ t : Fin grid0.N, _)

/-- The chunk of a grid point. -/
def cn (t : Fin cfg0.N) (q : Fin 2) : Fin 32 := ⟨t.val * 2 + q.val, by have := t.isLt; have := N_0; have h : cfg0.N = 16 := N_0; omega⟩

variable (c : Dev nD)

theorem blkP (t : Fin cfg0.N) (q : Fin 2) : Pq (iblk m c 0 t) q = Pn (m ((c : Thread nD τ).loc main_arg0)) (cn t q) := by
  funext a l
  have h : (rowq q a).val + t.val * 256 = (row (cn t q) a).val := by simp only [rowq, row, cn]; omega
  have e : (iblk m c 0 t : Vec Ideal S256x2048 .bf16) (ix2 (rowq q a) l) = m ((c : Thread nD τ).loc main_arg0) (ix2 (row (cn t q) a) ⟨l.val, by omega⟩) := by
    blk_point [iblk, V, idx t]
  exact e

theorem blkD (t : Fin cfg0.N) (q : Fin 2) : Dq (iblk m c 5 t) q = Dn (m ((c : Thread nD τ).loc main_arg4)) (cn t q) := by
  funext a l
  have h : (rowq q a).val + t.val * 256 = (row (cn t q) a).val := by simp only [rowq, row, cn]; omega
  have e : (iblk m c 5 t : Vec Ideal S256x1024 .bf16) (ix2 (rowq q a) l) = m ((c : Thread nD τ).loc main_arg4) (ix2 (row (cn t q) a) l) := by
    blk_point [iblk, V, idx t]
  exact e

theorem blkG (t : Fin cfg0.N) : Gq (iblk m c 1 t) = Gn (m ((c : Thread nD τ).loc main_arg1)) := by
  funext j
  have e : (iblk m c 1 t : Vec Ideal S1x1024 .f32) (ix2 0 j) = m ((c : Thread nD τ).loc main_arg1) (ix1 j) := by
    blk_point [iblk, V, idx t]
  exact e

theorem blkW (t : Fin cfg0.N) : Wq (iblk m c 2 t) = Wn (m ((c : Thread nD τ).loc main_arg2)) := by
  funext g a b
  have e : (iblk m c 2 t : Vec Ideal S8x128x128 .f32) (ix3 g a b) = m ((c : Thread nD τ).loc main_arg2) (ix3 g a b) := by
    blk_point [iblk, V, idx t]
  exact e

theorem blkB (t : Fin cfg0.N) : Bq (iblk m c 4 t) = Bn (m ((c : Thread nD τ).loc main_arg3)) := by
  funext g a
  have e : (iblk m c 4 t : Vec Ideal S8x128x1 .f32) (ix3 g a 0) = m ((c : Thread nD τ).loc main_arg3) (ix2 g a) := by
    blk_point [iblk, V, idx t]
  exact e

theorem blkT (t : Fin cfg0.N) (g : Fin 8) (a b : Fin 128) : iblk m c 3 t (ix3 g a b) = iblk m c 2 t (ix3 g b a) := by
  have e : (iblk m c 3 t : Vec Ideal S8x128x128 .f32) (ix3 g a b) = m ((c : Thread nD τ).loc main_arg2) (ix3 g b a) := by
    blk_point [iblk, V, idx t]
  exact e.trans (congrFun (congrFun (congrFun (blkW m c t) g) b) a).symm

/-! ## The result arrays -/

theorem unit_first (j : S1x1024.Idx) : ∃ k : Fin 1024, j = ix2 0 k :=
  ⟨j 1, by
    funext a; fin_cases a
    · exact Subsingleton.elim (α := Fin 1) _ _
    · rfl⟩

theorem unit_last (j : S8x128x1.Idx) : ∃ (g : Fin 8) (a : Fin 128), j = ix3 g a 0 :=
  ⟨j 0, j 1, by
    funext a; fin_cases a
    · rfl
    · rfl
    · exact Subsingleton.elim (α := Fin 1) _ _⟩

theorem point6 (t : Fin cfg0.N) (y : S256x2048.Idx) (j : S4096x2048.Idx) (h0 : (j 0 : ℕ) = t.val * 256 + y 0) (h1 : (j 1 : ℕ) = y 1) :
    (outsAt0 m c t.val t.isLt).1 y
      = O6 (m ((c : Thread nD τ).loc main_arg0)) (m ((c : Thread nD τ).loc main_arg1)) (m ((c : Thread nD τ).loc main_arg2)) (m ((c : Thread nD τ).loc main_arg3)) (m ((c : Thread nD τ).loc main_arg4)) j := by
  obtain ⟨r, l, rfl⟩ : ∃ (r : Fin 256) (l : Fin 2048), y = ix2 r l := ⟨y 0, y 1, by funext a; fin_cases a <;> rfl⟩
  obtain ⟨R, L, rfl⟩ : ∃ (R : Fin 4096) (L : Fin 2048), j = ix2 R L := ⟨j 0, j 1, by funext a; fin_cases a <;> rfl⟩
  have g0 : (R : ℕ) = t.val * 256 + r := h0
  obtain rfl : L = l := Fin.ext h1
  obtain ⟨q, a, rfl⟩ : ∃ q a, r = rowq q a := ⟨⟨r.val / 128, by omega⟩, ⟨r.val % 128, by omega⟩, by apply Fin.ext; simp only [rowq]; omega⟩
  have eq : chk R = cn t q := by apply Fin.ext; simp only [chk, cn, g0, rowq]; omega
  have ep : plc R = a := by apply Fin.ext; simp only [plc, g0, rowq]; omega
  show _ = Q6 _ _ _ _ _ (chk R) (plc R) L
  rw [eq, ep]
  unfold Q6
  by_cases hl : L.val < 1024
  · rw [dif_pos hl]
    obtain ⟨k, rfl⟩ : ∃ k, L = lo k := ⟨⟨L.val, hl⟩, rfl⟩
    rw [duv_lo, blkP, blkD, blkG, blkW, blkB]; rfl
  · rw [dif_neg hl]
    obtain ⟨k, rfl⟩ : ∃ k, L = hi k := ⟨⟨L.val - 1024, by omega⟩, by apply Fin.ext; simp only [hi]; omega⟩
    have ek : (⟨(hi k).val - 1024, by omega⟩ : Fin 1024) = k := by apply Fin.ext; simp only [hi]; omega
    rw [duv_hi m c t (blkT m c t), blkP, blkD, blkG, blkW, ek]

theorem final6 : (dats m 0 c).arrAt 6 cfg0.N
    = O6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  refine Eq.trans ?_ (point6 m c t y _ ?_ ?_)
  · rfl
  all_goals blk_simp [idx t]

/-- The chunks in the kernel's order. -/
theorem sum_chunks (f : Fin 32 → EReal) : (∑ t : Fin 16, ∑ q : Fin 2, f ⟨t.val * 2 + q.val, by omega⟩) = ∑ n, f n :=
  Fin.sum_mul_add_fin (M := EReal) 16 2 f rfl

theorem final7 : (dats m 0 c).arrAt 7 cfg0.N
    = O7 (m ((c : Thread nD τ).loc main_arg0)) (m ((c : Thread nD τ).loc main_arg2)) (m ((c : Thread nD τ).loc main_arg4)) := by
  refine (dats m 0 c).arrAt_eq_of_after_last 7 t0_15 (by decide +kernel) _ fun j => ?_
  blk_simp
  rw [after0_7, Pipeline.eq_sum_fin_of_reset_step_apply_last (N := cfg0.N) (M := EReal) (fun n h => (outsAt0 m c n h).2.1) 16 (fun _ => 0)
    (fun t j => ∑ q : Fin 2, dg (Pn (m ((c : Thread nD τ).loc main_arg0)) (cn t q)) (Wn (m ((c : Thread nD τ).loc main_arg2))) (Dn (m ((c : Thread nD τ).loc main_arg4)) (cn t q)) (j 1))
    (fun t h j => by
      obtain ⟨k, rfl⟩ : ∃ k : Fin 1024, j = ix2 0 k := unit_first j
      rw [dg_A m c t h (blkT m c t) k 0 rfl, blkP, blkP, blkD, blkD, blkW, Fin.sum_univ_two]; rfl)
    (fun t h j => by
      obtain ⟨k, rfl⟩ : ∃ k : Fin 1024, j = ix2 0 k := unit_first j
      rw [dg_B m c t h (blkT m c t) k, blkP, blkP, blkD, blkD, blkW, Fin.sum_univ_two]; rfl)
    (le_of_eq N_0) t0_15 rfl j, zero_add]
  unfold O7
  exact sum_chunks (fun n => dg (Pn (m ((c : Thread nD τ).loc main_arg0)) n) (Wn (m ((c : Thread nD τ).loc main_arg2))) (Dn (m ((c : Thread nD τ).loc main_arg4)) n) (j 1))

theorem final8 : (dats m 0 c).arrAt 8 cfg0.N
    = O8 (m ((c : Thread nD τ).loc main_arg0)) (m ((c : Thread nD τ).loc main_arg1)) (m ((c : Thread nD τ).loc main_arg4)) := by
  refine (dats m 0 c).arrAt_eq_of_after_last 8 t0_15 (by decide +kernel) _ fun j => ?_
  blk_simp
  rw [after0_8, Pipeline.eq_sum_fin_of_reset_step_apply_last (N := cfg0.N) (M := EReal) (fun n h => (outsAt0 m c n h).2.2.1) 16 (fun _ => 0)
    (fun t j => ∑ q : Fin 2, dw (Pn (m ((c : Thread nD τ).loc main_arg0)) (cn t q)) (Gn (m ((c : Thread nD τ).loc main_arg1))) (Dn (m ((c : Thread nD τ).loc main_arg4)) (cn t q)) (j 0) (j 1) (j 2))
    (fun t h j => by
      obtain ⟨g, a, b, rfl⟩ : ∃ (g : Fin 8) (a b : Fin 128), j = ix3 g a b := ⟨j 0, j 1, j 2, by funext a; fin_cases a <;> rfl⟩
      rw [dw_A m c t h g a b 0 rfl, blkP, blkP, blkD, blkD, blkG, Fin.sum_univ_two, add_assoc]; rfl)
    (fun t h j => by
      obtain ⟨g, a, b, rfl⟩ : ∃ (g : Fin 8) (a b : Fin 128), j = ix3 g a b := ⟨j 0, j 1, j 2, by funext a; fin_cases a <;> rfl⟩
      rw [dw_B m c t h g a b, blkP, blkP, blkD, blkD, blkG, Fin.sum_univ_two, add_assoc]; rfl)
    (le_of_eq N_0) t0_15 rfl j, zero_add]
  unfold O8
  exact sum_chunks (fun n => dw (Pn (m ((c : Thread nD τ).loc main_arg0)) n) (Gn (m ((c : Thread nD τ).loc main_arg1))) (Dn (m ((c : Thread nD τ).loc main_arg4)) n) (j 0) (j 1) (j 2))

theorem final9 : (dats m 0 c).arrAt 9 cfg0.N = O9 (m ((c : Thread nD τ).loc main_arg0)) (m ((c : Thread nD τ).loc main_arg4)) := by
  refine (dats m 0 c).arrAt_eq_of_after_last 9 t0_15 (by decide +kernel) _ fun j => ?_
  blk_simp
  rw [after0_9, Pipeline.eq_sum_fin_of_reset_step_apply_last (N := cfg0.N) (M := EReal) (fun n h => (outsAt0 m c n h).2.2.2) 16 (fun _ => 0)
    (fun t j => ∑ q : Fin 2, db (Pn (m ((c : Thread nD τ).loc main_arg0)) (cn t q)) (Dn (m ((c : Thread nD τ).loc main_arg4)) (cn t q)) (j 0) (j 1))
    (fun t h j => by
      obtain ⟨g, a, rfl⟩ : ∃ (g : Fin 8) (a : Fin 128), j = ix3 g a 0 := unit_last j
      rw [db_A m c t h g a 0 rfl, blkP, blkP, blkD, blkD, Fin.sum_univ_two, add_assoc]; rfl)
    (fun t h j => by
      obtain ⟨g, a, rfl⟩ : ∃ (g : Fin 8) (a : Fin 128), j = ix3 g a 0 := unit_last j
      rw [db_B m c t h g a, blkP, blkP, blkD, blkD, Fin.sum_univ_two, add_assoc]; rfl)
    (le_of_eq N_0) t0_15 rfl j, zero_add]
  unfold O9
  exact sum_chunks (fun n => db (Pn (m ((c : Thread nD τ).loc main_arg0)) n) (Dn (m ((c : Thread nD τ).loc main_arg4)) n) (j 0) (j 1))

end Cert.GmlpKernelIdeal.Value

end
-- ==== Proof.GmlpPair.lean ====
/-
  The spatially gated unit's backward call: the reference's derivative is what the blocked kernel leaves.
-/
module

public import proofs.«01_k».proof.Defs
public import proofs.«01_k».proof.Proof.GmlpValue
public import proofs.«01_k».proof.Proof.Gen.GmlpKernel
public import proofs.«01_k».proof.Proof.Gen.GmlpRefIdeal.Run
public import proofs.«01_k».proof.Proof.Gen.GmlpRefIdeal.Read
public import Idealize.ShloMosaic.Lib.Claim

@[expose] public section

set_option maxRecDepth 16384

noncomputable section

open Idealize.ShloMosaic Idealize.ShloMosaic.TcCoe Idealize.SL.Sem

namespace Cert.GmlpRefIdeal.Value

open Cert.GmlpRefIdeal Cert.GmlpRefIdeal.Gen Cert.GmlpRefIdeal.Read
open Cert.Gelu (gelu grad th hth back)
open Cert.Gmlp
open Cert.Reals (real_add real_mul real_sub real_sum)
open Cert.GmlpKernelIdeal.Value (row chk plc Pn Dn Gn Wn Bn Q6 O6 O7 O8 O9 col_split col_grp)

variable {x0 : Vec Ideal S4096x12288 .bf16} {x1 : Vec Ideal S1024 .f32} {x2 : Vec Ideal S8x128x128 .f32} {x3 : Vec Ideal S8x128 .f32} {x4 : Vec Ideal S4096x1024 .bf16}

/-- The entries the call reads are real numbers. -/
structure Fine (x0 : Vec Ideal S4096x12288 .bf16) (x1 : Vec Ideal S1024 .f32) (x2 : Vec Ideal S8x128x128 .f32) (x3 : Vec Ideal S8x128 .f32) (x4 : Vec Ideal S4096x1024 .bf16) : Prop where
  h0 : ∀ (r : Fin 4096) (l : Fin 2048), ∃ a : ℝ, x0 (ix2 r ⟨l.val, by omega⟩) = (a : EReal)
  h1 : ∀ i, ∃ r : ℝ, x1 i = (r : EReal)
  h2 : ∀ i, ∃ r : ℝ, x2 i = (r : EReal)
  h3 : ∀ i, ∃ r : ℝ, x3 i = (r : EReal)
  h4 : ∀ i, ∃ r : ℝ, x4 i = (r : EReal)

/-! ## One chunk is real -/

theorem real_gelu {y : EReal} (h : ∃ r : ℝ, y = r) : ∃ r : ℝ, gelu y = (r : EReal) := by
  obtain ⟨y, rfl⟩ := h; exact Gelu.gelu_real y

theorem real_tri (a k : Fin 128) {y : EReal} (h : ∃ r : ℝ, y = r) : ∃ r : ℝ, tri a k y = (r : EReal) := by
  unfold tri; split
  · exact h
  · exact ⟨0, rfl⟩

theorem bits_1024 : Ideal.ofBits .f32 0x44800000#32 = ((1024 : ℝ) : EReal) := by
  simp [Ideal.ofBits, Ideal.ieee]; norm_num [← EReal.coe_mul]

section Chunk

variable {P : Fin 128 → Fin 2048 → EReal} {G : Fin 1024 → EReal} {W : Fin 8 → Fin 128 → Fin 128 → EReal} {B : Fin 8 → Fin 128 → EReal} {D : Fin 128 → Fin 1024 → EReal}

theorem real_rs (hP : ∀ a l, ∃ r : ℝ, P a l = r) (a : Fin 128) : ∃ r : ℝ, rs P a = (r : EReal) := by
  choose f hf using fun k : Fin 1024 => real_gelu (hP a (hi k))
  have h := Reals.meansq_pos Finset.univ f (n := 1024) (by norm_num)
  refine ⟨_, Eq.trans ?_ (Reals.rsqrt_real h)⟩
  simp only [rs, ms, v, hf, bits_1024, Reals.bits_eps, ← EReal.coe_mul, Reals.sum_coe, Reals.div_real (by norm_num : (1024 : ℝ) ≠ 0), ← EReal.coe_add]

theorem real_vn (hP : ∀ a l, ∃ r : ℝ, P a l = r) (hG : ∀ j, ∃ r : ℝ, G j = r) (a : Fin 128) (j : Fin 1024) : ∃ r : ℝ, vn P G a j = (r : EReal) :=
  real_mul (real_mul (real_gelu (hP a (hi j))) (real_rs hP a)) (hG j)

theorem real_du (hP : ∀ a l, ∃ r : ℝ, P a l = r) (hG : ∀ j, ∃ r : ℝ, G j = r) (hW : ∀ g a b, ∃ r : ℝ, W g a b = r) (hB : ∀ g a, ∃ r : ℝ, B g a = r)
    (hD : ∀ a j, ∃ r : ℝ, D a j = r) (a : Fin 128) (j : Fin 1024) : ∃ r : ℝ, du P G W B D a j = (r : EReal) :=
  real_mul (hD a j) (real_add (real_sum fun k => real_mul (real_tri a k (hW _ a k)) (real_vn hP hG k j)) (hB _ a))

theorem real_dvh (hP : ∀ a l, ∃ r : ℝ, P a l = r) (hG : ∀ j, ∃ r : ℝ, G j = r) (hW : ∀ g a b, ∃ r : ℝ, W g a b = r)
    (hD : ∀ a j, ∃ r : ℝ, D a j = r) (a : Fin 128) (j : Fin 1024) : ∃ r : ℝ, dvh P G W D a j = (r : EReal) :=
  real_mul (real_sum fun k => real_mul (real_tri k a (hW _ k a)) (real_mul (hD k j) (real_gelu (hP k (lo j))))) (hG j)

/-- The gradient before the norm, as the derivative of the mean square carried back through the inverse root. -/
theorem dv_eq (hP : ∀ a l, ∃ r : ℝ, P a l = r) (hG : ∀ j, ∃ r : ℝ, G j = r) (hW : ∀ g a b, ∃ r : ℝ, W g a b = r)
    (hD : ∀ a j, ∃ r : ℝ, D a j = r) (a : Fin 128) (j : Fin 1024) :
    dvh P G W D a j * rs P a
        + v P a j * Ideal.div ((∑ k : Fin 1024, v P a k * dvh P G W D a k) * (Ideal.ofBits .f32 0xBF000000#32 * Ideal.div (rs P a) (ms P a))) (Ideal.ofBits .f32 0x44800000#32)
        + Ideal.div ((∑ k : Fin 1024, v P a k * dvh P G W D a k) * (Ideal.ofBits .f32 0xBF000000#32 * Ideal.div (rs P a) (ms P a))) (Ideal.ofBits .f32 0x44800000#32) * v P a j
      = dv P G W D a j := by
  choose f hf using fun k : Fin 1024 => real_gelu (hP a (hi k))
  choose e he using fun k : Fin 1024 => real_dvh hP hG hW hD a k
  have h := Reals.meansq_pos Finset.univ f (n := 1024) (by norm_num)
  simp only [dv, vh, rs, ms, v, hf, he, bits_1024, Reals.bits_eps, Reals.bits_neg_half, ← EReal.coe_mul, Reals.sum_coe,
    Reals.div_real (by norm_num : (1024 : ℝ) ≠ 0), ← EReal.coe_add, Reals.rsqrt_real h, Reals.div_real h.ne', ← EReal.coe_sub]
  rw [Reals.norm_grad Finset.univ _ e _ _ _ _ h (by norm_num)]

theorem real_dv (hP : ∀ a l, ∃ r : ℝ, P a l = r) (hG : ∀ j, ∃ r : ℝ, G j = r) (hW : ∀ g a b, ∃ r : ℝ, W g a b = r)
    (hD : ∀ a j, ∃ r : ℝ, D a j = r) (a : Fin 128) (j : Fin 1024) : ∃ r : ℝ, dv P G W D a j = (r : EReal) := by
  obtain ⟨s, hs⟩ := real_sum fun l => real_mul (real_dvh hP hG hW hD a l) (real_mul (real_gelu (hP a (hi l))) (real_rs hP a))
  refine real_mul (real_rs hP a) (real_sub (real_dvh hP hG hW hD a j) (real_mul (real_mul (real_gelu (hP a (hi j))) (real_rs hP a)) ?_))
  exact ⟨_, (congrArg₂ Ideal.div hs bits_1024).trans (Reals.div_real (by norm_num) _)⟩

end Chunk

theorem Fine.P (h : Fine x0 x1 x2 x3 x4) (n : Fin 32) (a : Fin 128) (l : Fin 2048) : ∃ r : ℝ, Pn x0 n a l = (r : EReal) := h.h0 _ _
theorem Fine.D (h : Fine x0 x1 x2 x3 x4) (n : Fin 32) (a : Fin 128) (j : Fin 1024) : ∃ r : ℝ, Dn x4 n a j = (r : EReal) := h.h4 _
theorem Fine.G (h : Fine x0 x1 x2 x3 x4) (j : Fin 1024) : ∃ r : ℝ, Gn x1 j = (r : EReal) := h.h1 _
theorem Fine.W (h : Fine x0 x1 x2 x3 x4) (g : Fin 8) (a b : Fin 128) : ∃ r : ℝ, Wn x2 g a b = (r : EReal) := h.h2 _
theorem Fine.B (h : Fine x0 x1 x2 x3 x4) (g : Fin 8) (a : Fin 128) : ∃ r : ℝ, Bn x3 g a = (r : EReal) := h.h3 _

/-! ## Sums over several axes at once -/

/-- A sum over axes of extent one. -/
theorem sum_unit {s t : Shape} {axes : List (Fin s.rank)} (h : s.ReducesTo axes t) (v : s.Idx → EReal) (j : t.Idx) (i : s.Idx)
    (hi : h.drop i = j) (hu : ∀ k, h.drop k = j → k = i) : Ideal.hostReduceAdd h v 0 j = v i := by
  unfold Ideal.hostReduceAdd
  rw [zero_add, Finset.sum_eq_single i]
  · exact fun k hk hne => absurd (hu k (Finset.mem_filter.1 hk).2) hne
  · intro hn; exact (hn (by rw [Finset.mem_filter]; exact ⟨Finset.mem_univ _, hi⟩)).elim

theorem unit_rows (v : S1x4096x1.Idx → EReal) (r : Fin 4096) : Ideal.hostReduceAdd reducesTo_S1x4096x1_S4096_d0_2 v 0 (ix1 r) = v (ix3 0 r 0) := by
  have d : ∀ (p : Fin 1) (r : Fin 4096) (q : Fin 1), reducesTo_S1x4096x1_S4096_d0_2.drop (ix3 p r q) = ix1 r := by
    intro p r q; funext k; fin_cases k; rfl
  refine sum_unit _ v _ _ (d 0 r 0) fun k hk => ?_
  obtain ⟨p, x, q, rfl⟩ : ∃ (p : Fin 1) (x : Fin 4096) (q : Fin 1), k = ix3 p x q := ⟨k 0, k 1, k 2, by funext k; fin_cases k <;> rfl⟩
  rw [d] at hk
  obtain rfl : x = r := congrFun hk 0
  rw [Subsingleton.elim p 0, Subsingleton.elim q 0]

theorem unit_gain (v : S1x1x1024.Idx → EReal) (j : Fin 1024) : Ideal.hostReduceAdd reducesTo_S1x1x1024_S1024_d0_1 v 0 (ix1 j) = v (ix3 0 0 j) := by
  have d : ∀ (p q : Fin 1) (j : Fin 1024), reducesTo_S1x1x1024_S1024_d0_1.drop (ix3 p q j) = ix1 j := by
    intro p q j; funext k; fin_cases k; rfl
  refine sum_unit _ v _ _ (d 0 0 j) fun k hk => ?_
  obtain ⟨p, q, x, rfl⟩ : ∃ (p q : Fin 1) (x : Fin 1024), k = ix3 p q x := ⟨k 0, k 1, k 2, by funext k; fin_cases k <;> rfl⟩
  rw [d] at hk
  obtain rfl : x = j := congrFun hk 0
  rw [Subsingleton.elim p 0, Subsingleton.elim q 0]

theorem unit_bias (v : S1x1x128x8x1.Idx → EReal) (a : Fin 128) (g : Fin 8) :
    Ideal.hostReduceAdd reducesTo_S1x1x128x8x1_S128x8_d0_1_4 v 0 (ix2 a g) = v (ix5 0 0 a g 0) := by
  have d : ∀ (p q : Fin 1) (a : Fin 128) (g : Fin 8) (o : Fin 1), reducesTo_S1x1x128x8x1_S128x8_d0_1_4.drop (ix5 p q a g o) = ix2 a g := by
    intro p q a g o; funext k; fin_cases k <;> rfl
  refine sum_unit _ v _ _ (d 0 0 a g 0) fun k hk => ?_
  obtain ⟨p, q, x, y, o, rfl⟩ : ∃ (p q : Fin 1) (x : Fin 128) (y : Fin 8) (o : Fin 1), k = ix5 p q x y o :=
    ⟨k 0, k 1, k 2, k 3, k 4, by funext k; fin_cases k <;> rfl⟩
  rw [d] at hk
  obtain rfl : x = a := congrFun hk 0
  obtain rfl : y = g := congrFun hk 1
  rw [Subsingleton.elim p 0, Subsingleton.elim q 0, Subsingleton.elim o 0]

/-- The sum over the chunks and the columns of a group. -/
theorem sum_bias (v : S1x32x128x8x128.Idx → EReal) (a : Fin 128) (g : Fin 8) :
    Ideal.hostReduceAdd reducesTo_S1x32x128x8x128_S1x128x8_d1_4 v 0 (ix3 0 a g) = ∑ n : Fin 32, ∑ l : Fin 128, v (ix5 0 n a g l) := by
  have d : ∀ (p : Fin 1) (n : Fin 32) (a : Fin 128) (g : Fin 8) (l : Fin 128), reducesTo_S1x32x128x8x128_S1x128x8_d1_4.drop (ix5 p n a g l) = ix3 p a g := by
    intro p n a g l; funext k; fin_cases k <;> rfl
  unfold Ideal.hostReduceAdd
  rw [zero_add, ← Fintype.sum_prod_type' (fun (n : Fin 32) (l : Fin 128) => v (ix5 0 n a g l))]
  refine (Finset.sum_bij (fun (p : Fin 32 × Fin 128) _ => (ix5 0 p.1 a g p.2 : S1x32x128x8x128.Idx)) ?_ ?_ ?_ ?_).symm
  · exact fun p _ => Finset.mem_filter.2 ⟨Finset.mem_univ _, d _ _ _ _ _⟩
  · exact fun p _ q _ h => Prod.ext (congrFun h 1) (congrFun h 4)
  · intro k hk
    obtain ⟨p, n, x, y, l, rfl⟩ : ∃ (p : Fin 1) (n : Fin 32) (x : Fin 128) (y : Fin 8) (l : Fin 128), k = ix5 p n x y l :=
      ⟨k 0, k 1, k 2, k 3, k 4, by funext k; fin_cases k <;> rfl⟩
    have hk := (Finset.mem_filter.1 hk).2
    rw [d] at hk
    obtain rfl : x = a := congrFun hk 1
    obtain rfl : y = g := congrFun hk 2
    exact ⟨(n, l), Finset.mem_univ _, by rw [Subsingleton.elim p 0]⟩
  · exact fun _ _ => rfl

/-- The contraction over the chunks and the columns of a group. -/
theorem dot_chunks (x : S8x1x32x128x128.Idx → EReal) (y : S1x32x128x8x128.Idx → EReal) (g : Fin 8) (a b : Fin 128) :
    Ideal.matmul dot_S8x1x32x128x128_S1x32x128x8x128_S8x128x128_123_014_4_2_0_3 x y (fun _ => 0) (ix3 g a b)
      = ∑ n : Fin 32, ∑ l : Fin 128, x (ix5 g 0 n l a) * y (ix5 0 n b g l) := by
  let D := dot_S8x1x32x128x128_S1x32x128x8x128_S8x128x128_123_014_4_2_0_3
  let f : Fin 32 × Fin 128 → D.contr.Idx := fun p i => match i with
    | ⟨0, _⟩ => (0 : Fin 1)
    | ⟨1, _⟩ => p.1
    | ⟨2, _⟩ => p.2
  have e : Ideal.matmul D x y (fun _ => 0) (ix3 g a b) = 0 + ∑ k : D.contr.Idx, x (D.lhsIdx (ix3 g a b) k) * y (D.rhsIdx (ix3 g a b) k) := rfl
  refine e.trans ?_
  rw [zero_add, ← Fintype.sum_prod_type' (fun (n : Fin 32) (l : Fin 128) => x (ix5 g 0 n l a) * y (ix5 0 n b g l))]
  refine (Fintype.sum_bijective f ⟨?_, ?_⟩ _ _ fun p => ?_).symm
  · exact fun p q h => Prod.ext (congrFun h ⟨1, by decide⟩) (congrFun h ⟨2, by decide⟩)
  · exact fun k => ⟨(k ⟨1, by decide⟩, k ⟨2, by decide⟩), by
      funext i
      match i with
      | ⟨0, _⟩ => exact Subsingleton.elim (α := Fin 1) _ _
      | ⟨1, _⟩ => rfl
      | ⟨2, _⟩ => rfl⟩
  · have hl : D.lhsIdx (ix3 g a b) (f p) = ix5 g 0 p.1 p.2 a := by funext k; fin_cases k <;> rfl
    have hr : D.rhsIdx (ix3 g a b) (f p) = ix5 0 p.1 b g p.2 := by funext k; fin_cases k <;> rfl
    rw [hl, hr]

/-! ## The reference's stages -/

theorem s2 (n : Fin 32) (a : Fin 128) (l : Fin 2048) : val_main_v2 (F := Ideal) x0 (ix3 0 (row n a) l) = Pn x0 n a l := by
  pointwise [val_main_v2, val_main_v1, val_main_v0, Pn]

theorem s15 (n : Fin 32) (a : Fin 128) (l : Fin 2048) : val_main_v15 (F := Ideal) x0 (ix3 0 (row n a) l) = hth (Pn x0 n a l) := by
  rw [← s2]
  pointwise [val_main_v15, val_main_v14, val_main_v13, val_main_v12, val_main_v11, val_main_v10, val_main_v9, val_main_v8, val_main_v4, val_main_v3, val_main_cst_0, val_main_cst_1, val_main_cst_2, hth]

theorem s25 (h : Fine x0 x1 x2 x3 x4) (n : Fin 32) (a : Fin 128) (l : Fin 2048) : val_main_v25 (F := Ideal) x0 (ix3 0 (row n a) l) = gelu (Pn x0 n a l) := by
  obtain ⟨b, hb⟩ := h.P n a l
  rw [hb, ← Gelu.gelu_eq, ← hb, ← s15, ← s2]
  pointwise [val_main_v25, val_main_v24, val_main_v23, val_main_v22, val_main_v21, val_main_cst_5, val_main_cst_6]

theorem s26 (h : Fine x0 x1 x2 x3 x4) (n : Fin 32) (a : Fin 128) (j : Fin 1024) : val_main_v26 (F := Ideal) x0 (ix3 0 (row n a) j) = u (Pn x0 n) a j := by
  refine Eq.trans ?_ (s25 h n a (lo j))
  pointwise [val_main_v26, lo]

theorem s27 (h : Fine x0 x1 x2 x3 x4) (n : Fin 32) (a : Fin 128) (j : Fin 1024) : val_main_v27 (F := Ideal) x0 (ix3 0 (row n a) j) = v (Pn x0 n) a j := by
  refine Eq.trans ?_ (s25 h n a (hi j))
  pointwise [val_main_v27, hi]

theorem s34 (h : Fine x0 x1 x2 x3 x4) (n : Fin 32) (a : Fin 128) : val_main_v34 (F := Ideal) x0 (ix3 0 (row n a) 0) = ms (Pn x0 n) a := by
  unfold ms
  simp only [← s27 h]
  pointwise [val_main_v34, val_main_v33, val_main_v32, val_main_v31, val_main_v30, val_main_v29, val_main_v28, val_main_cst_7, val_main_cst_8, val_main_cst_9]

theorem s35 (h : Fine x0 x1 x2 x3 x4) (n : Fin 32) (a : Fin 128) : val_main_v35 (F := Ideal) x0 (ix3 0 (row n a) 0) = rs (Pn x0 n) a := by
  unfold rs; rw [← s34 h]
  pointwise [val_main_v35]

theorem s40 (h : Fine x0 x1 x2 x3 x4) (n : Fin 32) (a : Fin 128) (j : Fin 1024) : val_main_v40 (F := Ideal) x0 (ix3 0 (row n a) j) = vh (Pn x0 n) a j := by
  unfold vh; rw [← s35 h, ← s27 h]
  pointwise [val_main_v40, val_main_v39]

theorem s44 (h : Fine x0 x1 x2 x3 x4) (n : Fin 32) (a : Fin 128) (g : Fin 8) (l : Fin 128) :
    val_main_v44 (F := Ideal) x0 x1 (ix5 0 n a g l) = vn (Pn x0 n) (Gn x1) a (col g l) := by
  unfold vn; rw [← s40 h]
  pointwise [val_main_v44, val_main_v43, val_main_v42, val_main_v41, row, col, Gn]

theorem sel (a k : Fin 128) (x y : EReal) :
    Scalar.select (IntOp.cmpi .sge (IntOp.addi (BitVec.ofNat 32 a) 0#32) (BitVec.ofNat 32 k)) x y = if (k : ℕ) ≤ a then x else y := by
  rw [show IntOp.addi (BitVec.ofNat 32 (a : ℕ)) 0#32 = BitVec.ofNat 32 a from BitVec.add_zero _]
  exact Cert.GmlpKernelIdeal.Value.lowTri a k x y

theorem s45 (g : Fin 8) (a k : Fin 128) : val_main_v45_0 (F := Ideal) x2 (ix3 g a k) = tri a k (Wn x2 g a k) := by
  pointwise [val_main_v45_0, val_main_v45_1, val_main_call0_v0, val_main_call0_c, val_main_call0_v1, val_main_call0_v2, val_main_call0_v3, val_main_call0_v4, val_main_call0_v6, val_main_call0_cst, tri, Wn]
  exact sel a k _ _

theorem s51 (h : Fine x0 x1 x2 x3 x4) (n : Fin 32) (a : Fin 128) (g : Fin 8) (l : Fin 128) :
    val_main_v51 (F := Ideal) x0 x1 x2 x3 (ix5 0 n a g l) = mixed (Pn x0 n) (Gn x1) (Wn x2) (Bn x3) a (col g l) := by
  unfold mixed
  rw [col_grp]
  simp only [← s44 h, ← s45]
  pointwise [val_main_v51, val_main_v50, val_main_v49, val_main_v48, val_main_v47, val_main_v46, Bn]
  exact congrArg (· + _) (congrArg (Finset.sum (M := EReal) (Finset.univ : Finset (Fin 128))) (funext fun k => mul_comm _ _))

theorem s52 (h : Fine x0 x1 x2 x3 x4) (n : Fin 32) (a : Fin 128) (j : Fin 1024) :
    val_main_v52 (F := Ideal) x0 x1 x2 x3 (ix3 0 (row n a) j) = mixed (Pn x0 n) (Gn x1) (Wn x2) (Bn x3) a j := by
  obtain ⟨g, l, rfl⟩ := col_split j
  rw [← s51 h]
  have e1 : (row n a).val / 128 = n := by simp only [row]; omega
  have e2 : (row n a).val % 128 = a := by simp only [row]; omega
  have e3 : (col g l).val / 128 = g := by simp only [col]; omega
  have e4 : (col g l).val % 128 = l := by simp only [col]; omega
  pointwise [val_main_v52, e1, e2, e3, e4]

theorem s56 (h : Fine x0 x1 x2 x3 x4) (n : Fin 32) (a : Fin 128) (j : Fin 1024) : val_main_v56 (F := Ideal) x0 x4 (ix3 0 (row n a) j) = dm (Pn x0 n) (Dn x4 n) a j := by
  unfold dm; rw [← s26 h]
  pointwise [val_main_v56, val_main_v55, val_main_v54, Dn]
  exact mul_comm _ _

theorem s57 (h : Fine x0 x1 x2 x3 x4) (n : Fin 32) (a : Fin 128) (j : Fin 1024) :
    val_main_v57 (F := Ideal) x0 x1 x2 x3 x4 (ix3 0 (row n a) j) = du (Pn x0 n) (Gn x1) (Wn x2) (Bn x3) (Dn x4 n) a j := by
  unfold du; rw [← s52 h]
  pointwise [val_main_v57, val_main_v55, val_main_v54, Dn]

theorem s58 (h : Fine x0 x1 x2 x3 x4) (n : Fin 32) (a : Fin 128) (g : Fin 8) (l : Fin 128) :
    val_main_v58 (F := Ideal) x0 x4 (ix5 0 n a g l) = dm (Pn x0 n) (Dn x4 n) a (col g l) := by
  rw [← s56 h]
  pointwise [val_main_v58, row, col]

theorem s66 (h : Fine x0 x1 x2 x3 x4) (n : Fin 32) (a : Fin 128) (g : Fin 8) (l : Fin 128) :
    val_main_v66 (F := Ideal) x0 x2 x4 (ix5 0 n a g l) = dvn (Pn x0 n) (Wn x2) (Dn x4 n) a (col g l) := by
  unfold dvn
  rw [col_grp]
  simp only [← s58 h, ← s45]
  pointwise [val_main_v66, val_main_v65, val_main_v63]
  exact congrArg (Finset.sum (M := EReal) (Finset.univ : Finset (Fin 128))) (funext fun k => mul_comm _ _)

theorem s68 (h : Fine x0 x1 x2 x3 x4) (n : Fin 32) (a : Fin 128) (j : Fin 1024) :
    val_main_v68 (F := Ideal) x0 x2 x4 (ix3 0 (row n a) j) = dvn (Pn x0 n) (Wn x2) (Dn x4 n) a j := by
  obtain ⟨g, l, rfl⟩ := col_split j
  rw [← s66 h]
  have e1 : (row n a).val / 128 = n := by simp only [row]; omega
  have e2 : (row n a).val % 128 = a := by simp only [row]; omega
  have e3 : (col g l).val / 128 = g := by simp only [col]; omega
  have e4 : (col g l).val % 128 = l := by simp only [col]; omega
  pointwise [val_main_v68, e1, e2, e3, e4]

theorem s73 (h : Fine x0 x1 x2 x3 x4) (n : Fin 32) (a : Fin 128) (j : Fin 1024) :
    val_main_v73 (F := Ideal) x0 x1 x2 x4 (ix3 0 (row n a) j) = dvh (Pn x0 n) (Gn x1) (Wn x2) (Dn x4 n) a j := by
  unfold dvh; rw [← s68 h]
  pointwise [val_main_v73, val_main_v72, val_main_v41, Gn]

theorem s89 (h : Fine x0 x1 x2 x3 x4) (n : Fin 32) (a : Fin 128) (j : Fin 1024) :
    val_main_v89 (F := Ideal) x0 x1 x2 x4 (ix3 0 (row n a) j) = dv (Pn x0 n) (Gn x1) (Wn x2) (Dn x4 n) a j := by
  rw [← dv_eq (h.P n) h.G h.W (h.D n)]
  simp only [← s73 h, ← s35 h, ← s34 h, ← s27 h]
  pointwise [val_main_v89, val_main_v88, val_main_v87, val_main_v86, val_main_v85, val_main_v84, val_main_v83, val_main_v82, val_main_v81, val_main_v80, val_main_v79, val_main_v78, val_main_v77, val_main_v76, val_main_v75, val_main_v38, val_main_v37, val_main_v36, val_main_cst_10, val_main_cst_15, val_main_cst_16, val_main_cst_17]
  simp only [unit_rows]
  pointwise []

theorem s104 (h : Fine x0 x1 x2 x3 x4) (n : Fin 32) (a : Fin 128) (l : Fin 2048) :
    val_main_v104 (F := Ideal) x0 x1 x2 x3 x4 (ix3 0 (row n a) l) = Q6 x0 x1 x2 x3 x4 n a l := by
  have e90 : val_main_v90 (F := Ideal) x0 x1 x2 x3 x4 (ix3 0 (row n a) l)
      = if h : l.val < 1024 then du (Pn x0 n) (Gn x1) (Wn x2) (Bn x3) (Dn x4 n) a ⟨l.val, h⟩ else dv (Pn x0 n) (Gn x1) (Wn x2) (Dn x4 n) a ⟨l.val - 1024, by omega⟩ := by
    split <;> rename_i hl
    · rw [← s57 h]
      pointwise [val_main_v90, hl]
    · rw [← s89 h]
      pointwise [val_main_v90, hl]
  obtain ⟨b, hb⟩ := h.P n a l
  obtain ⟨e, he⟩ : ∃ r : ℝ, val_main_v90 (F := Ideal) x0 x1 x2 x3 x4 (ix3 0 (row n a) l) = (r : EReal) := by
    rw [e90]; split
    · exact real_du (h.P n) h.G h.W h.B (h.D n) a _
    · exact real_dv (h.P n) h.G h.W (h.D n) a _
  unfold Q6
  rw [← e90, he, hb, ← Gelu.back_eq, ← he, ← hb, back, ← s15, ← s2]
  pointwise [val_main_v104, val_main_v103, val_main_v102, val_main_v101, val_main_v100, val_main_v99, val_main_v98, val_main_v97, val_main_v96, val_main_v95, val_main_v94, val_main_v93, val_main_v92, val_main_v91, val_main_v24, val_main_v23, val_main_v22, val_main_v21, val_main_v20, val_main_v19, val_main_v18, val_main_v17, val_main_v16, val_main_v7, val_main_v6, val_main_v5, val_main_cst, val_main_cst_3, val_main_cst_4, val_main_cst_5, val_main_cst_6, val_main_cst_18, val_main_cst_19, val_main_cst_20, val_main_cst_21]

theorem r106 (h : Fine x0 x1 x2 x3 x4) : val_main_v106 (F := Ideal) x0 x1 x2 x3 x4 = O6 x0 x1 x2 x3 x4 := by
  funext j
  have e : row (chk (j 0)) (plc (j 0)) = j 0 := by apply Fin.ext; simp only [row, chk, plc]; omega
  refine Eq.trans ?_ (s104 h (chk (j 0)) (plc (j 0)) (j 1))
  rw [e]
  pointwise [val_main_v106, val_main_v105]

theorem r107 (h : Fine x0 x1 x2 x3 x4) : val_main_v107 (F := Ideal) x0 x2 x4 = O7 x0 x2 x4 := by
  funext j
  obtain ⟨k, rfl⟩ := Cert.GmlpKernelIdeal.Value.unit_first j
  show _ = ∑ n : Fin 32, ∑ a : Fin 128, dvn (Pn x0 n) (Wn x2) (Dn x4 n) a k * vh (Pn x0 n) a k
  simp only [← s68 h, ← s40 h]
  have z : val_main_cst_14 (F := Ideal) (Shape.Idx.first h_S_) = (0 : EReal) := by pointwise [val_main_cst_14]
  pointwise [val_main_v107, val_main_v74]
  rw [z, unit_gain]
  pointwise [val_main_v71, val_main_v70, val_main_v69, val_main_cst_13, val_main_cst_14]
  refine (Fin.sum_mul_add_fin (M := EReal) 32 128 (fun r : Fin 4096 => val_main_v40 (F := Ideal) x0 (ix3 0 r k) * val_main_v68 (F := Ideal) x0 x2 x4 (ix3 0 r k)) rfl).symm.trans ?_
  exact congrArg (Finset.sum (M := EReal) (Finset.univ : Finset (Fin 32))) (funext fun n =>
    congrArg (Finset.sum (M := EReal) (Finset.univ : Finset (Fin 128))) (funext fun a => mul_comm _ _))

theorem r67 (h : Fine x0 x1 x2 x3 x4) : val_main_v67 (F := Ideal) x0 x1 x4 = O8 x0 x1 x4 := by
  funext j
  obtain ⟨g, a, b, rfl⟩ : ∃ (g : Fin 8) (a b : Fin 128), j = ix3 g a b := ⟨j 0, j 1, j 2, by funext a; fin_cases a <;> rfl⟩
  show _ = ∑ n : Fin 32, dw (Pn x0 n) (Gn x1) (Dn x4 n) g a b
  unfold dw
  simp only [← s58 h, ← s44 h]
  pointwise [val_main_v67, val_main_v64, val_main_v63, val_main_call1_cst, val_main_call1_v0, val_main_v45_1, val_main_call0_v0, val_main_call0_c, val_main_call0_v1, val_main_call0_v2, val_main_call0_v3, val_main_call0_v4, tri]
  rw [sel, dot_chunks]
  split
  · pointwise []
  · exact (Finset.sum_const_zero (M := EReal)).symm

theorem r108 (h : Fine x0 x1 x2 x3 x4) : val_main_v108 (F := Ideal) x0 x4 = O9 x0 x4 := by
  funext j
  obtain ⟨g, a, rfl⟩ := Cert.GmlpKernelIdeal.Value.unit_last j
  show _ = ∑ n : Fin 32, ∑ l : Fin 128, dm (Pn x0 n) (Dn x4 n) a (col g l)
  simp only [← s58 h]
  pointwise [val_main_v108, val_main_v62, val_main_v61, val_main_cst_12]
  rw [unit_bias]
  pointwise [val_main_v60, val_main_v59, val_main_cst_11]
  exact sum_bias _ _ _

end Cert.GmlpRefIdeal.Value

namespace Cert.Proof.Gmlp

/-- The stated side conditions of the precondition hold. -/
instance pre_facts : Cert.Pre_gmlp_finite.Facts where
  slices_S4096x12288_S4096x2048_0_0 := by decide
  bcast_S_S4096x2048 := by decide
  bcast_S_S1024 := by decide
  bcast_S_S8x128x128 := by decide
  bcast_S_S8x128 := by decide
  bcast_S_S4096x1024 := by decide

open Cert.GmlpKernelIdeal Cert.GmlpKernelIdeal.Value in
theorem slice_real {x1 : Vec Ideal S4096x12288 .bf16} {r : Fin 4096} {k : Fin 2048}
    (h : ∃ a : ℝ, extractStridedSlice S4096x2048 ![0, 0] x1 Cert.Pre_gmlp_finite.Facts.slices_S4096x12288_S4096x2048_0_0 (ix2 r k) = (a : EReal)) :
    ∃ a : ℝ, x1 (ix2 r ⟨k.val, by omega⟩) = (a : EReal) := by
  obtain ⟨a, ha⟩ := h
  refine ⟨a, Eq.trans (Eq.symm ?_) ha⟩
  pointwise

open Cert.GmlpKernelIdeal Cert.GmlpKernelIdeal.Value in
theorem fine (m : (ℓ : Loc nD τ sig) → Buf (Elt Ideal) ℓ) (hpre : Cert.Pre_GmlpKernelIdeal_gmlp_finite m) (c : Dev nD) :
    Cert.GmlpRefIdeal.Value.Fine (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨h0, h1, h2, h3, h4⟩ := hpre c
  exact ⟨fun r k => slice_real (Reals.real_of_cmp16 (congrFun h0 (ix2 r k))), fun i => Reals.real_of_cmp (congrFun h1 i), fun i => Reals.real_of_cmp (congrFun h2 i),
    fun i => Reals.real_of_cmp (congrFun h3 i), fun i => Reals.real_of_cmp16 (congrFun h4 i)⟩

set_option maxHeartbeats 2000000 in
theorem algebraic : Cert.algebraic_GmlpKernelIdeal_GmlpRefIdeal_pre_gmlp_finite := by
  pair_intro
  · run_from Cert.GmlpKernelIdeal.Value.run_blocks m g
  · run_from Cert.GmlpRefIdeal.Value.run m' g'
    · rw [Cert.GmlpKernelIdeal.Value.final6 m c]
      refine (Cert.GmlpRefIdeal.Read.val_main_v106_eq (fun b => m' (c, b))).trans ?_
      show Cert.GmlpRefIdeal.Read.val_main_v106 (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg2)) (m' ((c.tc : Thread Cert.GmlpRefIdeal.nD Cert.GmlpRefIdeal.τ).loc Cert.GmlpRefIdeal.main_arg3)) (m' ((c.tc : Thread Cert.GmlpRefIdeal.nD Cert.GmlpRefIdeal.τ).loc Cert.GmlpRefIdeal.main_arg4)) = _
      rw [(hagree c).1, (hagree c).2.1, (hagree c).2.2.1, (hagree c).2.2.2.1, (hagree c).2.2.2.2]
      exact Cert.GmlpRefIdeal.Value.r106 (fine m hpre c)
    · rw [Cert.GmlpKernelIdeal.Value.final7 m c]
      refine (Cert.GmlpRefIdeal.Read.val_main_v107_eq (fun b => m' (c, b))).trans ?_
      show Cert.GmlpRefIdeal.Read.val_main_v107 (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg2)) (m' ((c.tc : Thread Cert.GmlpRefIdeal.nD Cert.GmlpRefIdeal.τ).loc Cert.GmlpRefIdeal.main_arg4)) = _
      rw [(hagree c).1, (hagree c).2.2.1, (hagree c).2.2.2.2]
      exact Cert.GmlpRefIdeal.Value.r107 (fine m hpre c)
    · rw [Cert.GmlpKernelIdeal.Value.final8 m c]
      refine (Cert.GmlpRefIdeal.Read.val_main_v67_eq (fun b => m' (c, b))).trans ?_
      show Cert.GmlpRefIdeal.Read.val_main_v67 (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg1)) (m' ((c.tc : Thread Cert.GmlpRefIdeal.nD Cert.GmlpRefIdeal.τ).loc Cert.GmlpRefIdeal.main_arg4)) = _
      rw [(hagree c).1, (hagree c).2.1, (hagree c).2.2.2.2]
      exact Cert.GmlpRefIdeal.Value.r67 (fine m hpre c)
    · rw [Cert.GmlpKernelIdeal.Value.final9 m c]
      refine (Cert.GmlpRefIdeal.Read.val_main_v108_eq (fun b => m' (c, b))).trans ?_
      show Cert.GmlpRefIdeal.Read.val_main_v108 (m' ((c.tc : Thread Cert.GmlpRefIdeal.nD Cert.GmlpRefIdeal.τ).loc Cert.GmlpRefIdeal.main_arg0)) (m' ((c.tc : Thread Cert.GmlpRefIdeal.nD Cert.GmlpRefIdeal.τ).loc Cert.GmlpRefIdeal.main_arg4)) = _
      rw [(hagree c).1, (hagree c).2.2.2.2]
      exact Cert.GmlpRefIdeal.Value.r108 (fine m hpre c)

theorem frame_ref : Cert.quiescent_GmlpRefIdeal := fun m g _ =>
  (θ_run Cert.GmlpRefIdeal.defs _ _).mono (fun r h => ⟨fun c => (h c).2.2.2.2, sem_eq_zero_of_no_sems (by decide) r.2⟩)
    (Cert.GmlpRefIdeal.Value.run (F := Ideal) m g)

/-- At the machine's scalars a named constant is its word. -/
@[reducible] def namedBits : Named Bits := ⟨fun _ _ φ bits => FloatOps.ofBits φ bits⟩

theorem frame_bits : Cert.quiescent_GmlpKernel := fun m g _ =>
  cast (by sl_kernel_rfl) (@Cert.GmlpKernelIdeal.Gen.frame Bits _ namedBits m g)

theorem frame_ideal : Cert.quiescent_GmlpKernelIdeal := fun m g _ => Cert.GmlpKernelIdeal.Gen.frame m g

theorem preserves : Cert.preserves_GmlpKernel_GmlpKernelIdeal :=
  ⟨IdealRules.named_const.statement _ _ _ _ _ rfl, IdealRules.named_const.statement _ _ _ _ _ rfl⟩

end Cert.Proof.Gmlp

end
-- ==== Proof.MergeFwdPair.lean ====
/- The merge's forward call: the blocked kernel and the gated sum of the branch products. -/
module

public import proofs.«01_k».proof.Defs
public import proofs.«01_k».proof.Proof.GluReal
public import proofs.«01_k».proof.Proof.Gen.MergeFwdKernel
public import proofs.«01_k».proof.Proof.Gen.MergeFwdKernelIdeal.Value
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdKernelIdeal.Value

open Cert.MergeFwdKernelIdeal Cert.MergeFwdKernelIdeal.Gen
open Cert.Gelu (gate)

/-! ## The rows the call writes -/

section Spec

variable (x0 x1 x2 : Vec Ideal S4096x1024 .bf16) (x3 : Vec Ideal S3x1024x2048 .bf16) (x4 : Vec Ideal S4096x12288 .bf16) (x5 : Vec Ideal S3x2048 .f32)

/-- One gated branch of row `r`, column `k`: the gate of a projection and a bias, times a product. -/
def term (y : Vec Ideal S4096x1024 .bf16) (n : Fin 3) (r : Fin 4096) (k : Fin 2048) : EReal :=
  gate (x4 (ix2 r ⟨6144 + n.val * 2048 + k.val, by omega⟩) + x5 (ix2 n k)) * ∑ l : Fin 1024, y (ix2 r l) * x3 (ix3 n l k)

/-- The merged entry: the three gated branches added. -/
def merged (r : Fin 4096) (k : Fin 2048) : EReal := term x3 x4 x5 x0 0 r k + term x3 x4 x5 x1 1 r k + term x3 x4 x5 x2 2 r k

def OM : Vec Ideal S4096x2048 .bf16 := fun j => merged x0 x1 x2 x3 x4 x5 (j 0) (j 1)
def OT : Vec Ideal S2048x4096 .bf16 := fun j => merged x0 x1 x2 x3 x4 x5 (j 1) (j 0)

end Spec

/-! ## One block -/

/-- One gated branch of a block. -/
def blkTerm (y : Vec Ideal S512x1024 .bf16) (w : Vec Ideal S1x1x3x1024x256 .bf16) (p : Vec Ideal S512x256 .bf16) (b : Vec Ideal S1x1x3x256 .f32)
    (n : Fin 3) (r : Fin 512) (q : Fin 256) : EReal :=
  gate (p (ix2 r q) + b (ix4 0 0 n q)) * ∑ l : Fin 1024, y (ix2 r l) * w (ix5 0 0 n l q)

theorem pay (y0 y1 y2 : Vec Ideal S512x1024 .bf16) (w : Vec Ideal S1x1x3x1024x256 .bf16) (p0 p1 p2 : Vec Ideal S512x256 .bf16) (b : Vec Ideal S1x1x3x256 .f32) (r : Fin 512) (q : Fin 256) :
    k0_pay1 (F := Ideal) (k0_pay10 y0 y1 y2 w p0 p1 p2 b) (k0_pay11 y0 y1 y2 w p0 p1 p2 b) y2 (k0_pay12 y0 y1 y2 w p0 p1 p2 b) (ix2 r q)
      = blkTerm y0 w p0 b 0 r q + blkTerm y1 w p1 b 1 r q + blkTerm y2 w p2 b 2 r q := by
  unfold blkTerm gate
  pointwise [k0_pay1, k0_pay4, k0_pay5, k0_pay6, k0_pay7, k0_pay8, k0_pay9, k0_pay10, k0_pay11, k0_pay12, View.ld, r0_0, r0_1, r0_2, r0_3, r0_4, r0_5, r0_6, r0_7]
  rfl

variable (m : (ℓ : Loc nD τ sig) → Buf (Elt Ideal) ℓ)

theorem idx : ∀ t : Fin cfg0.N, win0_0.index t = ![t.val / 8, 0] ∧ win0_1.index t = ![t.val / 8, 0] ∧ win0_2.index t = ![t.val / 8, 0]
    ∧ win0_3.index t = ![0, t.val % 8, 0, 0, 0] ∧ win0_4.index t = ![t.val / 8, 24 + t.val % 8] ∧ win0_5.index t = ![t.val / 8, 32 + t.val % 8]
    ∧ win0_6.index t = ![t.val / 8, 40 + t.val % 8] ∧ win0_7.index t = ![0, t.val % 8, 0, 0] ∧ win0_8.index t = ![t.val / 8, t.val % 8]
    ∧ win0_9.index t = ![t.val % 8, t.val / 8] :=
  (by decide +kernel : ∀ t : Fin grid0.N, _)

/-- Row `r` of the point's block. -/
def rowOf (t : Fin cfg0.N) (r : Fin 512) : Fin 4096 := ⟨t.val / 8 * 512 + r.val, by have := r.isLt; have := t.isLt; have : cfg0.N = 64 := N_0; omega⟩

/-- Column `q` of the point's block. -/
def colOf (t : Fin cfg0.N) (q : Fin 256) : Fin 2048 := ⟨t.val % 8 * 256 + q.val, by have := q.isLt; omega⟩

section Blocks

variable (c : Dev nD)

theorem blk_y0 (t : Fin cfg0.N) (r : Fin 512) (l : Fin 1024) : (iblk m c 0 t : Vec Ideal S512x1024 .bf16) (ix2 r l) = m ((c : Thread nD τ).loc main_arg0) (ix2 (rowOf t r) l) := by
  unfold rowOf
  blk_point [iblk, V, idx t]

theorem blk_y1 (t : Fin cfg0.N) (r : Fin 512) (l : Fin 1024) : (iblk m c 1 t : Vec Ideal S512x1024 .bf16) (ix2 r l) = m ((c : Thread nD τ).loc main_arg1) (ix2 (rowOf t r) l) := by
  unfold rowOf
  blk_point [iblk, V, idx t]

theorem blk_y2 (t : Fin cfg0.N) (r : Fin 512) (l : Fin 1024) : (iblk m c 2 t : Vec Ideal S512x1024 .bf16) (ix2 r l) = m ((c : Thread nD τ).loc main_arg2) (ix2 (rowOf t r) l) := by
  unfold rowOf
  blk_point [iblk, V, idx t]

theorem blk_p0 (t : Fin cfg0.N) (r : Fin 512) (q : Fin 256) :
    (iblk m c 4 t : Vec Ideal S512x256 .bf16) (ix2 r q) = m ((c : Thread nD τ).loc main_arg4) (ix2 (rowOf t r) ⟨6144 + (0 : Fin 3).val * 2048 + (colOf t q).val, by omega⟩) := by
  unfold rowOf colOf
  blk_point [iblk, V, idx t]

theorem blk_p1 (t : Fin cfg0.N) (r : Fin 512) (q : Fin 256) :
    (iblk m c 5 t : Vec Ideal S512x256 .bf16) (ix2 r q) = m ((c : Thread nD τ).loc main_arg4) (ix2 (rowOf t r) ⟨6144 + (1 : Fin 3).val * 2048 + (colOf t q).val, by show 6144 + 1 * 2048 + _ < _; omega⟩) := by
  show _ = m ((c : Thread nD τ).loc main_arg4) (ix2 (rowOf t r) ⟨6144 + 1 * 2048 + (colOf t q).val, by omega⟩)
  unfold rowOf colOf
  blk_point [iblk, V, idx t]

theorem blk_p2 (t : Fin cfg0.N) (r : Fin 512) (q : Fin 256) :
    (iblk m c 6 t : Vec Ideal S512x256 .bf16) (ix2 r q) = m ((c : Thread nD τ).loc main_arg4) (ix2 (rowOf t r) ⟨6144 + (2 : Fin 3).val * 2048 + (colOf t q).val, by show 6144 + 2 * 2048 + _ < _; omega⟩) := by
  show _ = m ((c : Thread nD τ).loc main_arg4) (ix2 (rowOf t r) ⟨6144 + 2 * 2048 + (colOf t q).val, by omega⟩)
  unfold rowOf colOf
  blk_point [iblk, V, idx t]

theorem blk_w (t : Fin cfg0.N) (n : Fin 3) (l : Fin 1024) (q : Fin 256) :
    (iblk m c 3 t : Vec Ideal S1x1x3x1024x256 .bf16) (ix5 0 0 n l q) = m ((c : Thread nD τ).loc main_arg3) (ix3 n l (colOf t q)) := by
  unfold colOf
  blk_point [iblk, V, idx t]

theorem blk_b (t : Fin cfg0.N) (n : Fin 3) (q : Fin 256) :
    (iblk m c 7 t : Vec Ideal S1x1x3x256 .f32) (ix4 0 0 n q) = m ((c : Thread nD τ).loc main_arg5) (ix2 n (colOf t q)) := by
  unfold colOf
  blk_point [iblk, V, idx t]

/-- The rows and columns of one grid point. -/
theorem block (t : Fin cfg0.N) (r : Fin 512) (q : Fin 256) :
    k0_pay1 (F := Ideal) (k0_pay10 (iblk m c 0 t) (iblk m c 1 t) (iblk m c 2 t) (iblk m c 3 t) (iblk m c 4 t) (iblk m c 5 t) (iblk m c 6 t) (iblk m c 7 t))
        (k0_pay11 (iblk m c 0 t) (iblk m c 1 t) (iblk m c 2 t) (iblk m c 3 t) (iblk m c 4 t) (iblk m c 5 t) (iblk m c 6 t) (iblk m c 7 t)) (iblk m c 2 t)
        (k0_pay12 (iblk m c 0 t) (iblk m c 1 t) (iblk m c 2 t) (iblk m c 3 t) (iblk m c 4 t) (iblk m c 5 t) (iblk m c 6 t) (iblk m c 7 t)) (ix2 r q)
      = merged (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (rowOf t r) (colOf t q) := by
  refine (pay _ _ _ _ _ _ _ _ r q).trans ?_
  unfold blkTerm merged term
  simp only [blk_y0 m c t, blk_y1 m c t, blk_y2 m c t, blk_p0 m c t, blk_p1 m c t, blk_p2 m c t, blk_w m c t, blk_b m c t]

end Blocks

theorem out2 (a b : FVec Ideal S512x256 .f32) (y2 : Vec Ideal S512x1024 .bf16) (w : FVec Ideal S1024x256 .bf16) (y : S512x256.Idx) :
    k0_pay2 (F := Ideal) a b y2 w y = k0_pay1 (F := Ideal) a b y2 w (ix2 (y 0) (y 1)) := by
  obtain ⟨r, q, rfl⟩ : ∃ (r : Fin 512) (q : Fin 256), y = ix2 r q := ⟨y 0, y 1, by funext a; fin_cases a <;> rfl⟩
  rfl

theorem out3 (a b : FVec Ideal S512x256 .f32) (y2 : Vec Ideal S512x1024 .bf16) (w : FVec Ideal S1024x256 .bf16) (y : S256x512.Idx) :
    k0_pay3 (F := Ideal) a b y2 w y = k0_pay1 (F := Ideal) a b y2 w (ix2 (y 1) (y 0)) := by
  unfold k0_pay3
  generalize k0_pay1 (F := Ideal) a b y2 w = v
  pointwise []

theorem point8 (c : Dev nD) (t : Fin cfg0.N) (y : S512x256.Idx) (j : S4096x2048.Idx) (h0 : (j 0 : ℕ) = t.val / 8 * 512 + y 0) (h1 : (j 1 : ℕ) = t.val % 8 * 256 + y 1) :
    k0_pay2 (F := Ideal) (k0_pay10 (iblk m c 0 t) (iblk m c 1 t) (iblk m c 2 t) (iblk m c 3 t) (iblk m c 4 t) (iblk m c 5 t) (iblk m c 6 t) (iblk m c 7 t)) (k0_pay11 (iblk m c 0 t) (iblk m c 1 t) (iblk m c 2 t) (iblk m c 3 t) (iblk m c 4 t) (iblk m c 5 t) (iblk m c 6 t) (iblk m c 7 t)) (iblk m c 2 t) (k0_pay12 (iblk m c 0 t) (iblk m c 1 t) (iblk m c 2 t) (iblk m c 3 t) (iblk m c 4 t) (iblk m c 5 t) (iblk m c 6 t) (iblk m c 7 t)) y
      = OM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have e0 : rowOf t (y 0) = j 0 := Fin.ext h0.symm
  have e1 : colOf t (y 1) = j 1 := Fin.ext h1.symm
  unfold OM
  rw [← e0, ← e1]
  refine Eq.trans ?_ (block m c t (y 0) (y 1))
  exact out2 _ _ _ _ y

theorem final8 (c : Dev nD) : (dats m 0 c).arrAt 8 cfg0.N = OM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  refine Eq.trans ?_ (point8 m c t y _ ?_ ?_)
  · rfl
  all_goals blk_simp [idx t]

theorem point9 (c : Dev nD) (t : Fin cfg0.N) (y : S256x512.Idx) (j : S2048x4096.Idx) (h0 : (j 0 : ℕ) = t.val % 8 * 256 + y 0) (h1 : (j 1 : ℕ) = t.val / 8 * 512 + y 1) :
    k0_pay3 (F := Ideal) (k0_pay10 (iblk m c 0 t) (iblk m c 1 t) (iblk m c 2 t) (iblk m c 3 t) (iblk m c 4 t) (iblk m c 5 t) (iblk m c 6 t) (iblk m c 7 t)) (k0_pay11 (iblk m c 0 t) (iblk m c 1 t) (iblk m c 2 t) (iblk m c 3 t) (iblk m c 4 t) (iblk m c 5 t) (iblk m c 6 t) (iblk m c 7 t)) (iblk m c 2 t) (k0_pay12 (iblk m c 0 t) (iblk m c 1 t) (iblk m c 2 t) (iblk m c 3 t) (iblk m c 4 t) (iblk m c 5 t) (iblk m c 6 t) (iblk m c 7 t)) y
      = OT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have e0 : rowOf t (y 1) = j 1 := Fin.ext h1.symm
  have e1 : colOf t (y 0) = j 0 := Fin.ext h0.symm
  unfold OT
  rw [← e0, ← e1]
  refine Eq.trans ?_ (block m c t (y 1) (y 0))
  exact out3 _ _ _ _ y

theorem final9 (c : Dev nD) : (dats m 0 c).arrAt 9 cfg0.N = OT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  frame_out
  refine Eq.trans ?_ (point9 m c t y _ ?_ ?_)
  · rfl
  all_goals blk_simp [idx t]

end Cert.MergeFwdKernelIdeal.Value

namespace Cert.MergeFwdRefIdeal.Value

open Cert.MergeFwdRefIdeal Cert.MergeFwdRefIdeal.Gen Cert.MergeFwdRefIdeal.Read
open Cert.Gelu (gate hgate)
open Cert.MergeFwdKernelIdeal.Value (term merged OM OT)

variable (x0 x1 x2 : Vec Ideal S4096x1024 .bf16) (x3 : Vec Ideal S3x1024x2048 .bf16) (x4 : Vec Ideal S4096x12288 .bf16) (x5 : Vec Ideal S3x2048 .f32)

/-- Branch `n`'s rows. -/
def branch (n : Fin 3) : Vec Ideal S4096x1024 .bf16 := match n with | 0 => x0 | 1 => x1 | 2 => x2

theorem s13 (n : Fin 3) (r : Fin 4096) (l : Fin 1024) : val_main_v13 (F := Ideal) x0 x1 x2 (ix4 0 r n l) = branch x0 x1 x2 n (ix2 r l) := by
  match n with
  | 0 | 1 | 2 => pointwise [val_main_v13, val_main_v12, val_main_v11, val_main_v10, val_main_v8, val_main_v7, val_main_v6, val_main_v5, val_main_v4, val_main_v3, branch]

theorem s25 (n : Fin 3) (r : Fin 4096) (k : Fin 2048) : val_main_v25 (F := Ideal) x4 x5 (ix4 0 r n k) = gate (x4 (ix2 r ⟨6144 + n.val * 2048 + k.val, by omega⟩) + x5 (ix2 n k)) := by
  rw [Cert.Gelu.gate_all]
  unfold hgate
  pointwise [val_main_v25, val_main_v24, val_main_v23, val_main_v22, val_main_v21, val_main_v20, val_main_v19, val_main_v18, val_main_v17, val_main_v16, val_main_v2, val_main_v1, val_main_v0, val_main_cst, val_main_cst_0]
  simp only [Nat.add_assoc]

theorem s26 (n : Fin 3) (r : Fin 4096) (k : Fin 2048) : val_main_v26 (F := Ideal) x0 x1 x2 x3 x4 x5 (ix4 0 r n k) = term x3 x4 x5 (branch x0 x1 x2 n) n r k := by
  unfold term
  rw [← s25]
  pointwise [val_main_v26, val_main_v15, val_main_v14, val_main_v9]
  exact congrArg _ (congrArg (Finset.sum (M := EReal) (Finset.univ : Finset (Fin 1024))) (funext fun l : Fin 1024 => (EReal.mul_comm _ _).trans (congrArg (· * _) (s13 x0 x1 x2 n r l))))

theorem s29 (r : Fin 4096) (k : Fin 2048) : val_main_v29 (F := Ideal) x0 x1 x2 x3 x4 x5 (ix2 r k) = merged x0 x1 x2 x3 x4 x5 r k := by
  pointwise [val_main_v29, val_main_v28, val_main_v27, val_main_cst_1]
  rw [Fin.sum_univ_three]
  exact congrArg₂ _ (congrArg₂ _ (s26 x0 x1 x2 x3 x4 x5 0 r k) (s26 x0 x1 x2 x3 x4 x5 1 r k)) (s26 x0 x1 x2 x3 x4 x5 2 r k)

theorem r29 : val_main_v29 (F := Ideal) x0 x1 x2 x3 x4 x5 = OM x0 x1 x2 x3 x4 x5 := by
  funext j
  obtain ⟨r, k, rfl⟩ : ∃ (r : Fin 4096) (k : Fin 2048), j = ix2 r k := ⟨j 0, j 1, by funext a; fin_cases a <;> rfl⟩
  exact s29 x0 x1 x2 x3 x4 x5 r k

theorem r30 : val_main_v30 (F := Ideal) x0 x1 x2 x3 x4 x5 = OT x0 x1 x2 x3 x4 x5 := by
  funext j
  refine Eq.trans ?_ (s29 x0 x1 x2 x3 x4 x5 (j 1) (j 0))
  pointwise [val_main_v30]

end Cert.MergeFwdRefIdeal.Value

namespace Cert.Proof.MergeFwd

theorem algebraic : Cert.algebraic_MergeFwdKernelIdeal_MergeFwdRefIdeal := by
  pair_intro
  · run_from Cert.MergeFwdKernelIdeal.Value.run_blocks m g
  · run_from Cert.MergeFwdRefIdeal.Value.run m' g'
    · rw [Cert.MergeFwdKernelIdeal.Value.final8 m c]
      exact (Cert.MergeFwdRefIdeal.Read.val_main_v29_eq _ _ _ _ _ _).trans (Cert.MergeFwdRefIdeal.Value.r29 _ _ _ _ _ _)
    · rw [Cert.MergeFwdKernelIdeal.Value.final9 m c]
      exact (Cert.MergeFwdRefIdeal.Read.val_main_v30_eq _ _ _ _ _ _).trans (Cert.MergeFwdRefIdeal.Value.r30 _ _ _ _ _ _)

theorem frame_ref : Cert.quiescent_MergeFwdRefIdeal := fun m g _ =>
  (θ_run Cert.MergeFwdRefIdeal.defs _ _).mono (fun r h => ⟨fun c => (h c).2.2, sem_eq_zero_of_no_sems (by decide) r.2⟩)
    (Cert.MergeFwdRefIdeal.Value.run (F := Ideal) m g)

end Cert.Proof.MergeFwd

end
-- ==== Proof.GluFwdPair.lean ====
/- The gated branch's forward call: the blocked kernel's rows against gelu and the logistic gate. -/
module

public import proofs.«01_k».proof.Defs
public import proofs.«01_k».proof.Proof.Gen.GluFwdKernel
public import proofs.«01_k».proof.Proof.Gen.GluFwdKernelIdeal.Value
public import proofs.«01_k».proof.Proof.Gen.GluFwdRefIdeal.Run
public import proofs.«01_k».proof.Proof.Gen.GluFwdRefIdeal.Read
public import Idealize.ShloMosaic.Lib.Pipeline.ValueKit
public import Idealize.ShloMosaic.Lib.Pointwise
public import Idealize.ShloMosaic.Lib.Claim
public import proofs.«01_k».proof.Proof.GluReal

@[expose] public section

set_option maxRecDepth 16384

noncomputable section

open Idealize.ShloMosaic Idealize.ShloMosaic.TcCoe Idealize.SL.Sem
open Idealize.ShloMosaic.Pipeline (Dat)

namespace Cert.GluFwdKernelIdeal.Value

open Cert.GluFwdKernelIdeal Cert.GluFwdKernelIdeal.Gen
open Cert.Gelu (gate)

/-- The tangent form of gelu, with the words of its constants, as the kernel multiplies it out. -/
def act (z : EReal) : EReal :=
  Ideal.ofBits .f32 0x3F000000#32 * z * (Ideal.ofBits .f32 0x3F800000#32 + Ideal.tanh (Ideal.ofBits .f32 0x3F4C422A#32 * (z + Ideal.ofBits .f32 0x3D372713#32 * (z * z * z))))

/-- A row of gelus times its gate. -/
def gated (y : Fin 1024 → EReal) (W : Fin 1024 → Fin 1024 → EReal) (B : Fin 1024 → EReal) (k : Fin 1024) : EReal :=
  act (y k) * gate ((∑ l : Fin 1024, act (y l) * W l k) + B k)

/-- The branch's input: the scanned row plus the skip of the projection's third block. -/
def inp (y : Vec Ideal S4096x1024 .f32) (p : Vec Ideal S4096x12288 .bf16) (d : Vec Ideal S1024 .f32) (r : Fin 4096) (k : Fin 1024) : EReal :=
  y (ix2 r k) + d (ix1 k) * p (ix2 r ⟨2048 + k.val, by omega⟩)

/-- The branch's rows. -/
def OG (y : Vec Ideal S4096x1024 .f32) (p : Vec Ideal S4096x12288 .bf16) (d : Vec Ideal S1024 .f32) (w : Vec Ideal S1024x1024 .bf16) (b : Vec Ideal S1024 .f32) :
    Vec Ideal S4096x1024 .bf16 :=
  fun j => gated (inp y p d (j 0)) (fun l k => w (ix2 l k)) (fun k => b (ix1 k)) (j 1)

/-! ## One block -/

/-- The input's block. -/
def binp (y : Vec Ideal S512x1024 .f32) (d : Vec Ideal S1x1024 .f32) (p : Vec Ideal S512x1024 .bf16) (r : Fin 512) (k : Fin 1024) : EReal :=
  y (ix2 r k) + d (ix2 0 k) * p (ix2 r k)

theorem pay2 (y : Vec Ideal S512x1024 .f32) (d : Vec Ideal S1x1024 .f32) (p : Vec Ideal S512x1024 .bf16) :
    k0_pay2 (F := Ideal) y d p = fun j => act (binp y d p (j 0) (j 1)) := by
  funext j
  pointwise [k0_pay2, act, binp]

theorem pay (y : Vec Ideal S512x1024 .f32) (d : Vec Ideal S1x1024 .f32) (p : Vec Ideal S512x1024 .bf16) (w : Vec Ideal S1x1024x1024 .bf16) (b : Vec Ideal S1x1024 .f32)
    (j : S512x1024.Idx) :
    k0_pay1 (F := Ideal) (k0_pay2 y d p) (k0_pay5 y d p w b) (k0_pay6 y d p w b) j
      = gated (binp y d p (j 0)) (fun l k => w (ix3 0 l k)) (fun k => b (ix2 0 k)) (j 1) := by
  unfold k0_pay5 k0_pay6 k0_pay4 k0_pay3
  rw [pay2]
  pointwise [k0_pay1, gated, gate]
  rfl

variable (m : (ℓ : Loc nD τ sig) → Buf (Elt Ideal) ℓ)

theorem idx : ∀ t : Fin cfg0.N, win0_0.index t = ![t.val, 0] ∧ win0_1.index t = ![t.val, 2] ∧ win0_2.index t = ![0, 0]
    ∧ win0_3.index t = ![0, 0, 0] ∧ win0_4.index t = ![0, 0] ∧ win0_5.index t = ![t.val, 0] :=
  (by decide +kernel : ∀ t : Fin grid0.N, _)

/-- Row `r` of the point's block. -/
def rowOf (t : Fin cfg0.N) (r : Fin 512) : Fin 4096 := ⟨t.val * 512 + r.val, by have := r.isLt; have := t.isLt; have : cfg0.N = 8 := N_0; omega⟩

section Blocks

variable (c : Dev nD)

theorem blk_y (t : Fin cfg0.N) (r : Fin 512) (k : Fin 1024) :
    (iblk m c 0 t : Vec Ideal S512x1024 .f32) (ix2 r k) = (m ((c : Thread nD τ).loc main_arg0) : Vec Ideal S4096x1024 .f32) (ix2 (rowOf t r) k) := by
  unfold rowOf
  blk_point [iblk, V, idx t]

theorem blk_p (t : Fin cfg0.N) (r : Fin 512) (k : Fin 1024) :
    (iblk m c 1 t : Vec Ideal S512x1024 .bf16) (ix2 r k) = (m ((c : Thread nD τ).loc main_arg1) : Vec Ideal S4096x12288 .bf16) (ix2 (rowOf t r) ⟨2048 + k.val, by omega⟩) := by
  unfold rowOf
  blk_point [iblk, V, idx t]

theorem blk_d (t : Fin cfg0.N) (k : Fin 1024) :
    (iblk m c 2 t : Vec Ideal S1x1024 .f32) (ix2 0 k) = (m ((c : Thread nD τ).loc main_arg2) : Vec Ideal S1024 .f32) (ix1 k) := by
  blk_point [iblk, V, idx t]

theorem blk_w (t : Fin cfg0.N) (l k : Fin 1024) :
    (iblk m c 3 t : Vec Ideal S1x1024x1024 .bf16) (ix3 0 l k) = (m ((c : Thread nD τ).loc main_arg3) : Vec Ideal S1024x1024 .bf16) (ix2 l k) := by
  blk_point [iblk, V, idx t]

theorem blk_b (t : Fin cfg0.N) (k : Fin 1024) :
    (iblk m c 4 t : Vec Ideal S1x1024 .f32) (ix2 0 k) = (m ((c : Thread nD τ).loc main_arg4) : Vec Ideal S1024 .f32) (ix1 k) := by
  blk_point [iblk, V, idx t]

end Blocks

/-- The rows from the arrays of device `c`. -/
abbrev out (c : Dev nD) : Vec Ideal S4096x1024 .bf16 :=
  OG (m ((c : Thread nD τ).loc main_arg0)) (m ((c : Thread nD τ).loc main_arg1)) (m ((c : Thread nD τ).loc main_arg2)) (m ((c : Thread nD τ).loc main_arg3)) (m ((c : Thread nD τ).loc main_arg4))

theorem point5 (c : Dev nD) (t : Fin cfg0.N) (y : S512x1024.Idx) (j : S4096x1024.Idx) (h0 : (j 0 : ℕ) = t.val * 512 + y 0) (h1 : (j 1 : ℕ) = y 1) :
    k0_pay1 (F := Ideal) (k0_pay2 (iblk m c 0 t) (iblk m c 2 t) (iblk m c 1 t)) (k0_pay5 (iblk m c 0 t) (iblk m c 2 t) (iblk m c 1 t) (iblk m c 3 t) (iblk m c 4 t))
      (k0_pay6 (iblk m c 0 t) (iblk m c 2 t) (iblk m c 1 t) (iblk m c 3 t) (iblk m c 4 t)) y = out m c j := by
  obtain ⟨r, k, rfl⟩ : ∃ (r : Fin 512) (k : Fin 1024), y = ix2 r k := ⟨y 0, y 1, by funext a; fin_cases a <;> rfl⟩
  obtain rfl : j = ix2 (rowOf t r) k := by
    funext a
    fin_cases a
    · exact Fin.ext h0
    · exact Fin.ext h1
  refine (pay _ _ _ _ _ _).trans ?_
  show gated (binp _ _ _ r) _ _ k = gated (inp _ _ _ (rowOf t r)) _ _ k
  congr 1
  · funext l
    unfold binp inp
    rw [blk_y, blk_p, blk_d]
  · funext l k
    exact blk_w m c t l k
  · funext k
    exact blk_b m c t k

theorem final5 (c : Dev nD) : (dats m 0 c).arrAt 5 cfg0.N = out m c := by
  refine (dats m 0 c).arrAt_eq_of_covers 5 _ (by decide +kernel) fun t hf y => ?_
  blk_simp
  rw [after0_5]
  frame_out
  refine point5 m c t y _ ?_ ?_ <;> blk_simp [idx t]

end Cert.GluFwdKernelIdeal.Value

namespace Cert.GluFwdRefIdeal.Value

open Cert.GluFwdRefIdeal Cert.GluFwdRefIdeal.Gen Cert.GluFwdRefIdeal.Read
open Cert.GluFwdKernelIdeal.Value (act gated inp OG)
open Cert.Gelu (gate hgate gate_all)

variable (x0 : Vec Ideal S4096x1024 .f32) (x1 : Vec Ideal S4096x12288 .bf16) (x2 : Vec Ideal S1024 .f32) (x3 : Vec Ideal S1024x1024 .bf16) (x4 : Vec Ideal S1024 .f32)

/-- The reference multiplies the half in last. -/
theorem act_eq (z : EReal) : z * (Ideal.ofBits .f32 0x3F000000#32 * (Ideal.ofBits .f32 0x3F800000#32 + Ideal.tanh (Ideal.ofBits .f32 0x3F4C422A#32 * (z + Ideal.ofBits .f32 0x3D372713#32 * (z * z * z))))) = act z := by
  unfold act
  rw [← mul_assoc, mul_comm z]

theorem s7 (r : Fin 4096) (k : Fin 1024) : val_main_v7 (F := Ideal) x0 x1 x2 (ix3 0 r k) = inp x0 x1 x2 r k := by
  unfold inp
  pointwise [val_main_v7, val_main_v6, val_main_v5, val_main_v4, val_main_v3, val_main_v2, val_main_v1, val_main_v0]

theorem s20 (r : Fin 4096) (k : Fin 1024) : val_main_v20 (F := Ideal) x0 x1 x2 (ix3 0 r k) = act (inp x0 x1 x2 r k) := by
  refine Eq.trans ?_ (act_eq _)
  rw [← s7]
  pointwise [val_main_v20, val_main_v19, val_main_v18, val_main_v17, val_main_v16, val_main_v15, val_main_v14, val_main_v13, val_main_v12, val_main_v11, val_main_v10, val_main_v9, val_main_v8, val_main_cst, val_main_cst_0, val_main_cst_1, val_main_cst_2]

theorem s25 (r : Fin 4096) (k : Fin 1024) :
    val_main_v25 (F := Ideal) x0 x1 x2 x3 x4 (ix3 0 r k) = (∑ l : Fin 1024, act (inp x0 x1 x2 r l) * x3 (ix2 l k)) + x4 (ix1 k) := by
  simp only [← s20]
  pointwise [val_main_v25, val_main_v24, val_main_v23, val_main_v22, val_main_v21]

theorem s34 (r : Fin 4096) (k : Fin 1024) :
    val_main_v34 (F := Ideal) x0 x1 x2 x3 x4 (ix2 r k) = gated (inp x0 x1 x2 r) (fun l k => x3 (ix2 l k)) (fun k => x4 (ix1 k)) k := by
  unfold gated
  rw [gate_all]
  unfold hgate
  rw [← s25, ← s20]
  pointwise [val_main_v34, val_main_v33, val_main_v32, val_main_v31, val_main_v30, val_main_v29, val_main_v28, val_main_v27, val_main_v26, val_main_cst_3, val_main_cst_4]

theorem r34 : val_main_v34 (F := Ideal) x0 x1 x2 x3 x4 = OG x0 x1 x2 x3 x4 := by
  funext j
  obtain ⟨r, k, rfl⟩ : ∃ (r : Fin 4096) (k : Fin 1024), j = ix2 r k := ⟨j 0, j 1, by funext a; fin_cases a <;> rfl⟩
  exact s34 x0 x1 x2 x3 x4 r k

end Cert.GluFwdRefIdeal.Value

namespace Cert.Proof.GluFwd

theorem algebraic : Cert.algebraic_GluFwdKernelIdeal_GluFwdRefIdeal := by
  pair_intro
  · run_from Cert.GluFwdKernelIdeal.Value.run_blocks m g
  · run_from Cert.GluFwdRefIdeal.Value.run m' g'
    rw [Cert.GluFwdKernelIdeal.Value.final5 m c, Cert.GluFwdRefIdeal.Read.val_main_v34_eq m' c, (hagree c).1, (hagree c).2.1, (hagree c).2.2.1, (hagree c).2.2.2.1, (hagree c).2.2.2.2]
    exact Cert.GluFwdRefIdeal.Value.r34 _ _ _ _ _

theorem frame_ref : Cert.quiescent_GluFwdRefIdeal := fun m g _ =>
  (θ_run Cert.GluFwdRefIdeal.defs _ _).mono (fun r h => ⟨fun c => (h c).2, sem_eq_zero_of_no_sems (by decide) r.2⟩)
    (Cert.GluFwdRefIdeal.Value.run (F := Ideal) m g)

end Cert.Proof.GluFwd

end
-- ==== Proof.NormFwdPair.lean ====
/- The norm's forward call: the blocked kernel's rows, and their transpose, against the plain norm. -/
module

public import proofs.«01_k».proof.Defs
public import proofs.«01_k».proof.Proof.Gen.NormFwdKernel
public import proofs.«01_k».proof.Proof.Gen.NormFwdKernelIdeal.Value
public import proofs.«01_k».proof.Proof.Gen.NormFwdRefIdeal.Run
public import proofs.«01_k».proof.Proof.Gen.NormFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdKernelIdeal.Value

open Cert.NormFwdKernelIdeal Cert.NormFwdKernelIdeal.Gen

/-- A row over its root mean square, times the gain. -/
def normed (x : Vec Ideal S4096x2048 .f32) (g : Vec Ideal S2048 .f32) (r : Fin 4096) (k : Fin 2048) : EReal :=
  x (ix2 r k) * Ideal.rsqrt (Ideal.div (∑ l : Fin 2048, x (ix2 r l) * x (ix2 r l)) (Ideal.ofBits .f32 0x45000000#32) + Ideal.ofBits .f32 0x358637BD#32) * g (ix1 k)

def OH (x : Vec Ideal S4096x2048 .f32) (g : Vec Ideal S2048 .f32) : Vec Ideal S4096x2048 .bf16 := fun j => normed x g (j 0) (j 1)
def OT (x : Vec Ideal S4096x2048 .f32) (g : Vec Ideal S2048 .f32) : Vec Ideal S2048x4096 .bf16 := fun j => normed x g (j 1) (j 0)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

theorem point2 (c : Dev nD) (t : Fin cfg0.N) (y : S256x2048.Idx) (j : S4096x2048.Idx) (h0 : (j 0 : ℕ) = t.val * 256 + y 0) (h1 : (j 1 : ℕ) = y 1) :
    k0_pay2 (F := Ideal) (iblk m c 0 t) (iblk m c 1 t) y = OH (m ((c : Thread nD τ).loc main_arg0)) (m ((c : Thread nD τ).loc main_arg1)) j := by
  pointwise [k0_pay2, k0_pay1, OH, normed]
  blk_point [iblk, V, idx t]

theorem point3 (c : Dev nD) (t : Fin cfg0.N) (y : S2048x256.Idx) (j : S2048x4096.Idx) (h0 : (j 0 : ℕ) = y 0) (h1 : (j 1 : ℕ) = t.val * 256 + y 1) :
    k0_pay3 (F := Ideal) (iblk m c 0 t) (iblk m c 1 t) y = OT (m ((c : Thread nD τ).loc main_arg0)) (m ((c : Thread nD τ).loc main_arg1)) j := by
  pointwise [k0_pay3, k0_pay1, OT, normed]
  blk_point [iblk, V, idx t]

theorem final2 (c : Dev nD) : (dats m 0 c).arrAt 2 cfg0.N = OH (m ((c : Thread nD τ).loc main_arg0)) (m ((c : Thread nD τ).loc main_arg1)) := by
  refine (dats m 0 c).arrAt_eq_of_covers 2 _ (by decide +kernel) fun t hf y => ?_
  blk_simp
  rw [after0_2]
  frame_out
  refine point2 m c t y _ ?_ ?_ <;> blk_simp [idx t]

theorem final3 (c : Dev nD) : (dats m 0 c).arrAt 3 cfg0.N = OT (m ((c : Thread nD τ).loc main_arg0)) (m ((c : Thread nD τ).loc main_arg1)) := by
  refine (dats m 0 c).arrAt_eq_of_covers 3 _ (by decide +kernel) fun t hf y => ?_
  blk_simp
  rw [after0_3]
  frame_out
  refine point3 m c t y _ ?_ ?_ <;> blk_simp [idx t]

end Cert.NormFwdKernelIdeal.Value

namespace Cert.NormFwdRefIdeal.Value

open Cert.NormFwdRefIdeal Cert.NormFwdRefIdeal.Gen Cert.NormFwdRefIdeal.Read
open Cert.NormFwdKernelIdeal.Value (normed OH OT)

variable (x0 : Vec Ideal S4096x2048 .f32) (x1 : Vec Ideal S2048 .f32)

theorem s13 (r : Fin 4096) (k : Fin 2048) : val_main_v13 (F := Ideal) x0 x1 (ix2 r k) = normed x0 x1 r k := by
  unfold normed
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem r13 : val_main_v13 (F := Ideal) x0 x1 = OH x0 x1 := by
  funext j
  obtain ⟨r, k, rfl⟩ : ∃ (r : Fin 4096) (k : Fin 2048), j = ix2 r k := ⟨j 0, j 1, by funext a; fin_cases a <;> rfl⟩
  exact s13 x0 x1 r k

theorem r14 : val_main_v14 (F := Ideal) x0 x1 = OT x0 x1 := by
  funext j
  refine Eq.trans ?_ (s13 x0 x1 (j 1) (j 0))
  pointwise [val_main_v14]

end Cert.NormFwdRefIdeal.Value

namespace Cert.Proof.NormFwd

theorem algebraic : Cert.algebraic_NormFwdKernelIdeal_NormFwdRefIdeal := by
  pair_intro
  · run_from Cert.NormFwdKernelIdeal.Value.run_blocks m g
  · run_from Cert.NormFwdRefIdeal.Value.run m' g'
    · rw [Cert.NormFwdKernelIdeal.Value.final2 m c]
      exact (Cert.NormFwdRefIdeal.Read.val_main_v13_eq _ _).trans (Cert.NormFwdRefIdeal.Value.r13 _ _)
    · rw [Cert.NormFwdKernelIdeal.Value.final3 m c]
      exact (Cert.NormFwdRefIdeal.Read.val_main_v14_eq _ _).trans (Cert.NormFwdRefIdeal.Value.r14 _ _)

theorem frame_ref : Cert.quiescent_NormFwdRefIdeal := fun m g _ =>
  (θ_run Cert.NormFwdRefIdeal.defs _ _).mono (fun r h => ⟨fun c => (h c).2.2, sem_eq_zero_of_no_sems (by decide) r.2⟩)
    (Cert.NormFwdRefIdeal.Value.run (F := Ideal) m g)

end Cert.Proof.NormFwd

end
-- ==== Proof.GmlpFwdPair.lean ====
/- The spatially gated unit's forward call: the kernel's tiles of 128 rows and one group against the masked mixing of every chunk. -/
module

public import proofs.«01_k».proof.Defs
public import proofs.«01_k».proof.Proof.Gen.GmlpFwdKernel
public import proofs.«01_k».proof.Proof.Gen.GmlpFwdKernelIdeal.Value
public import proofs.«01_k».proof.Proof.Gen.GmlpFwdRefIdeal.Run
public import proofs.«01_k».proof.Proof.Gen.GmlpFwdRefIdeal.Read
public import Idealize.ShloMosaic.Lib.Pipeline.ValueKit
public import Idealize.ShloMosaic.Lib.Pointwise
public import Idealize.ShloMosaic.Lib.Claim
public import proofs.«01_k».proof.Proof.GluFwdPair
public import proofs.«01_k».proof.Proof.GmlpValue

@[expose] public section

set_option maxRecDepth 16384

noncomputable section

open Idealize.ShloMosaic Idealize.ShloMosaic.TcCoe Idealize.SL.Sem
open Idealize.ShloMosaic.Pipeline (Dat)

namespace Cert.GmlpFwdKernelIdeal.Value

open Cert.GmlpFwdKernelIdeal Cert.GmlpFwdKernelIdeal.Gen
open Cert.GluFwdKernelIdeal.Value (act)
open Cert.Gmlp (lo hi grp col tri)
open Cert.GmlpKernelIdeal.Value (rowq row chk plc col_split col_grp canon_tile ld_group lowTri)

/-! ## One chunk of 128 rows -/

section Chunk

variable (P : Fin 128 → Fin 2048 → EReal) (G : Fin 1024 → EReal) (W : Fin 8 → Fin 128 → Fin 128 → EReal) (B : Fin 8 → Fin 128 → EReal)

/-- A row's shifted mean square. -/
def msq (a : Fin 128) : EReal :=
  Ideal.div (∑ k : Fin 1024, act (P a (hi k)) * act (P a (hi k))) (Ideal.ofBits .f32 0x44800000#32) + Ideal.ofBits .f32 0x358637BD#32

/-- The normed row times the gain. -/
def nrm (a : Fin 128) (j : Fin 1024) : EReal := act (P a (hi j)) * Ideal.rsqrt (msq P a) * G j

/-- The rows mixed by the lower triangle, and the bias. -/
def mix (a : Fin 128) (j : Fin 1024) : EReal := (∑ k : Fin 128, tri a k (W (grp j) a k) * nrm P G k j) + B (grp j) a

/-- The unit's rows. -/
def rows (a : Fin 128) (j : Fin 1024) : EReal := act (P a (lo j)) * mix P G W B a j

end Chunk

/-! ## One block -/

theorem pay5 (x : Vec Ideal S256x2048 .bf16) : k0_pay5 (F := Ideal) x = fun j => act (x (ix2 (j 0) (lo (j 1)))) := by
  funext j
  pointwise [k0_pay5, k0_pay4, act, lo]

theorem act4 (x : Vec Ideal S256x2048 .bf16) : k0_pay4 (F := Ideal) x = fun j => act (x j) := by
  funext j
  pointwise [k0_pay4, act]

/-- A row of the block's shifted mean square. -/
def bmsq (x : Vec Ideal S256x2048 .bf16) (r : Fin 256) : EReal :=
  Ideal.div (∑ k : Fin 1024, act (x (ix2 r (hi k))) * act (x (ix2 r (hi k)))) (Ideal.ofBits .f32 0x44800000#32) + Ideal.ofBits .f32 0x358637BD#32

theorem pay6 (x : Vec Ideal S256x2048 .bf16) (g : Vec Ideal S1x1024 .f32) :
    k0_pay6 (F := Ideal) x g = fun j => act (x (ix2 (j 0) (hi (j 1)))) * Ideal.rsqrt (bmsq x (j 0)) * g (ix2 0 (j 1)) := by
  funext j
  unfold k0_pay6; rw [act4]
  pointwise [bmsq, hi]

section Blocks

variable (x0 : Vec Ideal S256x2048 .bf16) (x1 : Vec Ideal S1x1024 .f32) (x2 : Vec Ideal S8x128x128 .f32) (x3 : Vec Ideal S8x128x1 .f32)

def bP (q : Fin 2) (a : Fin 128) (l : Fin 2048) : EReal := x0 (ix2 (rowq q a) l)
def bG (j : Fin 1024) : EReal := x1 (ix2 0 j)
def bW (g : Fin 8) (a b : Fin 128) : EReal := x2 (ix3 g a b)
def bB (g : Fin 8) (a : Fin 128) : EReal := x3 (ix3 g a 0)

set_option maxHeartbeats 4000000 in
theorem block (q : Fin 2) (a : Fin 128) (j : Fin 1024) :
    out0_4 (F := Ideal) x0 x1 x2 x3 (ix2 (rowq q a) j) = rows (bP x0 q) (bG x1) (bW x2) (bB x3) a j := by
  obtain ⟨g, b, rfl⟩ := col_split j
  have l0 : View.ld x0 r0_0 = x0 := by funext y; show x0 _ = x0 y; congr 1; funext i; apply Fin.ext; show ((r0_0).emb y i : ℕ) = _; rw [Rect.emb_apply]; fin_cases i <;> simp [r0_0, Rect.unit]
  have l1 : View.ld x1 r0_1 = x1 := by funext y; show x1 _ = x1 y; congr 1; funext i; apply Fin.ext; show ((r0_1).emb y i : ℕ) = _; rw [Rect.emb_apply]; fin_cases i <;> simp [r0_1, Rect.unit]
  unfold_out out0_4
  rw [l0, l1]
  unfold k0_pay9
  rw [pay5, pay6]
  unfold rows mix
  rw [col_grp]
  fin_cases q <;> fin_cases g
  all_goals
    repeat (refine (canon_tile _ _ _ _ _ _ _ _ _ a b rfl rfl (by decide) (by decide)).trans ?_; first | refine (if_neg (by decide)).trans ?_ | refine (if_pos (by decide)).trans ?_)
    pointwise [tri, nrm, msq, bmsq, bP, bG, bW, bB, rowq, col, lo, hi, ld_group, k0_pay1, k0_pay2, k0_pay3, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]
    simp only [lowTri, ite_mul, zero_mul]

end Blocks

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![0, 0, 0]
    ∧ win0_4.index t = ![t.val, 0] :=
  (by decide +kernel : ∀ t : Fin grid0.N, _)

/-- Chunk `q` of the point's rows. -/
def cn (t : Fin cfg0.N) (q : Fin 2) : Fin 32 := ⟨t.val * 2 + q.val, by have := t.isLt; have h : cfg0.N = 16 := N_0; omega⟩

/-! ## The arrays, chunk by chunk -/

section Arrays

variable (x0 : Vec Ideal S4096x12288 .bf16) (x1 : Vec Ideal S1024 .f32) (x2 : Vec Ideal S8x128x128 .f32) (x3 : Vec Ideal S8x128 .f32)

def aP (n : Fin 32) (a : Fin 128) (l : Fin 2048) : EReal := x0 (ix2 (row n a) ⟨l.val, by omega⟩)
def aG (j : Fin 1024) : EReal := x1 (ix1 j)
def aW (g : Fin 8) (a b : Fin 128) : EReal := x2 (ix3 g a b)
def aB (g : Fin 8) (a : Fin 128) : EReal := x3 (ix2 g a)

/-- The unit's rows. -/
def OU : Vec Ideal S4096x1024 .bf16 := fun i => rows (aP x0 (chk (i 0))) (aG x1) (aW x2) (aB x3) (plc (i 0)) (i 1)

end Arrays

section Points

variable (c : Dev nD)

theorem blkP (t : Fin cfg0.N) (q : Fin 2) : bP (iblk m c 0 t) q = aP (m ((c : Thread nD τ).loc main_arg0)) (cn t q) := by
  funext a l
  unfold bP aP
  blk_point [iblk, V, idx t, rowq, row, cn]

theorem blkG (t : Fin cfg0.N) : bG (iblk m c 1 t) = aG (m ((c : Thread nD τ).loc main_arg1)) := by
  funext j
  unfold bG aG
  blk_point [iblk, V, idx t]

theorem blkW (t : Fin cfg0.N) : bW (iblk m c 2 t) = aW (m ((c : Thread nD τ).loc main_arg2)) := by
  funext g a b
  unfold bW aW
  blk_point [iblk, V, idx t]

theorem blkB (t : Fin cfg0.N) : bB (iblk m c 3 t) = aB (m ((c : Thread nD τ).loc main_arg3)) := by
  funext g a
  unfold bB aB
  blk_point [iblk, V, idx t]

/-- The rows from the arrays of device `c`. -/
abbrev out : Vec Ideal S4096x1024 .bf16 :=
  OU (m ((c : Thread nD τ).loc main_arg0)) (m ((c : Thread nD τ).loc main_arg1)) (m ((c : Thread nD τ).loc main_arg2)) (m ((c : Thread nD τ).loc main_arg3))

theorem point4 (t : Fin cfg0.N) (y : S256x1024.Idx) (j : S4096x1024.Idx) (h0 : (j 0 : ℕ) = t.val * 256 + y 0) (h1 : (j 1 : ℕ) = y 1) :
    out0_4 (F := Ideal) (iblk m c 0 t) (iblk m c 1 t) (iblk m c 2 t) (iblk m c 3 t) y = out m c j := by
  obtain ⟨q, a, k, rfl⟩ : ∃ (q : Fin 2) (a : Fin 128) (k : Fin 1024), y = ix2 (rowq q a) k :=
    ⟨⟨(y 0).val / 128, by have := (y 0).isLt; simp at this; omega⟩, ⟨(y 0).val % 128, by omega⟩, y 1, by
      funext i; fin_cases i
      · apply Fin.ext; show (y 0).val = (y 0).val / 128 * 128 + (y 0).val % 128; omega
      · rfl⟩
  have e0 : chk (j 0) = cn t q := by
    apply Fin.ext
    have h : (j 0 : ℕ) = t.val * 256 + (q.val * 128 + a.val) := h0
    show (j 0 : ℕ) / 128 = t.val * 2 + q.val
    omega
  have e1 : plc (j 0) = a := by
    apply Fin.ext
    have h : (j 0 : ℕ) = t.val * 256 + (q.val * 128 + a.val) := h0
    show (j 0 : ℕ) % 128 = a.val
    omega
  have e2 : (j 1 : Fin 1024) = k := Fin.ext h1
  refine (block _ _ _ _ q a k).trans ?_
  rw [blkP, blkG, blkW, blkB]
  show _ = rows (aP _ (chk (j 0))) _ _ _ (plc (j 0)) (j 1 : Fin 1024)
  rw [e0, e1, e2]

theorem final4 : (dats m 0 c).arrAt 4 cfg0.N = out m c := by
  refine (dats m 0 c).arrAt_eq_of_covers 4 _ (by decide +kernel) fun t hf y => ?_
  blk_simp
  rw [after0_4]
  refine point4 m c t y _ ?_ ?_ <;> blk_simp [idx t]

end Points

end Cert.GmlpFwdKernelIdeal.Value

namespace Cert.GmlpFwdRefIdeal.Value

open Cert.GmlpFwdRefIdeal Cert.GmlpFwdRefIdeal.Gen Cert.GmlpFwdRefIdeal.Read
open Cert.GluFwdKernelIdeal.Value (act)
open Cert.GluFwdRefIdeal.Value (act_eq)
open Cert.Gmlp (lo hi grp col tri)
open Cert.GmlpKernelIdeal.Value (row chk plc col_split col_grp)
open Cert.GmlpFwdKernelIdeal.Value (msq nrm mix rows aP aG aW aB OU)

variable (x0 : Vec Ideal S4096x12288 .bf16) (x1 : Vec Ideal S1024 .f32) (x2 : Vec Ideal S8x128x128 .f32) (x3 : Vec Ideal S8x128 .f32)

theorem s2 (n : Fin 32) (a : Fin 128) (l : Fin 2048) : val_main_v2 (F := Ideal) x0 (ix3 0 (row n a) l) = aP x0 n a l := by
  unfold aP
  pointwise [val_main_v2, val_main_v1, val_main_v0]

theorem s15 (n : Fin 32) (a : Fin 128) (l : Fin 2048) : val_main_v15 (F := Ideal) x0 (ix3 0 (row n a) l) = act (aP x0 n a l) := by
  refine Eq.trans ?_ (act_eq _)
  rw [← s2]
  pointwise [val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]

theorem s16 (n : Fin 32) (a : Fin 128) (j : Fin 1024) : val_main_v16 (F := Ideal) x0 (ix3 0 (row n a) j) = act (aP x0 n a (lo j)) := by
  refine Eq.trans ?_ (s15 x0 n a (lo j))
  pointwise [val_main_v16, lo]

theorem s17 (n : Fin 32) (a : Fin 128) (j : Fin 1024) : val_main_v17 (F := Ideal) x0 (ix3 0 (row n a) j) = act (aP x0 n a (hi j)) := by
  refine Eq.trans ?_ (s15 x0 n a (hi j))
  pointwise [val_main_v17, hi]

theorem s24 (n : Fin 32) (a : Fin 128) : val_main_v24 (F := Ideal) x0 (ix3 0 (row n a) 0) = msq (aP x0 n) a := by
  unfold msq
  simp only [← s17]
  pointwise [val_main_v24, val_main_v23, val_main_v22, val_main_v21, val_main_v20, val_main_v19, val_main_v18, val_main_cst_3, val_main_cst_4, val_main_cst_5]

theorem s31 (n : Fin 32) (a : Fin 128) (g : Fin 8) (l : Fin 128) : val_main_v31 (F := Ideal) x0 x1 (ix5 0 n a g l) = nrm (aP x0 n) (aG x1) a (col g l) := by
  unfold nrm
  rw [← s17, ← s24]
  pointwise [val_main_v31, val_main_v30, val_main_v29, val_main_v28, val_main_v27, val_main_v26, val_main_v25, row, col, aG]

theorem sel (a k : Fin 128) (x y : EReal) :
    Scalar.select (IntOp.cmpi .sge (IntOp.addi (BitVec.ofNat 32 a) 0#32) (BitVec.ofNat 32 k)) x y = if (k : ℕ) ≤ a then x else y := by
  rw [show IntOp.addi (BitVec.ofNat 32 (a : ℕ)) 0#32 = BitVec.ofNat 32 a from BitVec.add_zero _]
  exact Cert.GmlpKernelIdeal.Value.lowTri a k x y

theorem s32 (g : Fin 8) (a k : Fin 128) : val_main_v32 (F := Ideal) x2 (ix3 g a k) = tri a k (aW x2 g a k) := by
  pointwise [val_main_v32, val_main_call0_v0, val_main_call0_c, val_main_call0_v1, val_main_call0_v2, val_main_call0_v3, val_main_call0_v4, val_main_call0_v5, val_main_call0_v6, val_main_call0_cst, tri, aW]
  exact sel a k _ _

theorem s38 (n : Fin 32) (a : Fin 128) (g : Fin 8) (l : Fin 128) :
    val_main_v38 (F := Ideal) x0 x1 x2 x3 (ix5 0 n a g l) = mix (aP x0 n) (aG x1) (aW x2) (aB x3) a (col g l) := by
  unfold mix
  rw [col_grp]
  simp only [← s31, ← s32]
  pointwise [val_main_v38, val_main_v37, val_main_v36, val_main_v35, val_main_v34, val_main_v33, aB]
  exact congrArg (· + _) (congrArg (Finset.sum (M := EReal) (Finset.univ : Finset (Fin 128))) (funext fun k => mul_comm _ _))

theorem s39 (n : Fin 32) (a : Fin 128) (j : Fin 1024) :
    val_main_v39 (F := Ideal) x0 x1 x2 x3 (ix3 0 (row n a) j) = mix (aP x0 n) (aG x1) (aW x2) (aB x3) a j := by
  obtain ⟨g, l, rfl⟩ := col_split j
  rw [← s38]
  have e1 : (row n a).val / 128 = n := by simp only [row]; omega
  have e2 : (row n a).val % 128 = a := by simp only [row]; omega
  have e3 : (col g l).val / 128 = g := by simp only [col]; omega
  have e4 : (col g l).val % 128 = l := by simp only [col]; omega
  pointwise [val_main_v39, e1, e2, e3, e4]

theorem s42 (n : Fin 32) (a : Fin 128) (j : Fin 1024) :
    val_main_v42 (F := Ideal) x0 x1 x2 x3 (ix2 (row n a) j) = rows (aP x0 n) (aG x1) (aW x2) (aB x3) a j := by
  unfold rows
  rw [← s16, ← s39]
  pointwise [val_main_v42, val_main_v41, val_main_v40]

theorem r42 : val_main_v42 (F := Ideal) x0 x1 x2 x3 = OU x0 x1 x2 x3 := by
  funext i
  obtain ⟨r, j, rfl⟩ : ∃ (r : Fin 4096) (j : Fin 1024), i = ix2 r j := ⟨i 0, i 1, by funext a; fin_cases a <;> rfl⟩
  have e : r = row (chk r) (plc r) := by apply Fin.ext; show r.val = r.val / 128 * 128 + r.val % 128; omega
  refine Eq.trans ?_ (s42 x0 x1 x2 x3 (chk r) (plc r) j)
  rw [← e]

end Cert.GmlpFwdRefIdeal.Value

namespace Cert.Proof.GmlpFwd

set_option maxHeartbeats 2000000 in
theorem algebraic : Cert.algebraic_GmlpFwdKernelIdeal_GmlpFwdRefIdeal := by
  pair_intro
  · run_from Cert.GmlpFwdKernelIdeal.Value.run_blocks m g
  · run_from Cert.GmlpFwdRefIdeal.Value.run m' g'
    rw [Cert.GmlpFwdKernelIdeal.Value.final4 m c, Cert.GmlpFwdRefIdeal.Read.val_main_v42_eq m' c, (hagree c).1, (hagree c).2.1, (hagree c).2.2.1, (hagree c).2.2.2]
    exact Cert.GmlpFwdRefIdeal.Value.r42 _ _ _ _

theorem frame_ref : Cert.quiescent_GmlpFwdRefIdeal := fun m g _ =>
  (θ_run Cert.GmlpFwdRefIdeal.defs _ _).mono (fun r h => ⟨fun c => (h c).2, sem_eq_zero_of_no_sems (by decide) r.2⟩)
    (Cert.GmlpFwdRefIdeal.Value.run (F := Ideal) m g)

end Cert.Proof.GmlpFwd

end
-- ==== Proof.StickFwdVec.lean ====
/-
  The stick-breaking forward call, at any scores: the softplus and the weights among the extended reals, and a block's sums
  over later keys. The kernel splits a logarithm into an upper and a lower half; a logarithm is never `+∞`, and for all
  others the halves' sums are the logarithms' sums.
-/
module

public import proofs.«01_k».proof.Proof.StickStep

@[expose] public section

set_option maxRecDepth 16384

noncomputable section

namespace Cert.Proof.StickFwd

open Cert.StickKernelIdeal Cert.StickKernelIdeal.Gen
open Idealize.ShloMosaic Idealize.ShloMosaic.TcCoe Idealize.SL.Sem
open Finset (range Ico sum_congr)
open Cert.Proof.Stick (uM sc il il_pos named_scale named_log2e bits_one exp2_real abs_real log_real max_real mask softplus_split castM)

/-! ## Numbers -/

theorem add_il (x y : EReal) : (x + y) * (il : ℝ) = x * (il : ℝ) + y * (il : ℝ) :=
  EReal.right_distrib_of_nonneg_of_ne_top (EReal.coe_nonneg.2 il_pos.le) (EReal.coe_ne_top _) x y
theorem sub_il (x y : EReal) : (x - y) * (il : ℝ) = x * (il : ℝ) - y * (il : ℝ) := by
  rw [sub_eq_add_neg, add_il, EReal.neg_mul, ← sub_eq_add_neg]
theorem sum_il (s : Finset ℕ) (f : ℕ → EReal) : (∑ k ∈ s, f k) * ((il : ℝ) : EReal) = ∑ k ∈ s, f k * (il : ℝ) := by
  induction s using Finset.induction_on with
  | empty => simp
  | insert a s ha ih => rw [Finset.sum_insert ha, Finset.sum_insert ha, add_il, ih]
theorem top_il : (⊤ : EReal) * ((il : ℝ) : EReal) = ⊤ := EReal.top_mul_coe_of_pos il_pos
theorem bot_il : (⊥ : EReal) * ((il : ℝ) : EReal) = ⊥ := EReal.bot_mul_coe_of_pos il_pos

theorem exp2_il (x : EReal) : (FloatOps.exp2 (F := Ideal) (φ := .f32) (x * (il : ℝ)) : EReal) = Ideal.exp x := by
  induction x with
  | bot => rw [bot_il]; rfl
  | top => rw [top_il]; rfl
  | coe x => rw [← EReal.coe_mul, exp2_real]; rfl

/-- The softplus. -/
def spl (z : EReal) : EReal := max z 0 + Ideal.log (1 + Ideal.exp (-(max z (-z))))

theorem spl_real (z : ℝ) : spl (z : EReal) = ((Real.log (1 + Real.exp z) : ℝ) : EReal) := by
  unfold spl
  rw [← EReal.coe_neg, max_real, ← abs_eq_max_neg, ← EReal.coe_neg, Ideal.exp_coe, ← EReal.coe_one, ← EReal.coe_add, log_real (by positivity), ← EReal.coe_zero, max_real,
    ← EReal.coe_add, softplus_split]
theorem spl_rest : Ideal.log (1 + Ideal.exp (⊥ : EReal)) = 0 := by
  rw [show Ideal.exp (⊥ : EReal) = 0 from rfl, add_zero, ← EReal.coe_one, log_real one_pos, Real.log_one, EReal.coe_zero]
theorem spl_top : spl ⊤ = ⊤ := by
  unfold spl
  rw [EReal.neg_top, max_eq_left le_top, max_eq_left bot_le, EReal.neg_top, spl_rest, add_zero]
theorem spl_bot : spl ⊥ = 0 := by
  unfold spl
  rw [EReal.neg_bot, max_eq_right bot_le, max_eq_right bot_le, EReal.neg_top, spl_rest, add_zero]
theorem spl_nonneg (z : EReal) : 0 ≤ spl z := by
  induction z with
  | bot => rw [spl_bot]
  | top => rw [spl_top]; exact le_top
  | coe z => rw [spl_real]; exact EReal.coe_nonneg.2 (Real.log_nonneg (by linarith [Real.exp_pos z]))

/-- The softplus in base two. -/
theorem spl_il (z : EReal) :
    max (z * ((il : ℝ) : EReal)) 0 + Ideal.log (1 + (FloatOps.exp2 (F := Ideal) (φ := .f32) (0 - (FloatOps.absf (F := Ideal) (φ := .f32) (z * ((il : ℝ) : EReal)) : EReal)) : EReal)) * ((il : ℝ) : EReal) = spl z * (il : ℝ) := by
  have e : (FloatOps.absf (F := Ideal) (φ := .f32) (z * ((il : ℝ) : EReal)) : EReal) = max z (-z) * (il : ℝ) := by
    show max (z * ((il : ℝ) : EReal)) (-(z * ((il : ℝ) : EReal))) = _
    rw [← EReal.neg_mul]
    exact ((monotone_mul_right_of_nonneg (EReal.coe_nonneg.2 il_pos.le)).map_max (a := z) (b := -z)).symm
  have e0 : max (z * ((il : ℝ) : EReal)) 0 = max z 0 * (il : ℝ) := by
    conv_lhs => rw [← zero_mul ((il : ℝ) : EReal)]
    exact ((monotone_mul_right_of_nonneg (EReal.coe_nonneg.2 il_pos.le)).map_max (a := z) (b := 0)).symm
  rw [e, e0, zero_sub, ← EReal.neg_mul, exp2_il, ← add_il]
  rfl

/-- A weight, from its score and the logarithm of the stick the later keys leave. -/
def wt (z a : EReal) : EReal := Ideal.exp (z - spl z + a)

/-- The weight as the host writes it. -/
theorem wt_host (z : EReal) {a : EReal} (ha : a ≠ ⊤) : Ideal.exp (-spl (-z) + (-spl z + a - -spl z)) = wt z a := by
  unfold wt
  induction z with
  | bot =>
    rw [EReal.neg_bot, spl_top, spl_bot, EReal.neg_top, EReal.bot_add, EReal.bot_sub, EReal.bot_add]
  | top =>
    rw [EReal.neg_top, spl_top, spl_bot, EReal.neg_top, EReal.bot_add, EReal.bot_sub, EReal.add_bot, sub_eq_add_neg ⊤ ⊤, EReal.neg_top, EReal.add_bot, EReal.bot_add]
  | coe z =>
    rw [← EReal.coe_neg, spl_real, spl_real]
    induction a with
    | bot => rfl
    | top => exact absurd rfl ha
    | coe a =>
      rw [← EReal.coe_neg, ← EReal.coe_neg, ← EReal.coe_add, ← EReal.coe_sub, ← EReal.coe_add, ← EReal.coe_sub, ← EReal.coe_add]
      have e : Real.log (1 + Real.exp z) = z + Real.log (1 + Real.exp (-z)) := by
        rw [show 1 + Real.exp z = Real.exp z * (1 + Real.exp (-z)) by rw [mul_add, mul_one, ← Real.exp_add, add_neg_cancel, Real.exp_zero, add_comm],
          Real.log_mul (Real.exp_pos _).ne' (by positivity), Real.log_exp]
      rw [e]
      congr 2
      ring

/-! ## A head -/

/-- A head's queries, keys and values. -/
structure Hd where
  Q : ℕ → ℕ → EReal
  K : ℕ → ℕ → EReal
  V : ℕ → ℕ → EReal

namespace Hd
variable (a : Hd)
/-- the score of row `T` and key `S` -/
def z (T S : ℕ) : EReal := (∑ d ∈ range 128, a.Q T d * a.K S d) * (sc : ℝ)
/-- the logarithm of what key `S` leaves of the stick -/
def gm (T S : ℕ) : EReal := if S < T then -spl (a.z T S) else 0
/-- the weight -/
def w (T S : ℕ) : EReal := if S < T then wt (a.z T S) (∑ X ∈ Ico (S + 1) 4096, a.gm T X) else 0
/-- the forward result -/
def o (T d : ℕ) : EReal := ∑ S ∈ range 4096, a.w T S * a.V S d
theorem w_zero {T S : ℕ} (h : T ≤ S) : a.w T S = 0 := by unfold w; rw [if_neg (by omega)]
theorem gm_zero {T S : ℕ} (h : T ≤ S) : a.gm T S = 0 := by unfold gm; rw [if_neg (by omega)]
theorem gm_le (T S : ℕ) : a.gm T S ≤ 0 := by
  unfold gm; split_ifs
  · exact EReal.neg_le_zero.2 (spl_nonneg _)
  · exact le_rfl
theorem gm_sum (T : ℕ) (s : Finset ℕ) : ∑ X ∈ s, a.gm T X ≠ ⊤ :=
  ((Finset.sum_nonpos fun X _ => a.gm_le T X).trans_lt EReal.zero_lt_top).ne
theorem gm_il (T S : ℕ) : a.gm T S * (il : ℝ) ≠ ⊤ := by
  have := mul_le_mul_of_nonneg_right (a.gm_le T S) (EReal.coe_nonneg.2 il_pos.le)
  rw [zero_mul] at this
  exact (this.trans_lt EReal.zero_lt_top).ne
end Hd

/-! ## Blocks -/

def eS {φ : FTy} (X : ℕ → ℕ → EReal) : FVec Ideal S512x512 φ := fun i => X (i 0) (i 1)
def eD {φ : FTy} (X : ℕ → ℕ → EReal) : FVec Ideal S512x128 φ := fun i => X (i 0) (i 1)
def eC (X : ℕ → EReal) : FVec Ideal S512x1 .f32 := fun i => X (i 0)

theorem eS_congr {φ : FTy} {X Y : ℕ → ℕ → EReal} (h : ∀ r l, r < 512 → l < 512 → X r l = Y r l) : (eS (φ := φ) X) = eS Y :=
  funext fun i => h _ _ (i 0).isLt (i 1).isLt
theorem eD_congr {φ : FTy} {X Y : ℕ → ℕ → EReal} (h : ∀ r l, r < 512 → l < 128 → X r l = Y r l) : (eD (φ := φ) X) = eD Y :=
  funext fun i => h _ _ (i 0).isLt (i 1).isLt
theorem eC_congr {X Y : ℕ → EReal} (h : ∀ r, r < 512 → X r = Y r) : eC X = eC Y :=
  funext fun i => h _ (i 0).isLt

theorem eones_sum (X : ℕ → EReal) (off l : ℕ) (hl : l < 128) :
    ∑ k ∈ range 128, X (off + k) * (((if l < k then 1 else 0 : ℝ)) : EReal) = ∑ k ∈ Ico (off + l + 1) (off + 128), X k := by
  have e : ∑ k ∈ Ico (off + l + 1) (off + 128), X k = ∑ k ∈ Ico (l + 1) 128, X (off + k) := by
    rw [Finset.sum_Ico_add X (l + 1) 128 off]; congr 2 <;> omega
  rw [e]
  rw [← Finset.sum_subset (s₁ := Ico (l + 1) 128) (fun k hk => by simp at hk ⊢; omega)
    (fun k hk hk' => by simp at hk hk'; rw [if_neg (by omega), EReal.coe_zero, mul_zero])]
  refine sum_congr rfl fun k hk => ?_
  simp at hk
  rw [if_pos (by omega), EReal.coe_one, mul_one]

theorem mm_ones (off : ℕ) (X : ℕ → ℕ → EReal) (h : S512x512.Slices ![0, off] S512x128) :
    matmul dot_S512x128_S128x128_S512x128_1_0_0_1_n_n none (extractStridedSlice S512x128 ![0, off] (eS (φ := .bf16) X) h) uM (constant S512x128 .f32 0x00000000#32)
      = eD (φ := .f32) fun r l => ∑ k ∈ Ico (off + l + 1) (off + 128), X r k := by
  funext i
  pointwise [eS, uM, eD]
  refine (Fin.sum_univ_eq_sum_range (fun k => X (i 0) (off + k) * (((if (i 1 : ℕ) < k then 1 else 0 : ℝ)) : EReal)) 128).trans ?_
  rw [eones_sum _ _ _ (i 1).isLt]

theorem addD (X Y : ℕ → ℕ → EReal) : addf (eD (φ := .f32) X) (eD Y) = eD fun r l => X r l + Y r l := rfl

theorem ecarry (off : ℕ) (X Y : ℕ → ℕ → EReal) (h : S512x512.Slices ![0, off] S512x1) (h' : S512x128.Slices ![0, 0] S512x1) :
    addf (extractStridedSlice S512x1 ![0, 0] (eD (φ := .f32) Y) h') (extractStridedSlice S512x1 ![0, off] (eS (φ := .f32) X) h)
      = eC fun r => Y r 0 + X r off := by
  funext i
  pointwise [eS, eD, eC]

theorem addDC (X : ℕ → ℕ → EReal) (Y : ℕ → EReal) (h : S512x1.Broadcasts S512x128) :
    addf (eD (φ := .f32) X) (broadcastTo S512x128 (eC Y) h) = eD fun r l => X r l + Y r := by
  funext i
  pointwise [eS, eD, eC]

/-- The sums over the later keys of the block, the key's own left out. -/
def later (X : ℕ → ℕ → EReal) (r l : ℕ) : EReal := ∑ k ∈ Ico (l + 1) 512, X r k
/-- The sums from a key on. -/
def from_ (X : ℕ → ℕ → EReal) (r l : ℕ) : EReal := ∑ k ∈ Ico l 512, X r k
/-- What the upper half leaves. -/
def low (X : ℕ → ℕ → EReal) (r l : ℕ) : EReal := X r l - X r l

/-- The halves' sums. -/
theorem two_sum {X : ℕ → ℕ → EReal} (hX : ∀ r l, X r l ≠ ⊤) (r : ℕ) (s : Finset ℕ) : ∑ k ∈ s, X r k + ∑ k ∈ s, low X r k = ∑ k ∈ s, X r k := by
  rw [← Finset.sum_add_distrib]
  refine sum_congr rfl fun k _ => ?_
  have h := hX r k
  unfold low
  generalize X r k = y at h ⊢
  induction y with
  | bot => rw [EReal.bot_add]
  | top => exact absurd rfl h
  | coe y => rw [← EReal.coe_sub, sub_self, EReal.coe_zero, add_zero]

section Seg
variable {X : ℕ → ℕ → EReal} (hX : ∀ r l, X r l ≠ ⊤)
include hX

theorem seg_last (h h' : S512x512.Slices ![0, 384] S512x128) :
    addf (matmul dot_S512x128_S128x128_S512x128_1_0_0_1_n_n none (extractStridedSlice S512x128 ![0, 384] (eS (φ := .bf16) X) h) uM (constant S512x128 .f32 0x00000000#32))
        (matmul dot_S512x128_S128x128_S512x128_1_0_0_1_n_n none (extractStridedSlice S512x128 ![0, 384] (eS (φ := .bf16) (low X)) h') uM (constant S512x128 .f32 0x00000000#32))
      = eD (φ := .f32) fun r l => later X r (384 + l) := by
  rw [mm_ones, mm_ones, addD]
  exact eD_congr fun r l hr hl => two_sum hX _ _

theorem seg4 (off : ℕ) (ho : off ≤ 384) (h h' : S512x512.Slices ![0, off] S512x128) (hb : S512x1.Broadcasts S512x128) :
    addf (addf (matmul dot_S512x128_S128x128_S512x128_1_0_0_1_n_n none (extractStridedSlice S512x128 ![0, off] (eS (φ := .bf16) X) h) uM (constant S512x128 .f32 0x00000000#32))
        (matmul dot_S512x128_S128x128_S512x128_1_0_0_1_n_n none (extractStridedSlice S512x128 ![0, off] (eS (φ := .bf16) (low X)) h') uM (constant S512x128 .f32 0x00000000#32)))
        (broadcastTo S512x128 (eC fun r => from_ X r (off + 128)) hb)
      = eD (φ := .f32) fun r l => later X r (off + l) := by
  rw [mm_ones, mm_ones, addD, addDC]
  refine eD_congr fun r l hr hl => ?_
  simp only [later, from_]
  rw [two_sum hX]
  exact Finset.sum_Ico_consecutive _ (by omega) (by omega)

omit hX in
theorem seg_carry (off : ℕ) (ho : off < 512) (X : ℕ → ℕ → EReal) (h : S512x512.Slices ![0, off] S512x1) (h' : S512x128.Slices ![0, 0] S512x1) :
    addf (extractStridedSlice S512x1 ![0, 0] (eD (φ := .f32) fun r l => later X r (off + l)) h') (extractStridedSlice S512x1 ![0, off] (eS (φ := .f32) X) h)
      = eC fun r => from_ X r off := by
  rw [ecarry]
  refine eC_congr fun r hr => ?_
  simp only [later, from_, add_zero]
  rw [add_comm, ← Finset.sum_eq_sum_Ico_succ_bot ho]
end Seg

theorem concat4 (X : ℕ → ℕ → EReal) (h) :
    concatenate S512x512 1 [⟨S512x128, eD (φ := .f32) fun r l => X r (0 + l)⟩, ⟨S512x128, eD (φ := .f32) fun r l => X r (128 + l)⟩,
      ⟨S512x128, eD (φ := .f32) fun r l => X r (256 + l)⟩, ⟨S512x128, eD (φ := .f32) fun r l => X r (384 + l)⟩] h = eS (φ := .f32) X := by
  funext i
  pointwise [eS, eD]
  have hi := (i 1).isLt
  split_ifs
  all_goals first | rfl | (congr 2; done) | (congr 2; omega) | (congr 2; dsimp at hi ⊢; omega) | (congr 1; omega) | (congr 1; dsimp at hi ⊢; omega)

theorem ecastC (X : ℕ → EReal) (h) : shapeCast S512x1 (eC X) h = eC X := by
  funext i; pointwise [eC]
theorem ecastD {φ : FTy} (X : ℕ → ℕ → EReal) (h) : shapeCast S512x128 (eD (φ := φ) X) h = eD X := by
  funext i; pointwise [eD]

/-! ## The kernel's values: a diagonal block -/

section Vals
variable {q k : Vec Ideal S512x128 .bf16} {Z : ℕ → ℕ → EReal}

theorem pay6 (Q K : ℕ → ℕ → EReal) : k0_pay6 (F := Ideal) (eD (φ := .bf16) Q) (eD (φ := .bf16) K) = eS (φ := .f32) fun r l => ((∑ d ∈ range 128, Q r d * K l d) * (sc : ℝ)) * (il : ℝ) := by
  unfold k0_pay6
  rw [named_scale]
  funext i
  pointwise [eS, eD]
  rw [Fin.sum_univ_eq_sum_range (fun d => Q (i 0) d * K (i 1) d) 128, EReal.coe_mul, mul_assoc]
theorem pay8 (h : k0_pay6 (F := Ideal) q k = eS fun r l => Z r l * (il : ℝ)) : k0_pay8 q k = eS fun r l => spl (Z r l) * (il : ℝ) := by
  unfold k0_pay8 k0_pay7; rw [h, named_log2e]
  funext i
  pointwise [eS]
  exact spl_il _
theorem pay10 (h : k0_pay6 (F := Ideal) q k = eS fun r l => Z r l * (il : ℝ)) :
    k0_pay10 q k = eS fun r l => (if l < r then -spl (Z r l) else 0) * (il : ℝ) := by
  unfold k0_pay10; rw [pay8 h]
  funext i
  pointwise [eS, k0_pay9]
  rw [mask ((i 1).isLt.trans (by decide)) ((i 0).isLt.trans (by decide))]
  split_ifs
  · rw [zero_sub, EReal.neg_mul]
  · rw [zero_mul]
theorem pay42 (h : k0_pay39 (F := Ideal) q k = eS fun r l => Z r l * (il : ℝ)) :
    k0_pay42 q k = eS fun r l => -spl (Z r l) * (il : ℝ) := by
  have e : k0_pay41 (F := Ideal) q k = k0_pay8 q k := rfl
  unfold k0_pay42; rw [e, pay8 h]
  funext i
  pointwise [eS, k0_pay9]
  rw [zero_sub, EReal.neg_mul]

end Vals

section Diag
variable {q k : Vec Ideal S512x128 .bf16} {X : ℕ → ℕ → EReal} (hX : ∀ r l, X r l ≠ ⊤)
include hX

theorem pay12 (h : k0_pay10 q k = eS X) : k0_pay12 q k = eS X := by unfold k0_pay12; rw [h]; rfl
theorem pay13 (h : k0_pay10 q k = eS X) : k0_pay13 q k = eS (low X) := by unfold k0_pay13; rw [pay12 hX h, h]; rfl
theorem pay14 (h : k0_pay10 q k = eS X) : k0_pay14 q k uM = eD fun r l => later X r (384 + l) := by
  unfold k0_pay14; rw [pay12 hX h, pay13 hX h, Stick.pay11]; exact seg_last hX _ _
theorem pay15 (h : k0_pay10 q k = eS X) : k0_pay15 q k uM = eC fun r => from_ X r 384 := by
  unfold k0_pay15; rw [pay14 hX h, h]; exact seg_carry 384 (by norm_num) _ _ _
theorem pay16 : k0_pay16 uM (eS X) (eS (low X)) (eC fun r => from_ X r 384) = eD fun r l => later X r (256 + l) :=
  seg4 hX 256 (by norm_num) _ _ _
theorem pay17 : k0_pay17 (eS X) uM (eS X) (eS (low X)) (eC fun r => from_ X r 384) = eD fun r l => later X r (128 + l) := by
  unfold k0_pay17; rw [pay16 hX]; dsimp only; rw [seg_carry 256 (by norm_num)]; exact seg4 hX 128 (by norm_num) _ _ _
theorem pay18 : k0_pay18 (eS X) uM (eS X) (eS (low X)) (eC fun r => from_ X r 384) = eD fun r l => later X r (0 + l) := by
  unfold k0_pay18; rw [pay17 hX]; dsimp only; rw [seg_carry 128 (by norm_num)]; exact seg4 hX 0 (by norm_num) _ _ _
theorem pay19 : k0_pay19 (eS X) uM (eS X) (eS (low X)) (eC fun r => from_ X r 384) = eC fun r => from_ X r 0 := by
  unfold k0_pay19; rw [pay18 hX]; exact seg_carry 0 (by norm_num) _ _ _

/-! ## The same of an earlier block -/

theorem pay44 (h : k0_pay42 q k = eS X) : k0_pay44 q k = eS X := by unfold k0_pay44; rw [h]; rfl
theorem pay45 (h : k0_pay42 q k = eS X) : k0_pay45 q k = eS (low X) := by unfold k0_pay45; rw [pay44 hX h, h]; rfl
theorem pay46 (h : k0_pay42 q k = eS X) : k0_pay46 q k uM = eD fun r l => later X r (384 + l) := by
  unfold k0_pay46; rw [pay44 hX h, pay45 hX h, Stick.pay43]; exact seg_last hX _ _
theorem pay47 (h : k0_pay42 q k = eS X) : k0_pay47 q k uM = eC fun r => from_ X r 384 := by
  unfold k0_pay47; rw [pay46 hX h, h]; exact seg_carry 384 (by norm_num) _ _ _
theorem pay50 (h : k0_pay42 q k = eS X) : k0_pay50 (eC fun r => from_ X r 384) (k0_pay48 q k uM) (k0_pay49 q k uM) = eD fun r l => later X r (256 + l) := by
  unfold k0_pay50 k0_pay48 k0_pay49; rw [pay44 hX h, pay45 hX h, Stick.pay43]; exact seg4 hX 256 (by norm_num) _ _ _
theorem pay51 (h : k0_pay42 q k = eS X) : k0_pay51 (eS X) uM (eS X) (eS (low X)) (eC fun r => from_ X r 384) (k0_pay48 q k uM) (k0_pay49 q k uM) = eD fun r l => later X r (128 + l) := by
  unfold k0_pay51; rw [pay50 hX h]; dsimp only; rw [seg_carry 256 (by norm_num)]; exact seg4 hX 128 (by norm_num) _ _ _
theorem pay52 (h : k0_pay42 q k = eS X) : k0_pay52 (eS X) uM (eS X) (eS (low X)) (eC fun r => from_ X r 384) (k0_pay48 q k uM) (k0_pay49 q k uM) = eD fun r l => later X r (0 + l) := by
  unfold k0_pay52; rw [pay51 hX h]; dsimp only; rw [seg_carry 128 (by norm_num)]; exact seg4 hX 0 (by norm_num) _ _ _
theorem pay53 (h : k0_pay42 q k = eS X) : k0_pay53 (eS X) uM (eS X) (eS (low X)) (eC fun r => from_ X r 384) (k0_pay48 q k uM) (k0_pay49 q k uM) = eC fun r => from_ X r 0 := by
  unfold k0_pay53; rw [pay52 hX h]; exact seg_carry 0 (by norm_num) _ _ _

end Diag

theorem pay22 (Z L : ℕ → ℕ → EReal) (a41 a43 a44 a47 a55) (h16 : k0_pay16 (F := Ideal) a43 a44 a47 a55 = eD fun r l => L r (256 + l) * (il : ℝ))
    (h17 : k0_pay17 (F := Ideal) a41 a43 a44 a47 a55 = eD fun r l => L r (128 + l) * (il : ℝ)) (h18 : k0_pay18 (F := Ideal) a41 a43 a44 a47 a55 = eD fun r l => L r (0 + l) * (il : ℝ)) :
    k0_pay22 (F := Ideal) (eS (φ := .f32) fun r l => Z r l * (il : ℝ)) (eS (φ := .f32) fun r l => spl (Z r l) * (il : ℝ)) k0_pay9 a41 a43 a44 a47 (eD (φ := .f32) fun r l => L r (384 + l) * (il : ℝ)) a55
      = eS (φ := .bf16) fun r l => if l < r then wt (Z r l) (L r l) else 0 := by
  unfold k0_pay22; rw [h16, h17, h18, concat4 fun r l => L r l * (il : ℝ)]
  funext i
  pointwise [eS, k0_pay9]
  rw [mask ((i 1).isLt.trans (by decide)) ((i 0).isLt.trans (by decide)), ← sub_il, ← add_il, exp2_il]
  rfl

theorem pay54 (Z L : ℕ → ℕ → EReal) (R : ℕ → EReal) (a36 a38 a39 a42 a50 a52 a54) (h50 : k0_pay50 (F := Ideal) a50 a52 a54 = eD fun r l => L r (256 + l) * (il : ℝ))
    (h51 : k0_pay51 (F := Ideal) a36 a38 a39 a42 a50 a52 a54 = eD fun r l => L r (128 + l) * (il : ℝ)) (h52 : k0_pay52 (F := Ideal) a36 a38 a39 a42 a50 a52 a54 = eD fun r l => L r (0 + l) * (il : ℝ)) :
    k0_pay54 (F := Ideal) (eS (φ := .f32) fun r l => Z r l * (il : ℝ)) (eS (φ := .f32) fun r l => spl (Z r l) * (il : ℝ)) a36 a38 a39 a42 (eD (φ := .f32) fun r l => L r (384 + l) * (il : ℝ)) a50 a52 a54 (eC fun r => R r * (il : ℝ))
      = eS (φ := .bf16) fun r l => wt (Z r l) (L r l + R r) := by
  unfold k0_pay54; rw [h50, h51, h52, concat4 fun r l => L r l * (il : ℝ)]
  funext i
  pointwise [eS, eC]
  rw [← sub_il, ← add_il, ← add_il, exp2_il]
  rfl

theorem pay72 (A B : ℕ → EReal) : k0_pay72 (F := Ideal) (eC A) (eC B) = eC fun r => B r + A r := by
  unfold k0_pay72
  funext i
  pointwise [eC]

end Cert.Proof.StickFwd

end
-- ==== Proof.StickFwdRun.lean ====
/- The stick-breaking forward call, one grid point: what the body leaves in its accumulator, its carried row sum and the two
   result blocks, in closed terms of what it read — a diagonal block of keys and an earlier block of keys apart — and
   that the body, run at a point, leaves exactly that. -/
module

public import proofs.«01_k».proof.Proof.Gen.StickFwdKernelIdeal.Skeleton
public import proofs.«01_k».proof.Proof.Gen.StickFwdKernelIdeal.Launch
public import Idealize.ShloMosaic.Lib.Pipeline.Kit
public import Idealize.ShloMosaic.Lib.Pipeline.FrameBody
public import Idealize.ShloMosaic.Lib.VecWindow
public import Idealize.ShloMosaic.Lib.Writes
public import Idealize.ShloMosaic.Lib.Exec
public import Idealize.ShloMosaic.Lib.Tactic

@[expose] public section

set_option maxRecDepth 16384
set_option Elab.async false

noncomputable section

namespace Cert.Proof.StickFwd

open Cert.StickFwdKernelIdeal Cert.StickFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- What a point reads: the query, key and value blocks, and the matrix of ones below the diagonal. -/
structure Ins (F : FTy → Type) where
  q : Vec F S512x128 .bf16
  k : Vec F S512x128 .bf16
  v : Vec F S512x128 .bf16
  M : Vec F S128x128 .bf16

/-- What a point carries to the next: the result so far, and the row sum over later keys. -/
structure Car (F : FTy → Type) where
  acc : Vec F S512x128 .f32
  ra : Vec F S512x1 .f32

/-- A diagonal block: nothing carried is read. -/
def dCar (x : Ins F) : Car F where
  acc := k0_pay4 (k0_pay7 x.q x.k) (k0_pay8 x.q x.k) k0_pay9 (k0_pay10 x.q x.k) (k0_pay11 x.M) (k0_pay12 x.q x.k) (k0_pay13 x.q x.k) (k0_pay14 x.q x.k x.M) (k0_pay15 x.q x.k x.M) (k0_pay16 x.q x.k x.M) (k0_pay17 x.q x.k x.M) x.v
  ra := k0_pay5 (k0_pay10 x.q x.k) (k0_pay11 x.M) (k0_pay12 x.q x.k) (k0_pay13 x.q x.k) (k0_pay15 x.q x.k x.M) (k0_pay16 x.q x.k x.M) (k0_pay17 x.q x.k x.M)

/-- A block of earlier keys. -/
def oCar (x : Ins F) (c : Car F) : Car F where
  acc := k0_pay29 (k0_pay18 x.q x.k) (k0_pay19 x.q x.k) (k0_pay20 x.q x.k) (k0_pay21 x.M) (k0_pay22 x.q x.k) (k0_pay23 x.q x.k) (k0_pay24 x.q x.k x.M) (k0_pay25 x.q x.k x.M) (k0_pay26 x.q x.k x.M) c.ra x.v c.acc
  ra := k0_pay30 (k0_pay20 x.q x.k) (k0_pay21 x.M) (k0_pay22 x.q x.k) (k0_pay23 x.q x.k) (k0_pay26 x.q x.k x.M) c.ra

/-- The body's test for a diagonal block, for an earlier block. -/
abbrev isDiag (wq wk : BitVec 32) : BitVec 1 := Scalar.cmpi .ne (Scalar.extui (Scalar.cmpi .eq wk wq) : BitVec 32) 0#32
abbrev isOff (wq wk : BitVec 32) : BitVec 1 := Scalar.cmpi .ne (Scalar.extui (Scalar.cmpi .ne wk wq) : BitVec 32) 0#32

/-- One point, of its decision and what it reads. -/
def stepOf (b : BitVec 1) (x : Ins F) (s : Car F) : Car F := if b = 1#1 then dCar x else oCar x s

/-! ## The run -/

/-- The word the body reads of a table at a point. -/
abbrev word (arg : Memref sig .tc .smem S36 .i32) (i : grid0.Coords) {c : Dev nD} (T : Buf (Elt F) (arg.view.loc (c : Thread nD τ))) : BitVec 32 :=
  View.readAt (Elt F) arg.view (Rect.unit (s := S36) (k0_off1 i) S1.size (k0_off1_inb i)).toLoadRect T (Shape.Idx.first (numel1_S1.symm ▸ Nat.one_pos))

theorem readAt_512x128 {e : EltTy} {sp : Space} (v : View sig .tc sp S512x128 e) (f : v.ty.Contents (Elt F)) (inb : ∀ a, ![0, 0] a + ![512, 128] a ≤ S512x128.size a) :
    v.readAt (Elt F) (Rect.unit ![0, 0] ![512, 128] inb).toLoadRect f = v.read (Elt F) f := View.readAt_full v f inb
theorem readAt_128x128 {e : EltTy} {sp : Space} (v : View sig .tc sp S128x128 e) (f : v.ty.Contents (Elt F)) (inb : ∀ a, ![0, 0] a + ![128, 128] a ≤ S128x128.size a) :
    v.readAt (Elt F) (Rect.unit ![0, 0] ![128, 128] inb).toLoadRect f = v.read (Elt F) f := View.readAt_full v f inb
theorem readAt_512x1 {e : EltTy} {sp : Space} (v : View sig .tc sp S512x1 e) (f : v.ty.Contents (Elt F)) (inb : ∀ a, ![0, 0] a + ![512, 1] a ≤ S512x1.size a) :
    v.readAt (Elt F) (Rect.unit ![0, 0] ![512, 1] inb).toLoadRect f = v.read (Elt F) f := View.readAt_full v f inb

section Run
variable (c : Dev nD) (i : grid0.Coords)
  (arg2 : Memref sig .tc .smem S36 .i32) (harg2 : arg2.IsWhole) (arg3 : Memref sig .tc .smem S36 .i32) (harg3 : arg3.IsWhole)
  (arg4 : Memref sig .tc .vmem S512x128 .bf16) (harg4 : arg4.IsWhole) (arg5 : Memref sig .tc .vmem S512x128 .bf16) (harg5 : arg5.IsWhole)
  (arg6 : Memref sig .tc .vmem S512x128 .bf16) (harg6 : arg6.IsWhole) (arg7 : Memref sig .tc .vmem S128x128 .bf16) (harg7 : arg7.IsWhole)
  (arg8 : Memref sig .tc .vmem S512x128 .bf16) (harg8 : arg8.IsWhole) (arg9 : Memref sig .tc .vmem S512x128 .f32) (harg9 : arg9.IsWhole)
  (arg10 : Memref sig .tc .vmem S512x128 .f32) (harg10 : arg10.IsWhole) (arg11 : Memref sig .tc .vmem S512x1 .f32) (harg11 : arg11.IsWhole)
  (T0 : Buf (Elt F) (arg2.view.loc (c : Thread nD τ))) (T1 : Buf (Elt F) (arg3.view.loc (c : Thread nD τ)))

/-- The buffers a point holds. -/
def held (x : Ins F) (o : Vec F S512x128 .bf16) (o32 : Vec F S512x128 .f32) (a : Car F) : sProp 𝕄 :=
  iprop((arg2.view.loc (c : Thread nD τ) ↦{fullShare.right} T0) ∗ (arg3.view.loc (c : Thread nD τ) ↦{fullShare.right} T1)
    ∗ owns (c : Thread nD τ) arg4 fullShare x.q ∗ owns (c : Thread nD τ) arg5 fullShare x.k ∗ owns (c : Thread nD τ) arg6 fullShare x.v
    ∗ owns (c : Thread nD τ) arg7 fullShare x.M ∗ owns (c : Thread nD τ) arg8 fullShare o ∗ owns (c : Thread nD τ) arg9 fullShare o32
    ∗ owns (c : Thread nD τ) arg10 fullShare a.acc ∗ owns (c : Thread nD τ) arg11 fullShare a.ra)

set_option maxHeartbeats 8000000 in
/-- The body at a point, whichever block of keys it is; the results' blocks are stored where the first key block is. -/
theorem run_any (h12 : isOff (word arg2 i T0) (word arg3 i T1) = 1#1 ↔ ¬ isDiag (word arg2 i T0) (word arg3 i T1) = 1#1)
    (x : Ins F) (o : Vec F S512x128 .bf16) (o32 : Vec F S512x128 .f32) (a : Car F) (K : PUnit → sProp 𝕄) :
    iprop(held c arg2 arg3 arg4 arg5 arg6 arg7 arg8 arg9 arg10 arg11 T0 T1 x o o32 a
        ∗ (held c arg2 arg3 arg4 arg5 arg6 arg7 arg8 arg9 arg10 arg11 T0 T1 x
            (if k0_cond3 (word arg3 i T1) = 1#1 then k0_pay6 (stepOf (isDiag (word arg2 i T0) (word arg3 i T1)) x a).acc else o)
            (if k0_cond3 (word arg3 i T1) = 1#1 then (stepOf (isDiag (word arg2 i T0) (word arg3 i T1)) x a).acc else o32)
            (stepOf (isDiag (word arg2 i T0) (word arg3 i T1)) x a) -∗ K ⟨⟩))
      ⊢ wp frame (wpE (defs₀ (F := F)) Variants.none c none) Set.univ (cc0_sb i arg2 harg2 arg3 harg3 arg4 harg4 arg5 harg5 arg6 harg6 arg7 harg7 arg8 harg8 arg9 harg9 arg10 harg10 arg11 harg11) K := by
  unfold stepOf
  by_cases h1 : isDiag (word arg2 i T0) (word arg3 i T1) = 1#1 <;> by_cases h3 : k0_cond3 (word arg3 i T1) = 1#1
  all_goals
    first
    | (have h2 : ¬ isOff (word arg2 i T0) (word arg3 i T1) = 1#1 := fun h => h12.1 h h1
       simp only [if_pos h1])
    | (have h2 : isOff (word arg2 i T0) (word arg3 i T1) = 1#1 := h12.2 h1
       simp only [if_neg h1])
    first
    | simp only [if_pos h3]
    | simp only [if_neg h3]
    unfold held owns
    rw [cc0_sb_eq_skeleton]; unfold cc0_sb_skel
    simp only [k0_part1_eq_skeleton, k0_part2_eq_skeleton, k0_part3_eq_skeleton]
    iintro ⟨⟨HT0, HT1, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
    sl_exec! (disch := first | exact h1 | exact h2 | exact h3)
    sl_step
    iapply Hk
    isplitl [HT0]; · iexact HT0
    isplitl [HT1]; · iexact HT1
    isplitl [H4]
    · iexists _; isplitr [H4]; swap
      · iexact H4
      · ipureintro; exact hf4
    isplitl [H5]
    · iexists _; isplitr [H5]; swap
      · iexact H5
      · ipureintro; exact hf5
    isplitl [H6]
    · iexists _; isplitr [H6]; swap
      · iexact H6
      · ipureintro; exact hf6
    isplitl [H7]
    · iexists _; isplitr [H7]; swap
      · iexact H7
      · ipureintro; exact hf7
    isplitl [H8]
    · iexists _; isplitr [H8]; swap
      · iexact H8
      · ipureintro
        first
        | exact hf8
        | (sl_unfold_run_names
           refine (View.read_writes_full _ _ _ _ _).trans ?_
           simp only [View.readAt_full, readAt_512x128, readAt_128x128, readAt_512x1, View.readCov_full, hf4, hf5, hf6, hf7, hf10, hf11]
           first | rfl | exact congrArg k0_pay6 (View.readCov_full (Val := Elt F) arg10.view _ _ _ _))
    isplitl [H9]
    · iexists _; isplitr [H9]; swap
      · iexact H9
      · ipureintro
        first
        | exact hf9
        | (sl_unfold_run_names
           refine (View.read_writes_full _ _ _ _ _).trans ?_
           simp only [View.readAt_full, readAt_512x128, readAt_128x128, readAt_512x1, View.readCov_full, hf4, hf5, hf6, hf7, hf10, hf11]
           first | rfl | exact View.readCov_full (Val := Elt F) arg10.view _ _ _ _)
    isplitl [H10]
    · iexists _; isplitr [H10]; swap
      · iexact H10
      · ipureintro
        sl_unfold_run_names
        refine (View.read_writes_full _ _ _ _ _).trans ?_
        simp only [View.readAt_full, readAt_512x128, readAt_128x128, readAt_512x1, View.readCov_full, hf4, hf5, hf6, hf7, hf10, hf11]
        rfl
    · iexists _; isplitr [H11]; swap
      · iexact H11
      · ipureintro
        sl_unfold_run_names
        refine (View.read_writes_full _ _ _ _ _).trans ?_
        simp only [View.readAt_full, readAt_512x128, readAt_128x128, readAt_512x1, View.readCov_full, hf4, hf5, hf6, hf7, hf10, hf11]
        rfl

end Run

end Cert.Proof.StickFwd
end
-- ==== Proof.StickFwdPoint.lean ====
/- The stick-breaking forward call: its tables, the points' contents as one recursion over the grid, and the body at every
   point. -/
module

public import proofs.«01_k».proof.Proof.StickFwdRun
public import Idealize.ShloMosaic.Lib.Pipeline.Quiescent
public import Idealize.ShloMosaic.Lib.Claim
public import Idealize.ShloMosaic.Lib.Pipeline.TableIdle
public import Idealize.ShloMosaic.Lib.Affine

@[expose] public section

set_option maxRecDepth 16384
set_option Elab.async false

noncomputable section

namespace Cert.Proof.StickFwd

open Cert.StickFwdKernelIdeal Cert.StickFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables -/

/-- The query block of each pair, the key block of each pair, in the order the grid walks them. -/
def tab0 : S36.Idx → BitVec 32 := fun i => lit0 (S36.rowMajor i)
def tab1 : S36.Idx → BitVec 32 := fun i => lit1 (S36.rowMajor i)

def tabs : pre0.Contents (Elt F) := fun | ⟨0, _⟩ => tab0 | ⟨1, _⟩ => tab1 | ⟨_ + 2, h⟩ => absurd h (Nat.not_lt.2 (Nat.le_add_left _ _))

theorem inb_0 : ∀ i : grid0.Coords, ∀ a, (cc0_transform_0 k0_off1_inb numel1_S1 (tabs (F := Ideal)) i a + 1) * S512x128.size a ≤ S4096x12288.size a := by decide +kernel
theorem inb_1 : ∀ i : grid0.Coords, ∀ a, (cc0_transform_1 k0_off1_inb numel1_S1 (tabs (F := Ideal)) i a + 1) * S512x128.size a ≤ S4096x12288.size a := by decide +kernel
theorem inb_2 : ∀ i : grid0.Coords, ∀ a, (cc0_transform_2 k0_off1_inb numel1_S1 (tabs (F := Ideal)) i a + 1) * S512x128.size a ≤ S4096x12288.size a := by decide +kernel
theorem inb_4 : ∀ i : grid0.Coords, ∀ a, (cc0_transform_4 k0_off1_inb numel1_S1 (tabs (F := Ideal)) i a + 1) * S512x128.size a ≤ S4096x1024.size a := by decide +kernel
theorem inb_5 : ∀ i : grid0.Coords, ∀ a, (cc0_transform_5 k0_off1_inb numel1_S1 (tabs (F := Ideal)) i a + 1) * S512x128.size a ≤ S4096x1024.size a := by decide +kernel

theorem ok_tabs : ok0 (tabs (F := F)) :=
  ⟨fun i => ⟨inb_0 i, .inr (Affine.block_words_dvd (s := S4096x12288) (p := EltTy.packing .bf16) (by decide) (by decide))⟩,
   fun i => ⟨inb_1 i, .inr (Affine.block_words_dvd (s := S4096x12288) (p := EltTy.packing .bf16) (by decide) (by decide))⟩,
   fun i => ⟨inb_2 i, .inr (Affine.block_words_dvd (s := S4096x12288) (p := EltTy.packing .bf16) (by decide) (by decide))⟩,
   fun i => ⟨inb_4 i, .inr (Affine.block_words_dvd (s := S4096x1024) (p := EltTy.packing .bf16) (by decide) (by decide))⟩,
   fun i => ⟨inb_5 i, .inl rfl⟩⟩

def adm : (pcfg0 (F := F)).Adm := ⟨tabs, ok_tabs⟩
/-- The pipeline at the tables. -/
abbrev cfgA : Pipeline.Cfg sig Λ₀ := cfg0 (F := F) adm

abbrev crd (t : Fin grid0.N) : grid0.Coords := grid0.coords t

/-- The pair's key block and query block at a point. -/
def kw (t : Fin grid0.N) : BitVec 32 := lit1 ⟨t.val % 36, Nat.mod_lt _ (by decide)⟩
def qw (t : Fin grid0.N) : BitVec 32 := lit0 ⟨t.val % 36, Nat.mod_lt _ (by decide)⟩
def kN (t : Fin grid0.N) : ℕ := (kw t).toNat
def qN (t : Fin grid0.N) : ℕ := (qw t).toNat

abbrev W0 (F : FTy → Type) (t : Fin grid0.N) : BitVec 32 := word (F := F) (Memref.whole main_c) (crd t) (c := (0 : Dev nD)) tab0
abbrev W1 (F : FTy → Type) (t : Fin grid0.N) : BitVec 32 := word (F := F) (Memref.whole main_c_0) (crd t) (c := (0 : Dev nD)) tab1

/-- What a point's words say of it. -/
abbrev Facts1 (t : Fin grid0.N) : Prop :=
  W0 Ideal t = qw t ∧ W1 Ideal t = kw t
  ∧ (isOff (qw t) (kw t) = 1#1 ↔ ¬ isDiag (qw t) (kw t) = 1#1)
  ∧ (¬ isDiag (qw t) (kw t) = 1#1 → t.val ≠ 0)
  ∧ ((cfgA (F := Ideal)).idle (4 : Fin 6) (crd t) = !(k0_cond3 (kw t) == 1#1))
  ∧ (((cfgA (F := Ideal)).win (4 : Fin 6)).flush t = (k0_cond3 (kw t) == 1#1))
  ∧ ((cfgA (F := Ideal)).idle (5 : Fin 6) (crd t) = !(k0_cond3 (kw t) == 1#1))
  ∧ (((cfgA (F := Ideal)).win (5 : Fin 6)).flush t = (k0_cond3 (kw t) == 1#1))

theorem facts1 : ∀ t : Fin grid0.N, Facts1 t := by decide +kernel

/-- The pipeline reads only the tables, so it is the same pipeline over any element values. -/
theorem cfg_eq : cfgA (F := F) = cfgA (F := Ideal) := rfl
theorem W0_eq (t : Fin grid0.N) : W0 F t = qw t := (facts1 t).1
theorem W1_eq (t : Fin grid0.N) : W1 F t = kw t := (facts1 t).2.1

variable (m : (ℓ : Loc nD τ sig) → Buf (Elt F) ℓ) (ρ : Dev nD → PrngReg)

/-! ## The host operations before the region -/

abbrev opss : List (List (HloOp τ sig (Elt F))) :=
  [hostOps0, hostOps0_1, hostOps0_2]

/-- The buffers when the region is entered. -/
abbrev V (c : Dev nD) (b : Ref sig .tc) : Buf (Elt F) ((c : Thread nD τ).loc b) := StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub⟩

theorem opss_fresh : (opss (F := F)).Forall fun ops => ops.Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss opss_sub opss_fresh main_chain

/-- A buffer no host operation writes is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 800000 in
/-- The first two operations write the tables, and no later one writes them again. -/
theorem V_tab0 (c : Dev nD) : V m c main_c = tab0 := by
  show StableHlo.after (opss (F := F)).flatten (fun b => m (c, b)) (Proc.devRef .tc main_c) = tab0
  simp only [opss, hostOps0, hostOps0_1, hostOps0_2, List.flatten_cons, List.flatten_nil, List.append_nil, List.cons_append, List.nil_append]
  rw [StableHlo.after_cons, StableHlo.after_of_forall_not_mem (b := Proc.devRef .tc main_c) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))), StableHlo.nullary_result]
  rfl
set_option maxHeartbeats 800000 in
theorem V_tab1 (c : Dev nD) : V m c main_c_0 = tab1 := by
  show StableHlo.after (opss (F := F)).flatten (fun b => m (c, b)) (Proc.devRef .tc main_c_0) = tab1
  simp only [opss, hostOps0, hostOps0_1, hostOps0_2, List.flatten_cons, List.flatten_nil, List.append_nil, List.cons_append, List.nil_append]
  rw [StableHlo.after_cons, StableHlo.after_cons, StableHlo.after_of_forall_not_mem (b := Proc.devRef .tc main_c_0) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))), StableHlo.nullary_result]
  rfl

theorem V_pre (c : Dev nD) (j : Fin 2) : V m c (pre0.ref j) = (adm (F := F)).1 j := by
  fin_cases j
  · exact V_tab0 m c
  · exact V_tab1 m c

/-! ## The points -/

abbrev ms0 (t : Fin (cfgA (F := F)).N) : Memref sig .tc .vmem S512x128 .bf16 := spec0_0.stage ((cfgA (F := F)).slots t (0 : Fin 6))
abbrev hs0 (t : Fin (cfgA (F := F)).N) : (ms0 t).IsWhole := hstage0_0 (((cfgA (F := F)).slots t (0 : Fin 6)).cast nbuf0_0)
abbrev ms1 (t : Fin (cfgA (F := F)).N) : Memref sig .tc .vmem S512x128 .bf16 := spec0_1.stage ((cfgA (F := F)).slots t (1 : Fin 6))
abbrev hs1 (t : Fin (cfgA (F := F)).N) : (ms1 t).IsWhole := hstage0_1 (((cfgA (F := F)).slots t (1 : Fin 6)).cast nbuf0_1)
abbrev ms2 (t : Fin (cfgA (F := F)).N) : Memref sig .tc .vmem S512x128 .bf16 := spec0_2.stage ((cfgA (F := F)).slots t (2 : Fin 6))
abbrev hs2 (t : Fin (cfgA (F := F)).N) : (ms2 t).IsWhole := hstage0_2 (((cfgA (F := F)).slots t (2 : Fin 6)).cast nbuf0_2)
abbrev ms3 (t : Fin (cfgA (F := F)).N) : Memref sig .tc .vmem S128x128 .bf16 := spec0_3.stage ((cfgA (F := F)).slots t (3 : Fin 6))
abbrev hs3 (t : Fin (cfgA (F := F)).N) : (ms3 t).IsWhole := hstage0_3 (((cfgA (F := F)).slots t (3 : Fin 6)).cast nbuf0_3)
abbrev ms4 (t : Fin (cfgA (F := F)).N) : Memref sig .tc .vmem S512x128 .bf16 := spec0_4.stage ((cfgA (F := F)).slots t (4 : Fin 6))
abbrev hs4 (t : Fin (cfgA (F := F)).N) : (ms4 t).IsWhole := hstage0_4 (((cfgA (F := F)).slots t (4 : Fin 6)).cast nbuf0_4)
abbrev ms5 (t : Fin (cfgA (F := F)).N) : Memref sig .tc .vmem S512x128 .f32 := spec0_5.stage ((cfgA (F := F)).slots t (5 : Fin 6))
abbrev hs5 (t : Fin (cfgA (F := F)).N) : (ms5 t).IsWhole := hstage0_5 (((cfgA (F := F)).slots t (5 : Fin 6)).cast nbuf0_5)

/-- Window `w`'s block at point `t`. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V m c (Pipeline.arrRef spec0 w))

/-- What point `t` reads. -/
def ins (c : Dev nD) (t : Fin (cfgA (F := F)).N) : Ins F where
  q := iblk m c (0 : Fin 6) t
  k := iblk m c (1 : Fin 6) t
  v := iblk m c (2 : Fin 6) t
  M := iblk m c (3 : Fin 6) t

/-- Point `t`. -/
def step (c : Dev nD) (t : Fin (cfgA (F := F)).N) (s : Car F) : Car F := stepOf (isDiag (qw t) (kw t)) (ins m c t) s

/-- What the points up to `n` leave. -/
def traj (c : Dev nD) : (n : ℕ) → n < (cfgA (F := F)).N → Car F
  | 0, h => step m c ⟨0, h⟩ (dCar (ins m c ⟨0, h⟩))
  | n + 1, h => step m c ⟨n + 1, h⟩ (traj c n (by omega))

theorem traj_pos (c : Dev nD) (t : Fin (cfgA (F := F)).N) (ht : t.val ≠ 0) :
    traj m c t.val t.isLt = step m c t (traj m c (t.val - 1) (by omega)) := by
  obtain ⟨n, h⟩ := t
  cases n with
  | zero => exact absurd rfl ht
  | succ n => rfl

/-- A diagonal block forgets what came before. -/
theorem step_first (c : Dev nD) (t : Fin (cfgA (F := F)).N) (h : isDiag (qw t) (kw t) = 1#1) (s s' : Car F) : step m c t s = step m c t s' := by
  unfold step stepOf; rw [if_pos h, if_pos h]

theorem traj_first (c : Dev nD) (t : Fin (cfgA (F := F)).N) (h : isDiag (qw t) (kw t) = 1#1) (s : Car F) : traj m c t.val t.isLt = step m c t s := by
  by_cases ht : t.val = 0
  · obtain ⟨n, hn⟩ := t
    obtain rfl : n = 0 := ht
    exact step_first m c _ h _ _
  · rw [traj_pos m c t ht]; exact step_first m c _ h _ _

/-! ## The proof data -/

/-- Before point `t`: the scratch buffers, at what the points before left of them; the tables; the generator. -/
def Phi (c : Dev nD) (t : Fin ((cfgA (F := F)).N + 1)) : sProp 𝕄 :=
  iprop((∃ a : Car F, ⌜∀ (h : t.val ≠ 0), a = traj m c (t.val - 1) (by omega)⌝
      ∗ owns (c : Thread nD τ) (Memref.whole cc0_scratch0) fullShare a.acc ∗ owns (c : Thread nD τ) (Memref.whole cc0_scratch1) fullShare a.ra)
    ∗ ((Memref.whole main_c).view.loc (c : Thread nD τ) ↦{fullShare.right} tab0) ∗ ((Memref.whole main_c_0).view.loc (c : Thread nD τ) ↦{fullShare.right} tab1)
    ∗ ∃ r, prngReg c r)

def dats (_ : Fin 1) (c : Dev nD) : Dat τ (Elt F) Unit ℕ (UR sig nD τ) ℕ (cfgA (F := F)) c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => k0_pay6 (traj m c t.val t.isLt).acc
    | ⟨5, _⟩ => (traj m c t.val t.isLt).acc
  Φ t := Phi m c t
  q w := Pipeline.shareOf spec0 w
  owed _ := 0

theorem after_0 (c : Dev nD) (t : Fin (cfgA (F := F)).N) : (dats m 0 c).after (0 : Fin 6) t = iblk m c (0 : Fin 6) t := rfl
theorem before_0 (c : Dev nD) (t : Fin (cfgA (F := F)).N) (d) : (dats m 0 c).before (0 : Fin 6) t d = iblk m c (0 : Fin 6) t :=
  ((dats m 0 c).before_in_eq_fetched (0 : Fin 6) rfl (fun _ => rfl) (fun _ _ _ => rfl) (fun t => by rw [after_0]; unfold Dat.blockOf iblk; rfl) t d).trans
    (by unfold Dat.fetched Dat.blockOf iblk; rfl)
theorem after_1 (c : Dev nD) (t : Fin (cfgA (F := F)).N) : (dats m 0 c).after (1 : Fin 6) t = iblk m c (1 : Fin 6) t := rfl
theorem before_1 (c : Dev nD) (t : Fin (cfgA (F := F)).N) (d) : (dats m 0 c).before (1 : Fin 6) t d = iblk m c (1 : Fin 6) t :=
  ((dats m 0 c).before_in_eq_fetched (1 : Fin 6) rfl (fun _ => rfl) (fun _ _ _ => rfl) (fun t => by rw [after_1]; unfold Dat.blockOf iblk; rfl) t d).trans
    (by unfold Dat.fetched Dat.blockOf iblk; rfl)
theorem after_2 (c : Dev nD) (t : Fin (cfgA (F := F)).N) : (dats m 0 c).after (2 : Fin 6) t = iblk m c (2 : Fin 6) t := rfl
theorem before_2 (c : Dev nD) (t : Fin (cfgA (F := F)).N) (d) : (dats m 0 c).before (2 : Fin 6) t d = iblk m c (2 : Fin 6) t :=
  ((dats m 0 c).before_in_eq_fetched (2 : Fin 6) rfl (fun _ => rfl) (fun _ _ _ => rfl) (fun t => by rw [after_2]; unfold Dat.blockOf iblk; rfl) t d).trans
    (by unfold Dat.fetched Dat.blockOf iblk; rfl)
theorem after_3 (c : Dev nD) (t : Fin (cfgA (F := F)).N) : (dats m 0 c).after (3 : Fin 6) t = iblk m c (3 : Fin 6) t := rfl
theorem before_3 (c : Dev nD) (t : Fin (cfgA (F := F)).N) (d) : (dats m 0 c).before (3 : Fin 6) t d = iblk m c (3 : Fin 6) t :=
  ((dats m 0 c).before_in_eq_fetched (3 : Fin 6) rfl (fun _ => rfl) (fun _ _ _ => rfl) (fun t => by rw [after_3]; unfold Dat.blockOf iblk; rfl) t d).trans
    (by unfold Dat.fetched Dat.blockOf iblk; rfl)
theorem after_4 (c : Dev nD) (t : Fin (cfgA (F := F)).N) : (dats m 0 c).after (4 : Fin 6) t = k0_pay6 (traj m c t.val t.isLt).acc := rfl
theorem after_5 (c : Dev nD) (t : Fin (cfgA (F := F)).N) : (dats m 0 c).after (5 : Fin 6) t = (traj m c t.val t.isLt).acc := rfl

/-! ## The body at a point -/

abbrev bodyAt (t : Fin (cfgA (F := F)).N) : Prog (TpuEff nD τ sig (Elt F) Λ₀ .tc) PUnit :=
  cc0_sb (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (Memref.whole cc0_scratch0) (Memref.isWhole_whole _) (Memref.whole cc0_scratch1) (Memref.isWhole_whole _)

/-- The buffers of point `t`. -/
abbrev heldAt (c : Dev nD) (t : Fin (cfgA (F := F)).N) (o : Vec F S512x128 .bf16) (o32 : Vec F S512x128 .f32) (a : Car F) : sProp 𝕄 :=
  held c (Memref.whole main_c) (Memref.whole main_c_0) (ms0 t) (ms1 t) (ms2 t) (ms3 t) (ms4 t) (ms5 t) (Memref.whole cc0_scratch0) (Memref.whole cc0_scratch1) tab0 tab1 (ins m c t) o o32 a

/-- The run at tables' words given by equations. -/
theorem run_of (c : Dev nD) (t : Fin (cfgA (F := F)).N) {wq wk : BitVec 32} (w0 : word (F := F) (c := c) (Memref.whole main_c) (crd t) tab0 = wq)
    (w1 : word (F := F) (c := c) (Memref.whole main_c_0) (crd t) tab1 = wk) (h12 : isOff wq wk = 1#1 ↔ ¬ isDiag wq wk = 1#1) (x : Ins F)
    (o : Vec F S512x128 .bf16) (o32 : Vec F S512x128 .f32) (s : Car F) (K : PUnit → sProp 𝕄) :
    iprop(held c (Memref.whole main_c) (Memref.whole main_c_0) (ms0 t) (ms1 t) (ms2 t) (ms3 t) (ms4 t) (ms5 t) (Memref.whole cc0_scratch0) (Memref.whole cc0_scratch1) tab0 tab1 x o o32 s
        ∗ (held c (Memref.whole main_c) (Memref.whole main_c_0) (ms0 t) (ms1 t) (ms2 t) (ms3 t) (ms4 t) (ms5 t) (Memref.whole cc0_scratch0) (Memref.whole cc0_scratch1) tab0 tab1 x (if k0_cond3 wk = 1#1 then k0_pay6 (stepOf (isDiag wq wk) x s).acc else o)
            (if k0_cond3 wk = 1#1 then (stepOf (isDiag wq wk) x s).acc else o32) (stepOf (isDiag wq wk) x s) -∗ K ⟨⟩))
      ⊢ wp frame (wpE (defs₀ (F := F)) Variants.none c none) Set.univ (bodyAt t) K := by
  subst w0 w1
  exact run_any c (crd t) (Memref.whole main_c) (Memref.isWhole_whole _) (Memref.whole main_c_0) (Memref.isWhole_whole _) (ms0 t) (hs0 t) (ms1 t) (hs1 t) (ms2 t) (hs2 t) (ms3 t) (hs3 t) (ms4 t) (hs4 t) (ms5 t) (hs5 t) (Memref.whole cc0_scratch0) (Memref.isWhole_whole _) (Memref.whole cc0_scratch1) (Memref.isWhole_whole _) tab0 tab1 h12 x o o32 s K

theorem run_to (c : Dev nD) (t : Fin (cfgA (F := F)).N) (o : Vec F S512x128 .bf16) (o32 : Vec F S512x128 .f32) (s s' : Car F) (e : step m c t s = s') (K : PUnit → sProp 𝕄) :
    iprop(heldAt m c t o o32 s
        ∗ (heldAt m c t (if k0_cond3 (kw t) = 1#1 then k0_pay6 s'.acc else o) (if k0_cond3 (kw t) = 1#1 then s'.acc else o32) s' -∗ K ⟨⟩))
      ⊢ wp frame (wpE (defs₀ (F := F)) Variants.none c none) Set.univ (bodyAt t) K := by
  subst e
  obtain ⟨-, -, h12, -⟩ := facts1 t
  exact run_of c t (W0_eq t) (W1_eq t) h12 (ins m c t) o o32 s K

/-- The point's state is the step of what the buffers hold before it, whichever point it is. -/
theorem traj_of (c : Dev nD) (t : Fin (cfgA (F := F)).N) (a : Car F) (ha : ∀ h : t.val ≠ 0, a = traj m c (t.val - 1) (by omega)) :
    step m c t a = traj m c t.val t.isLt := by
  by_cases h : isDiag (qw t) (kw t) = 1#1
  · exact (traj_first m c t h _).symm
  · have ht : t.val ≠ 0 := (facts1 t).2.2.2.1 h
    rw [ha ht, traj_pos m c t ht]

attribute [irreducible] traj

end Cert.Proof.StickFwd
end
-- ==== Proof.StickFwdStep.lean ====
/-
  The stick-breaking forward call, at any arguments: what a point leaves, in sums over all later keys, from what the point
  before carried. The forward's scores, sums over later keys and weights are the terms the backward call recomputes, so
  they are read under that call's names.
-/
module

public import proofs.«01_k».proof.Proof.StickFwdVec
public import proofs.«01_k».proof.Proof.StickFwdPoint

@[expose] public section

set_option maxRecDepth 16384
set_option Elab.async false

noncomputable section

namespace Cert.Proof.StickFwd

open Cert.StickFwdKernelIdeal Cert.StickFwdKernelIdeal.Gen
open Idealize.ShloMosaic Idealize.ShloMosaic.TcCoe Idealize.SL.Sem
open Finset (range Ico sum_congr)
open Cert.Proof.Stick (uM sc il later_shift from_shift d_from tail_join tail_zero range_shift)

/-! ## The same values under the backward call's names -/

theorem named_scale : (Named.named κ "scale_log2e" (0x3E0293EE#32 : BitVec (FTy.bits .f32)) : Ideal .f32) = ((sc * il : ℝ) : EReal) := by
  rfl
theorem named_log2e : (Named.named κ "log2e" (0x3FB8AA3B#32 : BitVec (FTy.bits .f32)) : Ideal .f32) = ((il : ℝ) : EReal) := by
  rfl

section Same
variable (q k : Vec Ideal S512x128 .bf16) (M : Vec Ideal S128x128 .bf16)

theorem e7 : k0_pay7 q k = Cert.StickKernelIdeal.Gen.k0_pay6 (F := Ideal) q k := by
  unfold k0_pay7 Cert.StickKernelIdeal.Gen.k0_pay6
  rw [named_scale, Stick.named_scale]
  rfl
theorem e8 : k0_pay8 q k = Cert.StickKernelIdeal.Gen.k0_pay8 (F := Ideal) q k := by
  unfold k0_pay8 Cert.StickKernelIdeal.Gen.k0_pay8 Cert.StickKernelIdeal.Gen.k0_pay7
  rw [e7, named_log2e, Stick.named_log2e]
theorem e10 : k0_pay10 q k = Cert.StickKernelIdeal.Gen.k0_pay10 (F := Ideal) q k := by
  unfold k0_pay10 Cert.StickKernelIdeal.Gen.k0_pay10; rw [e8]; rfl
theorem e12 : k0_pay12 q k = Cert.StickKernelIdeal.Gen.k0_pay12 (F := Ideal) q k := by
  unfold k0_pay12 Cert.StickKernelIdeal.Gen.k0_pay12; rw [e10]
theorem e13 : k0_pay13 q k = Cert.StickKernelIdeal.Gen.k0_pay13 (F := Ideal) q k := by
  unfold k0_pay13 Cert.StickKernelIdeal.Gen.k0_pay13; rw [e10, e12]
theorem e14 : k0_pay14 q k M = Cert.StickKernelIdeal.Gen.k0_pay14 (F := Ideal) q k M := by
  unfold k0_pay14 Cert.StickKernelIdeal.Gen.k0_pay14; rw [e12, e13]; rfl
theorem e15 : k0_pay15 q k M = Cert.StickKernelIdeal.Gen.k0_pay15 (F := Ideal) q k M := by
  unfold k0_pay15 Cert.StickKernelIdeal.Gen.k0_pay15; rw [e10, e14]

theorem o18 : k0_pay18 q k = Cert.StickKernelIdeal.Gen.k0_pay39 (F := Ideal) q k := e7 q k
theorem o19 : k0_pay19 q k = Cert.StickKernelIdeal.Gen.k0_pay41 (F := Ideal) q k := e8 q k
theorem o20 : k0_pay20 q k = Cert.StickKernelIdeal.Gen.k0_pay42 (F := Ideal) q k := by
  unfold k0_pay20 Cert.StickKernelIdeal.Gen.k0_pay42; rw [o19]
theorem o22 : k0_pay22 q k = Cert.StickKernelIdeal.Gen.k0_pay44 (F := Ideal) q k := by
  unfold k0_pay22 Cert.StickKernelIdeal.Gen.k0_pay44; rw [o20]
theorem o23 : k0_pay23 q k = Cert.StickKernelIdeal.Gen.k0_pay45 (F := Ideal) q k := by
  unfold k0_pay23 Cert.StickKernelIdeal.Gen.k0_pay45; rw [o20, o22]
theorem o24 : k0_pay24 q k M = Cert.StickKernelIdeal.Gen.k0_pay46 (F := Ideal) q k M := by
  unfold k0_pay24 Cert.StickKernelIdeal.Gen.k0_pay46; rw [o22, o23]; rfl

/-- A product of a column block with the matrix below the diagonal. -/
abbrev seg (X : FVec Ideal S512x512 .bf16) (M : FVec Ideal S128x128 .bf16) : FVec Ideal S512x128 .f32 :=
  matmul dot_S512x128_S128x128_S512x128_1_0_0_1_n_n none (extractStridedSlice S512x128 ![0, 256] X slices_S512x512_o0_256_S512x128) M (constant S512x128 .f32 0x00000000#32)

theorem e16 : k0_pay16 q k M = seg (Cert.StickKernelIdeal.Gen.k0_pay12 (F := Ideal) q k) (Cert.StickKernelIdeal.Gen.k0_pay11 (F := Ideal) M) := by
  unfold k0_pay16; rw [e12]; rfl
theorem e17 : k0_pay17 q k M = seg (Cert.StickKernelIdeal.Gen.k0_pay13 (F := Ideal) q k) (Cert.StickKernelIdeal.Gen.k0_pay11 (F := Ideal) M) := by
  unfold k0_pay17; rw [e13]; rfl

/-- The weights' product with the values. -/
abbrev out (W : FVec Ideal S512x512 .bf16) (v : FVec Ideal S512x128 .bf16) : FVec Ideal S512x128 .f32 :=
  matmul dot_S512x512_S512x128_S512x128_1_0_0_1_n_n none W v (constant S512x128 .f32 0x00000000#32)

theorem acc4 (a b : FVec Ideal S512x512 .f32) (mk : IVec S512x512 1) (g : FVec Ideal S512x512 .f32) (L : FVec Ideal S128x128 .bf16) (h l : FVec Ideal S512x512 .bf16)
    (z : FVec Ideal S512x128 .f32) (y : FVec Ideal S512x1 .f32) (v : Vec Ideal S512x128 .bf16) :
    k0_pay4 a b mk g L h l z y (seg h L) (seg l L) v = shapeCast S512x128 (out (Cert.StickKernelIdeal.Gen.k0_pay22 (F := Ideal) a b mk g L h l z y) v) shapeCasts_S512x128_S512x128 := rfl

theorem ra5 (g : FVec Ideal S512x512 .f32) (L : FVec Ideal S128x128 .bf16) (h l : FVec Ideal S512x512 .bf16) (y : FVec Ideal S512x1 .f32) :
    k0_pay5 g L h l y (seg h L) (seg l L) = Cert.StickKernelIdeal.Gen.k0_pay3 (F := Ideal) (Cert.StickKernelIdeal.Gen.k0_pay19 (F := Ideal) g L h l y) := rfl

theorem o25 : k0_pay25 q k M = Cert.StickKernelIdeal.Gen.k0_pay50 (F := Ideal) (Cert.StickKernelIdeal.Gen.k0_pay47 (F := Ideal) q k M)
    (Cert.StickKernelIdeal.Gen.k0_pay48 (F := Ideal) q k M) (Cert.StickKernelIdeal.Gen.k0_pay49 (F := Ideal) q k M) := by
  unfold k0_pay25 Cert.StickKernelIdeal.Gen.k0_pay50 Cert.StickKernelIdeal.Gen.k0_pay47 Cert.StickKernelIdeal.Gen.k0_pay48 Cert.StickKernelIdeal.Gen.k0_pay49
  rw [o20, o22, o23, o24]; rfl

/-- A block's row sum, from the block after it. -/
abbrev carry (g : FVec Ideal S512x512 .f32) (z : FVec Ideal S512x128 .f32) : FVec Ideal S512x1 .f32 :=
  addf (extractStridedSlice S512x1 ![0, 0] z slices_S512x128_o0_0_S512x1) (extractStridedSlice S512x1 ![0, 256] g slices_S512x512_o0_256_S512x1)

theorem o26 : k0_pay26 q k M = carry (Cert.StickKernelIdeal.Gen.k0_pay42 (F := Ideal) q k) (k0_pay25 q k M) := by
  unfold k0_pay26; rw [o20]

theorem acc29 (a b g : FVec Ideal S512x512 .f32) (L : FVec Ideal S128x128 .bf16) (h l : FVec Ideal S512x512 .bf16) (z s t : FVec Ideal S512x128 .f32) (y : FVec Ideal S512x1 .f32)
    (ra : Vec Ideal S512x1 .f32) (v : Vec Ideal S512x128 .bf16) (acc : Vec Ideal S512x128 .f32) :
    k0_pay29 a b g L h l z (Cert.StickKernelIdeal.Gen.k0_pay50 (F := Ideal) y s t) (carry g (Cert.StickKernelIdeal.Gen.k0_pay50 (F := Ideal) y s t)) ra v acc
      = shapeCast S512x128 (addf acc (out (Cert.StickKernelIdeal.Gen.k0_pay54 (F := Ideal) a b g L h l z y s t ra) v)) shapeCasts_S512x128_S512x128 := rfl

theorem ra30 (g : FVec Ideal S512x512 .f32) (L : FVec Ideal S128x128 .bf16) (h l : FVec Ideal S512x512 .bf16) (s t : FVec Ideal S512x128 .f32) (y : FVec Ideal S512x1 .f32)
    (ra : Vec Ideal S512x1 .f32) :
    k0_pay30 g L h l (carry g (Cert.StickKernelIdeal.Gen.k0_pay50 (F := Ideal) y s t)) ra
      = Cert.StickKernelIdeal.Gen.k0_pay72 (F := Ideal) (Cert.StickKernelIdeal.Gen.k0_pay53 (F := Ideal) g L h l y s t) ra := rfl

end Same

/-! ## A point -/

/-- The product. -/
theorem out_eq (W V : ℕ → ℕ → EReal) : out (eS (φ := .bf16) W) (eD (φ := .bf16) V) = eD (φ := .f32) fun r d => ∑ l ∈ range 512, W r l * V l d := by
  funext i
  pointwise [eS, eD]
  exact Fin.sum_univ_eq_sum_range (fun l => W (i 0) l * V l (i 1)) 512

/-- What a point reads, as the backward call's point reads it. -/
def back (x : Ins Ideal) (g : Vec Ideal S512x128 .bf16) (o : Vec Ideal S512x128 .f32) : Stick.Ins Ideal := ⟨x.q, x.k, x.v, g, x.M, o⟩

/-- What a point reads: row block `qi`, key block `ki` of a head. -/
structure At (a : Hd) (qi ki : ℕ) (x : Ins Ideal) : Prop where
  q : x.q = eD (φ := .bf16) fun r d => a.Q (512 * qi + r) d
  k : x.k = eD (φ := .bf16) fun r d => a.K (512 * ki + r) d
  v : x.v = eD (φ := .bf16) fun r d => a.V (512 * ki + r) d
  M : x.M = uM

/-- What is carried once the keys from block `ki` on are done. -/
def car (a : Hd) (qi ki : ℕ) : Car Ideal where
  acc := eD (φ := .f32) fun r d => ∑ S ∈ Ico (512 * ki) 4096, a.w (512 * qi + r) S * a.V S d
  ra := eC fun r => (∑ S ∈ Ico (512 * ki) 4096, a.gm (512 * qi + r) S) * (il : ℝ)

theorem car_acc (a : Hd) (qi ki : ℕ) : (car a qi ki).acc = eD (φ := .f32) fun r d => ∑ S ∈ Ico (512 * ki) 4096, a.w (512 * qi + r) S * a.V S d := rfl
theorem car_ra (a : Hd) (qi ki : ℕ) : (car a qi ki).ra = eC fun r => (∑ S ∈ Ico (512 * ki) 4096, a.gm (512 * qi + r) S) * (il : ℝ) := rfl

theorem Car.same {u v : Car Ideal} (h1 : u.acc = v.acc) (h2 : u.ra = v.ra) : u = v := by
  cases u; cases v; cases h1; cases h2; rfl

theorem dAcc_dW (x : Ins Ideal) (g : Vec Ideal S512x128 .bf16) (o : Vec Ideal S512x128 .f32) :
    (dCar x).acc = shapeCast S512x128 (out (Stick.dW (F := Ideal) (back x g o)) x.v) shapeCasts_S512x128_S512x128 := by
  unfold dCar Stick.dW
  dsimp only
  rw [e7, e8, e10, e12, e13, e14, e15, e16, e17]
  exact acc4 _ _ _ _ _ _ _ _ _ _
theorem dRa_dRa (x : Ins Ideal) (g : Vec Ideal S512x128 .bf16) (o : Vec Ideal S512x128 .f32) :
    (dCar x).ra = Cert.StickKernelIdeal.Gen.k0_pay3 (F := Ideal) (Stick.dRa (F := Ideal) (back x g o)) := by
  unfold dCar Stick.dRa
  dsimp only
  rw [e10, e12, e13, e15, e16, e17]
  exact ra5 _ _ _ _ _
theorem oAcc_oW (x : Ins Ideal) (g : Vec Ideal S512x128 .bf16) (o : Vec Ideal S512x128 .f32) (c : Car Ideal) (c' : Stick.Car Ideal) (hc : c.ra = c'.ra) :
    (oCar x c).acc = shapeCast S512x128 (addf c.acc (out (Stick.oW (F := Ideal) (back x g o) c') x.v)) shapeCasts_S512x128_S512x128 := by
  unfold oCar Stick.oW
  dsimp only
  rw [o18, o19, o26, o25, o20, o22, o23, o24, hc]
  exact acc29 _ _ _ _ _ _ _ _ _ _ _ _ _
theorem oRa_oRa (x : Ins Ideal) (g : Vec Ideal S512x128 .bf16) (o : Vec Ideal S512x128 .f32) (c : Car Ideal) :
    (oCar x c).ra = Cert.StickKernelIdeal.Gen.k0_pay72 (F := Ideal) (Stick.oRa (F := Ideal) (back x g o)) c.ra := by
  unfold oCar Stick.oRa
  dsimp only
  rw [o26, o25, o20, o22, o23]
  exact ra30 _ _ _ _ _ _ _ _

section Point
variable {a : Hd} {qi ki : ℕ} {x : Ins Ideal}

theorem later_il (X : ℕ → ℕ → EReal) (r l : ℕ) : later (fun r l => X r l * (il : ℝ)) r l = later X r l * (il : ℝ) := (sum_il _ _).symm
theorem from_il (X : ℕ → ℕ → EReal) (r l : ℕ) : from_ (fun r l => X r l * (il : ℝ)) r l = from_ X r l * (il : ℝ) := (sum_il _ _).symm

theorem d6 (h : At a qi ki x) : Cert.StickKernelIdeal.Gen.k0_pay6 x.q x.k = eS fun r l => a.z (512 * qi + r) (512 * ki + l) * (il : ℝ) := by
  rw [h.q, h.k, pay6]; rfl
theorem d10 (h : At a qi qi x) : Cert.StickKernelIdeal.Gen.k0_pay10 x.q x.k = eS fun r l => a.gm (512 * qi + r) (512 * qi + l) * (il : ℝ) := by
  rw [pay10 (d6 h)]
  refine eS_congr fun r l hr hl => ?_
  unfold Hd.gm
  simp only [Nat.add_lt_add_iff_left]
theorem o42 (h : At a qi ki x) (hk : ki < qi) : Cert.StickKernelIdeal.Gen.k0_pay42 x.q x.k = eS fun r l => a.gm (512 * qi + r) (512 * ki + l) * (il : ℝ) := by
  rw [pay42 (d6 h)]
  refine eS_congr fun r l hr hl => ?_
  unfold Hd.gm
  rw [if_pos (by omega)]
theorem gm_ne (a : Hd) (qi ki : ℕ) : ∀ r l, a.gm (512 * qi + r) (512 * ki + l) * (il : ℝ) ≠ ⊤ := fun r l => a.gm_il _ _

theorem dRa_eq (h : At a qi qi x) (hq : qi < 8) (g : Vec Ideal S512x128 .bf16) (o : Vec Ideal S512x128 .f32) :
    Stick.dRa (back x g o) = eC fun r => (∑ S ∈ Ico (512 * qi) 4096, a.gm (512 * qi + r) S) * (il : ℝ) := by
  unfold Stick.dRa back
  dsimp only
  rw [h.M, d10 h, Stick.pay11, pay12 (gm_ne a qi qi) (d10 h), pay13 (gm_ne a qi qi) (d10 h), pay15 (gm_ne a qi qi) (d10 h), pay19 (gm_ne a qi qi)]
  refine eC_congr fun r hr => ?_
  rw [from_il]; unfold from_
  rw [d_from (fun X => a.gm (512 * qi + r) X) qi hq fun k hk => a.gm_zero (by omega)]

theorem dW_eq (h : At a qi qi x) (hq : qi < 8) (g : Vec Ideal S512x128 .bf16) (o : Vec Ideal S512x128 .f32) :
    Stick.dW (back x g o) = eS fun r l => a.w (512 * qi + r) (512 * qi + l) := by
  unfold Stick.dW back
  dsimp only
  rw [h.M, d10 h, Stick.pay11, pay12 (gm_ne a qi qi) (d10 h), pay13 (gm_ne a qi qi) (d10 h), pay14 (gm_ne a qi qi) (d10 h), pay15 (gm_ne a qi qi) (d10 h), d6 h, pay8 (d6 h)]
  have e : ∀ off, off ≤ 384 → eD (φ := .f32) (fun r l => later (fun r l => a.gm (512 * qi + r) (512 * qi + l) * (il : ℝ)) r (off + l))
      = eD fun r l => (∑ X ∈ Ico (512 * qi + (off + l) + 1) 4096, a.gm (512 * qi + r) X) * (il : ℝ) := fun off ho =>
    eD_congr fun r l hr hl => by
      rw [later_il]; unfold later
      rw [later_shift (fun X => a.gm (512 * qi + r) X), add_assoc (512 * qi) (off + l) 1, tail_zero _ _ _ (by omega) (by omega) fun k hk => a.gm_zero (by omega)]
  rw [e 384 le_rfl, pay22 (fun r l => a.z (512 * qi + r) (512 * qi + l))
    (fun r l => ∑ X ∈ Ico (512 * qi + l + 1) 4096, a.gm (512 * qi + r) X) _ _ _ _ _ ((pay16 (gm_ne a qi qi)).trans (e 256 (by norm_num)))
    ((pay17 (gm_ne a qi qi)).trans (e 128 (by norm_num))) ((pay18 (gm_ne a qi qi)).trans (e 0 (by norm_num)))]
  refine eS_congr fun r l hr hl => ?_
  unfold Hd.w
  simp only [Nat.add_lt_add_iff_left]

theorem oRa_eq (h : At a qi ki x) (hk : ki < qi) (g : Vec Ideal S512x128 .bf16) (o : Vec Ideal S512x128 .f32) :
    Stick.oRa (back x g o) = eC fun r => (∑ S ∈ Ico (512 * ki) (512 * ki + 512), a.gm (512 * qi + r) S) * (il : ℝ) := by
  unfold Stick.oRa back
  dsimp only
  rw [h.M, o42 h hk, Stick.pay43, pay44 (gm_ne a qi ki) (o42 h hk), pay45 (gm_ne a qi ki) (o42 h hk), pay47 (gm_ne a qi ki) (o42 h hk), pay53 (gm_ne a qi ki) (o42 h hk)]
  refine eC_congr fun r hr => ?_
  rw [from_il]; unfold from_
  rw [from_shift (fun X => a.gm (512 * qi + r) X)]

theorem oW_eq (h : At a qi ki x) (hk : ki < qi) (hq : qi < 8) (g : Vec Ideal S512x128 .bf16) (o : Vec Ideal S512x128 .f32) (c : Stick.Car Ideal) (hc : c.ra = (car a qi (ki + 1)).ra) :
    Stick.oW (back x g o) c = eS fun r l => a.w (512 * qi + r) (512 * ki + l) := by
  unfold Stick.oW back
  dsimp only
  have h39 : Cert.StickKernelIdeal.Gen.k0_pay39 x.q x.k = eS fun r l => a.z (512 * qi + r) (512 * ki + l) * (il : ℝ) := d6 h
  have h41 : Cert.StickKernelIdeal.Gen.k0_pay41 x.q x.k = eS fun r l => spl (a.z (512 * qi + r) (512 * ki + l)) * (il : ℝ) := pay8 (d6 h)
  rw [h.M, o42 h hk, Stick.pay43, pay44 (gm_ne a qi ki) (o42 h hk), pay45 (gm_ne a qi ki) (o42 h hk), pay46 (gm_ne a qi ki) (o42 h hk), pay47 (gm_ne a qi ki) (o42 h hk), h39, h41]
  have e : ∀ off, off ≤ 384 → eD (φ := .f32) (fun r l => later (fun r l => a.gm (512 * qi + r) (512 * ki + l) * (il : ℝ)) r (off + l))
      = eD fun r l => (∑ X ∈ Ico (512 * ki + (off + l) + 1) (512 * ki + 512), a.gm (512 * qi + r) X) * (il : ℝ) := fun off ho =>
    eD_congr fun r l hr hl => by
      rw [later_il]; unfold later
      rw [later_shift (fun X => a.gm (512 * qi + r) X)]
  rw [e 384 le_rfl, hc, car_ra, pay54 (fun r l => a.z (512 * qi + r) (512 * ki + l))
    (fun r l => ∑ X ∈ Ico (512 * ki + l + 1) (512 * ki + 512), a.gm (512 * qi + r) X) _ _ _ _ _ _ _ _ ((pay50 (gm_ne a qi ki) (o42 h hk)).trans (e 256 (by norm_num)))
    ((pay51 (gm_ne a qi ki) (o42 h hk)).trans (e 128 (by norm_num))) ((pay52 (gm_ne a qi ki) (o42 h hk)).trans (e 0 (by norm_num)))]
  refine eS_congr fun r l hr hl => ?_
  unfold Hd.w
  rw [if_pos (by omega), add_assoc (512 * ki) l 1, tail_join _ _ _ (by omega) (by omega)]

theorem dCar_eq (h : At a qi qi x) (hq : qi < 8) : dCar x = car a qi qi := by
  refine Car.same ?_ ?_
  · rw [dAcc_dW x x.q (fun _ => 0), dW_eq h hq, h.v, car_acc]
    refine (congrArg (fun y => shapeCast S512x128 y shapeCasts_S512x128_S512x128) (out_eq _ _)).trans ((ecastD _ _).trans (eD_congr fun r d hr hd => ?_))
    rw [range_shift (fun S => a.w (512 * qi + r) S * a.V S d)]
    exact tail_zero (fun S => a.w (512 * qi + r) S * a.V S d) (512 * qi) 0 (by omega) (by omega) fun k hk => by rw [a.w_zero (by omega), zero_mul]
  · rw [dRa_dRa x x.q (fun _ => 0), dRa_eq h hq, car_ra]
    exact ecastC _ _

theorem oCar_eq (h : At a qi ki x) (hk : ki < qi) (hq : qi < 8) : oCar x (car a qi (ki + 1)) = car a qi ki := by
  refine Car.same ?_ ?_
  · rw [oAcc_oW x x.q (fun _ => 0) (car a qi (ki + 1)) ⟨fun _ => 0, (car a qi (ki + 1)).ra, fun _ => 0, fun _ => 0⟩ rfl, oW_eq h hk hq _ _ _ rfl, h.v, car_acc a qi ki, car_acc a qi (ki + 1)]
    refine (congrArg (fun y => shapeCast S512x128 (addf (eD (φ := .f32) _) y) shapeCasts_S512x128_S512x128) (out_eq _ _)).trans
      ((congrArg (fun y => shapeCast S512x128 y shapeCasts_S512x128_S512x128) (addD _ _)).trans ((ecastD _ _).trans (eD_congr fun r d hr hd => ?_)))
    rw [range_shift (fun S => a.w (512 * qi + r) S * a.V S d), add_comm]
    exact tail_join (fun S => a.w (512 * qi + r) S * a.V S d) ki 0 (by omega) (by omega)
  · rw [oRa_oRa x x.q (fun _ => 0), oRa_eq h hk, car_ra, car_ra]
    refine (pay72 _ _).trans (eC_congr fun r hr => ?_)
    rw [← add_il, add_comm]
    exact congrArg (· * ((il : ℝ) : EReal)) (tail_join (fun S => a.gm (512 * qi + r) S) ki 0 (by omega) (by omega))

end Point

/-! ## Along the grid -/

/-- What a point's place in the tables says. -/
abbrev Sched (t : Fin grid0.N) : Prop :=
  qN t < 8 ∧ (isDiag (qw t) (kw t) = 1#1 → kN t = qN t)
  ∧ (¬ isDiag (qw t) (kw t) = 1#1 → kN t < qN t ∧ ∃ h : t.val - 1 < grid0.N, (t.val - 1) / 36 = t.val / 36 ∧ qN ⟨t.val - 1, h⟩ = qN t ∧ kN ⟨t.val - 1, h⟩ = kN t + 1)

theorem sched : ∀ t : Fin grid0.N, Sched t := by decide +kernel

/-- A diagonal point. -/
theorem traj_diag (m : (ℓ : Loc nD τ sig) → Buf (Elt Ideal) ℓ) (c : Dev nD) (a : ℕ → Hd) (t : Fin grid0.N)
    (hA : At (a (t.val / 36)) (qN t) (kN t) (ins m c t)) (h1 : isDiag (qw t) (kw t) = 1#1) :
    traj m c t.val t.isLt = car (a (t.val / 36)) (qN t) (kN t) := by
  have e := (sched t).2.1 h1
  refine (traj_first m c t h1 (dCar (ins m c t))).trans ?_
  unfold step stepOf
  rw [if_pos h1]
  rw [e] at hA ⊢
  exact dCar_eq hA (sched t).1

/-- What the pipeline holds at a point, given what each point reads. -/
theorem traj_eq (m : (ℓ : Loc nD τ sig) → Buf (Elt Ideal) ℓ) (c : Dev nD) (a : ℕ → Hd)
    (hA : ∀ t : Fin grid0.N, At (a (t.val / 36)) (qN t) (kN t) (ins m c t)) :
    ∀ (n : ℕ) (h : n < grid0.N), traj m c n h = car (a (n / 36)) (qN ⟨n, h⟩) (kN ⟨n, h⟩) := by
  intro n
  induction n with
  | zero =>
    intro h
    refine traj_diag m c a ⟨0, h⟩ (hA _) ?_
    by_contra hn
    exact (facts1 ⟨0, h⟩).2.2.2.1 hn rfl
  | succ n ih =>
    intro h
    by_cases h1 : isDiag (qw ⟨n + 1, h⟩) (kw ⟨n + 1, h⟩) = 1#1
    · exact traj_diag m c a ⟨n + 1, h⟩ (hA _) h1
    · have hn : n < grid0.N := Nat.lt_of_succ_lt h
      refine (traj_pos m c ⟨n + 1, h⟩ (Nat.succ_ne_zero n)).trans ?_
      rw [show traj m c ((⟨n + 1, h⟩ : Fin grid0.N).val - 1) _ = car (a (n / 36)) (qN ⟨n, hn⟩) (kN ⟨n, hn⟩) from ih hn]
      unfold step stepOf
      rw [if_neg h1]
      obtain ⟨e, hp, ep, eq, ek⟩ := (sched ⟨n + 1, h⟩).2.2 h1
      have ep' : n / 36 = (n + 1) / 36 := ep
      have eq' : qN ⟨n, hn⟩ = qN ⟨n + 1, h⟩ := eq
      have ek' : kN ⟨n, hn⟩ = kN ⟨n + 1, h⟩ + 1 := ek
      rw [ep', ek', eq']
      exact oCar_eq (hA ⟨n + 1, h⟩) e (sched ⟨n + 1, h⟩).1

end Cert.Proof.StickFwd
end
-- ==== Proof.StickFwdFrame.lean ====
/- The stick-breaking forward call: every execution ends, with the arrays at what the recursion over the points computes
   and the counters at zero. -/
module

public import proofs.«01_k».proof.Proof.StickFwdPoint
public import Idealize.ShloMosaic.Lib.Pipeline.Quiescent
public import Idealize.ShloMosaic.Lib.Claim

@[expose] public section

set_option maxRecDepth 16384
set_option Elab.async false

noncomputable section

namespace Cert.Proof.StickFwd

open Cert.StickFwdKernelIdeal Cert.StickFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the buffers hold after point `t`. -/
def PostOf (c : Dev nD) (t : Fin (cfgA (F := F)).N) : sProp 𝕄 :=
  iprop(Phi m c t.succ ∗ (dats m 0 c).owesAt () t.castSucc
        ∗ owns (c : Thread nD τ) (ms0 t) fullShare (iblk m c (0 : Fin 6) t)
        ∗ owns (c : Thread nD τ) (ms1 t) fullShare (iblk m c (1 : Fin 6) t)
        ∗ owns (c : Thread nD τ) (ms2 t) fullShare (iblk m c (2 : Fin 6) t)
        ∗ owns (c : Thread nD τ) (ms3 t) fullShare (iblk m c (3 : Fin 6) t)
        ∗ (if k0_cond3 (kw t) = 1#1 then owns (c : Thread nD τ) (ms4 t) fullShare (k0_pay6 (traj m c t.val t.isLt).acc)
            else iprop(∃ d, owns (c : Thread nD τ) (ms4 t) fullShare ((dats m 0 c).before (4 : Fin 6) t d)))
        ∗ (if k0_cond3 (kw t) = 1#1 then owns (c : Thread nD τ) (ms5 t) fullShare (traj m c t.val t.isLt).acc
            else iprop(∃ d, owns (c : Thread nD τ) (ms5 t) fullShare ((dats m 0 c).before (5 : Fin 6) t d))))

set_option maxHeartbeats 2000000 in
theorem sound_list (c : Dev nD) (t : Fin (cfgA (F := F)).N) (K : PUnit → sProp 𝕄) (hK : PostOf m c t ⊢ K ⟨⟩) :
    iprop(Phi m c t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) K := by
  simp only [before_0, before_1, before_2, before_3]
  unfold Phi
  iintro ⟨⟨⟨%a, %ha, S0, S1⟩, HT0, HT1, HP⟩, Ho, ⟨%d0, H0⟩, ⟨%d1, H1⟩, ⟨%d2, H2⟩, ⟨%d3, H3⟩, ⟨%d4, H4⟩, ⟨%d5, H5⟩⟩
  simp only [Fin.val_castSucc] at ha
  have R := run_to m c t ((dats m 0 c).before (4 : Fin 6) t d4) ((dats m 0 c).before (5 : Fin 6) t d5) a _ (traj_of m c t a ha) K
  iapply R
  unfold heldAt held ins
  dsimp only
  isplitl [S0 S1 HT0 HT1 H0 H1 H2 H3 H4 H5]
  · isplitl [HT0]; · iexact HT0
    isplitl [HT1]; · iexact HT1
    isplitl [H0]; · iexact H0
    isplitl [H1]; · iexact H1
    isplitl [H2]; · iexact H2
    isplitl [H3]; · iexact H3
    isplitl [H4]; · iexact H4
    isplitl [H5]; · iexact H5
    isplitl [S0]; · iexact S0
    iexact S1
  iintro ⟨HT0, HT1, H0, H1, H2, H3, H4, H5, S0, S1⟩
  iapply hK
  unfold PostOf Phi
  isplitl [S0 S1 HT0 HT1 HP]
  · isplitl [S0 S1]
    · iexists (traj m c t.val t.isLt)
      isplitr; · ipureintro; intro _; simp only [Fin.val_succ, Nat.add_sub_cancel]
      isplitl [S0]; · iexact S0
      iexact S1
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  by_cases c4 : k0_cond3 (kw t) = 1#1
  · simp only [if_pos c4]
    isplitl [H4]; · iexact H4
    iexact H5
  · simp only [if_neg c4]
    isplitl [H4]
    · iexists d4; iexact H4
    iexists d5; iexact H5

set_option maxHeartbeats 4000000 in
theorem sound_body (c : Dev nD) (t : Fin (cfgA (F := F)).N) :
    iprop((dats m 0 c).Φ t.castSucc ∗ (dats m 0 c).owesAt () t.castSucc
        ∗ (∃ d, owns (c : Thread nD τ) (ms0 t) fullShare ((dats m 0 c).before (0 : Fin 6) t d))
        ∗ (∃ d, owns (c : Thread nD τ) (ms1 t) fullShare ((dats m 0 c).before (1 : Fin 6) t d))
        ∗ (∃ d, owns (c : Thread nD τ) (ms2 t) fullShare ((dats m 0 c).before (2 : Fin 6) t d))
        ∗ (∃ d, owns (c : Thread nD τ) (ms3 t) fullShare ((dats m 0 c).before (3 : Fin 6) t d))
        ∗ (∃ d, owns (c : Thread nD τ) (ms4 t) fullShare ((dats m 0 c).before (4 : Fin 6) t d))
        ∗ (∃ d, owns (c : Thread nD τ) (ms5 t) fullShare ((dats m 0 c).before (5 : Fin 6) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  have i4 : (cfgA (F := F)).idle (4 : Fin 6) ((cfgA (F := F)).grid.coords t) = !(k0_cond3 (kw t) == 1#1) := (facts1 t).2.2.2.2.1
  have f4 : ((cfgA (F := F)).win (4 : Fin 6)).flush t = (k0_cond3 (kw t) == 1#1) := (facts1 t).2.2.2.2.2.1
  have i5 : (cfgA (F := F)).idle (5 : Fin 6) ((cfgA (F := F)).grid.coords t) = !(k0_cond3 (kw t) == 1#1) := (facts1 t).2.2.2.2.2.2.1
  have f5 : ((cfgA (F := F)).win (5 : Fin 6)).flush t = (k0_cond3 (kw t) == 1#1) := (facts1 t).2.2.2.2.2.2.2
  rewrite [i4, f4]
  try rewrite [i5]
  rewrite [f5]
  simp only [after_0, after_1, after_2, after_3, after_4, after_5]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  refine sound_list m c t _ ?_
  unfold PostOf
  by_cases c4 : k0_cond3 (kw t) = 1#1
  · rewrite [show (k0_cond3 (kw t) == 1#1) = true from beq_iff_eq.2 c4, if_pos c4, if_pos c4]
    exact .rfl
  · rewrite [show (k0_cond3 (kw t) == 1#1) = false from beq_eq_false_iff_ne.2 c4, if_neg c4, if_neg c4]
    exact .rfl

theorem body_obligation (c : Dev nD) : BodyObligation (dats m 0 c) (defs₀ (F := F)) Variants.none () Set.univ := fun t => by
  rw [bigSep_W0]
  exact sound_body m c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide, bigSep_insert (by decide), bigSep_singleton]
  rfl

theorem phi_in (c : Dev nD) : iprop(Pipeline.ΦA spec0 c ∗ Pipeline.ΦT pre0 (adm (F := F)).1 c) ⊢ (dats m 0 c).Φ 0 := by
  unfold Pipeline.ΦA Pipeline.ΦT
  rw [prefHeld_eq, scopedRest0_eq, show (dats m 0 c).Φ 0 = Phi m c 0 from rfl]
  unfold Phi
  simp only [owns_whole]
  iintro ⟨⟨⟨⟨%a0, S0⟩, ⟨%a1, S1⟩⟩, HP⟩, HT0, HT1⟩
  isplitl [S0 S1]
  · iexists (⟨a0, a1⟩ : Car F)
    isplitr; · ipureintro; intro h; exact absurd rfl h
    isplitl [S0]; · iexact S0
    iexact S1
  isplitl [HT0]; · iexact HT0
  isplitl [HT1]; · iexact HT1
  iexact HP

theorem phi_out (c : Dev nD) : (dats m 0 c).Φ (Fin.last (cfgA (F := F)).N) ⊢ Pipeline.ΦA spec0 c := by
  unfold Pipeline.ΦA
  rw [scopedRest0_eq, show (dats m 0 c).Φ (Fin.last (cfgA (F := F)).N) = Phi m c (Fin.last _) from rfl]
  unfold Phi
  simp only [owns_whole]
  iintro ⟨⟨%a, -, S0, S1⟩, -, -, HP⟩
  isplitl [S0 S1]
  · isplitl [S0]; · iexists _; iexact S0
    iexists _; iexact S1
  iexact HP

set_option backward.isDefEq.respectTransparency.types false in
set_option maxHeartbeats 4000000 in
/-- Every execution ends, with the arrays at what the recursion computes and the counters at zero. -/
theorem run_main : θ_run (defs (F := F)) (onTc (τ := τ) (main (F := F))) (s₀ m ρ)
    (fun r => Pipeline.FramePost (Pipeline.pin (pcfgs (F := F)) fun _ => adm) (dats m) 0 (V m) r ∧ r.2.sem = fun _ => 0) :=
  Pipeline.θ_run_frameP_track_shared pcfgs (fun _ => adm) (dats m) 0 launch₀0 defs₀ Variants.none m ρ main
    (hbody := fun c => (body_obligation m c).loose) (hq := fun _ _ _ => rfl) (howed := fun _ _ => rfl) (V := V m) (hmain := hmain m)
    (hA := fun _ _ => rfl) (hpf := V_pre m) (hin := phi_in m) (hout := phi_out m) (Q' := fun r => Pipeline.FramePost (Pipeline.pin (pcfgs (F := F)) fun _ => adm) (dats m) 0 (V m) r ∧ r.2.sem = fun _ => 0) (hQ' := fun _ h => h)

end Cert.Proof.StickFwd
end
-- ==== Proof.StickFwdBlocks.lean ====
/-
  The stick-breaking forward call: what each point reads, and the two results the region leaves.
-/
module

public import proofs.«01_k».proof.Proof.StickFwdStep
public import proofs.«01_k».proof.Proof.StickFwdFrame
public import proofs.«01_k».proof.Proof.StickBlocks
public import Idealize.ShloMosaic.Lib.StableHlo.RunRead

@[expose] public section

set_option maxRecDepth 16384
set_option Elab.async false

noncomputable section

namespace Cert.Proof.StickFwd

open Cert.StickFwdKernelIdeal Cert.StickFwdKernelIdeal.Gen
open Idealize.ShloMosaic Idealize.ShloMosaic.TcCoe Idealize.SL.Sem
open Finset (range Ico sum_congr)
open Cert.Proof.Stick (uM)

abbrev winA (w : Fin 6) := (cfgA (F := Ideal)).win w

/-- Where each window's block is at a point. -/
abbrev Idx (t : Fin grid0.N) : Prop :=
  (winA 0).index t = ![qN t, 24 + t.val / 36] ∧ (winA 1).index t = ![kN t, 32 + t.val / 36] ∧ (winA 2).index t = ![kN t, 40 + t.val / 36]
  ∧ (winA 3).index t = ![0, 0] ∧ (winA 4).index t = ![qN t, t.val / 36] ∧ (winA 5).index t = ![qN t, t.val / 36]

theorem idx : ∀ t : Fin grid0.N, Idx t := by decide +kernel

/-! ## The matrix of ones -/

theorem l0_2 (X : Valuation τ sig (Elt Ideal)) :
    StableHlo.after (hostOps0 (F := Ideal)) X (Proc.devRef .tc main_v2) = fun i : S128x128.Idx => (if (i 1 : ℕ) < (i 0 : ℕ) then 1#1 else 0#1) := by
  after_reads_simp
  funext i
  have i0 : (i 0 : ℕ) < 128 := (i 0).isLt
  have i1 : (i 1 : ℕ) < 128 := (i 1).isLt
  pointwise
  rw [WordCmp.cmpi_sgt_ofNat (by norm_num; omega) (by norm_num; omega)]
  by_cases h : (i 1 : ℕ) < i 0 <;> simp [h]

theorem l2_4 (X : Valuation τ sig (Elt Ideal)) (h2 : X main_v2 = fun i : S128x128.Idx => (if (i 1 : ℕ) < (i 0 : ℕ) then 1#1 else 0#1))
    (h3 : X main_cst = constant (F := Ideal) S_ .f32 0x3F800000#32) (h4 : X main_cst_1 = constant (F := Ideal) S_ .f32 0x00000000#32) :
    StableHlo.after (hostOps0_2 (F := Ideal)) (StableHlo.after (hostOps0_1 (F := Ideal)) X) (Proc.devRef .tc main_v4) = uM := by
  have e : StableHlo.after (hostOps0_2 (F := Ideal)) (StableHlo.after (hostOps0_1 (F := Ideal)) X) (Proc.devRef .tc main_v4)
      = truncf (F := Ideal) .bf16 (select (X main_v2) (broadcastInDim S128x128 ![] bcast_S_S128x128 (X main_cst)) (broadcastInDim S128x128 ![] bcast_S_S128x128 (X main_cst_1)) : FVec Ideal S128x128 .f32) bitsLt_bf16_f32 := by
    after_reads_simp; rfl
  rw [e, h2, h3, h4]
  funext i
  unfold uM
  pointwise
  by_cases h : (i 1 : ℕ) < i 0 <;> simp [h, Scalar.select]

/-- The matrix of ones the region reads. -/
theorem V_M (m : (ℓ : Loc nD τ sig) → Buf (Elt Ideal) ℓ) (c : Dev nD) : V m c main_v4 = uM := by
  show StableHlo.after (opss (F := Ideal)).flatten _ _ = _
  simp only [opss, List.flatten_cons, List.flatten_nil, List.append_nil, StableHlo.after_append]
  refine l2_4 _ (l0_2 _) ?_ ?_
  · after_reads_simp
  · after_reads_simp

/-- The projection as launched. -/
def eX (p : ℕ → ℕ → EReal) : S4096x12288.Idx → EReal := fun i => p (i 0) (i 1)
/-- Its heads. -/
def hd (p : ℕ → ℕ → EReal) (h : ℕ) : Hd where
  Q T d := p T (3072 + 128 * h + d)
  K T d := p T (4096 + 128 * h + d)
  V T d := p T (5120 + 128 * h + d)
/-- The heads' results side by side. -/
def eG (p : ℕ → ℕ → EReal) : S4096x1024.Idx → EReal := fun i => (hd p ((i 1 : ℕ) / 128)).o (i 0) ((i 1 : ℕ) % 128)

/-- Every array is such a one. -/
theorem eX_all (x : S4096x12288.Idx → EReal) : ∃ p, x = eX p :=
  ⟨fun r k => if hh : r < 4096 ∧ k < 12288 then x (ix2 ⟨r, hh.1⟩ ⟨k, hh.2⟩) else 0, funext fun i => by
    unfold eX
    dsimp only
    rw [dif_pos (⟨(i 0).isLt, (i 1).isLt⟩ : (i 0 : ℕ) < 4096 ∧ (i 1 : ℕ) < 12288)]
    exact congrArg x (funext fun a => match a with
      | ⟨0, _⟩ => rfl
      | ⟨1, _⟩ => rfl)⟩

section Ins
variable (m : (ℓ : Loc nD τ sig) → Buf (Elt Ideal) ℓ) (c : Dev nD) (p : ℕ → ℕ → EReal) (hp : m ((c : Thread nD τ).loc main_arg0) = eX p)
include hp

theorem ins_q (t : Fin grid0.N) : (ins m c t).q = eD (φ := .bf16) fun r d => (hd p (t.val / 36)).Q (512 * qN t + r) d := by
  funext y
  show (((cfgA (F := Ideal)).win (0 : Fin 6)).blk t).view.read (Elt Ideal) (V m c main_arg0) y = _
  rw [V_main_arg0, hp]
  unfold eX eD
  blk_simp [idx t]
  have y1 : (y 1 : ℕ) < 128 := (y 1).isLt
  have tt : t.val < 288 := t.isLt
  unfold hd
  dsimp only
  rw [show qN t * 512 + (y 0 : ℕ) = 512 * qN t + (y 0 : ℕ) by ring, show (24 + t.val / 36) * 128 + (y 1 : ℕ) = 3072 + 128 * (t.val / 36) + (y 1 : ℕ) by ring]

theorem ins_k (t : Fin grid0.N) : (ins m c t).k = eD (φ := .bf16) fun r d => (hd p (t.val / 36)).K (512 * kN t + r) d := by
  funext y
  show (((cfgA (F := Ideal)).win (1 : Fin 6)).blk t).view.read (Elt Ideal) (V m c main_arg0) y = _
  rw [V_main_arg0, hp]
  unfold eX eD
  blk_simp [idx t]
  have y1 : (y 1 : ℕ) < 128 := (y 1).isLt
  have tt : t.val < 288 := t.isLt
  unfold hd
  dsimp only
  rw [show kN t * 512 + (y 0 : ℕ) = 512 * kN t + (y 0 : ℕ) by ring, show (32 + t.val / 36) * 128 + (y 1 : ℕ) = 4096 + 128 * (t.val / 36) + (y 1 : ℕ) by ring]

theorem ins_v (t : Fin grid0.N) : (ins m c t).v = eD (φ := .bf16) fun r d => (hd p (t.val / 36)).V (512 * kN t + r) d := by
  funext y
  show (((cfgA (F := Ideal)).win (2 : Fin 6)).blk t).view.read (Elt Ideal) (V m c main_arg0) y = _
  rw [V_main_arg0, hp]
  unfold eX eD
  blk_simp [idx t]
  have y1 : (y 1 : ℕ) < 128 := (y 1).isLt
  have tt : t.val < 288 := t.isLt
  unfold hd
  dsimp only
  rw [show kN t * 512 + (y 0 : ℕ) = 512 * kN t + (y 0 : ℕ) by ring, show (40 + t.val / 36) * 128 + (y 1 : ℕ) = 5120 + 128 * (t.val / 36) + (y 1 : ℕ) by ring]

omit hp in
theorem ins_M (t : Fin grid0.N) : (ins m c t).M = uM := by
  funext y
  show (((cfgA (F := Ideal)).win (3 : Fin 6)).blk t).view.read (Elt Ideal) (V m c main_v4) y = _
  rw [V_M]
  unfold uM
  blk_simp [idx t]

/-- What each point reads. -/
theorem at_point (t : Fin grid0.N) : At (hd p (t.val / 36)) (qN t) (kN t) (ins m c t) :=
  ⟨ins_q m c p hp t, ins_k m c p hp t, ins_v m c p hp t, ins_M m c t⟩

end Ins

/-! ## The results the region leaves -/

theorem flush45 : ∀ t : Fin grid0.N, ((winA 4).flush t = true → kN t = 0) ∧ ((winA 5).flush t = true → kN t = 0) := by decide +kernel

section Final
variable (m : (ℓ : Loc nD τ sig) → Buf (Elt Ideal) ℓ) (c : Dev nD) (p : ℕ → ℕ → EReal) (hA : ∀ t : Fin grid0.N, At (hd p (t.val / 36)) (qN t) (kN t) (ins m c t))
include hA

theorem traj_at (t : Fin grid0.N) : traj m c t.val t.isLt = car (hd p (t.val / 36)) (qN t) (kN t) := traj_eq m c (hd p) hA t.val t.isLt

/-- What a head's last point holds, at one place. -/
theorem acc_at (t : Fin grid0.N) (hk : kN t = 0) (y0 y1 : ℕ) (h1 : y1 < 128) :
    ∑ S ∈ Ico (512 * kN t) 4096, (hd p (t.val / 36)).w (512 * qN t + y0) S * (hd p (t.val / 36)).V S y1
      = (hd p ((t.val / 36 * 128 + y1) / 128)).o (qN t * 512 + y0) ((t.val / 36 * 128 + y1) % 128) := by
  rw [hk, show (t.val / 36 * 128 + y1) / 128 = t.val / 36 by omega, show (t.val / 36 * 128 + y1) % 128 = y1 by omega,
    show qN t * 512 + y0 = 512 * qN t + y0 by ring, Nat.mul_zero, ← Finset.range_eq_Ico]
  rfl

theorem final_4 : (dats m 0 c).arrAt (4 : Fin 6) (cfgA (F := Ideal)).N = eG p := by
  refine (dats m 0 c).arrAt_eq_of_covers (4 : Fin 6) _ (by decide +kernel) fun t hf y => ?_
  unfold eG
  blk_simp
  rw [after_4]
  rw [show ((cfgA (F := Ideal)).win 4).index t = ![qN t, t.val / 36] from (idx t).2.2.2.2.1]
  refine Eq.trans (congrFun (congrArg (fun s => k0_pay6 (F := Ideal) s.acc) (traj_at m c p hA t)) y) ?_
  exact acc_at m c p hA t ((flush45 t).1 hf) (y 0) (y 1) (y 1).isLt

theorem final_5 : (dats m 0 c).arrAt (5 : Fin 6) (cfgA (F := Ideal)).N = eG p := by
  refine (dats m 0 c).arrAt_eq_of_covers (5 : Fin 6) _ (by decide +kernel) fun t hf y => ?_
  unfold eG
  blk_simp
  rw [after_5]
  rw [show ((cfgA (F := Ideal)).win 5).index t = ![qN t, t.val / 36] from (idx t).2.2.2.2.2]
  refine Eq.trans (congrFun (congrArg (fun s => s.acc) (traj_at m c p hA t)) y) ?_
  exact acc_at m c p hA t ((flush45 t).2 hf) (y 0) (y 1) (y 1).isLt

end Final

end Cert.Proof.StickFwd
end
-- ==== Proof.StickFwdRefValue.lean ====
/-
  The stick-breaking forward call: the reference, stage by stage, at any projection.
-/
module

public import proofs.«01_k».proof.Proof.StickRefValue
public import proofs.«01_k».proof.Proof.StickFwdBlocks
public import proofs.«01_k».proof.Proof.Gen.StickFwdRefIdeal.Read

@[expose] public section

set_option maxRecDepth 16384
set_option Elab.async false

noncomputable section

namespace Cert.Proof.StickFwd

open Cert.StickFwdRefIdeal Cert.StickFwdRefIdeal.Gen Cert.StickFwdRefIdeal.Read
open Idealize.ShloMosaic Idealize.ShloMosaic.TcCoe Idealize.SL.Sem
open Finset (range Ico sum_congr)
open Cert.Proof.Stick (A3 mk hostSp zeros3 zero0 bits_sc sc cum_later window_ideal)

/-! ## Stages over arrays of scores -/

/-- Numbers by head, row and key, and by head, row and lane. -/
def eH (Y : ℕ → ℕ → ℕ → EReal) : A3.Idx → EReal := fun i => Y (i 0) (i 1) (i 2)
def eL (Y : ℕ → ℕ → ℕ → EReal) : S8x4096x128.Idx → EReal := fun i => Y (i 0) (i 1) (i 2)

theorem eH_congr {Y Z : ℕ → ℕ → ℕ → EReal} (h : ∀ h T S, S < 4096 → Y h T S = Z h T S) : eH Y = eH Z :=
  funext fun i => h _ _ _ (i 2).isLt
theorem eH_neg (Y : ℕ → ℕ → ℕ → EReal) : Host.negf (F := Ideal) (φ := .f32) (eH Y) = eH fun h T S => -Y h T S := rfl
theorem eH_add (Y Z : ℕ → ℕ → ℕ → EReal) : addf (F := Ideal) (φ := .f32) (eH Y) (eH Z) = eH fun h T S => Y h T S + Z h T S := rfl
theorem eH_sub (Y Z : ℕ → ℕ → ℕ → EReal) : subf (F := Ideal) (φ := .f32) (eH Y) (eH Z) = eH fun h T S => Y h T S - Z h T S := rfl
theorem eH_exp (Y : ℕ → ℕ → ℕ → EReal) : Host.exp (F := Ideal) (φ := .f32) (eH Y) = eH fun h T S => Ideal.exp (Y h T S) := rfl
theorem eH_scale (Y : ℕ → ℕ → ℕ → EReal) :
    mulf (F := Ideal) (φ := .f32) (eH Y) (broadcastInDim S8x4096x4096 ![] bcast_S_S8x4096x4096 (constant S_ .f32 0x3DB504F3#32)) = eH fun h T S => Y h T S * (sc : ℝ) := by
  funext i; unfold eH; pointwise; rw [bits_sc]
theorem eH_sp (o : FVec Ideal A3 .f32) (ho : o = fun _ => (0 : EReal)) (Y : ℕ → ℕ → ℕ → EReal) : hostSp o (eH Y) = eH fun h T S => spl (Y h T S) := by
  subst ho
  unfold hostSp eH
  funext i
  pointwise
  rw [if_neg (by simp)]
  rfl
theorem eH_mask (Y : ℕ → ℕ → ℕ → EReal) : (select (broadcastInDim S8x4096x4096 ![1, 2] bcast_S4096x4096_S8x4096x4096_1_2 mk) (eH Y) (broadcastInDim S8x4096x4096 ![] bcast_S_S8x4096x4096 (constant S_ .f32 0x00000000#32)) : FVec Ideal A3 .f32)
    = eH fun h T S => if S < T then Y h T S else 0 := by
  funext i
  unfold eH mk
  pointwise
  by_cases h : (i 2 : ℕ) < i 1 <;> simp [h, Scalar.select]
theorem eH_later {u : Shape} (Y : ℕ → ℕ → ℕ → EReal) (o : u.Idx → EReal) (ho : o = fun _ => 0)
    (h : A3.ReduceWindows ![1, 1, 4096] ![1, 1, 1] ![0, 0, 0] ![0, 0, 4095] A3) (hu : 0 < u.numel) :
    Host.reduceWindowAdd (F := Ideal) (φ := .f32) (s := A3) (t := A3) (u := u) ![1, 1, 4096] ![1, 1, 1] ![0, 0, 0] ![0, 0, 4095] (eH Y) o h hu = eH fun h T S => ∑ U ∈ Ico S 4096, Y h T U := by
  subst ho
  funext i
  rw [window_ideal, cum_later Y (eH Y) rfl h i]
  rfl

section Ref
variable (p : ℕ → ℕ → EReal)

theorem r4 : val_main_v4 (F := Ideal) (eX p) = eL fun h => (hd p h).Q := by
  funext i
  unfold eL hd
  dsimp only
  pointwise [val_main_v4, val_main_v3, val_main_v2, val_main_v1, val_main_v0, eX]
  rw [show 3072 + ((i 0 : ℕ) * 128 + (i 2 : ℕ)) = 3072 + 128 * (i 0 : ℕ) + (i 2 : ℕ) by ring]
theorem r7 : val_main_v7 (F := Ideal) (eX p) = eL fun h => (hd p h).K := by
  funext i
  unfold eL hd
  dsimp only
  pointwise [val_main_v7, val_main_v6, val_main_v5, val_main_v1, val_main_v0, eX]
  rw [show 3072 + (1024 + ((i 0 : ℕ) * 128 + (i 2 : ℕ))) = 4096 + 128 * (i 0 : ℕ) + (i 2 : ℕ) by ring]
theorem r10 : val_main_v10 (F := Ideal) (eX p) = eL fun h => (hd p h).V := by
  funext i
  unfold eL hd
  dsimp only
  pointwise [val_main_v10, val_main_v9, val_main_v8, val_main_v1, val_main_v0, eX]
  rw [show 3072 + (2048 + ((i 0 : ℕ) * 128 + (i 2 : ℕ))) = 5120 + 128 * (i 0 : ℕ) + (i 2 : ℕ) by ring]
/-- The scores. -/
theorem r13 : val_main_v13 (F := Ideal) (eX p) = eH fun h => (hd p h).z := by
  have e : val_main_v11 (F := Ideal) (eX p) = eH fun h T S => ∑ d ∈ range 128, (hd p h).Q T d * (hd p h).K S d := by
    unfold val_main_v11
    rw [r4 p, r7 p]
    funext i
    unfold eH eL
    pointwise
    exact Fin.sum_univ_eq_sum_range (fun d => (hd p (i 0)).Q (i 1) d * (hd p (i 0)).K (i 2) d) 128
  unfold val_main_v13
  rw [e]
  exact eH_scale _
theorem r20 : val_main_v20 (F := Ideal) = mk := (show val_main_v20 (F := Ideal) = Cert.StickRefIdeal.Read.val_main_v20 (F := Ideal) from rfl).trans Cert.Proof.Stick.r20
theorem rsp : val_main_call0_v1 (F := Ideal) (eX p) = eH fun h T S => spl ((hd p h).z T S) := by
  show hostSp _ (val_main_call0_v0 (F := Ideal) (eX p)) = _
  unfold val_main_call0_v0 val_main_v21
  rw [r13 p, eH_neg, eH_neg, eH_sp _ (by exact zeros3)]
  simp only [neg_neg]
/-- The sticks' logarithms. -/
theorem r23 : val_main_v23 (F := Ideal) (eX p) = eH fun h => (hd p h).gm := by
  unfold val_main_v23 val_main_v22 val_main_call1_v1
  rw [rsp p, eH_neg, r20]
  exact eH_mask _
theorem r25 : val_main_v25 (F := Ideal) (eX p) = eH fun h T S => ∑ U ∈ Ico S 4096, (hd p h).gm T U - (hd p h).gm T S := by
  unfold val_main_v25 val_main_v24
  rw [r23 p, eH_later _ _ (by exact zero0), eH_sub]
theorem r28 : val_main_v28 (F := Ideal) (eX p) = eH fun h T S => Ideal.exp (-spl (-(hd p h).z T S) + (∑ U ∈ Ico S 4096, (hd p h).gm T U - (hd p h).gm T S)) := by
  have e : val_main_call3_v1 (F := Ideal) (eX p) = eH fun h T S => spl (-(hd p h).z T S) := by
    show hostSp _ (val_main_call3_v0 (F := Ideal) (eX p)) = _
    unfold val_main_call3_v0
    rw [r13 p, eH_neg, eH_sp _ (by exact zeros3)]
  unfold val_main_v28 val_main_v27 val_main_v26
  rw [e, r25 p, eH_neg, eH_add, eH_exp]
/-- The weights. -/
theorem r29 : val_main_v29 (F := Ideal) (eX p) = eH fun h => (hd p h).w := by
  unfold val_main_v29 val_main_call4_v1
  rw [r28 p, r20]
  refine (eH_mask _).trans (eH_congr fun h T S hS => ?_)
  unfold Hd.w
  by_cases hh : S < T
  · rw [if_pos hh, if_pos hh, Finset.sum_eq_sum_Ico_succ_bot hS]
    have e : (hd p h).gm T S = -spl ((hd p h).z T S) := if_pos hh
    rw [e]
    exact wt_host _ ((hd p h).gm_sum T _)
  · rw [if_neg hh, if_neg hh]
/-- The outputs per head. -/
theorem r30 : val_main_v30 (F := Ideal) (eX p) = eL fun h => (hd p h).o := by
  unfold val_main_v30
  rw [r29 p, r10 p]
  funext i
  unfold eH eL
  pointwise
  exact Fin.sum_univ_eq_sum_range (fun S => (hd p (i 0)).w (i 1) S * (hd p (i 0)).V S (i 2)) 4096

/-- The reference's results at rounding free scalars. -/
theorem ref_o : val_main_v32 (F := Ideal) (eX p) = eG p := by
  funext i
  unfold val_main_v32 val_main_v31
  rw [r30 p]
  unfold eL eG
  pointwise
theorem ref_o16 : val_main_v33 (F := Ideal) (eX p) = eG p := by
  unfold val_main_v33
  rw [ref_o p]
  rfl

end Ref

end Cert.Proof.StickFwd
end
-- ==== Proof.StickFwdValue.lean ====
/-
  The stick-breaking forward call's claims: frames, the named constants, and the two results as the reference's.
-/
module

public import proofs.«01_k».proof.Proof.StickFwdBlocks
public import proofs.«01_k».proof.Proof.StickFwdRefValue
public import proofs.«01_k».proof.Proof.StickValue
public import proofs.«01_k».proof.Proof.Gen.StickFwdKernel
public import proofs.«01_k».proof.Proof.Gen.StickFwdRefIdeal.Run
public import proofs.«01_k».proof.Defs
public import Idealize.ShloMosaic.Lib.Claim

@[expose] public section

set_option maxRecDepth 16384
set_option Elab.async false

noncomputable section

namespace Cert.Proof.StickFwd

open Idealize.ShloMosaic Idealize.ShloMosaic.TcCoe Idealize.ShloMosaic.Tactic Idealize.SL.Sem
open Finset (range Ico sum_congr)

section Frames
open Cert.StickFwdKernelIdeal Cert.StickFwdKernelIdeal.Gen

variable {F : FTy → Type} [FloatOps F] [Named F]

/-- The frame, over any scalars: what is read stays, the counters end at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 (0 : Fin 6)).trans (((dats m 0 c).arrAt_in (0 : Fin 6) rfl _).trans (V_main_arg0 m c)), h.2⟩) (run_main m ρ)

set_option maxHeartbeats 4000000 in
/-- The two results after the run, over any scalars. -/
theorem run_blocks (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v5_0) = (dats m 0 c).arrAt (4 : Fin 6) (cfgA (F := F)).N
      ∧ r.2.mem ((c.tc : Thread nD τ).loc main_v5_1) = (dats m 0 c).arrAt (5 : Fin 6) (cfgA (F := F)).N
      ∧ r.2.mem ((c.tc : Thread nD τ).loc main_arg0) = m ((c.tc : Thread nD τ).loc main_arg0)) :=
  (θ_run defs _ _).mono (fun r h => fun c => ⟨(h.1 c).1 (4 : Fin 6), (h.1 c).1 (5 : Fin 6),
    ((h.1 c).1 (0 : Fin 6)).trans (((dats m 0 c).arrAt_in (0 : Fin 6) rfl _).trans (V_main_arg0 m c))⟩) (run_main m ρ)

end Frames

/-- At the machine's scalars a named constant is its word. -/
@[reducible] def namedBits : Named Bits := ⟨fun _ _ φ bits => FloatOps.ofBits φ bits⟩

theorem frame_bits : Cert.quiescent_StickFwdKernel := fun m g _ =>
  cast (by sl_kernel_rfl) (@frame_any Bits _ namedBits m g)

theorem frame_ideal : Cert.quiescent_StickFwdKernelIdeal := fun m g _ => frame_any m g

theorem preserves : Cert.preserves_StickFwdKernel_StickFwdKernelIdeal :=
  ⟨IdealRules.named_const.statement _ _ _ _ _ rfl, IdealRules.named_const.statement _ _ _ _ _ rfl⟩

theorem frame_ref : Cert.quiescent_StickFwdRefIdeal := fun m g _ =>
  (θ_run Cert.StickFwdRefIdeal.defs _ _).mono (fun r h => ⟨fun c => (h c).2.2, sem_eq_zero_of_no_sems (by decide) r.2⟩) (Cert.StickFwdRefIdeal.Value.run (F := Ideal) m g)

open Cert.StickFwdKernelIdeal Cert.StickFwdKernelIdeal.Gen Cert.StickFwdRefIdeal.Read in
/-- The reference's two results at the kernel's argument. -/
theorem outs (m : (ℓ : Loc nD τ sig) → Buf (Elt Ideal) ℓ) (c : Dev nD) :
    val_main_v33 (F := Ideal) (m ((c.tc : Thread nD τ).loc main_arg0)) = (dats m 0 c).arrAt (4 : Fin 6) (cfgA (F := Ideal)).N
    ∧ val_main_v32 (F := Ideal) (m ((c.tc : Thread nD τ).loc main_arg0)) = (dats m 0 c).arrAt (5 : Fin 6) (cfgA (F := Ideal)).N := by
  obtain ⟨p, hp⟩ := eX_all (m ((c.tc : Thread nD τ).loc main_arg0))
  have hA := at_point m c p hp
  rw [final_4 m c p hA, final_5 m c p hA, hp]
  exact ⟨ref_o16 p, ref_o p⟩

theorem algebraic : Cert.algebraic_StickFwdKernelIdeal_StickFwdRefIdeal := by
  pair_intro
  · run_from run_blocks m g
  · run_from Cert.StickFwdRefIdeal.Value.run m' g'
    · rw [Cert.StickFwdRefIdeal.Read.val_main_v33_eq m' c, hagree c]
      exact (outs m c).1
    · rw [Cert.StickFwdRefIdeal.Read.val_main_v32_eq m' c, hagree c]
      exact (outs m c).2

end Cert.Proof.StickFwd
end
-- ==== Proof.ActFwdPair.lean ====
/-
  The forward call of the squared relu: relu of the first product, and its transpose.
-/
module

public import proofs.«01_k».proof.Defs
public import proofs.«01_k».proof.Proof.Gen.ActFwdKernelIdeal.Value
public import proofs.«01_k».proof.Proof.Gen.ActFwdRefIdeal.Run
public import proofs.«01_k».proof.Proof.Gen.ActFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActFwdKernelIdeal.Value

open Cert.ActFwdKernelIdeal Cert.ActFwdKernelIdeal.Gen

variable (m : (ℓ : Loc nD τ sig) → Buf (Elt Ideal) ℓ)

theorem idx : ∀ t : Fin cfg0.N, win0_0.index t = ![t.val / 8, 0] ∧ win0_1.index t = ![0, t.val % 8, 0, 0] ∧ win0_2.index t = ![t.val / 8, t.val % 8]
    ∧ win0_3.index t = ![t.val % 8, t.val / 8] :=
  (by decide +kernel : ∀ t : Fin grid0.N, _)

/-- The product in front of the relu. -/
def pre (x0 : Vec Ideal S4096x2048 .bf16) (x1 : Vec Ideal S2048x8192 .bf16) (r : Fin 4096) (k : Fin 8192) : EReal :=
  ∑ n : Fin 2048, x0 (ix2 r n) * x1 (ix2 n k)

/-- The relu's rows. -/
def R (x0 : Vec Ideal S4096x2048 .bf16) (x1 : Vec Ideal S2048x8192 .bf16) : Vec Ideal S4096x8192 .bf16 := fun j => max (pre x0 x1 (j 0) (j 1)) 0

/-- The relu's rows, transposed. -/
def RT (x0 : Vec Ideal S4096x2048 .bf16) (x1 : Vec Ideal S2048x8192 .bf16) : Vec Ideal S8192x4096 .bf16 := fun j => max (pre x0 x1 (j 1) (j 0)) 0

/-- The weights as the chips hold them: eight blocks of columns, one behind the other. -/
theorem weights (c : Dev nD) (b : Fin 8) (n : Fin 2048) (l : Fin 1024) (k : Fin 8192) (hk : (k : ℕ) = b.val * 1024 + l.val) :
    (V m c main_v2 : Vec Ideal S1x8x2048x1024 .bf16) (ix4 0 b n l) = ((m ((c : Thread nD τ).loc main_arg1)) : Vec Ideal S2048x8192 .bf16) (ix2 n k) := by
  have e : (V m c main_v2 : Vec Ideal S1x8x2048x1024 .bf16) = broadcastInDim S1x8x2048x1024 ![1, 2, 3] bcast_S8x2048x1024_S1x8x2048x1024_1_2_3
      (transpose S8x2048x1024 [1, 0, 2] (shapeCast S2048x8x1024 ((m ((c : Thread nD τ).loc main_arg1)) : Vec Ideal S2048x8192 .bf16) shapeCasts_S2048x8192_S2048x8x1024) transposes_S2048x8x1024_S8x2048x1024_1_0_2) := by
    unfold_abbrev_sides
    after_results
    rfl
  rw [e]
  rw [show k = (⟨b.val * 1024 + l.val, by have := b.isLt; have := l.isLt; omega⟩ : Fin 8192) from Fin.ext hk]
  pointwise

theorem point (c : Dev nD) (t : Fin cfg0.N) (y0 y1 : Fin 1024) (r : Fin 4096) (k : Fin 8192) (g0 : (r : ℕ) = t.val / 8 * 1024 + y0.val) (g1 : (k : ℕ) = t.val % 8 * 1024 + y1.val) :
    k0_pay1 (F := Ideal) (iblk m c 0 t) (iblk m c 1 t) (ix2 y0 y1) = max (pre (m ((c : Thread nD τ).loc main_arg0)) (m ((c : Thread nD τ).loc main_arg1)) r k) 0 := by
  have u (n : Fin 2048) : (iblk m c 0 t : Vec Ideal S1024x2048 .bf16) (ix2 y0 n) = ((m ((c : Thread nD τ).loc main_arg0)) : Vec Ideal S4096x2048 .bf16) (ix2 r n) := by
    blk_point [iblk, V, idx t]
  have w (n : Fin 2048) : (iblk m c 1 t : Vec Ideal S1x1x2048x1024 .bf16) (ix4 0 0 n y1) = ((m ((c : Thread nD τ).loc main_arg1)) : Vec Ideal S2048x8192 .bf16) (ix2 n k) := by
    refine Eq.trans ?_ (weights m c ⟨t.val % 8, by omega⟩ n y1 k g1)
    blk_point [iblk, idx t]
  unfold pre
  simp only [← u, ← w]
  pointwise [k0_pay1]

theorem final2 (c : Dev nD) : (dats m 0 c).arrAt 2 cfg0.N = R (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold R
  refine Eq.trans ?_ (point m c t (y 0) (y 1) _ _ ?_ ?_)
  · obtain ⟨a, b, rfl⟩ : ∃ (a b : Fin 1024), y = ix2 a b := ⟨y 0, y 1, by funext a; fin_cases a <;> rfl⟩
    pointwise [k0_pay2]
  · blk_simp [idx t]
  · blk_simp [idx t]

theorem final3 (c : Dev nD) : (dats m 0 c).arrAt 3 cfg0.N = RT (m ((c : Thread nD τ).loc main_arg0)) (m ((c : Thread nD τ).loc main_arg1)) := by
  refine (dats m 0 c).arrAt_eq_of_covers 3 _ (by decide +kernel) fun t hf y => ?_
  blk_simp
  rw [after0_3]
  frame_out
  unfold RT
  refine Eq.trans ?_ (point m c t (y 1) (y 0) _ _ ?_ ?_)
  · obtain ⟨a, b, rfl⟩ : ∃ (a b : Fin 1024), y = ix2 a b := ⟨y 0, y 1, by funext a; fin_cases a <;> rfl⟩
    pointwise [k0_pay3]
  · blk_simp [idx t]
  · blk_simp [idx t]

end Cert.ActFwdKernelIdeal.Value

namespace Cert.ActFwdRefIdeal.Value

open Cert.ActFwdRefIdeal Cert.ActFwdRefIdeal.Read
open Cert.ActFwdKernelIdeal.Value (pre R RT)

variable (x0 : Vec Ideal S4096x2048 .bf16) (x1 : Vec Ideal S2048x8192 .bf16)

theorem r4 : val_main_v4 (F := Ideal) x0 x1 = R x0 x1 := by
  funext j
  obtain ⟨r, k, rfl⟩ : ∃ (r : Fin 4096) (k : Fin 8192), j = ix2 r k := ⟨j 0, j 1, by funext a; fin_cases a <;> rfl⟩
  pointwise [val_main_v4, val_main_v3, val_main_v2, val_main_v0, val_main_v1, val_main_call0_v0, val_main_call0_cst, R, pre]

theorem r5 : val_main_v5 (F := Ideal) x0 x1 = RT x0 x1 := by
  funext j
  obtain ⟨k, r, rfl⟩ : ∃ (k : Fin 8192) (r : Fin 4096), j = ix2 k r := ⟨j 0, j 1, by funext a; fin_cases a <;> rfl⟩
  unfold val_main_v5
  rw [r4]
  pointwise [R, RT]

end Cert.ActFwdRefIdeal.Value

namespace Cert.Proof.ActFwd

theorem algebraic : Cert.algebraic_ActFwdKernelIdeal_ActFwdRefIdeal := by
  pair_intro
  · run_from Cert.ActFwdKernelIdeal.Value.run_blocks m g
  · run_from Cert.ActFwdRefIdeal.Value.run m' g'
    · rw [Cert.ActFwdKernelIdeal.Value.final2 m c]
      exact (Cert.ActFwdRefIdeal.Read.val_main_v4_eq _ _).trans (Cert.ActFwdRefIdeal.Value.r4 _ _)
    · rw [Cert.ActFwdKernelIdeal.Value.final3 m c]
      exact (Cert.ActFwdRefIdeal.Read.val_main_v5_eq _ _).trans (Cert.ActFwdRefIdeal.Value.r5 _ _)

theorem frame_ref : Cert.quiescent_ActFwdRefIdeal := fun m g _ =>
  (θ_run Cert.ActFwdRefIdeal.defs _ _).mono (fun r h => ⟨fun c => (h c).2.2, sem_eq_zero_of_no_sems (by decide) r.2⟩)
    (Cert.ActFwdRefIdeal.Value.run (F := Ideal) m g)

end Cert.Proof.ActFwd

end
-- ==== Proof.MlpFwdPair.lean ====
/-
  The forward call behind the relu: square, second product, residual.
-/
module

public import proofs.«01_k».proof.Defs
public import proofs.«01_k».proof.Proof.Gen.MlpFwdKernelIdeal.Value
public import proofs.«01_k».proof.Proof.Gen.MlpFwdRefIdeal.Run
public import proofs.«01_k».proof.Proof.Gen.MlpFwdRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpFwdKernelIdeal.Value

open Cert.MlpFwdKernelIdeal Cert.MlpFwdKernelIdeal.Gen

variable (m : (ℓ : Loc nD τ sig) → Buf (Elt Ideal) ℓ)

theorem idx : ∀ t : Fin cfg0.N, win0_0.index t = ![t.val / 16, t.val % 4] ∧ win0_1.index t = ![0, t.val % 4, t.val / 4 % 4] ∧ win0_2.index t = ![t.val / 16, t.val / 4 % 4]
    ∧ win0_3.index t = ![t.val / 16, t.val / 4 % 4] :=
  (by decide +kernel : ∀ t : Fin grid0.N, _)

/-- The product in front of the relu. -/
def pre (x0 : Vec Ideal S4096x2048 .bf16) (x1 : Vec Ideal S2048x8192 .bf16) (r : Fin 4096) (k : Fin 8192) : EReal :=
  ∑ n : Fin 2048, x0 (ix2 r n) * x1 (ix2 n k)

/-- The summand of the second product at hidden lane `k`. -/
def part (x0 : Vec Ideal S4096x2048 .bf16) (x1 : Vec Ideal S2048x8192 .bf16) (x2 : Vec Ideal S8192x2048 .bf16) (r : Fin 4096) (d : Fin 2048) (k : Fin 8192) : EReal :=
  max (pre x0 x1 r k) 0 * max (pre x0 x1 r k) 0 * x2 (ix2 k d)

/-- The residual rows behind the second product. -/
def Y (x0 : Vec Ideal S4096x2048 .bf16) (x1 : Vec Ideal S2048x8192 .bf16) (x2 : Vec Ideal S8192x2048 .bf16) (x3 : Vec Ideal S4096x2048 .f32) : Vec Ideal S4096x2048 .f32 := fun j =>
  x3 j + ∑ k : Fin 8192, part x0 x1 x2 (j 0) (j 1) k

/-- The relu's rows, made on the host. -/
theorem rows (c : Dev nD) (r : Fin 4096) (k : Fin 8192) : (V m c main_v4 : Vec Ideal S4096x8192 .bf16) (ix2 r k) = max (pre (m ((c : Thread nD τ).loc main_arg0)) (m ((c : Thread nD τ).loc main_arg1)) r k) 0 := by
  have e : (V m c main_v4 : Vec Ideal S4096x8192 .bf16) = truncf (F := Ideal) .bf16 (Cert.MlpFwdRefIdeal.Read.val_main_v3 (F := Ideal) (m ((c : Thread nD τ).loc main_arg0)) (m ((c : Thread nD τ).loc main_arg1))) bitsLt_bf16_f32 := by
    unfold_abbrev_sides
    after_results
    rfl
  rw [e]
  pointwise [Cert.MlpFwdRefIdeal.Read.val_main_v3, Cert.MlpFwdRefIdeal.Read.val_main_v2, Cert.MlpFwdRefIdeal.Read.val_main_v0, Cert.MlpFwdRefIdeal.Read.val_main_v1, Cert.MlpFwdRefIdeal.Read.val_main_call0_v0, Cert.MlpFwdRefIdeal.Read.val_main_call0_cst, pre]

/-- The weights, given their unit axis on the host. -/
theorem weights (c : Dev nD) (k : Fin 8192) (d : Fin 2048) : (V m c main_v5 : Vec Ideal S1x8192x2048 .bf16) (ix3 0 k d) = ((m ((c : Thread nD τ).loc main_arg2)) : Vec Ideal S8192x2048 .bf16) (ix2 k d) := by
  have e : (V m c main_v5 : Vec Ideal S1x8192x2048 .bf16) = broadcastInDim S1x8192x2048 ![1, 2] bcast_S8192x2048_S1x8192x2048_1_2 ((m ((c : Thread nD τ).loc main_arg2)) : Vec Ideal S8192x2048 .bf16) := by
    unfold_abbrev_sides
    after_results
    rfl
  rw [e]
  pointwise

theorem zero (j : S1024x512.Idx) : k0_pay1 (F := Ideal) j = 0 := by
  pointwise [k0_pay1]

theorem pay2 (a : Vec Ideal S1024x512 .f32) (x : Vec Ideal S1024x2048 .bf16) (y : Vec Ideal S1x2048x512 .bf16) (j : S1024x512.Idx) : k0_pay2 (F := Ideal) a x y j
    = a j + ∑ r : Fin 2048, x (ix2 (j 0) r) * x (ix2 (j 0) r) * y (ix3 0 r (j 1)) := by
  pointwise [k0_pay2]

/-- What a point adds to the sum it carries. -/
def term (c : Dev nD) (n : ℕ) (h : n < cfg0.N) (y : S1024x512.Idx) : EReal :=
  have x : Vec Ideal S1024x2048 .bf16 := iblk m c 0 ⟨n, h⟩
  have z : Vec Ideal S1x2048x512 .bf16 := iblk m c 1 ⟨n, h⟩
  ∑ r : Fin 2048, x (ix2 (y 0) r) * x (ix2 (y 0) r) * z (ix3 0 r (y 1))

theorem reset (c : Dev nD) (t : Fin cfg0.N) (h : t.val % 4 = 0) (y : S1024x512.Idx) : (outsAt0 m c t.val t.isLt).2 y = 0 + term m c t.val t.isLt y := by
  rw [outsAt0_A m c t h (by omega)]; dsimp only; frame_out; rw [pay2, zero]; rfl

theorem step (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + term m c t.val t.isLt y := by
  by_cases h1 : t.val % 4 = 3
  · rw [outsAt0_C m c t h h1]; dsimp only; frame_out; rw [pay2, (Memref.isWhole_whole _).read_unread]; rfl
  · rw [outsAt0_B m c t h h1]; dsimp only; frame_out; rw [pay2, (Memref.isWhole_whole _).read_unread]; rfl

theorem term_at (c : Dev nD) (t : Fin cfg0.N) (y : S1024x512.Idx) (r : Fin 4096) (d : Fin 2048) (s : Fin 4) (hs : t.val % 4 = s.val)
    (hr : (r : ℕ) = t.val / 16 * 1024 + (y 0).val) (hd : (d : ℕ) = t.val / 4 % 4 * 512 + (y 1).val) :
    term m c t.val t.isLt y = ∑ k : Fin 2048, part (m ((c : Thread nD τ).loc main_arg0)) (m ((c : Thread nD τ).loc main_arg1)) (m ((c : Thread nD τ).loc main_arg2)) r d ⟨s.val * 2048 + k.val, by omega⟩ := by
  unfold term part
  refine congrArg (Finset.sum (M := EReal) (Finset.univ : Finset (Fin 2048))) (funext fun k : Fin 2048 => ?_)
  have e : (iblk m c 0 t : Vec Ideal S1024x2048 .bf16) (ix2 (y 0) k) = max (pre (m ((c : Thread nD τ).loc main_arg0)) (m ((c : Thread nD τ).loc main_arg1)) r ⟨s.val * 2048 + k.val, by omega⟩) 0 := by
    refine Eq.trans ?_ (rows m c r ⟨s.val * 2048 + k.val, by omega⟩)
    blk_point [iblk, idx t]
  have w : (iblk m c 1 t : Vec Ideal S1x2048x512 .bf16) (ix3 0 k (y 1)) = ((m ((c : Thread nD τ).loc main_arg2)) : Vec Ideal S8192x2048 .bf16) (ix2 ⟨s.val * 2048 + k.val, by omega⟩ d) := by
    refine Eq.trans ?_ (weights m c ⟨s.val * 2048 + k.val, by omega⟩ d)
    blk_point [iblk, idx t]
  exact congrArg₂ (fun a b : EReal => a * a * b) e w

theorem out_eq (c : Dev nD) (t : Fin cfg0.N) (h : t.val % 4 = 3) (y : S1024x512.Idx) :
    (outsAt0 m c t.val t.isLt).1 y = (outsAt0 m c t.val t.isLt).2 y + (iblk m c 2 t : Vec Ideal S1024x512 .f32) y := by
  rw [outsAt0_C m c t (by omega) h]; dsimp only; frame_out; rfl

theorem last (c : Dev nD) (t : Fin cfg0.N) (h : t.val % 4 = 3) (y : S1024x512.Idx) (j : S4096x2048.Idx)
    (h0 : (j 0 : ℕ) = t.val / 16 * 1024 + y 0) (h1 : (j 1 : ℕ) = t.val / 4 % 4 * 512 + y 1) :
    (outsAt0 m c t.val t.isLt).1 y = Y (m ((c : Thread nD τ).loc main_arg0)) (m ((c : Thread nD τ).loc main_arg1)) (m ((c : Thread nD τ).loc main_arg2)) (m ((c : Thread nD τ).loc main_arg3)) j := by
  obtain ⟨r, d, rfl⟩ : ∃ (r : Fin 4096) (d : Fin 2048), j = ix2 r d := ⟨j 0, j 1, by funext a; fin_cases a <;> rfl⟩
  have g0 : (r : ℕ) = t.val / 16 * 1024 + (y 0).val := h0
  have g1 : (d : ℕ) = t.val / 4 % 4 * 512 + (y 1).val := h1
  have R := Pipeline.eq_sum_fin_of_reset_step_apply_of_flush (N := cfg0.N) (M := EReal)
    (fun n hn => fun i : S1024x512.Idx => (outsAt0 m c n hn).2 i) 4 (fun _ => 0) (fun t i => term m c t.val t.isLt i)
    (fun t h i => reset m c t h i) (fun t h i => step m c t h i) t h y
  have e : (iblk m c 2 t : Vec Ideal S1024x512 .f32) y = ((m ((c : Thread nD τ).loc main_arg3)) : Vec Ideal S4096x2048 .f32) (ix2 r d) := by
    blk_point [iblk, V, idx t]
  refine (out_eq m c t h y).trans ((add_comm _ _).trans (congrArg₂ (fun a b : EReal => a + b) e (R.trans ((zero_add _).trans ?_))))
  refine Eq.trans ?_ (Fin.sum_mul_add_fin (M := EReal) 4 2048 (part (m ((c : Thread nD τ).loc main_arg0)) (m ((c : Thread nD τ).loc main_arg1)) (m ((c : Thread nD τ).loc main_arg2)) r d) rfl)
  refine congrArg (Finset.sum (M := EReal) (Finset.univ : Finset (Fin 4))) (funext fun s : Fin 4 => ?_)
  have hs : s.val < 4 := s.isLt
  exact term_at m c ⟨4 * (t.val / 4) + s.val, _⟩ y r d s (by show (4 * (t.val / 4) + s.val) % 4 = s.val; omega)
    (by show r.val = (4 * (t.val / 4) + s.val) / 16 * 1024 + (y 0).val; omega) (by show d.val = (4 * (t.val / 4) + s.val) / 4 % 4 * 512 + (y 1).val; omega)

theorem final (c : Dev nD) : (dats m 0 c).arrAt 3 cfg0.N = Y (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  refine last m c t ((flush0_3 t).mp hf) y _ ?_ ?_ <;> blk_simp [idx t]

end Cert.MlpFwdKernelIdeal.Value

namespace Cert.MlpFwdRefIdeal.Value

open Cert.MlpFwdRefIdeal Cert.MlpFwdRefIdeal.Read
open Cert.MlpFwdKernelIdeal.Value (pre part Y)

variable (x0 : Vec Ideal S4096x2048 .bf16) (x1 : Vec Ideal S2048x8192 .bf16) (x2 : Vec Ideal S8192x2048 .bf16) (x3 : Vec Ideal S4096x2048 .f32)

theorem s2 (r : Fin 4096) (k : Fin 8192) : val_main_v2 (F := Ideal) x0 x1 (ix2 r k) = pre x0 x1 r k := by
  pointwise [val_main_v2, val_main_v0, val_main_v1, pre]

theorem r7 : val_main_v7 (F := Ideal) x0 x1 x2 x3 = Y x0 x1 x2 x3 := by
  funext j
  obtain ⟨r, d, rfl⟩ : ∃ (r : Fin 4096) (d : Fin 2048), j = ix2 r d := ⟨j 0, j 1, by funext a; fin_cases a <;> rfl⟩
  unfold Y part
  pointwise [val_main_v7, val_main_v6, val_main_v5, val_main_v4, val_main_v3, val_main_call0_v0, val_main_call0_cst]
  simp only [s2]

end Cert.MlpFwdRefIdeal.Value

namespace Cert.Proof.MlpFwd

theorem algebraic : Cert.algebraic_MlpFwdKernelIdeal_MlpFwdRefIdeal := by
  pair_intro
  · run_from Cert.MlpFwdKernelIdeal.Value.run_blocks m g
  · run_from Cert.MlpFwdRefIdeal.Value.run m' g'
    · rw [Cert.MlpFwdKernelIdeal.Value.final m c]
      exact (Cert.MlpFwdRefIdeal.Read.val_main_v7_eq _ _ _ _).trans (Cert.MlpFwdRefIdeal.Value.r7 _ _ _ _)

theorem frame_ref : Cert.quiescent_MlpFwdRefIdeal := fun m g _ =>
  (θ_run Cert.MlpFwdRefIdeal.defs _ _).mono (fun r h => ⟨fun c => (h c).2, sem_eq_zero_of_no_sems (by decide) r.2⟩)
    (Cert.MlpFwdRefIdeal.Value.run (F := Ideal) m g)

end Cert.Proof.MlpFwd

end
-- ==== Proof.WinPair.lean ====
/- The plain gradient of the input product's weights, the columns dealt out to the eight devices. -/
module

public import proofs.«01_k».proof.Defs
public import proofs.«01_k».proof.Proof.Gen.WinKernelIdeal.Value
public import proofs.«01_k».proof.Proof.Gen.WinRefIdeal.Run
public import proofs.«01_k».proof.Proof.Gen.WinRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WinKernelIdeal.Value

open Cert.WinKernelIdeal Cert.WinKernelIdeal.Gen

variable (m : (ℓ : Loc nD τ sig) → Buf (Elt Ideal) ℓ)

theorem idx : ∀ t : Fin cfg0.N, win0_0.index t = ![t.val / 64, t.val % 4] ∧ win0_1.index t = ![t.val % 4, t.val / 4 % 16]
    ∧ win0_2.index t = ![t.val / 4 % 16 / 2, t.val / 64, t.val / 4 % 16 % 2] :=
  (by decide +kernel : ∀ t : Fin grid0.N, _)

/-- The summand at row `R` for input lane `k` and column `d` of the weights. -/
def part (x0 : Vec Ideal S4096x2048 .bf16) (x2 : Vec Ideal S4096x12288 .bf16) (k : Fin 2048) (d : Fin 12288) (R : Fin 4096) : EReal :=
  x0 (ix2 R k) * x2 (ix2 R d)

/-- The column of the weights that lies at lane `e` of device `n`. -/
def col (n : Fin 8) (e : Fin 1536) : Fin 12288 := ⟨n.val * 1536 + e.val, by omega⟩

/-- The gradient of the weights. -/
def DW (x0 : Vec Ideal S4096x2048 .bf16) (x2 : Vec Ideal S4096x12288 .bf16) : Vec Ideal S8x2048x1536 .bf16 := fun j =>
  ∑ R : Fin 4096, part x0 x2 (j 1) (col (j 0) (j 2)) R

/-- The rows, transposed, made on the host. -/
theorem rows (c : Dev nD) (r : Fin 4096) (k : Fin 2048) : (V m c main_v0 : Vec Ideal S2048x4096 .bf16) (ix2 k r) = (m ((c : Thread nD τ).loc main_arg0) : Vec Ideal S4096x2048 .bf16) (ix2 r k) := by
  have e : (V m c main_v0 : Vec Ideal S2048x4096 .bf16) = transpose S2048x4096 [1, 0] (m ((c : Thread nD τ).loc main_arg0) : Vec Ideal S4096x2048 .bf16) transposes_S4096x2048_S2048x4096_1_0 := by
    unfold_abbrev_sides
    after_results
  rw [e]
  pointwise []

theorem zero (j : S1024x768.Idx) : k0_pay1 (F := Ideal) j = 0 := by
  pointwise [k0_pay1]

theorem pay2 (a : Vec Ideal S1024x768 .f32) (x : Vec Ideal S1024x1024 .bf16) (y : Vec Ideal S1024x768 .bf16) (j : S1024x768.Idx) : k0_pay2 (F := Ideal) a x y j
    = a j + ∑ r : Fin 1024, x (ix2 (j 0) r) * y (ix2 r (j 1)) := by
  pointwise [k0_pay2]

theorem pay3 (a : Vec Ideal S1024x768 .f32) (j : S1x1024x768.Idx) : k0_pay3 (F := Ideal) a j = a (ix2 (j 1) (j 2)) := by
  pointwise [k0_pay3]

/-- What a point adds to the sum it carries. -/
def term (c : Dev nD) (n : ℕ) (h : n < cfg0.N) (y : S1024x768.Idx) : EReal :=
  have x : Vec Ideal S1024x1024 .bf16 := iblk m c 0 ⟨n, h⟩
  have z : Vec Ideal S1024x768 .bf16 := iblk m c 1 ⟨n, h⟩
  ∑ r : Fin 1024, x (ix2 (y 0) r) * z (ix2 r (y 1))

theorem reset (c : Dev nD) (t : Fin cfg0.N) (h : t.val % 4 = 0) (y : S1024x768.Idx) : (outsAt0 m c t.val t.isLt).2 y = 0 + term m c t.val t.isLt y := by
  rw [outsAt0_A m c t h (by omega)]; dsimp only; frame_out; rw [pay2, zero]; rfl

theorem step (c : Dev nD) (t : Fin cfg0.N) (h : ¬t.val % 4 = 0) (y : S1024x768.Idx) :
    (outsAt0 m c t.val t.isLt).2 y = (outsAt0 m c (t.val - 1) (Nat.lt_of_le_of_lt (Nat.sub_le _ _) t.isLt)).2 y + term m c t.val t.isLt y := by
  by_cases h1 : t.val % 4 = 3
  · rw [outsAt0_C m c t h h1]; dsimp only; frame_out; rw [pay2, (Memref.isWhole_whole _).read_unread]; rfl
  · rw [outsAt0_B m c t h h1]; dsimp only; frame_out; rw [pay2, (Memref.isWhole_whole _).read_unread]; rfl

theorem term_at (c : Dev nD) (t : Fin cfg0.N) (y : S1024x768.Idx) (k : Fin 2048) (d : Fin 12288) (s : Fin 4) (hs : t.val % 4 = s.val)
    (hk : (k : ℕ) = t.val / 64 * 1024 + (y 0).val) (hd : (d : ℕ) = t.val / 4 % 16 * 768 + (y 1).val) :
    term m c t.val t.isLt y = ∑ r : Fin 1024, part (m ((c : Thread nD τ).loc main_arg0)) (m ((c : Thread nD τ).loc main_arg2)) k d ⟨s.val * 1024 + r.val, by omega⟩ := by
  unfold term part
  refine congrArg (Finset.sum (M := EReal) (Finset.univ : Finset (Fin 1024))) (funext fun r : Fin 1024 => ?_)
  have e : (iblk m c 0 t : Vec Ideal S1024x1024 .bf16) (ix2 (y 0) r) = (m ((c : Thread nD τ).loc main_arg0) : Vec Ideal S4096x2048 .bf16) (ix2 ⟨s.val * 1024 + r.val, by omega⟩ k) := by
    refine Eq.trans ?_ (rows m c ⟨s.val * 1024 + r.val, by omega⟩ k)
    blk_point [iblk, idx t]
  have w : (iblk m c 1 t : Vec Ideal S1024x768 .bf16) (ix2 r (y 1)) = (m ((c : Thread nD τ).loc main_arg2) : Vec Ideal S4096x12288 .bf16) (ix2 ⟨s.val * 1024 + r.val, by omega⟩ d) := by
    blk_point [iblk, V, idx t]
  exact congrArg₂ (fun a b : EReal => a * b) e w

theorem out_eq (c : Dev nD) (t : Fin cfg0.N) (h : t.val % 4 = 3) (y : S1x1024x768.Idx) : (outsAt0 m c t.val t.isLt).1 y = (outsAt0 m c t.val t.isLt).2 (ix2 (y 1) (y 2)) := by
  rw [outsAt0_C m c t (by omega) h]; dsimp only; frame_out; rw [pay3]

theorem last (c : Dev nD) (t : Fin cfg0.N) (h : t.val % 4 = 3) (y : S1x1024x768.Idx) (j : S8x2048x1536.Idx)
    (h0 : (j 0 : ℕ) = t.val / 4 % 16 / 2) (h1 : (j 1 : ℕ) = t.val / 64 * 1024 + y 1) (h2 : (j 2 : ℕ) = t.val / 4 % 16 % 2 * 768 + y 2) :
    (outsAt0 m c t.val t.isLt).1 y = DW (m ((c : Thread nD τ).loc main_arg0)) (m ((c : Thread nD τ).loc main_arg2)) j := by
  have R := Pipeline.eq_sum_fin_of_reset_step_apply_of_flush (N := cfg0.N) (M := EReal)
    (fun n hn => fun i : S1024x768.Idx => (outsAt0 m c n hn).2 i) 4 (fun _ => 0) (fun t i => term m c t.val t.isLt i)
    (fun t h i => reset m c t h i) (fun t h i => step m c t h i) t h (ix2 (y 1) (y 2))
  refine (out_eq m c t h y).trans (R.trans ((zero_add _).trans ?_))
  refine Eq.trans ?_ (Fin.sum_mul_add_fin (M := EReal) 4 1024 (part (m ((c : Thread nD τ).loc main_arg0)) (m ((c : Thread nD τ).loc main_arg2)) (j 1) (col (j 0) (j 2))) rfl)
  refine congrArg (Finset.sum (M := EReal) (Finset.univ : Finset (Fin 4))) (funext fun s : Fin 4 => ?_)
  have hs : s.val < 4 := s.isLt
  have g1 : ((j 1).val : ℕ) = t.val / 64 * 1024 + (y 1).val := h1
  have g2 : (col (j 0) (j 2)).val = t.val / 4 % 16 * 768 + (y 2).val := by
    show (j 0).val * 1536 + (j 2).val = _
    omega
  exact term_at m c ⟨4 * (t.val / 4) + s.val, _⟩ (ix2 (y 1) (y 2)) (j 1) (col (j 0) (j 2)) s (by show (4 * (t.val / 4) + s.val) % 4 = s.val; omega)
    (by show (j 1).val = (4 * (t.val / 4) + s.val) / 64 * 1024 + (y 1).val; omega)
    (by show (col (j 0) (j 2)).val = (4 * (t.val / 4) + s.val) / 4 % 16 * 768 + (y 2).val; omega)

theorem final (c : Dev nD) : (dats m 0 c).arrAt 2 cfg0.N = DW (m ((c : Thread nD τ).loc main_arg0)) (m ((c : Thread nD τ).loc main_arg2)) := by
  refine (dats m 0 c).arrAt_eq_of_covers 2 _ (by decide +kernel) fun t hf y => ?_
  blk_simp
  rw [after0_2]
  refine last m c t ((flush0_2 t).mp hf) y _ ?_ ?_ ?_ <;> blk_simp [idx t]

end Cert.WinKernelIdeal.Value

namespace Cert.WinRefIdeal.Value

open Cert.WinRefIdeal Cert.WinRefIdeal.Read
open Cert.WinKernelIdeal.Value (part col DW)

variable (x0 : Vec Ideal S4096x2048 .bf16) (x2 : Vec Ideal S4096x12288 .bf16)

theorem s4 (k : Fin 2048) (d : Fin 12288) : val_main_v6 (F := Ideal) x0 x2 (ix2 k d) = ∑ R : Fin 4096, part x0 x2 k d R := by
  refine Eq.trans ?_ (congrArg (Finset.sum (M := EReal) (Finset.univ : Finset (Fin 4096))) (funext fun r => mul_comm (x2 (ix2 r d)) (x0 (ix2 r k))))
  pointwise [val_main_v6, val_main_v5, val_main_v4, val_main_v3, val_main_v1]

theorem r8 : val_main_v8 (F := Ideal) x0 x2 = DW x0 x2 := by
  funext j
  rw [val_main_v8_apply, val_main_v7_apply]
  refine Eq.trans ?_ (s4 x0 x2 (j 1) (col (j 0) (j 2)))
  refine congrArg (val_main_v6 (F := Ideal) x0 x2) (funext fun a => Fin.ext ?_)
  have b0 : (j 0).val < 8 := (j 0).isLt
  have b1 : (j 1).val < 2048 := (j 1).isLt
  have b2 : (j 2).val < 1536 := (j 2).isLt
  match a with
  | ⟨0, _⟩ => show (((j 1).val * 8 + (j 0).val) * 1536 + (j 2).val) / 12288 = (j 1).val; omega
  | ⟨1, _⟩ => show (((j 1).val * 8 + (j 0).val) * 1536 + (j 2).val) % 12288 = (j 0).val * 1536 + (j 2).val; omega

end Cert.WinRefIdeal.Value

namespace Cert.Proof.Win

theorem algebraic : Cert.algebraic_WinKernelIdeal_WinRefIdeal := by
  pair_intro
  · run_from Cert.WinKernelIdeal.Value.run_blocks m g
  · run_from Cert.WinRefIdeal.Value.run m' g'
    · rw [Cert.WinKernelIdeal.Value.final m c]
      exact (Cert.WinRefIdeal.Read.val_main_v8_eq _ _).trans (Cert.WinRefIdeal.Value.r8 _ _)

theorem frame_ref : Cert.quiescent_WinRefIdeal := fun m g _ =>
  (θ_run Cert.WinRefIdeal.defs _ _).mono (fun r h => ⟨fun c => (h c).2, sem_eq_zero_of_no_sems (by decide) r.2⟩)
    (Cert.WinRefIdeal.Value.run (F := Ideal) m g)

end Cert.Proof.Win

end
-- ==== Proof.lean ====
/- The programs' frames and values, assembled behind the witnesses of their stated side conditions. -/
module

public import proofs.«01_k».proof.Defs
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.NormPair
public import proofs.«01_k».proof.Proof.Gen.StickKernel
public import proofs.«01_k».proof.Proof.Gen.StickKernel.Skeleton
public import proofs.«01_k».proof.Proof.Gen.StickKernel.Launch
public import proofs.«01_k».proof.Proof.Gen.StickKernelIdeal
public import proofs.«01_k».proof.Proof.Gen.StickKernelIdeal.Skeleton
public import proofs.«01_k».proof.Proof.Gen.StickKernelIdeal.Launch
public import proofs.«01_k».proof.Proof.Gen.StickRefIdeal
public import proofs.«01_k».proof.Proof.Gen.StickRefIdeal.Run
public import proofs.«01_k».proof.Proof.Gen.StickRefIdeal.Read
public import proofs.«01_k».proof.Proof.StickValue
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossPair
public import proofs.«01_k».proof.Proof.Gen.GluKernel
public import proofs.«01_k».proof.Proof.Gen.GluKernel.Skeleton
public import proofs.«01_k».proof.Proof.Gen.GluKernel.Launch
public import proofs.«01_k».proof.Proof.Gen.GluKernel.Points
public import proofs.«01_k».proof.Proof.Gen.GluKernel.Frame
public import proofs.«01_k».proof.Proof.Gen.GluKernelIdeal
public import proofs.«01_k».proof.Proof.Gen.GluKernelIdeal.Skeleton
public import proofs.«01_k».proof.Proof.Gen.GluKernelIdeal.Launch
public import proofs.«01_k».proof.Proof.Gen.GluKernelIdeal.Points
public import proofs.«01_k».proof.Proof.Gen.GluKernelIdeal.Frame
public import proofs.«01_k».proof.Proof.Gen.GluKernelIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.GluPair
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.MergePair
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActKernelIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.ActPair
public import proofs.«01_k».proof.Proof.Gen.SquareKernel
public import proofs.«01_k».proof.Proof.Gen.SquareKernel.Skeleton
public import proofs.«01_k».proof.Proof.Gen.SquareKernel.Launch
public import proofs.«01_k».proof.Proof.Gen.SquareKernel.Points
public import proofs.«01_k».proof.Proof.Gen.SquareKernel.Frame
public import proofs.«01_k».proof.Proof.Gen.SquareKernelIdeal
public import proofs.«01_k».proof.Proof.Gen.SquareKernelIdeal.Skeleton
public import proofs.«01_k».proof.Proof.Gen.SquareKernelIdeal.Launch
public import proofs.«01_k».proof.Proof.Gen.SquareKernelIdeal.Points
public import proofs.«01_k».proof.Proof.Gen.SquareKernelIdeal.Frame
public import proofs.«01_k».proof.Proof.Gen.SquareKernelIdeal.Value
public import proofs.«01_k».proof.Proof.Gen.SquareRefIdeal
public import proofs.«01_k».proof.Proof.Gen.SquareRefIdeal.Run
public import proofs.«01_k».proof.Proof.Gen.SquareRefIdeal.Read
public import proofs.«01_k».proof.Proof.SquarePair
public import proofs.«01_k».proof.Proof.Gen.GmlpKernel
public import proofs.«01_k».proof.Proof.Gen.GmlpKernel.Skeleton
public import proofs.«01_k».proof.Proof.Gen.GmlpKernel.Launch
public import proofs.«01_k».proof.Proof.Gen.GmlpKernel.Points
public import proofs.«01_k».proof.Proof.Gen.GmlpKernel.Frame
public import proofs.«01_k».proof.Proof.Gen.GmlpKernelIdeal
public import proofs.«01_k».proof.Proof.Gen.GmlpKernelIdeal.Skeleton
public import proofs.«01_k».proof.Proof.Gen.GmlpKernelIdeal.Launch
public import proofs.«01_k».proof.Proof.Gen.GmlpKernelIdeal.Points
public import proofs.«01_k».proof.Proof.Gen.GmlpKernelIdeal.Frame
public import proofs.«01_k».proof.Proof.Gen.GmlpKernelIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.GmlpPair
public import proofs.«01_k».proof.Proof.Gen.MergeFwdKernel
public import proofs.«01_k».proof.Proof.Gen.MergeFwdKernel.Skeleton
public import proofs.«01_k».proof.Proof.Gen.MergeFwdKernel.Launch
public import proofs.«01_k».proof.Proof.Gen.MergeFwdKernel.Points
public import proofs.«01_k».proof.Proof.Gen.MergeFwdKernel.Frame
public import proofs.«01_k».proof.Proof.Gen.MergeFwdKernelIdeal
public import proofs.«01_k».proof.Proof.Gen.MergeFwdKernelIdeal.Skeleton
public import proofs.«01_k».proof.Proof.Gen.MergeFwdKernelIdeal.Launch
public import proofs.«01_k».proof.Proof.Gen.MergeFwdKernelIdeal.Points
public import proofs.«01_k».proof.Proof.Gen.MergeFwdKernelIdeal.Frame
public import proofs.«01_k».proof.Proof.Gen.MergeFwdKernelIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.MergeFwdPair
public import proofs.«01_k».proof.Proof.Gen.GluFwdKernel
public import proofs.«01_k».proof.Proof.Gen.GluFwdKernel.Skeleton
public import proofs.«01_k».proof.Proof.Gen.GluFwdKernel.Launch
public import proofs.«01_k».proof.Proof.Gen.GluFwdKernel.Points
public import proofs.«01_k».proof.Proof.Gen.GluFwdKernel.Frame
public import proofs.«01_k».proof.Proof.Gen.GluFwdKernelIdeal
public import proofs.«01_k».proof.Proof.Gen.GluFwdKernelIdeal.Skeleton
public import proofs.«01_k».proof.Proof.Gen.GluFwdKernelIdeal.Launch
public import proofs.«01_k».proof.Proof.Gen.GluFwdKernelIdeal.Points
public import proofs.«01_k».proof.Proof.Gen.GluFwdKernelIdeal.Frame
public import proofs.«01_k».proof.Proof.Gen.GluFwdKernelIdeal.Value
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.GluFwdPair
public import proofs.«01_k».proof.Proof.Gen.NormFwdKernel
public import proofs.«01_k».proof.Proof.Gen.NormFwdKernel.Skeleton
public import proofs.«01_k».proof.Proof.Gen.NormFwdKernel.Launch
public import proofs.«01_k».proof.Proof.Gen.NormFwdKernel.Points
public import proofs.«01_k».proof.Proof.Gen.NormFwdKernel.Frame
public import proofs.«01_k».proof.Proof.Gen.NormFwdKernelIdeal
public import proofs.«01_k».proof.Proof.Gen.NormFwdKernelIdeal.Skeleton
public import proofs.«01_k».proof.Proof.Gen.NormFwdKernelIdeal.Launch
public import proofs.«01_k».proof.Proof.Gen.NormFwdKernelIdeal.Points
public import proofs.«01_k».proof.Proof.Gen.NormFwdKernelIdeal.Frame
public import proofs.«01_k».proof.Proof.Gen.NormFwdKernelIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.NormFwdPair
public import proofs.«01_k».proof.Proof.Gen.GmlpFwdKernel
public import proofs.«01_k».proof.Proof.Gen.GmlpFwdKernel.Skeleton
public import proofs.«01_k».proof.Proof.Gen.GmlpFwdKernel.Launch
public import proofs.«01_k».proof.Proof.Gen.GmlpFwdKernel.Points
public import proofs.«01_k».proof.Proof.Gen.GmlpFwdKernel.Frame
public import proofs.«01_k».proof.Proof.Gen.GmlpFwdKernelIdeal
public import proofs.«01_k».proof.Proof.Gen.GmlpFwdKernelIdeal.Skeleton
public import proofs.«01_k».proof.Proof.Gen.GmlpFwdKernelIdeal.Launch
public import proofs.«01_k».proof.Proof.Gen.GmlpFwdKernelIdeal.Points
public import proofs.«01_k».proof.Proof.Gen.GmlpFwdKernelIdeal.Frame
public import proofs.«01_k».proof.Proof.Gen.GmlpFwdKernelIdeal.Value
public import proofs.«01_k».proof.Proof.Gen.GmlpFwdRefIdeal
public import proofs.«01_k».proof.Proof.Gen.GmlpFwdRefIdeal.Run
public import proofs.«01_k».proof.Proof.Gen.GmlpFwdRefIdeal.Read
public import proofs.«01_k».proof.Proof.GmlpFwdPair
public import proofs.«01_k».proof.Proof.Gen.StickFwdKernel
public import proofs.«01_k».proof.Proof.Gen.StickFwdKernel.Skeleton
public import proofs.«01_k».proof.Proof.Gen.StickFwdKernel.Launch
public import proofs.«01_k».proof.Proof.Gen.StickFwdKernelIdeal
public import proofs.«01_k».proof.Proof.Gen.StickFwdKernelIdeal.Skeleton
public import proofs.«01_k».proof.Proof.Gen.StickFwdKernelIdeal.Launch
public import proofs.«01_k».proof.Proof.Gen.StickFwdRefIdeal
public import proofs.«01_k».proof.Proof.Gen.StickFwdRefIdeal.Run
public import proofs.«01_k».proof.Proof.Gen.StickFwdRefIdeal.Read
public import proofs.«01_k».proof.Proof.StickFwdValue
public import proofs.«01_k».proof.Proof.Gen.ActFwdKernel
public import proofs.«01_k».proof.Proof.Gen.ActFwdKernel.Skeleton
public import proofs.«01_k».proof.Proof.Gen.ActFwdKernel.Launch
public import proofs.«01_k».proof.Proof.Gen.ActFwdKernel.Points
public import proofs.«01_k».proof.Proof.Gen.ActFwdKernel.Frame
public import proofs.«01_k».proof.Proof.Gen.ActFwdKernelIdeal
public import proofs.«01_k».proof.Proof.Gen.ActFwdKernelIdeal.Skeleton
public import proofs.«01_k».proof.Proof.Gen.ActFwdKernelIdeal.Launch
public import proofs.«01_k».proof.Proof.Gen.ActFwdKernelIdeal.Points
public import proofs.«01_k».proof.Proof.Gen.ActFwdKernelIdeal.Frame
public import proofs.«01_k».proof.Proof.Gen.ActFwdKernelIdeal.Value
public import proofs.«01_k».proof.Proof.Gen.ActFwdRefIdeal
public import proofs.«01_k».proof.Proof.Gen.ActFwdRefIdeal.Run
public import proofs.«01_k».proof.Proof.Gen.ActFwdRefIdeal.Read
public import proofs.«01_k».proof.Proof.ActFwdPair
public import proofs.«01_k».proof.Proof.Gen.MlpFwdKernel
public import proofs.«01_k».proof.Proof.Gen.MlpFwdKernel.Skeleton
public import proofs.«01_k».proof.Proof.Gen.MlpFwdKernel.Launch
public import proofs.«01_k».proof.Proof.Gen.MlpFwdKernel.Points
public import proofs.«01_k».proof.Proof.Gen.MlpFwdKernel.Frame
public import proofs.«01_k».proof.Proof.Gen.MlpFwdKernelIdeal
public import proofs.«01_k».proof.Proof.Gen.MlpFwdKernelIdeal.Skeleton
public import proofs.«01_k».proof.Proof.Gen.MlpFwdKernelIdeal.Launch
public import proofs.«01_k».proof.Proof.Gen.MlpFwdKernelIdeal.Points
public import proofs.«01_k».proof.Proof.Gen.MlpFwdKernelIdeal.Frame
public import proofs.«01_k».proof.Proof.Gen.MlpFwdKernelIdeal.Value
public import proofs.«01_k».proof.Proof.Gen.MlpFwdRefIdeal
public import proofs.«01_k».proof.Proof.Gen.MlpFwdRefIdeal.Run
public import proofs.«01_k».proof.Proof.Gen.MlpFwdRefIdeal.Read
public import proofs.«01_k».proof.Proof.MlpFwdPair
public import proofs.«01_k».proof.Proof.Gen.WinKernel
public import proofs.«01_k».proof.Proof.Gen.WinKernel.Frame
public import proofs.«01_k».proof.Proof.Gen.WinKernelIdeal
public import proofs.«01_k».proof.Proof.Gen.WinKernelIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.WinPair
public import Idealize.ShloMosaic.Adequacy
public import Idealize.ShloMosaic.Init

@[expose] public section

noncomputable section

namespace Cert.Proof

open Idealize.ShloMosaic Idealize.SL.Sem

theorem claim : Cert.Claim := ⟨Cert.NormKernel.Gen.facts, Cert.NormKernelIdeal.Gen.facts, Cert.NormRefIdeal.Gen.facts, Cert.StickKernel.Gen.facts, Cert.StickKernelIdeal.Gen.facts, Cert.StickRefIdeal.Gen.facts, Cert.LossKernel.Gen.facts, Cert.LossKernelIdeal.Gen.facts, Cert.LossRefIdeal.Gen.facts, Cert.GluKernel.Gen.facts, Cert.GluKernelIdeal.Gen.facts, Cert.GluRefIdeal.Gen.facts, Cert.MergeKernel.Gen.facts, Cert.MergeKernelIdeal.Gen.facts, Cert.MergeRefIdeal.Gen.facts, Cert.ActKernel.Gen.facts, Cert.ActKernelIdeal.Gen.facts, Cert.ActRefIdeal.Gen.facts, Cert.SquareKernel.Gen.facts, Cert.SquareKernelIdeal.Gen.facts, Cert.SquareRefIdeal.Gen.facts, Cert.GmlpKernel.Gen.facts, Cert.GmlpKernelIdeal.Gen.facts, Cert.GmlpRefIdeal.Gen.facts, Cert.MergeFwdKernel.Gen.facts, Cert.MergeFwdKernelIdeal.Gen.facts, Cert.MergeFwdRefIdeal.Gen.facts, Cert.GluFwdKernel.Gen.facts, Cert.GluFwdKernelIdeal.Gen.facts, Cert.GluFwdRefIdeal.Gen.facts, Cert.NormFwdKernel.Gen.facts, Cert.NormFwdKernelIdeal.Gen.facts, Cert.NormFwdRefIdeal.Gen.facts, Cert.GmlpFwdKernel.Gen.facts, Cert.GmlpFwdKernelIdeal.Gen.facts, Cert.GmlpFwdRefIdeal.Gen.facts, Cert.StickFwdKernel.Gen.facts, Cert.StickFwdKernelIdeal.Gen.facts, Cert.StickFwdRefIdeal.Gen.facts, Cert.ActFwdKernel.Gen.facts, Cert.ActFwdKernelIdeal.Gen.facts, Cert.ActFwdRefIdeal.Gen.facts, Cert.MlpFwdKernel.Gen.facts, Cert.MlpFwdKernelIdeal.Gen.facts, Cert.MlpFwdRefIdeal.Gen.facts, Cert.WinKernel.Gen.facts, Cert.WinKernelIdeal.Gen.facts, Cert.WinRefIdeal.Gen.facts,
  Norm.pre_facts, Stick.pre_facts, Loss.pre_facts, Glu.pre_facts, Gmlp.pre_facts,
  fun m ρ _ => Cert.NormKernel.Gen.frame m ρ,
  fun m ρ _ => Cert.NormKernelIdeal.Gen.frame m ρ,
  fun m ρ _ => Cert.NormKernelIdeal.Gen.frame m ρ,
  Norm.frame_ref,
  fun m g _ => Norm.frame_ref m g trivial,
  Stick.frame_bits,
  Stick.frame_ideal,
  fun m ρ _ => Stick.frame_ideal m ρ trivial,
  Stick.frame_ref,
  fun m g _ => Stick.frame_ref m g trivial,
  fun m ρ _ => Cert.LossKernel.Gen.frame m ρ,
  fun m ρ _ => Cert.LossKernelIdeal.Gen.frame m ρ,
  fun m ρ _ => Cert.LossKernelIdeal.Gen.frame m ρ,
  Loss.frame_ref,
  fun m g _ => Loss.frame_ref m g trivial,
  Glu.frame_bits,
  Glu.frame_ideal,
  fun m ρ _ => Glu.frame_ideal m ρ trivial,
  Glu.frame_ref,
  fun m g _ => Glu.frame_ref m g trivial,
  Merge.frame_bits,
  Merge.frame_ideal,
  Merge.frame_ref,
  fun m ρ _ => Cert.ActKernel.Gen.frame m ρ,
  fun m ρ _ => Cert.ActKernelIdeal.Gen.frame m ρ,
  Act.frame_ref,
  fun m ρ _ => Cert.SquareKernel.Gen.frame m ρ,
  fun m ρ _ => Cert.SquareKernelIdeal.Gen.frame m ρ,
  Square.frame_ref,
  Gmlp.frame_bits,
  Gmlp.frame_ideal,
  fun m ρ _ => Gmlp.frame_ideal m ρ trivial,
  Gmlp.frame_ref,
  fun m g _ => Gmlp.frame_ref m g trivial,
  fun m ρ _ => Cert.MergeFwdKernel.Gen.frame m ρ,
  fun m ρ _ => Cert.MergeFwdKernelIdeal.Gen.frame m ρ,
  MergeFwd.frame_ref,
  fun m ρ _ => Cert.GluFwdKernel.Gen.frame m ρ,
  fun m ρ _ => Cert.GluFwdKernelIdeal.Gen.frame m ρ,
  GluFwd.frame_ref,
  fun m ρ _ => Cert.NormFwdKernel.Gen.frame m ρ,
  fun m ρ _ => Cert.NormFwdKernelIdeal.Gen.frame m ρ,
  NormFwd.frame_ref,
  fun m ρ _ => Cert.GmlpFwdKernel.Gen.frame m ρ,
  fun m ρ _ => Cert.GmlpFwdKernelIdeal.Gen.frame m ρ,
  GmlpFwd.frame_ref,
  StickFwd.frame_bits,
  StickFwd.frame_ideal,
  StickFwd.frame_ref,
  fun m ρ _ => Cert.ActFwdKernel.Gen.frame m ρ,
  fun m ρ _ => Cert.ActFwdKernelIdeal.Gen.frame m ρ,
  ActFwd.frame_ref,
  fun m ρ _ => Cert.MlpFwdKernel.Gen.frame m ρ,
  fun m ρ _ => Cert.MlpFwdKernelIdeal.Gen.frame m ρ,
  MlpFwd.frame_ref,
  fun m ρ _ => Cert.WinKernel.Gen.frame m ρ,
  fun m ρ _ => Cert.WinKernelIdeal.Gen.frame m ρ,
  Win.frame_ref,
  trivial,
  Norm.algebraic,
  Stick.preserves,
  Stick.algebraic,
  trivial,
  Loss.algebraic,
  Glu.preserves,
  Glu.algebraic,
  Merge.preserves,
  Merge.algebraic,
  trivial,
  Act.algebraic,
  trivial,
  Square.algebraic,
  Gmlp.preserves,
  Gmlp.algebraic,
  trivial,
  MergeFwd.algebraic,
  trivial,
  GluFwd.algebraic,
  trivial,
  NormFwd.algebraic,
  trivial,
  GmlpFwd.algebraic,
  StickFwd.preserves,
  StickFwd.algebraic,
  trivial,
  ActFwd.algebraic,
  trivial,
  MlpFwd.algebraic,
  trivial,
  Win.algebraic⟩

end Cert.Proof

end
